-- ==== Defs.lean ====
def Pre_Kernel [hPre_finite : Cert.Pre_finite.Facts] (m : (ℓ : Loc Cert.Kernel.nD Cert.Kernel.τ Cert.Kernel.sig) → Buf (Elt Bits) ℓ) : Prop :=
  ∀ c : Dev Cert.Kernel.nD,
    (Cert.Pre_finite.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ddown (m : (ℓ : Loc Cert.Ddown.nD Cert.Ddown.τ Cert.Ddown.sig) → Buf (Elt Bits) ℓ) : Prop :=
  True

def Pre_DdownIdeal (m : (ℓ : Loc Cert.DdownIdeal.nD Cert.DdownIdeal.τ Cert.DdownIdeal.sig) → Buf (Elt Ideal) ℓ) : Prop :=
  True

def Pre_DdownRefIdeal (m : (ℓ : Loc Cert.DdownRefIdeal.nD Cert.DdownRefIdeal.τ Cert.DdownRefIdeal.sig) → Buf (Elt Ideal) ℓ) : Prop :=
  True

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupRefIdeal (m : (ℓ : Loc Cert.DupRefIdeal.nD Cert.DupRefIdeal.τ Cert.DupRefIdeal.sig) → Buf (Elt Ideal) ℓ) : Prop :=
  True

def Pre_Wup (m : (ℓ : Loc Cert.Wup.nD Cert.Wup.τ Cert.Wup.sig) → Buf (Elt Bits) ℓ) : Prop :=
  True

def Pre_WupIdeal (m : (ℓ : Loc Cert.WupIdeal.nD Cert.WupIdeal.τ Cert.WupIdeal.sig) → Buf (Elt Ideal) ℓ) : Prop :=
  True

def Pre_WupRefIdeal (m : (ℓ : Loc Cert.WupRefIdeal.nD Cert.WupRefIdeal.τ Cert.WupRefIdeal.sig) → Buf (Elt Ideal) ℓ) : Prop :=
  True

def Pre_Dbin (m : (ℓ : Loc Cert.Dbin.nD Cert.Dbin.τ Cert.Dbin.sig) → Buf (Elt Bits) ℓ) : Prop :=
  True

def Pre_DbinIdeal (m : (ℓ : Loc Cert.DbinIdeal.nD Cert.DbinIdeal.τ Cert.DbinIdeal.sig) → Buf (Elt Ideal) ℓ) : Prop :=
  True

def Pre_DbinRefIdeal (m : (ℓ : Loc Cert.DbinRefIdeal.nD Cert.DbinRefIdeal.τ Cert.DbinRefIdeal.sig) → Buf (Elt Ideal) ℓ) : Prop :=
  True

def Pre_Wbin (m : (ℓ : Loc Cert.Wbin.nD Cert.Wbin.τ Cert.Wbin.sig) → Buf (Elt Bits) ℓ) : Prop :=
  True

def Pre_WbinIdeal (m : (ℓ : Loc Cert.WbinIdeal.nD Cert.WbinIdeal.τ Cert.WbinIdeal.sig) → Buf (Elt Ideal) ℓ) : Prop :=
  True

def Pre_WbinRefIdeal (m : (ℓ : Loc Cert.WbinRefIdeal.nD Cert.WbinRefIdeal.τ Cert.WbinRefIdeal.sig) → Buf (Elt Ideal) ℓ) : Prop :=
  True

def Pre_Dbout (m : (ℓ : Loc Cert.Dbout.nD Cert.Dbout.τ Cert.Dbout.sig) → Buf (Elt Bits) ℓ) : Prop :=
  True

def Pre_DboutIdeal (m : (ℓ : Loc Cert.DboutIdeal.nD Cert.DboutIdeal.τ Cert.DboutIdeal.sig) → Buf (Elt Ideal) ℓ) : Prop :=
  True

def Pre_DboutRefIdeal (m : (ℓ : Loc Cert.DboutRefIdeal.nD Cert.DboutRefIdeal.τ Cert.DboutRefIdeal.sig) → Buf (Elt Ideal) ℓ) : Prop :=
  True

def Pre_Wbout (m : (ℓ : Loc Cert.Wbout.nD Cert.Wbout.τ Cert.Wbout.sig) → Buf (Elt Bits) ℓ) : Prop :=
  True

def Pre_WboutIdeal (m : (ℓ : Loc Cert.WboutIdeal.nD Cert.WboutIdeal.τ Cert.WboutIdeal.sig) → Buf (Elt Ideal) ℓ) : Prop :=
  True

def Pre_WboutRefIdeal (m : (ℓ : Loc Cert.WboutRefIdeal.nD Cert.WboutRefIdeal.τ Cert.WboutRefIdeal.sig) → Buf (Elt Ideal) ℓ) : Prop :=
  True

def Pre_Dain (m : (ℓ : Loc Cert.Dain.nD Cert.Dain.τ Cert.Dain.sig) → Buf (Elt Bits) ℓ) : Prop :=
  True

def Pre_DainIdeal (m : (ℓ : Loc Cert.DainIdeal.nD Cert.DainIdeal.τ Cert.DainIdeal.sig) → Buf (Elt Ideal) ℓ) : Prop :=
  True

def Pre_DainRefIdeal (m : (ℓ : Loc Cert.DainRefIdeal.nD Cert.DainRefIdeal.τ Cert.DainRefIdeal.sig) → Buf (Elt Ideal) ℓ) : Prop :=
  True

def Pre_Wain (m : (ℓ : Loc Cert.Wain.nD Cert.Wain.τ Cert.Wain.sig) → Buf (Elt Bits) ℓ) : Prop :=
  True

def Pre_WainIdeal (m : (ℓ : Loc Cert.WainIdeal.nD Cert.WainIdeal.τ Cert.WainIdeal.sig) → Buf (Elt Ideal) ℓ) : Prop :=
  True

def Pre_WainRefIdeal (m : (ℓ : Loc Cert.WainRefIdeal.nD Cert.WainRefIdeal.τ Cert.WainRefIdeal.sig) → Buf (Elt Ideal) ℓ) : Prop :=
  True

def Pre_Daout (m : (ℓ : Loc Cert.Daout.nD Cert.Daout.τ Cert.Daout.sig) → Buf (Elt Bits) ℓ) : Prop :=
  True

def Pre_DaoutIdeal (m : (ℓ : Loc Cert.DaoutIdeal.nD Cert.DaoutIdeal.τ Cert.DaoutIdeal.sig) → Buf (Elt Ideal) ℓ) : Prop :=
  True

def Pre_DaoutRefIdeal (m : (ℓ : Loc Cert.DaoutRefIdeal.nD Cert.DaoutRefIdeal.τ Cert.DaoutRefIdeal.sig) → Buf (Elt Ideal) ℓ) : Prop :=
  True

def Pre_Waout (m : (ℓ : Loc Cert.Waout.nD Cert.Waout.τ Cert.Waout.sig) → Buf (Elt Bits) ℓ) : Prop :=
  True

def Pre_WaoutIdeal (m : (ℓ : Loc Cert.WaoutIdeal.nD Cert.WaoutIdeal.τ Cert.WaoutIdeal.sig) → Buf (Elt Ideal) ℓ) : Prop :=
  True

def Pre_WaoutRefIdeal (m : (ℓ : Loc Cert.WaoutRefIdeal.nD Cert.WaoutRefIdeal.τ Cert.WaoutRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Ain (m : (ℓ : Loc Cert.Ain.nD Cert.Ain.τ Cert.Ain.sig) → Buf (Elt Bits) ℓ) : Prop :=
  True

def Pre_AinIdeal (m : (ℓ : Loc Cert.AinIdeal.nD Cert.AinIdeal.τ Cert.AinIdeal.sig) → Buf (Elt Ideal) ℓ) : Prop :=
  True

def Pre_AinRefIdeal (m : (ℓ : Loc Cert.AinRefIdeal.nD Cert.AinRefIdeal.τ Cert.AinRefIdeal.sig) → Buf (Elt Ideal) ℓ) : Prop :=
  True

def Pre_Aout (m : (ℓ : Loc Cert.Aout.nD Cert.Aout.τ Cert.Aout.sig) → Buf (Elt Bits) ℓ) : Prop :=
  True

def Pre_AoutIdeal (m : (ℓ : Loc Cert.AoutIdeal.nD Cert.AoutIdeal.τ Cert.AoutIdeal.sig) → Buf (Elt Ideal) ℓ) : Prop :=
  True

def Pre_AoutRefIdeal (m : (ℓ : Loc Cert.AoutRefIdeal.nD Cert.AoutRefIdeal.τ Cert.AoutRefIdeal.sig) → Buf (Elt Ideal) ℓ) : Prop :=
  True

def Pre_Bin (m : (ℓ : Loc Cert.Bin.nD Cert.Bin.τ Cert.Bin.sig) → Buf (Elt Bits) ℓ) : Prop :=
  True

def Pre_BinIdeal (m : (ℓ : Loc Cert.BinIdeal.nD Cert.BinIdeal.τ Cert.BinIdeal.sig) → Buf (Elt Ideal) ℓ) : Prop :=
  True

def Pre_BinRefIdeal (m : (ℓ : Loc Cert.BinRefIdeal.nD Cert.BinRefIdeal.τ Cert.BinRefIdeal.sig) → Buf (Elt Ideal) ℓ) : Prop :=
  True

def Pre_Bout (m : (ℓ : Loc Cert.Bout.nD Cert.Bout.τ Cert.Bout.sig) → Buf (Elt Bits) ℓ) : Prop :=
  True

def Pre_BoutIdeal (m : (ℓ : Loc Cert.BoutIdeal.nD Cert.BoutIdeal.τ Cert.BoutIdeal.sig) → Buf (Elt Ideal) ℓ) : Prop :=
  True

def Pre_BoutRefIdeal (m : (ℓ : Loc Cert.BoutRefIdeal.nD Cert.BoutRefIdeal.τ Cert.BoutRefIdeal.sig) → Buf (Elt Ideal) ℓ) : Prop :=
  True

def Pre_Kvproj (m : (ℓ : Loc Cert.Kvproj.nD Cert.Kvproj.τ Cert.Kvproj.sig) → Buf (Elt Bits) ℓ) : Prop :=
  True

def Pre_KvprojIdeal (m : (ℓ : Loc Cert.KvprojIdeal.nD Cert.KvprojIdeal.τ Cert.KvprojIdeal.sig) → Buf (Elt Ideal) ℓ) : Prop :=
  True

def Pre_KvprojRefIdeal (m : (ℓ : Loc Cert.KvprojRefIdeal.nD Cert.KvprojRefIdeal.τ Cert.KvprojRefIdeal.sig) → Buf (Elt Ideal) ℓ) : Prop :=
  True

def Pre_Dkvproj (m : (ℓ : Loc Cert.Dkvproj.nD Cert.Dkvproj.τ Cert.Dkvproj.sig) → Buf (Elt Bits) ℓ) : Prop :=
  True

def Pre_DkvprojIdeal (m : (ℓ : Loc Cert.DkvprojIdeal.nD Cert.DkvprojIdeal.τ Cert.DkvprojIdeal.sig) → Buf (Elt Ideal) ℓ) : Prop :=
  True

def Pre_DkvprojRefIdeal (m : (ℓ : Loc Cert.DkvprojRefIdeal.nD Cert.DkvprojRefIdeal.τ Cert.DkvprojRefIdeal.sig) → Buf (Elt Ideal) ℓ) : Prop :=
  True

def Pre_Wkv (m : (ℓ : Loc Cert.Wkv.nD Cert.Wkv.τ Cert.Wkv.sig) → Buf (Elt Bits) ℓ) : Prop :=
  True

def Pre_WkvIdeal (m : (ℓ : Loc Cert.WkvIdeal.nD Cert.WkvIdeal.τ Cert.WkvIdeal.sig) → Buf (Elt Ideal) ℓ) : Prop :=
  True

def Pre_WkvRefIdeal (m : (ℓ : Loc Cert.WkvRefIdeal.nD Cert.WkvRefIdeal.τ Cert.WkvRefIdeal.sig) → Buf (Elt Ideal) ℓ) : Prop :=
  True

def Pre_DmemA [hPre_finite_memory_a : Cert.Pre_finite_memory_a.Facts] (m : (ℓ : Loc Cert.DmemA.nD Cert.DmemA.τ Cert.DmemA.sig) → Buf (Elt Bits) ℓ) : Prop :=
  ∀ c : Dev Cert.DmemA.nD,
    (Cert.Pre_finite_memory_a.fn (F := Bits) (m ((c.tc : Thread Cert.DmemA.nD Cert.DmemA.τ).loc Cert.DmemA.main_arg0)) (m ((c.tc : Thread Cert.DmemA.nD Cert.DmemA.τ).loc Cert.DmemA.main_arg1)) (m ((c.tc : Thread Cert.DmemA.nD Cert.DmemA.τ).loc Cert.DmemA.main_arg2))) = (fun _ => 1#1)

def Pre_DmemAIdeal [hPre_finite_memory_a : Cert.Pre_finite_memory_a.Facts] (m : (ℓ : Loc Cert.DmemAIdeal.nD Cert.DmemAIdeal.τ Cert.DmemAIdeal.sig) → Buf (Elt Ideal) ℓ) : Prop :=
  ∀ c : Dev Cert.DmemAIdeal.nD,
    (Cert.Pre_finite_memory_a.fn (F := Ideal) (m ((c.tc : Thread Cert.DmemAIdeal.nD Cert.DmemAIdeal.τ).loc Cert.DmemAIdeal.main_arg0)) (m ((c.tc : Thread Cert.DmemAIdeal.nD Cert.DmemAIdeal.τ).loc Cert.DmemAIdeal.main_arg1)) (m ((c.tc : Thread Cert.DmemAIdeal.nD Cert.DmemAIdeal.τ).loc Cert.DmemAIdeal.main_arg2))) = (fun _ => 1#1)

def Pre_DmemARefIdeal [hPre_finite_memory_a : Cert.Pre_finite_memory_a.Facts] (m : (ℓ : Loc Cert.DmemARefIdeal.nD Cert.DmemARefIdeal.τ Cert.DmemARefIdeal.sig) → Buf (Elt Ideal) ℓ) : Prop :=
  ∀ c : Dev Cert.DmemARefIdeal.nD,
    (Cert.Pre_finite_memory_a.fn (F := Ideal) (m ((c.tc : Thread Cert.DmemARefIdeal.nD Cert.DmemARefIdeal.τ).loc Cert.DmemARefIdeal.main_arg0)) (m ((c.tc : Thread Cert.DmemARefIdeal.nD Cert.DmemARefIdeal.τ).loc Cert.DmemARefIdeal.main_arg1)) (m ((c.tc : Thread Cert.DmemARefIdeal.nD Cert.DmemARefIdeal.τ).loc Cert.DmemARefIdeal.main_arg2))) = (fun _ => 1#1)

def Pre_DmemB [hPre_finite_memory_b : Cert.Pre_finite_memory_b.Facts] (m : (ℓ : Loc Cert.DmemB.nD Cert.DmemB.τ Cert.DmemB.sig) → Buf (Elt Bits) ℓ) : Prop :=
  ∀ c : Dev Cert.DmemB.nD,
    (Cert.Pre_finite_memory_b.fn (F := Bits) (m ((c.tc : Thread Cert.DmemB.nD Cert.DmemB.τ).loc Cert.DmemB.main_arg0)) (m ((c.tc : Thread Cert.DmemB.nD Cert.DmemB.τ).loc Cert.DmemB.main_arg1)) (m ((c.tc : Thread Cert.DmemB.nD Cert.DmemB.τ).loc Cert.DmemB.main_arg2))) = (fun _ => 1#1)

def Pre_DmemBIdeal [hPre_finite_memory_b : Cert.Pre_finite_memory_b.Facts] (m : (ℓ : Loc Cert.DmemBIdeal.nD Cert.DmemBIdeal.τ Cert.DmemBIdeal.sig) → Buf (Elt Ideal) ℓ) : Prop :=
  ∀ c : Dev Cert.DmemBIdeal.nD,
    (Cert.Pre_finite_memory_b.fn (F := Ideal) (m ((c.tc : Thread Cert.DmemBIdeal.nD Cert.DmemBIdeal.τ).loc Cert.DmemBIdeal.main_arg0)) (m ((c.tc : Thread Cert.DmemBIdeal.nD Cert.DmemBIdeal.τ).loc Cert.DmemBIdeal.main_arg1)) (m ((c.tc : Thread Cert.DmemBIdeal.nD Cert.DmemBIdeal.τ).loc Cert.DmemBIdeal.main_arg2))) = (fun _ => 1#1)

def Pre_DmemBRefIdeal [hPre_finite_memory_b : Cert.Pre_finite_memory_b.Facts] (m : (ℓ : Loc Cert.DmemBRefIdeal.nD Cert.DmemBRefIdeal.τ Cert.DmemBRefIdeal.sig) → Buf (Elt Ideal) ℓ) : Prop :=
  ∀ c : Dev Cert.DmemBRefIdeal.nD,
    (Cert.Pre_finite_memory_b.fn (F := Ideal) (m ((c.tc : Thread Cert.DmemBRefIdeal.nD Cert.DmemBRefIdeal.τ).loc Cert.DmemBRefIdeal.main_arg0)) (m ((c.tc : Thread Cert.DmemBRefIdeal.nD Cert.DmemBRefIdeal.τ).loc Cert.DmemBRefIdeal.main_arg1)) (m ((c.tc : Thread Cert.DmemBRefIdeal.nD Cert.DmemBRefIdeal.τ).loc Cert.DmemBRefIdeal.main_arg2))) = (fun _ => 1#1)

def Pre_Dconv [hPre_finite_conv : Cert.Pre_finite_conv.Facts] (m : (ℓ : Loc Cert.Dconv.nD Cert.Dconv.τ Cert.Dconv.sig) → Buf (Elt Bits) ℓ) : Prop :=
  ∀ c : Dev Cert.Dconv.nD,
    (Cert.Pre_finite_conv.fn (F := Bits) (m ((c.tc : Thread Cert.Dconv.nD Cert.Dconv.τ).loc Cert.Dconv.main_arg0)) (m ((c.tc : Thread Cert.Dconv.nD Cert.Dconv.τ).loc Cert.Dconv.main_arg1)) (m ((c.tc : Thread Cert.Dconv.nD Cert.Dconv.τ).loc Cert.Dconv.main_arg2)) (m ((c.tc : Thread Cert.Dconv.nD Cert.Dconv.τ).loc Cert.Dconv.main_arg3))) = (fun _ => 1#1)

def Pre_DconvIdeal [hPre_finite_conv : Cert.Pre_finite_conv.Facts] (m : (ℓ : Loc Cert.DconvIdeal.nD Cert.DconvIdeal.τ Cert.DconvIdeal.sig) → Buf (Elt Ideal) ℓ) : Prop :=
  ∀ c : Dev Cert.DconvIdeal.nD,
    (Cert.Pre_finite_conv.fn (F := Ideal) (m ((c.tc : Thread Cert.DconvIdeal.nD Cert.DconvIdeal.τ).loc Cert.DconvIdeal.main_arg0)) (m ((c.tc : Thread Cert.DconvIdeal.nD Cert.DconvIdeal.τ).loc Cert.DconvIdeal.main_arg1)) (m ((c.tc : Thread Cert.DconvIdeal.nD Cert.DconvIdeal.τ).loc Cert.DconvIdeal.main_arg2)) (m ((c.tc : Thread Cert.DconvIdeal.nD Cert.DconvIdeal.τ).loc Cert.DconvIdeal.main_arg3))) = (fun _ => 1#1)

def Pre_DconvRefIdeal [hPre_finite_conv : Cert.Pre_finite_conv.Facts] (m : (ℓ : Loc Cert.DconvRefIdeal.nD Cert.DconvRefIdeal.τ Cert.DconvRefIdeal.sig) → Buf (Elt Ideal) ℓ) : Prop :=
  ∀ c : Dev Cert.DconvRefIdeal.nD,
    (Cert.Pre_finite_conv.fn (F := Ideal) (m ((c.tc : Thread Cert.DconvRefIdeal.nD Cert.DconvRefIdeal.τ).loc Cert.DconvRefIdeal.main_arg0)) (m ((c.tc : Thread Cert.DconvRefIdeal.nD Cert.DconvRefIdeal.τ).loc Cert.DconvRefIdeal.main_arg1)) (m ((c.tc : Thread Cert.DconvRefIdeal.nD Cert.DconvRefIdeal.τ).loc Cert.DconvRefIdeal.main_arg2)) (m ((c.tc : Thread Cert.DconvRefIdeal.nD Cert.DconvRefIdeal.τ).loc Cert.DconvRefIdeal.main_arg3))) = (fun _ => 1#1)

def quiescent_Kernel [hKernel : Cert.Kernel.Facts] [hPre_finite : Cert.Pre_finite.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ddown [hDdown : Cert.Ddown.Facts] : Prop :=
  ∀ (m : (ℓ : Loc Cert.Ddown.nD Cert.Ddown.τ Cert.Ddown.sig) → Buf (Elt Bits) ℓ) (g : Dev Cert.Ddown.nD → PrngReg), Pre_Ddown m →
    θ_run (Cert.Ddown.defs (F := Bits)) (onTc (τ := Cert.Ddown.τ) (Cert.Ddown.main (F := Bits))) ⟨m, fun _ => 0, g⟩ (fun r => (∀ c : Dev Cert.Ddown.nD,
      r.2.mem ((c.tc : Thread Cert.Ddown.nD Cert.Ddown.τ).loc Cert.Ddown.main_arg0) = m ((c.tc : Thread Cert.Ddown.nD Cert.Ddown.τ).loc Cert.Ddown.main_arg0)
      ∧ r.2.mem ((c.tc : Thread Cert.Ddown.nD Cert.Ddown.τ).loc Cert.Ddown.main_arg1) = m ((c.tc : Thread Cert.Ddown.nD Cert.Ddown.τ).loc Cert.Ddown.main_arg1))
      ∧ r.2.sem = fun _ => 0)

def quiescent_DdownIdeal [hDdownIdeal : Cert.DdownIdeal.Facts] : Prop :=
  ∀ (m : (ℓ : Loc Cert.DdownIdeal.nD Cert.DdownIdeal.τ Cert.DdownIdeal.sig) → Buf (Elt Ideal) ℓ) (g : Dev Cert.DdownIdeal.nD → PrngReg), Pre_DdownIdeal m →
    θ_run (Cert.DdownIdeal.defs (F := Ideal)) (onTc (τ := Cert.DdownIdeal.τ) (Cert.DdownIdeal.main (F := Ideal))) ⟨m, fun _ => 0, g⟩ (fun r => (∀ c : Dev Cert.DdownIdeal.nD,
      r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
      ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1))
      ∧ r.2.sem = fun _ => 0)

def quiescent_DdownRefIdeal [hDdownRefIdeal : Cert.DdownRefIdeal.Facts] : Prop :=
  ∀ (m : (ℓ : Loc Cert.DdownRefIdeal.nD Cert.DdownRefIdeal.τ Cert.DdownRefIdeal.sig) → Buf (Elt Ideal) ℓ) (g : Dev Cert.DdownRefIdeal.nD → PrngReg), Pre_DdownRefIdeal m →
    θ_run (Cert.DdownRefIdeal.defs (F := Ideal)) (onTc (τ := Cert.DdownRefIdeal.τ) (Cert.DdownRefIdeal.main (F := Ideal))) ⟨m, fun _ => 0, g⟩ (fun r => (∀ c : Dev Cert.DdownRefIdeal.nD,
      r.2.mem ((c.tc : Thread Cert.DdownRefIdeal.nD Cert.DdownRefIdeal.τ).loc Cert.DdownRefIdeal.main_arg0) = m ((c.tc : Thread Cert.DdownRefIdeal.nD Cert.DdownRefIdeal.τ).loc Cert.DdownRefIdeal.main_arg0)
      ∧ r.2.mem ((c.tc : Thread Cert.DdownRefIdeal.nD Cert.DdownRefIdeal.τ).loc Cert.DdownRefIdeal.main_arg1) = m ((c.tc : Thread Cert.DdownRefIdeal.nD Cert.DdownRefIdeal.τ).loc Cert.DdownRefIdeal.main_arg1))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1))
      ∧ r.2.sem = fun _ => 0)

def quiescent_Wup [hWup : Cert.Wup.Facts] : Prop :=
  ∀ (m : (ℓ : Loc Cert.Wup.nD Cert.Wup.τ Cert.Wup.sig) → Buf (Elt Bits) ℓ) (g : Dev Cert.Wup.nD → PrngReg), Pre_Wup m →
    θ_run (Cert.Wup.defs (F := Bits)) (onTc (τ := Cert.Wup.τ) (Cert.Wup.main (F := Bits))) ⟨m, fun _ => 0, g⟩ (fun r => (∀ c : Dev Cert.Wup.nD,
      r.2.mem ((c.tc : Thread Cert.Wup.nD Cert.Wup.τ).loc Cert.Wup.main_arg0) = m ((c.tc : Thread Cert.Wup.nD Cert.Wup.τ).loc Cert.Wup.main_arg0)
      ∧ r.2.mem ((c.tc : Thread Cert.Wup.nD Cert.Wup.τ).loc Cert.Wup.main_arg1) = m ((c.tc : Thread Cert.Wup.nD Cert.Wup.τ).loc Cert.Wup.main_arg1))
      ∧ r.2.sem = fun _ => 0)

def quiescent_WupIdeal [hWupIdeal : Cert.WupIdeal.Facts] : Prop :=
  ∀ (m : (ℓ : Loc Cert.WupIdeal.nD Cert.WupIdeal.τ Cert.WupIdeal.sig) → Buf (Elt Ideal) ℓ) (g : Dev Cert.WupIdeal.nD → PrngReg), Pre_WupIdeal m →
    θ_run (Cert.WupIdeal.defs (F := Ideal)) (onTc (τ := Cert.WupIdeal.τ) (Cert.WupIdeal.main (F := Ideal))) ⟨m, fun _ => 0, g⟩ (fun r => (∀ c : Dev Cert.WupIdeal.nD,
      r.2.mem ((c.tc : Thread Cert.WupIdeal.nD Cert.WupIdeal.τ).loc Cert.WupIdeal.main_arg0) = m ((c.tc : Thread Cert.WupIdeal.nD Cert.WupIdeal.τ).loc Cert.WupIdeal.main_arg0)
      ∧ r.2.mem ((c.tc : Thread Cert.WupIdeal.nD Cert.WupIdeal.τ).loc Cert.WupIdeal.main_arg1) = m ((c.tc : Thread Cert.WupIdeal.nD Cert.WupIdeal.τ).loc Cert.WupIdeal.main_arg1))
      ∧ r.2.sem = fun _ => 0)

def quiescent_WupRefIdeal [hWupRefIdeal : Cert.WupRefIdeal.Facts] : Prop :=
  ∀ (m : (ℓ : Loc Cert.WupRefIdeal.nD Cert.WupRefIdeal.τ Cert.WupRefIdeal.sig) → Buf (Elt Ideal) ℓ) (g : Dev Cert.WupRefIdeal.nD → PrngReg), Pre_WupRefIdeal m →
    θ_run (Cert.WupRefIdeal.defs (F := Ideal)) (onTc (τ := Cert.WupRefIdeal.τ) (Cert.WupRefIdeal.main (F := Ideal))) ⟨m, fun _ => 0, g⟩ (fun r => (∀ c : Dev Cert.WupRefIdeal.nD,
      r.2.mem ((c.tc : Thread Cert.WupRefIdeal.nD Cert.WupRefIdeal.τ).loc Cert.WupRefIdeal.main_arg0) = m ((c.tc : Thread Cert.WupRefIdeal.nD Cert.WupRefIdeal.τ).loc Cert.WupRefIdeal.main_arg0)
      ∧ r.2.mem ((c.tc : Thread Cert.WupRefIdeal.nD Cert.WupRefIdeal.τ).loc Cert.WupRefIdeal.main_arg1) = m ((c.tc : Thread Cert.WupRefIdeal.nD Cert.WupRefIdeal.τ).loc Cert.WupRefIdeal.main_arg1))
      ∧ r.2.sem = fun _ => 0)

def quiescent_Dbin [hDbin : Cert.Dbin.Facts] : Prop :=
  ∀ (m : (ℓ : Loc Cert.Dbin.nD Cert.Dbin.τ Cert.Dbin.sig) → Buf (Elt Bits) ℓ) (g : Dev Cert.Dbin.nD → PrngReg), Pre_Dbin m →
    θ_run (Cert.Dbin.defs (F := Bits)) (onTc (τ := Cert.Dbin.τ) (Cert.Dbin.main (F := Bits))) ⟨m, fun _ => 0, g⟩ (fun r => (∀ c : Dev Cert.Dbin.nD,
      r.2.mem ((c.tc : Thread Cert.Dbin.nD Cert.Dbin.τ).loc Cert.Dbin.main_arg0) = m ((c.tc : Thread Cert.Dbin.nD Cert.Dbin.τ).loc Cert.Dbin.main_arg0)
      ∧ r.2.mem ((c.tc : Thread Cert.Dbin.nD Cert.Dbin.τ).loc Cert.Dbin.main_arg1) = m ((c.tc : Thread Cert.Dbin.nD Cert.Dbin.τ).loc Cert.Dbin.main_arg1))
      ∧ r.2.sem = fun _ => 0)

def quiescent_DbinIdeal [hDbinIdeal : Cert.DbinIdeal.Facts] : Prop :=
  ∀ (m : (ℓ : Loc Cert.DbinIdeal.nD Cert.DbinIdeal.τ Cert.DbinIdeal.sig) → Buf (Elt Ideal) ℓ) (g : Dev Cert.DbinIdeal.nD → PrngReg), Pre_DbinIdeal m →
    θ_run (Cert.DbinIdeal.defs (F := Ideal)) (onTc (τ := Cert.DbinIdeal.τ) (Cert.DbinIdeal.main (F := Ideal))) ⟨m, fun _ => 0, g⟩ (fun r => (∀ c : Dev Cert.DbinIdeal.nD,
      r.2.mem ((c.tc : Thread Cert.DbinIdeal.nD Cert.DbinIdeal.τ).loc Cert.DbinIdeal.main_arg0) = m ((c.tc : Thread Cert.DbinIdeal.nD Cert.DbinIdeal.τ).loc Cert.DbinIdeal.main_arg0)
      ∧ r.2.mem ((c.tc : Thread Cert.DbinIdeal.nD Cert.DbinIdeal.τ).loc Cert.DbinIdeal.main_arg1) = m ((c.tc : Thread Cert.DbinIdeal.nD Cert.DbinIdeal.τ).loc Cert.DbinIdeal.main_arg1))
      ∧ r.2.sem = fun _ => 0)

def quiescent_DbinRefIdeal [hDbinRefIdeal : Cert.DbinRefIdeal.Facts] : Prop :=
  ∀ (m : (ℓ : Loc Cert.DbinRefIdeal.nD Cert.DbinRefIdeal.τ Cert.DbinRefIdeal.sig) → Buf (Elt Ideal) ℓ) (g : Dev Cert.DbinRefIdeal.nD → PrngReg), Pre_DbinRefIdeal m →
    θ_run (Cert.DbinRefIdeal.defs (F := Ideal)) (onTc (τ := Cert.DbinRefIdeal.τ) (Cert.DbinRefIdeal.main (F := Ideal))) ⟨m, fun _ => 0, g⟩ (fun r => (∀ c : Dev Cert.DbinRefIdeal.nD,
      r.2.mem ((c.tc : Thread Cert.DbinRefIdeal.nD Cert.DbinRefIdeal.τ).loc Cert.DbinRefIdeal.main_arg0) = m ((c.tc : Thread Cert.DbinRefIdeal.nD Cert.DbinRefIdeal.τ).loc Cert.DbinRefIdeal.main_arg0)
      ∧ r.2.mem ((c.tc : Thread Cert.DbinRefIdeal.nD Cert.DbinRefIdeal.τ).loc Cert.DbinRefIdeal.main_arg1) = m ((c.tc : Thread Cert.DbinRefIdeal.nD Cert.DbinRefIdeal.τ).loc Cert.DbinRefIdeal.main_arg1))
      ∧ r.2.sem = fun _ => 0)

def quiescent_Wbin [hWbin : Cert.Wbin.Facts] : Prop :=
  ∀ (m : (ℓ : Loc Cert.Wbin.nD Cert.Wbin.τ Cert.Wbin.sig) → Buf (Elt Bits) ℓ) (g : Dev Cert.Wbin.nD → PrngReg), Pre_Wbin m →
    θ_run (Cert.Wbin.defs (F := Bits)) (onTc (τ := Cert.Wbin.τ) (Cert.Wbin.main (F := Bits))) ⟨m, fun _ => 0, g⟩ (fun r => (∀ c : Dev Cert.Wbin.nD,
      r.2.mem ((c.tc : Thread Cert.Wbin.nD Cert.Wbin.τ).loc Cert.Wbin.main_arg0) = m ((c.tc : Thread Cert.Wbin.nD Cert.Wbin.τ).loc Cert.Wbin.main_arg0)
      ∧ r.2.mem ((c.tc : Thread Cert.Wbin.nD Cert.Wbin.τ).loc Cert.Wbin.main_arg1) = m ((c.tc : Thread Cert.Wbin.nD Cert.Wbin.τ).loc Cert.Wbin.main_arg1))
      ∧ r.2.sem = fun _ => 0)

def quiescent_WbinIdeal [hWbinIdeal : Cert.WbinIdeal.Facts] : Prop :=
  ∀ (m : (ℓ : Loc Cert.WbinIdeal.nD Cert.WbinIdeal.τ Cert.WbinIdeal.sig) → Buf (Elt Ideal) ℓ) (g : Dev Cert.WbinIdeal.nD → PrngReg), Pre_WbinIdeal m →
    θ_run (Cert.WbinIdeal.defs (F := Ideal)) (onTc (τ := Cert.WbinIdeal.τ) (Cert.WbinIdeal.main (F := Ideal))) ⟨m, fun _ => 0, g⟩ (fun r => (∀ c : Dev Cert.WbinIdeal.nD,
      r.2.mem ((c.tc : Thread Cert.WbinIdeal.nD Cert.WbinIdeal.τ).loc Cert.WbinIdeal.main_arg0) = m ((c.tc : Thread Cert.WbinIdeal.nD Cert.WbinIdeal.τ).loc Cert.WbinIdeal.main_arg0)
      ∧ r.2.mem ((c.tc : Thread Cert.WbinIdeal.nD Cert.WbinIdeal.τ).loc Cert.WbinIdeal.main_arg1) = m ((c.tc : Thread Cert.WbinIdeal.nD Cert.WbinIdeal.τ).loc Cert.WbinIdeal.main_arg1))
      ∧ r.2.sem = fun _ => 0)

def quiescent_WbinRefIdeal [hWbinRefIdeal : Cert.WbinRefIdeal.Facts] : Prop :=
  ∀ (m : (ℓ : Loc Cert.WbinRefIdeal.nD Cert.WbinRefIdeal.τ Cert.WbinRefIdeal.sig) → Buf (Elt Ideal) ℓ) (g : Dev Cert.WbinRefIdeal.nD → PrngReg), Pre_WbinRefIdeal m →
    θ_run (Cert.WbinRefIdeal.defs (F := Ideal)) (onTc (τ := Cert.WbinRefIdeal.τ) (Cert.WbinRefIdeal.main (F := Ideal))) ⟨m, fun _ => 0, g⟩ (fun r => (∀ c : Dev Cert.WbinRefIdeal.nD,
      r.2.mem ((c.tc : Thread Cert.WbinRefIdeal.nD Cert.WbinRefIdeal.τ).loc Cert.WbinRefIdeal.main_arg0) = m ((c.tc : Thread Cert.WbinRefIdeal.nD Cert.WbinRefIdeal.τ).loc Cert.WbinRefIdeal.main_arg0)
      ∧ r.2.mem ((c.tc : Thread Cert.WbinRefIdeal.nD Cert.WbinRefIdeal.τ).loc Cert.WbinRefIdeal.main_arg1) = m ((c.tc : Thread Cert.WbinRefIdeal.nD Cert.WbinRefIdeal.τ).loc Cert.WbinRefIdeal.main_arg1))
      ∧ r.2.sem = fun _ => 0)

def quiescent_Dbout [hDbout : Cert.Dbout.Facts] : Prop :=
  ∀ (m : (ℓ : Loc Cert.Dbout.nD Cert.Dbout.τ Cert.Dbout.sig) → Buf (Elt Bits) ℓ) (g : Dev Cert.Dbout.nD → PrngReg), Pre_Dbout m →
    θ_run (Cert.Dbout.defs (F := Bits)) (onTc (τ := Cert.Dbout.τ) (Cert.Dbout.main (F := Bits))) ⟨m, fun _ => 0, g⟩ (fun r => (∀ c : Dev Cert.Dbout.nD,
      r.2.mem ((c.tc : Thread Cert.Dbout.nD Cert.Dbout.τ).loc Cert.Dbout.main_arg0) = m ((c.tc : Thread Cert.Dbout.nD Cert.Dbout.τ).loc Cert.Dbout.main_arg0)
      ∧ r.2.mem ((c.tc : Thread Cert.Dbout.nD Cert.Dbout.τ).loc Cert.Dbout.main_arg1) = m ((c.tc : Thread Cert.Dbout.nD Cert.Dbout.τ).loc Cert.Dbout.main_arg1))
      ∧ r.2.sem = fun _ => 0)

def quiescent_DboutIdeal [hDboutIdeal : Cert.DboutIdeal.Facts] : Prop :=
  ∀ (m : (ℓ : Loc Cert.DboutIdeal.nD Cert.DboutIdeal.τ Cert.DboutIdeal.sig) → Buf (Elt Ideal) ℓ) (g : Dev Cert.DboutIdeal.nD → PrngReg), Pre_DboutIdeal m →
    θ_run (Cert.DboutIdeal.defs (F := Ideal)) (onTc (τ := Cert.DboutIdeal.τ) (Cert.DboutIdeal.main (F := Ideal))) ⟨m, fun _ => 0, g⟩ (fun r => (∀ c : Dev Cert.DboutIdeal.nD,
      r.2.mem ((c.tc : Thread Cert.DboutIdeal.nD Cert.DboutIdeal.τ).loc Cert.DboutIdeal.main_arg0) = m ((c.tc : Thread Cert.DboutIdeal.nD Cert.DboutIdeal.τ).loc Cert.DboutIdeal.main_arg0)
      ∧ r.2.mem ((c.tc : Thread Cert.DboutIdeal.nD Cert.DboutIdeal.τ).loc Cert.DboutIdeal.main_arg1) = m ((c.tc : Thread Cert.DboutIdeal.nD Cert.DboutIdeal.τ).loc Cert.DboutIdeal.main_arg1))
      ∧ r.2.sem = fun _ => 0)

def quiescent_DboutRefIdeal [hDboutRefIdeal : Cert.DboutRefIdeal.Facts] : Prop :=
  ∀ (m : (ℓ : Loc Cert.DboutRefIdeal.nD Cert.DboutRefIdeal.τ Cert.DboutRefIdeal.sig) → Buf (Elt Ideal) ℓ) (g : Dev Cert.DboutRefIdeal.nD → PrngReg), Pre_DboutRefIdeal m →
    θ_run (Cert.DboutRefIdeal.defs (F := Ideal)) (onTc (τ := Cert.DboutRefIdeal.τ) (Cert.DboutRefIdeal.main (F := Ideal))) ⟨m, fun _ => 0, g⟩ (fun r => (∀ c : Dev Cert.DboutRefIdeal.nD,
      r.2.mem ((c.tc : Thread Cert.DboutRefIdeal.nD Cert.DboutRefIdeal.τ).loc Cert.DboutRefIdeal.main_arg0) = m ((c.tc : Thread Cert.DboutRefIdeal.nD Cert.DboutRefIdeal.τ).loc Cert.DboutRefIdeal.main_arg0)
      ∧ r.2.mem ((c.tc : Thread Cert.DboutRefIdeal.nD Cert.DboutRefIdeal.τ).loc Cert.DboutRefIdeal.main_arg1) = m ((c.tc : Thread Cert.DboutRefIdeal.nD Cert.DboutRefIdeal.τ).loc Cert.DboutRefIdeal.main_arg1))
      ∧ r.2.sem = fun _ => 0)

def quiescent_Wbout [hWbout : Cert.Wbout.Facts] : Prop :=
  ∀ (m : (ℓ : Loc Cert.Wbout.nD Cert.Wbout.τ Cert.Wbout.sig) → Buf (Elt Bits) ℓ) (g : Dev Cert.Wbout.nD → PrngReg), Pre_Wbout m →
    θ_run (Cert.Wbout.defs (F := Bits)) (onTc (τ := Cert.Wbout.τ) (Cert.Wbout.main (F := Bits))) ⟨m, fun _ => 0, g⟩ (fun r => (∀ c : Dev Cert.Wbout.nD,
      r.2.mem ((c.tc : Thread Cert.Wbout.nD Cert.Wbout.τ).loc Cert.Wbout.main_arg0) = m ((c.tc : Thread Cert.Wbout.nD Cert.Wbout.τ).loc Cert.Wbout.main_arg0)
      ∧ r.2.mem ((c.tc : Thread Cert.Wbout.nD Cert.Wbout.τ).loc Cert.Wbout.main_arg1) = m ((c.tc : Thread Cert.Wbout.nD Cert.Wbout.τ).loc Cert.Wbout.main_arg1))
      ∧ r.2.sem = fun _ => 0)

def quiescent_WboutIdeal [hWboutIdeal : Cert.WboutIdeal.Facts] : Prop :=
  ∀ (m : (ℓ : Loc Cert.WboutIdeal.nD Cert.WboutIdeal.τ Cert.WboutIdeal.sig) → Buf (Elt Ideal) ℓ) (g : Dev Cert.WboutIdeal.nD → PrngReg), Pre_WboutIdeal m →
    θ_run (Cert.WboutIdeal.defs (F := Ideal)) (onTc (τ := Cert.WboutIdeal.τ) (Cert.WboutIdeal.main (F := Ideal))) ⟨m, fun _ => 0, g⟩ (fun r => (∀ c : Dev Cert.WboutIdeal.nD,
      r.2.mem ((c.tc : Thread Cert.WboutIdeal.nD Cert.WboutIdeal.τ).loc Cert.WboutIdeal.main_arg0) = m ((c.tc : Thread Cert.WboutIdeal.nD Cert.WboutIdeal.τ).loc Cert.WboutIdeal.main_arg0)
      ∧ r.2.mem ((c.tc : Thread Cert.WboutIdeal.nD Cert.WboutIdeal.τ).loc Cert.WboutIdeal.main_arg1) = m ((c.tc : Thread Cert.WboutIdeal.nD Cert.WboutIdeal.τ).loc Cert.WboutIdeal.main_arg1))
      ∧ r.2.sem = fun _ => 0)

def quiescent_WboutRefIdeal [hWboutRefIdeal : Cert.WboutRefIdeal.Facts] : Prop :=
  ∀ (m : (ℓ : Loc Cert.WboutRefIdeal.nD Cert.WboutRefIdeal.τ Cert.WboutRefIdeal.sig) → Buf (Elt Ideal) ℓ) (g : Dev Cert.WboutRefIdeal.nD → PrngReg), Pre_WboutRefIdeal m →
    θ_run (Cert.WboutRefIdeal.defs (F := Ideal)) (onTc (τ := Cert.WboutRefIdeal.τ) (Cert.WboutRefIdeal.main (F := Ideal))) ⟨m, fun _ => 0, g⟩ (fun r => (∀ c : Dev Cert.WboutRefIdeal.nD,
      r.2.mem ((c.tc : Thread Cert.WboutRefIdeal.nD Cert.WboutRefIdeal.τ).loc Cert.WboutRefIdeal.main_arg0) = m ((c.tc : Thread Cert.WboutRefIdeal.nD Cert.WboutRefIdeal.τ).loc Cert.WboutRefIdeal.main_arg0)
      ∧ r.2.mem ((c.tc : Thread Cert.WboutRefIdeal.nD Cert.WboutRefIdeal.τ).loc Cert.WboutRefIdeal.main_arg1) = m ((c.tc : Thread Cert.WboutRefIdeal.nD Cert.WboutRefIdeal.τ).loc Cert.WboutRefIdeal.main_arg1))
      ∧ r.2.sem = fun _ => 0)

def quiescent_Dain [hDain : Cert.Dain.Facts] : Prop :=
  ∀ (m : (ℓ : Loc Cert.Dain.nD Cert.Dain.τ Cert.Dain.sig) → Buf (Elt Bits) ℓ) (g : Dev Cert.Dain.nD → PrngReg), Pre_Dain m →
    θ_run (Cert.Dain.defs (F := Bits)) (onTc (τ := Cert.Dain.τ) (Cert.Dain.main (F := Bits))) ⟨m, fun _ => 0, g⟩ (fun r => (∀ c : Dev Cert.Dain.nD,
      r.2.mem ((c.tc : Thread Cert.Dain.nD Cert.Dain.τ).loc Cert.Dain.main_arg0) = m ((c.tc : Thread Cert.Dain.nD Cert.Dain.τ).loc Cert.Dain.main_arg0)
      ∧ r.2.mem ((c.tc : Thread Cert.Dain.nD Cert.Dain.τ).loc Cert.Dain.main_arg1) = m ((c.tc : Thread Cert.Dain.nD Cert.Dain.τ).loc Cert.Dain.main_arg1))
      ∧ r.2.sem = fun _ => 0)

def quiescent_DainIdeal [hDainIdeal : Cert.DainIdeal.Facts] : Prop :=
  ∀ (m : (ℓ : Loc Cert.DainIdeal.nD Cert.DainIdeal.τ Cert.DainIdeal.sig) → Buf (Elt Ideal) ℓ) (g : Dev Cert.DainIdeal.nD → PrngReg), Pre_DainIdeal m →
    θ_run (Cert.DainIdeal.defs (F := Ideal)) (onTc (τ := Cert.DainIdeal.τ) (Cert.DainIdeal.main (F := Ideal))) ⟨m, fun _ => 0, g⟩ (fun r => (∀ c : Dev Cert.DainIdeal.nD,
      r.2.mem ((c.tc : Thread Cert.DainIdeal.nD Cert.DainIdeal.τ).loc Cert.DainIdeal.main_arg0) = m ((c.tc : Thread Cert.DainIdeal.nD Cert.DainIdeal.τ).loc Cert.DainIdeal.main_arg0)
      ∧ r.2.mem ((c.tc : Thread Cert.DainIdeal.nD Cert.DainIdeal.τ).loc Cert.DainIdeal.main_arg1) = m ((c.tc : Thread Cert.DainIdeal.nD Cert.DainIdeal.τ).loc Cert.DainIdeal.main_arg1))
      ∧ r.2.sem = fun _ => 0)

def quiescent_DainRefIdeal [hDainRefIdeal : Cert.DainRefIdeal.Facts] : Prop :=
  ∀ (m : (ℓ : Loc Cert.DainRefIdeal.nD Cert.DainRefIdeal.τ Cert.DainRefIdeal.sig) → Buf (Elt Ideal) ℓ) (g : Dev Cert.DainRefIdeal.nD → PrngReg), Pre_DainRefIdeal m →
    θ_run (Cert.DainRefIdeal.defs (F := Ideal)) (onTc (τ := Cert.DainRefIdeal.τ) (Cert.DainRefIdeal.main (F := Ideal))) ⟨m, fun _ => 0, g⟩ (fun r => (∀ c : Dev Cert.DainRefIdeal.nD,
      r.2.mem ((c.tc : Thread Cert.DainRefIdeal.nD Cert.DainRefIdeal.τ).loc Cert.DainRefIdeal.main_arg0) = m ((c.tc : Thread Cert.DainRefIdeal.nD Cert.DainRefIdeal.τ).loc Cert.DainRefIdeal.main_arg0)
      ∧ r.2.mem ((c.tc : Thread Cert.DainRefIdeal.nD Cert.DainRefIdeal.τ).loc Cert.DainRefIdeal.main_arg1) = m ((c.tc : Thread Cert.DainRefIdeal.nD Cert.DainRefIdeal.τ).loc Cert.DainRefIdeal.main_arg1))
      ∧ r.2.sem = fun _ => 0)

def quiescent_Wain [hWain : Cert.Wain.Facts] : Prop :=
  ∀ (m : (ℓ : Loc Cert.Wain.nD Cert.Wain.τ Cert.Wain.sig) → Buf (Elt Bits) ℓ) (g : Dev Cert.Wain.nD → PrngReg), Pre_Wain m →
    θ_run (Cert.Wain.defs (F := Bits)) (onTc (τ := Cert.Wain.τ) (Cert.Wain.main (F := Bits))) ⟨m, fun _ => 0, g⟩ (fun r => (∀ c : Dev Cert.Wain.nD,
      r.2.mem ((c.tc : Thread Cert.Wain.nD Cert.Wain.τ).loc Cert.Wain.main_arg0) = m ((c.tc : Thread Cert.Wain.nD Cert.Wain.τ).loc Cert.Wain.main_arg0)
      ∧ r.2.mem ((c.tc : Thread Cert.Wain.nD Cert.Wain.τ).loc Cert.Wain.main_arg1) = m ((c.tc : Thread Cert.Wain.nD Cert.Wain.τ).loc Cert.Wain.main_arg1))
      ∧ r.2.sem = fun _ => 0)

def quiescent_WainIdeal [hWainIdeal : Cert.WainIdeal.Facts] : Prop :=
  ∀ (m : (ℓ : Loc Cert.WainIdeal.nD Cert.WainIdeal.τ Cert.WainIdeal.sig) → Buf (Elt Ideal) ℓ) (g : Dev Cert.WainIdeal.nD → PrngReg), Pre_WainIdeal m →
    θ_run (Cert.WainIdeal.defs (F := Ideal)) (onTc (τ := Cert.WainIdeal.τ) (Cert.WainIdeal.main (F := Ideal))) ⟨m, fun _ => 0, g⟩ (fun r => (∀ c : Dev Cert.WainIdeal.nD,
      r.2.mem ((c.tc : Thread Cert.WainIdeal.nD Cert.WainIdeal.τ).loc Cert.WainIdeal.main_arg0) = m ((c.tc : Thread Cert.WainIdeal.nD Cert.WainIdeal.τ).loc Cert.WainIdeal.main_arg0)
      ∧ r.2.mem ((c.tc : Thread Cert.WainIdeal.nD Cert.WainIdeal.τ).loc Cert.WainIdeal.main_arg1) = m ((c.tc : Thread Cert.WainIdeal.nD Cert.WainIdeal.τ).loc Cert.WainIdeal.main_arg1))
      ∧ r.2.sem = fun _ => 0)

def quiescent_WainRefIdeal [hWainRefIdeal : Cert.WainRefIdeal.Facts] : Prop :=
  ∀ (m : (ℓ : Loc Cert.WainRefIdeal.nD Cert.WainRefIdeal.τ Cert.WainRefIdeal.sig) → Buf (Elt Ideal) ℓ) (g : Dev Cert.WainRefIdeal.nD → PrngReg), Pre_WainRefIdeal m →
    θ_run (Cert.WainRefIdeal.defs (F := Ideal)) (onTc (τ := Cert.WainRefIdeal.τ) (Cert.WainRefIdeal.main (F := Ideal))) ⟨m, fun _ => 0, g⟩ (fun r => (∀ c : Dev Cert.WainRefIdeal.nD,
      r.2.mem ((c.tc : Thread Cert.WainRefIdeal.nD Cert.WainRefIdeal.τ).loc Cert.WainRefIdeal.main_arg0) = m ((c.tc : Thread Cert.WainRefIdeal.nD Cert.WainRefIdeal.τ).loc Cert.WainRefIdeal.main_arg0)
      ∧ r.2.mem ((c.tc : Thread Cert.WainRefIdeal.nD Cert.WainRefIdeal.τ).loc Cert.WainRefIdeal.main_arg1) = m ((c.tc : Thread Cert.WainRefIdeal.nD Cert.WainRefIdeal.τ).loc Cert.WainRefIdeal.main_arg1))
      ∧ r.2.sem = fun _ => 0)

def quiescent_Daout [hDaout : Cert.Daout.Facts] : Prop :=
  ∀ (m : (ℓ : Loc Cert.Daout.nD Cert.Daout.τ Cert.Daout.sig) → Buf (Elt Bits) ℓ) (g : Dev Cert.Daout.nD → PrngReg), Pre_Daout m →
    θ_run (Cert.Daout.defs (F := Bits)) (onTc (τ := Cert.Daout.τ) (Cert.Daout.main (F := Bits))) ⟨m, fun _ => 0, g⟩ (fun r => (∀ c : Dev Cert.Daout.nD,
      r.2.mem ((c.tc : Thread Cert.Daout.nD Cert.Daout.τ).loc Cert.Daout.main_arg0) = m ((c.tc : Thread Cert.Daout.nD Cert.Daout.τ).loc Cert.Daout.main_arg0)
      ∧ r.2.mem ((c.tc : Thread Cert.Daout.nD Cert.Daout.τ).loc Cert.Daout.main_arg1) = m ((c.tc : Thread Cert.Daout.nD Cert.Daout.τ).loc Cert.Daout.main_arg1))
      ∧ r.2.sem = fun _ => 0)

def quiescent_DaoutIdeal [hDaoutIdeal : Cert.DaoutIdeal.Facts] : Prop :=
  ∀ (m : (ℓ : Loc Cert.DaoutIdeal.nD Cert.DaoutIdeal.τ Cert.DaoutIdeal.sig) → Buf (Elt Ideal) ℓ) (g : Dev Cert.DaoutIdeal.nD → PrngReg), Pre_DaoutIdeal m →
    θ_run (Cert.DaoutIdeal.defs (F := Ideal)) (onTc (τ := Cert.DaoutIdeal.τ) (Cert.DaoutIdeal.main (F := Ideal))) ⟨m, fun _ => 0, g⟩ (fun r => (∀ c : Dev Cert.DaoutIdeal.nD,
      r.2.mem ((c.tc : Thread Cert.DaoutIdeal.nD Cert.DaoutIdeal.τ).loc Cert.DaoutIdeal.main_arg0) = m ((c.tc : Thread Cert.DaoutIdeal.nD Cert.DaoutIdeal.τ).loc Cert.DaoutIdeal.main_arg0)
      ∧ r.2.mem ((c.tc : Thread Cert.DaoutIdeal.nD Cert.DaoutIdeal.τ).loc Cert.DaoutIdeal.main_arg1) = m ((c.tc : Thread Cert.DaoutIdeal.nD Cert.DaoutIdeal.τ).loc Cert.DaoutIdeal.main_arg1))
      ∧ r.2.sem = fun _ => 0)

def quiescent_DaoutRefIdeal [hDaoutRefIdeal : Cert.DaoutRefIdeal.Facts] : Prop :=
  ∀ (m : (ℓ : Loc Cert.DaoutRefIdeal.nD Cert.DaoutRefIdeal.τ Cert.DaoutRefIdeal.sig) → Buf (Elt Ideal) ℓ) (g : Dev Cert.DaoutRefIdeal.nD → PrngReg), Pre_DaoutRefIdeal m →
    θ_run (Cert.DaoutRefIdeal.defs (F := Ideal)) (onTc (τ := Cert.DaoutRefIdeal.τ) (Cert.DaoutRefIdeal.main (F := Ideal))) ⟨m, fun _ => 0, g⟩ (fun r => (∀ c : Dev Cert.DaoutRefIdeal.nD,
      r.2.mem ((c.tc : Thread Cert.DaoutRefIdeal.nD Cert.DaoutRefIdeal.τ).loc Cert.DaoutRefIdeal.main_arg0) = m ((c.tc : Thread Cert.DaoutRefIdeal.nD Cert.DaoutRefIdeal.τ).loc Cert.DaoutRefIdeal.main_arg0)
      ∧ r.2.mem ((c.tc : Thread Cert.DaoutRefIdeal.nD Cert.DaoutRefIdeal.τ).loc Cert.DaoutRefIdeal.main_arg1) = m ((c.tc : Thread Cert.DaoutRefIdeal.nD Cert.DaoutRefIdeal.τ).loc Cert.DaoutRefIdeal.main_arg1))
      ∧ r.2.sem = fun _ => 0)

def quiescent_Waout [hWaout : Cert.Waout.Facts] : Prop :=
  ∀ (m : (ℓ : Loc Cert.Waout.nD Cert.Waout.τ Cert.Waout.sig) → Buf (Elt Bits) ℓ) (g : Dev Cert.Waout.nD → PrngReg), Pre_Waout m →
    θ_run (Cert.Waout.defs (F := Bits)) (onTc (τ := Cert.Waout.τ) (Cert.Waout.main (F := Bits))) ⟨m, fun _ => 0, g⟩ (fun r => (∀ c : Dev Cert.Waout.nD,
      r.2.mem ((c.tc : Thread Cert.Waout.nD Cert.Waout.τ).loc Cert.Waout.main_arg0) = m ((c.tc : Thread Cert.Waout.nD Cert.Waout.τ).loc Cert.Waout.main_arg0)
      ∧ r.2.mem ((c.tc : Thread Cert.Waout.nD Cert.Waout.τ).loc Cert.Waout.main_arg1) = m ((c.tc : Thread Cert.Waout.nD Cert.Waout.τ).loc Cert.Waout.main_arg1))
      ∧ r.2.sem = fun _ => 0)

def quiescent_WaoutIdeal [hWaoutIdeal : Cert.WaoutIdeal.Facts] : Prop :=
  ∀ (m : (ℓ : Loc Cert.WaoutIdeal.nD Cert.WaoutIdeal.τ Cert.WaoutIdeal.sig) → Buf (Elt Ideal) ℓ) (g : Dev Cert.WaoutIdeal.nD → PrngReg), Pre_WaoutIdeal m →
    θ_run (Cert.WaoutIdeal.defs (F := Ideal)) (onTc (τ := Cert.WaoutIdeal.τ) (Cert.WaoutIdeal.main (F := Ideal))) ⟨m, fun _ => 0, g⟩ (fun r => (∀ c : Dev Cert.WaoutIdeal.nD,
      r.2.mem ((c.tc : Thread Cert.WaoutIdeal.nD Cert.WaoutIdeal.τ).loc Cert.WaoutIdeal.main_arg0) = m ((c.tc : Thread Cert.WaoutIdeal.nD Cert.WaoutIdeal.τ).loc Cert.WaoutIdeal.main_arg0)
      ∧ r.2.mem ((c.tc : Thread Cert.WaoutIdeal.nD Cert.WaoutIdeal.τ).loc Cert.WaoutIdeal.main_arg1) = m ((c.tc : Thread Cert.WaoutIdeal.nD Cert.WaoutIdeal.τ).loc Cert.WaoutIdeal.main_arg1))
      ∧ r.2.sem = fun _ => 0)

def quiescent_WaoutRefIdeal [hWaoutRefIdeal : Cert.WaoutRefIdeal.Facts] : Prop :=
  ∀ (m : (ℓ : Loc Cert.WaoutRefIdeal.nD Cert.WaoutRefIdeal.τ Cert.WaoutRefIdeal.sig) → Buf (Elt Ideal) ℓ) (g : Dev Cert.WaoutRefIdeal.nD → PrngReg), Pre_WaoutRefIdeal m →
    θ_run (Cert.WaoutRefIdeal.defs (F := Ideal)) (onTc (τ := Cert.WaoutRefIdeal.τ) (Cert.WaoutRefIdeal.main (F := Ideal))) ⟨m, fun _ => 0, g⟩ (fun r => (∀ c : Dev Cert.WaoutRefIdeal.nD,
      r.2.mem ((c.tc : Thread Cert.WaoutRefIdeal.nD Cert.WaoutRefIdeal.τ).loc Cert.WaoutRefIdeal.main_arg0) = m ((c.tc : Thread Cert.WaoutRefIdeal.nD Cert.WaoutRefIdeal.τ).loc Cert.WaoutRefIdeal.main_arg0)
      ∧ r.2.mem ((c.tc : Thread Cert.WaoutRefIdeal.nD Cert.WaoutRefIdeal.τ).loc Cert.WaoutRefIdeal.main_arg1) = m ((c.tc : Thread Cert.WaoutRefIdeal.nD Cert.WaoutRefIdeal.τ).loc Cert.WaoutRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Ain [hAin : Cert.Ain.Facts] : Prop :=
  ∀ (m : (ℓ : Loc Cert.Ain.nD Cert.Ain.τ Cert.Ain.sig) → Buf (Elt Bits) ℓ) (g : Dev Cert.Ain.nD → PrngReg), Pre_Ain m →
    θ_run (Cert.Ain.defs (F := Bits)) (onTc (τ := Cert.Ain.τ) (Cert.Ain.main (F := Bits))) ⟨m, fun _ => 0, g⟩ (fun r => (∀ c : Dev Cert.Ain.nD,
      r.2.mem ((c.tc : Thread Cert.Ain.nD Cert.Ain.τ).loc Cert.Ain.main_arg0) = m ((c.tc : Thread Cert.Ain.nD Cert.Ain.τ).loc Cert.Ain.main_arg0)
      ∧ r.2.mem ((c.tc : Thread Cert.Ain.nD Cert.Ain.τ).loc Cert.Ain.main_arg1) = m ((c.tc : Thread Cert.Ain.nD Cert.Ain.τ).loc Cert.Ain.main_arg1))
      ∧ r.2.sem = fun _ => 0)

def quiescent_AinIdeal [hAinIdeal : Cert.AinIdeal.Facts] : Prop :=
  ∀ (m : (ℓ : Loc Cert.AinIdeal.nD Cert.AinIdeal.τ Cert.AinIdeal.sig) → Buf (Elt Ideal) ℓ) (g : Dev Cert.AinIdeal.nD → PrngReg), Pre_AinIdeal m →
    θ_run (Cert.AinIdeal.defs (F := Ideal)) (onTc (τ := Cert.AinIdeal.τ) (Cert.AinIdeal.main (F := Ideal))) ⟨m, fun _ => 0, g⟩ (fun r => (∀ c : Dev Cert.AinIdeal.nD,
      r.2.mem ((c.tc : Thread Cert.AinIdeal.nD Cert.AinIdeal.τ).loc Cert.AinIdeal.main_arg0) = m ((c.tc : Thread Cert.AinIdeal.nD Cert.AinIdeal.τ).loc Cert.AinIdeal.main_arg0)
      ∧ r.2.mem ((c.tc : Thread Cert.AinIdeal.nD Cert.AinIdeal.τ).loc Cert.AinIdeal.main_arg1) = m ((c.tc : Thread Cert.AinIdeal.nD Cert.AinIdeal.τ).loc Cert.AinIdeal.main_arg1))
      ∧ r.2.sem = fun _ => 0)

def quiescent_AinRefIdeal [hAinRefIdeal : Cert.AinRefIdeal.Facts] : Prop :=
  ∀ (m : (ℓ : Loc Cert.AinRefIdeal.nD Cert.AinRefIdeal.τ Cert.AinRefIdeal.sig) → Buf (Elt Ideal) ℓ) (g : Dev Cert.AinRefIdeal.nD → PrngReg), Pre_AinRefIdeal m →
    θ_run (Cert.AinRefIdeal.defs (F := Ideal)) (onTc (τ := Cert.AinRefIdeal.τ) (Cert.AinRefIdeal.main (F := Ideal))) ⟨m, fun _ => 0, g⟩ (fun r => (∀ c : Dev Cert.AinRefIdeal.nD,
      r.2.mem ((c.tc : Thread Cert.AinRefIdeal.nD Cert.AinRefIdeal.τ).loc Cert.AinRefIdeal.main_arg0) = m ((c.tc : Thread Cert.AinRefIdeal.nD Cert.AinRefIdeal.τ).loc Cert.AinRefIdeal.main_arg0)
      ∧ r.2.mem ((c.tc : Thread Cert.AinRefIdeal.nD Cert.AinRefIdeal.τ).loc Cert.AinRefIdeal.main_arg1) = m ((c.tc : Thread Cert.AinRefIdeal.nD Cert.AinRefIdeal.τ).loc Cert.AinRefIdeal.main_arg1))
      ∧ r.2.sem = fun _ => 0)

def quiescent_Aout [hAout : Cert.Aout.Facts] : Prop :=
  ∀ (m : (ℓ : Loc Cert.Aout.nD Cert.Aout.τ Cert.Aout.sig) → Buf (Elt Bits) ℓ) (g : Dev Cert.Aout.nD → PrngReg), Pre_Aout m →
    θ_run (Cert.Aout.defs (F := Bits)) (onTc (τ := Cert.Aout.τ) (Cert.Aout.main (F := Bits))) ⟨m, fun _ => 0, g⟩ (fun r => (∀ c : Dev Cert.Aout.nD,
      r.2.mem ((c.tc : Thread Cert.Aout.nD Cert.Aout.τ).loc Cert.Aout.main_arg0) = m ((c.tc : Thread Cert.Aout.nD Cert.Aout.τ).loc Cert.Aout.main_arg0)
      ∧ r.2.mem ((c.tc : Thread Cert.Aout.nD Cert.Aout.τ).loc Cert.Aout.main_arg1) = m ((c.tc : Thread Cert.Aout.nD Cert.Aout.τ).loc Cert.Aout.main_arg1)
      ∧ r.2.mem ((c.tc : Thread Cert.Aout.nD Cert.Aout.τ).loc Cert.Aout.main_arg2) = m ((c.tc : Thread Cert.Aout.nD Cert.Aout.τ).loc Cert.Aout.main_arg2))
      ∧ r.2.sem = fun _ => 0)

def quiescent_AoutIdeal [hAoutIdeal : Cert.AoutIdeal.Facts] : Prop :=
  ∀ (m : (ℓ : Loc Cert.AoutIdeal.nD Cert.AoutIdeal.τ Cert.AoutIdeal.sig) → Buf (Elt Ideal) ℓ) (g : Dev Cert.AoutIdeal.nD → PrngReg), Pre_AoutIdeal m →
    θ_run (Cert.AoutIdeal.defs (F := Ideal)) (onTc (τ := Cert.AoutIdeal.τ) (Cert.AoutIdeal.main (F := Ideal))) ⟨m, fun _ => 0, g⟩ (fun r => (∀ c : Dev Cert.AoutIdeal.nD,
      r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
      ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1)
      ∧ r.2.mem ((c.tc : Thread Cert.AoutIdeal.nD Cert.AoutIdeal.τ).loc Cert.AoutIdeal.main_arg2) = m ((c.tc : Thread Cert.AoutIdeal.nD Cert.AoutIdeal.τ).loc Cert.AoutIdeal.main_arg2))
      ∧ r.2.sem = fun _ => 0)

def quiescent_AoutRefIdeal [hAoutRefIdeal : Cert.AoutRefIdeal.Facts] : Prop :=
  ∀ (m : (ℓ : Loc Cert.AoutRefIdeal.nD Cert.AoutRefIdeal.τ Cert.AoutRefIdeal.sig) → Buf (Elt Ideal) ℓ) (g : Dev Cert.AoutRefIdeal.nD → PrngReg), Pre_AoutRefIdeal m →
    θ_run (Cert.AoutRefIdeal.defs (F := Ideal)) (onTc (τ := Cert.AoutRefIdeal.τ) (Cert.AoutRefIdeal.main (F := Ideal))) ⟨m, fun _ => 0, g⟩ (fun r => (∀ c : Dev Cert.AoutRefIdeal.nD,
      r.2.mem ((c.tc : Thread Cert.AoutRefIdeal.nD Cert.AoutRefIdeal.τ).loc Cert.AoutRefIdeal.main_arg0) = m ((c.tc : Thread Cert.AoutRefIdeal.nD Cert.AoutRefIdeal.τ).loc Cert.AoutRefIdeal.main_arg0)
      ∧ r.2.mem ((c.tc : Thread Cert.AoutRefIdeal.nD Cert.AoutRefIdeal.τ).loc Cert.AoutRefIdeal.main_arg1) = m ((c.tc : Thread Cert.AoutRefIdeal.nD Cert.AoutRefIdeal.τ).loc Cert.AoutRefIdeal.main_arg1)
      ∧ r.2.mem ((c.tc : Thread Cert.AoutRefIdeal.nD Cert.AoutRefIdeal.τ).loc Cert.AoutRefIdeal.main_arg2) = m ((c.tc : Thread Cert.AoutRefIdeal.nD Cert.AoutRefIdeal.τ).loc Cert.AoutRefIdeal.main_arg2))
      ∧ r.2.sem = fun _ => 0)

def quiescent_Bin [hBin : Cert.Bin.Facts] : Prop :=
  ∀ (m : (ℓ : Loc Cert.Bin.nD Cert.Bin.τ Cert.Bin.sig) → Buf (Elt Bits) ℓ) (g : Dev Cert.Bin.nD → PrngReg), Pre_Bin m →
    θ_run (Cert.Bin.defs (F := Bits)) (onTc (τ := Cert.Bin.τ) (Cert.Bin.main (F := Bits))) ⟨m, fun _ => 0, g⟩ (fun r => (∀ c : Dev Cert.Bin.nD,
      r.2.mem ((c.tc : Thread Cert.Bin.nD Cert.Bin.τ).loc Cert.Bin.main_arg0) = m ((c.tc : Thread Cert.Bin.nD Cert.Bin.τ).loc Cert.Bin.main_arg0)
      ∧ r.2.mem ((c.tc : Thread Cert.Bin.nD Cert.Bin.τ).loc Cert.Bin.main_arg1) = m ((c.tc : Thread Cert.Bin.nD Cert.Bin.τ).loc Cert.Bin.main_arg1))
      ∧ r.2.sem = fun _ => 0)

def quiescent_BinIdeal [hBinIdeal : Cert.BinIdeal.Facts] : Prop :=
  ∀ (m : (ℓ : Loc Cert.BinIdeal.nD Cert.BinIdeal.τ Cert.BinIdeal.sig) → Buf (Elt Ideal) ℓ) (g : Dev Cert.BinIdeal.nD → PrngReg), Pre_BinIdeal m →
    θ_run (Cert.BinIdeal.defs (F := Ideal)) (onTc (τ := Cert.BinIdeal.τ) (Cert.BinIdeal.main (F := Ideal))) ⟨m, fun _ => 0, g⟩ (fun r => (∀ c : Dev Cert.BinIdeal.nD,
      r.2.mem ((c.tc : Thread Cert.BinIdeal.nD Cert.BinIdeal.τ).loc Cert.BinIdeal.main_arg0) = m ((c.tc : Thread Cert.BinIdeal.nD Cert.BinIdeal.τ).loc Cert.BinIdeal.main_arg0)
      ∧ r.2.mem ((c.tc : Thread Cert.BinIdeal.nD Cert.BinIdeal.τ).loc Cert.BinIdeal.main_arg1) = m ((c.tc : Thread Cert.BinIdeal.nD Cert.BinIdeal.τ).loc Cert.BinIdeal.main_arg1))
      ∧ r.2.sem = fun _ => 0)

def quiescent_BinRefIdeal [hBinRefIdeal : Cert.BinRefIdeal.Facts] : Prop :=
  ∀ (m : (ℓ : Loc Cert.BinRefIdeal.nD Cert.BinRefIdeal.τ Cert.BinRefIdeal.sig) → Buf (Elt Ideal) ℓ) (g : Dev Cert.BinRefIdeal.nD → PrngReg), Pre_BinRefIdeal m →
    θ_run (Cert.BinRefIdeal.defs (F := Ideal)) (onTc (τ := Cert.BinRefIdeal.τ) (Cert.BinRefIdeal.main (F := Ideal))) ⟨m, fun _ => 0, g⟩ (fun r => (∀ c : Dev Cert.BinRefIdeal.nD,
      r.2.mem ((c.tc : Thread Cert.BinRefIdeal.nD Cert.BinRefIdeal.τ).loc Cert.BinRefIdeal.main_arg0) = m ((c.tc : Thread Cert.BinRefIdeal.nD Cert.BinRefIdeal.τ).loc Cert.BinRefIdeal.main_arg0)
      ∧ r.2.mem ((c.tc : Thread Cert.BinRefIdeal.nD Cert.BinRefIdeal.τ).loc Cert.BinRefIdeal.main_arg1) = m ((c.tc : Thread Cert.BinRefIdeal.nD Cert.BinRefIdeal.τ).loc Cert.BinRefIdeal.main_arg1))
      ∧ r.2.sem = fun _ => 0)

def quiescent_Bout [hBout : Cert.Bout.Facts] : Prop :=
  ∀ (m : (ℓ : Loc Cert.Bout.nD Cert.Bout.τ Cert.Bout.sig) → Buf (Elt Bits) ℓ) (g : Dev Cert.Bout.nD → PrngReg), Pre_Bout m →
    θ_run (Cert.Bout.defs (F := Bits)) (onTc (τ := Cert.Bout.τ) (Cert.Bout.main (F := Bits))) ⟨m, fun _ => 0, g⟩ (fun r => (∀ c : Dev Cert.Bout.nD,
      r.2.mem ((c.tc : Thread Cert.Bout.nD Cert.Bout.τ).loc Cert.Bout.main_arg0) = m ((c.tc : Thread Cert.Bout.nD Cert.Bout.τ).loc Cert.Bout.main_arg0)
      ∧ r.2.mem ((c.tc : Thread Cert.Bout.nD Cert.Bout.τ).loc Cert.Bout.main_arg1) = m ((c.tc : Thread Cert.Bout.nD Cert.Bout.τ).loc Cert.Bout.main_arg1)
      ∧ r.2.mem ((c.tc : Thread Cert.Bout.nD Cert.Bout.τ).loc Cert.Bout.main_arg2) = m ((c.tc : Thread Cert.Bout.nD Cert.Bout.τ).loc Cert.Bout.main_arg2))
      ∧ r.2.sem = fun _ => 0)

def quiescent_BoutIdeal [hBoutIdeal : Cert.BoutIdeal.Facts] : Prop :=
  ∀ (m : (ℓ : Loc Cert.BoutIdeal.nD Cert.BoutIdeal.τ Cert.BoutIdeal.sig) → Buf (Elt Ideal) ℓ) (g : Dev Cert.BoutIdeal.nD → PrngReg), Pre_BoutIdeal m →
    θ_run (Cert.BoutIdeal.defs (F := Ideal)) (onTc (τ := Cert.BoutIdeal.τ) (Cert.BoutIdeal.main (F := Ideal))) ⟨m, fun _ => 0, g⟩ (fun r => (∀ c : Dev Cert.BoutIdeal.nD,
      r.2.mem ((c.tc : Thread Cert.BoutIdeal.nD Cert.BoutIdeal.τ).loc Cert.BoutIdeal.main_arg0) = m ((c.tc : Thread Cert.BoutIdeal.nD Cert.BoutIdeal.τ).loc Cert.BoutIdeal.main_arg0)
      ∧ r.2.mem ((c.tc : Thread Cert.BoutIdeal.nD Cert.BoutIdeal.τ).loc Cert.BoutIdeal.main_arg1) = m ((c.tc : Thread Cert.BoutIdeal.nD Cert.BoutIdeal.τ).loc Cert.BoutIdeal.main_arg1)
      ∧ r.2.mem ((c.tc : Thread Cert.BoutIdeal.nD Cert.BoutIdeal.τ).loc Cert.BoutIdeal.main_arg2) = m ((c.tc : Thread Cert.BoutIdeal.nD Cert.BoutIdeal.τ).loc Cert.BoutIdeal.main_arg2))
      ∧ r.2.sem = fun _ => 0)

def quiescent_BoutRefIdeal [hBoutRefIdeal : Cert.BoutRefIdeal.Facts] : Prop :=
  ∀ (m : (ℓ : Loc Cert.BoutRefIdeal.nD Cert.BoutRefIdeal.τ Cert.BoutRefIdeal.sig) → Buf (Elt Ideal) ℓ) (g : Dev Cert.BoutRefIdeal.nD → PrngReg), Pre_BoutRefIdeal m →
    θ_run (Cert.BoutRefIdeal.defs (F := Ideal)) (onTc (τ := Cert.BoutRefIdeal.τ) (Cert.BoutRefIdeal.main (F := Ideal))) ⟨m, fun _ => 0, g⟩ (fun r => (∀ c : Dev Cert.BoutRefIdeal.nD,
      r.2.mem ((c.tc : Thread Cert.BoutRefIdeal.nD Cert.BoutRefIdeal.τ).loc Cert.BoutRefIdeal.main_arg0) = m ((c.tc : Thread Cert.BoutRefIdeal.nD Cert.BoutRefIdeal.τ).loc Cert.BoutRefIdeal.main_arg0)
      ∧ r.2.mem ((c.tc : Thread Cert.BoutRefIdeal.nD Cert.BoutRefIdeal.τ).loc Cert.BoutRefIdeal.main_arg1) = m ((c.tc : Thread Cert.BoutRefIdeal.nD Cert.BoutRefIdeal.τ).loc Cert.BoutRefIdeal.main_arg1)
      ∧ r.2.mem ((c.tc : Thread Cert.BoutRefIdeal.nD Cert.BoutRefIdeal.τ).loc Cert.BoutRefIdeal.main_arg2) = m ((c.tc : Thread Cert.BoutRefIdeal.nD Cert.BoutRefIdeal.τ).loc Cert.BoutRefIdeal.main_arg2))
      ∧ r.2.sem = fun _ => 0)

def quiescent_Kvproj [hKvproj : Cert.Kvproj.Facts] : Prop :=
  ∀ (m : (ℓ : Loc Cert.Kvproj.nD Cert.Kvproj.τ Cert.Kvproj.sig) → Buf (Elt Bits) ℓ) (g : Dev Cert.Kvproj.nD → PrngReg), Pre_Kvproj m →
    θ_run (Cert.Kvproj.defs (F := Bits)) (onTc (τ := Cert.Kvproj.τ) (Cert.Kvproj.main (F := Bits))) ⟨m, fun _ => 0, g⟩ (fun r => (∀ c : Dev Cert.Kvproj.nD,
      r.2.mem ((c.tc : Thread Cert.Kvproj.nD Cert.Kvproj.τ).loc Cert.Kvproj.main_arg0) = m ((c.tc : Thread Cert.Kvproj.nD Cert.Kvproj.τ).loc Cert.Kvproj.main_arg0)
      ∧ r.2.mem ((c.tc : Thread Cert.Kvproj.nD Cert.Kvproj.τ).loc Cert.Kvproj.main_arg1) = m ((c.tc : Thread Cert.Kvproj.nD Cert.Kvproj.τ).loc Cert.Kvproj.main_arg1))
      ∧ r.2.sem = fun _ => 0)

def quiescent_KvprojIdeal [hKvprojIdeal : Cert.KvprojIdeal.Facts] : Prop :=
  ∀ (m : (ℓ : Loc Cert.KvprojIdeal.nD Cert.KvprojIdeal.τ Cert.KvprojIdeal.sig) → Buf (Elt Ideal) ℓ) (g : Dev Cert.KvprojIdeal.nD → PrngReg), Pre_KvprojIdeal m →
    θ_run (Cert.KvprojIdeal.defs (F := Ideal)) (onTc (τ := Cert.KvprojIdeal.τ) (Cert.KvprojIdeal.main (F := Ideal))) ⟨m, fun _ => 0, g⟩ (fun r => (∀ c : Dev Cert.KvprojIdeal.nD,
      r.2.mem ((c.tc : Thread Cert.KvprojIdeal.nD Cert.KvprojIdeal.τ).loc Cert.KvprojIdeal.main_arg0) = m ((c.tc : Thread Cert.KvprojIdeal.nD Cert.KvprojIdeal.τ).loc Cert.KvprojIdeal.main_arg0)
      ∧ r.2.mem ((c.tc : Thread Cert.KvprojIdeal.nD Cert.KvprojIdeal.τ).loc Cert.KvprojIdeal.main_arg1) = m ((c.tc : Thread Cert.KvprojIdeal.nD Cert.KvprojIdeal.τ).loc Cert.KvprojIdeal.main_arg1))
      ∧ r.2.sem = fun _ => 0)

def quiescent_KvprojRefIdeal [hKvprojRefIdeal : Cert.KvprojRefIdeal.Facts] : Prop :=
  ∀ (m : (ℓ : Loc Cert.KvprojRefIdeal.nD Cert.KvprojRefIdeal.τ Cert.KvprojRefIdeal.sig) → Buf (Elt Ideal) ℓ) (g : Dev Cert.KvprojRefIdeal.nD → PrngReg), Pre_KvprojRefIdeal m →
    θ_run (Cert.KvprojRefIdeal.defs (F := Ideal)) (onTc (τ := Cert.KvprojRefIdeal.τ) (Cert.KvprojRefIdeal.main (F := Ideal))) ⟨m, fun _ => 0, g⟩ (fun r => (∀ c : Dev Cert.KvprojRefIdeal.nD,
      r.2.mem ((c.tc : Thread Cert.KvprojRefIdeal.nD Cert.KvprojRefIdeal.τ).loc Cert.KvprojRefIdeal.main_arg0) = m ((c.tc : Thread Cert.KvprojRefIdeal.nD Cert.KvprojRefIdeal.τ).loc Cert.KvprojRefIdeal.main_arg0)
      ∧ r.2.mem ((c.tc : Thread Cert.KvprojRefIdeal.nD Cert.KvprojRefIdeal.τ).loc Cert.KvprojRefIdeal.main_arg1) = m ((c.tc : Thread Cert.KvprojRefIdeal.nD Cert.KvprojRefIdeal.τ).loc Cert.KvprojRefIdeal.main_arg1))
      ∧ r.2.sem = fun _ => 0)

def quiescent_Dkvproj [hDkvproj : Cert.Dkvproj.Facts] : Prop :=
  ∀ (m : (ℓ : Loc Cert.Dkvproj.nD Cert.Dkvproj.τ Cert.Dkvproj.sig) → Buf (Elt Bits) ℓ) (g : Dev Cert.Dkvproj.nD → PrngReg), Pre_Dkvproj m →
    θ_run (Cert.Dkvproj.defs (F := Bits)) (onTc (τ := Cert.Dkvproj.τ) (Cert.Dkvproj.main (F := Bits))) ⟨m, fun _ => 0, g⟩ (fun r => (∀ c : Dev Cert.Dkvproj.nD,
      r.2.mem ((c.tc : Thread Cert.Dkvproj.nD Cert.Dkvproj.τ).loc Cert.Dkvproj.main_arg0) = m ((c.tc : Thread Cert.Dkvproj.nD Cert.Dkvproj.τ).loc Cert.Dkvproj.main_arg0)
      ∧ r.2.mem ((c.tc : Thread Cert.Dkvproj.nD Cert.Dkvproj.τ).loc Cert.Dkvproj.main_arg1) = m ((c.tc : Thread Cert.Dkvproj.nD Cert.Dkvproj.τ).loc Cert.Dkvproj.main_arg1))
      ∧ r.2.sem = fun _ => 0)

def quiescent_DkvprojIdeal [hDkvprojIdeal : Cert.DkvprojIdeal.Facts] : Prop :=
  ∀ (m : (ℓ : Loc Cert.DkvprojIdeal.nD Cert.DkvprojIdeal.τ Cert.DkvprojIdeal.sig) → Buf (Elt Ideal) ℓ) (g : Dev Cert.DkvprojIdeal.nD → PrngReg), Pre_DkvprojIdeal m →
    θ_run (Cert.DkvprojIdeal.defs (F := Ideal)) (onTc (τ := Cert.DkvprojIdeal.τ) (Cert.DkvprojIdeal.main (F := Ideal))) ⟨m, fun _ => 0, g⟩ (fun r => (∀ c : Dev Cert.DkvprojIdeal.nD,
      r.2.mem ((c.tc : Thread Cert.DkvprojIdeal.nD Cert.DkvprojIdeal.τ).loc Cert.DkvprojIdeal.main_arg0) = m ((c.tc : Thread Cert.DkvprojIdeal.nD Cert.DkvprojIdeal.τ).loc Cert.DkvprojIdeal.main_arg0)
      ∧ r.2.mem ((c.tc : Thread Cert.DkvprojIdeal.nD Cert.DkvprojIdeal.τ).loc Cert.DkvprojIdeal.main_arg1) = m ((c.tc : Thread Cert.DkvprojIdeal.nD Cert.DkvprojIdeal.τ).loc Cert.DkvprojIdeal.main_arg1))
      ∧ r.2.sem = fun _ => 0)

def quiescent_DkvprojRefIdeal [hDkvprojRefIdeal : Cert.DkvprojRefIdeal.Facts] : Prop :=
  ∀ (m : (ℓ : Loc Cert.DkvprojRefIdeal.nD Cert.DkvprojRefIdeal.τ Cert.DkvprojRefIdeal.sig) → Buf (Elt Ideal) ℓ) (g : Dev Cert.DkvprojRefIdeal.nD → PrngReg), Pre_DkvprojRefIdeal m →
    θ_run (Cert.DkvprojRefIdeal.defs (F := Ideal)) (onTc (τ := Cert.DkvprojRefIdeal.τ) (Cert.DkvprojRefIdeal.main (F := Ideal))) ⟨m, fun _ => 0, g⟩ (fun r => (∀ c : Dev Cert.DkvprojRefIdeal.nD,
      r.2.mem ((c.tc : Thread Cert.DkvprojRefIdeal.nD Cert.DkvprojRefIdeal.τ).loc Cert.DkvprojRefIdeal.main_arg0) = m ((c.tc : Thread Cert.DkvprojRefIdeal.nD Cert.DkvprojRefIdeal.τ).loc Cert.DkvprojRefIdeal.main_arg0)
      ∧ r.2.mem ((c.tc : Thread Cert.DkvprojRefIdeal.nD Cert.DkvprojRefIdeal.τ).loc Cert.DkvprojRefIdeal.main_arg1) = m ((c.tc : Thread Cert.DkvprojRefIdeal.nD Cert.DkvprojRefIdeal.τ).loc Cert.DkvprojRefIdeal.main_arg1))
      ∧ r.2.sem = fun _ => 0)

def quiescent_Wkv [hWkv : Cert.Wkv.Facts] : Prop :=
  ∀ (m : (ℓ : Loc Cert.Wkv.nD Cert.Wkv.τ Cert.Wkv.sig) → Buf (Elt Bits) ℓ) (g : Dev Cert.Wkv.nD → PrngReg), Pre_Wkv m →
    θ_run (Cert.Wkv.defs (F := Bits)) (onTc (τ := Cert.Wkv.τ) (Cert.Wkv.main (F := Bits))) ⟨m, fun _ => 0, g⟩ (fun r => (∀ c : Dev Cert.Wkv.nD,
      r.2.mem ((c.tc : Thread Cert.Wkv.nD Cert.Wkv.τ).loc Cert.Wkv.main_arg0) = m ((c.tc : Thread Cert.Wkv.nD Cert.Wkv.τ).loc Cert.Wkv.main_arg0)
      ∧ r.2.mem ((c.tc : Thread Cert.Wkv.nD Cert.Wkv.τ).loc Cert.Wkv.main_arg1) = m ((c.tc : Thread Cert.Wkv.nD Cert.Wkv.τ).loc Cert.Wkv.main_arg1))
      ∧ r.2.sem = fun _ => 0)

def quiescent_WkvIdeal [hWkvIdeal : Cert.WkvIdeal.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1))
      ∧ r.2.sem = fun _ => 0)

def quiescent_WkvRefIdeal [hWkvRefIdeal : Cert.WkvRefIdeal.Facts] : Prop :=
  ∀ (m : (ℓ : Loc Cert.WkvRefIdeal.nD Cert.WkvRefIdeal.τ Cert.WkvRefIdeal.sig) → Buf (Elt Ideal) ℓ) (g : Dev Cert.WkvRefIdeal.nD → PrngReg), Pre_WkvRefIdeal m →
    θ_run (Cert.WkvRefIdeal.defs (F := Ideal)) (onTc (τ := Cert.WkvRefIdeal.τ) (Cert.WkvRefIdeal.main (F := Ideal))) ⟨m, fun _ => 0, g⟩ (fun r => (∀ c : Dev Cert.WkvRefIdeal.nD,
      r.2.mem ((c.tc : Thread Cert.WkvRefIdeal.nD Cert.WkvRefIdeal.τ).loc Cert.WkvRefIdeal.main_arg0) = m ((c.tc : Thread Cert.WkvRefIdeal.nD Cert.WkvRefIdeal.τ).loc Cert.WkvRefIdeal.main_arg0)
      ∧ r.2.mem ((c.tc : Thread Cert.WkvRefIdeal.nD Cert.WkvRefIdeal.τ).loc Cert.WkvRefIdeal.main_arg1) = m ((c.tc : Thread Cert.WkvRefIdeal.nD Cert.WkvRefIdeal.τ).loc Cert.WkvRefIdeal.main_arg1))
      ∧ r.2.sem = fun _ => 0)

def quiescent_DmemA [hDmemA : Cert.DmemA.Facts] [hPre_finite_memory_a : Cert.Pre_finite_memory_a.Facts] : Prop :=
  ∀ (m : (ℓ : Loc Cert.DmemA.nD Cert.DmemA.τ Cert.DmemA.sig) → Buf (Elt Bits) ℓ) (g : Dev Cert.DmemA.nD → PrngReg), Pre_DmemA m →
    θ_run (Cert.DmemA.defs (F := Bits)) (onTc (τ := Cert.DmemA.τ) (Cert.DmemA.main (F := Bits))) ⟨m, fun _ => 0, g⟩ (fun r => (∀ c : Dev Cert.DmemA.nD,
      r.2.mem ((c.tc : Thread Cert.DmemA.nD Cert.DmemA.τ).loc Cert.DmemA.main_arg0) = m ((c.tc : Thread Cert.DmemA.nD Cert.DmemA.τ).loc Cert.DmemA.main_arg0)
      ∧ r.2.mem ((c.tc : Thread Cert.DmemA.nD Cert.DmemA.τ).loc Cert.DmemA.main_arg1) = m ((c.tc : Thread Cert.DmemA.nD Cert.DmemA.τ).loc Cert.DmemA.main_arg1)
      ∧ r.2.mem ((c.tc : Thread Cert.DmemA.nD Cert.DmemA.τ).loc Cert.DmemA.main_arg2) = m ((c.tc : Thread Cert.DmemA.nD Cert.DmemA.τ).loc Cert.DmemA.main_arg2))
      ∧ r.2.sem = fun _ => 0)

def quiescent_DmemAIdeal [hDmemAIdeal : Cert.DmemAIdeal.Facts] [hPre_finite_memory_a : Cert.Pre_finite_memory_a.Facts] : Prop :=
  ∀ (m : (ℓ : Loc Cert.DmemAIdeal.nD Cert.DmemAIdeal.τ Cert.DmemAIdeal.sig) → Buf (Elt Ideal) ℓ) (g : Dev Cert.DmemAIdeal.nD → PrngReg), Pre_DmemAIdeal m →
    θ_run (Cert.DmemAIdeal.defs (F := Ideal)) (onTc (τ := Cert.DmemAIdeal.τ) (Cert.DmemAIdeal.main (F := Ideal))) ⟨m, fun _ => 0, g⟩ (fun r => (∀ c : Dev Cert.DmemAIdeal.nD,
      r.2.mem ((c.tc : Thread Cert.DmemAIdeal.nD Cert.DmemAIdeal.τ).loc Cert.DmemAIdeal.main_arg0) = m ((c.tc : Thread Cert.DmemAIdeal.nD Cert.DmemAIdeal.τ).loc Cert.DmemAIdeal.main_arg0)
      ∧ r.2.mem ((c.tc : Thread Cert.DmemAIdeal.nD Cert.DmemAIdeal.τ).loc Cert.DmemAIdeal.main_arg1) = m ((c.tc : Thread Cert.DmemAIdeal.nD Cert.DmemAIdeal.τ).loc Cert.DmemAIdeal.main_arg1)
      ∧ r.2.mem ((c.tc : Thread Cert.DmemAIdeal.nD Cert.DmemAIdeal.τ).loc Cert.DmemAIdeal.main_arg2) = m ((c.tc : Thread Cert.DmemAIdeal.nD Cert.DmemAIdeal.τ).loc Cert.DmemAIdeal.main_arg2))
      ∧ r.2.sem = fun _ => 0)

def quiescent_DmemARefIdeal [hDmemARefIdeal : Cert.DmemARefIdeal.Facts] [hPre_finite_memory_a : Cert.Pre_finite_memory_a.Facts] : Prop :=
  ∀ (m : (ℓ : Loc Cert.DmemARefIdeal.nD Cert.DmemARefIdeal.τ Cert.DmemARefIdeal.sig) → Buf (Elt Ideal) ℓ) (g : Dev Cert.DmemARefIdeal.nD → PrngReg), Pre_DmemARefIdeal m →
    θ_run (Cert.DmemARefIdeal.defs (F := Ideal)) (onTc (τ := Cert.DmemARefIdeal.τ) (Cert.DmemARefIdeal.main (F := Ideal))) ⟨m, fun _ => 0, g⟩ (fun r => (∀ c : Dev Cert.DmemARefIdeal.nD,
      r.2.mem ((c.tc : Thread Cert.DmemARefIdeal.nD Cert.DmemARefIdeal.τ).loc Cert.DmemARefIdeal.main_arg0) = m ((c.tc : Thread Cert.DmemARefIdeal.nD Cert.DmemARefIdeal.τ).loc Cert.DmemARefIdeal.main_arg0)
      ∧ r.2.mem ((c.tc : Thread Cert.DmemARefIdeal.nD Cert.DmemARefIdeal.τ).loc Cert.DmemARefIdeal.main_arg1) = m ((c.tc : Thread Cert.DmemARefIdeal.nD Cert.DmemARefIdeal.τ).loc Cert.DmemARefIdeal.main_arg1)
      ∧ r.2.mem ((c.tc : Thread Cert.DmemARefIdeal.nD Cert.DmemARefIdeal.τ).loc Cert.DmemARefIdeal.main_arg2) = m ((c.tc : Thread Cert.DmemARefIdeal.nD Cert.DmemARefIdeal.τ).loc Cert.DmemARefIdeal.main_arg2))
      ∧ r.2.sem = fun _ => 0)

def quiescent_DmemB [hDmemB : Cert.DmemB.Facts] [hPre_finite_memory_b : Cert.Pre_finite_memory_b.Facts] : Prop :=
  ∀ (m : (ℓ : Loc Cert.DmemB.nD Cert.DmemB.τ Cert.DmemB.sig) → Buf (Elt Bits) ℓ) (g : Dev Cert.DmemB.nD → PrngReg), Pre_DmemB m →
    θ_run (Cert.DmemB.defs (F := Bits)) (onTc (τ := Cert.DmemB.τ) (Cert.DmemB.main (F := Bits))) ⟨m, fun _ => 0, g⟩ (fun r => (∀ c : Dev Cert.DmemB.nD,
      r.2.mem ((c.tc : Thread Cert.DmemB.nD Cert.DmemB.τ).loc Cert.DmemB.main_arg0) = m ((c.tc : Thread Cert.DmemB.nD Cert.DmemB.τ).loc Cert.DmemB.main_arg0)
      ∧ r.2.mem ((c.tc : Thread Cert.DmemB.nD Cert.DmemB.τ).loc Cert.DmemB.main_arg1) = m ((c.tc : Thread Cert.DmemB.nD Cert.DmemB.τ).loc Cert.DmemB.main_arg1)
      ∧ r.2.mem ((c.tc : Thread Cert.DmemB.nD Cert.DmemB.τ).loc Cert.DmemB.main_arg2) = m ((c.tc : Thread Cert.DmemB.nD Cert.DmemB.τ).loc Cert.DmemB.main_arg2))
      ∧ r.2.sem = fun _ => 0)

def quiescent_DmemBIdeal [hDmemBIdeal : Cert.DmemBIdeal.Facts] [hPre_finite_memory_b : Cert.Pre_finite_memory_b.Facts] : Prop :=
  ∀ (m : (ℓ : Loc Cert.DmemBIdeal.nD Cert.DmemBIdeal.τ Cert.DmemBIdeal.sig) → Buf (Elt Ideal) ℓ) (g : Dev Cert.DmemBIdeal.nD → PrngReg), Pre_DmemBIdeal m →
    θ_run (Cert.DmemBIdeal.defs (F := Ideal)) (onTc (τ := Cert.DmemBIdeal.τ) (Cert.DmemBIdeal.main (F := Ideal))) ⟨m, fun _ => 0, g⟩ (fun r => (∀ c : Dev Cert.DmemBIdeal.nD,
      r.2.mem ((c.tc : Thread Cert.DmemBIdeal.nD Cert.DmemBIdeal.τ).loc Cert.DmemBIdeal.main_arg0) = m ((c.tc : Thread Cert.DmemBIdeal.nD Cert.DmemBIdeal.τ).loc Cert.DmemBIdeal.main_arg0)
      ∧ r.2.mem ((c.tc : Thread Cert.DmemBIdeal.nD Cert.DmemBIdeal.τ).loc Cert.DmemBIdeal.main_arg1) = m ((c.tc : Thread Cert.DmemBIdeal.nD Cert.DmemBIdeal.τ).loc Cert.DmemBIdeal.main_arg1)
      ∧ r.2.mem ((c.tc : Thread Cert.DmemBIdeal.nD Cert.DmemBIdeal.τ).loc Cert.DmemBIdeal.main_arg2) = m ((c.tc : Thread Cert.DmemBIdeal.nD Cert.DmemBIdeal.τ).loc Cert.DmemBIdeal.main_arg2))
      ∧ r.2.sem = fun _ => 0)

def quiescent_DmemBRefIdeal [hDmemBRefIdeal : Cert.DmemBRefIdeal.Facts] [hPre_finite_memory_b : Cert.Pre_finite_memory_b.Facts] : Prop :=
  ∀ (m : (ℓ : Loc Cert.DmemBRefIdeal.nD Cert.DmemBRefIdeal.τ Cert.DmemBRefIdeal.sig) → Buf (Elt Ideal) ℓ) (g : Dev Cert.DmemBRefIdeal.nD → PrngReg), Pre_DmemBRefIdeal m →
    θ_run (Cert.DmemBRefIdeal.defs (F := Ideal)) (onTc (τ := Cert.DmemBRefIdeal.τ) (Cert.DmemBRefIdeal.main (F := Ideal))) ⟨m, fun _ => 0, g⟩ (fun r => (∀ c : Dev Cert.DmemBRefIdeal.nD,
      r.2.mem ((c.tc : Thread Cert.DmemBRefIdeal.nD Cert.DmemBRefIdeal.τ).loc Cert.DmemBRefIdeal.main_arg0) = m ((c.tc : Thread Cert.DmemBRefIdeal.nD Cert.DmemBRefIdeal.τ).loc Cert.DmemBRefIdeal.main_arg0)
      ∧ r.2.mem ((c.tc : Thread Cert.DmemBRefIdeal.nD Cert.DmemBRefIdeal.τ).loc Cert.DmemBRefIdeal.main_arg1) = m ((c.tc : Thread Cert.DmemBRefIdeal.nD Cert.DmemBRefIdeal.τ).loc Cert.DmemBRefIdeal.main_arg1)
      ∧ r.2.mem ((c.tc : Thread Cert.DmemBRefIdeal.nD Cert.DmemBRefIdeal.τ).loc Cert.DmemBRefIdeal.main_arg2) = m ((c.tc : Thread Cert.DmemBRefIdeal.nD Cert.DmemBRefIdeal.τ).loc Cert.DmemBRefIdeal.main_arg2))
      ∧ r.2.sem = fun _ => 0)

def quiescent_Dconv [hDconv : Cert.Dconv.Facts] [hPre_finite_conv : Cert.Pre_finite_conv.Facts] : Prop :=
  ∀ (m : (ℓ : Loc Cert.Dconv.nD Cert.Dconv.τ Cert.Dconv.sig) → Buf (Elt Bits) ℓ) (g : Dev Cert.Dconv.nD → PrngReg), Pre_Dconv m →
    θ_run (Cert.Dconv.defs (F := Bits)) (onTc (τ := Cert.Dconv.τ) (Cert.Dconv.main (F := Bits))) ⟨m, fun _ => 0, g⟩ (fun r => (∀ c : Dev Cert.Dconv.nD,
      r.2.mem ((c.tc : Thread Cert.Dconv.nD Cert.Dconv.τ).loc Cert.Dconv.main_arg0) = m ((c.tc : Thread Cert.Dconv.nD Cert.Dconv.τ).loc Cert.Dconv.main_arg0)
      ∧ r.2.mem ((c.tc : Thread Cert.Dconv.nD Cert.Dconv.τ).loc Cert.Dconv.main_arg1) = m ((c.tc : Thread Cert.Dconv.nD Cert.Dconv.τ).loc Cert.Dconv.main_arg1)
      ∧ r.2.mem ((c.tc : Thread Cert.Dconv.nD Cert.Dconv.τ).loc Cert.Dconv.main_arg2) = m ((c.tc : Thread Cert.Dconv.nD Cert.Dconv.τ).loc Cert.Dconv.main_arg2)
      ∧ r.2.mem ((c.tc : Thread Cert.Dconv.nD Cert.Dconv.τ).loc Cert.Dconv.main_arg3) = m ((c.tc : Thread Cert.Dconv.nD Cert.Dconv.τ).loc Cert.Dconv.main_arg3))
      ∧ r.2.sem = fun _ => 0)

def quiescent_DconvIdeal [hDconvIdeal : Cert.DconvIdeal.Facts] [hPre_finite_conv : Cert.Pre_finite_conv.Facts] : Prop :=
  ∀ (m : (ℓ : Loc Cert.DconvIdeal.nD Cert.DconvIdeal.τ Cert.DconvIdeal.sig) → Buf (Elt Ideal) ℓ) (g : Dev Cert.DconvIdeal.nD → PrngReg), Pre_DconvIdeal m →
    θ_run (Cert.DconvIdeal.defs (F := Ideal)) (onTc (τ := Cert.DconvIdeal.τ) (Cert.DconvIdeal.main (F := Ideal))) ⟨m, fun _ => 0, g⟩ (fun r => (∀ c : Dev Cert.DconvIdeal.nD,
      r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
      ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
      ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2)
      ∧ r.2.mem ((c.tc : Thread Cert.DconvIdeal.nD Cert.DconvIdeal.τ).loc Cert.DconvIdeal.main_arg3) = m ((c.tc : Thread Cert.DconvIdeal.nD Cert.DconvIdeal.τ).loc Cert.DconvIdeal.main_arg3))
      ∧ r.2.sem = fun _ => 0)

def quiescent_DconvRefIdeal [hDconvRefIdeal : Cert.DconvRefIdeal.Facts] [hPre_finite_conv : Cert.Pre_finite_conv.Facts] : Prop :=
  ∀ (m : (ℓ : Loc Cert.DconvRefIdeal.nD Cert.DconvRefIdeal.τ Cert.DconvRefIdeal.sig) → Buf (Elt Ideal) ℓ) (g : Dev Cert.DconvRefIdeal.nD → PrngReg), Pre_DconvRefIdeal m →
    θ_run (Cert.DconvRefIdeal.defs (F := Ideal)) (onTc (τ := Cert.DconvRefIdeal.τ) (Cert.DconvRefIdeal.main (F := Ideal))) ⟨m, fun _ => 0, g⟩ (fun r => (∀ c : Dev Cert.DconvRefIdeal.nD,
      r.2.mem ((c.tc : Thread Cert.DconvRefIdeal.nD Cert.DconvRefIdeal.τ).loc Cert.DconvRefIdeal.main_arg0) = m ((c.tc : Thread Cert.DconvRefIdeal.nD Cert.DconvRefIdeal.τ).loc Cert.DconvRefIdeal.main_arg0)
      ∧ r.2.mem ((c.tc : Thread Cert.DconvRefIdeal.nD Cert.DconvRefIdeal.τ).loc Cert.DconvRefIdeal.main_arg1) = m ((c.tc : Thread Cert.DconvRefIdeal.nD Cert.DconvRefIdeal.τ).loc Cert.DconvRefIdeal.main_arg1)
      ∧ r.2.mem ((c.tc : Thread Cert.DconvRefIdeal.nD Cert.DconvRefIdeal.τ).loc Cert.DconvRefIdeal.main_arg2) = m ((c.tc : Thread Cert.DconvRefIdeal.nD Cert.DconvRefIdeal.τ).loc Cert.DconvRefIdeal.main_arg2)
      ∧ r.2.mem ((c.tc : Thread Cert.DconvRefIdeal.nD Cert.DconvRefIdeal.τ).loc Cert.DconvRefIdeal.main_arg3) = m ((c.tc : Thread Cert.DconvRefIdeal.nD Cert.DconvRefIdeal.τ).loc Cert.DconvRefIdeal.main_arg3))
      ∧ r.2.sem = fun _ => 0)

def preserves_Kernel_KernelIdeal : Prop :=
  IdealRules.named_const.Statement Cert.KernelIdeal.κ "rsqrt2" .f32 0x3F3504F3#32 (((Real.sqrt 2)⁻¹ : ℝ) : EReal)
  ∧ IdealRules.named_const.Statement Cert.KernelIdeal.κ "rsqrt2pi" .f32 0x3ECC422A#32 (((Real.sqrt (2 * Real.pi))⁻¹ : ℝ) : EReal)

def algebraic_KernelIdeal_ReferenceIdeal [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v70) = v3 c
          ∧ r.2.mem ((c.tc : Thread Cert.ReferenceIdeal.nD Cert.ReferenceIdeal.τ).loc Cert.ReferenceIdeal.main_v113) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ddown_DdownIdeal : Prop :=
  True

def algebraic_DdownIdeal_DdownRefIdeal [hDdownIdeal : Cert.DdownIdeal.Facts] [hDdownRefIdeal : Cert.DdownRefIdeal.Facts] : Prop :=
  ∀ (m : (ℓ : Loc Cert.DdownIdeal.nD Cert.DdownIdeal.τ Cert.DdownIdeal.sig) → Buf (Elt Ideal) ℓ) (g : Dev Cert.DdownIdeal.nD → PrngReg)
    (m' : (ℓ : Loc Cert.DdownRefIdeal.nD Cert.DdownRefIdeal.τ Cert.DdownRefIdeal.sig) → Buf (Elt Ideal) ℓ) (g' : Dev Cert.DdownRefIdeal.nD → PrngReg), Pre_DdownIdeal m →
    (∀ c : Dev Cert.DdownIdeal.nD,
      m' ((c.tc : Thread Cert.DdownRefIdeal.nD Cert.DdownRefIdeal.τ).loc Cert.DdownRefIdeal.main_arg0) = m ((c.tc : Thread Cert.DdownIdeal.nD Cert.DdownIdeal.τ).loc Cert.DdownIdeal.main_arg0)
      ∧ m' ((c.tc : Thread Cert.DdownRefIdeal.nD Cert.DdownRefIdeal.τ).loc Cert.DdownRefIdeal.main_arg1) = m ((c.tc : Thread Cert.DdownIdeal.nD Cert.DdownIdeal.τ).loc Cert.DdownIdeal.main_arg1)) →
    ∃ (v0 : (c : Dev Cert.DdownIdeal.nD) → Buf (Elt Ideal) ((c.tc : Thread Cert.DdownIdeal.nD Cert.DdownIdeal.τ).loc Cert.DdownIdeal.main_v0)),
      θ_run (Cert.DdownIdeal.defs (F := Ideal)) (onTc (τ := Cert.DdownIdeal.τ) (Cert.DdownIdeal.main (F := Ideal))) ⟨m, fun _ => 0, g⟩ (fun r => ∀ c : Dev Cert.DdownIdeal.nD,
          r.2.mem ((c.tc : Thread Cert.DdownIdeal.nD Cert.DdownIdeal.τ).loc Cert.DdownIdeal.main_v0) = v0 c
          ∧ r.2.mem ((c.tc : Thread Cert.DdownIdeal.nD Cert.DdownIdeal.τ).loc Cert.DdownIdeal.main_arg0) = m ((c.tc : Thread Cert.DdownIdeal.nD Cert.DdownIdeal.τ).loc Cert.DdownIdeal.main_arg0)
          ∧ r.2.mem ((c.tc : Thread Cert.DdownIdeal.nD Cert.DdownIdeal.τ).loc Cert.DdownIdeal.main_arg1) = m ((c.tc : Thread Cert.DdownIdeal.nD Cert.DdownIdeal.τ).loc Cert.DdownIdeal.main_arg1))
      ∧ θ_run (Cert.DdownRefIdeal.defs (F := Ideal)) (onTc (τ := Cert.DdownRefIdeal.τ) (Cert.DdownRefIdeal.main (F := Ideal))) ⟨m', fun _ => 0, g'⟩ (fun r => ∀ c : Dev Cert.DdownRefIdeal.nD,
          r.2.mem ((c.tc : Thread Cert.DdownRefIdeal.nD Cert.DdownRefIdeal.τ).loc Cert.DdownRefIdeal.main_v4) = v0 c
          ∧ r.2.mem ((c.tc : Thread Cert.DdownRefIdeal.nD Cert.DdownRefIdeal.τ).loc Cert.DdownRefIdeal.main_arg0) = m' ((c.tc : Thread Cert.DdownRefIdeal.nD Cert.DdownRefIdeal.τ).loc Cert.DdownRefIdeal.main_arg0)
          ∧ r.2.mem ((c.tc : Thread Cert.DdownRefIdeal.nD Cert.DdownRefIdeal.τ).loc Cert.DdownRefIdeal.main_arg1) = m' ((c.tc : Thread Cert.DdownRefIdeal.nD Cert.DdownRefIdeal.τ).loc Cert.DdownRefIdeal.main_arg1))

def preserves_Wdown_WdownIdeal : Prop :=
  True

def algebraic_WdownIdeal_WdownRefIdeal [hWdownIdeal : Cert.WdownIdeal.Facts] [hWdownRefIdeal : Cert.WdownRefIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)) →
    ∃ (v0 : (c : Dev Cert.WdownIdeal.nD) → Buf (Elt Ideal) ((c.tc : Thread Cert.WdownIdeal.nD Cert.WdownIdeal.τ).loc Cert.WdownIdeal.main_v0)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v0) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v6) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1))

def preserves_Dup_DupIdeal : Prop :=
  True

def algebraic_DupIdeal_DupRefIdeal [hDupIdeal : Cert.DupIdeal.Facts] [hDupRefIdeal : Cert.DupRefIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)) →
    ∃ (v0 : (c : Dev Cert.DupIdeal.nD) → Buf (Elt Ideal) ((c.tc : Thread Cert.DupIdeal.nD Cert.DupIdeal.τ).loc Cert.DupIdeal.main_v0)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v0) = v0 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v8) = v0 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1))

def preserves_Wup_WupIdeal : Prop :=
  True

def algebraic_WupIdeal_WupRefIdeal [hWupIdeal : Cert.WupIdeal.Facts] [hWupRefIdeal : Cert.WupRefIdeal.Facts] : Prop :=
  ∀ (m : (ℓ : Loc Cert.WupIdeal.nD Cert.WupIdeal.τ Cert.WupIdeal.sig) → Buf (Elt Ideal) ℓ) (g : Dev Cert.WupIdeal.nD → PrngReg)
    (m' : (ℓ : Loc Cert.WupRefIdeal.nD Cert.WupRefIdeal.τ Cert.WupRefIdeal.sig) → Buf (Elt Ideal) ℓ) (g' : Dev Cert.WupRefIdeal.nD → PrngReg), Pre_WupIdeal m →
    (∀ c : Dev Cert.WupIdeal.nD,
      m' ((c.tc : Thread Cert.WupRefIdeal.nD Cert.WupRefIdeal.τ).loc Cert.WupRefIdeal.main_arg0) = m ((c.tc : Thread Cert.WupIdeal.nD Cert.WupIdeal.τ).loc Cert.WupIdeal.main_arg0)
      ∧ m' ((c.tc : Thread Cert.WupRefIdeal.nD Cert.WupRefIdeal.τ).loc Cert.WupRefIdeal.main_arg1) = m ((c.tc : Thread Cert.WupIdeal.nD Cert.WupIdeal.τ).loc Cert.WupIdeal.main_arg1)) →
    ∃ (v0 : (c : Dev Cert.WupIdeal.nD) → Buf (Elt Ideal) ((c.tc : Thread Cert.WupIdeal.nD Cert.WupIdeal.τ).loc Cert.WupIdeal.main_v0)),
      θ_run (Cert.WupIdeal.defs (F := Ideal)) (onTc (τ := Cert.WupIdeal.τ) (Cert.WupIdeal.main (F := Ideal))) ⟨m, fun _ => 0, g⟩ (fun r => ∀ c : Dev Cert.WupIdeal.nD,
          r.2.mem ((c.tc : Thread Cert.WupIdeal.nD Cert.WupIdeal.τ).loc Cert.WupIdeal.main_v0) = v0 c
          ∧ r.2.mem ((c.tc : Thread Cert.WupIdeal.nD Cert.WupIdeal.τ).loc Cert.WupIdeal.main_arg0) = m ((c.tc : Thread Cert.WupIdeal.nD Cert.WupIdeal.τ).loc Cert.WupIdeal.main_arg0)
          ∧ r.2.mem ((c.tc : Thread Cert.WupIdeal.nD Cert.WupIdeal.τ).loc Cert.WupIdeal.main_arg1) = m ((c.tc : Thread Cert.WupIdeal.nD Cert.WupIdeal.τ).loc Cert.WupIdeal.main_arg1))
      ∧ θ_run (Cert.WupRefIdeal.defs (F := Ideal)) (onTc (τ := Cert.WupRefIdeal.τ) (Cert.WupRefIdeal.main (F := Ideal))) ⟨m', fun _ => 0, g'⟩ (fun r => ∀ c : Dev Cert.WupRefIdeal.nD,
          r.2.mem ((c.tc : Thread Cert.WupRefIdeal.nD Cert.WupRefIdeal.τ).loc Cert.WupRefIdeal.main_v11) = v0 c
          ∧ r.2.mem ((c.tc : Thread Cert.WupRefIdeal.nD Cert.WupRefIdeal.τ).loc Cert.WupRefIdeal.main_arg0) = m' ((c.tc : Thread Cert.WupRefIdeal.nD Cert.WupRefIdeal.τ).loc Cert.WupRefIdeal.main_arg0)
          ∧ r.2.mem ((c.tc : Thread Cert.WupRefIdeal.nD Cert.WupRefIdeal.τ).loc Cert.WupRefIdeal.main_arg1) = m' ((c.tc : Thread Cert.WupRefIdeal.nD Cert.WupRefIdeal.τ).loc Cert.WupRefIdeal.main_arg1))

def preserves_Dbin_DbinIdeal : Prop :=
  True

def algebraic_DbinIdeal_DbinRefIdeal [hDbinIdeal : Cert.DbinIdeal.Facts] [hDbinRefIdeal : Cert.DbinRefIdeal.Facts] : Prop :=
  ∀ (m : (ℓ : Loc Cert.DbinIdeal.nD Cert.DbinIdeal.τ Cert.DbinIdeal.sig) → Buf (Elt Ideal) ℓ) (g : Dev Cert.DbinIdeal.nD → PrngReg)
    (m' : (ℓ : Loc Cert.DbinRefIdeal.nD Cert.DbinRefIdeal.τ Cert.DbinRefIdeal.sig) → Buf (Elt Ideal) ℓ) (g' : Dev Cert.DbinRefIdeal.nD → PrngReg), Pre_DbinIdeal m →
    (∀ c : Dev Cert.DbinIdeal.nD,
      m' ((c.tc : Thread Cert.DbinRefIdeal.nD Cert.DbinRefIdeal.τ).loc Cert.DbinRefIdeal.main_arg0) = m ((c.tc : Thread Cert.DbinIdeal.nD Cert.DbinIdeal.τ).loc Cert.DbinIdeal.main_arg0)
      ∧ m' ((c.tc : Thread Cert.DbinRefIdeal.nD Cert.DbinRefIdeal.τ).loc Cert.DbinRefIdeal.main_arg1) = m ((c.tc : Thread Cert.DbinIdeal.nD Cert.DbinIdeal.τ).loc Cert.DbinIdeal.main_arg1)) →
    ∃ (v0 : (c : Dev Cert.DbinIdeal.nD) → Buf (Elt Ideal) ((c.tc : Thread Cert.DbinIdeal.nD Cert.DbinIdeal.τ).loc Cert.DbinIdeal.main_v0)),
      θ_run (Cert.DbinIdeal.defs (F := Ideal)) (onTc (τ := Cert.DbinIdeal.τ) (Cert.DbinIdeal.main (F := Ideal))) ⟨m, fun _ => 0, g⟩ (fun r => ∀ c : Dev Cert.DbinIdeal.nD,
          r.2.mem ((c.tc : Thread Cert.DbinIdeal.nD Cert.DbinIdeal.τ).loc Cert.DbinIdeal.main_v0) = v0 c
          ∧ r.2.mem ((c.tc : Thread Cert.DbinIdeal.nD Cert.DbinIdeal.τ).loc Cert.DbinIdeal.main_arg0) = m ((c.tc : Thread Cert.DbinIdeal.nD Cert.DbinIdeal.τ).loc Cert.DbinIdeal.main_arg0)
          ∧ r.2.mem ((c.tc : Thread Cert.DbinIdeal.nD Cert.DbinIdeal.τ).loc Cert.DbinIdeal.main_arg1) = m ((c.tc : Thread Cert.DbinIdeal.nD Cert.DbinIdeal.τ).loc Cert.DbinIdeal.main_arg1))
      ∧ θ_run (Cert.DbinRefIdeal.defs (F := Ideal)) (onTc (τ := Cert.DbinRefIdeal.τ) (Cert.DbinRefIdeal.main (F := Ideal))) ⟨m', fun _ => 0, g'⟩ (fun r => ∀ c : Dev Cert.DbinRefIdeal.nD,
          r.2.mem ((c.tc : Thread Cert.DbinRefIdeal.nD Cert.DbinRefIdeal.τ).loc Cert.DbinRefIdeal.main_v4) = v0 c
          ∧ r.2.mem ((c.tc : Thread Cert.DbinRefIdeal.nD Cert.DbinRefIdeal.τ).loc Cert.DbinRefIdeal.main_arg0) = m' ((c.tc : Thread Cert.DbinRefIdeal.nD Cert.DbinRefIdeal.τ).loc Cert.DbinRefIdeal.main_arg0)
          ∧ r.2.mem ((c.tc : Thread Cert.DbinRefIdeal.nD Cert.DbinRefIdeal.τ).loc Cert.DbinRefIdeal.main_arg1) = m' ((c.tc : Thread Cert.DbinRefIdeal.nD Cert.DbinRefIdeal.τ).loc Cert.DbinRefIdeal.main_arg1))

def preserves_Wbin_WbinIdeal : Prop :=
  True

def algebraic_WbinIdeal_WbinRefIdeal [hWbinIdeal : Cert.WbinIdeal.Facts] [hWbinRefIdeal : Cert.WbinRefIdeal.Facts] : Prop :=
  ∀ (m : (ℓ : Loc Cert.WbinIdeal.nD Cert.WbinIdeal.τ Cert.WbinIdeal.sig) → Buf (Elt Ideal) ℓ) (g : Dev Cert.WbinIdeal.nD → PrngReg)
    (m' : (ℓ : Loc Cert.WbinRefIdeal.nD Cert.WbinRefIdeal.τ Cert.WbinRefIdeal.sig) → Buf (Elt Ideal) ℓ) (g' : Dev Cert.WbinRefIdeal.nD → PrngReg), Pre_WbinIdeal m →
    (∀ c : Dev Cert.WbinIdeal.nD,
      m' ((c.tc : Thread Cert.WbinRefIdeal.nD Cert.WbinRefIdeal.τ).loc Cert.WbinRefIdeal.main_arg0) = m ((c.tc : Thread Cert.WbinIdeal.nD Cert.WbinIdeal.τ).loc Cert.WbinIdeal.main_arg0)
      ∧ m' ((c.tc : Thread Cert.WbinRefIdeal.nD Cert.WbinRefIdeal.τ).loc Cert.WbinRefIdeal.main_arg1) = m ((c.tc : Thread Cert.WbinIdeal.nD Cert.WbinIdeal.τ).loc Cert.WbinIdeal.main_arg1)) →
    ∃ (v0 : (c : Dev Cert.WbinIdeal.nD) → Buf (Elt Ideal) ((c.tc : Thread Cert.WbinIdeal.nD Cert.WbinIdeal.τ).loc Cert.WbinIdeal.main_v0)),
      θ_run (Cert.WbinIdeal.defs (F := Ideal)) (onTc (τ := Cert.WbinIdeal.τ) (Cert.WbinIdeal.main (F := Ideal))) ⟨m, fun _ => 0, g⟩ (fun r => ∀ c : Dev Cert.WbinIdeal.nD,
          r.2.mem ((c.tc : Thread Cert.WbinIdeal.nD Cert.WbinIdeal.τ).loc Cert.WbinIdeal.main_v0) = v0 c
          ∧ r.2.mem ((c.tc : Thread Cert.WbinIdeal.nD Cert.WbinIdeal.τ).loc Cert.WbinIdeal.main_arg0) = m ((c.tc : Thread Cert.WbinIdeal.nD Cert.WbinIdeal.τ).loc Cert.WbinIdeal.main_arg0)
          ∧ r.2.mem ((c.tc : Thread Cert.WbinIdeal.nD Cert.WbinIdeal.τ).loc Cert.WbinIdeal.main_arg1) = m ((c.tc : Thread Cert.WbinIdeal.nD Cert.WbinIdeal.τ).loc Cert.WbinIdeal.main_arg1))
      ∧ θ_run (Cert.WbinRefIdeal.defs (F := Ideal)) (onTc (τ := Cert.WbinRefIdeal.τ) (Cert.WbinRefIdeal.main (F := Ideal))) ⟨m', fun _ => 0, g'⟩ (fun r => ∀ c : Dev Cert.WbinRefIdeal.nD,
          r.2.mem ((c.tc : Thread Cert.WbinRefIdeal.nD Cert.WbinRefIdeal.τ).loc Cert.WbinRefIdeal.main_v7) = v0 c
          ∧ r.2.mem ((c.tc : Thread Cert.WbinRefIdeal.nD Cert.WbinRefIdeal.τ).loc Cert.WbinRefIdeal.main_arg0) = m' ((c.tc : Thread Cert.WbinRefIdeal.nD Cert.WbinRefIdeal.τ).loc Cert.WbinRefIdeal.main_arg0)
          ∧ r.2.mem ((c.tc : Thread Cert.WbinRefIdeal.nD Cert.WbinRefIdeal.τ).loc Cert.WbinRefIdeal.main_arg1) = m' ((c.tc : Thread Cert.WbinRefIdeal.nD Cert.WbinRefIdeal.τ).loc Cert.WbinRefIdeal.main_arg1))

def preserves_Dbout_DboutIdeal : Prop :=
  True

def algebraic_DboutIdeal_DboutRefIdeal [hDboutIdeal : Cert.DboutIdeal.Facts] [hDboutRefIdeal : Cert.DboutRefIdeal.Facts] : Prop :=
  ∀ (m : (ℓ : Loc Cert.DboutIdeal.nD Cert.DboutIdeal.τ Cert.DboutIdeal.sig) → Buf (Elt Ideal) ℓ) (g : Dev Cert.DboutIdeal.nD → PrngReg)
    (m' : (ℓ : Loc Cert.DboutRefIdeal.nD Cert.DboutRefIdeal.τ Cert.DboutRefIdeal.sig) → Buf (Elt Ideal) ℓ) (g' : Dev Cert.DboutRefIdeal.nD → PrngReg), Pre_DboutIdeal m →
    (∀ c : Dev Cert.DboutIdeal.nD,
      m' ((c.tc : Thread Cert.DboutRefIdeal.nD Cert.DboutRefIdeal.τ).loc Cert.DboutRefIdeal.main_arg0) = m ((c.tc : Thread Cert.DboutIdeal.nD Cert.DboutIdeal.τ).loc Cert.DboutIdeal.main_arg0)
      ∧ m' ((c.tc : Thread Cert.DboutRefIdeal.nD Cert.DboutRefIdeal.τ).loc Cert.DboutRefIdeal.main_arg1) = m ((c.tc : Thread Cert.DboutIdeal.nD Cert.DboutIdeal.τ).loc Cert.DboutIdeal.main_arg1)) →
    ∃ (v0 : (c : Dev Cert.DboutIdeal.nD) → Buf (Elt Ideal) ((c.tc : Thread Cert.DboutIdeal.nD Cert.DboutIdeal.τ).loc Cert.DboutIdeal.main_v0)),
      θ_run (Cert.DboutIdeal.defs (F := Ideal)) (onTc (τ := Cert.DboutIdeal.τ) (Cert.DboutIdeal.main (F := Ideal))) ⟨m, fun _ => 0, g⟩ (fun r => ∀ c : Dev Cert.DboutIdeal.nD,
          r.2.mem ((c.tc : Thread Cert.DboutIdeal.nD Cert.DboutIdeal.τ).loc Cert.DboutIdeal.main_v0) = v0 c
          ∧ r.2.mem ((c.tc : Thread Cert.DboutIdeal.nD Cert.DboutIdeal.τ).loc Cert.DboutIdeal.main_arg0) = m ((c.tc : Thread Cert.DboutIdeal.nD Cert.DboutIdeal.τ).loc Cert.DboutIdeal.main_arg0)
          ∧ r.2.mem ((c.tc : Thread Cert.DboutIdeal.nD Cert.DboutIdeal.τ).loc Cert.DboutIdeal.main_arg1) = m ((c.tc : Thread Cert.DboutIdeal.nD Cert.DboutIdeal.τ).loc Cert.DboutIdeal.main_arg1))
      ∧ θ_run (Cert.DboutRefIdeal.defs (F := Ideal)) (onTc (τ := Cert.DboutRefIdeal.τ) (Cert.DboutRefIdeal.main (F := Ideal))) ⟨m', fun _ => 0, g'⟩ (fun r => ∀ c : Dev Cert.DboutRefIdeal.nD,
          r.2.mem ((c.tc : Thread Cert.DboutRefIdeal.nD Cert.DboutRefIdeal.τ).loc Cert.DboutRefIdeal.main_v4) = v0 c
          ∧ r.2.mem ((c.tc : Thread Cert.DboutRefIdeal.nD Cert.DboutRefIdeal.τ).loc Cert.DboutRefIdeal.main_arg0) = m' ((c.tc : Thread Cert.DboutRefIdeal.nD Cert.DboutRefIdeal.τ).loc Cert.DboutRefIdeal.main_arg0)
          ∧ r.2.mem ((c.tc : Thread Cert.DboutRefIdeal.nD Cert.DboutRefIdeal.τ).loc Cert.DboutRefIdeal.main_arg1) = m' ((c.tc : Thread Cert.DboutRefIdeal.nD Cert.DboutRefIdeal.τ).loc Cert.DboutRefIdeal.main_arg1))

def preserves_Wbout_WboutIdeal : Prop :=
  True

def algebraic_WboutIdeal_WboutRefIdeal [hWboutIdeal : Cert.WboutIdeal.Facts] [hWboutRefIdeal : Cert.WboutRefIdeal.Facts] : Prop :=
  ∀ (m : (ℓ : Loc Cert.WboutIdeal.nD Cert.WboutIdeal.τ Cert.WboutIdeal.sig) → Buf (Elt Ideal) ℓ) (g : Dev Cert.WboutIdeal.nD → PrngReg)
    (m' : (ℓ : Loc Cert.WboutRefIdeal.nD Cert.WboutRefIdeal.τ Cert.WboutRefIdeal.sig) → Buf (Elt Ideal) ℓ) (g' : Dev Cert.WboutRefIdeal.nD → PrngReg), Pre_WboutIdeal m →
    (∀ c : Dev Cert.WboutIdeal.nD,
      m' ((c.tc : Thread Cert.WboutRefIdeal.nD Cert.WboutRefIdeal.τ).loc Cert.WboutRefIdeal.main_arg0) = m ((c.tc : Thread Cert.WboutIdeal.nD Cert.WboutIdeal.τ).loc Cert.WboutIdeal.main_arg0)
      ∧ m' ((c.tc : Thread Cert.WboutRefIdeal.nD Cert.WboutRefIdeal.τ).loc Cert.WboutRefIdeal.main_arg1) = m ((c.tc : Thread Cert.WboutIdeal.nD Cert.WboutIdeal.τ).loc Cert.WboutIdeal.main_arg1)) →
    ∃ (v0 : (c : Dev Cert.WboutIdeal.nD) → Buf (Elt Ideal) ((c.tc : Thread Cert.WboutIdeal.nD Cert.WboutIdeal.τ).loc Cert.WboutIdeal.main_v0)),
      θ_run (Cert.WboutIdeal.defs (F := Ideal)) (onTc (τ := Cert.WboutIdeal.τ) (Cert.WboutIdeal.main (F := Ideal))) ⟨m, fun _ => 0, g⟩ (fun r => ∀ c : Dev Cert.WboutIdeal.nD,
          r.2.mem ((c.tc : Thread Cert.WboutIdeal.nD Cert.WboutIdeal.τ).loc Cert.WboutIdeal.main_v0) = v0 c
          ∧ r.2.mem ((c.tc : Thread Cert.WboutIdeal.nD Cert.WboutIdeal.τ).loc Cert.WboutIdeal.main_arg0) = m ((c.tc : Thread Cert.WboutIdeal.nD Cert.WboutIdeal.τ).loc Cert.WboutIdeal.main_arg0)
          ∧ r.2.mem ((c.tc : Thread Cert.WboutIdeal.nD Cert.WboutIdeal.τ).loc Cert.WboutIdeal.main_arg1) = m ((c.tc : Thread Cert.WboutIdeal.nD Cert.WboutIdeal.τ).loc Cert.WboutIdeal.main_arg1))
      ∧ θ_run (Cert.WboutRefIdeal.defs (F := Ideal)) (onTc (τ := Cert.WboutRefIdeal.τ) (Cert.WboutRefIdeal.main (F := Ideal))) ⟨m', fun _ => 0, g'⟩ (fun r => ∀ c : Dev Cert.WboutRefIdeal.nD,
          r.2.mem ((c.tc : Thread Cert.WboutRefIdeal.nD Cert.WboutRefIdeal.τ).loc Cert.WboutRefIdeal.main_v6) = v0 c
          ∧ r.2.mem ((c.tc : Thread Cert.WboutRefIdeal.nD Cert.WboutRefIdeal.τ).loc Cert.WboutRefIdeal.main_arg0) = m' ((c.tc : Thread Cert.WboutRefIdeal.nD Cert.WboutRefIdeal.τ).loc Cert.WboutRefIdeal.main_arg0)
          ∧ r.2.mem ((c.tc : Thread Cert.WboutRefIdeal.nD Cert.WboutRefIdeal.τ).loc Cert.WboutRefIdeal.main_arg1) = m' ((c.tc : Thread Cert.WboutRefIdeal.nD Cert.WboutRefIdeal.τ).loc Cert.WboutRefIdeal.main_arg1))

def preserves_Dain_DainIdeal : Prop :=
  True

def algebraic_DainIdeal_DainRefIdeal [hDainIdeal : Cert.DainIdeal.Facts] [hDainRefIdeal : Cert.DainRefIdeal.Facts] : Prop :=
  ∀ (m : (ℓ : Loc Cert.DainIdeal.nD Cert.DainIdeal.τ Cert.DainIdeal.sig) → Buf (Elt Ideal) ℓ) (g : Dev Cert.DainIdeal.nD → PrngReg)
    (m' : (ℓ : Loc Cert.DainRefIdeal.nD Cert.DainRefIdeal.τ Cert.DainRefIdeal.sig) → Buf (Elt Ideal) ℓ) (g' : Dev Cert.DainRefIdeal.nD → PrngReg), Pre_DainIdeal m →
    (∀ c : Dev Cert.DainIdeal.nD,
      m' ((c.tc : Thread Cert.DainRefIdeal.nD Cert.DainRefIdeal.τ).loc Cert.DainRefIdeal.main_arg0) = m ((c.tc : Thread Cert.DainIdeal.nD Cert.DainIdeal.τ).loc Cert.DainIdeal.main_arg0)
      ∧ m' ((c.tc : Thread Cert.DainRefIdeal.nD Cert.DainRefIdeal.τ).loc Cert.DainRefIdeal.main_arg1) = m ((c.tc : Thread Cert.DainIdeal.nD Cert.DainIdeal.τ).loc Cert.DainIdeal.main_arg1)) →
    ∃ (v0 : (c : Dev Cert.DainIdeal.nD) → Buf (Elt Ideal) ((c.tc : Thread Cert.DainIdeal.nD Cert.DainIdeal.τ).loc Cert.DainIdeal.main_v0)),
      θ_run (Cert.DainIdeal.defs (F := Ideal)) (onTc (τ := Cert.DainIdeal.τ) (Cert.DainIdeal.main (F := Ideal))) ⟨m, fun _ => 0, g⟩ (fun r => ∀ c : Dev Cert.DainIdeal.nD,
          r.2.mem ((c.tc : Thread Cert.DainIdeal.nD Cert.DainIdeal.τ).loc Cert.DainIdeal.main_v0) = v0 c
          ∧ r.2.mem ((c.tc : Thread Cert.DainIdeal.nD Cert.DainIdeal.τ).loc Cert.DainIdeal.main_arg0) = m ((c.tc : Thread Cert.DainIdeal.nD Cert.DainIdeal.τ).loc Cert.DainIdeal.main_arg0)
          ∧ r.2.mem ((c.tc : Thread Cert.DainIdeal.nD Cert.DainIdeal.τ).loc Cert.DainIdeal.main_arg1) = m ((c.tc : Thread Cert.DainIdeal.nD Cert.DainIdeal.τ).loc Cert.DainIdeal.main_arg1))
      ∧ θ_run (Cert.DainRefIdeal.defs (F := Ideal)) (onTc (τ := Cert.DainRefIdeal.τ) (Cert.DainRefIdeal.main (F := Ideal))) ⟨m', fun _ => 0, g'⟩ (fun r => ∀ c : Dev Cert.DainRefIdeal.nD,
          r.2.mem ((c.tc : Thread Cert.DainRefIdeal.nD Cert.DainRefIdeal.τ).loc Cert.DainRefIdeal.main_v6) = v0 c
          ∧ r.2.mem ((c.tc : Thread Cert.DainRefIdeal.nD Cert.DainRefIdeal.τ).loc Cert.DainRefIdeal.main_arg0) = m' ((c.tc : Thread Cert.DainRefIdeal.nD Cert.DainRefIdeal.τ).loc Cert.DainRefIdeal.main_arg0)
          ∧ r.2.mem ((c.tc : Thread Cert.DainRefIdeal.nD Cert.DainRefIdeal.τ).loc Cert.DainRefIdeal.main_arg1) = m' ((c.tc : Thread Cert.DainRefIdeal.nD Cert.DainRefIdeal.τ).loc Cert.DainRefIdeal.main_arg1))

def preserves_Wain_WainIdeal : Prop :=
  True

def algebraic_WainIdeal_WainRefIdeal [hWainIdeal : Cert.WainIdeal.Facts] [hWainRefIdeal : Cert.WainRefIdeal.Facts] : Prop :=
  ∀ (m : (ℓ : Loc Cert.WainIdeal.nD Cert.WainIdeal.τ Cert.WainIdeal.sig) → Buf (Elt Ideal) ℓ) (g : Dev Cert.WainIdeal.nD → PrngReg)
    (m' : (ℓ : Loc Cert.WainRefIdeal.nD Cert.WainRefIdeal.τ Cert.WainRefIdeal.sig) → Buf (Elt Ideal) ℓ) (g' : Dev Cert.WainRefIdeal.nD → PrngReg), Pre_WainIdeal m →
    (∀ c : Dev Cert.WainIdeal.nD,
      m' ((c.tc : Thread Cert.WainRefIdeal.nD Cert.WainRefIdeal.τ).loc Cert.WainRefIdeal.main_arg0) = m ((c.tc : Thread Cert.WainIdeal.nD Cert.WainIdeal.τ).loc Cert.WainIdeal.main_arg0)
      ∧ m' ((c.tc : Thread Cert.WainRefIdeal.nD Cert.WainRefIdeal.τ).loc Cert.WainRefIdeal.main_arg1) = m ((c.tc : Thread Cert.WainIdeal.nD Cert.WainIdeal.τ).loc Cert.WainIdeal.main_arg1)) →
    ∃ (v0 : (c : Dev Cert.WainIdeal.nD) → Buf (Elt Ideal) ((c.tc : Thread Cert.WainIdeal.nD Cert.WainIdeal.τ).loc Cert.WainIdeal.main_v0)),
      θ_run (Cert.WainIdeal.defs (F := Ideal)) (onTc (τ := Cert.WainIdeal.τ) (Cert.WainIdeal.main (F := Ideal))) ⟨m, fun _ => 0, g⟩ (fun r => ∀ c : Dev Cert.WainIdeal.nD,
          r.2.mem ((c.tc : Thread Cert.WainIdeal.nD Cert.WainIdeal.τ).loc Cert.WainIdeal.main_v0) = v0 c
          ∧ r.2.mem ((c.tc : Thread Cert.WainIdeal.nD Cert.WainIdeal.τ).loc Cert.WainIdeal.main_arg0) = m ((c.tc : Thread Cert.WainIdeal.nD Cert.WainIdeal.τ).loc Cert.WainIdeal.main_arg0)
          ∧ r.2.mem ((c.tc : Thread Cert.WainIdeal.nD Cert.WainIdeal.τ).loc Cert.WainIdeal.main_arg1) = m ((c.tc : Thread Cert.WainIdeal.nD Cert.WainIdeal.τ).loc Cert.WainIdeal.main_arg1))
      ∧ θ_run (Cert.WainRefIdeal.defs (F := Ideal)) (onTc (τ := Cert.WainRefIdeal.τ) (Cert.WainRefIdeal.main (F := Ideal))) ⟨m', fun _ => 0, g'⟩ (fun r => ∀ c : Dev Cert.WainRefIdeal.nD,
          r.2.mem ((c.tc : Thread Cert.WainRefIdeal.nD Cert.WainRefIdeal.τ).loc Cert.WainRefIdeal.main_v9) = v0 c
          ∧ r.2.mem ((c.tc : Thread Cert.WainRefIdeal.nD Cert.WainRefIdeal.τ).loc Cert.WainRefIdeal.main_arg0) = m' ((c.tc : Thread Cert.WainRefIdeal.nD Cert.WainRefIdeal.τ).loc Cert.WainRefIdeal.main_arg0)
          ∧ r.2.mem ((c.tc : Thread Cert.WainRefIdeal.nD Cert.WainRefIdeal.τ).loc Cert.WainRefIdeal.main_arg1) = m' ((c.tc : Thread Cert.WainRefIdeal.nD Cert.WainRefIdeal.τ).loc Cert.WainRefIdeal.main_arg1))

def preserves_Daout_DaoutIdeal : Prop :=
  True

def algebraic_DaoutIdeal_DaoutRefIdeal [hDaoutIdeal : Cert.DaoutIdeal.Facts] [hDaoutRefIdeal : Cert.DaoutRefIdeal.Facts] : Prop :=
  ∀ (m : (ℓ : Loc Cert.DaoutIdeal.nD Cert.DaoutIdeal.τ Cert.DaoutIdeal.sig) → Buf (Elt Ideal) ℓ) (g : Dev Cert.DaoutIdeal.nD → PrngReg)
    (m' : (ℓ : Loc Cert.DaoutRefIdeal.nD Cert.DaoutRefIdeal.τ Cert.DaoutRefIdeal.sig) → Buf (Elt Ideal) ℓ) (g' : Dev Cert.DaoutRefIdeal.nD → PrngReg), Pre_DaoutIdeal m →
    (∀ c : Dev Cert.DaoutIdeal.nD,
      m' ((c.tc : Thread Cert.DaoutRefIdeal.nD Cert.DaoutRefIdeal.τ).loc Cert.DaoutRefIdeal.main_arg0) = m ((c.tc : Thread Cert.DaoutIdeal.nD Cert.DaoutIdeal.τ).loc Cert.DaoutIdeal.main_arg0)
      ∧ m' ((c.tc : Thread Cert.DaoutRefIdeal.nD Cert.DaoutRefIdeal.τ).loc Cert.DaoutRefIdeal.main_arg1) = m ((c.tc : Thread Cert.DaoutIdeal.nD Cert.DaoutIdeal.τ).loc Cert.DaoutIdeal.main_arg1)) →
    ∃ (v0 : (c : Dev Cert.DaoutIdeal.nD) → Buf (Elt Ideal) ((c.tc : Thread Cert.DaoutIdeal.nD Cert.DaoutIdeal.τ).loc Cert.DaoutIdeal.main_v0)),
      θ_run (Cert.DaoutIdeal.defs (F := Ideal)) (onTc (τ := Cert.DaoutIdeal.τ) (Cert.DaoutIdeal.main (F := Ideal))) ⟨m, fun _ => 0, g⟩ (fun r => ∀ c : Dev Cert.DaoutIdeal.nD,
          r.2.mem ((c.tc : Thread Cert.DaoutIdeal.nD Cert.DaoutIdeal.τ).loc Cert.DaoutIdeal.main_v0) = v0 c
          ∧ r.2.mem ((c.tc : Thread Cert.DaoutIdeal.nD Cert.DaoutIdeal.τ).loc Cert.DaoutIdeal.main_arg0) = m ((c.tc : Thread Cert.DaoutIdeal.nD Cert.DaoutIdeal.τ).loc Cert.DaoutIdeal.main_arg0)
          ∧ r.2.mem ((c.tc : Thread Cert.DaoutIdeal.nD Cert.DaoutIdeal.τ).loc Cert.DaoutIdeal.main_arg1) = m ((c.tc : Thread Cert.DaoutIdeal.nD Cert.DaoutIdeal.τ).loc Cert.DaoutIdeal.main_arg1))
      ∧ θ_run (Cert.DaoutRefIdeal.defs (F := Ideal)) (onTc (τ := Cert.DaoutRefIdeal.τ) (Cert.DaoutRefIdeal.main (F := Ideal))) ⟨m', fun _ => 0, g'⟩ (fun r => ∀ c : Dev Cert.DaoutRefIdeal.nD,
          r.2.mem ((c.tc : Thread Cert.DaoutRefIdeal.nD Cert.DaoutRefIdeal.τ).loc Cert.DaoutRefIdeal.main_v6) = v0 c
          ∧ r.2.mem ((c.tc : Thread Cert.DaoutRefIdeal.nD Cert.DaoutRefIdeal.τ).loc Cert.DaoutRefIdeal.main_arg0) = m' ((c.tc : Thread Cert.DaoutRefIdeal.nD Cert.DaoutRefIdeal.τ).loc Cert.DaoutRefIdeal.main_arg0)
          ∧ r.2.mem ((c.tc : Thread Cert.DaoutRefIdeal.nD Cert.DaoutRefIdeal.τ).loc Cert.DaoutRefIdeal.main_arg1) = m' ((c.tc : Thread Cert.DaoutRefIdeal.nD Cert.DaoutRefIdeal.τ).loc Cert.DaoutRefIdeal.main_arg1))

def preserves_Waout_WaoutIdeal : Prop :=
  True

def algebraic_WaoutIdeal_WaoutRefIdeal [hWaoutIdeal : Cert.WaoutIdeal.Facts] [hWaoutRefIdeal : Cert.WaoutRefIdeal.Facts] : Prop :=
  ∀ (m : (ℓ : Loc Cert.WaoutIdeal.nD Cert.WaoutIdeal.τ Cert.WaoutIdeal.sig) → Buf (Elt Ideal) ℓ) (g : Dev Cert.WaoutIdeal.nD → PrngReg)
    (m' : (ℓ : Loc Cert.WaoutRefIdeal.nD Cert.WaoutRefIdeal.τ Cert.WaoutRefIdeal.sig) → Buf (Elt Ideal) ℓ) (g' : Dev Cert.WaoutRefIdeal.nD → PrngReg), Pre_WaoutIdeal m →
    (∀ c : Dev Cert.WaoutIdeal.nD,
      m' ((c.tc : Thread Cert.WaoutRefIdeal.nD Cert.WaoutRefIdeal.τ).loc Cert.WaoutRefIdeal.main_arg0) = m ((c.tc : Thread Cert.WaoutIdeal.nD Cert.WaoutIdeal.τ).loc Cert.WaoutIdeal.main_arg0)
      ∧ m' ((c.tc : Thread Cert.WaoutRefIdeal.nD Cert.WaoutRefIdeal.τ).loc Cert.WaoutRefIdeal.main_arg1) = m ((c.tc : Thread Cert.WaoutIdeal.nD Cert.WaoutIdeal.τ).loc Cert.WaoutIdeal.main_arg1)) →
    ∃ (v0 : (c : Dev Cert.WaoutIdeal.nD) → Buf (Elt Ideal) ((c.tc : Thread Cert.WaoutIdeal.nD Cert.WaoutIdeal.τ).loc Cert.WaoutIdeal.main_v0)),
      θ_run (Cert.WaoutIdeal.defs (F := Ideal)) (onTc (τ := Cert.WaoutIdeal.τ) (Cert.WaoutIdeal.main (F := Ideal))) ⟨m, fun _ => 0, g⟩ (fun r => ∀ c : Dev Cert.WaoutIdeal.nD,
          r.2.mem ((c.tc : Thread Cert.WaoutIdeal.nD Cert.WaoutIdeal.τ).loc Cert.WaoutIdeal.main_v0) = v0 c
          ∧ r.2.mem ((c.tc : Thread Cert.WaoutIdeal.nD Cert.WaoutIdeal.τ).loc Cert.WaoutIdeal.main_arg0) = m ((c.tc : Thread Cert.WaoutIdeal.nD Cert.WaoutIdeal.τ).loc Cert.WaoutIdeal.main_arg0)
          ∧ r.2.mem ((c.tc : Thread Cert.WaoutIdeal.nD Cert.WaoutIdeal.τ).loc Cert.WaoutIdeal.main_arg1) = m ((c.tc : Thread Cert.WaoutIdeal.nD Cert.WaoutIdeal.τ).loc Cert.WaoutIdeal.main_arg1))
      ∧ θ_run (Cert.WaoutRefIdeal.defs (F := Ideal)) (onTc (τ := Cert.WaoutRefIdeal.τ) (Cert.WaoutRefIdeal.main (F := Ideal))) ⟨m', fun _ => 0, g'⟩ (fun r => ∀ c : Dev Cert.WaoutRefIdeal.nD,
          r.2.mem ((c.tc : Thread Cert.WaoutRefIdeal.nD Cert.WaoutRefIdeal.τ).loc Cert.WaoutRefIdeal.main_v8) = v0 c
          ∧ r.2.mem ((c.tc : Thread Cert.WaoutRefIdeal.nD Cert.WaoutRefIdeal.τ).loc Cert.WaoutRefIdeal.main_arg0) = m' ((c.tc : Thread Cert.WaoutRefIdeal.nD Cert.WaoutRefIdeal.τ).loc Cert.WaoutRefIdeal.main_arg0)
          ∧ r.2.mem ((c.tc : Thread Cert.WaoutRefIdeal.nD Cert.WaoutRefIdeal.τ).loc Cert.WaoutRefIdeal.main_arg1) = m' ((c.tc : Thread Cert.WaoutRefIdeal.nD Cert.WaoutRefIdeal.τ).loc Cert.WaoutRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v6) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Ain_AinIdeal : Prop :=
  True

def algebraic_AinIdeal_AinRefIdeal [hAinIdeal : Cert.AinIdeal.Facts] [hAinRefIdeal : Cert.AinRefIdeal.Facts] : Prop :=
  ∀ (m : (ℓ : Loc Cert.AinIdeal.nD Cert.AinIdeal.τ Cert.AinIdeal.sig) → Buf (Elt Ideal) ℓ) (g : Dev Cert.AinIdeal.nD → PrngReg)
    (m' : (ℓ : Loc Cert.AinRefIdeal.nD Cert.AinRefIdeal.τ Cert.AinRefIdeal.sig) → Buf (Elt Ideal) ℓ) (g' : Dev Cert.AinRefIdeal.nD → PrngReg), Pre_AinIdeal m →
    (∀ c : Dev Cert.AinIdeal.nD,
      m' ((c.tc : Thread Cert.AinRefIdeal.nD Cert.AinRefIdeal.τ).loc Cert.AinRefIdeal.main_arg0) = m ((c.tc : Thread Cert.AinIdeal.nD Cert.AinIdeal.τ).loc Cert.AinIdeal.main_arg0)
      ∧ m' ((c.tc : Thread Cert.AinRefIdeal.nD Cert.AinRefIdeal.τ).loc Cert.AinRefIdeal.main_arg1) = m ((c.tc : Thread Cert.AinIdeal.nD Cert.AinIdeal.τ).loc Cert.AinIdeal.main_arg1)) →
    ∃ (v0 : (c : Dev Cert.AinIdeal.nD) → Buf (Elt Ideal) ((c.tc : Thread Cert.AinIdeal.nD Cert.AinIdeal.τ).loc Cert.AinIdeal.main_v0)),
      θ_run (Cert.AinIdeal.defs (F := Ideal)) (onTc (τ := Cert.AinIdeal.τ) (Cert.AinIdeal.main (F := Ideal))) ⟨m, fun _ => 0, g⟩ (fun r => ∀ c : Dev Cert.AinIdeal.nD,
          r.2.mem ((c.tc : Thread Cert.AinIdeal.nD Cert.AinIdeal.τ).loc Cert.AinIdeal.main_v0) = v0 c
          ∧ r.2.mem ((c.tc : Thread Cert.AinIdeal.nD Cert.AinIdeal.τ).loc Cert.AinIdeal.main_arg0) = m ((c.tc : Thread Cert.AinIdeal.nD Cert.AinIdeal.τ).loc Cert.AinIdeal.main_arg0)
          ∧ r.2.mem ((c.tc : Thread Cert.AinIdeal.nD Cert.AinIdeal.τ).loc Cert.AinIdeal.main_arg1) = m ((c.tc : Thread Cert.AinIdeal.nD Cert.AinIdeal.τ).loc Cert.AinIdeal.main_arg1))
      ∧ θ_run (Cert.AinRefIdeal.defs (F := Ideal)) (onTc (τ := Cert.AinRefIdeal.τ) (Cert.AinRefIdeal.main (F := Ideal))) ⟨m', fun _ => 0, g'⟩ (fun r => ∀ c : Dev Cert.AinRefIdeal.nD,
          r.2.mem ((c.tc : Thread Cert.AinRefIdeal.nD Cert.AinRefIdeal.τ).loc Cert.AinRefIdeal.main_v5) = v0 c
          ∧ r.2.mem ((c.tc : Thread Cert.AinRefIdeal.nD Cert.AinRefIdeal.τ).loc Cert.AinRefIdeal.main_arg0) = m' ((c.tc : Thread Cert.AinRefIdeal.nD Cert.AinRefIdeal.τ).loc Cert.AinRefIdeal.main_arg0)
          ∧ r.2.mem ((c.tc : Thread Cert.AinRefIdeal.nD Cert.AinRefIdeal.τ).loc Cert.AinRefIdeal.main_arg1) = m' ((c.tc : Thread Cert.AinRefIdeal.nD Cert.AinRefIdeal.τ).loc Cert.AinRefIdeal.main_arg1))

def preserves_Aout_AoutIdeal : Prop :=
  True

def algebraic_AoutIdeal_AoutRefIdeal [hAoutIdeal : Cert.AoutIdeal.Facts] [hAoutRefIdeal : Cert.AoutRefIdeal.Facts] : Prop :=
  ∀ (m : (ℓ : Loc Cert.AoutIdeal.nD Cert.AoutIdeal.τ Cert.AoutIdeal.sig) → Buf (Elt Ideal) ℓ) (g : Dev Cert.AoutIdeal.nD → PrngReg)
    (m' : (ℓ : Loc Cert.AoutRefIdeal.nD Cert.AoutRefIdeal.τ Cert.AoutRefIdeal.sig) → Buf (Elt Ideal) ℓ) (g' : Dev Cert.AoutRefIdeal.nD → PrngReg), Pre_AoutIdeal m →
    (∀ c : Dev Cert.AoutIdeal.nD,
      m' ((c.tc : Thread Cert.AoutRefIdeal.nD Cert.AoutRefIdeal.τ).loc Cert.AoutRefIdeal.main_arg0) = m ((c.tc : Thread Cert.AoutIdeal.nD Cert.AoutIdeal.τ).loc Cert.AoutIdeal.main_arg0)
      ∧ m' ((c.tc : Thread Cert.AoutRefIdeal.nD Cert.AoutRefIdeal.τ).loc Cert.AoutRefIdeal.main_arg1) = m ((c.tc : Thread Cert.AoutIdeal.nD Cert.AoutIdeal.τ).loc Cert.AoutIdeal.main_arg1)
      ∧ m' ((c.tc : Thread Cert.AoutRefIdeal.nD Cert.AoutRefIdeal.τ).loc Cert.AoutRefIdeal.main_arg2) = m ((c.tc : Thread Cert.AoutIdeal.nD Cert.AoutIdeal.τ).loc Cert.AoutIdeal.main_arg2)) →
    ∃ (v0 : (c : Dev Cert.AoutIdeal.nD) → Buf (Elt Ideal) ((c.tc : Thread Cert.AoutIdeal.nD Cert.AoutIdeal.τ).loc Cert.AoutIdeal.main_v0)),
      θ_run (Cert.AoutIdeal.defs (F := Ideal)) (onTc (τ := Cert.AoutIdeal.τ) (Cert.AoutIdeal.main (F := Ideal))) ⟨m, fun _ => 0, g⟩ (fun r => ∀ c : Dev Cert.AoutIdeal.nD,
          r.2.mem ((c.tc : Thread Cert.AoutIdeal.nD Cert.AoutIdeal.τ).loc Cert.AoutIdeal.main_v0) = v0 c
          ∧ r.2.mem ((c.tc : Thread Cert.AoutIdeal.nD Cert.AoutIdeal.τ).loc Cert.AoutIdeal.main_arg0) = m ((c.tc : Thread Cert.AoutIdeal.nD Cert.AoutIdeal.τ).loc Cert.AoutIdeal.main_arg0)
          ∧ r.2.mem ((c.tc : Thread Cert.AoutIdeal.nD Cert.AoutIdeal.τ).loc Cert.AoutIdeal.main_arg1) = m ((c.tc : Thread Cert.AoutIdeal.nD Cert.AoutIdeal.τ).loc Cert.AoutIdeal.main_arg1)
          ∧ r.2.mem ((c.tc : Thread Cert.AoutIdeal.nD Cert.AoutIdeal.τ).loc Cert.AoutIdeal.main_arg2) = m ((c.tc : Thread Cert.AoutIdeal.nD Cert.AoutIdeal.τ).loc Cert.AoutIdeal.main_arg2))
      ∧ θ_run (Cert.AoutRefIdeal.defs (F := Ideal)) (onTc (τ := Cert.AoutRefIdeal.τ) (Cert.AoutRefIdeal.main (F := Ideal))) ⟨m', fun _ => 0, g'⟩ (fun r => ∀ c : Dev Cert.AoutRefIdeal.nD,
          r.2.mem ((c.tc : Thread Cert.AoutRefIdeal.nD Cert.AoutRefIdeal.τ).loc Cert.AoutRefIdeal.main_v5) = v0 c
          ∧ r.2.mem ((c.tc : Thread Cert.AoutRefIdeal.nD Cert.AoutRefIdeal.τ).loc Cert.AoutRefIdeal.main_arg0) = m' ((c.tc : Thread Cert.AoutRefIdeal.nD Cert.AoutRefIdeal.τ).loc Cert.AoutRefIdeal.main_arg0)
          ∧ r.2.mem ((c.tc : Thread Cert.AoutRefIdeal.nD Cert.AoutRefIdeal.τ).loc Cert.AoutRefIdeal.main_arg1) = m' ((c.tc : Thread Cert.AoutRefIdeal.nD Cert.AoutRefIdeal.τ).loc Cert.AoutRefIdeal.main_arg1)
          ∧ r.2.mem ((c.tc : Thread Cert.AoutRefIdeal.nD Cert.AoutRefIdeal.τ).loc Cert.AoutRefIdeal.main_arg2) = m' ((c.tc : Thread Cert.AoutRefIdeal.nD Cert.AoutRefIdeal.τ).loc Cert.AoutRefIdeal.main_arg2))

def preserves_Bin_BinIdeal : Prop :=
  True

def algebraic_BinIdeal_BinRefIdeal [hBinIdeal : Cert.BinIdeal.Facts] [hBinRefIdeal : Cert.BinRefIdeal.Facts] : Prop :=
  ∀ (m : (ℓ : Loc Cert.BinIdeal.nD Cert.BinIdeal.τ Cert.BinIdeal.sig) → Buf (Elt Ideal) ℓ) (g : Dev Cert.BinIdeal.nD → PrngReg)
    (m' : (ℓ : Loc Cert.BinRefIdeal.nD Cert.BinRefIdeal.τ Cert.BinRefIdeal.sig) → Buf (Elt Ideal) ℓ) (g' : Dev Cert.BinRefIdeal.nD → PrngReg), Pre_BinIdeal m →
    (∀ c : Dev Cert.BinIdeal.nD,
      m' ((c.tc : Thread Cert.BinRefIdeal.nD Cert.BinRefIdeal.τ).loc Cert.BinRefIdeal.main_arg0) = m ((c.tc : Thread Cert.BinIdeal.nD Cert.BinIdeal.τ).loc Cert.BinIdeal.main_arg0)
      ∧ m' ((c.tc : Thread Cert.BinRefIdeal.nD Cert.BinRefIdeal.τ).loc Cert.BinRefIdeal.main_arg1) = m ((c.tc : Thread Cert.BinIdeal.nD Cert.BinIdeal.τ).loc Cert.BinIdeal.main_arg1)) →
    ∃ (v0 : (c : Dev Cert.BinIdeal.nD) → Buf (Elt Ideal) ((c.tc : Thread Cert.BinIdeal.nD Cert.BinIdeal.τ).loc Cert.BinIdeal.main_v0)),
      θ_run (Cert.BinIdeal.defs (F := Ideal)) (onTc (τ := Cert.BinIdeal.τ) (Cert.BinIdeal.main (F := Ideal))) ⟨m, fun _ => 0, g⟩ (fun r => ∀ c : Dev Cert.BinIdeal.nD,
          r.2.mem ((c.tc : Thread Cert.BinIdeal.nD Cert.BinIdeal.τ).loc Cert.BinIdeal.main_v0) = v0 c
          ∧ r.2.mem ((c.tc : Thread Cert.BinIdeal.nD Cert.BinIdeal.τ).loc Cert.BinIdeal.main_arg0) = m ((c.tc : Thread Cert.BinIdeal.nD Cert.BinIdeal.τ).loc Cert.BinIdeal.main_arg0)
          ∧ r.2.mem ((c.tc : Thread Cert.BinIdeal.nD Cert.BinIdeal.τ).loc Cert.BinIdeal.main_arg1) = m ((c.tc : Thread Cert.BinIdeal.nD Cert.BinIdeal.τ).loc Cert.BinIdeal.main_arg1))
      ∧ θ_run (Cert.BinRefIdeal.defs (F := Ideal)) (onTc (τ := Cert.BinRefIdeal.τ) (Cert.BinRefIdeal.main (F := Ideal))) ⟨m', fun _ => 0, g'⟩ (fun r => ∀ c : Dev Cert.BinRefIdeal.nD,
          r.2.mem ((c.tc : Thread Cert.BinRefIdeal.nD Cert.BinRefIdeal.τ).loc Cert.BinRefIdeal.main_v2) = v0 c
          ∧ r.2.mem ((c.tc : Thread Cert.BinRefIdeal.nD Cert.BinRefIdeal.τ).loc Cert.BinRefIdeal.main_arg0) = m' ((c.tc : Thread Cert.BinRefIdeal.nD Cert.BinRefIdeal.τ).loc Cert.BinRefIdeal.main_arg0)
          ∧ r.2.mem ((c.tc : Thread Cert.BinRefIdeal.nD Cert.BinRefIdeal.τ).loc Cert.BinRefIdeal.main_arg1) = m' ((c.tc : Thread Cert.BinRefIdeal.nD Cert.BinRefIdeal.τ).loc Cert.BinRefIdeal.main_arg1))

def preserves_Bout_BoutIdeal : Prop :=
  True

def algebraic_BoutIdeal_BoutRefIdeal [hBoutIdeal : Cert.BoutIdeal.Facts] [hBoutRefIdeal : Cert.BoutRefIdeal.Facts] : Prop :=
  ∀ (m : (ℓ : Loc Cert.BoutIdeal.nD Cert.BoutIdeal.τ Cert.BoutIdeal.sig) → Buf (Elt Ideal) ℓ) (g : Dev Cert.BoutIdeal.nD → PrngReg)
    (m' : (ℓ : Loc Cert.BoutRefIdeal.nD Cert.BoutRefIdeal.τ Cert.BoutRefIdeal.sig) → Buf (Elt Ideal) ℓ) (g' : Dev Cert.BoutRefIdeal.nD → PrngReg), Pre_BoutIdeal m →
    (∀ c : Dev Cert.BoutIdeal.nD,
      m' ((c.tc : Thread Cert.BoutRefIdeal.nD Cert.BoutRefIdeal.τ).loc Cert.BoutRefIdeal.main_arg0) = m ((c.tc : Thread Cert.BoutIdeal.nD Cert.BoutIdeal.τ).loc Cert.BoutIdeal.main_arg0)
      ∧ m' ((c.tc : Thread Cert.BoutRefIdeal.nD Cert.BoutRefIdeal.τ).loc Cert.BoutRefIdeal.main_arg1) = m ((c.tc : Thread Cert.BoutIdeal.nD Cert.BoutIdeal.τ).loc Cert.BoutIdeal.main_arg1)
      ∧ m' ((c.tc : Thread Cert.BoutRefIdeal.nD Cert.BoutRefIdeal.τ).loc Cert.BoutRefIdeal.main_arg2) = m ((c.tc : Thread Cert.BoutIdeal.nD Cert.BoutIdeal.τ).loc Cert.BoutIdeal.main_arg2)) →
    ∃ (v0 : (c : Dev Cert.BoutIdeal.nD) → Buf (Elt Ideal) ((c.tc : Thread Cert.BoutIdeal.nD Cert.BoutIdeal.τ).loc Cert.BoutIdeal.main_v0)),
      θ_run (Cert.BoutIdeal.defs (F := Ideal)) (onTc (τ := Cert.BoutIdeal.τ) (Cert.BoutIdeal.main (F := Ideal))) ⟨m, fun _ => 0, g⟩ (fun r => ∀ c : Dev Cert.BoutIdeal.nD,
          r.2.mem ((c.tc : Thread Cert.BoutIdeal.nD Cert.BoutIdeal.τ).loc Cert.BoutIdeal.main_v0) = v0 c
          ∧ r.2.mem ((c.tc : Thread Cert.BoutIdeal.nD Cert.BoutIdeal.τ).loc Cert.BoutIdeal.main_arg0) = m ((c.tc : Thread Cert.BoutIdeal.nD Cert.BoutIdeal.τ).loc Cert.BoutIdeal.main_arg0)
          ∧ r.2.mem ((c.tc : Thread Cert.BoutIdeal.nD Cert.BoutIdeal.τ).loc Cert.BoutIdeal.main_arg1) = m ((c.tc : Thread Cert.BoutIdeal.nD Cert.BoutIdeal.τ).loc Cert.BoutIdeal.main_arg1)
          ∧ r.2.mem ((c.tc : Thread Cert.BoutIdeal.nD Cert.BoutIdeal.τ).loc Cert.BoutIdeal.main_arg2) = m ((c.tc : Thread Cert.BoutIdeal.nD Cert.BoutIdeal.τ).loc Cert.BoutIdeal.main_arg2))
      ∧ θ_run (Cert.BoutRefIdeal.defs (F := Ideal)) (onTc (τ := Cert.BoutRefIdeal.τ) (Cert.BoutRefIdeal.main (F := Ideal))) ⟨m', fun _ => 0, g'⟩ (fun r => ∀ c : Dev Cert.BoutRefIdeal.nD,
          r.2.mem ((c.tc : Thread Cert.BoutRefIdeal.nD Cert.BoutRefIdeal.τ).loc Cert.BoutRefIdeal.main_v3) = v0 c
          ∧ r.2.mem ((c.tc : Thread Cert.BoutRefIdeal.nD Cert.BoutRefIdeal.τ).loc Cert.BoutRefIdeal.main_arg0) = m' ((c.tc : Thread Cert.BoutRefIdeal.nD Cert.BoutRefIdeal.τ).loc Cert.BoutRefIdeal.main_arg0)
          ∧ r.2.mem ((c.tc : Thread Cert.BoutRefIdeal.nD Cert.BoutRefIdeal.τ).loc Cert.BoutRefIdeal.main_arg1) = m' ((c.tc : Thread Cert.BoutRefIdeal.nD Cert.BoutRefIdeal.τ).loc Cert.BoutRefIdeal.main_arg1)
          ∧ r.2.mem ((c.tc : Thread Cert.BoutRefIdeal.nD Cert.BoutRefIdeal.τ).loc Cert.BoutRefIdeal.main_arg2) = m' ((c.tc : Thread Cert.BoutRefIdeal.nD Cert.BoutRefIdeal.τ).loc Cert.BoutRefIdeal.main_arg2))

def preserves_Kvproj_KvprojIdeal : Prop :=
  True

def algebraic_KvprojIdeal_KvprojRefIdeal [hKvprojIdeal : Cert.KvprojIdeal.Facts] [hKvprojRefIdeal : Cert.KvprojRefIdeal.Facts] : Prop :=
  ∀ (m : (ℓ : Loc Cert.KvprojIdeal.nD Cert.KvprojIdeal.τ Cert.KvprojIdeal.sig) → Buf (Elt Ideal) ℓ) (g : Dev Cert.KvprojIdeal.nD → PrngReg)
    (m' : (ℓ : Loc Cert.KvprojRefIdeal.nD Cert.KvprojRefIdeal.τ Cert.KvprojRefIdeal.sig) → Buf (Elt Ideal) ℓ) (g' : Dev Cert.KvprojRefIdeal.nD → PrngReg), Pre_KvprojIdeal m →
    (∀ c : Dev Cert.KvprojIdeal.nD,
      m' ((c.tc : Thread Cert.KvprojRefIdeal.nD Cert.KvprojRefIdeal.τ).loc Cert.KvprojRefIdeal.main_arg0) = m ((c.tc : Thread Cert.KvprojIdeal.nD Cert.KvprojIdeal.τ).loc Cert.KvprojIdeal.main_arg0)
      ∧ m' ((c.tc : Thread Cert.KvprojRefIdeal.nD Cert.KvprojRefIdeal.τ).loc Cert.KvprojRefIdeal.main_arg1) = m ((c.tc : Thread Cert.KvprojIdeal.nD Cert.KvprojIdeal.τ).loc Cert.KvprojIdeal.main_arg1)) →
    ∃ (v0 : (c : Dev Cert.KvprojIdeal.nD) → Buf (Elt Ideal) ((c.tc : Thread Cert.KvprojIdeal.nD Cert.KvprojIdeal.τ).loc Cert.KvprojIdeal.main_v0)),
      θ_run (Cert.KvprojIdeal.defs (F := Ideal)) (onTc (τ := Cert.KvprojIdeal.τ) (Cert.KvprojIdeal.main (F := Ideal))) ⟨m, fun _ => 0, g⟩ (fun r => ∀ c : Dev Cert.KvprojIdeal.nD,
          r.2.mem ((c.tc : Thread Cert.KvprojIdeal.nD Cert.KvprojIdeal.τ).loc Cert.KvprojIdeal.main_v0) = v0 c
          ∧ r.2.mem ((c.tc : Thread Cert.KvprojIdeal.nD Cert.KvprojIdeal.τ).loc Cert.KvprojIdeal.main_arg0) = m ((c.tc : Thread Cert.KvprojIdeal.nD Cert.KvprojIdeal.τ).loc Cert.KvprojIdeal.main_arg0)
          ∧ r.2.mem ((c.tc : Thread Cert.KvprojIdeal.nD Cert.KvprojIdeal.τ).loc Cert.KvprojIdeal.main_arg1) = m ((c.tc : Thread Cert.KvprojIdeal.nD Cert.KvprojIdeal.τ).loc Cert.KvprojIdeal.main_arg1))
      ∧ θ_run (Cert.KvprojRefIdeal.defs (F := Ideal)) (onTc (τ := Cert.KvprojRefIdeal.τ) (Cert.KvprojRefIdeal.main (F := Ideal))) ⟨m', fun _ => 0, g'⟩ (fun r => ∀ c : Dev Cert.KvprojRefIdeal.nD,
          r.2.mem ((c.tc : Thread Cert.KvprojRefIdeal.nD Cert.KvprojRefIdeal.τ).loc Cert.KvprojRefIdeal.main_v2) = v0 c
          ∧ r.2.mem ((c.tc : Thread Cert.KvprojRefIdeal.nD Cert.KvprojRefIdeal.τ).loc Cert.KvprojRefIdeal.main_arg0) = m' ((c.tc : Thread Cert.KvprojRefIdeal.nD Cert.KvprojRefIdeal.τ).loc Cert.KvprojRefIdeal.main_arg0)
          ∧ r.2.mem ((c.tc : Thread Cert.KvprojRefIdeal.nD Cert.KvprojRefIdeal.τ).loc Cert.KvprojRefIdeal.main_arg1) = m' ((c.tc : Thread Cert.KvprojRefIdeal.nD Cert.KvprojRefIdeal.τ).loc Cert.KvprojRefIdeal.main_arg1))

def preserves_Dkvproj_DkvprojIdeal : Prop :=
  True

def algebraic_DkvprojIdeal_DkvprojRefIdeal [hDkvprojIdeal : Cert.DkvprojIdeal.Facts] [hDkvprojRefIdeal : Cert.DkvprojRefIdeal.Facts] : Prop :=
  ∀ (m : (ℓ : Loc Cert.DkvprojIdeal.nD Cert.DkvprojIdeal.τ Cert.DkvprojIdeal.sig) → Buf (Elt Ideal) ℓ) (g : Dev Cert.DkvprojIdeal.nD → PrngReg)
    (m' : (ℓ : Loc Cert.DkvprojRefIdeal.nD Cert.DkvprojRefIdeal.τ Cert.DkvprojRefIdeal.sig) → Buf (Elt Ideal) ℓ) (g' : Dev Cert.DkvprojRefIdeal.nD → PrngReg), Pre_DkvprojIdeal m →
    (∀ c : Dev Cert.DkvprojIdeal.nD,
      m' ((c.tc : Thread Cert.DkvprojRefIdeal.nD Cert.DkvprojRefIdeal.τ).loc Cert.DkvprojRefIdeal.main_arg0) = m ((c.tc : Thread Cert.DkvprojIdeal.nD Cert.DkvprojIdeal.τ).loc Cert.DkvprojIdeal.main_arg0)
      ∧ m' ((c.tc : Thread Cert.DkvprojRefIdeal.nD Cert.DkvprojRefIdeal.τ).loc Cert.DkvprojRefIdeal.main_arg1) = m ((c.tc : Thread Cert.DkvprojIdeal.nD Cert.DkvprojIdeal.τ).loc Cert.DkvprojIdeal.main_arg1)) →
    ∃ (v0 : (c : Dev Cert.DkvprojIdeal.nD) → Buf (Elt Ideal) ((c.tc : Thread Cert.DkvprojIdeal.nD Cert.DkvprojIdeal.τ).loc Cert.DkvprojIdeal.main_v0)),
      θ_run (Cert.DkvprojIdeal.defs (F := Ideal)) (onTc (τ := Cert.DkvprojIdeal.τ) (Cert.DkvprojIdeal.main (F := Ideal))) ⟨m, fun _ => 0, g⟩ (fun r => ∀ c : Dev Cert.DkvprojIdeal.nD,
          r.2.mem ((c.tc : Thread Cert.DkvprojIdeal.nD Cert.DkvprojIdeal.τ).loc Cert.DkvprojIdeal.main_v0) = v0 c
          ∧ r.2.mem ((c.tc : Thread Cert.DkvprojIdeal.nD Cert.DkvprojIdeal.τ).loc Cert.DkvprojIdeal.main_arg0) = m ((c.tc : Thread Cert.DkvprojIdeal.nD Cert.DkvprojIdeal.τ).loc Cert.DkvprojIdeal.main_arg0)
          ∧ r.2.mem ((c.tc : Thread Cert.DkvprojIdeal.nD Cert.DkvprojIdeal.τ).loc Cert.DkvprojIdeal.main_arg1) = m ((c.tc : Thread Cert.DkvprojIdeal.nD Cert.DkvprojIdeal.τ).loc Cert.DkvprojIdeal.main_arg1))
      ∧ θ_run (Cert.DkvprojRefIdeal.defs (F := Ideal)) (onTc (τ := Cert.DkvprojRefIdeal.τ) (Cert.DkvprojRefIdeal.main (F := Ideal))) ⟨m', fun _ => 0, g'⟩ (fun r => ∀ c : Dev Cert.DkvprojRefIdeal.nD,
          r.2.mem ((c.tc : Thread Cert.DkvprojRefIdeal.nD Cert.DkvprojRefIdeal.τ).loc Cert.DkvprojRefIdeal.main_v3) = v0 c
          ∧ r.2.mem ((c.tc : Thread Cert.DkvprojRefIdeal.nD Cert.DkvprojRefIdeal.τ).loc Cert.DkvprojRefIdeal.main_arg0) = m' ((c.tc : Thread Cert.DkvprojRefIdeal.nD Cert.DkvprojRefIdeal.τ).loc Cert.DkvprojRefIdeal.main_arg0)
          ∧ r.2.mem ((c.tc : Thread Cert.DkvprojRefIdeal.nD Cert.DkvprojRefIdeal.τ).loc Cert.DkvprojRefIdeal.main_arg1) = m' ((c.tc : Thread Cert.DkvprojRefIdeal.nD Cert.DkvprojRefIdeal.τ).loc Cert.DkvprojRefIdeal.main_arg1))

def preserves_Wkv_WkvIdeal : Prop :=
  True

def algebraic_WkvIdeal_WkvRefIdeal [hWkvIdeal : Cert.WkvIdeal.Facts] [hWkvRefIdeal : Cert.WkvRefIdeal.Facts] : Prop :=
  ∀ (m : (ℓ : Loc Cert.WkvIdeal.nD Cert.WkvIdeal.τ Cert.WkvIdeal.sig) → Buf (Elt Ideal) ℓ) (g : Dev Cert.WkvIdeal.nD → PrngReg)
    (m' : (ℓ : Loc Cert.WkvRefIdeal.nD Cert.WkvRefIdeal.τ Cert.WkvRefIdeal.sig) → Buf (Elt Ideal) ℓ) (g' : Dev Cert.WkvRefIdeal.nD → PrngReg), Pre_WkvIdeal m →
    (∀ c : Dev Cert.WkvIdeal.nD,
      m' ((c.tc : Thread Cert.WkvRefIdeal.nD Cert.WkvRefIdeal.τ).loc Cert.WkvRefIdeal.main_arg0) = m ((c.tc : Thread Cert.WkvIdeal.nD Cert.WkvIdeal.τ).loc Cert.WkvIdeal.main_arg0)
      ∧ m' ((c.tc : Thread Cert.WkvRefIdeal.nD Cert.WkvRefIdeal.τ).loc Cert.WkvRefIdeal.main_arg1) = m ((c.tc : Thread Cert.WkvIdeal.nD Cert.WkvIdeal.τ).loc Cert.WkvIdeal.main_arg1)) →
    ∃ (v0 : (c : Dev Cert.WkvIdeal.nD) → Buf (Elt Ideal) ((c.tc : Thread Cert.WkvIdeal.nD Cert.WkvIdeal.τ).loc Cert.WkvIdeal.main_v0)),
      θ_run (Cert.WkvIdeal.defs (F := Ideal)) (onTc (τ := Cert.WkvIdeal.τ) (Cert.WkvIdeal.main (F := Ideal))) ⟨m, fun _ => 0, g⟩ (fun r => ∀ c : Dev Cert.WkvIdeal.nD,
          r.2.mem ((c.tc : Thread Cert.WkvIdeal.nD Cert.WkvIdeal.τ).loc Cert.WkvIdeal.main_v0) = v0 c
          ∧ r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
          ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1))
      ∧ θ_run (Cert.WkvRefIdeal.defs (F := Ideal)) (onTc (τ := Cert.WkvRefIdeal.τ) (Cert.WkvRefIdeal.main (F := Ideal))) ⟨m', fun _ => 0, g'⟩ (fun r => ∀ c : Dev Cert.WkvRefIdeal.nD,
          r.2.mem ((c.tc : Thread Cert.WkvRefIdeal.nD Cert.WkvRefIdeal.τ).loc Cert.WkvRefIdeal.main_v5) = v0 c
          ∧ r.2.mem ((c.tc : Thread Cert.WkvRefIdeal.nD Cert.WkvRefIdeal.τ).loc Cert.WkvRefIdeal.main_arg0) = m' ((c.tc : Thread Cert.WkvRefIdeal.nD Cert.WkvRefIdeal.τ).loc Cert.WkvRefIdeal.main_arg0)
          ∧ r.2.mem ((c.tc : Thread Cert.WkvRefIdeal.nD Cert.WkvRefIdeal.τ).loc Cert.WkvRefIdeal.main_arg1) = m' ((c.tc : Thread Cert.WkvRefIdeal.nD Cert.WkvRefIdeal.τ).loc Cert.WkvRefIdeal.main_arg1))

def preserves_DmemA_DmemAIdeal : Prop :=
  IdealRules.named_const.Statement Cert.DmemAIdeal.κ "scale" .f32 0x3DB504F3#32 (((Real.sqrt 128)⁻¹ : ℝ) : EReal)

def algebraic_DmemAIdeal_DmemARefIdeal [hDmemAIdeal : Cert.DmemAIdeal.Facts] [hDmemARefIdeal : Cert.DmemARefIdeal.Facts] [hPre_finite_memory_a : Cert.Pre_finite_memory_a.Facts] : Prop :=
  ∀ (m : (ℓ : Loc Cert.DmemAIdeal.nD Cert.DmemAIdeal.τ Cert.DmemAIdeal.sig) → Buf (Elt Ideal) ℓ) (g : Dev Cert.DmemAIdeal.nD → PrngReg)
    (m' : (ℓ : Loc Cert.DmemARefIdeal.nD Cert.DmemARefIdeal.τ Cert.DmemARefIdeal.sig) → Buf (Elt Ideal) ℓ) (g' : Dev Cert.DmemARefIdeal.nD → PrngReg), Pre_DmemAIdeal m →
    (∀ c : Dev Cert.DmemAIdeal.nD,
      m' ((c.tc : Thread Cert.DmemARefIdeal.nD Cert.DmemARefIdeal.τ).loc Cert.DmemARefIdeal.main_arg0) = m ((c.tc : Thread Cert.DmemAIdeal.nD Cert.DmemAIdeal.τ).loc Cert.DmemAIdeal.main_arg0)
      ∧ m' ((c.tc : Thread Cert.DmemARefIdeal.nD Cert.DmemARefIdeal.τ).loc Cert.DmemARefIdeal.main_arg1) = m ((c.tc : Thread Cert.DmemAIdeal.nD Cert.DmemAIdeal.τ).loc Cert.DmemAIdeal.main_arg1)
      ∧ m' ((c.tc : Thread Cert.DmemARefIdeal.nD Cert.DmemARefIdeal.τ).loc Cert.DmemARefIdeal.main_arg2) = m ((c.tc : Thread Cert.DmemAIdeal.nD Cert.DmemAIdeal.τ).loc Cert.DmemAIdeal.main_arg2)) →
    ∃ (v0 : (c : Dev Cert.DmemAIdeal.nD) → Buf (Elt Ideal) ((c.tc : Thread Cert.DmemAIdeal.nD Cert.DmemAIdeal.τ).loc Cert.DmemAIdeal.main_v0_0)) (v1 : (c : Dev Cert.DmemAIdeal.nD) → Buf (Elt Ideal) ((c.tc : Thread Cert.DmemAIdeal.nD Cert.DmemAIdeal.τ).loc Cert.DmemAIdeal.main_v0_1)),
      θ_run (Cert.DmemAIdeal.defs (F := Ideal)) (onTc (τ := Cert.DmemAIdeal.τ) (Cert.DmemAIdeal.main (F := Ideal))) ⟨m, fun _ => 0, g⟩ (fun r => ∀ c : Dev Cert.DmemAIdeal.nD,
          r.2.mem ((c.tc : Thread Cert.DmemAIdeal.nD Cert.DmemAIdeal.τ).loc Cert.DmemAIdeal.main_v0_0) = v0 c
          ∧ r.2.mem ((c.tc : Thread Cert.DmemAIdeal.nD Cert.DmemAIdeal.τ).loc Cert.DmemAIdeal.main_v0_1) = v1 c
          ∧ r.2.mem ((c.tc : Thread Cert.DmemAIdeal.nD Cert.DmemAIdeal.τ).loc Cert.DmemAIdeal.main_arg0) = m ((c.tc : Thread Cert.DmemAIdeal.nD Cert.DmemAIdeal.τ).loc Cert.DmemAIdeal.main_arg0)
          ∧ r.2.mem ((c.tc : Thread Cert.DmemAIdeal.nD Cert.DmemAIdeal.τ).loc Cert.DmemAIdeal.main_arg1) = m ((c.tc : Thread Cert.DmemAIdeal.nD Cert.DmemAIdeal.τ).loc Cert.DmemAIdeal.main_arg1)
          ∧ r.2.mem ((c.tc : Thread Cert.DmemAIdeal.nD Cert.DmemAIdeal.τ).loc Cert.DmemAIdeal.main_arg2) = m ((c.tc : Thread Cert.DmemAIdeal.nD Cert.DmemAIdeal.τ).loc Cert.DmemAIdeal.main_arg2))
      ∧ θ_run (Cert.DmemARefIdeal.defs (F := Ideal)) (onTc (τ := Cert.DmemARefIdeal.τ) (Cert.DmemARefIdeal.main (F := Ideal))) ⟨m', fun _ => 0, g'⟩ (fun r => ∀ c : Dev Cert.DmemARefIdeal.nD,
          r.2.mem ((c.tc : Thread Cert.DmemARefIdeal.nD Cert.DmemARefIdeal.τ).loc Cert.DmemARefIdeal.main_v74) = v0 c
          ∧ r.2.mem ((c.tc : Thread Cert.DmemARefIdeal.nD Cert.DmemARefIdeal.τ).loc Cert.DmemARefIdeal.main_v73) = v1 c
          ∧ r.2.mem ((c.tc : Thread Cert.DmemARefIdeal.nD Cert.DmemARefIdeal.τ).loc Cert.DmemARefIdeal.main_arg0) = m' ((c.tc : Thread Cert.DmemARefIdeal.nD Cert.DmemARefIdeal.τ).loc Cert.DmemARefIdeal.main_arg0)
          ∧ r.2.mem ((c.tc : Thread Cert.DmemARefIdeal.nD Cert.DmemARefIdeal.τ).loc Cert.DmemARefIdeal.main_arg1) = m' ((c.tc : Thread Cert.DmemARefIdeal.nD Cert.DmemARefIdeal.τ).loc Cert.DmemARefIdeal.main_arg1)
          ∧ r.2.mem ((c.tc : Thread Cert.DmemARefIdeal.nD Cert.DmemARefIdeal.τ).loc Cert.DmemARefIdeal.main_arg2) = m' ((c.tc : Thread Cert.DmemARefIdeal.nD Cert.DmemARefIdeal.τ).loc Cert.DmemARefIdeal.main_arg2))

def preserves_DmemB_DmemBIdeal : Prop :=
  IdealRules.named_const.Statement Cert.DmemBIdeal.κ "scale" .f32 0x3DB504F3#32 (((Real.sqrt 128)⁻¹ : ℝ) : EReal)

def algebraic_DmemBIdeal_DmemBRefIdeal [hDmemBIdeal : Cert.DmemBIdeal.Facts] [hDmemBRefIdeal : Cert.DmemBRefIdeal.Facts] [hPre_finite_memory_b : Cert.Pre_finite_memory_b.Facts] : Prop :=
  ∀ (m : (ℓ : Loc Cert.DmemBIdeal.nD Cert.DmemBIdeal.τ Cert.DmemBIdeal.sig) → Buf (Elt Ideal) ℓ) (g : Dev Cert.DmemBIdeal.nD → PrngReg)
    (m' : (ℓ : Loc Cert.DmemBRefIdeal.nD Cert.DmemBRefIdeal.τ Cert.DmemBRefIdeal.sig) → Buf (Elt Ideal) ℓ) (g' : Dev Cert.DmemBRefIdeal.nD → PrngReg), Pre_DmemBIdeal m →
    (∀ c : Dev Cert.DmemBIdeal.nD,
      m' ((c.tc : Thread Cert.DmemBRefIdeal.nD Cert.DmemBRefIdeal.τ).loc Cert.DmemBRefIdeal.main_arg0) = m ((c.tc : Thread Cert.DmemBIdeal.nD Cert.DmemBIdeal.τ).loc Cert.DmemBIdeal.main_arg0)
      ∧ m' ((c.tc : Thread Cert.DmemBRefIdeal.nD Cert.DmemBRefIdeal.τ).loc Cert.DmemBRefIdeal.main_arg1) = m ((c.tc : Thread Cert.DmemBIdeal.nD Cert.DmemBIdeal.τ).loc Cert.DmemBIdeal.main_arg1)
      ∧ m' ((c.tc : Thread Cert.DmemBRefIdeal.nD Cert.DmemBRefIdeal.τ).loc Cert.DmemBRefIdeal.main_arg2) = m ((c.tc : Thread Cert.DmemBIdeal.nD Cert.DmemBIdeal.τ).loc Cert.DmemBIdeal.main_arg2)) →
    ∃ (v0 : (c : Dev Cert.DmemBIdeal.nD) → Buf (Elt Ideal) ((c.tc : Thread Cert.DmemBIdeal.nD Cert.DmemBIdeal.τ).loc Cert.DmemBIdeal.main_v0_0)) (v1 : (c : Dev Cert.DmemBIdeal.nD) → Buf (Elt Ideal) ((c.tc : Thread Cert.DmemBIdeal.nD Cert.DmemBIdeal.τ).loc Cert.DmemBIdeal.main_v0_1)),
      θ_run (Cert.DmemBIdeal.defs (F := Ideal)) (onTc (τ := Cert.DmemBIdeal.τ) (Cert.DmemBIdeal.main (F := Ideal))) ⟨m, fun _ => 0, g⟩ (fun r => ∀ c : Dev Cert.DmemBIdeal.nD,
          r.2.mem ((c.tc : Thread Cert.DmemBIdeal.nD Cert.DmemBIdeal.τ).loc Cert.DmemBIdeal.main_v0_0) = v0 c
          ∧ r.2.mem ((c.tc : Thread Cert.DmemBIdeal.nD Cert.DmemBIdeal.τ).loc Cert.DmemBIdeal.main_v0_1) = v1 c
          ∧ r.2.mem ((c.tc : Thread Cert.DmemBIdeal.nD Cert.DmemBIdeal.τ).loc Cert.DmemBIdeal.main_arg0) = m ((c.tc : Thread Cert.DmemBIdeal.nD Cert.DmemBIdeal.τ).loc Cert.DmemBIdeal.main_arg0)
          ∧ r.2.mem ((c.tc : Thread Cert.DmemBIdeal.nD Cert.DmemBIdeal.τ).loc Cert.DmemBIdeal.main_arg1) = m ((c.tc : Thread Cert.DmemBIdeal.nD Cert.DmemBIdeal.τ).loc Cert.DmemBIdeal.main_arg1)
          ∧ r.2.mem ((c.tc : Thread Cert.DmemBIdeal.nD Cert.DmemBIdeal.τ).loc Cert.DmemBIdeal.main_arg2) = m ((c.tc : Thread Cert.DmemBIdeal.nD Cert.DmemBIdeal.τ).loc Cert.DmemBIdeal.main_arg2))
      ∧ θ_run (Cert.DmemBRefIdeal.defs (F := Ideal)) (onTc (τ := Cert.DmemBRefIdeal.τ) (Cert.DmemBRefIdeal.main (F := Ideal))) ⟨m', fun _ => 0, g'⟩ (fun r => ∀ c : Dev Cert.DmemBRefIdeal.nD,
          r.2.mem ((c.tc : Thread Cert.DmemBRefIdeal.nD Cert.DmemBRefIdeal.τ).loc Cert.DmemBRefIdeal.main_v73) = v0 c
          ∧ r.2.mem ((c.tc : Thread Cert.DmemBRefIdeal.nD Cert.DmemBRefIdeal.τ).loc Cert.DmemBRefIdeal.main_v72) = v1 c
          ∧ r.2.mem ((c.tc : Thread Cert.DmemBRefIdeal.nD Cert.DmemBRefIdeal.τ).loc Cert.DmemBRefIdeal.main_arg0) = m' ((c.tc : Thread Cert.DmemBRefIdeal.nD Cert.DmemBRefIdeal.τ).loc Cert.DmemBRefIdeal.main_arg0)
          ∧ r.2.mem ((c.tc : Thread Cert.DmemBRefIdeal.nD Cert.DmemBRefIdeal.τ).loc Cert.DmemBRefIdeal.main_arg1) = m' ((c.tc : Thread Cert.DmemBRefIdeal.nD Cert.DmemBRefIdeal.τ).loc Cert.DmemBRefIdeal.main_arg1)
          ∧ r.2.mem ((c.tc : Thread Cert.DmemBRefIdeal.nD Cert.DmemBRefIdeal.τ).loc Cert.DmemBRefIdeal.main_arg2) = m' ((c.tc : Thread Cert.DmemBRefIdeal.nD Cert.DmemBRefIdeal.τ).loc Cert.DmemBRefIdeal.main_arg2))

def preserves_Dconv_DconvIdeal : Prop :=
  IdealRules.named_const.Statement Cert.DconvIdeal.κ "rsqrt2" .f32 0x3F3504F3#32 (((Real.sqrt 2)⁻¹ : ℝ) : EReal)
  ∧ IdealRules.named_const.Statement Cert.DconvIdeal.κ "rsqrt2pi" .f32 0x3ECC422A#32 (((Real.sqrt (2 * Real.pi))⁻¹ : ℝ) : EReal)

def algebraic_DconvIdeal_DconvRefIdeal [hDconvIdeal : Cert.DconvIdeal.Facts] [hDconvRefIdeal : Cert.DconvRefIdeal.Facts] [hPre_finite_conv : Cert.Pre_finite_conv.Facts] : Prop :=
  ∀ (m : (ℓ : Loc Cert.DconvIdeal.nD Cert.DconvIdeal.τ Cert.DconvIdeal.sig) → Buf (Elt Ideal) ℓ) (g : Dev Cert.DconvIdeal.nD → PrngReg)
    (m' : (ℓ : Loc Cert.DconvRefIdeal.nD Cert.DconvRefIdeal.τ Cert.DconvRefIdeal.sig) → Buf (Elt Ideal) ℓ) (g' : Dev Cert.DconvRefIdeal.nD → PrngReg), Pre_DconvIdeal m →
    (∀ c : Dev Cert.DconvIdeal.nD,
      m' ((c.tc : Thread Cert.DconvRefIdeal.nD Cert.DconvRefIdeal.τ).loc Cert.DconvRefIdeal.main_arg0) = m ((c.tc : Thread Cert.DconvIdeal.nD Cert.DconvIdeal.τ).loc Cert.DconvIdeal.main_arg0)
      ∧ m' ((c.tc : Thread Cert.DconvRefIdeal.nD Cert.DconvRefIdeal.τ).loc Cert.DconvRefIdeal.main_arg1) = m ((c.tc : Thread Cert.DconvIdeal.nD Cert.DconvIdeal.τ).loc Cert.DconvIdeal.main_arg1)
      ∧ m' ((c.tc : Thread Cert.DconvRefIdeal.nD Cert.DconvRefIdeal.τ).loc Cert.DconvRefIdeal.main_arg2) = m ((c.tc : Thread Cert.DconvIdeal.nD Cert.DconvIdeal.τ).loc Cert.DconvIdeal.main_arg2)
      ∧ m' ((c.tc : Thread Cert.DconvRefIdeal.nD Cert.DconvRefIdeal.τ).loc Cert.DconvRefIdeal.main_arg3) = m ((c.tc : Thread Cert.DconvIdeal.nD Cert.DconvIdeal.τ).loc Cert.DconvIdeal.main_arg3)) →
    ∃ (v0 : (c : Dev Cert.DconvIdeal.nD) → Buf (Elt Ideal) ((c.tc : Thread Cert.DconvIdeal.nD Cert.DconvIdeal.τ).loc Cert.DconvIdeal.main_v0_0)) (v1 : (c : Dev Cert.DconvIdeal.nD) → Buf (Elt Ideal) ((c.tc : Thread Cert.DconvIdeal.nD Cert.DconvIdeal.τ).loc Cert.DconvIdeal.main_v0_1)) (v2 : (c : Dev Cert.DconvIdeal.nD) → Buf (Elt Ideal) ((c.tc : Thread Cert.DconvIdeal.nD Cert.DconvIdeal.τ).loc Cert.DconvIdeal.main_v0_2)),
      θ_run (Cert.DconvIdeal.defs (F := Ideal)) (onTc (τ := Cert.DconvIdeal.τ) (Cert.DconvIdeal.main (F := Ideal))) ⟨m, fun _ => 0, g⟩ (fun r => ∀ c : Dev Cert.DconvIdeal.nD,
          r.2.mem ((c.tc : Thread Cert.DconvIdeal.nD Cert.DconvIdeal.τ).loc Cert.DconvIdeal.main_v0_0) = v0 c
          ∧ r.2.mem ((c.tc : Thread Cert.DconvIdeal.nD Cert.DconvIdeal.τ).loc Cert.DconvIdeal.main_v0_1) = v1 c
          ∧ r.2.mem ((c.tc : Thread Cert.DconvIdeal.nD Cert.DconvIdeal.τ).loc Cert.DconvIdeal.main_v0_2) = v2 c
          ∧ r.2.mem ((c.tc : Thread Cert.DconvIdeal.nD Cert.DconvIdeal.τ).loc Cert.DconvIdeal.main_arg0) = m ((c.tc : Thread Cert.DconvIdeal.nD Cert.DconvIdeal.τ).loc Cert.DconvIdeal.main_arg0)
          ∧ r.2.mem ((c.tc : Thread Cert.DconvIdeal.nD Cert.DconvIdeal.τ).loc Cert.DconvIdeal.main_arg1) = m ((c.tc : Thread Cert.DconvIdeal.nD Cert.DconvIdeal.τ).loc Cert.DconvIdeal.main_arg1)
          ∧ r.2.mem ((c.tc : Thread Cert.DconvIdeal.nD Cert.DconvIdeal.τ).loc Cert.DconvIdeal.main_arg2) = m ((c.tc : Thread Cert.DconvIdeal.nD Cert.DconvIdeal.τ).loc Cert.DconvIdeal.main_arg2)
          ∧ r.2.mem ((c.tc : Thread Cert.DconvIdeal.nD Cert.DconvIdeal.τ).loc Cert.DconvIdeal.main_arg3) = m ((c.tc : Thread Cert.DconvIdeal.nD Cert.DconvIdeal.τ).loc Cert.DconvIdeal.main_arg3))
      ∧ θ_run (Cert.DconvRefIdeal.defs (F := Ideal)) (onTc (τ := Cert.DconvRefIdeal.τ) (Cert.DconvRefIdeal.main (F := Ideal))) ⟨m', fun _ => 0, g'⟩ (fun r => ∀ c : Dev Cert.DconvRefIdeal.nD,
          r.2.mem ((c.tc : Thread Cert.DconvRefIdeal.nD Cert.DconvRefIdeal.τ).loc Cert.DconvRefIdeal.main_v171) = v0 c
          ∧ r.2.mem ((c.tc : Thread Cert.DconvRefIdeal.nD Cert.DconvRefIdeal.τ).loc Cert.DconvRefIdeal.main_v174) = v1 c
          ∧ r.2.mem ((c.tc : Thread Cert.DconvRefIdeal.nD Cert.DconvRefIdeal.τ).loc Cert.DconvRefIdeal.main_v178) = v2 c
          ∧ r.2.mem ((c.tc : Thread Cert.DconvRefIdeal.nD Cert.DconvRefIdeal.τ).loc Cert.DconvRefIdeal.main_arg0) = m' ((c.tc : Thread Cert.DconvRefIdeal.nD Cert.DconvRefIdeal.τ).loc Cert.DconvRefIdeal.main_arg0)
          ∧ r.2.mem ((c.tc : Thread Cert.DconvRefIdeal.nD Cert.DconvRefIdeal.τ).loc Cert.DconvRefIdeal.main_arg1) = m' ((c.tc : Thread Cert.DconvRefIdeal.nD Cert.DconvRefIdeal.τ).loc Cert.DconvRefIdeal.main_arg1)
          ∧ r.2.mem ((c.tc : Thread Cert.DconvRefIdeal.nD Cert.DconvRefIdeal.τ).loc Cert.DconvRefIdeal.main_arg2) = m' ((c.tc : Thread Cert.DconvRefIdeal.nD Cert.DconvRefIdeal.τ).loc Cert.DconvRefIdeal.main_arg2)
          ∧ r.2.mem ((c.tc : Thread Cert.DconvRefIdeal.nD Cert.DconvRefIdeal.τ).loc Cert.DconvRefIdeal.main_arg3) = m' ((c.tc : Thread Cert.DconvRefIdeal.nD Cert.DconvRefIdeal.τ).loc Cert.DconvRefIdeal.main_arg3))

def Claim : Prop :=
  ∃ (hKernel : Cert.Kernel.Facts) (hKernelIdeal : Cert.KernelIdeal.Facts) (hReferenceIdeal : Cert.ReferenceIdeal.Facts) (hDdown : Cert.Ddown.Facts) (hDdownIdeal : Cert.DdownIdeal.Facts) (hDdownRefIdeal : Cert.DdownRefIdeal.Facts) (hWdown : Cert.Wdown.Facts) (hWdownIdeal : Cert.WdownIdeal.Facts) (hWdownRefIdeal : Cert.WdownRefIdeal.Facts) (hDup : Cert.Dup.Facts) (hDupIdeal : Cert.DupIdeal.Facts) (hDupRefIdeal : Cert.DupRefIdeal.Facts) (hWup : Cert.Wup.Facts) (hWupIdeal : Cert.WupIdeal.Facts) (hWupRefIdeal : Cert.WupRefIdeal.Facts) (hDbin : Cert.Dbin.Facts) (hDbinIdeal : Cert.DbinIdeal.Facts) (hDbinRefIdeal : Cert.DbinRefIdeal.Facts) (hWbin : Cert.Wbin.Facts) (hWbinIdeal : Cert.WbinIdeal.Facts) (hWbinRefIdeal : Cert.WbinRefIdeal.Facts) (hDbout : Cert.Dbout.Facts) (hDboutIdeal : Cert.DboutIdeal.Facts) (hDboutRefIdeal : Cert.DboutRefIdeal.Facts) (hWbout : Cert.Wbout.Facts) (hWboutIdeal : Cert.WboutIdeal.Facts) (hWboutRefIdeal : Cert.WboutRefIdeal.Facts) (hDain : Cert.Dain.Facts) (hDainIdeal : Cert.DainIdeal.Facts) (hDainRefIdeal : Cert.DainRefIdeal.Facts) (hWain : Cert.Wain.Facts) (hWainIdeal : Cert.WainIdeal.Facts) (hWainRefIdeal : Cert.WainRefIdeal.Facts) (hDaout : Cert.Daout.Facts) (hDaoutIdeal : Cert.DaoutIdeal.Facts) (hDaoutRefIdeal : Cert.DaoutRefIdeal.Facts) (hWaout : Cert.Waout.Facts) (hWaoutIdeal : Cert.WaoutIdeal.Facts) (hWaoutRefIdeal : Cert.WaoutRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hAin : Cert.Ain.Facts) (hAinIdeal : Cert.AinIdeal.Facts) (hAinRefIdeal : Cert.AinRefIdeal.Facts) (hAout : Cert.Aout.Facts) (hAoutIdeal : Cert.AoutIdeal.Facts) (hAoutRefIdeal : Cert.AoutRefIdeal.Facts) (hBin : Cert.Bin.Facts) (hBinIdeal : Cert.BinIdeal.Facts) (hBinRefIdeal : Cert.BinRefIdeal.Facts) (hBout : Cert.Bout.Facts) (hBoutIdeal : Cert.BoutIdeal.Facts) (hBoutRefIdeal : Cert.BoutRefIdeal.Facts) (hKvproj : Cert.Kvproj.Facts) (hKvprojIdeal : Cert.KvprojIdeal.Facts) (hKvprojRefIdeal : Cert.KvprojRefIdeal.Facts) (hDkvproj : Cert.Dkvproj.Facts) (hDkvprojIdeal : Cert.DkvprojIdeal.Facts) (hDkvprojRefIdeal : Cert.DkvprojRefIdeal.Facts) (hWkv : Cert.Wkv.Facts) (hWkvIdeal : Cert.WkvIdeal.Facts) (hWkvRefIdeal : Cert.WkvRefIdeal.Facts) (hDmemA : Cert.DmemA.Facts) (hDmemAIdeal : Cert.DmemAIdeal.Facts) (hDmemARefIdeal : Cert.DmemARefIdeal.Facts) (hDmemB : Cert.DmemB.Facts) (hDmemBIdeal : Cert.DmemBIdeal.Facts) (hDmemBRefIdeal : Cert.DmemBRefIdeal.Facts) (hDconv : Cert.Dconv.Facts) (hDconvIdeal : Cert.DconvIdeal.Facts) (hDconvRefIdeal : Cert.DconvRefIdeal.Facts) (hPre_finite : Cert.Pre_finite.Facts) (hPre_finite_memory_a : Cert.Pre_finite_memory_a.Facts) (hPre_finite_memory_b : Cert.Pre_finite_memory_b.Facts) (hPre_finite_conv : Cert.Pre_finite_conv.Facts),
    quiescent_Kernel (hKernel := hKernel) (hPre_finite := hPre_finite)
    ∧ quiescent_KernelIdeal (hKernelIdeal := hKernelIdeal) (hPre_finite := hPre_finite)
    ∧ quiescent_ReferenceIdeal (hReferenceIdeal := hReferenceIdeal) (hPre_finite := hPre_finite)
    ∧ quiescent_Ddown (hDdown := hDdown)
    ∧ quiescent_DdownIdeal (hDdownIdeal := hDdownIdeal)
    ∧ quiescent_DdownRefIdeal (hDdownRefIdeal := hDdownRefIdeal)
    ∧ quiescent_Wdown (hWdown := hWdown)
    ∧ quiescent_WdownIdeal (hWdownIdeal := hWdownIdeal)
    ∧ quiescent_WdownRefIdeal (hWdownRefIdeal := hWdownRefIdeal)
    ∧ quiescent_Dup (hDup := hDup)
    ∧ quiescent_DupIdeal (hDupIdeal := hDupIdeal)
    ∧ quiescent_DupRefIdeal (hDupRefIdeal := hDupRefIdeal)
    ∧ quiescent_Wup (hWup := hWup)
    ∧ quiescent_WupIdeal (hWupIdeal := hWupIdeal)
    ∧ quiescent_WupRefIdeal (hWupRefIdeal := hWupRefIdeal)
    ∧ quiescent_Dbin (hDbin := hDbin)
    ∧ quiescent_DbinIdeal (hDbinIdeal := hDbinIdeal)
    ∧ quiescent_DbinRefIdeal (hDbinRefIdeal := hDbinRefIdeal)
    ∧ quiescent_Wbin (hWbin := hWbin)
    ∧ quiescent_WbinIdeal (hWbinIdeal := hWbinIdeal)
    ∧ quiescent_WbinRefIdeal (hWbinRefIdeal := hWbinRefIdeal)
    ∧ quiescent_Dbout (hDbout := hDbout)
    ∧ quiescent_DboutIdeal (hDboutIdeal := hDboutIdeal)
    ∧ quiescent_DboutRefIdeal (hDboutRefIdeal := hDboutRefIdeal)
    ∧ quiescent_Wbout (hWbout := hWbout)
    ∧ quiescent_WboutIdeal (hWboutIdeal := hWboutIdeal)
    ∧ quiescent_WboutRefIdeal (hWboutRefIdeal := hWboutRefIdeal)
    ∧ quiescent_Dain (hDain := hDain)
    ∧ quiescent_DainIdeal (hDainIdeal := hDainIdeal)
    ∧ quiescent_DainRefIdeal (hDainRefIdeal := hDainRefIdeal)
    ∧ quiescent_Wain (hWain := hWain)
    ∧ quiescent_WainIdeal (hWainIdeal := hWainIdeal)
    ∧ quiescent_WainRefIdeal (hWainRefIdeal := hWainRefIdeal)
    ∧ quiescent_Daout (hDaout := hDaout)
    ∧ quiescent_DaoutIdeal (hDaoutIdeal := hDaoutIdeal)
    ∧ quiescent_DaoutRefIdeal (hDaoutRefIdeal := hDaoutRefIdeal)
    ∧ quiescent_Waout (hWaout := hWaout)
    ∧ quiescent_WaoutIdeal (hWaoutIdeal := hWaoutIdeal)
    ∧ quiescent_WaoutRefIdeal (hWaoutRefIdeal := hWaoutRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Ain (hAin := hAin)
    ∧ quiescent_AinIdeal (hAinIdeal := hAinIdeal)
    ∧ quiescent_AinRefIdeal (hAinRefIdeal := hAinRefIdeal)
    ∧ quiescent_Aout (hAout := hAout)
    ∧ quiescent_AoutIdeal (hAoutIdeal := hAoutIdeal)
    ∧ quiescent_AoutRefIdeal (hAoutRefIdeal := hAoutRefIdeal)
    ∧ quiescent_Bin (hBin := hBin)
    ∧ quiescent_BinIdeal (hBinIdeal := hBinIdeal)
    ∧ quiescent_BinRefIdeal (hBinRefIdeal := hBinRefIdeal)
    ∧ quiescent_Bout (hBout := hBout)
    ∧ quiescent_BoutIdeal (hBoutIdeal := hBoutIdeal)
    ∧ quiescent_BoutRefIdeal (hBoutRefIdeal := hBoutRefIdeal)
    ∧ quiescent_Kvproj (hKvproj := hKvproj)
    ∧ quiescent_KvprojIdeal (hKvprojIdeal := hKvprojIdeal)
    ∧ quiescent_KvprojRefIdeal (hKvprojRefIdeal := hKvprojRefIdeal)
    ∧ quiescent_Dkvproj (hDkvproj := hDkvproj)
    ∧ quiescent_DkvprojIdeal (hDkvprojIdeal := hDkvprojIdeal)
    ∧ quiescent_DkvprojRefIdeal (hDkvprojRefIdeal := hDkvprojRefIdeal)
    ∧ quiescent_Wkv (hWkv := hWkv)
    ∧ quiescent_WkvIdeal (hWkvIdeal := hWkvIdeal)
    ∧ quiescent_WkvRefIdeal (hWkvRefIdeal := hWkvRefIdeal)
    ∧ quiescent_DmemA (hDmemA := hDmemA) (hPre_finite_memory_a := hPre_finite_memory_a)
    ∧ quiescent_DmemAIdeal (hDmemAIdeal := hDmemAIdeal) (hPre_finite_memory_a := hPre_finite_memory_a)
    ∧ quiescent_DmemARefIdeal (hDmemARefIdeal := hDmemARefIdeal) (hPre_finite_memory_a := hPre_finite_memory_a)
    ∧ quiescent_DmemB (hDmemB := hDmemB) (hPre_finite_memory_b := hPre_finite_memory_b)
    ∧ quiescent_DmemBIdeal (hDmemBIdeal := hDmemBIdeal) (hPre_finite_memory_b := hPre_finite_memory_b)
    ∧ quiescent_DmemBRefIdeal (hDmemBRefIdeal := hDmemBRefIdeal) (hPre_finite_memory_b := hPre_finite_memory_b)
    ∧ quiescent_Dconv (hDconv := hDconv) (hPre_finite_conv := hPre_finite_conv)
    ∧ quiescent_DconvIdeal (hDconvIdeal := hDconvIdeal) (hPre_finite_conv := hPre_finite_conv)
    ∧ quiescent_DconvRefIdeal (hDconvRefIdeal := hDconvRefIdeal) (hPre_finite_conv := hPre_finite_conv)
    ∧ preserves_Kernel_KernelIdeal
    ∧ algebraic_KernelIdeal_ReferenceIdeal (hKernelIdeal := hKernelIdeal) (hReferenceIdeal := hReferenceIdeal) (hPre_finite := hPre_finite)
    ∧ preserves_Ddown_DdownIdeal
    ∧ algebraic_DdownIdeal_DdownRefIdeal (hDdownIdeal := hDdownIdeal) (hDdownRefIdeal := hDdownRefIdeal)
    ∧ preserves_Wdown_WdownIdeal
    ∧ algebraic_WdownIdeal_WdownRefIdeal (hWdownIdeal := hWdownIdeal) (hWdownRefIdeal := hWdownRefIdeal)
    ∧ preserves_Dup_DupIdeal
    ∧ algebraic_DupIdeal_DupRefIdeal (hDupIdeal := hDupIdeal) (hDupRefIdeal := hDupRefIdeal)
    ∧ preserves_Wup_WupIdeal
    ∧ algebraic_WupIdeal_WupRefIdeal (hWupIdeal := hWupIdeal) (hWupRefIdeal := hWupRefIdeal)
    ∧ preserves_Dbin_DbinIdeal
    ∧ algebraic_DbinIdeal_DbinRefIdeal (hDbinIdeal := hDbinIdeal) (hDbinRefIdeal := hDbinRefIdeal)
    ∧ preserves_Wbin_WbinIdeal
    ∧ algebraic_WbinIdeal_WbinRefIdeal (hWbinIdeal := hWbinIdeal) (hWbinRefIdeal := hWbinRefIdeal)
    ∧ preserves_Dbout_DboutIdeal
    ∧ algebraic_DboutIdeal_DboutRefIdeal (hDboutIdeal := hDboutIdeal) (hDboutRefIdeal := hDboutRefIdeal)
    ∧ preserves_Wbout_WboutIdeal
    ∧ algebraic_WboutIdeal_WboutRefIdeal (hWboutIdeal := hWboutIdeal) (hWboutRefIdeal := hWboutRefIdeal)
    ∧ preserves_Dain_DainIdeal
    ∧ algebraic_DainIdeal_DainRefIdeal (hDainIdeal := hDainIdeal) (hDainRefIdeal := hDainRefIdeal)
    ∧ preserves_Wain_WainIdeal
    ∧ algebraic_WainIdeal_WainRefIdeal (hWainIdeal := hWainIdeal) (hWainRefIdeal := hWainRefIdeal)
    ∧ preserves_Daout_DaoutIdeal
    ∧ algebraic_DaoutIdeal_DaoutRefIdeal (hDaoutIdeal := hDaoutIdeal) (hDaoutRefIdeal := hDaoutRefIdeal)
    ∧ preserves_Waout_WaoutIdeal
    ∧ algebraic_WaoutIdeal_WaoutRefIdeal (hWaoutIdeal := hWaoutIdeal) (hWaoutRefIdeal := hWaoutRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Ain_AinIdeal
    ∧ algebraic_AinIdeal_AinRefIdeal (hAinIdeal := hAinIdeal) (hAinRefIdeal := hAinRefIdeal)
    ∧ preserves_Aout_AoutIdeal
    ∧ algebraic_AoutIdeal_AoutRefIdeal (hAoutIdeal := hAoutIdeal) (hAoutRefIdeal := hAoutRefIdeal)
    ∧ preserves_Bin_BinIdeal
    ∧ algebraic_BinIdeal_BinRefIdeal (hBinIdeal := hBinIdeal) (hBinRefIdeal := hBinRefIdeal)
    ∧ preserves_Bout_BoutIdeal
    ∧ algebraic_BoutIdeal_BoutRefIdeal (hBoutIdeal := hBoutIdeal) (hBoutRefIdeal := hBoutRefIdeal)
    ∧ preserves_Kvproj_KvprojIdeal
    ∧ algebraic_KvprojIdeal_KvprojRefIdeal (hKvprojIdeal := hKvprojIdeal) (hKvprojRefIdeal := hKvprojRefIdeal)
    ∧ preserves_Dkvproj_DkvprojIdeal
    ∧ algebraic_DkvprojIdeal_DkvprojRefIdeal (hDkvprojIdeal := hDkvprojIdeal) (hDkvprojRefIdeal := hDkvprojRefIdeal)
    ∧ preserves_Wkv_WkvIdeal
    ∧ algebraic_WkvIdeal_WkvRefIdeal (hWkvIdeal := hWkvIdeal) (hWkvRefIdeal := hWkvRefIdeal)
    ∧ preserves_DmemA_DmemAIdeal
    ∧ algebraic_DmemAIdeal_DmemARefIdeal (hDmemAIdeal := hDmemAIdeal) (hDmemARefIdeal := hDmemARefIdeal) (hPre_finite_memory_a := hPre_finite_memory_a)
    ∧ preserves_DmemB_DmemBIdeal
    ∧ algebraic_DmemBIdeal_DmemBRefIdeal (hDmemBIdeal := hDmemBIdeal) (hDmemBRefIdeal := hDmemBRefIdeal) (hPre_finite_memory_b := hPre_finite_memory_b)
    ∧ preserves_Dconv_DconvIdeal
    ∧ algebraic_DconvIdeal_DconvRefIdeal (hDconvIdeal := hDconvIdeal) (hDconvRefIdeal := hDconvRefIdeal) (hPre_finite_conv := hPre_finite_conv)
-- ==== Pre_finite.lean ====
abbrev S2048x3584 : Shape := ⟨2, ![2048, 3584]⟩
abbrev S1536 : Shape := ⟨1, ![1536]⟩
abbrev S12x128x128 : Shape := ⟨3, ![12, 128, 128]⟩
abbrev S12x128 : Shape := ⟨2, ![12, 128]⟩
abbrev S2048x2048 : Shape := ⟨2, ![2048, 2048]⟩
abbrev S_ : Shape := ⟨0, ![]⟩

class Facts : Prop where
  bcast_S_S2048x3584 : S_.BroadcastsInDim S2048x3584 (![] : Fin 0 → Fin S2048x3584.rank)
  reducesTo_S2048x3584_S_d0_1 : S2048x3584.ReducesTo [0, 1] S_
  h_S_ : 0 < S_.numel
  bcast_S_S1536 : S_.BroadcastsInDim S1536 (![] : Fin 0 → Fin S1536.rank)
  reducesTo_S1536_S_d0 : S1536.ReducesTo [0] S_
  bcast_S_S12x128x128 : S_.BroadcastsInDim S12x128x128 (![] : Fin 0 → Fin S12x128x128.rank)
  reducesTo_S12x128x128_S_d0_1_2 : S12x128x128.ReducesTo [0, 1, 2] S_
  bcast_S_S12x128 : S_.BroadcastsInDim S12x128 (![] : Fin 0 → Fin S12x128.rank)
  reducesTo_S12x128_S_d0_1 : S12x128.ReducesTo [0, 1] S_
  bcast_S_S2048x2048 : S_.BroadcastsInDim S2048x2048 (![] : Fin 0 → Fin S2048x2048.rank)
  reducesTo_S2048x2048_S_d0_1 : S2048x2048.ReducesTo [0, 1] S_

variable [Facts]

def fn_part1 {F : FTy → Type} [FloatOps F] (main_arg4 : FVec F S2048x2048 .f32) (main_v13 : IVec S_ 1) (main_v16 : IVec S12x128 1) : IVec S_ 1 :=
  let main_c_5 : IVec S_ 1 := constantI S_ 1 1#1
  let main_v17 : IVec S_ 1 := (fun x v => Host.reduce IntOp.andi x v reducesTo_S12x128_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S2048x3584 .f32) (main_arg1 : FVec F S1536 .f32) (main_arg2 : FVec F S12x128x128 .f32) (main_arg3 : FVec F S12x128 .f32) (main_arg4 : FVec F S2048x2048 .f32) : IVec S_ 1 :=
  let main_v0 : FVec F S2048x3584 .f32 := Host.absf main_arg0
  let main_cst : FVec F S_ .f32 := constant S_ .f32 0x7F800000#32
  let main_v1 : FVec F S2048x3584 .f32 := broadcastInDim S2048x3584 ![] bcast_S_S2048x3584 main_cst
  let main_v2 : IVec S2048x3584 1 := cmpf .olt main_v0 main_v1
  let main_c : IVec S_ 1 := constantI S_ 1 1#1
  let main_v3 : IVec S_ 1 := (fun x v => Host.reduce IntOp.andi x v reducesTo_S2048x3584_S_d0_1 h_S_) main_v2 main_c
  let main_v4 : FVec F S1536 .f32 := Host.absf main_arg1
  let main_cst_0 : FVec F S_ .f32 := constant S_ .f32 0x7F800000#32
  let main_v5 : FVec F S1536 .f32 := broadcastInDim S1536 ![] bcast_S_S1536 main_cst_0
  let main_v6 : IVec S1536 1 := cmpf .olt main_v4 main_v5
  let main_c_1 : IVec S_ 1 := constantI S_ 1 1#1
  let main_v7 : IVec S_ 1 := (fun x v => Host.reduce IntOp.andi x v reducesTo_S1536_S_d0 h_S_) main_v6 main_c_1
  let main_v8 : IVec S_ 1 := andi main_v3 main_v7
  let main_v9 : FVec F S12x128x128 .f32 := Host.absf main_arg2
  let main_cst_2 : FVec F S_ .f32 := constant S_ .f32 0x7F800000#32
  let main_v10 : FVec F S12x128x128 .f32 := broadcastInDim S12x128x128 ![] bcast_S_S12x128x128 main_cst_2
  let main_v11 : IVec S12x128x128 1 := cmpf .olt main_v9 main_v10
  let main_c_3 : IVec S_ 1 := constantI S_ 1 1#1
  let main_v12 : IVec S_ 1 := (fun x v => Host.reduce IntOp.andi x v reducesTo_S12x128x128_S_d0_1_2 h_S_) main_v11 main_c_3
  let main_v13 : IVec S_ 1 := andi main_v8 main_v12
  let main_v14 : FVec F S12x128 .f32 := Host.absf main_arg3
  let main_cst_4 : FVec F S_ .f32 := constant S_ .f32 0x7F800000#32
  let main_v15 : FVec F S12x128 .f32 := broadcastInDim S12x128 ![] bcast_S_S12x128 main_cst_4
  let main_v16 : IVec S12x128 1 := cmpf .olt main_v14 main_v15
  fn_part1 (F := F) main_arg4 main_v13 main_v16
-- ==== Pre_finite_conv.lean ====
abbrev S2x2048x5632 : Shape := ⟨3, ![2, 2048, 5632]⟩
abbrev S2x3x5632 : Shape := ⟨3, ![2, 3, 5632]⟩
abbrev S2x1x5632 : Shape := ⟨3, ![2, 1, 5632]⟩
abbrev S2048x5632 : Shape := ⟨2, ![2048, 5632]⟩
abbrev S_ : Shape := ⟨0, ![]⟩

class Facts : Prop where
  bcast_S_S2x2048x5632 : S_.BroadcastsInDim S2x2048x5632 (![] : Fin 0 → Fin S2x2048x5632.rank)
  reducesTo_S2x2048x5632_S_d0_1_2 : S2x2048x5632.ReducesTo [0, 1, 2] S_
  h_S_ : 0 < S_.numel
  bcast_S_S2x3x5632 : S_.BroadcastsInDim S2x3x5632 (![] : Fin 0 → Fin S2x3x5632.rank)
  reducesTo_S2x3x5632_S_d0_1_2 : S2x3x5632.ReducesTo [0, 1, 2] S_
  bcast_S_S2x1x5632 : S_.BroadcastsInDim S2x1x5632 (![] : Fin 0 → Fin S2x1x5632.rank)
  reducesTo_S2x1x5632_S_d0_1_2 : S2x1x5632.ReducesTo [0, 1, 2] S_
  bcast_S_S2048x5632 : S_.BroadcastsInDim S2048x5632 (![] : Fin 0 → Fin S2048x5632.rank)
  reducesTo_S2048x5632_S_d0_1 : S2048x5632.ReducesTo [0, 1] S_

variable [Facts]

def fn_part1 {F : FTy → Type} [FloatOps F] (main_v13 : IVec S_ 1) (main_v16 : IVec S2048x5632 1) : IVec S_ 1 :=
  let main_c_5 : IVec S_ 1 := constantI S_ 1 1#1
  let main_v17 : IVec S_ 1 := (fun x v => Host.reduce IntOp.andi x v reducesTo_S2048x5632_S_d0_1 h_S_) main_v16 main_c_5
  let main_v18 : IVec S_ 1 := andi main_v13 main_v17
  main_v18

def fn {F : FTy → Type} [FloatOps F] (main_arg0 : FVec F S2x2048x5632 .f32) (main_arg1 : FVec F S2x3x5632 .f32) (main_arg2 : FVec F S2x1x5632 .f32) (main_arg3 : FVec F S2048x5632 .f32) : IVec S_ 1 :=
  let main_v0 : FVec F S2x2048x5632 .f32 := Host.absf main_arg0
  let main_cst : FVec F S_ .f32 := constant S_ .f32 0x7F800000#32
  let main_v1 : FVec F S2x2048x5632 .f32 := broadcastInDim S2x2048x5632 ![] bcast_S_S2x2048x5632 main_cst
  let main_v2 : IVec S2x2048x5632 1 := cmpf .olt main_v0 main_v1
  let main_c : IVec S_ 1 := constantI S_ 1 1#1
  let main_v3 : IVec S_ 1 := (fun x v => Host.reduce IntOp.andi x v reducesTo_S2x2048x5632_S_d0_1_2 h_S_) main_v2 main_c
  let main_v4 : FVec F S2x3x5632 .f32 := Host.absf main_arg1
  let main_cst_0 : FVec F S_ .f32 := constant S_ .f32 0x7F800000#32
  let main_v5 : FVec F S2x3x5632 .f32 := broadcastInDim S2x3x5632 ![] bcast_S_S2x3x5632 main_cst_0
  let main_v6 : IVec S2x3x5632 1 := cmpf .olt main_v4 main_v5
  let main_c_1 : IVec S_ 1 := constantI S_ 1 1#1
  let main_v7 : IVec S_ 1 := (fun x v => Host.reduce IntOp.andi x v reducesTo_S2x3x5632_S_d0_1_2 h_S_) main_v6 main_c_1
  let main_v8 : IVec S_ 1 := andi main_v3 main_v7
  let main_v9 : FVec F S2x1x5632 .f32 := Host.absf main_arg2
  let main_cst_2 : FVec F S_ .f32 := constant S_ .f32 0x7F800000#32
  let main_v10 : FVec F S2x1x5632 .f32 := broadcastInDim S2x1x5632 ![] bcast_S_S2x1x5632 main_cst_2
  let main_v11 : IVec S2x1x5632 1 := cmpf .olt main_v9 main_v10
  let main_c_3 : IVec S_ 1 := constantI S_ 1 1#1
  let main_v12 : IVec S_ 1 := (fun x v => Host.reduce IntOp.andi x v reducesTo_S2x1x5632_S_d0_1_2 h_S_) main_v11 main_c_3
  let main_v13 : IVec S_ 1 := andi main_v8 main_v12
  let main_v14 : FVec F S2048x5632 .f32 := Host.absf main_arg3
  let main_cst_4 : FVec F S_ .f32 := constant S_ .f32 0x7F800000#32
  let main_v15 : FVec F S2048x5632 .f32 := broadcastInDim S2048x5632 ![] bcast_S_S2048x5632 main_cst_4
  let main_v16 : IVec S2048x5632 1 := cmpf .olt main_v14 main_v15
  fn_part1 (F := F) main_v13 main_v16
-- ==== Pre_finite_memory_a.lean ====
abbrev S2048x5120 : Shape := ⟨2, ![2048, 5120]⟩
abbrev S256x1024 : Shape := ⟨2, ![256, 1024]⟩
abbrev S2048x1024 : Shape := ⟨2, ![2048, 1024]⟩
abbrev S_ : Shape := ⟨0, ![]⟩

class Facts : Prop where
  bitsLt_bf16_f32 : FTy.bits .bf16 < FTy.bits .f32
  bcast_S_S2048x5120 : S_.BroadcastsInDim S2048x5120 (![] : Fin 0 → Fin S2048x5120.rank)
  reducesTo_S2048x5120_S_d0_1 : S2048x5120.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S2048x5120 .bf16) (main_arg1 : FVec F S256x1024 .f32) (main_arg2 : FVec F S2048x1024 .f32) : IVec S_ 1 :=
  let main_v0 : FVec F S2048x5120 .f32 := (extf .f32 · bitsLt_bf16_f32) main_arg0
  let main_v1 : FVec F S2048x5120 .f32 := Host.absf main_v0
  let main_cst : FVec F S_ .f32 := constant S_ .f32 0x7F800000#32
  let main_v2 : FVec F S2048x5120 .f32 := broadcastInDim S2048x5120 ![] bcast_S_S2048x5120 main_cst
  let main_v3 : IVec S2048x5120 1 := cmpf .olt main_v1 main_v2
  let main_c : IVec S_ 1 := constantI S_ 1 1#1
  let main_v4 : IVec S_ 1 := (fun x v => Host.reduce IntOp.andi x v reducesTo_S2048x5120_S_d0_1 h_S_) main_v3 main_c
  let main_v5 : FVec F S256x1024 .f32 := Host.absf main_arg1
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  let main_c_1 : IVec S_ 1 := constantI S_ 1 1#1
  let main_v8 : IVec S_ 1 := (fun x v => Host.reduce IntOp.andi x v reducesTo_S256x1024_S_d0_1 h_S_) main_v7 main_c_1
  let main_v9 : IVec S_ 1 := andi main_v4 main_v8
  main_v9
-- ==== Pre_finite_memory_b.lean ====
abbrev S2048x3584 : Shape := ⟨2, ![2048, 3584]⟩
abbrev S256x1024 : Shape := ⟨2, ![256, 1024]⟩
abbrev S2048x2048 : Shape := ⟨2, ![2048, 2048]⟩
abbrev S_ : Shape := ⟨0, ![]⟩

class Facts : Prop where
  bcast_S_S2048x3584 : S_.BroadcastsInDim S2048x3584 (![] : Fin 0 → Fin S2048x3584.rank)
  reducesTo_S2048x3584_S_d0_1 : S2048x3584.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S2048x3584 .f32) (main_arg1 : FVec F S256x1024 .f32) (main_arg2 : FVec F S2048x2048 .f32) : IVec S_ 1 :=
  let main_v0 : FVec F S2048x3584 .f32 := Host.absf main_arg0
  let main_cst : FVec F S_ .f32 := constant S_ .f32 0x7F800000#32
  let main_v1 : FVec F S2048x3584 .f32 := broadcastInDim S2048x3584 ![] bcast_S_S2048x3584 main_cst
  let main_v2 : IVec S2048x3584 1 := cmpf .olt main_v0 main_v1
  let main_c : IVec S_ 1 := constantI S_ 1 1#1
  let main_v3 : IVec S_ 1 := (fun x v => Host.reduce IntOp.andi x v reducesTo_S2048x3584_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Kernel.lean ====
abbrev S2048x3584 : Shape := ⟨2, ![2048, 3584]⟩
abbrev S1536 : Shape := ⟨1, ![1536]⟩
abbrev S12x128x128 : Shape := ⟨3, ![12, 128, 128]⟩
abbrev S12x128 : Shape := ⟨2, ![12, 128]⟩
abbrev S2048x2048 : Shape := ⟨2, ![2048, 2048]⟩
abbrev S128x12 : Shape := ⟨2, ![128, 12]⟩
abbrev S1x1536 : Shape := ⟨2, ![1, 1536]⟩
abbrev S2048x1536 : Shape := ⟨2, ![2048, 1536]⟩
abbrev S128x1536 : Shape := ⟨2, ![128, 1536]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 12
  | .vmem => 17
  | .smem => 0
  | _ => 0

abbrev bufTy : (tb : Table) → Fin (tcTables nBuf tb) → BufTy
  | .hbm, ⟨0, _⟩ => ⟨S2048x3584, .f32⟩
  | .hbm, ⟨1, _⟩ => ⟨S1536, .f32⟩
  | .hbm, ⟨2, _⟩ => ⟨S12x128x128, .f32⟩
  | .hbm, ⟨3, _⟩ => ⟨S12x128, .f32⟩
  | .hbm, ⟨4, _⟩ => ⟨S2048x2048, .f32⟩
  | .hbm, ⟨5, _⟩ => ⟨S128x12, .f32⟩
  | .hbm, ⟨6, _⟩ => ⟨S1x1536, .f32⟩
  | .hbm, ⟨7, _⟩ => ⟨S2048x1536, .bf16⟩
  | .hbm, ⟨8, _⟩ => ⟨S2048x1536, .bf16⟩
  | .hbm, ⟨9, _⟩ => ⟨S1x1536, .f32⟩
  | .hbm, ⟨10, _⟩ => ⟨S12x128x128, .f32⟩
  | .hbm, ⟨11, _⟩ => ⟨S128x12, .f32⟩
  | .local _ .vmem, ⟨0, _⟩ => ⟨S128x1536, .f32⟩
  | .local _ .vmem, ⟨1, _⟩ => ⟨S128x1536, .f32⟩
  | .local _ .vmem, ⟨2, _⟩ => ⟨S128x1536, .f32⟩
  | .local _ .vmem, ⟨3, _⟩ => ⟨S128x1536, .f32⟩
  | .local _ .vmem, ⟨4, _⟩ => ⟨S1x1536, .f32⟩
  | .local _ .vmem, ⟨5, _⟩ => ⟨S12x128x128, .f32⟩
  | .local _ .vmem, ⟨6, _⟩ => ⟨S128x12, .f32⟩
  | .local _ .vmem, ⟨7, _⟩ => ⟨S128x1536, .f32⟩
  | .local _ .vmem, ⟨8, _⟩ => ⟨S128x1536, .f32⟩
  | .local _ .vmem, ⟨9, _⟩ => ⟨S128x1536, .bf16⟩
  | .local _ .vmem, ⟨10, _⟩ => ⟨S128x1536, .bf16⟩
  | .local _ .vmem, ⟨11, _⟩ => ⟨S128x1536, .bf16⟩
  | .local _ .vmem, ⟨12, _⟩ => ⟨S128x1536, .bf16⟩
  | .local _ .vmem, ⟨13, _⟩ => ⟨S1x1536, .f32⟩
  | .local _ .vmem, ⟨14, _⟩ => ⟨S12x128x128, .f32⟩
  | .local _ .vmem, ⟨15, _⟩ => ⟨S128x12, .f32⟩
  | .local _ .vmem, ⟨16, _⟩ => ⟨S128x1536, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v2_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![16], ![false]⟩

def k0_cond25 (i : grid0.Coords) : BitVec 1 :=
  let arg0 : BitVec 32 := BitVec.ofNat 32 (i 0).val
  let c0_i32_342 : BitVec 32 := 0#32
  let v674 : BitVec 1 := Scalar.cmpi .eq arg0 c0_i32_342
  let v675 : BitVec 32 := Scalar.extui v674
  let c0_i32_343 : BitVec 32 := 0#32
  let v676 : BitVec 1 := Scalar.cmpi .ne v675 c0_i32_343
  v676

def k0_cond26 (i : grid0.Coords) : BitVec 1 :=
  let arg0 : BitVec 32 := BitVec.ofNat 32 (i 0).val
  let c0_i32_344 : BitVec 32 := 0#32
  let v677 : BitVec 1 := Scalar.cmpi .sgt arg0 c0_i32_344
  let v678 : BitVec 32 := Scalar.extui v677
  let c0_i32_345 : BitVec 32 := 0#32
  let v679 : BitVec 1 := Scalar.cmpi .ne v678 c0_i32_345
  v679

def k0_cond1 (i : grid0.Coords) : BitVec 1 :=
  let arg0 : BitVec 32 := BitVec.ofNat 32 (i 0).val
  let c0_i32 : BitVec 32 := 0#32
  let v77 : BitVec 1 := Scalar.cmpi .eq arg0 c0_i32
  let v78 : BitVec 32 := Scalar.extui v77
  let c0_i32_35 : BitVec 32 := 0#32
  let v79 : BitVec 1 := Scalar.cmpi .ne v78 c0_i32_35
  v79

def k0_cond2 (i : grid0.Coords) : BitVec 1 :=
  let arg0 : BitVec 32 := BitVec.ofNat 32 (i 0).val
  let c0_i32_36 : BitVec 32 := 0#32
  let v80 : BitVec 1 := Scalar.cmpi .sgt arg0 c0_i32_36
  let v81 : BitVec 32 := Scalar.extui v80
  let c0_i32_37 : BitVec 32 := 0#32
  let v82 : BitVec 1 := Scalar.cmpi .ne v81 c0_i32_37
  v82

def k0_cond3 (i : grid0.Coords) : BitVec 1 :=
  let arg0 : BitVec 32 := BitVec.ofNat 32 (i 0).val
  let c0_i32_61 : BitVec 32 := 0#32
  let v129 : BitVec 1 := Scalar.cmpi .eq arg0 c0_i32_61
  let v130 : BitVec 32 := Scalar.extui v129
  let c0_i32_62 : BitVec 32 := 0#32
  let v131 : BitVec 1 := Scalar.cmpi .ne v130 c0_i32_62
  v131

def k0_cond4 (i : grid0.Coords) : BitVec 1 :=
  let arg0 : BitVec 32 := BitVec.ofNat 32 (i 0).val
  let c0_i32_63 : BitVec 32 := 0#32
  let v132 : BitVec 1 := Scalar.cmpi .sgt arg0 c0_i32_63
  let v133 : BitVec 32 := Scalar.extui v132
  let c0_i32_64 : BitVec 32 := 0#32
  let v134 : BitVec 1 := Scalar.cmpi .ne v133 c0_i32_64
  v134

def k0_cond5 (i : grid0.Coords) : BitVec 1 :=
  let arg0 : BitVec 32 := BitVec.ofNat 32 (i 0).val
  let c0_i32_88 : BitVec 32 := 0#32
  let v181 : BitVec 1 := Scalar.cmpi .eq arg0 c0_i32_88
  let v182 : BitVec 32 := Scalar.extui v181
  let c0_i32_89 : BitVec 32 := 0#32
  let v183 : BitVec 1 := Scalar.cmpi .ne v182 c0_i32_89
  v183

def k0_cond6 (i : grid0.Coords) : BitVec 1 :=
  let arg0 : BitVec 32 := BitVec.ofNat 32 (i 0).val
  let c0_i32_90 : BitVec 32 := 0#32
  let v184 : BitVec 1 := Scalar.cmpi .sgt arg0 c0_i32_90
  let v185 : BitVec 32 := Scalar.extui v184
  let c0_i32_91 : BitVec 32 := 0#32
  let v186 : BitVec 1 := Scalar.cmpi .ne v185 c0_i32_91
  v186

def k0_cond7 (i : grid0.Coords) : BitVec 1 :=
  let arg0 : BitVec 32 := BitVec.ofNat 32 (i 0).val
  let c0_i32_115 : BitVec 32 := 0#32
  let v233 : BitVec 1 := Scalar.cmpi .eq arg0 c0_i32_115
  let v234 : BitVec 32 := Scalar.extui v233
  let c0_i32_116 : BitVec 32 := 0#32
  let v235 : BitVec 1 := Scalar.cmpi .ne v234 c0_i32_116
  v235

def k0_cond8 (i : grid0.Coords) : BitVec 1 :=
  let arg0 : BitVec 32 := BitVec.ofNat 32 (i 0).val
  let c0_i32_117 : BitVec 32 := 0#32
  let v236 : BitVec 1 := Scalar.cmpi .sgt arg0 c0_i32_117
  let v237 : BitVec 32 := Scalar.extui v236
  let c0_i32_118 : BitVec 32 := 0#32
  let v238 : BitVec 1 := Scalar.cmpi .ne v237 c0_i32_118
  v238

def k0_cond9 (i : grid0.Coords) : BitVec 1 :=
  let arg0 : BitVec 32 := BitVec.ofNat 32 (i 0).val
  let c0_i32_142 : BitVec 32 := 0#32
  let v285 : BitVec 1 := Scalar.cmpi .eq arg0 c0_i32_142
  let v286 : BitVec 32 := Scalar.extui v285
  let c0_i32_143 : BitVec 32 := 0#32
  let v287 : BitVec 1 := Scalar.cmpi .ne v286 c0_i32_143
  v287

def k0_cond10 (i : grid0.Coords) : BitVec 1 :=
  let arg0 : BitVec 32 := BitVec.ofNat 32 (i 0).val
  let c0_i32_144 : BitVec 32 := 0#32
  let v288 : BitVec 1 := Scalar.cmpi .sgt arg0 c0_i32_144
  let v289 : BitVec 32 := Scalar.extui v288
  let c0_i32_145 : BitVec 32 := 0#32
  let v290 : BitVec 1 := Scalar.cmpi .ne v289 c0_i32_145
  v290

def k0_cond11 (i : grid0.Coords) : BitVec 1 :=
  let arg0 : BitVec 32 := BitVec.ofNat 32 (i 0).val
  let c0_i32_169 : BitVec 32 := 0#32
  let v337 : BitVec 1 := Scalar.cmpi .eq arg0 c0_i32_169
  let v338 : BitVec 32 := Scalar.extui v337
  let c0_i32_170 : BitVec 32 := 0#32
  let v339 : BitVec 1 := Scalar.cmpi .ne v338 c0_i32_170
  v339

def k0_cond12 (i : grid0.Coords) : BitVec 1 :=
  let arg0 : BitVec 32 := BitVec.ofNat 32 (i 0).val
  let c0_i32_171 : BitVec 32 := 0#32
  let v340 : BitVec 1 := Scalar.cmpi .sgt arg0 c0_i32_171
  let v341 : BitVec 32 := Scalar.extui v340
  let c0_i32_172 : BitVec 32 := 0#32
  let v342 : BitVec 1 := Scalar.cmpi .ne v341 c0_i32_172
  v342

def k0_cond13 (i : grid0.Coords) : BitVec 1 :=
  let arg0 : BitVec 32 := BitVec.ofNat 32 (i 0).val
  let c0_i32_196 : BitVec 32 := 0#32
  let v389 : BitVec 1 := Scalar.cmpi .eq arg0 c0_i32_196
  let v390 : BitVec 32 := Scalar.extui v389
  let c0_i32_197 : BitVec 32 := 0#32
  let v391 : BitVec 1 := Scalar.cmpi .ne v390 c0_i32_197
  v391

def k0_cond14 (i : grid0.Coords) : BitVec 1 :=
  let arg0 : BitVec 32 := BitVec.ofNat 32 (i 0).val
  let c0_i32_198 : BitVec 32 := 0#32
  let v392 : BitVec 1 := Scalar.cmpi .sgt arg0 c0_i32_198
  let v393 : BitVec 32 := Scalar.extui v392
  let c0_i32_199 : BitVec 32 := 0#32
  let v394 : BitVec 1 := Scalar.cmpi .ne v393 c0_i32_199
  v394

def k0_cond15 (i : grid0.Coords) : BitVec 1 :=
  let arg0 : BitVec 32 := BitVec.ofNat 32 (i 0).val
  let c0_i32_223 : BitVec 32 := 0#32
  let v441 : BitVec 1 := Scalar.cmpi .eq arg0 c0_i32_223
  let v442 : BitVec 32 := Scalar.extui v441
  let c0_i32_224 : BitVec 32 := 0#32
  let v443 : BitVec 1 := Scalar.cmpi .ne v442 c0_i32_224
  v443

def k0_cond16 (i : grid0.Coords) : BitVec 1 :=
  let arg0 : BitVec 32 := BitVec.ofNat 32 (i 0).val
  let c0_i32_225 : BitVec 32 := 0#32
  let v444 : BitVec 1 := Scalar.cmpi .sgt arg0 c0_i32_225
  let v445 : BitVec 32 := Scalar.extui v444
  let c0_i32_226 : BitVec 32 := 0#32
  let v446 : BitVec 1 := Scalar.cmpi .ne v445 c0_i32_226
  v446

def k0_cond17 (i : grid0.Coords) : BitVec 1 :=
  let arg0 : BitVec 32 := BitVec.ofNat 32 (i 0).val
  let c0_i32_250 : BitVec 32 := 0#32
  let v493 : BitVec 1 := Scalar.cmpi .eq arg0 c0_i32_250
  let v494 : BitVec 32 := Scalar.extui v493
  let c0_i32_251 : BitVec 32 := 0#32
  let v495 : BitVec 1 := Scalar.cmpi .ne v494 c0_i32_251
  v495

def k0_cond18 (i : grid0.Coords) : BitVec 1 :=
  let arg0 : BitVec 32 := BitVec.ofNat 32 (i 0).val
  let c0_i32_252 : BitVec 32 := 0#32
  let v496 : BitVec 1 := Scalar.cmpi .sgt arg0 c0_i32_252
  let v497 : BitVec 32 := Scalar.extui v496
  let c0_i32_253 : BitVec 32 := 0#32
  let v498 : BitVec 1 := Scalar.cmpi .ne v497 c0_i32_253
  v498

def k0_cond19 (i : grid0.Coords) : BitVec 1 :=
  let arg0 : BitVec 32 := BitVec.ofNat 32 (i 0).val
  let c0_i32_277 : BitVec 32 := 0#32
  let v545 : BitVec 1 := Scalar.cmpi .eq arg0 c0_i32_277
  let v546 : BitVec 32 := Scalar.extui v545
  let c0_i32_278 : BitVec 32 := 0#32
  let v547 : BitVec 1 := Scalar.cmpi .ne v546 c0_i32_278
  v547

def k0_cond20 (i : grid0.Coords) : BitVec 1 :=
  let arg0 : BitVec 32 := BitVec.ofNat 32 (i 0).val
  let c0_i32_279 : BitVec 32 := 0#32
  let v548 : BitVec 1 := Scalar.cmpi .sgt arg0 c0_i32_279
  let v549 : BitVec 32 := Scalar.extui v548
  let c0_i32_280 : BitVec 32 := 0#32
  let v550 : BitVec 1 := Scalar.cmpi .ne v549 c0_i32_280
  v550

def k0_cond21 (i : grid0.Coords) : BitVec 1 :=
  let arg0 : BitVec 32 := BitVec.ofNat 32 (i 0).val
  let c0_i32_304 : BitVec 32 := 0#32
  let v597 : BitVec 1 := Scalar.cmpi .eq arg0 c0_i32_304
  let v598 : BitVec 32 := Scalar.extui v597
  let c0_i32_305 : BitVec 32 := 0#32
  let v599 : BitVec 1 := Scalar.cmpi .ne v598 c0_i32_305
  v599

def k0_cond22 (i : grid0.Coords) : BitVec 1 :=
  let arg0 : BitVec 32 := BitVec.ofNat 32 (i 0).val
  let c0_i32_306 : BitVec 32 := 0#32
  let v600 : BitVec 1 := Scalar.cmpi .sgt arg0 c0_i32_306
  let v601 : BitVec 32 := Scalar.extui v600
  let c0_i32_307 : BitVec 32 := 0#32
  let v602 : BitVec 1 := Scalar.cmpi .ne v601 c0_i32_307
  v602

def k0_cond23 (i : grid0.Coords) : BitVec 1 :=
  let arg0 : BitVec 32 := BitVec.ofNat 32 (i 0).val
  let c0_i32_331 : BitVec 32 := 0#32
  let v649 : BitVec 1 := Scalar.cmpi .eq arg0 c0_i32_331
  let v650 : BitVec 32 := Scalar.extui v649
  let c0_i32_332 : BitVec 32 := 0#32
  let v651 : BitVec 1 := Scalar.cmpi .ne v650 c0_i32_332
  v651

def k0_cond24 (i : grid0.Coords) : BitVec 1 :=
  let arg0 : BitVec 32 := BitVec.ofNat 32 (i 0).val
  let c0_i32_333 : BitVec 32 := 0#32
  let v652 : BitVec 1 := Scalar.cmpi .sgt arg0 c0_i32_333
  let v653 : BitVec 32 := Scalar.extui v652
  let c0_i32_334 : BitVec 32 := 0#32
  let v654 : BitVec 1 := Scalar.cmpi .ne v653 c0_i32_334
  v654

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1536 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S12x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "rsqrt2" => some (((Real.sqrt 2)⁻¹ : ℝ) : EReal)
  | "rsqrt2pi" => some (((Real.sqrt (2 * Real.pi))⁻¹ : ℝ) : EReal)
  | _ => none
-- ==== ReferenceIdeal.lean ====
abbrev S2048x3584 : Shape := ⟨2, ![2048, 3584]⟩
abbrev S1536 : Shape := ⟨1, ![1536]⟩
abbrev S12x128x128 : Shape := ⟨3, ![12, 128, 128]⟩
abbrev S12x128 : Shape := ⟨2, ![12, 128]⟩
abbrev S2048x2048 : Shape := ⟨2, ![2048, 2048]⟩
abbrev S2048x1536 : Shape := ⟨2, ![2048, 1536]⟩
abbrev S_ : Shape := ⟨0, ![]⟩
abbrev S2048 : Shape := ⟨1, ![2048]⟩
abbrev S2048x1 : Shape := ⟨2, ![2048, 1]⟩
abbrev S1x1536 : Shape := ⟨2, ![1, 1536]⟩
abbrev S16x128x12x128 : Shape := ⟨4, ![16, 128, 12, 128]⟩
abbrev S12x16x128x128 : Shape := ⟨4, ![12, 16, 128, 128]⟩
abbrev S128x12 : Shape := ⟨2, ![128, 12]⟩
abbrev S1x128x12x1 : Shape := ⟨4, ![1, 128, 12, 1]⟩

abbrev nBuf : Space → Nat
  | .hbm => 142
  | .vmem => 0
  | .smem => 0
  | _ => 0

abbrev hbmTy0_0 (i : Nat) : BufTy := match i % 128 with
  | 0 => ⟨S2048x3584, .f32⟩
  | 1 => ⟨S1536, .f32⟩
  | 2 => ⟨S12x128x128, .f32⟩
  | 3 => ⟨S12x128, .f32⟩
  | 4 => ⟨S2048x2048, .f32⟩
  | 5 => ⟨S2048x1536, .f32⟩
  | 6 => ⟨S2048x1536, .f32⟩
  | 7 => ⟨S_, .f32⟩
  | 8 => ⟨S2048x1536, .f32⟩
  | 9 => ⟨S2048x1536, .f32⟩
  | 10 => ⟨S_, .f32⟩
  | 11 => ⟨S_, .f32⟩
  | 12 => ⟨S2048x1536, .f32⟩
  | 13 => ⟨S2048x1536, .f32⟩
  | 14 => ⟨S2048x1536, .f32⟩
  | 15 => ⟨S_, .f32⟩
  | 16 => ⟨S_, .f32⟩
  | 17 => ⟨S_, .f32⟩
  | 18 => ⟨S_, .f32⟩
  | 19 => ⟨S_, .f32⟩
  | 20 => ⟨S2048x1536, .f32⟩
  | 21 => ⟨S2048x1536, .f32⟩
  | 22 => ⟨S2048x1536, .f32⟩
  | 23 => ⟨S2048x1536, .f32⟩
  | 24 => ⟨S2048x1536, .f32⟩
  | 25 => ⟨S_, .f32⟩
  | 26 => ⟨S2048x1536, .f32⟩
  | 27 => ⟨S2048x1536, .f32⟩
  | 28 => ⟨S2048x1536, .f32⟩
  | 29 => ⟨S_, .f32⟩
  | 30 => ⟨S2048x1536, .f32⟩
  | 31 => ⟨S2048x1536, .f32⟩
  | 32 => ⟨S_, .f32⟩
  | 33 => ⟨S_, .f32⟩
  | 34 => ⟨S2048x1536, .f32⟩
  | 35 => ⟨S2048x1536, .f32⟩
  | 36 => ⟨S2048x1536, .f32⟩
  | 37 => ⟨S_, .f32⟩
  | 38 => ⟨S_, .f32⟩
  | 39 => ⟨S_, .f32⟩
  | 40 => ⟨S_, .f32⟩
  | 41 => ⟨S_, .f32⟩
  | 42 => ⟨S2048x1536, .f32⟩
  | 43 => ⟨S2048x1536, .f32⟩
  | 44 => ⟨S2048x1536, .f32⟩
  | 45 => ⟨S2048x1536, .f32⟩
  | 46 => ⟨S2048x1536, .f32⟩
  | 47 => ⟨S_, .f32⟩
  | 48 => ⟨S2048x1536, .f32⟩
  | 49 => ⟨S2048x1536, .f32⟩
  | 50 => ⟨S2048x1536, .f32⟩
  | 51 => ⟨S2048x1536, .f32⟩
  | 52 => ⟨S_, .f32⟩
  | 53 => ⟨S2048, .f32⟩
  | 54 => ⟨S2048x1, .f32⟩
  | 55 => ⟨S_, .f32⟩
  | 56 => ⟨S2048x1, .f32⟩
  | 57 => ⟨S2048x1, .f32⟩
  | 58 => ⟨S_, .f32⟩
  | 59 => ⟨S2048x1, .f32⟩
  | 60 => ⟨S2048x1, .f32⟩
  | 61 => ⟨S2048x1, .f32⟩
  | 62 => ⟨S2048x1, .f32⟩
  | 63 => ⟨S_, .f32⟩
  | 64 => ⟨S2048x1, .f32⟩
  | 65 => ⟨S2048x1, .f32⟩
  | 66 => ⟨S2048x1536, .f32⟩
  | 67 => ⟨S2048x1536, .f32⟩
  | 68 => ⟨S1x1536, .f32⟩
  | 69 => ⟨S2048x1536, .f32⟩
  | 70 => ⟨S2048x1536, .f32⟩
  | 71 => ⟨S16x128x12x128, .f32⟩
  | 72 => ⟨S12x16x128x128, .f32⟩
  | 73 => ⟨S16x128x12x128, .f32⟩
  | 74 => ⟨S128x12, .f32⟩
  | 75 => ⟨S1x128x12x1, .f32⟩
  | 76 => ⟨S16x128x12x128, .f32⟩
  | 77 => ⟨S16x128x12x128, .f32⟩
  | 78 => ⟨S2048x1536, .f32⟩
  | 79 => ⟨S2048x1536, .f32⟩
  | 80 => ⟨S2048x1536, .f32⟩
  | 81 => ⟨S2048x1536, .f32⟩
  | 82 => ⟨S2048x1536, .f32⟩
  | 83 => ⟨S16x128x12x128, .f32⟩
  | 84 => ⟨S_, .f32⟩
  | 85 => ⟨S128x12, .f32⟩
  | 86 => ⟨S1x128x12x1, .f32⟩
  | 87 => ⟨S_, .f32⟩
  | 88 => ⟨S128x12, .f32⟩
  | 89 => ⟨S12x128, .f32⟩
  | 90 => ⟨S12x16x128x128, .f32⟩
  | 91 => ⟨S12x128x128, .f32⟩
  | 92 => ⟨S12x16x128x128, .f32⟩
  | 93 => ⟨S16x128x12x128, .f32⟩
  | 94 => ⟨S2048x1536, .f32⟩
  | 95 => ⟨S2048x1536, .f32⟩
  | 96 => ⟨S_, .f32⟩
  | 97 => ⟨S1536, .f32⟩
  | 98 => ⟨S1x1536, .f32⟩
  | 99 => ⟨S2048x1536, .f32⟩
  | 100 => ⟨S2048x1536, .f32⟩
  | 101 => ⟨S_, .f32⟩
  | 102 => ⟨S1536, .f32⟩
  | 103 => ⟨S2048x1536, .f32⟩
  | 104 => ⟨S_, .f32⟩
  | 105 => ⟨S2048, .f32⟩
  | 106 => ⟨S2048x1, .f32⟩
  | 107 => ⟨S2048x1536, .f32⟩
  | 108 => ⟨S2048x1536, .f32⟩
  | 109 => ⟨S2048x1, .f32⟩
  | 110 => ⟨S_, .f32⟩
  | 111 => ⟨S2048x1, .f32⟩
  | 112 => ⟨S2048x1, .f32⟩
  | 113 => ⟨S_, .f32⟩
  | 114 => ⟨S2048, .f32⟩
  | 115 => ⟨S2048x1536, .f32⟩
  | 116 => ⟨S2048x1536, .f32⟩
  | 117 => ⟨S2048x1536, .f32⟩
  | 118 => ⟨S2048x1536, .f32⟩
  | 119 => ⟨S2048x1536, .f32⟩
  | 120 => ⟨S2048x1536, .f32⟩
  | 121 => ⟨S2048x1536, .f32⟩
  | 122 => ⟨S2048x1536, .f32⟩
  | 123 => ⟨S2048x1536, .f32⟩
  | 124 => ⟨S2048x1536, .f32⟩
  | 125 => ⟨S_, .f32⟩
  | 126 => ⟨S2048x1536, .f32⟩
  | 127 => ⟨S2048x1536, .f32⟩
  | _ => ⟨S2048x3584, .f32⟩

abbrev hbmTy0_1 (i : Nat) : BufTy := match i % 128 with
  | 0 => ⟨S2048x1536, .f32⟩
  | 1 => ⟨S2048x1536, .f32⟩
  | 2 => ⟨S2048x1536, .f32⟩
  | 3 => ⟨S2048x1536, .f32⟩
  | 4 => ⟨S2048x1536, .f32⟩
  | 5 => ⟨S2048x1536, .f32⟩
  | 6 => ⟨S_, .f32⟩
  | 7 => ⟨S2048x1536, .f32⟩
  | 8 => ⟨S2048x1536, .f32⟩
  | 9 => ⟨S2048x1536, .f32⟩
  | 10 => ⟨S2048x1536, .bf16⟩
  | 11 => ⟨S2048x1536, .bf16⟩
  | 12 => ⟨S1x1536, .f32⟩
  | 13 => ⟨S128x12, .f32⟩
  | _ => ⟨S2048x3584, .f32⟩

abbrev hbmTy (i : Nat) : BufTy := match i / 128 with
  | 0 => hbmTy0_0 i
  | 1 => hbmTy0_1 i
  | _ => ⟨S2048x3584, .f32⟩

abbrev bufTy : (tb : Table) → Fin (tcTables nBuf tb) → BufTy
  | .hbm, ⟨i, _⟩ => hbmTy i
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_cst_10 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_13 : Ref sig .tc := ⟨.hbm, 84, rfl⟩
abbrev main_v65 : Ref sig .tc := ⟨.hbm, 85, rfl⟩
abbrev main_v66 : Ref sig .tc := ⟨.hbm, 86, rfl⟩
abbrev main_cst_14 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_15 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_cst_16 : Ref sig .tc := ⟨.hbm, 101, rfl⟩
abbrev main_v79 : Ref sig .tc := ⟨.hbm, 102, rfl⟩
abbrev main_v80 : Ref sig .tc := ⟨.hbm, 103, rfl⟩
abbrev main_cst_17 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_18 : Ref sig .tc := ⟨.hbm, 110, rfl⟩
abbrev main_v86 : Ref sig .tc := ⟨.hbm, 111, rfl⟩
abbrev main_v87 : Ref sig .tc := ⟨.hbm, 112, rfl⟩
abbrev main_cst_19 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_cst_20 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_21 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩

abbrev nD : Nat := 1
abbrev τ : Topo := Topo.v7x

variable {F : FTy → Type} [FloatOps F]
-- ==== Ddown.lean ====
abbrev S2048x2048 : Shape := ⟨2, ![2048, 2048]⟩
abbrev S5632x2048 : Shape := ⟨2, ![5632, 2048]⟩
abbrev S2048x5632 : Shape := ⟨2, ![2048, 5632]⟩
abbrev S1024x2048 : Shape := ⟨2, ![1024, 2048]⟩
abbrev S1408x2048 : Shape := ⟨2, ![1408, 2048]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .f32⟩
  | .local _ .vmem, ⟨5, _⟩ => ⟨S1024x1408, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DdownRefIdeal.lean ====
abbrev S2048x2048 : Shape := ⟨2, ![2048, 2048]⟩
abbrev S5632x2048 : Shape := ⟨2, ![5632, 2048]⟩
abbrev S_ : Shape := ⟨0, ![]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S5632x2048, .bf16⟩
  | .hbm, ⟨2, _⟩ => ⟨S2048x2048, .f32⟩
  | .hbm, ⟨3, _⟩ => ⟨S5632x2048, .f32⟩
  | .hbm, ⟨4, _⟩ => ⟨S_, .f32⟩
  | .hbm, ⟨5, _⟩ => ⟨S2048x5632, .f32⟩
  | .hbm, ⟨6, _⟩ => ⟨S2048x2048, .f32⟩
  | .hbm, ⟨7, _⟩ => ⟨S2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wdown.lean ====
abbrev S2048x5632 : Shape := ⟨2, ![2048, 5632]⟩
abbrev S2048x2048 : Shape := ⟨2, ![2048, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WdownRefIdeal.lean ====
abbrev S2048x5632 : Shape := ⟨2, ![2048, 5632]⟩
abbrev S2048x2048 : Shape := ⟨2, ![2048, 2048]⟩
abbrev S_ : Shape := ⟨0, ![]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x5632, .f32⟩
  | .hbm, ⟨3, _⟩ => ⟨S2048x2048, .f32⟩
  | .hbm, ⟨4, _⟩ => ⟨S_, .f32⟩
  | .hbm, ⟨5, _⟩ => ⟨S5632x2048, .f32⟩
  | .hbm, ⟨6, _⟩ => ⟨S2048x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dup.lean ====
abbrev S2x2048x5632 : Shape := ⟨3, ![2, 2048, 5632]⟩
abbrev S8x2048x1408 : Shape := ⟨3, ![8, 2048, 1408]⟩
abbrev S2048x2048 : Shape := ⟨2, ![2048, 2048]⟩
abbrev S1x1024x2816 : Shape := ⟨3, ![1, 1024, 2816]⟩
abbrev S2x1024x1408 : Shape := ⟨3, ![2, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S2048x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_13 : BitVec 32 := 0#32
  let v19 : BitVec 1 := Scalar.cmpi .ne v18 c0_i32_13
  v19

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DupRefIdeal.lean ====
abbrev S2x2048x5632 : Shape := ⟨3, ![2, 2048, 5632]⟩
abbrev S8x2048x1408 : Shape := ⟨3, ![8, 2048, 1408]⟩
abbrev S2048x2x5632 : Shape := ⟨3, ![2048, 2, 5632]⟩
abbrev S2048x11264 : Shape := ⟨2, ![2048, 11264]⟩
abbrev S2048x8x1408 : Shape := ⟨3, ![2048, 8, 1408]⟩
abbrev S_ : Shape := ⟨0, ![]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x5632, .bf16⟩
  | .hbm, ⟨1, _⟩ => ⟨S8x2048x1408, .bf16⟩
  | .hbm, ⟨2, _⟩ => ⟨S2x2048x5632, .f32⟩
  | .hbm, ⟨3, _⟩ => ⟨S2048x2x5632, .f32⟩
  | .hbm, ⟨4, _⟩ => ⟨S2048x11264, .f32⟩
  | .hbm, ⟨5, _⟩ => ⟨S8x2048x1408, .f32⟩
  | .hbm, ⟨6, _⟩ => ⟨S2048x8x1408, .f32⟩
  | .hbm, ⟨7, _⟩ => ⟨S2048x11264, .f32⟩
  | .hbm, ⟨8, _⟩ => ⟨S_, .f32⟩
  | .hbm, ⟨9, _⟩ => ⟨S2048x2048, .f32⟩
  | .hbm, ⟨10, _⟩ => ⟨S2048x11264, .f32⟩
  | .hbm, ⟨11, _⟩ => ⟨S2048x2048, .f32⟩
  | _, _ => ⟨S2x2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Wup.lean ====
abbrev S2048x2048 : Shape := ⟨2, ![2048, 2048]⟩
abbrev S2x2048x5632 : Shape := ⟨3, ![2, 2048, 5632]⟩
abbrev S8x2048x1408 : Shape := ⟨3, ![8, 2048, 1408]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S8x128 : Shape := ⟨2, ![8, 128]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S8x2048x1408, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WupRefIdeal.lean ====
abbrev S2048x2048 : Shape := ⟨2, ![2048, 2048]⟩
abbrev S2x2048x5632 : Shape := ⟨3, ![2, 2048, 5632]⟩
abbrev S2048x2x5632 : Shape := ⟨3, ![2048, 2, 5632]⟩
abbrev S2048x11264 : Shape := ⟨2, ![2048, 11264]⟩
abbrev S_ : Shape := ⟨0, ![]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 15
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5632, .bf16⟩
  | .hbm, ⟨2, _⟩ => ⟨S2048x2048, .f32⟩
  | .hbm, ⟨3, _⟩ => ⟨S2048x2048, .f32⟩
  | .hbm, ⟨4, _⟩ => ⟨S2x2048x5632, .f32⟩
  | .hbm, ⟨5, _⟩ => ⟨S2048x2x5632, .f32⟩
  | .hbm, ⟨6, _⟩ => ⟨S2048x11264, .f32⟩
  | .hbm, ⟨7, _⟩ => ⟨S_, .f32⟩
  | .hbm, ⟨8, _⟩ => ⟨S2048x11264, .f32⟩
  | .hbm, ⟨9, _⟩ => ⟨S2048x11264, .f32⟩
  | .hbm, ⟨10, _⟩ => ⟨S11264x2048, .f32⟩
  | .hbm, ⟨11, _⟩ => ⟨S2048x11264, .f32⟩
  | .hbm, ⟨12, _⟩ => ⟨S2048x8x1408, .f32⟩
  | .hbm, ⟨13, _⟩ => ⟨S8x2048x1408, .f32⟩
  | .hbm, ⟨14, _⟩ => ⟨S8x2048x1408, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Dbin.lean ====
abbrev S2048x3584 : Shape := ⟨2, ![2048, 3584]⟩
abbrev S2048x2048 : Shape := ⟨2, ![2048, 2048]⟩
abbrev S1024x3584 : Shape := ⟨2, ![1024, 3584]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .bf16⟩
  | .hbm, ⟨2, _⟩ => ⟨S2048x2048, .f32⟩
  | .local _ .vmem, ⟨0, _⟩ => ⟨S1024x3584, .bf16⟩
  | .local _ .vmem, ⟨1, _⟩ => ⟨S1024x3584, .bf16⟩
  | .local _ .vmem, ⟨2, _⟩ => ⟨S1024x3584, .bf16⟩
  | .local _ .vmem, ⟨3, _⟩ => ⟨S1024x3584, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x3584 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DbinRefIdeal.lean ====
abbrev S2048x3584 : Shape := ⟨2, ![2048, 3584]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x3584, .bf16⟩
  | .hbm, ⟨1, _⟩ => ⟨S2048x3584, .bf16⟩
  | .hbm, ⟨2, _⟩ => ⟨S2048x3584, .f32⟩
  | .hbm, ⟨3, _⟩ => ⟨S2048x3584, .f32⟩
  | .hbm, ⟨4, _⟩ => ⟨S_, .f32⟩
  | .hbm, ⟨5, _⟩ => ⟨S2048x2048, .f32⟩
  | .hbm, ⟨6, _⟩ => ⟨S2048x3584, .f32⟩
  | .hbm, ⟨7, _⟩ => ⟨S2048x2048, .f32⟩
  | _, _ => ⟨S2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wbin.lean ====
abbrev S2048x2048 : Shape := ⟨2, ![2048, 2048]⟩
abbrev S2048x3584 : Shape := ⟨2, ![2048, 3584]⟩
abbrev S1024x2048 : Shape := ⟨2, ![1024, 2048]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .bf16⟩
  | .hbm, ⟨2, _⟩ => ⟨S2048x3584, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WbinRefIdeal.lean ====
abbrev S2048x2048 : Shape := ⟨2, ![2048, 2048]⟩
abbrev S2048x3584 : Shape := ⟨2, ![2048, 3584]⟩
abbrev S_ : Shape := ⟨0, ![]⟩
abbrev S3584x2048 : Shape := ⟨2, ![3584, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .bf16⟩
  | .hbm, ⟨2, _⟩ => ⟨S2048x2048, .f32⟩
  | .hbm, ⟨3, _⟩ => ⟨S2048x2048, .f32⟩
  | .hbm, ⟨4, _⟩ => ⟨S2048x3584, .f32⟩
  | .hbm, ⟨5, _⟩ => ⟨S_, .f32⟩
  | .hbm, ⟨6, _⟩ => ⟨S2048x3584, .f32⟩
  | .hbm, ⟨7, _⟩ => ⟨S2048x3584, .f32⟩
  | .hbm, ⟨8, _⟩ => ⟨S3584x2048, .f32⟩
  | .hbm, ⟨9, _⟩ => ⟨S2048x3584, .f32⟩
  | .hbm, ⟨10, _⟩ => ⟨S2048x3584, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Dbout.lean ====
abbrev S2048x2048 : Shape := ⟨2, ![2048, 2048]⟩
abbrev S1024x2048 : Shape := ⟨2, ![1024, 2048]⟩
abbrev S1024x1024 : Shape := ⟨2, ![1024, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DboutRefIdeal.lean ====
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wbout.lean ====
abbrev S2048x2048 : Shape := ⟨2, ![2048, 2048]⟩
abbrev S2048x512 : Shape := ⟨2, ![2048, 512]⟩
abbrev S2048x1024 : Shape := ⟨2, ![2048, 1024]⟩
abbrev S512x1024 : Shape := ⟨2, ![512, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WboutRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dain.lean ====
abbrev S2048x5120 : Shape := ⟨2, ![2048, 5120]⟩
abbrev S8x2048x640 : Shape := ⟨3, ![8, 2048, 640]⟩
abbrev S2048x2048 : Shape := ⟨2, ![2048, 2048]⟩
abbrev S1024x2560 : Shape := ⟨2, ![1024, 2560]⟩
abbrev S4x1024x640 : Shape := ⟨3, ![4, 1024, 640]⟩
abbrev S1024x1024 : Shape := ⟨2, ![1024, 1024]⟩
abbrev S1024x640 : Shape := ⟨2, ![1024, 640]⟩
abbrev S1x1024x640 : Shape := ⟨3, ![1, 1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S8x2048x640, .bf16⟩
  | .hbm, ⟨2, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S4x1024x640, .bf16⟩
  | .local _ .vmem, ⟨3, _⟩ => ⟨S4x1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v25 : BitVec 1 := Scalar.cmpi .eq arg2 c1_i32
  let v26 : BitVec 32 := Scalar.extui v25
  let c0_i32_19 : BitVec 32 := 0#32
  let v27 : BitVec 1 := Scalar.cmpi .ne v26 c0_i32_19
  v27

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4x1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DainRefIdeal.lean ====
abbrev S2048x5120 : Shape := ⟨2, ![2048, 5120]⟩
abbrev S8x2048x640 : Shape := ⟨3, ![8, 2048, 640]⟩
abbrev S2048x8x640 : Shape := ⟨3, ![2048, 8, 640]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S8x2048x640, .bf16⟩
  | .hbm, ⟨2, _⟩ => ⟨S2048x5120, .f32⟩
  | .hbm, ⟨3, _⟩ => ⟨S8x2048x640, .f32⟩
  | .hbm, ⟨4, _⟩ => ⟨S2048x8x640, .f32⟩
  | .hbm, ⟨5, _⟩ => ⟨S2048x5120, .f32⟩
  | .hbm, ⟨6, _⟩ => ⟨S_, .f32⟩
  | .hbm, ⟨7, _⟩ => ⟨S2048x2048, .f32⟩
  | .hbm, ⟨8, _⟩ => ⟨S2048x5120, .f32⟩
  | .hbm, ⟨9, _⟩ => ⟨S2048x2048, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Wain.lean ====
abbrev S2048x2048 : Shape := ⟨2, ![2048, 2048]⟩
abbrev S2048x5120 : Shape := ⟨2, ![2048, 5120]⟩
abbrev S8x2048x640 : Shape := ⟨3, ![8, 2048, 640]⟩
abbrev S1024x2048 : Shape := ⟨2, ![1024, 2048]⟩
abbrev S2048x640 : Shape := ⟨2, ![2048, 640]⟩
abbrev S1x1024x640 : Shape := ⟨3, ![1, 1024, 640]⟩
abbrev S8x128 : Shape := ⟨2, ![8, 128]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S8x2048x640, .bf16⟩
  | .local _ .vmem, ⟨0, _⟩ => ⟨S1024x2048, .bf16⟩
  | .local _ .vmem, ⟨1, _⟩ => ⟨S1024x2048, .bf16⟩
  | .local _ .vmem, ⟨2, _⟩ => ⟨S2048x640, .bf16⟩
  | .local _ .vmem, ⟨3, _⟩ => ⟨S2048x640, .bf16⟩
  | .local _ .vmem, ⟨4, _⟩ => ⟨S1x1024x640, .bf16⟩
  | .local _ .vmem, ⟨5, _⟩ => ⟨S1x1024x640, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WainRefIdeal.lean ====
abbrev S2048x2048 : Shape := ⟨2, ![2048, 2048]⟩
abbrev S2048x5120 : Shape := ⟨2, ![2048, 5120]⟩
abbrev S_ : Shape := ⟨0, ![]⟩
abbrev S5120x2048 : Shape := ⟨2, ![5120, 2048]⟩
abbrev S2048x8x640 : Shape := ⟨3, ![2048, 8, 640]⟩
abbrev S8x2048x640 : Shape := ⟨3, ![8, 2048, 640]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x2048, .f32⟩
  | .hbm, ⟨3, _⟩ => ⟨S2048x2048, .f32⟩
  | .hbm, ⟨4, _⟩ => ⟨S2048x5120, .f32⟩
  | .hbm, ⟨5, _⟩ => ⟨S_, .f32⟩
  | .hbm, ⟨6, _⟩ => ⟨S2048x5120, .f32⟩
  | .hbm, ⟨7, _⟩ => ⟨S2048x5120, .f32⟩
  | .hbm, ⟨8, _⟩ => ⟨S5120x2048, .f32⟩
  | .hbm, ⟨9, _⟩ => ⟨S2048x5120, .f32⟩
  | .hbm, ⟨10, _⟩ => ⟨S2048x8x640, .f32⟩
  | .hbm, ⟨11, _⟩ => ⟨S8x2048x640, .f32⟩
  | .hbm, ⟨12, _⟩ => ⟨S8x2048x640, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Daout.lean ====
abbrev S2048x2048 : Shape := ⟨2, ![2048, 2048]⟩
abbrev S8x1024x256 : Shape := ⟨3, ![8, 1024, 256]⟩
abbrev S2048x1024 : Shape := ⟨2, ![2048, 1024]⟩
abbrev S1024x2048 : Shape := ⟨2, ![1024, 2048]⟩
abbrev S1024x1024 : Shape := ⟨2, ![1024, 1024]⟩
abbrev S8x128 : Shape := ⟨2, ![8, 128]⟩
abbrev S1024x256 : Shape := ⟨2, ![1024, 256]⟩
abbrev S1x1024x256 : Shape := ⟨3, ![1, 1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x1024, .f32⟩
  | .local _ .vmem, ⟨0, _⟩ => ⟨S1024x2048, .bf16⟩
  | .local _ .vmem, ⟨1, _⟩ => ⟨S1024x2048, .bf16⟩
  | .local _ .vmem, ⟨2, _⟩ => ⟨S8x1024x256, .bf16⟩
  | .local _ .vmem, ⟨3, _⟩ => ⟨S1024x1024, .f32⟩
  | .local _ .vmem, ⟨4, _⟩ => ⟨S1024x1024, .f32⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DaoutRefIdeal.lean ====
abbrev S2048x2048 : Shape := ⟨2, ![2048, 2048]⟩
abbrev S8x1024x256 : Shape := ⟨3, ![8, 1024, 256]⟩
abbrev S1024x8x256 : Shape := ⟨3, ![1024, 8, 256]⟩
abbrev S1024x2048 : Shape := ⟨2, ![1024, 2048]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x1024x256, .bf16⟩
  | .hbm, ⟨2, _⟩ => ⟨S2048x2048, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S_, .f32⟩
  | .hbm, ⟨7, _⟩ => ⟨S2048x1024, .f32⟩
  | .hbm, ⟨8, _⟩ => ⟨S2048x2048, .f32⟩
  | .hbm, ⟨9, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Waout.lean ====
abbrev S2048x1024 : Shape := ⟨2, ![2048, 1024]⟩
abbrev S2048x2048 : Shape := ⟨2, ![2048, 2048]⟩
abbrev S8x1024x256 : Shape := ⟨3, ![8, 1024, 256]⟩
abbrev S2048x256 : Shape := ⟨2, ![2048, 256]⟩
abbrev S1x1024x256 : Shape := ⟨3, ![1, 1024, 256]⟩
abbrev S8x128 : Shape := ⟨2, ![8, 128]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S8x1024x256, .bf16⟩
  | .local _ .vmem, ⟨0, _⟩ => ⟨S2048x1024, .bf16⟩
  | .local _ .vmem, ⟨1, _⟩ => ⟨S2048x256, .bf16⟩
  | .local _ .vmem, ⟨2, _⟩ => ⟨S2048x256, .bf16⟩
  | .local _ .vmem, ⟨3, _⟩ => ⟨S1x1024x256, .bf16⟩
  | .local _ .vmem, ⟨4, _⟩ => ⟨S1x1024x256, .bf16⟩
  | .local _ .vmem, ⟨5, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WaoutRefIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .f32⟩
  | .hbm, ⟨3, _⟩ => ⟨S2048x2048, .f32⟩
  | .hbm, ⟨4, _⟩ => ⟨S_, .f32⟩
  | .hbm, ⟨5, _⟩ => ⟨S1024x2048, .f32⟩
  | .hbm, ⟨6, _⟩ => ⟨S2048x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Up.lean ====
abbrev S2048x2048 : Shape := ⟨2, ![2048, 2048]⟩
abbrev S8x2048x1408 : Shape := ⟨3, ![8, 2048, 1408]⟩
abbrev S2x2048x5632 : Shape := ⟨3, ![2, 2048, 5632]⟩
abbrev S1024x2048 : Shape := ⟨2, ![1024, 2048]⟩
abbrev S1x2048x1408 : Shape := ⟨3, ![1, 2048, 1408]⟩
abbrev S1x1024x1408 : Shape := ⟨3, ![1, 1024, 1408]⟩
abbrev S8x128 : Shape := ⟨2, ![8, 128]⟩
abbrev S2048x1408 : Shape := ⟨2, ![2048, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2x2048x5632, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x2048 : Shape := ⟨2, ![2048, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S2048x2x5632 : Shape := ⟨3, ![2048, 2, 5632]⟩
abbrev S2x2048x5632 : Shape := ⟨3, ![2, 2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x1408, .bf16⟩
  | .hbm, ⟨2, _⟩ => ⟨S2048x2048, .f32⟩
  | .hbm, ⟨3, _⟩ => ⟨S8x2048x1408, .f32⟩
  | .hbm, ⟨4, _⟩ => ⟨S2048x8x1408, .f32⟩
  | .hbm, ⟨5, _⟩ => ⟨S2048x11264, .f32⟩
  | .hbm, ⟨6, _⟩ => ⟨S2048x11264, .f32⟩
  | .hbm, ⟨7, _⟩ => ⟨S2048x2x5632, .f32⟩
  | .hbm, ⟨8, _⟩ => ⟨S2x2048x5632, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Down.lean ====
abbrev S2048x5632 : Shape := ⟨2, ![2048, 5632]⟩
abbrev S5632x2048 : Shape := ⟨2, ![5632, 2048]⟩
abbrev S2048x2048 : Shape := ⟨2, ![2048, 2048]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 4
  | .vmem => 9
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S2048x5632 : Shape := ⟨2, ![2048, 5632]⟩
abbrev S5632x2048 : Shape := ⟨2, ![5632, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x2048, .bf16⟩
  | .hbm, ⟨2, _⟩ => ⟨S2048x2048, .f32⟩
  | .hbm, ⟨3, _⟩ => ⟨S2048x5632, .f32⟩
  | .hbm, ⟨4, _⟩ => ⟨S5632x2048, .f32⟩
  | .hbm, ⟨5, _⟩ => ⟨S2048x2048, .f32⟩
  | .hbm, ⟨6, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Ain.lean ====
abbrev S2048x2048 : Shape := ⟨2, ![2048, 2048]⟩
abbrev S8x2048x640 : Shape := ⟨3, ![8, 2048, 640]⟩
abbrev S2048x5120 : Shape := ⟨2, ![2048, 5120]⟩
abbrev S1024x2048 : Shape := ⟨2, ![1024, 2048]⟩
abbrev S1x2048x640 : Shape := ⟨3, ![1, 2048, 640]⟩
abbrev S1024x640 : Shape := ⟨2, ![1024, 640]⟩
abbrev S8x128 : Shape := ⟨2, ![8, 128]⟩
abbrev S2048x640 : Shape := ⟨2, ![2048, 640]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S8x2048x640, .bf16⟩
  | .hbm, ⟨2, _⟩ => ⟨S2048x5120, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S1024x640, .bf16⟩
  | .local _ .vmem, ⟨5, _⟩ => ⟨S1024x640, .bf16⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AinRefIdeal.lean ====
abbrev S2048x2048 : Shape := ⟨2, ![2048, 2048]⟩
abbrev S8x2048x640 : Shape := ⟨3, ![8, 2048, 640]⟩
abbrev S2048x8x640 : Shape := ⟨3, ![2048, 8, 640]⟩
abbrev S2048x5120 : Shape := ⟨2, ![2048, 5120]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8x2048x640, .bf16⟩
  | .hbm, ⟨2, _⟩ => ⟨S2048x2048, .f32⟩
  | .hbm, ⟨3, _⟩ => ⟨S8x2048x640, .f32⟩
  | .hbm, ⟨4, _⟩ => ⟨S2048x8x640, .f32⟩
  | .hbm, ⟨5, _⟩ => ⟨S2048x5120, .f32⟩
  | .hbm, ⟨6, _⟩ => ⟨S2048x5120, .f32⟩
  | .hbm, ⟨7, _⟩ => ⟨S2048x5120, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Aout.lean ====
abbrev S2048x1024 : Shape := ⟨2, ![2048, 1024]⟩
abbrev S8x1024x256 : Shape := ⟨3, ![8, 1024, 256]⟩
abbrev S2048x2048 : Shape := ⟨2, ![2048, 2048]⟩
abbrev S1024x1024 : Shape := ⟨2, ![1024, 1024]⟩
abbrev S1x1024x256 : Shape := ⟨3, ![1, 1024, 256]⟩
abbrev S1024x256 : Shape := ⟨2, ![1024, 256]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .f32⟩
  | .hbm, ⟨3, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x256, .bf16⟩
  | .local _ .vmem, ⟨3, _⟩ => ⟨S1x1024x256, .bf16⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S8x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== AoutRefIdeal.lean ====
abbrev S2048x1024 : Shape := ⟨2, ![2048, 1024]⟩
abbrev S8x1024x256 : Shape := ⟨3, ![8, 1024, 256]⟩
abbrev S2048x2048 : Shape := ⟨2, ![2048, 2048]⟩
abbrev S1024x8x256 : Shape := ⟨3, ![1024, 8, 256]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x256, .bf16⟩
  | .hbm, ⟨2, _⟩ => ⟨S2048x2048, .f32⟩
  | .hbm, ⟨3, _⟩ => ⟨S2048x1024, .f32⟩
  | .hbm, ⟨4, _⟩ => ⟨S8x1024x256, .f32⟩
  | .hbm, ⟨5, _⟩ => ⟨S1024x8x256, .f32⟩
  | .hbm, ⟨6, _⟩ => ⟨S1024x2048, .f32⟩
  | .hbm, ⟨7, _⟩ => ⟨S2048x2048, .f32⟩
  | .hbm, ⟨8, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Bin.lean ====
abbrev S2048x2048 : Shape := ⟨2, ![2048, 2048]⟩
abbrev S2048x3584 : Shape := ⟨2, ![2048, 3584]⟩
abbrev S1024x2048 : Shape := ⟨2, ![1024, 2048]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .bf16⟩
  | .hbm, ⟨2, _⟩ => ⟨S2048x3584, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BinRefIdeal.lean ====
abbrev S2048x2048 : Shape := ⟨2, ![2048, 2048]⟩
abbrev S2048x3584 : Shape := ⟨2, ![2048, 3584]⟩

abbrev nBuf : Space → Nat
  | .hbm => 5
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x3584, .bf16⟩
  | .hbm, ⟨2, _⟩ => ⟨S2048x2048, .f32⟩
  | .hbm, ⟨3, _⟩ => ⟨S2048x3584, .f32⟩
  | .hbm, ⟨4, _⟩ => ⟨S2048x3584, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Bout.lean ====
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== BoutRefIdeal.lean ====
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kvproj.lean ====
abbrev S256x2048 : Shape := ⟨2, ![256, 2048]⟩
abbrev S2048x1024 : Shape := ⟨2, ![2048, 1024]⟩
abbrev S256x1024 : Shape := ⟨2, ![256, 1024]⟩
abbrev S2048x512 : Shape := ⟨2, ![2048, 512]⟩
abbrev S256x512 : Shape := ⟨2, ![256, 512]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x1024, .f32⟩
  | .local _ .vmem, ⟨0, _⟩ => ⟨S256x2048, .bf16⟩
  | .local _ .vmem, ⟨1, _⟩ => ⟨S2048x512, .bf16⟩
  | .local _ .vmem, ⟨2, _⟩ => ⟨S2048x512, .bf16⟩
  | .local _ .vmem, ⟨3, _⟩ => ⟨S256x512, .f32⟩
  | .local _ .vmem, ⟨4, _⟩ => ⟨S256x512, .f32⟩
  | .local _ .vmem, ⟨5, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvprojRefIdeal.lean ====
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x1024, .bf16⟩
  | .hbm, ⟨2, _⟩ => ⟨S256x2048, .f32⟩
  | .hbm, ⟨3, _⟩ => ⟨S2048x1024, .f32⟩
  | .hbm, ⟨4, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Dkvproj.lean ====
abbrev S256x1024 : Shape := ⟨2, ![256, 1024]⟩
abbrev S2048x1024 : Shape := ⟨2, ![2048, 1024]⟩
abbrev S256x2048 : Shape := ⟨2, ![256, 2048]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S256x2048, .f32⟩
  | .local _ .vmem, ⟨0, _⟩ => ⟨S256x1024, .f32⟩
  | .local _ .vmem, ⟨1, _⟩ => ⟨S1024x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DkvprojRefIdeal.lean ====
abbrev S256x1024 : Shape := ⟨2, ![256, 1024]⟩
abbrev S2048x1024 : Shape := ⟨2, ![2048, 1024]⟩
abbrev S_ : Shape := ⟨0, ![]⟩
abbrev S256x2048 : Shape := ⟨2, ![256, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S2048x1024, .bf16⟩
  | .hbm, ⟨2, _⟩ => ⟨S2048x1024, .f32⟩
  | .hbm, ⟨3, _⟩ => ⟨S_, .f32⟩
  | .hbm, ⟨4, _⟩ => ⟨S256x2048, .f32⟩
  | .hbm, ⟨5, _⟩ => ⟨S256x1024, .f32⟩
  | .hbm, ⟨6, _⟩ => ⟨S256x2048, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Wkv.lean ====
abbrev S256x2048 : Shape := ⟨2, ![256, 2048]⟩
abbrev S256x1024 : Shape := ⟨2, ![256, 1024]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S2048x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S1024x1024, .bf16⟩
  | .local _ .vmem, ⟨4, _⟩ => ⟨S1024x1024, .bf16⟩
  | .local _ .vmem, ⟨5, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WkvRefIdeal.lean ====
abbrev S256x2048 : Shape := ⟨2, ![256, 2048]⟩
abbrev S256x1024 : Shape := ⟨2, ![256, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x1024, .f32⟩
  | .hbm, ⟨2, _⟩ => ⟨S256x2048, .f32⟩
  | .hbm, ⟨3, _⟩ => ⟨S_, .f32⟩
  | .hbm, ⟨4, _⟩ => ⟨S2048x1024, .f32⟩
  | .hbm, ⟨5, _⟩ => ⟨S256x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DmemA.lean ====
abbrev S2048x5120 : Shape := ⟨2, ![2048, 5120]⟩
abbrev S256x1024 : Shape := ⟨2, ![256, 1024]⟩
abbrev S2048x1024 : Shape := ⟨2, ![2048, 1024]⟩
abbrev S2048x512 : Shape := ⟨2, ![2048, 512]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x5120, .bf16⟩
  | .hbm, ⟨1, _⟩ => ⟨S256x1024, .f32⟩
  | .hbm, ⟨2, _⟩ => ⟨S2048x1024, .f32⟩
  | .hbm, ⟨3, _⟩ => ⟨S2048x512, .bf16⟩
  | .hbm, ⟨4, _⟩ => ⟨S256x1024, .f32⟩
  | .local _ .vmem, ⟨0, _⟩ => ⟨S256x512, .bf16⟩
  | .local _ .vmem, ⟨1, _⟩ => ⟨S256x512, .bf16⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x512, .bf16⟩
  | .local _ .vmem, ⟨6, _⟩ => ⟨S256x512, .bf16⟩
  | .local _ .vmem, ⟨7, _⟩ => ⟨S256x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v40 : BitVec 1 := Scalar.cmpi .eq arg0 c0_i32
  let v41 : BitVec 32 := Scalar.extui v40
  let c0_i32_18 : BitVec 32 := 0#32
  let v42 : BitVec 1 := Scalar.cmpi .ne v41 c0_i32_18
  v42

def k0_cond2 (i : grid0.Coords) : BitVec 1 :=
  let arg0 : BitVec 32 := BitVec.ofNat 32 (i 0).val
  let c0_i32_19 : BitVec 32 := 0#32
  let v43 : BitVec 1 := Scalar.cmpi .sgt arg0 c0_i32_19
  let v44 : BitVec 32 := Scalar.extui v43
  let c0_i32_20 : BitVec 32 := 0#32
  let v45 : BitVec 1 := Scalar.cmpi .ne v44 c0_i32_20
  v45

def k0_cond3 (i : grid0.Coords) : BitVec 1 :=
  let arg0 : BitVec 32 := BitVec.ofNat 32 (i 0).val
  let c0_i32_40 : BitVec 32 := 0#32
  let v86 : BitVec 1 := Scalar.cmpi .eq arg0 c0_i32_40
  let v87 : BitVec 32 := Scalar.extui v86
  let c0_i32_41 : BitVec 32 := 0#32
  let v88 : BitVec 1 := Scalar.cmpi .ne v87 c0_i32_41
  v88

def k0_cond4 (i : grid0.Coords) : BitVec 1 :=
  let arg0 : BitVec 32 := BitVec.ofNat 32 (i 0).val
  let c0_i32_42 : BitVec 32 := 0#32
  let v89 : BitVec 1 := Scalar.cmpi .sgt arg0 c0_i32_42
  let v90 : BitVec 32 := Scalar.extui v89
  let c0_i32_43 : BitVec 32 := 0#32
  let v91 : BitVec 1 := Scalar.cmpi .ne v90 c0_i32_43
  v91

def k0_cond5 (i : grid0.Coords) : BitVec 1 :=
  let arg0 : BitVec 32 := BitVec.ofNat 32 (i 0).val
  let c0_i32_63 : BitVec 32 := 0#32
  let v132 : BitVec 1 := Scalar.cmpi .eq arg0 c0_i32_63
  let v133 : BitVec 32 := Scalar.extui v132
  let c0_i32_64 : BitVec 32 := 0#32
  let v134 : BitVec 1 := Scalar.cmpi .ne v133 c0_i32_64
  v134

def k0_cond6 (i : grid0.Coords) : BitVec 1 :=
  let arg0 : BitVec 32 := BitVec.ofNat 32 (i 0).val
  let c0_i32_65 : BitVec 32 := 0#32
  let v135 : BitVec 1 := Scalar.cmpi .sgt arg0 c0_i32_65
  let v136 : BitVec 32 := Scalar.extui v135
  let c0_i32_66 : BitVec 32 := 0#32
  let v137 : BitVec 1 := Scalar.cmpi .ne v136 c0_i32_66
  v137

def k0_cond7 (i : grid0.Coords) : BitVec 1 :=
  let arg0 : BitVec 32 := BitVec.ofNat 32 (i 0).val
  let c0_i32_86 : BitVec 32 := 0#32
  let v178 : BitVec 1 := Scalar.cmpi .eq arg0 c0_i32_86
  let v179 : BitVec 32 := Scalar.extui v178
  let c0_i32_87 : BitVec 32 := 0#32
  let v180 : BitVec 1 := Scalar.cmpi .ne v179 c0_i32_87
  v180

def k0_cond8 (i : grid0.Coords) : BitVec 1 :=
  let arg0 : BitVec 32 := BitVec.ofNat 32 (i 0).val
  let c0_i32_88 : BitVec 32 := 0#32
  let v181 : BitVec 1 := Scalar.cmpi .sgt arg0 c0_i32_88
  let v182 : BitVec 32 := Scalar.extui v181
  let c0_i32_89 : BitVec 32 := 0#32
  let v183 : BitVec 1 := Scalar.cmpi .ne v182 c0_i32_89
  v183

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DmemAIdeal.lean ====
variable {F : FTy → Type} [FloatOps F] [Named F]
def κ : String → Option EReal := fun
  | "scale" => some (((Real.sqrt 128)⁻¹ : ℝ) : EReal)
  | _ => none
-- ==== DmemARefIdeal.lean ====
abbrev S2048x5120 : Shape := ⟨2, ![2048, 5120]⟩
abbrev S256x1024 : Shape := ⟨2, ![256, 1024]⟩
abbrev S2048x1024 : Shape := ⟨2, ![2048, 1024]⟩
abbrev S2048x512 : Shape := ⟨2, ![2048, 512]⟩
abbrev S256x2x4x128 : Shape := ⟨4, ![256, 2, 4, 128]⟩
abbrev S2048x4x128 : Shape := ⟨3, ![2048, 4, 128]⟩
abbrev S256x1x4x128 : Shape := ⟨4, ![256, 1, 4, 128]⟩
abbrev S256x4x128 : Shape := ⟨3, ![256, 4, 128]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x128x2048 : Shape := ⟨3, ![4, 128, 2048]⟩
abbrev S4x128x256 : Shape := ⟨3, ![4, 128, 256]⟩
abbrev S4x256x128 : Shape := ⟨3, ![4, 256, 128]⟩
abbrev S4x2048x128 : Shape := ⟨3, ![4, 2048, 128]⟩

abbrev nBuf : Space → Nat
  | .hbm => 93
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S256x1024, .f32⟩
  | .hbm, ⟨2, _⟩ => ⟨S2048x1024, .f32⟩
  | .hbm, ⟨3, _⟩ => ⟨S2048x512, .bf16⟩
  | .hbm, ⟨4, _⟩ => ⟨S2048x512, .f32⟩
  | .hbm, ⟨5, _⟩ => ⟨S2048x512, .f32⟩
  | .hbm, ⟨6, _⟩ => ⟨S256x2x4x128, .f32⟩
  | .hbm, ⟨7, _⟩ => ⟨S2048x4x128, .f32⟩
  | .hbm, ⟨8, _⟩ => ⟨S256x1x4x128, .f32⟩
  | .hbm, ⟨9, _⟩ => ⟨S256x4x128, .f32⟩
  | .hbm, ⟨10, _⟩ => ⟨S256x1x4x128, .f32⟩
  | .hbm, ⟨11, _⟩ => ⟨S256x4x128, .f32⟩
  | .hbm, ⟨12, _⟩ => ⟨S4x2048x256, .f32⟩
  | .hbm, ⟨13, _⟩ => ⟨S_, .f32⟩
  | .hbm, ⟨14, _⟩ => ⟨S_, .f32⟩
  | .hbm, ⟨15, _⟩ => ⟨S4x2048x256, .f32⟩
  | .hbm, ⟨16, _⟩ => ⟨S4x2048x256, .f32⟩
  | .hbm, ⟨17, _⟩ => ⟨S_, .f32⟩
  | .hbm, ⟨18, _⟩ => ⟨S4x2048, .f32⟩
  | .hbm, ⟨19, _⟩ => ⟨S4x2048x1, .f32⟩
  | .hbm, ⟨20, _⟩ => ⟨S4x2048x256, .f32⟩
  | .hbm, ⟨21, _⟩ => ⟨S4x2048x256, .i1⟩
  | .hbm, ⟨22, _⟩ => ⟨S4x2048x256, .f32⟩
  | .hbm, ⟨23, _⟩ => ⟨S_, .f32⟩
  | .hbm, ⟨24, _⟩ => ⟨S4x2048, .f32⟩
  | .hbm, ⟨25, _⟩ => ⟨S_, .f32⟩
  | .hbm, ⟨26, _⟩ => ⟨S4x2048, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .i1⟩
  | .hbm, ⟨31, _⟩ => ⟨S_, .f32⟩
  | .hbm, ⟨32, _⟩ => ⟨S4x2048, .f32⟩
  | .hbm, ⟨33, _⟩ => ⟨S4x2048, .i1⟩
  | .hbm, ⟨34, _⟩ => ⟨S_, .f32⟩
  | .hbm, ⟨35, _⟩ => ⟨S4x2048, .f32⟩
  | .hbm, ⟨36, _⟩ => ⟨S_, .f32⟩
  | .hbm, ⟨37, _⟩ => ⟨S4x2048, .f32⟩
  | .hbm, ⟨38, _⟩ => ⟨S_, .f32⟩
  | .hbm, ⟨39, _⟩ => ⟨S4x2048, .f32⟩
  | .hbm, ⟨40, _⟩ => ⟨S4x2048, .f32⟩
  | .hbm, ⟨41, _⟩ => ⟨S4x2048, .f32⟩
  | .hbm, ⟨42, _⟩ => ⟨S4x2048x1, .f32⟩
  | .hbm, ⟨43, _⟩ => ⟨S4x2048x256, .f32⟩
  | .hbm, ⟨44, _⟩ => ⟨S4x2048x256, .f32⟩
  | .hbm, ⟨45, _⟩ => ⟨S4x2048x256, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S4x2048x256, .f32⟩
  | .hbm, ⟨50, _⟩ => ⟨S4x2048x256, .f32⟩
  | .hbm, ⟨51, _⟩ => ⟨S4x2048x1, .f32⟩
  | .hbm, ⟨52, _⟩ => ⟨S_, .f32⟩
  | .hbm, ⟨53, _⟩ => ⟨S4x2048x1, .f32⟩
  | .hbm, ⟨54, _⟩ => ⟨S4x2048x1, .f32⟩
  | .hbm, ⟨55, _⟩ => ⟨S4x128x2048, .f32⟩
  | .hbm, ⟨56, _⟩ => ⟨S2048x4x128, .f32⟩
  | .hbm, ⟨57, _⟩ => ⟨S2048x512, .f32⟩
  | .hbm, ⟨58, _⟩ => ⟨S2048x4x128, .f32⟩
  | .hbm, ⟨59, _⟩ => ⟨S4x128x2048, .f32⟩
  | .hbm, ⟨60, _⟩ => ⟨S4x2048x256, .f32⟩
  | .hbm, ⟨61, _⟩ => ⟨S4x128x256, .f32⟩
  | .hbm, ⟨62, _⟩ => ⟨S256x4x128, .f32⟩
  | .hbm, ⟨63, _⟩ => ⟨S4x2048x256, .f32⟩
  | .hbm, ⟨64, _⟩ => ⟨S4x2048x256, .f32⟩
  | .hbm, ⟨65, _⟩ => ⟨S4x2048x256, .f32⟩
  | .hbm, ⟨66, _⟩ => ⟨S_, .f32⟩
  | .hbm, ⟨67, _⟩ => ⟨S4x2048, .f32⟩
  | .hbm, ⟨68, _⟩ => ⟨S4x2048x1, .f32⟩
  | .hbm, ⟨69, _⟩ => ⟨S4x2048x1, .f32⟩
  | .hbm, ⟨70, _⟩ => ⟨S4x2048x256, .f32⟩
  | .hbm, ⟨71, _⟩ => ⟨S4x2048x256, .f32⟩
  | .hbm, ⟨72, _⟩ => ⟨S_, .f32⟩
  | .hbm, ⟨73, _⟩ => ⟨S4x2048, .f32⟩
  | .hbm, ⟨74, _⟩ => ⟨S4x2048x256, .f32⟩
  | .hbm, ⟨75, _⟩ => ⟨S4x2048x256, .f32⟩
  | .hbm, ⟨76, _⟩ => ⟨S4x2048x256, .f32⟩
  | .hbm, ⟨77, _⟩ => ⟨S4x2048x256, .f32⟩
  | .hbm, ⟨78, _⟩ => ⟨S4x2048x256, .f32⟩
  | .hbm, ⟨79, _⟩ => ⟨S4x256x128, .f32⟩
  | .hbm, ⟨80, _⟩ => ⟨S256x4x128, .f32⟩
  | .hbm, ⟨81, _⟩ => ⟨S4x2048x128, .f32⟩
  | .hbm, ⟨82, _⟩ => ⟨S2048x4x128, .f32⟩
  | .hbm, ⟨83, _⟩ => ⟨S256x1x4x128, .f32⟩
  | .hbm, ⟨84, _⟩ => ⟨S_, .f32⟩
  | .hbm, ⟨85, _⟩ => ⟨S256x2x4x128, .f32⟩
  | .hbm, ⟨86, _⟩ => ⟨S256x1x4x128, .f32⟩
  | .hbm, ⟨87, _⟩ => ⟨S_, .f32⟩
  | .hbm, ⟨88, _⟩ => ⟨S256x2x4x128, .f32⟩
  | .hbm, ⟨89, _⟩ => ⟨S256x2x4x128, .f32⟩
  | .hbm, ⟨90, _⟩ => ⟨S2048x512, .f32⟩
  | .hbm, ⟨91, _⟩ => ⟨S256x1024, .f32⟩
  | .hbm, ⟨92, _⟩ => ⟨S2048x512, .bf16⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_10 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_12 : Ref sig .tc := ⟨.hbm, 84, rfl⟩
abbrev main_v68 : Ref sig .tc := ⟨.hbm, 85, rfl⟩
abbrev main_v69 : Ref sig .tc := ⟨.hbm, 86, rfl⟩
abbrev main_cst_13 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩

abbrev nD : Nat := 1
abbrev τ : Topo := Topo.v7x

variable {F : FTy → Type} [FloatOps F]
-- ==== DmemB.lean ====
abbrev S2048x3584 : Shape := ⟨2, ![2048, 3584]⟩
abbrev S256x1024 : Shape := ⟨2, ![256, 1024]⟩
abbrev S2048x2048 : Shape := ⟨2, ![2048, 2048]⟩
abbrev S2048x512 : Shape := ⟨2, ![2048, 512]⟩
abbrev S256x512 : Shape := ⟨2, ![256, 512]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 8
  | .smem => 0
  | _ => 0

abbrev bufTy : (tb : Table) → Fin (tcTables nBuf tb) → BufTy
  | .hbm, ⟨0, _⟩ => ⟨S2048x3584, .f32⟩
  | .hbm, ⟨1, _⟩ => ⟨S256x1024, .f32⟩
  | .hbm, ⟨2, _⟩ => ⟨S2048x2048, .f32⟩
  | .hbm, ⟨3, _⟩ => ⟨S2048x512, .bf16⟩
  | .hbm, ⟨4, _⟩ => ⟨S256x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x512, .f32⟩
  | .local _ .vmem, ⟨4, _⟩ => ⟨S256x512, .f32⟩
  | .local _ .vmem, ⟨5, _⟩ => ⟨S256x512, .bf16⟩
  | .local _ .vmem, ⟨6, _⟩ => ⟨S256x512, .bf16⟩
  | .local _ .vmem, ⟨7, _⟩ => ⟨S256x1024, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v42 : BitVec 1 := Scalar.cmpi .eq arg0 c0_i32
  let v43 : BitVec 32 := Scalar.extui v42
  let c0_i32_18 : BitVec 32 := 0#32
  let v44 : BitVec 1 := Scalar.cmpi .ne v43 c0_i32_18
  v44

def k0_cond2 (i : grid0.Coords) : BitVec 1 :=
  let arg0 : BitVec 32 := BitVec.ofNat 32 (i 0).val
  let c0_i32_19 : BitVec 32 := 0#32
  let v45 : BitVec 1 := Scalar.cmpi .sgt arg0 c0_i32_19
  let v46 : BitVec 32 := Scalar.extui v45
  let c0_i32_20 : BitVec 32 := 0#32
  let v47 : BitVec 1 := Scalar.cmpi .ne v46 c0_i32_20
  v47

def k0_cond3 (i : grid0.Coords) : BitVec 1 :=
  let arg0 : BitVec 32 := BitVec.ofNat 32 (i 0).val
  let c0_i32_40 : BitVec 32 := 0#32
  let v90 : BitVec 1 := Scalar.cmpi .eq arg0 c0_i32_40
  let v91 : BitVec 32 := Scalar.extui v90
  let c0_i32_41 : BitVec 32 := 0#32
  let v92 : BitVec 1 := Scalar.cmpi .ne v91 c0_i32_41
  v92

def k0_cond4 (i : grid0.Coords) : BitVec 1 :=
  let arg0 : BitVec 32 := BitVec.ofNat 32 (i 0).val
  let c0_i32_42 : BitVec 32 := 0#32
  let v93 : BitVec 1 := Scalar.cmpi .sgt arg0 c0_i32_42
  let v94 : BitVec 32 := Scalar.extui v93
  let c0_i32_43 : BitVec 32 := 0#32
  let v95 : BitVec 1 := Scalar.cmpi .ne v94 c0_i32_43
  v95

def k0_cond5 (i : grid0.Coords) : BitVec 1 :=
  let arg0 : BitVec 32 := BitVec.ofNat 32 (i 0).val
  let c0_i32_63 : BitVec 32 := 0#32
  let v138 : BitVec 1 := Scalar.cmpi .eq arg0 c0_i32_63
  let v139 : BitVec 32 := Scalar.extui v138
  let c0_i32_64 : BitVec 32 := 0#32
  let v140 : BitVec 1 := Scalar.cmpi .ne v139 c0_i32_64
  v140

def k0_cond6 (i : grid0.Coords) : BitVec 1 :=
  let arg0 : BitVec 32 := BitVec.ofNat 32 (i 0).val
  let c0_i32_65 : BitVec 32 := 0#32
  let v141 : BitVec 1 := Scalar.cmpi .sgt arg0 c0_i32_65
  let v142 : BitVec 32 := Scalar.extui v141
  let c0_i32_66 : BitVec 32 := 0#32
  let v143 : BitVec 1 := Scalar.cmpi .ne v142 c0_i32_66
  v143

def k0_cond7 (i : grid0.Coords) : BitVec 1 :=
  let arg0 : BitVec 32 := BitVec.ofNat 32 (i 0).val
  let c0_i32_86 : BitVec 32 := 0#32
  let v186 : BitVec 1 := Scalar.cmpi .eq arg0 c0_i32_86
  let v187 : BitVec 32 := Scalar.extui v186
  let c0_i32_87 : BitVec 32 := 0#32
  let v188 : BitVec 1 := Scalar.cmpi .ne v187 c0_i32_87
  v188

def k0_cond8 (i : grid0.Coords) : BitVec 1 :=
  let arg0 : BitVec 32 := BitVec.ofNat 32 (i 0).val
  let c0_i32_88 : BitVec 32 := 0#32
  let v189 : BitVec 1 := Scalar.cmpi .sgt arg0 c0_i32_88
  let v190 : BitVec 32 := Scalar.extui v189
  let c0_i32_89 : BitVec 32 := 0#32
  let v191 : BitVec 1 := Scalar.cmpi .ne v190 c0_i32_89
  v191

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DmemBIdeal.lean ====
variable {F : FTy → Type} [FloatOps F] [Named F]
def κ : String → Option EReal := fun
  | "scale" => some (((Real.sqrt 128)⁻¹ : ℝ) : EReal)
  | _ => none
-- ==== DmemBRefIdeal.lean ====
abbrev S2048x3584 : Shape := ⟨2, ![2048, 3584]⟩
abbrev S256x1024 : Shape := ⟨2, ![256, 1024]⟩
abbrev S2048x2048 : Shape := ⟨2, ![2048, 2048]⟩
abbrev S2048x512 : Shape := ⟨2, ![2048, 512]⟩
abbrev S256x2x4x128 : Shape := ⟨4, ![256, 2, 4, 128]⟩
abbrev S2048x4x128 : Shape := ⟨3, ![2048, 4, 128]⟩
abbrev S256x1x4x128 : Shape := ⟨4, ![256, 1, 4, 128]⟩
abbrev S256x4x128 : Shape := ⟨3, ![256, 4, 128]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S4x128x2048 : Shape := ⟨3, ![4, 128, 2048]⟩
abbrev S4x128x256 : Shape := ⟨3, ![4, 128, 256]⟩
abbrev S4x256x128 : Shape := ⟨3, ![4, 256, 128]⟩
abbrev S4x2048x128 : Shape := ⟨3, ![4, 2048, 128]⟩

abbrev nBuf : Space → Nat
  | .hbm => 92
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S256x1024, .f32⟩
  | .hbm, ⟨2, _⟩ => ⟨S2048x2048, .f32⟩
  | .hbm, ⟨3, _⟩ => ⟨S2048x512, .f32⟩
  | .hbm, ⟨4, _⟩ => ⟨S2048x512, .f32⟩
  | .hbm, ⟨5, _⟩ => ⟨S256x2x4x128, .f32⟩
  | .hbm, ⟨6, _⟩ => ⟨S2048x4x128, .f32⟩
  | .hbm, ⟨7, _⟩ => ⟨S256x1x4x128, .f32⟩
  | .hbm, ⟨8, _⟩ => ⟨S256x4x128, .f32⟩
  | .hbm, ⟨9, _⟩ => ⟨S256x1x4x128, .f32⟩
  | .hbm, ⟨10, _⟩ => ⟨S256x4x128, .f32⟩
  | .hbm, ⟨11, _⟩ => ⟨S4x2048x256, .f32⟩
  | .hbm, ⟨12, _⟩ => ⟨S_, .f32⟩
  | .hbm, ⟨13, _⟩ => ⟨S_, .f32⟩
  | .hbm, ⟨14, _⟩ => ⟨S4x2048x256, .f32⟩
  | .hbm, ⟨15, _⟩ => ⟨S4x2048x256, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S4x2048x256, .f32⟩
  | .hbm, ⟨20, _⟩ => ⟨S4x2048x256, .i1⟩
  | .hbm, ⟨21, _⟩ => ⟨S4x2048x256, .f32⟩
  | .hbm, ⟨22, _⟩ => ⟨S_, .f32⟩
  | .hbm, ⟨23, _⟩ => ⟨S4x2048, .f32⟩
  | .hbm, ⟨24, _⟩ => ⟨S_, .f32⟩
  | .hbm, ⟨25, _⟩ => ⟨S4x2048, .f32⟩
  | .hbm, ⟨26, _⟩ => ⟨S4x2048, .f32⟩
  | .hbm, ⟨27, _⟩ => ⟨S_, .f32⟩
  | .hbm, ⟨28, _⟩ => ⟨S4x2048, .f32⟩
  | .hbm, ⟨29, _⟩ => ⟨S4x2048, .i1⟩
  | .hbm, ⟨30, _⟩ => ⟨S_, .f32⟩
  | .hbm, ⟨31, _⟩ => ⟨S4x2048, .f32⟩
  | .hbm, ⟨32, _⟩ => ⟨S4x2048, .i1⟩
  | .hbm, ⟨33, _⟩ => ⟨S_, .f32⟩
  | .hbm, ⟨34, _⟩ => ⟨S4x2048, .f32⟩
  | .hbm, ⟨35, _⟩ => ⟨S_, .f32⟩
  | .hbm, ⟨36, _⟩ => ⟨S4x2048, .f32⟩
  | .hbm, ⟨37, _⟩ => ⟨S_, .f32⟩
  | .hbm, ⟨38, _⟩ => ⟨S4x2048, .f32⟩
  | .hbm, ⟨39, _⟩ => ⟨S4x2048, .f32⟩
  | .hbm, ⟨40, _⟩ => ⟨S4x2048, .f32⟩
  | .hbm, ⟨41, _⟩ => ⟨S4x2048x1, .f32⟩
  | .hbm, ⟨42, _⟩ => ⟨S4x2048x256, .f32⟩
  | .hbm, ⟨43, _⟩ => ⟨S4x2048x256, .f32⟩
  | .hbm, ⟨44, _⟩ => ⟨S4x2048x256, .f32⟩
  | .hbm, ⟨45, _⟩ => ⟨S_, .f32⟩
  | .hbm, ⟨46, _⟩ => ⟨S4x2048, .f32⟩
  | .hbm, ⟨47, _⟩ => ⟨S4x2048x1, .f32⟩
  | .hbm, ⟨48, _⟩ => ⟨S4x2048x256, .f32⟩
  | .hbm, ⟨49, _⟩ => ⟨S4x2048x256, .f32⟩
  | .hbm, ⟨50, _⟩ => ⟨S4x2048x1, .f32⟩
  | .hbm, ⟨51, _⟩ => ⟨S_, .f32⟩
  | .hbm, ⟨52, _⟩ => ⟨S4x2048x1, .f32⟩
  | .hbm, ⟨53, _⟩ => ⟨S4x2048x1, .f32⟩
  | .hbm, ⟨54, _⟩ => ⟨S4x128x2048, .f32⟩
  | .hbm, ⟨55, _⟩ => ⟨S2048x4x128, .f32⟩
  | .hbm, ⟨56, _⟩ => ⟨S2048x512, .f32⟩
  | .hbm, ⟨57, _⟩ => ⟨S2048x4x128, .f32⟩
  | .hbm, ⟨58, _⟩ => ⟨S4x128x2048, .f32⟩
  | .hbm, ⟨59, _⟩ => ⟨S4x2048x256, .f32⟩
  | .hbm, ⟨60, _⟩ => ⟨S4x128x256, .f32⟩
  | .hbm, ⟨61, _⟩ => ⟨S256x4x128, .f32⟩
  | .hbm, ⟨62, _⟩ => ⟨S4x2048x256, .f32⟩
  | .hbm, ⟨63, _⟩ => ⟨S4x2048x256, .f32⟩
  | .hbm, ⟨64, _⟩ => ⟨S4x2048x256, .f32⟩
  | .hbm, ⟨65, _⟩ => ⟨S_, .f32⟩
  | .hbm, ⟨66, _⟩ => ⟨S4x2048, .f32⟩
  | .hbm, ⟨67, _⟩ => ⟨S4x2048x1, .f32⟩
  | .hbm, ⟨68, _⟩ => ⟨S4x2048x1, .f32⟩
  | .hbm, ⟨69, _⟩ => ⟨S4x2048x256, .f32⟩
  | .hbm, ⟨70, _⟩ => ⟨S4x2048x256, .f32⟩
  | .hbm, ⟨71, _⟩ => ⟨S_, .f32⟩
  | .hbm, ⟨72, _⟩ => ⟨S4x2048, .f32⟩
  | .hbm, ⟨73, _⟩ => ⟨S4x2048x256, .f32⟩
  | .hbm, ⟨74, _⟩ => ⟨S4x2048x256, .f32⟩
  | .hbm, ⟨75, _⟩ => ⟨S4x2048x256, .f32⟩
  | .hbm, ⟨76, _⟩ => ⟨S4x2048x256, .f32⟩
  | .hbm, ⟨77, _⟩ => ⟨S4x2048x256, .f32⟩
  | .hbm, ⟨78, _⟩ => ⟨S4x256x128, .f32⟩
  | .hbm, ⟨79, _⟩ => ⟨S256x4x128, .f32⟩
  | .hbm, ⟨80, _⟩ => ⟨S4x2048x128, .f32⟩
  | .hbm, ⟨81, _⟩ => ⟨S2048x4x128, .f32⟩
  | .hbm, ⟨82, _⟩ => ⟨S256x1x4x128, .f32⟩
  | .hbm, ⟨83, _⟩ => ⟨S_, .f32⟩
  | .hbm, ⟨84, _⟩ => ⟨S256x2x4x128, .f32⟩
  | .hbm, ⟨85, _⟩ => ⟨S256x1x4x128, .f32⟩
  | .hbm, ⟨86, _⟩ => ⟨S_, .f32⟩
  | .hbm, ⟨87, _⟩ => ⟨S256x2x4x128, .f32⟩
  | .hbm, ⟨88, _⟩ => ⟨S256x2x4x128, .f32⟩
  | .hbm, ⟨89, _⟩ => ⟨S2048x512, .f32⟩
  | .hbm, ⟨90, _⟩ => ⟨S256x1024, .f32⟩
  | .hbm, ⟨91, _⟩ => ⟨S2048x512, .bf16⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_cst_7 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_9 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_12 : Ref sig .tc := ⟨.hbm, 83, rfl⟩
abbrev main_v67 : Ref sig .tc := ⟨.hbm, 84, rfl⟩
abbrev main_v68 : Ref sig .tc := ⟨.hbm, 85, rfl⟩
abbrev main_cst_13 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩

abbrev nD : Nat := 1
abbrev τ : Topo := Topo.v7x

variable {F : FTy → Type} [FloatOps F]
-- ==== Dconv.lean ====
abbrev S2x2048x5632 : Shape := ⟨3, ![2, 2048, 5632]⟩
abbrev S2x3x5632 : Shape := ⟨3, ![2, 3, 5632]⟩
abbrev S2x1x5632 : Shape := ⟨3, ![2, 1, 5632]⟩
abbrev S2048x5632 : Shape := ⟨2, ![2048, 5632]⟩
abbrev S2x2048x128 : Shape := ⟨3, ![2, 2048, 128]⟩
abbrev S2x3x128 : Shape := ⟨3, ![2, 3, 128]⟩
abbrev S2x1x128 : Shape := ⟨3, ![2, 1, 128]⟩
abbrev S2048x128 : Shape := ⟨2, ![2048, 128]⟩
abbrev S1x2048x128 : Shape := ⟨3, ![1, 2048, 128]⟩
abbrev S1x3x128 : Shape := ⟨3, ![1, 3, 128]⟩
abbrev S3x128 : Shape := ⟨2, ![3, 128]⟩
abbrev S1x1x128 : Shape := ⟨3, ![1, 1, 128]⟩
abbrev S1x128 : Shape := ⟨2, ![1, 128]⟩
abbrev S128 : Shape := ⟨1, ![128]⟩

abbrev nBuf : Space → Nat
  | .hbm => 7
  | .vmem => 14
  | .smem => 0
  | _ => 0

abbrev bufTy : (tb : Table) → Fin (tcTables nBuf tb) → BufTy
  | .hbm, ⟨0, _⟩ => ⟨S2x2048x5632, .f32⟩
  | .hbm, ⟨1, _⟩ => ⟨S2x3x5632, .f32⟩
  | .hbm, ⟨2, _⟩ => ⟨S2x1x5632, .f32⟩
  | .hbm, ⟨3, _⟩ => ⟨S2048x5632, .f32⟩
  | .hbm, ⟨4, _⟩ => ⟨S2x2048x5632, .bf16⟩
  | .hbm, ⟨5, _⟩ => ⟨S2x3x5632, .f32⟩
  | .hbm, ⟨6, _⟩ => ⟨S2x1x5632, .f32⟩
  | .local _ .vmem, ⟨0, _⟩ => ⟨S2x2048x128, .f32⟩
  | .local _ .vmem, ⟨1, _⟩ => ⟨S2x2048x128, .f32⟩
  | .local _ .vmem, ⟨2, _⟩ => ⟨S2x3x128, .f32⟩
  | .local _ .vmem, ⟨3, _⟩ => ⟨S2x3x128, .f32⟩
  | .local _ .vmem, ⟨4, _⟩ => ⟨S2x1x128, .f32⟩
  | .local _ .vmem, ⟨5, _⟩ => ⟨S2x1x128, .f32⟩
  | .local _ .vmem, ⟨6, _⟩ => ⟨S2048x128, .f32⟩
  | .local _ .vmem, ⟨7, _⟩ => ⟨S2048x128, .f32⟩
  | .local _ .vmem, ⟨8, _⟩ => ⟨S2x2048x128, .bf16⟩
  | .local _ .vmem, ⟨9, _⟩ => ⟨S2x2048x128, .bf16⟩
  | .local _ .vmem, ⟨10, _⟩ => ⟨S2x3x128, .f32⟩
  | .local _ .vmem, ⟨11, _⟩ => ⟨S2x3x128, .f32⟩
  | .local _ .vmem, ⟨12, _⟩ => ⟨S2x1x128, .f32⟩
  | .local _ .vmem, ⟨13, _⟩ => ⟨S2x1x128, .f32⟩
  | _, _ => ⟨S2x2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![44], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x3x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== DconvIdeal.lean ====
variable {F : FTy → Type} [FloatOps F] [Named F]
def κ : String → Option EReal := fun
  | "rsqrt2" => some (((Real.sqrt 2)⁻¹ : ℝ) : EReal)
  | "rsqrt2pi" => some (((Real.sqrt (2 * Real.pi))⁻¹ : ℝ) : EReal)
  | _ => none
-- ==== DconvRefIdeal.lean ====
abbrev S2x2048x5632 : Shape := ⟨3, ![2, 2048, 5632]⟩
abbrev S2x3x5632 : Shape := ⟨3, ![2, 3, 5632]⟩
abbrev S2x1x5632 : Shape := ⟨3, ![2, 1, 5632]⟩
abbrev S2048x5632 : Shape := ⟨2, ![2048, 5632]⟩
abbrev S1x2048x5632 : Shape := ⟨3, ![1, 2048, 5632]⟩
abbrev S1x3x5632 : Shape := ⟨3, ![1, 3, 5632]⟩
abbrev S3x5632 : Shape := ⟨2, ![3, 5632]⟩
abbrev S1x1x5632 : Shape := ⟨3, ![1, 1, 5632]⟩
abbrev S5632 : Shape := ⟨1, ![5632]⟩
abbrev S_ : Shape := ⟨0, ![]⟩
abbrev S1x5632 : Shape := ⟨2, ![1, 5632]⟩
abbrev S2047x5632 : Shape := ⟨2, ![2047, 5632]⟩
abbrev S2x5632 : Shape := ⟨2, ![2, 5632]⟩

abbrev nBuf : Space → Nat
  | .hbm => 221
  | .vmem => 0
  | .smem => 0
  | _ => 0

abbrev hbmTy0_0 (i : Nat) : BufTy := match i % 128 with
  | 0 => ⟨S2x2048x5632, .f32⟩
  | 1 => ⟨S2x3x5632, .f32⟩
  | 2 => ⟨S2x1x5632, .f32⟩
  | 3 => ⟨S2048x5632, .f32⟩
  | 4 => ⟨S1x2048x5632, .f32⟩
  | 5 => ⟨S2048x5632, .f32⟩
  | 6 => ⟨S1x2048x5632, .f32⟩
  | 7 => ⟨S2048x5632, .f32⟩
  | 8 => ⟨S1x3x5632, .f32⟩
  | 9 => ⟨S3x5632, .f32⟩
  | 10 => ⟨S1x3x5632, .f32⟩
  | 11 => ⟨S3x5632, .f32⟩
  | 12 => ⟨S1x1x5632, .f32⟩
  | 13 => ⟨S5632, .f32⟩
  | 14 => ⟨S1x1x5632, .f32⟩
  | 15 => ⟨S5632, .f32⟩
  | 16 => ⟨S_, .f32⟩
  | 17 => ⟨S1x5632, .f32⟩
  | 18 => ⟨S2047x5632, .f32⟩
  | 19 => ⟨S2048x5632, .f32⟩
  | 20 => ⟨S_, .f32⟩
  | 21 => ⟨S1x5632, .f32⟩
  | 22 => ⟨S2047x5632, .f32⟩
  | 23 => ⟨S2048x5632, .f32⟩
  | 24 => ⟨S_, .f32⟩
  | 25 => ⟨S1x5632, .f32⟩
  | 26 => ⟨S1x5632, .f32⟩
  | 27 => ⟨S5632, .f32⟩
  | 28 => ⟨S1x5632, .f32⟩
  | 29 => ⟨S2048x5632, .f32⟩
  | 30 => ⟨S2048x5632, .f32⟩
  | 31 => ⟨S1x5632, .f32⟩
  | 32 => ⟨S5632, .f32⟩
  | 33 => ⟨S1x5632, .f32⟩
  | 34 => ⟨S2048x5632, .f32⟩
  | 35 => ⟨S2048x5632, .f32⟩
  | 36 => ⟨S2048x5632, .f32⟩
  | 37 => ⟨S1x5632, .f32⟩
  | 38 => ⟨S5632, .f32⟩
  | 39 => ⟨S1x5632, .f32⟩
  | 40 => ⟨S2048x5632, .f32⟩
  | 41 => ⟨S2048x5632, .f32⟩
  | 42 => ⟨S2048x5632, .f32⟩
  | 43 => ⟨S1x5632, .f32⟩
  | 44 => ⟨S2048x5632, .f32⟩
  | 45 => ⟨S2048x5632, .f32⟩
  | 46 => ⟨S_, .f32⟩
  | 47 => ⟨S2048x5632, .f32⟩
  | 48 => ⟨S2048x5632, .f32⟩
  | 49 => ⟨S_, .f32⟩
  | 50 => ⟨S_, .f32⟩
  | 51 => ⟨S2048x5632, .f32⟩
  | 52 => ⟨S2048x5632, .f32⟩
  | 53 => ⟨S2048x5632, .f32⟩
  | 54 => ⟨S_, .f32⟩
  | 55 => ⟨S_, .f32⟩
  | 56 => ⟨S_, .f32⟩
  | 57 => ⟨S_, .f32⟩
  | 58 => ⟨S_, .f32⟩
  | 59 => ⟨S2048x5632, .f32⟩
  | 60 => ⟨S2048x5632, .f32⟩
  | 61 => ⟨S2048x5632, .f32⟩
  | 62 => ⟨S2048x5632, .f32⟩
  | 63 => ⟨S2048x5632, .f32⟩
  | 64 => ⟨S_, .f32⟩
  | 65 => ⟨S2048x5632, .f32⟩
  | 66 => ⟨S2048x5632, .f32⟩
  | 67 => ⟨S2048x5632, .f32⟩
  | 68 => ⟨S_, .f32⟩
  | 69 => ⟨S1x5632, .f32⟩
  | 70 => ⟨S2047x5632, .f32⟩
  | 71 => ⟨S2048x5632, .f32⟩
  | 72 => ⟨S_, .f32⟩
  | 73 => ⟨S1x5632, .f32⟩
  | 74 => ⟨S2047x5632, .f32⟩
  | 75 => ⟨S2048x5632, .f32⟩
  | 76 => ⟨S_, .f32⟩
  | 77 => ⟨S1x5632, .f32⟩
  | 78 => ⟨S1x5632, .f32⟩
  | 79 => ⟨S5632, .f32⟩
  | 80 => ⟨S1x5632, .f32⟩
  | 81 => ⟨S2048x5632, .f32⟩
  | 82 => ⟨S2048x5632, .f32⟩
  | 83 => ⟨S1x5632, .f32⟩
  | 84 => ⟨S5632, .f32⟩
  | 85 => ⟨S1x5632, .f32⟩
  | 86 => ⟨S2048x5632, .f32⟩
  | 87 => ⟨S2048x5632, .f32⟩
  | 88 => ⟨S2048x5632, .f32⟩
  | 89 => ⟨S1x5632, .f32⟩
  | 90 => ⟨S5632, .f32⟩
  | 91 => ⟨S1x5632, .f32⟩
  | 92 => ⟨S2048x5632, .f32⟩
  | 93 => ⟨S2048x5632, .f32⟩
  | 94 => ⟨S2048x5632, .f32⟩
  | 95 => ⟨S1x5632, .f32⟩
  | 96 => ⟨S2048x5632, .f32⟩
  | 97 => ⟨S2048x5632, .f32⟩
  | 98 => ⟨S2048x5632, .f32⟩
  | 99 => ⟨S2048x5632, .f32⟩
  | 100 => ⟨S2048x5632, .f32⟩
  | 101 => ⟨S_, .f32⟩
  | 102 => ⟨S5632, .f32⟩
  | 103 => ⟨S1x5632, .f32⟩
  | 104 => ⟨S_, .f32⟩
  | 105 => ⟨S5632, .f32⟩
  | 106 => ⟨S2048x5632, .f32⟩
  | 107 => ⟨S_, .f32⟩
  | 108 => ⟨S5632, .f32⟩
  | 109 => ⟨S1x5632, .f32⟩
  | 110 => ⟨S2048x5632, .f32⟩
  | 111 => ⟨S2048x5632, .f32⟩
  | 112 => ⟨S_, .f32⟩
  | 113 => ⟨S5632, .f32⟩
  | 114 => ⟨S1x5632, .f32⟩
  | 115 => ⟨S_, .f32⟩
  | 116 => ⟨S3x5632, .f32⟩
  | 117 => ⟨S2048x5632, .f32⟩
  | 118 => ⟨S_, .f32⟩
  | 119 => ⟨S5632, .f32⟩
  | 120 => ⟨S1x5632, .f32⟩
  | 121 => ⟨S2048x5632, .f32⟩
  | 122 => ⟨S2048x5632, .f32⟩
  | 123 => ⟨S_, .f32⟩
  | 124 => ⟨S5632, .f32⟩
  | 125 => ⟨S1x5632, .f32⟩
  | 126 => ⟨S_, .f32⟩
  | 127 => ⟨S3x5632, .f32⟩
  | _ => ⟨S2x2048x5632, .f32⟩

abbrev hbmTy0_1 (i : Nat) : BufTy := match i % 128 with
  | 0 => ⟨S3x5632, .f32⟩
  | 1 => ⟨S2048x5632, .f32⟩
  | 2 => ⟨S_, .f32⟩
  | 3 => ⟨S5632, .f32⟩
  | 4 => ⟨S1x5632, .f32⟩
  | 5 => ⟨S2048x5632, .f32⟩
  | 6 => ⟨S2048x5632, .f32⟩
  | 7 => ⟨S_, .f32⟩
  | 8 => ⟨S5632, .f32⟩
  | 9 => ⟨S1x5632, .f32⟩
  | 10 => ⟨S_, .f32⟩
  | 11 => ⟨S3x5632, .f32⟩
  | 12 => ⟨S3x5632, .f32⟩
  | 13 => ⟨S2047x5632, .f32⟩
  | 14 => ⟨S1x5632, .f32⟩
  | 15 => ⟨S_, .f32⟩
  | 16 => ⟨S2048x5632, .f32⟩
  | 17 => ⟨S2048x5632, .f32⟩
  | 18 => ⟨S1x5632, .f32⟩
  | 19 => ⟨S2047x5632, .f32⟩
  | 20 => ⟨S_, .f32⟩
  | 21 => ⟨S2048x5632, .f32⟩
  | 22 => ⟨S2048x5632, .f32⟩
  | 23 => ⟨S2048x5632, .f32⟩
  | 24 => ⟨S2048x5632, .f32⟩
  | 25 => ⟨S2048x5632, .f32⟩
  | 26 => ⟨S2048x5632, .f32⟩
  | 27 => ⟨S2048x5632, .f32⟩
  | 28 => ⟨S_, .f32⟩
  | 29 => ⟨S2048x5632, .f32⟩
  | 30 => ⟨S2048x5632, .f32⟩
  | 31 => ⟨S2048x5632, .f32⟩
  | 32 => ⟨S_, .f32⟩
  | 33 => ⟨S5632, .f32⟩
  | 34 => ⟨S1x5632, .f32⟩
  | 35 => ⟨S_, .f32⟩
  | 36 => ⟨S5632, .f32⟩
  | 37 => ⟨S2048x5632, .f32⟩
  | 38 => ⟨S_, .f32⟩
  | 39 => ⟨S5632, .f32⟩
  | 40 => ⟨S1x5632, .f32⟩
  | 41 => ⟨S2048x5632, .f32⟩
  | 42 => ⟨S2048x5632, .f32⟩
  | 43 => ⟨S_, .f32⟩
  | 44 => ⟨S5632, .f32⟩
  | 45 => ⟨S1x5632, .f32⟩
  | 46 => ⟨S_, .f32⟩
  | 47 => ⟨S3x5632, .f32⟩
  | 48 => ⟨S2048x5632, .f32⟩
  | 49 => ⟨S_, .f32⟩
  | 50 => ⟨S5632, .f32⟩
  | 51 => ⟨S1x5632, .f32⟩
  | 52 => ⟨S2048x5632, .f32⟩
  | 53 => ⟨S2048x5632, .f32⟩
  | 54 => ⟨S_, .f32⟩
  | 55 => ⟨S5632, .f32⟩
  | 56 => ⟨S1x5632, .f32⟩
  | 57 => ⟨S_, .f32⟩
  | 58 => ⟨S3x5632, .f32⟩
  | 59 => ⟨S3x5632, .f32⟩
  | 60 => ⟨S2048x5632, .f32⟩
  | 61 => ⟨S_, .f32⟩
  | 62 => ⟨S5632, .f32⟩
  | 63 => ⟨S1x5632, .f32⟩
  | 64 => ⟨S2048x5632, .f32⟩
  | 65 => ⟨S2048x5632, .f32⟩
  | 66 => ⟨S_, .f32⟩
  | 67 => ⟨S5632, .f32⟩
  | 68 => ⟨S1x5632, .f32⟩
  | 69 => ⟨S_, .f32⟩
  | 70 => ⟨S3x5632, .f32⟩
  | 71 => ⟨S3x5632, .f32⟩
  | 72 => ⟨S2047x5632, .f32⟩
  | 73 => ⟨S1x5632, .f32⟩
  | 74 => ⟨S_, .f32⟩
  | 75 => ⟨S2048x5632, .f32⟩
  | 76 => ⟨S2048x5632, .f32⟩
  | 77 => ⟨S1x5632, .f32⟩
  | 78 => ⟨S2047x5632, .f32⟩
  | 79 => ⟨S_, .f32⟩
  | 80 => ⟨S2048x5632, .f32⟩
  | 81 => ⟨S2048x5632, .f32⟩
  | 82 => ⟨S1x2048x5632, .f32⟩
  | 83 => ⟨S1x2048x5632, .f32⟩
  | 84 => ⟨S2x2048x5632, .f32⟩
  | 85 => ⟨S2x2048x5632, .bf16⟩
  | 86 => ⟨S1x3x5632, .f32⟩
  | 87 => ⟨S1x3x5632, .f32⟩
  | 88 => ⟨S2x3x5632, .f32⟩
  | 89 => ⟨S1x5632, .f32⟩
  | 90 => ⟨S1x5632, .f32⟩
  | 91 => ⟨S2x5632, .f32⟩
  | 92 => ⟨S2x1x5632, .f32⟩
  | _ => ⟨S2x2048x5632, .f32⟩

abbrev hbmTy (i : Nat) : BufTy := match i / 128 with
  | 0 => hbmTy0_0 i
  | 1 => hbmTy0_1 i
  | _ => ⟨S2x2048x5632, .f32⟩

abbrev bufTy : (tb : Table) → Fin (tcTables nBuf tb) → BufTy
  | .hbm, ⟨i, _⟩ => hbmTy i
  | _, _ => ⟨S2x2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_cst_5 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_6 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_9 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_cst_10 : Ref sig .tc := ⟨.hbm, 101, rfl⟩
abbrev main_v86 : Ref sig .tc := ⟨.hbm, 102, rfl⟩
abbrev main_v87 : Ref sig .tc := ⟨.hbm, 103, rfl⟩
abbrev main_cst_11 : Ref sig .tc := ⟨.hbm, 104, rfl⟩
abbrev main_v88 : Ref sig .tc := ⟨.hbm, 105, rfl⟩
abbrev main_v89 : Ref sig .tc := ⟨.hbm, 106, rfl⟩
abbrev main_cst_12 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_cst_13 : Ref sig .tc := ⟨.hbm, 112, rfl⟩
abbrev main_v94 : Ref sig .tc := ⟨.hbm, 113, rfl⟩
abbrev main_v95 : Ref sig .tc := ⟨.hbm, 114, rfl⟩
abbrev main_cst_14 : Ref sig .tc := ⟨.hbm, 115, rfl⟩
abbrev main_v96 : Ref sig .tc := ⟨.hbm, 116, rfl⟩
abbrev main_v97 : Ref sig .tc := ⟨.hbm, 117, rfl⟩
abbrev main_cst_15 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_cst_16 : Ref sig .tc := ⟨.hbm, 123, rfl⟩
abbrev main_v102 : Ref sig .tc := ⟨.hbm, 124, rfl⟩
abbrev main_v103 : Ref sig .tc := ⟨.hbm, 125, rfl⟩
abbrev main_cst_17 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_cst_18 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_cst_19 : Ref sig .tc := ⟨.hbm, 135, rfl⟩
abbrev main_v111 : Ref sig .tc := ⟨.hbm, 136, rfl⟩
abbrev main_v112 : Ref sig .tc := ⟨.hbm, 137, rfl⟩
abbrev main_cst_20 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_21 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_cst_22 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_cst_23 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_cst_24 : Ref sig .tc := ⟨.hbm, 160, rfl⟩
abbrev main_v131 : Ref sig .tc := ⟨.hbm, 161, rfl⟩
abbrev main_v132 : Ref sig .tc := ⟨.hbm, 162, rfl⟩
abbrev main_cst_25 : Ref sig .tc := ⟨.hbm, 163, rfl⟩
abbrev main_v133 : Ref sig .tc := ⟨.hbm, 164, rfl⟩
abbrev main_v134 : Ref sig .tc := ⟨.hbm, 165, rfl⟩
abbrev main_cst_26 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_cst_27 : Ref sig .tc := ⟨.hbm, 171, rfl⟩
abbrev main_v139 : Ref sig .tc := ⟨.hbm, 172, rfl⟩
abbrev main_v140 : Ref sig .tc := ⟨.hbm, 173, rfl⟩
abbrev main_cst_28 : Ref sig .tc := ⟨.hbm, 174, rfl⟩
abbrev main_v141 : Ref sig .tc := ⟨.hbm, 175, rfl⟩
abbrev main_v142 : Ref sig .tc := ⟨.hbm, 176, rfl⟩
abbrev main_cst_29 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_30 : Ref sig .tc := ⟨.hbm, 182, rfl⟩
abbrev main_v147 : Ref sig .tc := ⟨.hbm, 183, rfl⟩
abbrev main_v148 : Ref sig .tc := ⟨.hbm, 184, rfl⟩
abbrev main_cst_31 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_cst_32 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_v155 : Ref sig .tc := ⟨.hbm, 193, rfl⟩
abbrev main_cst_33 : Ref sig .tc := ⟨.hbm, 194, rfl⟩
abbrev main_v156 : Ref sig .tc := ⟨.hbm, 195, rfl⟩
abbrev main_v157 : Ref sig .tc := ⟨.hbm, 196, rfl⟩
abbrev main_cst_34 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_35 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_cst_36 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_v173 : Ref sig .tc := ⟨.hbm, 215, rfl⟩
abbrev main_v174 : Ref sig .tc := ⟨.hbm, 216, rfl⟩
abbrev main_v175 : Ref sig .tc := ⟨.hbm, 217, rfl⟩
abbrev main_v176 : Ref sig .tc := ⟨.hbm, 218, rfl⟩
abbrev main_v177 : Ref sig .tc := ⟨.hbm, 219, rfl⟩
abbrev main_v178 : Ref sig .tc := ⟨.hbm, 220, rfl⟩

abbrev nD : Nat := 1
abbrev τ : Topo := Topo.v7x

variable {F : FTy → Type} [FloatOps F]
-- ==== Proof.Reals.lean ====
/- Arrays of real numbers inside the extended reals. `emb2 p` is the rank-2 array whose entry at (i, j) is the real
   number `p i j`, with `p` a function of two natural numbers; `emb1`, `emb3`, `emb4` are the same at the other ranks.
   Each operation of the two programs takes such arrays to such an array, and the lemmas here say to which: with them
   a chain of operations over finite arguments is read as one formula over the real numbers. -/
module

public import Idealize.ShloMosaic.Lib.Pipeline.Value
public import Idealize.ShloMosaic.Lib.ValueIdx
public import Idealize.ShloMosaic.PureOps.Ideal.Laws
public import Mathlib.Analysis.SpecialFunctions.Trigonometric.Inverse

@[expose] public section

noncomputable section

namespace Cert.Reals

open Idealize.ShloMosaic Idealize.ShloMosaic.ValueIdx

/-! ## The embeddings -/

/-- A real scalar as a rank-0 array. -/
def emb0 {t : FTy} (r : ℝ) : FVec Ideal ⟨0, ![]⟩ t := fun _ => ((r : ℝ) : EReal)
/-- A real sequence as a rank-1 array. -/
def emb1 {n : ℕ} {t : FTy} (p : ℕ → ℝ) : FVec Ideal ⟨1, ![n]⟩ t := fun i => ((p (i 0).val : ℝ) : EReal)
/-- A real matrix as a rank-2 array. -/
def emb2 {m n : ℕ} {t : FTy} (p : ℕ → ℕ → ℝ) : FVec Ideal ⟨2, ![m, n]⟩ t :=
  fun i => ((p (i 0).val (i 1).val : ℝ) : EReal)
/-- A real function of three indices as a rank-3 array. -/
def emb3 {l m n : ℕ} {t : FTy} (p : ℕ → ℕ → ℕ → ℝ) : FVec Ideal ⟨3, ![l, m, n]⟩ t :=
  fun i => ((p (i 0).val (i 1).val (i 2).val : ℝ) : EReal)
/-- A real function of four indices as a rank-4 array. -/
def emb4 {k l m n : ℕ} {t : FTy} (p : ℕ → ℕ → ℕ → ℕ → ℝ) : FVec Ideal ⟨4, ![k, l, m, n]⟩ t :=
  fun i => ((p (i 0).val (i 1).val (i 2).val (i 3).val : ℝ) : EReal)

theorem emb1_apply {n : ℕ} {t : FTy} (p : ℕ → ℝ) (i : (⟨1, ![n]⟩ : Shape).Idx) :
    emb1 (t := t) p i = ((p (i 0).val : ℝ) : EReal) := rfl
theorem emb2_apply {m n : ℕ} {t : FTy} (p : ℕ → ℕ → ℝ) (i : (⟨2, ![m, n]⟩ : Shape).Idx) :
    emb2 (t := t) p i = ((p (i 0).val (i 1).val : ℝ) : EReal) := rfl
theorem emb3_apply {l m n : ℕ} {t : FTy} (p : ℕ → ℕ → ℕ → ℝ) (i : (⟨3, ![l, m, n]⟩ : Shape).Idx) :
    emb3 (t := t) p i = ((p (i 0).val (i 1).val (i 2).val : ℝ) : EReal) := rfl
theorem emb4_apply {k l m n : ℕ} {t : FTy} (p : ℕ → ℕ → ℕ → ℕ → ℝ) (i : (⟨4, ![k, l, m, n]⟩ : Shape).Idx) :
    emb4 (t := t) p i = ((p (i 0).val (i 1).val (i 2).val (i 3).val : ℝ) : EReal) := rfl

/-- An array whose entries are all real is an embedded one. -/
theorem exists_emb1 {n : ℕ} {t : FTy} (x : FVec Ideal ⟨1, ![n]⟩ t) (h : ∀ i, ∃ r : ℝ, x i = (r : EReal)) :
    ∃ p, x = emb1 p := by
  choose f hf using h
  refine ⟨fun a => if h : a < n then f (ix1 ⟨a, h⟩) else 0, funext fun i => ?_⟩
  have h0 : (i 0).val < n := (i 0).isLt
  rw [hf i, emb1_apply, dif_pos h0]
  exact congrArg (fun k => ((f k : ℝ) : EReal)) (eq_ix1 i)
theorem exists_emb2 {m n : ℕ} {t : FTy} (x : FVec Ideal ⟨2, ![m, n]⟩ t) (h : ∀ i, ∃ r : ℝ, x i = (r : EReal)) :
    ∃ p, x = emb2 p := by
  choose f hf using h
  refine ⟨fun a b => if h : a < m ∧ b < n then f (ix2 ⟨a, h.1⟩ ⟨b, h.2⟩) else 0, funext fun i => ?_⟩
  have h0 : (i 0).val < m ∧ (i 1).val < n := ⟨(i 0).isLt, (i 1).isLt⟩
  rw [hf i, emb2_apply, dif_pos h0]
  exact congrArg (fun k => ((f k : ℝ) : EReal)) (eq_ix2 i)
theorem exists_emb3 {l m n : ℕ} {t : FTy} (x : FVec Ideal ⟨3, ![l, m, n]⟩ t) (h : ∀ i, ∃ r : ℝ, x i = (r : EReal)) :
    ∃ p, x = emb3 p := by
  choose f hf using h
  refine ⟨fun a b c => if h : a < l ∧ b < m ∧ c < n then f (ix3 ⟨a, h.1⟩ ⟨b, h.2.1⟩ ⟨c, h.2.2⟩) else 0,
    funext fun i => ?_⟩
  have h0 : (i 0).val < l ∧ (i 1).val < m ∧ (i 2).val < n := ⟨(i 0).isLt, (i 1).isLt, (i 2).isLt⟩
  rw [hf i, emb3_apply, dif_pos h0]
  exact congrArg (fun k => ((f k : ℝ) : EReal)) (eq_ix3 i)

/-! ## Scalars -/

/-- The error function on the reals. -/
def erfR (r : ℝ) : ℝ := 2 / Real.sqrt Real.pi * ∫ t in (0 : ℝ)..r, Real.exp (-(t ^ 2))

theorem erf_coe (r : ℝ) : Ideal.erf (r : EReal) = ((erfR r : ℝ) : EReal) := rfl

/-- A finite sum of reals, embedded. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over the indices below `n`, embedded. -/
theorem coe_sum_fin (n : ℕ) (f : ℕ → ℝ) :
    ∑ k : Fin n, ((f k.val : ℝ) : EReal) = ((∑ k ∈ Finset.range n, f k : ℝ) : EReal) := by
  rw [Finset.sum_range, coe_sum]

/-- Division by a nonzero real is the real quotient. -/
theorem div_coe_coe (a b : ℝ) (hb : b ≠ 0) : Ideal.div (a : EReal) (b : EReal) = ((a / b : ℝ) : EReal) := by
  rw [Ideal.div_coe hb, ← EReal.coe_mul, mul_one_div]

theorem rsqrt_coe_pos (a : ℝ) (h : 0 < a) : Ideal.rsqrt (a : EReal) = (((Real.sqrt a)⁻¹ : ℝ) : EReal) := by
  rw [Ideal.rsqrt_coe, if_neg h.le.not_gt, if_neg h.ne']

/-- The bit patterns the programs spell. -/
theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_neg_one : Ideal.ofBits .f32 0xBF800000#32 = ((-1 : ℝ) : EReal) := by
  simp [Ideal.ofBits, Ideal.ieee, -EReal.coe_mul, -EReal.coe_neg]; norm_num
theorem ofBits_two : Ideal.ofBits .f32 0x40000000#32 = ((2 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_neg_half : Ideal.ofBits .f32 0xBF000000#32 = ((-(1 / 2) : ℝ) : EReal) := by
  simp [Ideal.ofBits, Ideal.ieee, -EReal.coe_mul, -EReal.coe_neg]; norm_num
theorem ofBits_1536 : Ideal.ofBits .f32 0x44C00000#32 = ((1536 : ℝ) : EReal) := by
  simp [Ideal.ofBits, Ideal.ieee, -EReal.coe_mul]; norm_num
theorem ofBits_inf : Ideal.ofBits .f32 0x7F800000#32 = ⊤ := by
  simp [Ideal.ofBits, Ideal.ieee]
/-- The small constant under the root. -/
def eps : ℝ := 8796093 / 2 ^ 43
theorem eps_pos : 0 < eps := by unfold eps; positivity
theorem ofBits_eps : Ideal.ofBits .f32 0x358637BD#32 = ((eps : ℝ) : EReal) := by
  unfold eps; simp [Ideal.ofBits, Ideal.ieee, -EReal.coe_mul]; norm_num

/-! ## The operations, entry by entry -/

section
variable {m n : ℕ} {t : FTy}

theorem addf_emb2 (p q : ℕ → ℕ → ℝ) :
    addf (emb2 p : FVec Ideal ⟨2, ![m, n]⟩ t) (emb2 q) = emb2 fun i j => p i j + q i j :=
  funext fun _ => (EReal.coe_add _ _).symm
theorem mulf_emb2 (p q : ℕ → ℕ → ℝ) :
    mulf (emb2 p : FVec Ideal ⟨2, ![m, n]⟩ t) (emb2 q) = emb2 fun i j => p i j * q i j :=
  funext fun _ => (EReal.coe_mul _ _).symm
theorem subf_emb2 (p q : ℕ → ℕ → ℝ) :
    subf (emb2 p : FVec Ideal ⟨2, ![m, n]⟩ t) (emb2 q) = emb2 fun i j => p i j - q i j :=
  funext fun _ => (EReal.coe_sub _ _).symm
theorem negf_emb2 (p : ℕ → ℕ → ℝ) :
    Host.negf (emb2 p : FVec Ideal ⟨2, ![m, n]⟩ t) = emb2 fun i j => -p i j :=
  funext fun _ => (EReal.coe_neg _).symm
theorem exp_emb2 (p : ℕ → ℕ → ℝ) :
    exp (emb2 p : FVec Ideal ⟨2, ![m, n]⟩ t) = emb2 fun i j => Real.exp (p i j) := rfl
theorem hexp_emb2 (p : ℕ → ℕ → ℝ) :
    Host.exp (emb2 p : FVec Ideal ⟨2, ![m, n]⟩ t) = emb2 fun i j => Real.exp (p i j) := rfl
theorem erf_emb2 (p : ℕ → ℕ → ℝ) :
    erf (emb2 p : FVec Ideal ⟨2, ![m, n]⟩ t) = emb2 fun i j => erfR (p i j) := rfl
theorem herf_emb2 (p : ℕ → ℕ → ℝ) :
    Host.erf (emb2 p : FVec Ideal ⟨2, ![m, n]⟩ t) = emb2 fun i j => erfR (p i j) := rfl
theorem divf_emb2 (p : ℕ → ℕ → ℝ) (r : ℝ) (hr : r ≠ 0) :
    divf (emb2 p : FVec Ideal ⟨2, ![m, n]⟩ t) (emb2 fun _ _ => r) = emb2 fun i j => p i j / r :=
  funext fun _ => div_coe_coe _ _ hr
theorem hdivf_emb2 (p q : ℕ → ℕ → ℝ) (hq : ∀ i j, q i j ≠ 0) :
    Host.divf (emb2 p : FVec Ideal ⟨2, ![m, n]⟩ t) (emb2 q) = emb2 fun i j => p i j / q i j :=
  funext fun _ => div_coe_coe _ _ (hq _ _)
theorem rsqrt_emb2 (p : ℕ → ℕ → ℝ) (hp : ∀ i j, 0 < p i j) :
    rsqrt (emb2 p : FVec Ideal ⟨2, ![m, n]⟩ t) = emb2 fun i j => (Real.sqrt (p i j))⁻¹ :=
  funext fun _ => rsqrt_coe_pos _ (hp _ _)
theorem hrsqrt_emb2 (p : ℕ → ℕ → ℝ) (hp : ∀ i j, 0 < p i j) :
    Host.rsqrt (emb2 p : FVec Ideal ⟨2, ![m, n]⟩ t) = emb2 fun i j => (Real.sqrt (p i j))⁻¹ :=
  funext fun _ => rsqrt_coe_pos _ (hp _ _)
theorem truncf_emb2 (p : ℕ → ℕ → ℝ) (t' : FTy) (h) :
    truncf t' (emb2 p : FVec Ideal ⟨2, ![m, n]⟩ t) h = emb2 p := rfl

/-- A real scalar in every entry. -/
theorem broadcast_emb2 (r : ℝ) (x : EReal) (h : x = (r : EReal)) :
    (broadcast (⟨2, ![m, n]⟩ : Shape) (x : Ideal t) : FVec Ideal ⟨2, ![m, n]⟩ t) = emb2 fun _ _ => r :=
  funext fun _ => h

theorem scalar_half : (Scalar.ofBits .f32 0x3F000000#32 : Ideal .f32) = ((1 / 2 : ℝ) : EReal) := ofBits_half
theorem scalar_neg_half : (Scalar.ofBits .f32 0xBF000000#32 : Ideal .f32) = ((-(1 / 2) : ℝ) : EReal) := ofBits_neg_half
theorem scalar_one : (Scalar.ofBits .f32 0x3F800000#32 : Ideal .f32) = ((1 : ℝ) : EReal) := ofBits_one
theorem scalar_1536 : (Scalar.ofBits .f32 0x44C00000#32 : Ideal .f32) = ((1536 : ℝ) : EReal) := ofBits_1536
theorem scalar_eps : (Scalar.ofBits .f32 0x358637BD#32 : Ideal .f32) = ((eps : ℝ) : EReal) := ofBits_eps
end

/-! ## Layout -/

section
variable {m n : ℕ} {t : FTy}

/-- A column stretched along the rows. -/
theorem broadcastTo_col (p : ℕ → ℕ → ℝ) (hm : m ≠ 1) (h : (⟨2, ![m, 1]⟩ : Shape).Broadcasts ⟨2, ![m, n]⟩) :
    broadcastTo (⟨2, ![m, n]⟩ : Shape) (emb2 p : FVec Ideal ⟨2, ![m, 1]⟩ t) h = emb2 fun i _ => p i 0 := by
  funext i
  rw [broadcastTo_apply _ h i (ix2 (i 0) 0) (fun a => match a with
    | ⟨0, _⟩ => by show (i 0).val = if m = 1 then 0 else (i 0).val; rw [if_neg hm]
    | ⟨1, _⟩ => by show 0 = if (1 : ℕ) = 1 then 0 else (i 1).val; rw [if_pos rfl])]
  rfl

/-- A row stretched along the columns. -/
theorem broadcastTo_row (p : ℕ → ℕ → ℝ) (hn : n ≠ 1) (h : (⟨2, ![1, n]⟩ : Shape).Broadcasts ⟨2, ![m, n]⟩) :
    broadcastTo (⟨2, ![m, n]⟩ : Shape) (emb2 p : FVec Ideal ⟨2, ![1, n]⟩ t) h = emb2 fun _ j => p 0 j := by
  funext i
  rw [broadcastTo_apply _ h i (ix2 0 (i 1)) (fun a => match a with
    | ⟨0, _⟩ => by show 0 = if (1 : ℕ) = 1 then 0 else (i 0).val; rw [if_pos rfl]
    | ⟨1, _⟩ => by show (i 1).val = if n = 1 then 0 else (i 1).val; rw [if_neg hn])]
  rfl
/-- A block of a matrix. -/
theorem slice_emb2 {a b : ℕ} (p : ℕ → ℕ → ℝ) (off : Fin 2 → ℕ) (h : (⟨2, ![m, n]⟩ : Shape).Slices off ⟨2, ![a, b]⟩) :
    extractStridedSlice (⟨2, ![a, b]⟩ : Shape) off (emb2 p : FVec Ideal ⟨2, ![m, n]⟩ t) h
      = emb2 fun i j => p (off 0 + i) (off 1 + j) := rfl

/-- A load of a block of a matrix. -/
theorem ld_emb2 {a b : ℕ} (p : ℕ → ℕ → ℝ) (off : Fin 2 → ℕ)
    (inb : ∀ x, off x + ![a, b] x ≤ (⟨2, ![m, n]⟩ : Shape).size x) :
    View.ld (Val := Elt Ideal) (S := ⟨2, ![m, n]⟩) (e' := .f32) (emb2 (t := .f32) p) (Rect.unit off ![a, b] inb)
      = (emb2 fun i j => p (off 0 + i) (off 1 + j) : FVec Ideal ⟨2, ![a, b]⟩ .f32) := by
  rw [View.ld_unit]; rfl

/-- A load of a block of a rank-3 array. -/
theorem ld_emb3 {l a b c : ℕ} (p : ℕ → ℕ → ℕ → ℝ) (off : Fin 3 → ℕ)
    (inb : ∀ x, off x + ![a, b, c] x ≤ (⟨3, ![l, m, n]⟩ : Shape).size x) :
    View.ld (Val := Elt Ideal) (S := ⟨3, ![l, m, n]⟩) (e' := .f32) (emb3 (t := .f32) p) (Rect.unit off ![a, b, c] inb)
      = (emb3 fun i j k => p (off 0 + i) (off 1 + j) (off 2 + k) : FVec Ideal ⟨3, ![a, b, c]⟩ .f32) := by
  rw [View.ld_unit]; rfl

/-- The one matrix of a stack of one. -/
theorem cast_stack (p : ℕ → ℕ → ℕ → ℝ) (h : (⟨3, ![1, m, n]⟩ : Shape).ShapeCasts ⟨2, ![m, n]⟩) :
    shapeCast (⟨2, ![m, n]⟩ : Shape) (emb3 p : FVec Ideal ⟨3, ![1, m, n]⟩ t) h = emb2 fun i j => p 0 i j := by
  funext i
  refine (shapeCast_apply _ _ _ (ix3 0 (i 0) (i 1)) ?_).trans rfl
  rw [Shape.rowMajor_val_three, Shape.rowMajor_val_two]
  show (0 * m + (i 0).val) * n + (i 1).val = _
  rw [zero_mul, zero_add]; rfl

/-- A matrix as a stack of one. -/
theorem cast_unstack (p : ℕ → ℕ → ℝ) (h : (⟨2, ![m, n]⟩ : Shape).ShapeCasts ⟨3, ![1, m, n]⟩) :
    shapeCast (⟨3, ![1, m, n]⟩ : Shape) (emb2 p : FVec Ideal ⟨2, ![m, n]⟩ t) h = emb3 fun _ i j => p i j := by
  funext i
  refine (shapeCast_apply _ _ _ (ix2 (i 1) (i 2)) ?_).trans rfl
  rw [Shape.rowMajor_val_three, Shape.rowMajor_val_two]
  have : (i 0).val < 1 := (i 0).isLt
  show _ = ((i 0).val * m + (i 1).val) * n + (i 2).val
  rw [show (i 0).val = 0 by omega, zero_mul, zero_add]; rfl

/-- A sequence as a column. -/
theorem cast_col (p : ℕ → ℝ) (h : (⟨1, ![m]⟩ : Shape).ShapeCasts ⟨2, ![m, 1]⟩) :
    shapeCast (⟨2, ![m, 1]⟩ : Shape) (emb1 p : FVec Ideal ⟨1, ![m]⟩ t) h = emb2 fun i _ => p i := by
  funext i
  refine (shapeCast_apply _ _ _ (ix1 (i 0)) ?_).trans rfl
  rw [Shape.rowMajor_val_one, Shape.rowMajor_val_two]
  have : (i 1).val < 1 := (i 1).isLt
  show (i 0).val = (i 0).val * 1 + (i 1).val
  omega

/-- A sequence as a row. -/
theorem cast_row (p : ℕ → ℝ) (h : (⟨1, ![m]⟩ : Shape).ShapeCasts ⟨2, ![1, m]⟩) :
    shapeCast (⟨2, ![1, m]⟩ : Shape) (emb1 p : FVec Ideal ⟨1, ![m]⟩ t) h = emb2 fun _ i => p i := by
  funext i
  refine (shapeCast_apply _ _ _ (ix1 (i 1)) ?_).trans rfl
  rw [Shape.rowMajor_val_one, Shape.rowMajor_val_two]
  have : (i 0).val < 1 := (i 0).isLt
  show (i 1).val = (i 0).val * m + (i 1).val
  rw [show (i 0).val = 0 by omega, zero_mul, zero_add]

/-- A sum along the rows. -/
theorem sum_rows (p : ℕ → ℕ → ℝ) (acc) (h : (⟨2, ![m, n]⟩ : Shape).Reduces [1] ⟨1, ![m]⟩) (hφ) (hacc) :
    multiReduction .add [1] (⟨1, ![m]⟩ : Shape) (emb2 p : FVec Ideal ⟨2, ![m, n]⟩ .f32) acc h hφ hacc
      = emb1 fun i => ∑ j ∈ Finset.range n, p i j := by
  funext i
  rw [Ideal.multiReduction_add_single]
  exact coe_sum_fin n (fun j => p (i 0).val j)

/-- A sum down the columns. -/
theorem sum_cols (p : ℕ → ℕ → ℝ) (acc) (h : (⟨2, ![m, n]⟩ : Shape).Reduces [0] ⟨1, ![n]⟩) (hφ) (hacc) :
    multiReduction .add [0] (⟨1, ![n]⟩ : Shape) (emb2 p : FVec Ideal ⟨2, ![m, n]⟩ .f32) acc h hφ hacc
      = emb1 fun j => ∑ i ∈ Finset.range m, p i j := by
  funext j
  rw [Ideal.multiReduction_add_single]
  exact coe_sum_fin m (fun i => p i (j 0).val)

/-- Any sum of products over one contracted index of extent `k`, whose two factors are real. -/
theorem sum_contr {sl sr so : Shape} (d : DotDims sl sr so) (k : ℕ) (hr : d.contr.rank = 1)
    (hs : d.contr.size ⟨0, by omega⟩ = k) (f : d.contr.Idx → EReal) (g : ℕ → ℝ)
    (hf : ∀ q, f q = ((g (q ⟨0, by omega⟩).val : ℝ) : EReal)) :
    ∑ q, f q = ((∑ a ∈ Finset.range k, g a : ℝ) : EReal) := by
  rw [← coe_sum_fin, ← Equiv.sum_comp (contrEquiv1 d k hr hs).symm]
  refine Finset.sum_congr rfl fun a _ => ?_
  rw [hf, contrEquiv1_symm_val]
/-- Two matrices with the same entries inside the array are the same array. -/
theorem emb2_congr (p q : ℕ → ℕ → ℝ) (h : ∀ i < m, ∀ j < n, p i j = q i j) :
    (emb2 p : FVec Ideal ⟨2, ![m, n]⟩ t) = emb2 q :=
  funext fun i => congrArg _ (h _ (i 0).isLt _ (i 1).isLt)
theorem emb3_congr {l : ℕ} (p q : ℕ → ℕ → ℕ → ℝ) (h : ∀ i < l, ∀ j < m, ∀ k < n, p i j k = q i j k) :
    (emb3 p : FVec Ideal ⟨3, ![l, m, n]⟩ t) = emb3 q :=
  funext fun i => congrArg _ (h _ (i 0).isLt _ (i 1).isLt _ (i 2).isLt)

/-- A store of a block of a matrix `G`: what it writes is `G` at the places it writes to. -/
theorem piece2 {e : EltTy} {a b : ℕ} (G : ℕ → ℕ → Elt Ideal e) (off : Fin 2 → ℕ)
    (inb : ∀ x, off x + ![a, b] x ≤ (⟨2, ![m, n]⟩ : Shape).size x) (w : Vec Ideal ⟨2, ![a, b]⟩ e)
    (hw : w = fun i => G (off 0 + (i 0).val) (off 1 + (i 1).val)) (x : (⟨2, ![a, b]⟩ : Shape).Idx) :
    w x = (fun i : (⟨2, ![m, n]⟩ : Shape).Idx => G (i 0).val (i 1).val)
      ((Rect.unit (s := ⟨2, ![m, n]⟩) off ![a, b] inb).emb x) := by
  rw [hw]
  show G _ _ = G _ _
  congr 1
  · exact congrArg (off 0 + ·) (Nat.one_mul _).symm
  · exact congrArg (off 1 + ·) (Nat.one_mul _).symm
theorem piece3 {e : EltTy} {l a b c : ℕ} (G : ℕ → ℕ → ℕ → Elt Ideal e) (off : Fin 3 → ℕ)
    (inb : ∀ x, off x + ![a, b, c] x ≤ (⟨3, ![l, m, n]⟩ : Shape).size x) (w : Vec Ideal ⟨3, ![a, b, c]⟩ e)
    (hw : w = fun i => G (off 0 + (i 0).val) (off 1 + (i 1).val) (off 2 + (i 2).val))
    (x : (⟨3, ![a, b, c]⟩ : Shape).Idx) :
    w x = (fun i : (⟨3, ![l, m, n]⟩ : Shape).Idx => G (i 0).val (i 1).val (i 2).val)
      ((Rect.unit (s := ⟨3, ![l, m, n]⟩) off ![a, b, c] inb).emb x) := by
  rw [hw]
  show G _ _ _ = G _ _ _
  congr 1
  · exact congrArg (off 0 + ·) (Nat.one_mul _).symm
  · exact congrArg (off 1 + ·) (Nat.one_mul _).symm
  · exact congrArg (off 2 + ·) (Nat.one_mul _).symm
end

end Cert.Reals

end
-- ==== Proof.Spec.lean ====
/- The gradient of the gated spatial mixer over the real numbers, written chunk by chunk: what one grid point of the
   kernel computes from its 128 rows, as formulas of real numbers. Rows are numbered inside the chunk, columns over the
   whole width; group `j / 128` owns column `j`. -/
module

public import proofs.«01_k».proof.Proof.Reals

@[expose] public section

noncomputable section

namespace Cert.Sgu

open Cert.Reals

/-- The normal distribution function, spelt with the error function. -/
def cdf (x : ℝ) : ℝ := 1 / 2 * (1 + erfR (x * (Real.sqrt 2)⁻¹))
/-- gelu. -/
def gelu (x : ℝ) : ℝ := x * cdf x
/-- The derivative of gelu. -/
def slope (x : ℝ) : ℝ := cdf x + x * Real.exp (-(1 / 2) * x * x) * (Real.sqrt (2 * Real.pi))⁻¹

variable (U V T : ℕ → ℕ → ℝ) (g : ℕ → ℝ) (W : ℕ → ℕ → ℕ → ℝ) (B : ℕ → ℕ → ℝ)

/-- The reciprocal root-mean-square of row `i` of gelu(v). -/
def rinv (i : ℕ) : ℝ := (Real.sqrt ((∑ j ∈ Finset.range 1536, gelu (V i j) * gelu (V i j)) / 1536 + eps))⁻¹
/-- The normalised row, before its gain. -/
def vh (i j : ℕ) : ℝ := gelu (V i j) * rinv V i
/-- The normalised row with its gain. -/
def vn (i j : ℕ) : ℝ := vh V i j * g j
/-- The mixture of the chunk's rows, with its bias. -/
def mixed (i j : ℕ) : ℝ := (∑ q ∈ Finset.range 128, W (j / 128) i q * vn V g q j) + B i (j / 128)
/-- The gradient of u. -/
def du (i j : ℕ) : ℝ := T i j * mixed V g W B i j * slope (U i j)
/-- The gradient of the mixture. -/
def dmix (i j : ℕ) : ℝ := T i j * gelu (U i j)
/-- The gradient of the normalised rows. -/
def dvn (i j : ℕ) : ℝ := ∑ p ∈ Finset.range 128, W (j / 128) p i * dmix U T p j
/-- The chunk's part of the gradient of the mixing matrix of group `a`. -/
def dws (a p q : ℕ) : ℝ := ∑ e ∈ Finset.range 128, dmix U T p (128 * a + e) * vn V g q (128 * a + e)
/-- The chunk's part of the gradient of the bias. -/
def db (p a : ℕ) : ℝ := ∑ e ∈ Finset.range 128, dmix U T p (128 * a + e)
/-- The chunk's part of the gradient of the gain. -/
def dgain (j : ℕ) : ℝ := ∑ i ∈ Finset.range 128, dvn U T W i j * vh V i j
/-- The gradient of the normalised rows before the gain. -/
def dvh (i j : ℕ) : ℝ := dvn U T W i j * g j
/-- The gradient of v. -/
def dv (i j : ℕ) : ℝ :=
  rinv V i * (dvh U T g W i j
    - vh V i j * ((∑ k ∈ Finset.range 1536, dvh U T g W i k * vh V i k) / 1536)) * slope (V i j)

/-- Chunk `k` of the rows of a matrix. -/
def chunk (P : ℕ → ℕ → ℝ) (k : ℕ) : ℕ → ℕ → ℝ := fun i j => P (128 * k + i) j
/-- The columns of v, which follow those of u. -/
def vcols (P : ℕ → ℕ → ℝ) : ℕ → ℕ → ℝ := fun i j => P i (1536 + j)
/-- The bias with its rows as columns. -/
def turn (B : ℕ → ℕ → ℝ) : ℕ → ℕ → ℝ := fun i j => B j i

/-- Rows gathered from the chunks. -/
def gather (f : ℕ → ℕ → ℕ → ℝ) : ℕ → ℕ → ℝ := fun i j => f (i / 128) (i % 128) j

theorem gather_at (f : ℕ → ℕ → ℕ → ℝ) (k i j : ℕ) (h : i < 128) : gather f (128 * k + i) j = f k i j := by
  unfold gather
  rw [show (128 * k + i) / 128 = k by omega, show (128 * k + i) % 128 = i by omega]

/-- A mean of squares plus the small constant is positive. -/
theorem mean_pos (f : ℕ → ℝ) : 0 < (∑ j ∈ Finset.range 1536, f j * f j) / 1536 + eps := by
  have := eps_pos
  have h : 0 ≤ ∑ j ∈ Finset.range 1536, f j * f j := Finset.sum_nonneg fun j _ => mul_self_nonneg _
  positivity

/-- The whole gradient of v, row by row, from the whole gradient of the normalised rows. -/
theorem gather_dv (P V D : ℕ → ℕ → ℝ) (s j : ℕ) :
    gather (fun k => dv (chunk P k) (chunk V k) (chunk D k) g W) s j
      = rinv V s * (gather (fun k => dvn (chunk P k) (chunk D k) W) s j * g j
          - vh V s j * ((∑ k ∈ Finset.range 1536,
              gather (fun k => dvn (chunk P k) (chunk D k) W) s k * g k * vh V s k) / 1536)) * slope (V s j) := by
  have e : 128 * (s / 128) + s % 128 = s := Nat.div_add_mod s 128
  have r : rinv (chunk V (s / 128)) (s % 128) = rinv V s := by unfold rinv chunk; rw [e]
  have h (k : ℕ) : vh (chunk V (s / 128)) (s % 128) k = vh V s k := by unfold vh; rw [r]; unfold chunk; rw [e]
  unfold gather dv dvh
  simp only [r, h]
  unfold chunk
  rw [e]

end Cert.Sgu

end
-- ==== Proof.Block.lean ====
/- What one grid point computes, over real arguments: each array value of the kernel's body, written once for every
   group of 128 columns and read as a formula of real numbers. -/
module

public import proofs.«01_k».proof.Proof.Spec
public import proofs.«01_k».proof.Proof.Gen.KernelIdeal.Value

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen Cert.Reals

/-! ## The named constants -/

theorem named_rsqrt2 : (Named.named (F := Ideal) Cert.KernelIdeal.κ "rsqrt2" (φ := .f32) 0x3F3504F3#32 : Ideal .f32)
    = (((Real.sqrt 2)⁻¹ : ℝ) : EReal) := IdealRules.named_const.ideal_named_scalar _ _ _ _ rfl
theorem named_rsqrt2pi : (Named.named (F := Ideal) Cert.KernelIdeal.κ "rsqrt2pi" (φ := .f32) 0x3ECC422A#32 : Ideal .f32)
    = (((Real.sqrt (2 * Real.pi))⁻¹ : ℝ) : EReal) := IdealRules.named_const.ideal_named_scalar _ _ _ _ rfl

/-! ## The three products -/

theorem mm_nn (A B : ℕ → ℕ → ℝ) :
    matmul dot_S128x128_S128x128_S128x128_1_0_0_1_n_n none (emb2 A : FVec Ideal S128x128 .bf16) (emb2 B : FVec Ideal S128x128 .bf16)
      (constant S128x128 .f32 0x00000000#32) = emb2 fun i j => ∑ k ∈ Finset.range 128, A i k * B k j := by
  funext j
  simp only [matmul]
  rw [Ideal.matmul_constant_zero_apply]
  exact sum_contr _ 128 rfl rfl _ (fun k => A (j 0).val k * B k (j 1).val) (fun q => (EReal.coe_mul _ _).symm)

theorem mm_tn (A B : ℕ → ℕ → ℝ) :
    matmul dot_S128x128_S128x128_S128x128_0_0_1_1_n_n none (emb2 A : FVec Ideal S128x128 .bf16) (emb2 B : FVec Ideal S128x128 .bf16)
      (constant S128x128 .f32 0x00000000#32) = emb2 fun i j => ∑ k ∈ Finset.range 128, A k i * B k j := by
  funext j
  simp only [matmul]
  rw [Ideal.matmul_constant_zero_apply]
  exact sum_contr _ 128 rfl rfl _ (fun k => A k (j 0).val * B k (j 1).val) (fun q => (EReal.coe_mul _ _).symm)

theorem mm_nt (A B : ℕ → ℕ → ℝ) :
    matmul dot_S128x128_S128x128_S128x128_1_1_0_0_n_n none (emb2 A : FVec Ideal S128x128 .bf16) (emb2 B : FVec Ideal S128x128 .bf16)
      (constant S128x128 .f32 0x00000000#32) = emb2 fun i j => ∑ k ∈ Finset.range 128, A i k * B j k := by
  funext j
  simp only [matmul]
  rw [Ideal.matmul_constant_zero_apply]
  exact sum_contr _ 128 rfl rfl _ (fun k => A (j 0).val k * B (j 1).val k) (fun q => (EReal.coe_mul _ _).symm)

/-! ## The sums -/

theorem sum_wide (p : ℕ → ℕ → ℝ) :
    multiReduction .add [1] S128 (emb2 p : FVec Ideal S128x1536 .f32) 0x00000000#32 reduces_S128x1536_S128 (.inl rfl) rfl
      = emb1 fun i => ∑ j ∈ Finset.range 1536, p i j := sum_rows p _ _ _ _
theorem sum_group (p : ℕ → ℕ → ℝ) :
    multiReduction .add [1] S128 (emb2 p : FVec Ideal S128x128 .f32) 0x00000000#32 reduces_S128x128_S128 (.inl rfl) rfl
      = emb1 fun i => ∑ j ∈ Finset.range 128, p i j := sum_rows p _ _ _ _
theorem sum_down (p : ℕ → ℕ → ℝ) :
    multiReduction .add [0] S1536 (emb2 p : FVec Ideal S128x1536 .f32) 0x00000000#32 reduces_S128x1536_S1536 (.inl rfl) rfl
      = emb1 fun j => ∑ i ∈ Finset.range 128, p i j := sum_cols p _ _ _ _

/-! ## gelu and its derivative -/

section
variable {m n : ℕ}

/-- The distribution function at each entry. -/
def cdfA (x : FVec Ideal ⟨2, ![m, n]⟩ .f32) : FVec Ideal ⟨2, ![m, n]⟩ .f32 :=
  mulf (broadcast _ (Scalar.ofBits .f32 0x3F000000#32)) (addf (broadcast _ (Scalar.ofBits .f32 0x3F800000#32))
    (erf (mulf x (broadcast _ (Named.named Cert.KernelIdeal.κ "rsqrt2" 0x3F3504F3#32)))))
/-- gelu at each entry. -/
def geluA (x : FVec Ideal ⟨2, ![m, n]⟩ .f32) : FVec Ideal ⟨2, ![m, n]⟩ .f32 := mulf x (cdfA x)
/-- The derivative of gelu at each entry. -/
def slopeA (x : FVec Ideal ⟨2, ![m, n]⟩ .f32) : FVec Ideal ⟨2, ![m, n]⟩ .f32 :=
  addf (cdfA x) (mulf (mulf x (exp (mulf (mulf (broadcast _ (Scalar.ofBits .f32 0xBF000000#32)) x) x)))
    (broadcast _ (Named.named Cert.KernelIdeal.κ "rsqrt2pi" 0x3ECC422A#32)))

theorem cdfA_emb (p : ℕ → ℕ → ℝ) : cdfA (m := m) (n := n) (emb2 p) = emb2 fun i j => Sgu.cdf (p i j) := by
  unfold cdfA
  simp only [broadcast_emb2 _ _ scalar_half, broadcast_emb2 _ _ scalar_one, broadcast_emb2 _ _ named_rsqrt2,
    mulf_emb2, addf_emb2, erf_emb2]
  rfl
theorem geluA_emb (p : ℕ → ℕ → ℝ) : geluA (m := m) (n := n) (emb2 p) = emb2 fun i j => Sgu.gelu (p i j) := by
  unfold geluA
  simp only [cdfA_emb, mulf_emb2]
  rfl
theorem slopeA_emb (p : ℕ → ℕ → ℝ) : slopeA (m := m) (n := n) (emb2 p) = emb2 fun i j => Sgu.slope (p i j) := by
  unfold slopeA
  simp only [cdfA_emb, broadcast_emb2 _ _ scalar_neg_half, broadcast_emb2 _ _ named_rsqrt2pi, mulf_emb2, exp_emb2,
    addf_emb2]
  rfl
end

/-! ## The rows of v -/

theorem pay5_emb (V : ℕ → ℕ → ℝ) : k0_pay5 (F := Ideal) (emb2 (t := .f32) V) = emb2 fun i j => Sgu.slope (V i j) := slopeA_emb V
theorem pay4_emb (V : ℕ → ℕ → ℝ) : k0_pay4 (F := Ideal) (emb2 (t := .f32) V) = emb2 fun i j => Sgu.gelu (V i j) := geluA_emb V
theorem pay6_emb (V : ℕ → ℕ → ℝ) : k0_pay6 (F := Ideal) (emb2 (t := .f32) V) = emb2 fun i _ => Sgu.rinv V i := by
  unfold k0_pay6
  simp only [pay4_emb, mulf_emb2]
  rw [sum_wide]
  simp only [cast_col, broadcast_emb2 _ _ scalar_1536, broadcast_emb2 _ _ scalar_eps,
    divf_emb2 _ _ (by norm_num : (1536 : ℝ) ≠ 0), addf_emb2]
  exact rsqrt_emb2 _ (fun i _ => Sgu.mean_pos fun j => Sgu.gelu (V i j))
theorem pay7_emb (V : ℕ → ℕ → ℝ) : k0_pay7 (F := Ideal) (emb2 (t := .f32) V) = emb2 (Sgu.vh V) := by
  unfold k0_pay7
  simp only [pay6_emb, pay4_emb, broadcastTo_col _ (by norm_num : (128 : ℕ) ≠ 1), mulf_emb2]
  rfl
theorem pay8_emb (g : ℕ → ℝ) : k0_pay8 (F := Ideal) (emb2 (t := .f32) fun _ => g) = emb2 fun _ => g := by
  unfold k0_pay8
  exact shapeCast_self _ _
theorem pay9_emb (V : ℕ → ℕ → ℝ) (g : ℕ → ℝ) :
    k0_pay9 (F := Ideal) (emb2 (t := .f32) V) (emb2 (t := .f32) fun _ => g) = emb2 (Sgu.vn V g) := by
  unfold k0_pay9
  simp only [pay7_emb, pay8_emb, broadcastTo_row _ (by norm_num : (1536 : ℕ) ≠ 1), mulf_emb2]
  rfl

/-! ## One group of columns

`u`, `t` and `y` are the group's 128 columns of u, of the incoming gradient and of the normalised rows, `w` its mixing
matrix and `b` its bias. -/

section
variable (u t y : FVec Ideal S128x128 .f32) (w : FVec Ideal S1x128x128 .f32) (b : FVec Ideal S128x1 .f32)

/-- The gradient of u. -/
def duA : FVec Ideal S128x128 .bf16 :=
  truncf .bf16 (mulf (mulf t (addf
    (matmul dot_S128x128_S128x128_S128x128_1_0_0_1_n_n none
      (truncf .bf16 (shapeCast S128x128 w shapeCasts_S1x128x128_S128x128) bitsLt_bf16_f32) (truncf .bf16 y bitsLt_bf16_f32)
      (constant S128x128 .f32 0x00000000#32))
    (broadcastTo S128x128 (shapeCast S128x1 b shapeCasts_S128x1_S128x1) broadcasts_S128x1_S128x128))) (slopeA u)) bitsLt_bf16_f32
/-- The gradient of the mixture. -/
def dmixA : FVec Ideal S128x128 .f32 := mulf t (geluA u)
/-- The gradient of the normalised rows. -/
def dvnA : FVec Ideal S128x128 .f32 :=
  shapeCast S128x128 (matmul dot_S128x128_S128x128_S128x128_0_0_1_1_n_n none
    (truncf .bf16 (shapeCast S128x128 w shapeCasts_S1x128x128_S128x128) bitsLt_bf16_f32)
    (truncf .bf16 (dmixA u t) bitsLt_bf16_f32) (constant S128x128 .f32 0x00000000#32)) shapeCasts_S128x128_S128x128
/-- The chunk's part of the gradient of the mixing matrix. -/
def dwsA : FVec Ideal S128x128 .f32 :=
  matmul dot_S128x128_S128x128_S128x128_1_1_0_0_n_n none (truncf .bf16 (dmixA u t) bitsLt_bf16_f32)
    (truncf .bf16 y bitsLt_bf16_f32) (constant S128x128 .f32 0x00000000#32)
/-- The chunk's part of the gradient of the bias. -/
def dbA : FVec Ideal S128x1 .f32 :=
  shapeCast S128x1 (multiReduction .add [1] S128 (dmixA u t) 0x00000000#32 reduces_S128x128_S128 (.inl rfl) rfl)
    shapeCasts_S128_S128x1
end

section
variable (u t y : ℕ → ℕ → ℝ) (w : ℕ → ℕ → ℕ → ℝ) (b : ℕ → ℕ → ℝ)

theorem duA_emb : duA (emb2 u) (emb2 t) (emb2 y) (emb3 w) (emb2 b)
    = emb2 fun i j => t i j * ((∑ k ∈ Finset.range 128, w 0 i k * y k j) + b i 0) * Sgu.slope (u i j) := by
  unfold duA
  simp only [shapeCast_self, cast_stack, truncf_emb2, mm_nn, broadcastTo_col _ (by norm_num : (128 : ℕ) ≠ 1), addf_emb2,
    mulf_emb2, slopeA_emb]
theorem dmixA_emb : dmixA (emb2 u) (emb2 t) = emb2 fun i j => t i j * Sgu.gelu (u i j) := by
  unfold dmixA
  simp only [geluA_emb, mulf_emb2]
theorem dvnA_emb : dvnA (emb2 u) (emb2 t) (emb3 w)
    = emb2 fun i j => ∑ p ∈ Finset.range 128, w 0 p i * (t p j * Sgu.gelu (u p j)) := by
  unfold dvnA
  simp only [shapeCast_self, cast_stack, truncf_emb2, dmixA_emb, mm_tn]
theorem dwsA_emb : dwsA (emb2 u) (emb2 t) (emb2 y)
    = emb2 fun p q => ∑ e ∈ Finset.range 128, t p e * Sgu.gelu (u p e) * y q e := by
  unfold dwsA
  simp only [truncf_emb2, dmixA_emb, mm_nt]
theorem dbA_emb : dbA (emb2 u) (emb2 t) = emb2 fun p _ => ∑ e ∈ Finset.range 128, t p e * Sgu.gelu (u p e) := by
  unfold dbA
  rw [dmixA_emb, sum_group, cast_col]
end

/-! ## The stores of group `a` -/

theorem inb2 (a : ℕ) (ha : a < 12) : ∀ x, (![0, 128 * a] : Fin 2 → ℕ) x + ![128, 128] x ≤ S128x1536.size x := fun x =>
  match x with
  | ⟨0, _⟩ => by show 0 + 128 ≤ 128; omega
  | ⟨1, _⟩ => by show 128 * a + 128 ≤ 1536; omega
theorem inb3 (a : ℕ) (ha : a < 12) : ∀ x, (![a, 0, 0] : Fin 3 → ℕ) x + ![1, 128, 128] x ≤ S12x128x128.size x := fun x =>
  match x with
  | ⟨0, _⟩ => by show a + 1 ≤ 12; omega
  | ⟨1, _⟩ => by show 0 + 128 ≤ 128; omega
  | ⟨2, _⟩ => by show 0 + 128 ≤ 128; omega
theorem inbB (a : ℕ) (ha : a < 12) : ∀ x, (![0, a] : Fin 2 → ℕ) x + ![128, 1] x ≤ S128x12.size x := fun x =>
  match x with
  | ⟨0, _⟩ => by show 0 + 128 ≤ 128; omega
  | ⟨1, _⟩ => by show a + 1 ≤ 12; omega

/-- Group `a`'s columns of a block of rows. -/
def cols (x : FVec Ideal S128x1536 .f32) (a : ℕ) (ha : a < 12) : FVec Ideal S128x128 .f32 :=
  View.ld (Val := Elt Ideal) (S := S128x1536) (e' := .f32) x (Rect.unit ![0, 128 * a] ![128, 128] (inb2 a ha))
/-- Group `a`'s mixing matrix. -/
def mat (x : FVec Ideal S12x128x128 .f32) (a : ℕ) (ha : a < 12) : FVec Ideal S1x128x128 .f32 :=
  View.ld (Val := Elt Ideal) (S := S12x128x128) (e' := .f32) x (Rect.unit ![a, 0, 0] ![1, 128, 128] (inb3 a ha))
/-- Group `a`'s column of the bias. -/
def col (x : FVec Ideal S128x12 .f32) (a : ℕ) (ha : a < 12) : FVec Ideal S128x1 .f32 :=
  View.ld (Val := Elt Ideal) (S := S128x12) (e' := .f32) x (Rect.unit ![0, a] ![128, 1] (inbB a ha))

theorem cols_emb (p : ℕ → ℕ → ℝ) (a : ℕ) (ha : a < 12) : cols (emb2 p) a ha = emb2 fun i j => p i (128 * a + j) := by
  unfold cols
  exact (ld_emb2 (m := 128) (n := 1536) p ![0, 128 * a] (inb2 a ha)).trans (congrArg emb2 (funext fun i => funext fun j => by
    show p (0 + i) _ = _; rw [Nat.zero_add]; rfl))
theorem slices_cols (a : ℕ) (ha : a < 12) : S128x1536.Slices ![0, 128 * a] S128x128 := ⟨rfl, inb2 a ha⟩
/-- Group `a`'s columns of an array value. -/
def part (x : FVec Ideal S128x1536 .f32) (a : ℕ) (ha : a < 12) : FVec Ideal S128x128 .f32 :=
  extractStridedSlice S128x128 ![0, 128 * a] x (slices_cols a ha)
theorem part_emb (p : ℕ → ℕ → ℝ) (a : ℕ) (ha : a < 12) : part (emb2 p) a ha = emb2 fun i j => p i (128 * a + j) := by
  unfold part
  exact (slice_emb2 (m := 128) (n := 1536) p ![0, 128 * a] (slices_cols a ha)).trans (congrArg emb2 (funext fun i => funext fun j => by
    show p (0 + i) _ = _; rw [Nat.zero_add]; rfl))
theorem mat_emb (p : ℕ → ℕ → ℕ → ℝ) (a : ℕ) (ha : a < 12) : mat (emb3 p) a ha = emb3 fun i j k => p (a + i) j k := by
  unfold mat
  exact (ld_emb3 (l := 12) (m := 128) (n := 128) p ![a, 0, 0] (inb3 a ha)).trans (congrArg emb3 (funext fun i => funext fun j => funext fun k => by
    show p _ (0 + j) (0 + k) = _; rw [Nat.zero_add, Nat.zero_add]; rfl))
theorem col_emb (p : ℕ → ℕ → ℝ) (a : ℕ) (ha : a < 12) : col (emb2 p) a ha = emb2 fun i j => p i (a + j) := by
  unfold col
  exact (ld_emb2 (m := 128) (n := 12) p ![0, a] (inbB a ha)).trans (congrArg emb2 (funext fun i => funext fun j => by
    show p (0 + i) _ = _; rw [Nat.zero_add]; rfl))

section
variable (x0 x1 x5 : FVec Ideal S128x1536 .f32) (x2 : FVec Ideal S1x1536 .f32) (x3 : FVec Ideal S12x128x128 .f32)
  (x4 : FVec Ideal S128x12 .f32)

/-- What group `a` stores into the gradient of u. -/
def duP (a : ℕ) (ha : a < 12) : View.Piece (Elt Ideal) S128x1536 .bf16 :=
  ⟨Rect.unit ![0, 128 * a] ![128, 128] (inb2 a ha),
    duA (cols x0 a ha) (cols x5 a ha) (part (k0_pay9 x1 x2) a ha) (mat x3 a ha) (col x4 a ha)⟩
/-- What group `a` stores into the gradient of the normalised rows. -/
def dvnP (a : ℕ) (ha : a < 12) : View.Piece (Elt Ideal) S128x1536 .f32 :=
  ⟨Rect.unit ![0, 128 * a] ![128, 128] (inb2 a ha), dvnA (cols x0 a ha) (cols x5 a ha) (mat x3 a ha)⟩
/-- What group `a` stores into the gradient of the mixing matrices, at the first chunk … -/
def dwsP (a : ℕ) (ha : a < 12) : View.Piece (Elt Ideal) S12x128x128 .f32 :=
  ⟨Rect.unit ![a, 0, 0] ![1, 128, 128] (inb3 a ha),
    shapeCast S1x128x128 (dwsA (cols x0 a ha) (cols x5 a ha) (part (k0_pay9 x1 x2) a ha)) shapeCasts_S128x128_S1x128x128⟩
/-- … and over what an earlier chunk left. -/
def dwsQ (o : FVec Ideal S12x128x128 .f32) (a : ℕ) (ha : a < 12) : View.Piece (Elt Ideal) S12x128x128 .f32 :=
  ⟨Rect.unit ![a, 0, 0] ![1, 128, 128] (inb3 a ha),
    shapeCast S1x128x128 (addf (shapeCast S128x128 (mat o a ha) shapeCasts_S1x128x128_S128x128)
      (dwsA (cols x0 a ha) (cols x5 a ha) (part (k0_pay9 x1 x2) a ha))) shapeCasts_S128x128_S1x128x128⟩
/-- What group `a` stores into the gradient of the bias, at the first chunk … -/
def dbP (a : ℕ) (ha : a < 12) : View.Piece (Elt Ideal) S128x12 .f32 :=
  ⟨Rect.unit ![0, a] ![128, 1] (inbB a ha), dbA (cols x0 a ha) (cols x5 a ha)⟩
/-- … and over what an earlier chunk left. -/
def dbQ (o : FVec Ideal S128x12 .f32) (a : ℕ) (ha : a < 12) : View.Piece (Elt Ideal) S128x12 .f32 :=
  ⟨Rect.unit ![0, a] ![128, 1] (inbB a ha),
    addf (shapeCast S128x1 (col o a ha) shapeCasts_S128x1_S128x1) (dbA (cols x0 a ha) (cols x5 a ha))⟩
end

/-- The stores of the twelve groups, the last first. -/
def groups {α : Type} (f : (a : ℕ) → a < 12 → α) : List α :=
  [f 11 (by omega), f 10 (by omega), f 9 (by omega), f 8 (by omega), f 7 (by omega), f 6 (by omega), f 5 (by omega),
    f 4 (by omega), f 3 (by omega), f 2 (by omega), f 1 (by omega), f 0 (by omega)]

theorem mem_groups {α : Type} (f : (a : ℕ) → a < 12 → α) (x : α) (h : x ∈ groups f) : ∃ a ha, x = f a ha := by
  simp only [groups, List.mem_cons, List.not_mem_nil, or_false] at h
  rcases h with h | h | h | h | h | h | h | h | h | h | h | h <;> exact ⟨_, _, h⟩

theorem groups_mem {α : Type} (f : (a : ℕ) → a < 12 → α) (a : ℕ) (ha : a < 12) : f a ha ∈ groups f := by
  simp only [groups, List.mem_cons, List.not_mem_nil, or_false]
  interval_cases a <;> simp only [true_or, or_true]

/-- Every column lies in a group. -/
theorem cover_cols {e : EltTy} (f : (a : ℕ) → a < 12 → View.Piece (Elt Ideal) S128x1536 e) (y : S128x1536.Idx)
    (hf : ∀ a ha, (f a ha).1 = Rect.unit ![0, 128 * a] ![128, 128] (inb2 a ha)) : ∃ p ∈ groups f, y ∈ p.1.set := by
  have h0 : (y 0).val < 128 := (y 0).isLt
  have h1 : (y 1).val < 1536 := (y 1).isLt
  have ha : (y 1).val / 128 < 12 := by omega
  refine ⟨f _ ha, groups_mem f _ ha, ?_⟩
  rw [hf, Rect.mem_set_unit]
  intro x
  match x with
  | ⟨0, _⟩ => show 0 ≤ (y 0).val ∧ (y 0).val < 0 + 128; omega
  | ⟨1, _⟩ => show 128 * ((y 1).val / 128) ≤ (y 1).val ∧ (y 1).val < 128 * ((y 1).val / 128) + 128; omega
theorem cover_mats {e : EltTy} (f : (a : ℕ) → a < 12 → View.Piece (Elt Ideal) S12x128x128 e) (y : S12x128x128.Idx)
    (hf : ∀ a ha, (f a ha).1 = Rect.unit ![a, 0, 0] ![1, 128, 128] (inb3 a ha)) : ∃ p ∈ groups f, y ∈ p.1.set := by
  have h0 : (y 0).val < 12 := (y 0).isLt
  have h1 : (y 1).val < 128 := (y 1).isLt
  have h2 : (y 2).val < 128 := (y 2).isLt
  refine ⟨f _ h0, groups_mem f _ h0, ?_⟩
  rw [hf, Rect.mem_set_unit]
  intro x
  match x with
  | ⟨0, _⟩ => show (y 0).val ≤ (y 0).val ∧ (y 0).val < (y 0).val + 1; omega
  | ⟨1, _⟩ => show 0 ≤ (y 1).val ∧ (y 1).val < 0 + 128; omega
  | ⟨2, _⟩ => show 0 ≤ (y 2).val ∧ (y 2).val < 0 + 128; omega
theorem cover_bias {e : EltTy} (f : (a : ℕ) → a < 12 → View.Piece (Elt Ideal) S128x12 e) (y : S128x12.Idx)
    (hf : ∀ a ha, (f a ha).1 = Rect.unit ![0, a] ![128, 1] (inbB a ha)) : ∃ p ∈ groups f, y ∈ p.1.set := by
  have h0 : (y 0).val < 128 := (y 0).isLt
  have h1 : (y 1).val < 12 := (y 1).isLt
  refine ⟨f _ h1, groups_mem f _ h1, ?_⟩
  rw [hf, Rect.mem_set_unit]
  intro x
  match x with
  | ⟨0, _⟩ => show 0 ≤ (y 0).val ∧ (y 0).val < 0 + 128; omega
  | ⟨1, _⟩ => show (y 1).val ≤ (y 1).val ∧ (y 1).val < (y 1).val + 1; omega

section
variable (U V T : ℕ → ℕ → ℝ) (g : ℕ → ℝ) (W : ℕ → ℕ → ℕ → ℝ) (B : ℕ → ℕ → ℝ)

theorem group_div (a j : ℕ) (h : j < 128) : (128 * a + j) / 128 = a := by omega

theorem canon_du : View.canon (groups (duP (emb2 U) (emb2 V) (emb2 T) (emb2 fun _ => g) (emb3 W) (emb2 B)))
    = (emb2 (Sgu.du U V T g W B) : FVec Ideal S128x1536 .bf16) := by
  funext y
  refine View.canon_apply_of_pieces (fun i : S128x1536.Idx => ((Sgu.du U V T g W B (i 0).val (i 1).val : ℝ) : EReal)) _
    (fun p hp => ?_) y (cover_cols (duP (emb2 U) (emb2 V) (emb2 T) (emb2 fun _ => g) (emb3 W) (emb2 B)) y fun _ _ => rfl)
  obtain ⟨a, ha, rfl⟩ := mem_groups _ _ hp
  refine piece2 (e := .bf16) (fun i j => ((Sgu.du U V T g W B i j : ℝ) : EReal)) ![0, 128 * a] (inb2 a ha) _ ?_
  dsimp only [duP]
  simp only [pay9_emb, part_emb, cols_emb, mat_emb, col_emb, duA_emb]
  refine emb2_congr (m := 128) (n := 128) (t := .bf16) _ (fun i j => Sgu.du U V T g W B (0 + i) (128 * a + j)) fun i hi j hj => ?_
  show _ = Sgu.du U V T g W B (0 + i) (128 * a + j)
  unfold Sgu.du Sgu.mixed
  rw [group_div a j hj, Nat.zero_add, Nat.add_zero]

theorem canon_dvn : View.canon (groups (dvnP (emb2 U) (emb2 T) (emb3 W)))
    = (emb2 (Sgu.dvn U T W) : FVec Ideal S128x1536 .f32) := by
  funext y
  refine View.canon_apply_of_pieces (fun i : S128x1536.Idx => ((Sgu.dvn U T W (i 0).val (i 1).val : ℝ) : EReal)) _
    (fun p hp => ?_) y (cover_cols (dvnP (emb2 U) (emb2 T) (emb3 W)) y fun _ _ => rfl)
  obtain ⟨a, ha, rfl⟩ := mem_groups _ _ hp
  refine piece2 (e := .f32) (fun i j => ((Sgu.dvn U T W i j : ℝ) : EReal)) ![0, 128 * a] (inb2 a ha) _ ?_
  dsimp only [dvnP]
  simp only [cols_emb, mat_emb, dvnA_emb]
  refine emb2_congr (m := 128) (n := 128) (t := .f32) _ (fun i j => Sgu.dvn U T W (0 + i) (128 * a + j)) fun i hi j hj => ?_
  show _ = Sgu.dvn U T W (0 + i) (128 * a + j)
  unfold Sgu.dvn Sgu.dmix
  rw [group_div a j hj, Nat.zero_add, Nat.add_zero]

theorem canon_dwsP : View.canon (groups (dwsP (emb2 U) (emb2 V) (emb2 T) (emb2 fun _ => g)))
    = (emb3 (Sgu.dws U V T g) : FVec Ideal S12x128x128 .f32) := by
  funext y
  refine View.canon_apply_of_pieces
    (fun i : S12x128x128.Idx => ((Sgu.dws U V T g (i 0).val (i 1).val (i 2).val : ℝ) : EReal)) _
    (fun p hp => ?_) y (cover_mats (dwsP (emb2 U) (emb2 V) (emb2 T) (emb2 fun _ => g)) y fun _ _ => rfl)
  obtain ⟨a, ha, rfl⟩ := mem_groups _ _ hp
  refine piece3 (e := .f32) (fun i j k => ((Sgu.dws U V T g i j k : ℝ) : EReal)) ![a, 0, 0] (inb3 a ha) _ ?_
  dsimp only [dwsP]
  simp only [pay9_emb, part_emb, cols_emb, dwsA_emb, cast_unstack]
  refine emb3_congr (l := 1) (m := 128) (n := 128) (t := .f32) _ (fun i j k => Sgu.dws U V T g (a + i) (0 + j) (0 + k)) fun i hi j _ k _ => ?_
  show _ = Sgu.dws U V T g (a + i) (0 + j) (0 + k)
  unfold Sgu.dws Sgu.dmix
  rw [show i = 0 by omega, Nat.zero_add, Nat.zero_add, Nat.add_zero]

theorem canon_dwsQ (o : ℕ → ℕ → ℕ → ℝ) :
    View.canon (groups (dwsQ (emb2 U) (emb2 V) (emb2 T) (emb2 fun _ => g) (emb3 o)))
    = (emb3 fun a p q => o a p q + Sgu.dws U V T g a p q : FVec Ideal S12x128x128 .f32) := by
  funext y
  refine View.canon_apply_of_pieces (fun i : S12x128x128.Idx =>
      ((o (i 0).val (i 1).val (i 2).val + Sgu.dws U V T g (i 0).val (i 1).val (i 2).val : ℝ) : EReal)) _
    (fun p hp => ?_) y (cover_mats (dwsQ (emb2 U) (emb2 V) (emb2 T) (emb2 fun _ => g) (emb3 o)) y fun _ _ => rfl)
  obtain ⟨a, ha, rfl⟩ := mem_groups _ _ hp
  refine piece3 (e := .f32) (fun i j k => ((o i j k + Sgu.dws U V T g i j k : ℝ) : EReal)) ![a, 0, 0] (inb3 a ha) _ ?_
  dsimp only [dwsQ]
  simp only [pay9_emb, part_emb, cols_emb, mat_emb, dwsA_emb, cast_stack, addf_emb2, cast_unstack]
  refine emb3_congr (l := 1) (m := 128) (n := 128) (t := .f32) _ (fun i j k => o (a + i) (0 + j) (0 + k) + Sgu.dws U V T g (a + i) (0 + j) (0 + k)) fun i hi j _ k _ => ?_
  show _ = o (a + i) (0 + j) (0 + k) + Sgu.dws U V T g (a + i) (0 + j) (0 + k)
  unfold Sgu.dws Sgu.dmix
  rw [show i = 0 by omega, Nat.zero_add, Nat.zero_add, Nat.add_zero]

theorem canon_dbP : View.canon (groups (dbP (emb2 U) (emb2 T))) = (emb2 (Sgu.db U T) : FVec Ideal S128x12 .f32) := by
  funext y
  refine View.canon_apply_of_pieces (fun i : S128x12.Idx => ((Sgu.db U T (i 0).val (i 1).val : ℝ) : EReal)) _
    (fun p hp => ?_) y (cover_bias (dbP (emb2 U) (emb2 T)) y fun _ _ => rfl)
  obtain ⟨a, ha, rfl⟩ := mem_groups _ _ hp
  refine piece2 (e := .f32) (fun i j => ((Sgu.db U T i j : ℝ) : EReal)) ![0, a] (inbB a ha) _ ?_
  dsimp only [dbP]
  simp only [cols_emb, dbA_emb]
  refine emb2_congr (m := 128) (n := 1) (t := .f32) _ (fun i j => Sgu.db U T (0 + i) (a + j)) fun i _ j hj => ?_
  show _ = Sgu.db U T (0 + i) (a + j)
  unfold Sgu.db Sgu.dmix
  rw [show j = 0 by omega, Nat.zero_add, Nat.add_zero]

theorem canon_dbQ (o : ℕ → ℕ → ℝ) : View.canon (groups (dbQ (emb2 U) (emb2 T) (emb2 o)))
    = (emb2 fun p a => o p a + Sgu.db U T p a : FVec Ideal S128x12 .f32) := by
  funext y
  refine View.canon_apply_of_pieces
    (fun i : S128x12.Idx => ((o (i 0).val (i 1).val + Sgu.db U T (i 0).val (i 1).val : ℝ) : EReal)) _
    (fun p hp => ?_) y (cover_bias (dbQ (emb2 U) (emb2 T) (emb2 o)) y fun _ _ => rfl)
  obtain ⟨a, ha, rfl⟩ := mem_groups _ _ hp
  refine piece2 (e := .f32) (fun i j => ((o i j + Sgu.db U T i j : ℝ) : EReal)) ![0, a] (inbB a ha) _ ?_
  dsimp only [dbQ]
  simp only [cols_emb, col_emb, dbA_emb, shapeCast_self, addf_emb2]
  refine emb2_congr (m := 128) (n := 1) (t := .f32) _ (fun i j => o (0 + i) (a + j) + Sgu.db U T (0 + i) (a + j)) fun i _ j hj => ?_
  show _ = o (0 + i) (a + j) + Sgu.db U T (0 + i) (a + j)
  unfold Sgu.db Sgu.dmix
  rw [show j = 0 by omega, Nat.zero_add, Nat.add_zero]

/-! ## The values that read the whole gradient of the normalised rows -/

theorem pay148_emb (d : ℕ → ℕ → ℝ) : k0_pay148 (F := Ideal) (emb2 (Sgu.vh V)) (emb2 (t := .f32) d)
    = emb2 fun _ j => ∑ i ∈ Finset.range 128, d i j * Sgu.vh V i j := by
  unfold k0_pay148
  dsimp only
  rw [mulf_emb2, sum_down, cast_row]
theorem pay149_emb (d : ℕ → ℕ → ℝ) : k0_pay149 (F := Ideal) (emb2 fun _ => g) (emb2 (t := .f32) d)
    = emb2 fun i j => d i j * g j := by
  unfold k0_pay149
  simp only [broadcastTo_row _ (by norm_num : (1536 : ℕ) ≠ 1), mulf_emb2]
theorem pay150_emb (d : ℕ → ℕ → ℝ) :
    k0_pay150 (F := Ideal) (emb2 (Sgu.vh V)) (emb2 fun _ => g) (emb2 (t := .f32) d)
    = emb2 fun i _ => (∑ j ∈ Finset.range 1536, d i j * g j * Sgu.vh V i j) / 1536 := by
  unfold k0_pay150
  dsimp only
  rw [pay149_emb, mulf_emb2, sum_wide]
  simp only [cast_col, broadcast_emb2 _ _ scalar_1536,
    divf_emb2 _ _ (by norm_num : (1536 : ℝ) ≠ 0)]
theorem pay1_emb (s e : ℕ → ℕ → ℝ) (r mu : ℕ → ℝ) :
    k0_pay1 (F := Ideal) (emb2 s) (emb2 fun i _ => r i) (emb2 (Sgu.vh V)) (emb2 e) (emb2 fun i _ => mu i)
    = emb2 fun i j => r i * (e i j - Sgu.vh V i j * mu i) * s i j := by
  unfold k0_pay1
  simp only [broadcastTo_col _ (by norm_num : (128 : ℕ) ≠ 1), mulf_emb2, subf_emb2, truncf_emb2]
theorem pay2_emb (o p : ℕ → ℝ) : k0_pay2 (F := Ideal) (emb2 fun _ => p) (emb2 (t := .f32) fun _ => o)
    = emb2 fun _ j => o j + p j := by
  unfold k0_pay2
  simp only [shapeCast_self, addf_emb2]
end
end Cert.KernelIdeal.Block

end
-- ==== Proof.Out.lean ====
/- What the body leaves in its output blocks at a grid point: the formulas of `Spec`, at the first point and at any later
   point, where the three accumulated results add to what the point before left. -/
module

public import proofs.«01_k».proof.Proof.Block

@[expose] public section

set_option maxRecDepth 16384

noncomputable section

namespace Cert.KernelIdeal.Block

open Idealize.ShloMosaic Idealize.ShloMosaic.TcCoe Idealize.SL.Sem
open Idealize.ShloMosaic.Pipeline (Dat)
open Cert.KernelIdeal Cert.KernelIdeal.Gen Cert.Reals

variable (m : (ℓ : Loc nD τ sig) → Buf (Elt Ideal) ℓ)

theorem hz2 : (![0, 0] : Fin 2 → Nat) = fun _ => 0 := funext fun a => by fin_cases a <;> rfl

/-- A load of a whole matrix. -/
theorem ld_whole {a b : ℕ} (p : ℕ → ℕ → ℝ) (inb : ∀ x, (![0, 0] : Fin 2 → ℕ) x + ![a, b] x ≤ (⟨2, ![a, b]⟩ : Shape).size x) :
    View.ld (Val := Elt Ideal) (S := ⟨2, ![a, b]⟩) (e' := .f32) (emb2 (t := .f32) p) (Rect.unit ![0, 0] ![a, b] inb)
      = (emb2 p : FVec Ideal ⟨2, ![a, b]⟩ .f32) := by
  rw [ld_emb2]
  exact emb2_congr _ _ fun i _ j _ => by simp only [Matrix.cons_val_zero, Matrix.cons_val_one, Nat.zero_add]

section
variable (U V T : ℕ → ℕ → ℝ) (g : ℕ → ℝ) (W : ℕ → ℕ → ℕ → ℝ)

/-- The whole gradient of the normalised rows, as the scratch array holds it when it is read back. -/
theorem scratch_dvn (inb) :
    (fun j => View.canon (groups (dvnP (emb2 U) (emb2 T) (emb3 W))) ((Rect.unit (s := S128x1536) ![0, 0] ![128, 1536] inb).toLoadRect.idx j))
      = (emb2 (Sgu.dvn U T W) : FVec Ideal S128x1536 .f32) := by
  rw [canon_dvn]
  exact ld_whole (Sgu.dvn U T W) inb

/-- The block of the gradient of v. -/
theorem dv_value (d : FVec Ideal S128x1536 .f32) (h : d = emb2 (Sgu.dvn U T W)) :
    k0_pay1 (F := Ideal) (k0_pay5 (emb2 (t := .f32) V)) (k0_pay6 (emb2 (t := .f32) V)) (k0_pay7 (emb2 (t := .f32) V))
      (k0_pay149 (k0_pay8 (emb2 (t := .f32) fun _ => g)) d)
      (k0_pay150 (k0_pay7 (emb2 (t := .f32) V)) (k0_pay8 (emb2 (t := .f32) fun _ => g)) d)
    = emb2 (Sgu.dv U V T g W) := by
  rw [h, pay8_emb, pay5_emb, pay6_emb, pay7_emb, pay149_emb, pay150_emb, pay1_emb]
  rfl

/-- The block's part of the gradient of the gain. -/
theorem dgain_value : k0_pay148 (F := Ideal) (k0_pay7 (emb2 (t := .f32) V)) (emb2 (t := .f32) (Sgu.dvn U T W))
    = emb2 fun _ => Sgu.dgain U V T W := by
  rw [pay7_emb, pay148_emb]
  rfl
end

/-- The blocks the body reads at point `t`, as real arrays. -/
structure Reads (c : Dev nD) (t : Fin cfg0.N) (U V T : ℕ → ℕ → ℝ) (g : ℕ → ℝ) (W : ℕ → ℕ → ℕ → ℝ) (B : ℕ → ℕ → ℝ) : Prop where
  u : X0_0 m c t = (emb2 U : FVec Ideal S128x1536 .f32)
  v : X0_1 m c t = (emb2 V : FVec Ideal S128x1536 .f32)
  g : iblk m c 2 t = (emb2 (fun _ => g) : FVec Ideal S1x1536 .f32)
  w : iblk m c 3 t = (emb3 W : FVec Ideal S12x128x128 .f32)
  b : iblk m c 4 t = (emb2 B : FVec Ideal S128x12 .f32)
  t : X0_5 m c t = (emb2 T : FVec Ideal S128x1536 .f32)

variable {m} {c : Dev nD} {t : Fin cfg0.N} {U V T : ℕ → ℕ → ℝ} {g : ℕ → ℝ} {W : ℕ → ℕ → ℕ → ℝ} {B : ℕ → ℕ → ℝ}

/-- The first point's block of the gradient of u. -/
theorem du_first (hr : Reads m c t U V T g W B) (h0 : t.val % 16 = 0) (h1 : ¬1 ≤ t.val) :
    (outsAt0 m c t.val t.isLt).1 = (emb2 (Sgu.du U V T g W B) : FVec Ideal S128x1536 .bf16) := by
  rw [outsAt0_A m c t h0 h1 h0 h1 h0 h1 h0 h1 h0 h1 h0 h1 h0 h1 h0 h1 h0 h1 h0 h1 h0 h1 h0 h1 h0 h1]
  dsimp only
  unfold out0_A_6
  rw [View.read_writes_eq_canon _ _ _ (fun y => cover0_A_6 _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, hr.u, hr.v, hr.g, hr.w, hr.b, hr.t, ld_whole]
  exact canon_du U V T g W B

/-- The first point's block of the gradient of v. -/
theorem dv_first (hr : Reads m c t U V T g W B) (h0 : t.val % 16 = 0) (h1 : ¬1 ≤ t.val) :
    (outsAt0 m c t.val t.isLt).2.1 = (emb2 (Sgu.dv U V T g W) : FVec Ideal S128x1536 .bf16) := by
  rw [outsAt0_A m c t h0 h1 h0 h1 h0 h1 h0 h1 h0 h1 h0 h1 h0 h1 h0 h1 h0 h1 h0 h1 h0 h1 h0 h1 h0 h1]
  dsimp only
  unfold out0_A_7
  rw [View.read_writes_eq_canon _ _ _ (fun y => cover0_A_7 _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, hr.u, hr.v, hr.g, hr.w, hr.b, hr.t, ld_whole]
  rw [View.canon_unit_zero hz2, View.readCov_eq_canon']
  exact dv_value U V T g W _ (scratch_dvn U T W _)

/-- The first point's block of the gradient of the gain. -/
theorem dgain_first (hr : Reads m c t U V T g W B) (h0 : t.val % 16 = 0) (h1 : ¬1 ≤ t.val) :
    (outsAt0 m c t.val t.isLt).2.2.1 = (emb2 (fun _ => Sgu.dgain U V T W) : FVec Ideal S1x1536 .f32) := by
  rw [outsAt0_A m c t h0 h1 h0 h1 h0 h1 h0 h1 h0 h1 h0 h1 h0 h1 h0 h1 h0 h1 h0 h1 h0 h1 h0 h1 h0 h1]
  dsimp only
  unfold out0_A_8
  rw [View.read_writes_eq_canon _ _ _ (fun y => cover0_A_8 _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, hr.u, hr.v, hr.g, hr.w, hr.b, hr.t, ld_whole]
  rw [View.canon_unit_zero hz2, View.readCov_eq_canon']
  refine (congrArg (fun d => k0_pay148 (F := Ideal) (k0_pay7 (emb2 (t := .f32) V)) d) (scratch_dvn U T W _)).trans ?_
  exact dgain_value U V T W

/-- The first point's block of the gradient of the mixing matrices. -/
theorem dws_first (hr : Reads m c t U V T g W B) (h0 : t.val % 16 = 0) (h1 : ¬1 ≤ t.val) :
    (outsAt0 m c t.val t.isLt).2.2.2.1 = (emb3 (Sgu.dws U V T g) : FVec Ideal S12x128x128 .f32) := by
  rw [outsAt0_A m c t h0 h1 h0 h1 h0 h1 h0 h1 h0 h1 h0 h1 h0 h1 h0 h1 h0 h1 h0 h1 h0 h1 h0 h1 h0 h1]
  dsimp only
  unfold out0_A_9
  rw [View.read_writes_eq_canon _ _ _ (fun y => cover0_A_9 _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, hr.u, hr.v, hr.g, hr.w, hr.b, hr.t, ld_whole]
  exact canon_dwsP U V T g

/-- The first point's block of the gradient of the bias. -/
theorem db_first (hr : Reads m c t U V T g W B) (h0 : t.val % 16 = 0) (h1 : ¬1 ≤ t.val) :
    (outsAt0 m c t.val t.isLt).2.2.2.2 = (emb2 (Sgu.db U T) : FVec Ideal S128x12 .f32) := by
  rw [outsAt0_A m c t h0 h1 h0 h1 h0 h1 h0 h1 h0 h1 h0 h1 h0 h1 h0 h1 h0 h1 h0 h1 h0 h1 h0 h1 h0 h1]
  dsimp only
  unfold out0_A_10
  rw [View.read_writes_eq_canon _ _ _ (fun y => cover0_A_10 _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, hr.u, hr.v, hr.g, hr.w, hr.b, hr.t, ld_whole]
  exact canon_dbP U T

/-- A later point's block of the gradient of u. -/
theorem du_later (hr : Reads m c t U V T g W B) (h0 : ¬t.val % 16 = 0) (h1 : 1 ≤ t.val) :
    (outsAt0 m c t.val t.isLt).1 = (emb2 (Sgu.du U V T g W B) : FVec Ideal S128x1536 .bf16) := by
  rw [outsAt0_B m c t h0 h1 h0 h1 h0 h1 h0 h1 h0 h1 h0 h1 h0 h1 h0 h1 h0 h1 h0 h1 h0 h1 h0 h1 h0 h1]
  dsimp only
  unfold out0_B_6
  rw [View.read_writes_eq_canon _ _ _ (fun y => cover0_B_6 _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, hr.u, hr.v, hr.g, hr.w, hr.b, hr.t, ld_whole]
  exact canon_du U V T g W B

/-- A later point's block of the gradient of v. -/
theorem dv_later (hr : Reads m c t U V T g W B) (h0 : ¬t.val % 16 = 0) (h1 : 1 ≤ t.val) :
    (outsAt0 m c t.val t.isLt).2.1 = (emb2 (Sgu.dv U V T g W) : FVec Ideal S128x1536 .bf16) := by
  rw [outsAt0_B m c t h0 h1 h0 h1 h0 h1 h0 h1 h0 h1 h0 h1 h0 h1 h0 h1 h0 h1 h0 h1 h0 h1 h0 h1 h0 h1]
  dsimp only
  unfold out0_B_7
  rw [View.read_writes_eq_canon _ _ _ (fun y => cover0_B_7 _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, hr.u, hr.v, hr.g, hr.w, hr.b, hr.t, ld_whole]
  rw [View.canon_unit_zero hz2, View.readCov_eq_canon']
  exact dv_value U V T g W _ (scratch_dvn U T W _)

/-- A later point's block of the gradient of the gain. -/
theorem dgain_later (hr : Reads m c t U V T g W B) (h0 : ¬t.val % 16 = 0) (h1 : 1 ≤ t.val) (o : ℕ → ℝ)
    (ho : (outsAt0 m c (t.val - 1) (by have := t.isLt; omega)).2.2.1 = (emb2 (fun _ => o) : FVec Ideal S1x1536 .f32)) :
    (outsAt0 m c t.val t.isLt).2.2.1 = (emb2 (fun _ j => o j + Sgu.dgain U V T W j) : FVec Ideal S1x1536 .f32) := by
  rw [outsAt0_B m c t h0 h1 h0 h1 h0 h1 h0 h1 h0 h1 h0 h1 h0 h1 h0 h1 h0 h1 h0 h1 h0 h1 h0 h1 h0 h1]
  dsimp only
  unfold out0_B_8
  rw [View.read_writes_eq_canon _ _ _ (fun y => cover0_B_8 _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_8 t).read_unread, hr.u, hr.v, hr.g, hr.w, hr.b, hr.t, ld_whole, ho]
  rw [View.canon_unit_zero hz2, View.readCov_eq_canon']
  refine (congrArg (fun d => k0_pay2 (F := Ideal) (k0_pay148 (F := Ideal) (k0_pay7 (emb2 (t := .f32) V)) d) (emb2 fun _ => o)) (scratch_dvn U T W _)).trans ?_
  rw [dgain_value U V T W, pay2_emb]

/-- A later point's block of the gradient of the mixing matrices. -/
theorem dws_later (hr : Reads m c t U V T g W B) (h0 : ¬t.val % 16 = 0) (h1 : 1 ≤ t.val) (o : ℕ → ℕ → ℕ → ℝ)
    (ho : (outsAt0 m c (t.val - 1) (by have := t.isLt; omega)).2.2.2.1 = (emb3 o : FVec Ideal S12x128x128 .f32)) :
    (outsAt0 m c t.val t.isLt).2.2.2.1 = (emb3 (fun a p q => o a p q + Sgu.dws U V T g a p q) : FVec Ideal S12x128x128 .f32) := by
  rw [outsAt0_B m c t h0 h1 h0 h1 h0 h1 h0 h1 h0 h1 h0 h1 h0 h1 h0 h1 h0 h1 h0 h1 h0 h1 h0 h1 h0 h1]
  dsimp only
  unfold out0_B_9
  rw [View.read_writes_eq_canon _ _ _ (fun y => cover0_B_9 _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_9 t).read_unread, hr.u, hr.v, hr.g, hr.w, hr.b, hr.t, ld_whole, ho]
  exact canon_dwsQ U V T g o

/-- A later point's block of the gradient of the bias. -/
theorem db_later (hr : Reads m c t U V T g W B) (h0 : ¬t.val % 16 = 0) (h1 : 1 ≤ t.val) (o : ℕ → ℕ → ℝ)
    (ho : (outsAt0 m c (t.val - 1) (by have := t.isLt; omega)).2.2.2.2 = (emb2 o : FVec Ideal S128x12 .f32)) :
    (outsAt0 m c t.val t.isLt).2.2.2.2 = (emb2 (fun p a => o p a + Sgu.db U T p a) : FVec Ideal S128x12 .f32) := by
  rw [outsAt0_B m c t h0 h1 h0 h1 h0 h1 h0 h1 h0 h1 h0 h1 h0 h1 h0 h1 h0 h1 h0 h1 h0 h1 h0 h1 h0 h1]
  dsimp only
  unfold out0_B_10
  rw [View.read_writes_eq_canon _ _ _ (fun y => cover0_B_10 _ _ _ _ _ _ _ _ _ _ _ _ _ _ _ _ _ _ _ _ _ _ _ _ _ _ _ _ _ _ _ _ _ _ _ _ _ _ _ _ _ _ _ _ _ _ _ _ _ _ _ _ _ _ _ _ _ _ _ _ _ y)]
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_10 t).read_unread, hr.u, hr.v, hr.g, hr.w, hr.b, hr.t, ld_whole, ho]
  exact canon_dbQ U T o

end Cert.KernelIdeal.Block

end
-- ==== Proof.Array.lean ====
/- What the kernel's five result arrays hold after the run, over real arguments: the block of each chunk for the two row
   gradients, and the sum over the sixteen chunks for the three accumulated ones. -/
module

public import proofs.«01_k».proof.Proof.Out
public import Idealize.ShloMosaic.Lib.Tactic

@[expose] public section

set_option maxRecDepth 16384

noncomputable section

namespace Cert.KernelIdeal.Block

open Idealize.ShloMosaic Idealize.ShloMosaic.TcCoe Idealize.SL.Sem
open Cert.Sgu (chunk vcols turn gather gather_at)
open Idealize.ShloMosaic.Pipeline (Dat)
open Cert.KernelIdeal Cert.KernelIdeal.Gen Cert.Reals

variable (m : (ℓ : Loc nD τ sig) → Buf (Elt Ideal) ℓ)

/-! ## Where the windows' blocks sit -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 1 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 2) = t.val ∧ win0_6.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)

/-! ## The arguments as real arrays, and the blocks the body reads of them -/

/-- The arguments at device `c`, as real arrays. -/
structure Args (c : Dev nD) (P : ℕ → ℕ → ℝ) (g : ℕ → ℝ) (W : ℕ → ℕ → ℕ → ℝ) (B D : ℕ → ℕ → ℝ) : Prop where
  p : m ((c : Thread nD τ).loc main_arg0) = (emb2 P : FVec Ideal S2048x3584 .f32)
  g : m ((c : Thread nD τ).loc main_arg1) = (emb1 g : FVec Ideal S1536 .f32)
  w : m ((c : Thread nD τ).loc main_arg2) = (emb3 W : FVec Ideal S12x128x128 .f32)
  b : m ((c : Thread nD τ).loc main_arg3) = (emb2 B : FVec Ideal S12x128 .f32)
  d : m ((c : Thread nD τ).loc main_arg4) = (emb2 D : FVec Ideal S2048x2048 .f32)

/-- The transposed bias, as the kernel's call finds it. -/
theorem V_v0 (c : Dev nD) : V m c main_v0
    = transpose S128x12 [1, 0] (m ((c : Thread nD τ).loc main_arg3)) transposes_S12x128_S128x12_1_0 := by
  show StableHlo.after hostOps0 (fun b => m (c, b)) (Proc.devRef .tc main_v0) = _
  after_results
/-- The gain as a row, as the kernel's call finds it. -/
theorem V_v1 (c : Dev nD) : V m c main_v1
    = shapeCast S1x1536 (m ((c : Thread nD τ).loc main_arg1)) shapeCasts_S1536_S1x1536 := by
  show StableHlo.after hostOps0 (fun b => m (c, b)) (Proc.devRef .tc main_v1) = _
  after_results
  rfl

variable {m} {c : Dev nD} {P : ℕ → ℕ → ℝ} {g : ℕ → ℝ} {W : ℕ → ℕ → ℕ → ℝ} {B D : ℕ → ℕ → ℝ}

theorem read_u (ha : Args m c P g W B D) (t : Fin cfg0.N) : X0_0 m c t = (emb2 (chunk P t.val) : FVec Ideal S128x1536 .f32) := by
  funext j
  unfold X0_0 Pipeline.Window.fill
  rw [dif_pos (moved0_0 t j)]
  obtain ⟨e0, e1⟩ := idx0 t
  show V m c main_arg0 (((cfg0.win 0).blk t).view.emb _) = _
  rw [V_main_arg0, ha.p]
  refine congrArg (fun r : ℝ => (r : EReal)) (congrArg₂ P ?_ ?_)
  · show win0_0.index t (0 : Fin 2) * 128 + 1 * (j 0).val = 128 * t.val + (j 0).val; omega
  · show win0_0.index t (1 : Fin 2) * 1536 + 1 * (j 1).val = (j 1).val; omega

theorem read_v (ha : Args m c P g W B D) (t : Fin cfg0.N) :
    X0_1 m c t = (emb2 (chunk (vcols P) t.val) : FVec Ideal S128x1536 .f32) := by
  funext j
  unfold X0_1 Pipeline.Window.fill
  rw [dif_pos (moved0_1 t j)]
  obtain ⟨e0, e1⟩ := idx1 t
  show V m c main_arg0 (((cfg0.win 1).blk t).view.emb _) = _
  rw [V_main_arg0, ha.p]
  refine congrArg (fun r : ℝ => (r : EReal)) (congrArg₂ P ?_ ?_)
  · show win0_1.index t (0 : Fin 2) * 128 + 1 * (j 0).val = 128 * t.val + (j 0).val; omega
  · show win0_1.index t (1 : Fin 2) * 1536 + 1 * (j 1).val = 1536 + (j 1).val; omega

theorem read_t (ha : Args m c P g W B D) (t : Fin cfg0.N) : X0_5 m c t = (emb2 (chunk D t.val) : FVec Ideal S128x1536 .f32) := by
  funext j
  unfold X0_5 Pipeline.Window.fill
  rw [dif_pos (moved0_5 t j)]
  obtain ⟨e0, e1⟩ := idx5 t
  show V m c main_arg4 (((cfg0.win 5).blk t).view.emb _) = _
  rw [V_main_arg4, ha.d]
  refine congrArg (fun r : ℝ => (r : EReal)) (congrArg₂ D ?_ ?_)
  · show win0_5.index t (0 : Fin 2) * 128 + 1 * (j 0).val = 128 * t.val + (j 0).val; omega
  · show win0_5.index t (1 : Fin 2) * 1536 + 1 * (j 1).val = (j 1).val; omega

theorem read_g (ha : Args m c P g W B D) (t : Fin cfg0.N) : iblk m c 2 t = (emb2 (fun _ => g) : FVec Ideal S1x1536 .f32) := by
  funext j
  obtain ⟨e0, e1⟩ := idx2 t
  show V m c main_v1 (((cfg0.win 2).blk t).view.emb j) = _
  rw [V_v1, ha.g]
  refine (shapeCast_apply (emb1 (t := .f32) g) _ _ (ValueIdx.ix1 ⟨(j 1).val, (j 1).isLt⟩) ?_).trans rfl
  · rw [Shape.rowMajor_val_one, Shape.rowMajor_val_two]
    show (j 1).val = (win0_2.index t (0 : Fin 2) * 1 + 1 * (j 0).val) * 1536 + (win0_2.index t (1 : Fin 2) * 1536 + 1 * (j 1).val)
    have h0 : (j 0).val < 1 := (j 0).isLt
    omega

theorem read_w (ha : Args m c P g W B D) (t : Fin cfg0.N) : iblk m c 3 t = (emb3 W : FVec Ideal S12x128x128 .f32) := by
  funext j
  obtain ⟨e0, e1, e2⟩ := idx3 t
  show V m c main_arg2 (((cfg0.win 3).blk t).view.emb j) = _
  rw [V_main_arg2, ha.w]
  refine congrArg (fun r : ℝ => (r : EReal)) ?_
  show W _ _ _ = W _ _ _
  rw [show ((((cfg0.win 3).blk t).view.emb j) 0).val = (j 0).val from by
      show win0_3.index t (0 : Fin 3) * 12 + 1 * (j 0).val = (j 0).val; omega,
    show ((((cfg0.win 3).blk t).view.emb j) 1).val = (j 1).val from by
      show win0_3.index t (1 : Fin 3) * 128 + 1 * (j 1).val = (j 1).val; omega,
    show ((((cfg0.win 3).blk t).view.emb j) 2).val = (j 2).val from by
      show win0_3.index t (2 : Fin 3) * 128 + 1 * (j 2).val = (j 2).val; omega]

theorem read_b (ha : Args m c P g W B D) (t : Fin cfg0.N) : iblk m c 4 t = (emb2 (turn B) : FVec Ideal S128x12 .f32) := by
  funext j
  obtain ⟨e0, e1⟩ := idx4 t
  show V m c main_v0 (((cfg0.win 4).blk t).view.emb j) = _
  rw [V_v0, ha.b]
  refine congrArg (fun r : ℝ => (r : EReal)) ?_
  refine congrArg₂ B ?_ ?_
  · show win0_4.index t (1 : Fin 2) * 12 + 1 * (j 1).val = (j 1).val; omega
  · show win0_4.index t (0 : Fin 2) * 128 + 1 * (j 0).val = (j 0).val; omega

theorem reads (ha : Args m c P g W B D) (t : Fin cfg0.N) :
    Reads m c t (chunk P t.val) (chunk (vcols P) t.val) (chunk D t.val) g W (turn B) :=
  ⟨read_u ha t, read_v ha t, read_g ha t, read_w ha t, read_b ha t, read_t ha t⟩

/-! ## The blocks after every point -/

theorem N_16 : cfg0.N = 16 := N_0
theorem last_lt : 15 < cfg0.N := by rw [N_16]; norm_num

theorem du_at (ha : Args m c P g W B D) (t : Fin cfg0.N) : (outsAt0 m c t.val t.isLt).1
    = (emb2 (Sgu.du (chunk P t.val) (chunk (vcols P) t.val) (chunk D t.val) g W (turn B)) : FVec Ideal S128x1536 .bf16) := by
  have hN := N_16
  have hl := t.isLt
  by_cases h : t.val % 16 = 0
  · exact du_first (reads ha t) h (by omega)
  · exact du_later (reads ha t) h (by omega)

theorem dv_at (ha : Args m c P g W B D) (t : Fin cfg0.N) : (outsAt0 m c t.val t.isLt).2.1
    = (emb2 (Sgu.dv (chunk P t.val) (chunk (vcols P) t.val) (chunk D t.val) g W) : FVec Ideal S128x1536 .bf16) := by
  have hN := N_16
  have hl := t.isLt
  by_cases h : t.val % 16 = 0
  · exact dv_first (reads ha t) h (by omega)
  · exact dv_later (reads ha t) h (by omega)

/-- The gradient of the gain, summed over the chunks up to `n`. -/
theorem dgain_at (ha : Args m c P g W B D) : ∀ (n : ℕ) (h : n < cfg0.N), (outsAt0 m c n h).2.2.1
    = (emb2 (fun _ j => ∑ k ∈ Finset.range (n + 1), Sgu.dgain (chunk P k) (chunk (vcols P) k) (chunk D k) W j) : FVec Ideal S1x1536 .f32)
  | 0, h => by
    rw [dgain_first (reads ha ⟨0, h⟩) rfl (by dsimp only; omega)]
    exact emb2_congr _ _ fun i _ j _ => by rw [Nat.zero_add, Finset.sum_range_one]
  | n + 1, h => by
    have hN := N_16
    rw [dgain_later (reads ha ⟨n + 1, h⟩) (by dsimp only; omega) (by dsimp only; omega) _ (dgain_at ha n (by omega))]
    exact emb2_congr _ _ fun i _ j _ => (Finset.sum_range_succ _ _).symm

/-- The gradient of the mixing matrices, summed over the chunks up to `n`. -/
theorem dws_at (ha : Args m c P g W B D) : ∀ (n : ℕ) (h : n < cfg0.N), (outsAt0 m c n h).2.2.2.1
    = (emb3 (fun a p q => ∑ k ∈ Finset.range (n + 1), Sgu.dws (chunk P k) (chunk (vcols P) k) (chunk D k) g a p q) : FVec Ideal S12x128x128 .f32)
  | 0, h => by
    rw [dws_first (reads ha ⟨0, h⟩) rfl (by dsimp only; omega)]
    exact emb3_congr _ _ fun i _ j _ k _ => by rw [Nat.zero_add, Finset.sum_range_one]
  | n + 1, h => by
    have hN := N_16
    rw [dws_later (reads ha ⟨n + 1, h⟩) (by dsimp only; omega) (by dsimp only; omega) _ (dws_at ha n (by omega))]
    exact emb3_congr _ _ fun i _ j _ k _ => (Finset.sum_range_succ _ _).symm

/-- The gradient of the bias, summed over the chunks up to `n`. -/
theorem db_at (ha : Args m c P g W B D) : ∀ (n : ℕ) (h : n < cfg0.N), (outsAt0 m c n h).2.2.2.2
    = (emb2 (fun p a => ∑ k ∈ Finset.range (n + 1), Sgu.db (chunk P k) (chunk D k) p a) : FVec Ideal S128x12 .f32)
  | 0, h => by
    rw [db_first (reads ha ⟨0, h⟩) rfl (by dsimp only; omega)]
    exact emb2_congr _ _ fun i _ j _ => by rw [Nat.zero_add, Finset.sum_range_one]
  | n + 1, h => by
    have hN := N_16
    rw [db_later (reads ha ⟨n + 1, h⟩) (by dsimp only; omega) (by dsimp only; omega) _ (db_at ha n (by omega))]
    exact emb2_congr _ _ fun i _ j _ => (Finset.sum_range_succ _ _).symm

/-! ## The arrays after the run -/

/-- The gradient of u. -/
theorem du_final (ha : Args m c P g W B D) : (dats m 0 c).arrAt 6 cfg0.N
    = (emb2 (gather fun k => Sgu.du (chunk P k) (chunk (vcols P) k) (chunk D k) g W (turn B)) : FVec Ideal S2048x1536 .bf16) := by
  refine (dats m 0 c).arrAt_eq_of_cover 6 _ (fun t hf => ?_) fun i => ?_
  · rw [Value.flushed6, du_at ha t]
    obtain ⟨e0, e1⟩ := idx6 t
    funext j
    have hj : (j 0).val < 128 := (j 0).isLt
    refine congrArg (fun r : ℝ => (r : EReal)) ?_
    have q0 : ((((cfg0.win 6).blk t).view.emb j) 0).val = 128 * t.val + (j 0).val := by
      show win0_6.index t (0 : Fin 2) * 128 + 1 * (j 0).val = _; omega
    have q1 : ((((cfg0.win 6).blk t).view.emb j) 1).val = (j 1).val := by
      show win0_6.index t (1 : Fin 2) * 1536 + 1 * (j 1).val = _; omega
    show _ = gather _ ((((cfg0.win 6).blk t).view.emb j) 0).val ((((cfg0.win 6).blk t).view.emb j) 1).val
    rw [q0, q1]
    exact (gather_at (fun k => Sgu.du (chunk P k) (chunk (vcols P) k) (chunk D k) g W (turn B)) t.val (j 0).val (j 1).val hj).symm
  · have h0 : (i 0).val < 2048 := (i 0).isLt
    have h1 : (i 1).val < 1536 := (i 1).isLt
    have hk : (i 0).val / 128 < cfg0.N := by rw [N_16]; omega
    have e : i = ((cfg0.win 6).blk ⟨(i 0).val / 128, hk⟩).view.emb
        (ValueIdx.ix2 ⟨(i 0).val % 128, Nat.mod_lt _ (by norm_num)⟩ ⟨(i 1).val, h1⟩) := by
      obtain ⟨e0, e1⟩ := idx6 ⟨(i 0).val / 128, hk⟩
      dsimp only at e0
      funext a; apply Fin.ext
      match a with
      | ⟨0, _⟩ => show (i 0).val = win0_6.index ⟨(i 0).val / 128, hk⟩ (0 : Fin 2) * 128 + 1 * ((i 0).val % 128); omega
      | ⟨1, _⟩ => show (i 1).val = win0_6.index ⟨(i 0).val / 128, hk⟩ (1 : Fin 2) * 1536 + 1 * (i 1).val; omega
    exact ⟨_, flush0_6 _, by
      have h := ((cfg0.win 6).blk ⟨(i 0).val / 128, hk⟩).view.emb_mem_set
        (ValueIdx.ix2 ⟨(i 0).val % 128, Nat.mod_lt _ (by norm_num)⟩ ⟨(i 1).val, h1⟩)
      rwa [← e] at h⟩

/-- The gradient of v. -/
theorem dv_final (ha : Args m c P g W B D) : (dats m 0 c).arrAt 7 cfg0.N
    = (emb2 (gather fun k => Sgu.dv (chunk P k) (chunk (vcols P) k) (chunk D k) g W) : FVec Ideal S2048x1536 .bf16) := by
  refine (dats m 0 c).arrAt_eq_of_cover 7 _ (fun t hf => ?_) fun i => ?_
  · rw [Value.flushed7, dv_at ha t]
    obtain ⟨e0, e1⟩ := idx7 t
    funext j
    have hj : (j 0).val < 128 := (j 0).isLt
    refine congrArg (fun r : ℝ => (r : EReal)) ?_
    have q0 : ((((cfg0.win 7).blk t).view.emb j) 0).val = 128 * t.val + (j 0).val := by
      show win0_7.index t (0 : Fin 2) * 128 + 1 * (j 0).val = _; omega
    have q1 : ((((cfg0.win 7).blk t).view.emb j) 1).val = (j 1).val := by
      show win0_7.index t (1 : Fin 2) * 1536 + 1 * (j 1).val = _; omega
    show _ = gather _ ((((cfg0.win 7).blk t).view.emb j) 0).val ((((cfg0.win 7).blk t).view.emb j) 1).val
    rw [q0, q1]
    exact (gather_at (fun k => Sgu.dv (chunk P k) (chunk (vcols P) k) (chunk D k) g W) t.val (j 0).val (j 1).val hj).symm
  · have h0 : (i 0).val < 2048 := (i 0).isLt
    have h1 : (i 1).val < 1536 := (i 1).isLt
    have hk : (i 0).val / 128 < cfg0.N := by rw [N_16]; omega
    have e : i = ((cfg0.win 7).blk ⟨(i 0).val / 128, hk⟩).view.emb
        (ValueIdx.ix2 ⟨(i 0).val % 128, Nat.mod_lt _ (by norm_num)⟩ ⟨(i 1).val, h1⟩) := by
      obtain ⟨e0, e1⟩ := idx7 ⟨(i 0).val / 128, hk⟩
      dsimp only at e0
      funext a; apply Fin.ext
      match a with
      | ⟨0, _⟩ => show (i 0).val = win0_7.index ⟨(i 0).val / 128, hk⟩ (0 : Fin 2) * 128 + 1 * ((i 0).val % 128); omega
      | ⟨1, _⟩ => show (i 1).val = win0_7.index ⟨(i 0).val / 128, hk⟩ (1 : Fin 2) * 1536 + 1 * (i 1).val; omega
    exact ⟨_, flush0_7 _, by
      have h := ((cfg0.win 7).blk ⟨(i 0).val / 128, hk⟩).view.emb_mem_set
        (ValueIdx.ix2 ⟨(i 0).val % 128, Nat.mod_lt _ (by norm_num)⟩ ⟨(i 1).val, h1⟩)
      rwa [← e] at h⟩

/-- The gradient of the gain. -/
theorem dgain_final (ha : Args m c P g W B D) : (dats m 0 c).arrAt 8 cfg0.N
    = (emb2 (fun _ j => ∑ k ∈ Finset.range 16, Sgu.dgain (chunk P k) (chunk (vcols P) k) (chunk D k) W j) : FVec Ideal S1x1536 .f32) := by
  have hN := N_16
  have e (t : Fin cfg0.N) (j : S1x1536.Idx) : ((cfg0.win 8).blk t).view.emb j = j := by
    obtain ⟨e0, e1⟩ := idx8 t
    funext a; apply Fin.ext
    match a with
      | ⟨0, _⟩ => show win0_8.index t (0 : Fin 2) * 1 + 1 * (j 0).val = (j 0).val; omega
      | ⟨1, _⟩ => show win0_8.index t (1 : Fin 2) * 1536 + 1 * (j 1).val = (j 1).val; omega
  refine (dats m 0 c).arrAt_eq_of_cover 8 _ (fun t hf => ?_) fun i => ?_
  · have h15 : t.val = 15 := by have := (flush0_8 t).mp hf; have := t.isLt; omega
    rw [Value.flushed8, dgain_at ha t.val t.isLt, h15]
    funext j
    refine congrArg (emb2 (fun _ j => ∑ k ∈ Finset.range 16, Sgu.dgain (chunk P k) (chunk (vcols P) k) (chunk D k) W j) : FVec Ideal S1x1536 .f32) ?_
    exact (e t j).symm
  · refine ⟨⟨15, last_lt⟩, (flush0_8 _).mpr rfl, ?_⟩
    have h := ((cfg0.win 8).blk ⟨15, last_lt⟩).view.emb_mem_set i
    rwa [e] at h

/-- The gradient of the mixing matrices. -/
theorem dws_final (ha : Args m c P g W B D) : (dats m 0 c).arrAt 9 cfg0.N
    = (emb3 (fun a p q => ∑ k ∈ Finset.range 16, Sgu.dws (chunk P k) (chunk (vcols P) k) (chunk D k) g a p q) : FVec Ideal S12x128x128 .f32) := by
  have hN := N_16
  have e (t : Fin cfg0.N) (j : S12x128x128.Idx) : ((cfg0.win 9).blk t).view.emb j = j := by
    obtain ⟨e0, e1, e2⟩ := idx9 t
    funext a; apply Fin.ext
    match a with
      | ⟨0, _⟩ => show win0_9.index t (0 : Fin 3) * 12 + 1 * (j 0).val = (j 0).val; omega
      | ⟨1, _⟩ => show win0_9.index t (1 : Fin 3) * 128 + 1 * (j 1).val = (j 1).val; omega
      | ⟨2, _⟩ => show win0_9.index t (2 : Fin 3) * 128 + 1 * (j 2).val = (j 2).val; omega
  refine (dats m 0 c).arrAt_eq_of_cover 9 _ (fun t hf => ?_) fun i => ?_
  · have h15 : t.val = 15 := by have := (flush0_9 t).mp hf; have := t.isLt; omega
    rw [Value.flushed9, dws_at ha t.val t.isLt, h15]
    funext j
    refine congrArg (emb3 (fun a p q => ∑ k ∈ Finset.range 16, Sgu.dws (chunk P k) (chunk (vcols P) k) (chunk D k) g a p q) : FVec Ideal S12x128x128 .f32) ?_
    exact (e t j).symm
  · refine ⟨⟨15, last_lt⟩, (flush0_9 _).mpr rfl, ?_⟩
    have h := ((cfg0.win 9).blk ⟨15, last_lt⟩).view.emb_mem_set i
    rwa [e] at h

/-- The gradient of the bias. -/
theorem db_final (ha : Args m c P g W B D) : (dats m 0 c).arrAt 10 cfg0.N
    = (emb2 (fun p a => ∑ k ∈ Finset.range 16, Sgu.db (chunk P k) (chunk D k) p a) : FVec Ideal S128x12 .f32) := by
  have hN := N_16
  have e (t : Fin cfg0.N) (j : S128x12.Idx) : ((cfg0.win 10).blk t).view.emb j = j := by
    obtain ⟨e0, e1⟩ := idx10 t
    funext a; apply Fin.ext
    match a with
      | ⟨0, _⟩ => show win0_10.index t (0 : Fin 2) * 128 + 1 * (j 0).val = (j 0).val; omega
      | ⟨1, _⟩ => show win0_10.index t (1 : Fin 2) * 12 + 1 * (j 1).val = (j 1).val; omega
  refine (dats m 0 c).arrAt_eq_of_cover 10 _ (fun t hf => ?_) fun i => ?_
  · have h15 : t.val = 15 := by have := (flush0_10 t).mp hf; have := t.isLt; omega
    rw [Value.flushed10, db_at ha t.val t.isLt, h15]
    funext j
    refine congrArg (emb2 (fun p a => ∑ k ∈ Finset.range 16, Sgu.db (chunk P k) (chunk D k) p a) : FVec Ideal S128x12 .f32) ?_
    exact (e t j).symm
  · refine ⟨⟨15, last_lt⟩, (flush0_10 _).mpr rfl, ?_⟩
    have h := ((cfg0.win 10).blk ⟨15, last_lt⟩).view.emb_mem_set i
    rwa [e] at h

end Cert.KernelIdeal.Block

end
-- ==== Proof.Pre.lean ====
/- The precondition: it says that no entry of an argument is infinite, so every argument is an array of real numbers. -/
module

public import proofs.«01_k».proof.Proof.Array
public import proofs.«01_k».proof.Defs
public import Idealize.ShloMosaic.Lib.ReduceAll
public import Idealize.ShloMosaic.Lib.Pointwise.Select

@[expose] public section

set_option maxRecDepth 16384

noncomputable section

namespace Cert.Pre

open Idealize.ShloMosaic Idealize.ShloMosaic.TcCoe Cert.Reals

/-- The shape relations the precondition's operations take. -/
theorem facts : Cert.Pre_finite.Facts where
  bcast_S_S2048x3584 := by decide
  reducesTo_S2048x3584_S_d0_1 := by decide
  h_S_ := by decide
  bcast_S_S1536 := by decide
  reducesTo_S1536_S_d0 := by decide
  bcast_S_S12x128x128 := by decide
  reducesTo_S12x128x128_S_d0_1_2 := by decide
  bcast_S_S12x128 := by decide
  reducesTo_S12x128_S_d0_1 := by decide
  bcast_S_S2048x2048 := by decide
  reducesTo_S2048x2048_S_d0_1 := by decide

theorem and_one {a b : BitVec 1} (h : a &&& b = 1#1) : a = 1#1 ∧ b = 1#1 := by
  revert a b; decide

/-- One argument's test: where the reduction says yes, every entry is a real number. -/
theorem real_of_all {s : Shape} {axes : List (Fin s.rank)} (x : FVec Ideal s .f32)
    (hb : Cert.Pre_finite.S_.BroadcastsInDim s (![] : Fin 0 → Fin s.rank))
    (hr : s.ReducesTo axes Cert.Pre_finite.S_) (hs : 0 < Cert.Pre_finite.S_.numel) (j : Cert.Pre_finite.S_.Idx)
    (e : Host.reduce IntOp.andi (cmpf .olt (Host.absf x)
      (broadcastInDim s ![] hb (constant (F := Ideal) Cert.Pre_finite.S_ .f32 0x7F800000#32)))
      (constantI Cert.Pre_finite.S_ 1 1#1) hr hs j = 1#1) (i : s.Idx) : ∃ r : ℝ, x i = (r : EReal) := by
  haveI : Subsingleton Cert.Pre_finite.S_.Idx := ⟨fun a b => funext fun k => k.elim0⟩
  have h := Host.reduce_andi_all _ _ _ _ j e i
  have h2 : (x i) ⊔ -(x i) < Ideal.ofBits .f32 0x7F800000#32 := (Ideal.cmp_olt_eq_one _ _).1 h
  rw [ofBits_inf] at h2
  generalize x i = v at h2 ⊢
  induction v using EReal.rec with
  | bot => simp at h2
  | top => simp at h2
  | coe r => exact ⟨r, rfl⟩

/-- Under the precondition the arguments at each device are real arrays. -/
theorem args [hp : Cert.Pre_finite.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ P g W B D, Cert.KernelIdeal.Block.Args m c P g W B D := by
  have e := congrFun (h c) (Shape.Idx.first (s := Cert.Pre_finite.S_) (by decide))
  obtain ⟨e, e4⟩ := and_one (show _ &&& _ = 1#1 from e)
  obtain ⟨e, e3⟩ := and_one (show _ &&& _ = 1#1 from e)
  obtain ⟨e, e2⟩ := and_one (show _ &&& _ = 1#1 from e)
  obtain ⟨e0, e1⟩ := and_one (show _ &&& _ = 1#1 from e)
  obtain ⟨P, hP⟩ := exists_emb2 _ (real_of_all _ _ _ _ _ e0)
  obtain ⟨g, hg⟩ := exists_emb1 _ (real_of_all _ _ _ _ _ e1)
  obtain ⟨W, hW⟩ := exists_emb3 _ (real_of_all _ _ _ _ _ e2)
  obtain ⟨B, hB⟩ := exists_emb2 _ (real_of_all _ _ _ _ _ e3)
  obtain ⟨D, hD⟩ := exists_emb2 _ (real_of_all _ _ _ _ _ e4)
  exact ⟨P, g, W, B, D, hP, hg, hW, hB, hD⟩

end Cert.Pre

end
-- ==== Proof.Host.lean ====
/- Operations that only the reference uses, on arrays of real numbers: scalar constants spread over a matrix, rows and
   columns spread over a matrix, sums along one axis, and the sum over the outer and the inner axis of a rank-4 array. -/
module

public import proofs.«01_k».proof.Proof.Reals
public import Idealize.ShloMosaic.Lib.IdealHost
public import Idealize.ShloMosaic.Lib.TwoAxisContraction
public import Idealize.ShloMosaic.PureOps.Reduce

@[expose] public section

noncomputable section

namespace Cert.Reals

open Idealize.ShloMosaic Idealize.ShloMosaic.ValueIdx

variable {m n : ℕ}

/-- A scalar constant in every entry of a matrix. -/
theorem spread (h) (b : BitVec 32) (r : ℝ) (hb : Ideal.ofBits .f32 b = (r : EReal)) :
    broadcastInDim (⟨2, ![m, n]⟩ : Shape) ![] h (constant (⟨0, ![]⟩ : Shape) .f32 b : FVec Ideal _ _)
      = emb2 fun _ _ => r := funext fun _ => hb

/-- The root of a scalar constant in every entry of a matrix. -/
theorem spread_sqrt (h) (b : BitVec 32) (r : ℝ) (hr : 0 ≤ r) (hb : Ideal.ofBits .f32 b = (r : EReal)) :
    broadcastInDim (⟨2, ![m, n]⟩ : Shape) ![] h (Host.sqrt (constant (⟨0, ![]⟩ : Shape) .f32 b : FVec Ideal _ _))
      = emb2 fun _ _ => Real.sqrt r := by
  funext i
  show Ideal.sqrt (Ideal.ofBits .f32 b) = _
  rw [hb, Ideal.sqrt_coe, if_neg hr.not_gt]; rfl

/-- The factor of the derivative of the error function: two over the root of π, with π the arc cosine of minus one. -/
theorem spread_pi (h) :
    broadcastInDim (⟨2, ![m, n]⟩ : Shape) ![] h
        (Host.divf (constant (⟨0, ![]⟩ : Shape) .f32 0x40000000#32 : FVec Ideal _ _)
          (Host.sqrt (Host.acos (constant (⟨0, ![]⟩ : Shape) .f32 0xBF800000#32 : FVec Ideal _ _))))
      = emb2 fun _ _ => 2 / Real.sqrt Real.pi := by
  funext i
  show Ideal.div (Ideal.ofBits .f32 0x40000000#32) (Ideal.sqrt (Ideal.acos (Ideal.ofBits .f32 0xBF800000#32))) = _
  rw [ofBits_two, ofBits_neg_one, Ideal.acos_coe, if_pos (by norm_num), Real.arccos_neg_one, Ideal.sqrt_coe,
    if_neg Real.pi_pos.le.not_gt, div_coe_coe _ _ (Real.sqrt_pos.2 Real.pi_pos).ne']
  rfl

/-- A sequence as a column. -/
theorem bcol (p : ℕ → ℝ) (hm : m ≠ 1) (h : (⟨1, ![m]⟩ : Shape).BroadcastsInDim ⟨2, ![m, n]⟩ ![0]) :
    broadcastInDim (⟨2, ![m, n]⟩ : Shape) ![0] h (emb1 p : FVec Ideal ⟨1, ![m]⟩ .f32) = emb2 fun i _ => p i := by
  funext i
  refine (broadcastInDim_apply _ h _ i (ix1 (i 0)) (fun a => match a with
    | ⟨0, _⟩ => by show (i 0).val = if m = 1 then 0 else (i 0).val; rw [if_neg hm])).trans rfl

/-- A sequence as a row. -/
theorem brow (p : ℕ → ℝ) (hn : n ≠ 1) (h : (⟨1, ![n]⟩ : Shape).BroadcastsInDim ⟨2, ![m, n]⟩ ![1]) :
    broadcastInDim (⟨2, ![m, n]⟩ : Shape) ![1] h (emb1 p : FVec Ideal ⟨1, ![n]⟩ .f32) = emb2 fun _ j => p j := by
  funext i
  refine (broadcastInDim_apply _ h _ i (ix1 (i 1)) (fun a => match a with
    | ⟨0, _⟩ => by show (i 1).val = if n = 1 then 0 else (i 1).val; rw [if_neg hn])).trans rfl

/-- A column spread over a matrix. -/
theorem bcol2 (p : ℕ → ℕ → ℝ) (hm : m ≠ 1) (h : (⟨2, ![m, 1]⟩ : Shape).BroadcastsInDim ⟨2, ![m, n]⟩ ![0, 1]) :
    broadcastInDim (⟨2, ![m, n]⟩ : Shape) ![0, 1] h (emb2 p : FVec Ideal ⟨2, ![m, 1]⟩ .f32) = emb2 fun i _ => p i 0 := by
  funext i
  refine (broadcastInDim_apply _ h _ i (ix2 (i 0) 0) (fun a => match a with
    | ⟨0, _⟩ => by show (i 0).val = if m = 1 then 0 else (i 0).val; rw [if_neg hm]
    | ⟨1, _⟩ => by show 0 = if (1 : ℕ) = 1 then 0 else (i 1).val; rw [if_pos rfl])).trans rfl

/-- A row spread over a matrix. -/
theorem brow2 (p : ℕ → ℕ → ℝ) (hn : n ≠ 1) (h : (⟨2, ![1, n]⟩ : Shape).BroadcastsInDim ⟨2, ![m, n]⟩ ![0, 1]) :
    broadcastInDim (⟨2, ![m, n]⟩ : Shape) ![0, 1] h (emb2 p : FVec Ideal ⟨2, ![1, n]⟩ .f32) = emb2 fun _ j => p 0 j := by
  funext i
  refine (broadcastInDim_apply _ h _ i (ix2 0 (i 1)) (fun a => match a with
    | ⟨0, _⟩ => by show 0 = if (1 : ℕ) = 1 then 0 else (i 0).val; rw [if_pos rfl]
    | ⟨1, _⟩ => by show (i 1).val = if n = 1 then 0 else (i 1).val; rw [if_neg hn])).trans rfl

/-- A sum along the rows. -/
theorem hsum_rows (p : ℕ → ℕ → ℝ) (h : (⟨2, ![m, n]⟩ : Shape).ReducesTo [1] ⟨1, ![m]⟩)
    (h' : (⟨2, ![m, n]⟩ : Shape).Reduces [1] ⟨1, ![m]⟩) (hu) :
    Host.reduceAdd (emb2 p : FVec Ideal ⟨2, ![m, n]⟩ .f32) (constant (⟨0, ![]⟩ : Shape) .f32 0x00000000#32) h hu
      = emb1 fun i => ∑ j ∈ Finset.range n, p i j := by
  funext i
  rw [hostReduceAdd_apply, Ideal.hostReduceAdd_single h h',
    show (constant (⟨0, ![]⟩ : Shape) .f32 0x00000000#32 : FVec Ideal _ _) (Shape.Idx.first hu) = 0 from
      ofBits_zero.trans EReal.coe_zero, zero_add]
  exact coe_sum_fin n (fun j => p (i 0).val j)

/-- A sum down the columns. -/
theorem hsum_cols (p : ℕ → ℕ → ℝ) (h : (⟨2, ![m, n]⟩ : Shape).ReducesTo [0] ⟨1, ![n]⟩)
    (h' : (⟨2, ![m, n]⟩ : Shape).Reduces [0] ⟨1, ![n]⟩) (hu) :
    Host.reduceAdd (emb2 p : FVec Ideal ⟨2, ![m, n]⟩ .f32) (constant (⟨0, ![]⟩ : Shape) .f32 0x00000000#32) h hu
      = emb1 fun j => ∑ i ∈ Finset.range m, p i j := by
  funext j
  rw [hostReduceAdd_apply, Ideal.hostReduceAdd_single h h',
    show (constant (⟨0, ![]⟩ : Shape) .f32 0x00000000#32 : FVec Ideal _ _) (Shape.Idx.first hu) = 0 from
      ofBits_zero.trans EReal.coe_zero, zero_add]
  exact coe_sum_fin m (fun i => p i (j 0).val)

/-- The sum over the outer and the inner axis of a rank-4 array. -/
theorem hsum_outer {k l : ℕ} (p : ℕ → ℕ → ℕ → ℕ → ℝ)
    (h : (⟨4, ![k, l, m, n]⟩ : Shape).ReducesTo [0, 3] ⟨2, ![l, m]⟩) (hu) :
    Host.reduceAdd (emb4 p : FVec Ideal ⟨4, ![k, l, m, n]⟩ .f32) (constant (⟨0, ![]⟩ : Shape) .f32 0x00000000#32) h hu
      = emb2 fun i j => ∑ a ∈ Finset.range k, ∑ b ∈ Finset.range n, p a i j b := by
  funext j
  rw [hostReduceAdd_apply,
    show (constant (⟨0, ![]⟩ : Shape) .f32 0x00000000#32 : FVec Ideal _ _) (Shape.Idx.first hu) = 0 from
      ofBits_zero.trans EReal.coe_zero]
  unfold Ideal.hostReduceAdd
  rw [zero_add, emb2_apply, ← coe_sum_fin]
  have e : ∀ a : Fin k, ((∑ b ∈ Finset.range n, p a.val (j 0).val (j 1).val b : ℝ) : EReal)
      = ∑ b : Fin n, ((p a.val (j 0).val (j 1).val b.val : ℝ) : EReal) := fun a =>
    (coe_sum_fin n fun b => p a.val (j 0).val (j 1).val b).symm
  rw [Finset.sum_congr rfl fun a _ => e a, ← Fintype.sum_prod_type']
  refine Finset.sum_nbij' (fun i => ((i 0 : Fin k), (i 3 : Fin n))) (fun q => ix4 q.1 (j 0) (j 1) q.2)
    (fun _ _ => Finset.mem_univ _) (fun q _ => ?_) (fun i hi => ?_) (fun q _ => rfl) fun i hi => ?_
  · refine Finset.mem_filter.2 ⟨Finset.mem_univ _, funext fun b => Fin.ext ?_⟩
    match b with
    | ⟨0, _⟩ => exact (h.drop_apply_val _ 0).trans rfl
    | ⟨1, _⟩ => exact (h.drop_apply_val _ 1).trans rfl
  · have hj := (Finset.mem_filter.1 hi).2
    have e0 : (i 1).val = (j 0).val := (congrArg (fun q => (q 0).val) hj : (i 1).val = _)
    have e1 : (i 2).val = (j 1).val := (congrArg (fun q => (q 1).val) hj : (i 2).val = _)
    funext b; apply Fin.ext
    match b with
    | ⟨0, _⟩ => rfl
    | ⟨1, _⟩ => exact e0.symm
    | ⟨2, _⟩ => exact e1.symm
    | ⟨3, _⟩ => rfl
  · have hj := (Finset.mem_filter.1 hi).2
    have e0 : (i 1).val = (j 0).val := (congrArg (fun q => (q 0).val) hj : (i 1).val = _)
    have e1 : (i 2).val = (j 1).val := (congrArg (fun q => (q 1).val) hj : (i 2).val = _)
    rw [emb4_apply, e0, e1]

end Cert.Reals

end
-- ==== Proof.Ref.lean ====
/- What the reference computes of arguments that hold real numbers, result by result. -/
module

public import proofs.«01_k».proof.Proof.Spec
public import proofs.«01_k».proof.Proof.Host
public import proofs.«01_k».proof.Proof.Gen.ReferenceIdeal.Read

@[expose] public section

set_option maxRecDepth 16384

noncomputable section

namespace Cert.Ref

open Cert.ReferenceIdeal Cert.ReferenceIdeal.Gen Cert.ReferenceIdeal.Read Idealize.ShloMosaic Cert.Reals
open Cert.Sgu (chunk vcols turn gather gather_at)

variable (P : ℕ → ℕ → ℝ) (g : ℕ → ℝ) (W : ℕ → ℕ → ℕ → ℝ) (B D : ℕ → ℕ → ℝ)

/-- The projection, the gain, the mixing matrices, the bias and the gradient that arrives. -/
abbrev xp : FVec Ideal S2048x3584 .f32 := emb2 P
abbrev xg : FVec Ideal S1536 .f32 := emb1 g
abbrev xw : FVec Ideal S12x128x128 .f32 := emb3 W
abbrev xb : FVec Ideal S12x128 .f32 := emb2 B
abbrev xd : FVec Ideal S2048x2048 .f32 := emb2 D

/-- gelu as the reference writes it. -/
theorem gelu_eq (x : ℝ) : 1 / 2 * x * (1 + erfR (x / Real.sqrt 2)) = Sgu.gelu x := by
  unfold Sgu.gelu Sgu.cdf; rw [div_eq_mul_inv]; ring_nf

/-- Its derivative against a gradient `X`, as the reference writes it. -/
theorem slope_eq (x X : ℝ) :
    2 / Real.sqrt Real.pi * Real.exp (-(x / Real.sqrt 2) * (x / Real.sqrt 2)) * (1 / 2 * x * X) / Real.sqrt 2
      + 1 / 2 * (X * (1 + erfR (x / Real.sqrt 2))) = X * Sgu.slope x := by
  have h2 : Real.sqrt 2 * Real.sqrt 2 = 2 := Real.mul_self_sqrt (by norm_num)
  have n2 : Real.sqrt 2 ≠ 0 := by positivity
  have np : Real.sqrt Real.pi ≠ 0 := (Real.sqrt_pos.2 Real.pi_pos).ne'
  have e : -(x / Real.sqrt 2) * (x / Real.sqrt 2) = -(1 / 2) * x * x := by
    rw [neg_mul, div_mul_div_comm, h2]; ring
  unfold Sgu.slope Sgu.cdf
  rw [e, Real.sqrt_mul (by norm_num : (0 : ℝ) ≤ 2), div_eq_mul_inv x (Real.sqrt 2)]
  field_simp
  ring_nf

/-! ## gelu of the two halves -/

theorem r3 : val_main_v3 (F := Ideal) (xp P) = emb2 (t := .f32) fun i j => 1 / 2 * P i j := by
  simp only [val_main_v3, val_main_v2, val_main_cst, val_main_v0, spread _ _ _ ofBits_half, slice_emb2, mulf_emb2]
  refine emb2_congr _ _ fun i _ j _ => ?_
  simp
theorem r6 : val_main_v6 (F := Ideal) (xp P) = emb2 (t := .f32) fun i j => P i j / Real.sqrt 2 := by
  simp only [val_main_v6, val_main_v5, val_main_v4, val_main_cst_0, val_main_v0, slice_emb2,
    spread_sqrt _ _ 2 (by norm_num) ofBits_two]
  rw [hdivf_emb2 _ _ fun _ _ => by positivity]
  refine emb2_congr _ _ fun i _ j _ => ?_
  simp
theorem r17 : val_main_v17 (F := Ideal) (xp P) = emb2 (t := .f32) fun i j => 1 + erfR (P i j / Real.sqrt 2) := by
  simp only [val_main_v17, val_main_v16, val_main_cst_3, val_main_v7, r6, spread _ _ _ ofBits_one, herf_emb2, addf_emb2]
theorem r18 : val_main_v18 (F := Ideal) (xp P) = emb2 (t := .f32) fun i j => Sgu.gelu (P i j) := by
  simp only [val_main_v18, r3, r17, mulf_emb2, gelu_eq]
theorem r15 : val_main_v15 (F := Ideal) (xp P) = emb2 (t := .f32) fun i j =>
    2 / Real.sqrt Real.pi * Real.exp (-(P i j / Real.sqrt 2) * (P i j / Real.sqrt 2)) := by
  simp only [val_main_v15, val_main_v14, val_main_v10, val_main_cst_2, val_main_v9, val_main_v8, val_main_cst_1,
    val_main_v13, val_main_v12, val_main_v11, r6, negf_emb2, mulf_emb2, hexp_emb2]
  rw [spread_pi, mulf_emb2]

theorem r20 : val_main_v20 (F := Ideal) (xp P) = emb2 (t := .f32) fun i j => 1 / 2 * vcols P i j := by
  simp only [val_main_v20, val_main_v19, val_main_cst_4, val_main_v1, spread _ _ _ ofBits_half, slice_emb2, mulf_emb2]
  refine emb2_congr _ _ fun i _ j _ => ?_
  simp [vcols]
theorem r23 : val_main_v23 (F := Ideal) (xp P) = emb2 (t := .f32) fun i j => vcols P i j / Real.sqrt 2 := by
  simp only [val_main_v23, val_main_v22, val_main_v21, val_main_cst_5, val_main_v1, slice_emb2,
    spread_sqrt _ _ 2 (by norm_num) ofBits_two]
  rw [hdivf_emb2 _ _ fun _ _ => by positivity]
  refine emb2_congr _ _ fun i _ j _ => ?_
  simp [vcols]
theorem r34 : val_main_v34 (F := Ideal) (xp P) = emb2 (t := .f32) fun i j => 1 + erfR (vcols P i j / Real.sqrt 2) := by
  simp only [val_main_v34, val_main_v33, val_main_cst_8, val_main_v24, r23, spread _ _ _ ofBits_one, herf_emb2, addf_emb2]
theorem r35 : val_main_v35 (F := Ideal) (xp P) = emb2 (t := .f32) fun i j => Sgu.gelu (vcols P i j) := by
  simp only [val_main_v35, r20, r34, mulf_emb2, gelu_eq]
theorem r32 : val_main_v32 (F := Ideal) (xp P) = emb2 (t := .f32) fun i j =>
    2 / Real.sqrt Real.pi * Real.exp (-(vcols P i j / Real.sqrt 2) * (vcols P i j / Real.sqrt 2)) := by
  simp only [val_main_v32, val_main_v31, val_main_v27, val_main_cst_7, val_main_v26, val_main_v25, val_main_cst_6,
    val_main_v30, val_main_v29, val_main_v28, r23, negf_emb2, mulf_emb2, hexp_emb2]
  rw [spread_pi, mulf_emb2]

/-! ## The normalised rows -/

/-- The mean square of row `i` of gelu(v), with the small constant. -/
def ms (i : ℕ) : ℝ :=
  (∑ j ∈ Finset.range 1536, Sgu.gelu (vcols P i j) * Sgu.gelu (vcols P i j)) / 1536 + eps
theorem ms_pos (i : ℕ) : 0 < ms P i := Sgu.mean_pos _

theorem r42 : val_main_v42 (F := Ideal) (xp P) = emb2 (t := .f32) fun i _ => ms P i := by
  simp only [val_main_v42, val_main_v41, val_main_cst_11, val_main_v40, val_main_v39, val_main_cst_10, val_main_v38,
    val_main_v37, val_main_v36, val_main_cst_9, r35, mulf_emb2, spread _ _ _ ofBits_eps, spread _ _ _ ofBits_1536]
  rw [hsum_rows _ _ (by decide), bcol _ (by norm_num), hdivf_emb2 _ _ fun _ _ => by norm_num, addf_emb2]
  rfl
theorem r43 : val_main_v43 (F := Ideal) (xp P) = emb2 (t := .f32) fun i _ => Sgu.rinv (vcols P) i := by
  unfold val_main_v43
  rw [r42, hrsqrt_emb2 _ fun _ _ => ms_pos P _]
  rfl
theorem r46 : val_main_v46 (F := Ideal) (xp P) = emb2 (t := .f32) fun i _ => -(1 / 2) * (Sgu.rinv (vcols P) i / ms P i) := by
  simp only [val_main_v46, val_main_v45, val_main_cst_12, val_main_v44, r43, r42, spread _ _ _ ofBits_neg_half]
  rw [hdivf_emb2 _ _ fun _ _ => (ms_pos P _).ne', mulf_emb2]
theorem r48 : val_main_v48 (F := Ideal) (xp P) = emb2 (t := .f32) (Sgu.vh (vcols P)) := by
  simp only [val_main_v48, val_main_v47, r35, r43]
  rw [bcol2 _ (by norm_num), mulf_emb2]
  rfl
theorem r51 : val_main_v51 (F := Ideal) (xp P) (xg g) = emb2 (t := .f32) (Sgu.vn (vcols P) g) := by
  simp only [val_main_v51, val_main_v50, val_main_v49, r48]
  rw [brow _ (by norm_num), brow2 _ (by norm_num), mulf_emb2]
  rfl
theorem r52 : val_main_v52 (F := Ideal) (xp P) (xg g) = emb4 (t := .f32) fun c p a e => Sgu.vn (vcols P) g (128 * c + p) (128 * a + e) := by
  funext i
  have h1 : (i 1).val < 128 := (i 1).isLt
  have h2 : (i 2).val < 12 := (i 2).isLt
  have h3 : (i 3).val < 128 := (i 3).isLt
  rw [val_main_v52_apply, r51, emb2_apply, emb4_apply]
  refine congrArg (fun r : ℝ => (r : EReal)) ?_
  show Sgu.vn (vcols P) g (((((i 0).val * 128 + (i 1).val) * 12 + (i 2).val) * 128 + (i 3).val) / 1536)
    (((((i 0).val * 128 + (i 1).val) * 12 + (i 2).val) * 128 + (i 3).val) % 1536) = _
  congr 1 <;> omega

/-! ## Places in a row-major [16, 128, 12, 128] array -/

theorem split0 (s j : ℕ) (h : j < 1536) : (s * 1536 + j) / 1536 % 128 = s % 128 := by omega
theorem split1 (s j : ℕ) (h : j < 1536) : (s * 1536 + j) / 196608 = s / 128 := by omega
theorem split2 (s j : ℕ) (h : j < 1536) : (s * 1536 + j) / 128 % 12 = j / 128 := by omega
theorem split3 (s j : ℕ) (h : j < 1536) : (s * 1536 + j) % 128 = j % 128 := by omega

/-! ## The mixture and the gradient of u -/

theorem r53 : val_main_v53 (F := Ideal) (xp P) (xg g) (xw W) = emb4 (t := .f32) fun a c e p =>
    ∑ q ∈ Finset.range 128, W a p q * Sgu.vn (vcols P) g (128 * c + q) (128 * a + e) := by
  funext i
  rw [val_main_v53_apply, r52, emb4_apply, ← coe_sum_fin]
  refine Finset.sum_congr rfl fun q _ => ?_
  exact (mul_comm _ _).trans (EReal.coe_mul _ _).symm
theorem r57 : val_main_v57 (F := Ideal) (xb B) = emb4 (t := .f32) fun c p a e => B a p := by
  funext i
  rw [val_main_v57_apply, val_main_v56_apply, val_main_v55_apply]
  rfl
theorem r59 : val_main_v59 (F := Ideal) (xp P) (xg g) (xw W) (xb B)
    = emb2 (t := .f32) (gather fun k => Sgu.mixed (chunk (vcols P) k) g W (turn B)) := by
  funext i
  have h0 : (i 0).val < 2048 := (i 0).isLt
  have h1 : (i 1).val < 1536 := (i 1).isLt
  rw [val_main_v59_apply, val_main_v58_apply, val_main_v54_apply, r53, r57, emb4_apply, emb4_apply, emb2_apply]
  refine (EReal.coe_add _ _).symm.trans (congrArg (fun r : ℝ => (r : EReal)) ?_)
  show (∑ q ∈ Finset.range 128, W (((i 0).val * 1536 + (i 1).val) / 128 % 12) (((i 0).val * 1536 + (i 1).val) / 1536 % 128) q
      * Sgu.vn (vcols P) g (128 * (((i 0).val * 1536 + (i 1).val) / 196608) + q)
        (128 * (((i 0).val * 1536 + (i 1).val) / 128 % 12) + ((i 0).val * 1536 + (i 1).val) % 128))
      + B (((i 0).val * 1536 + (i 1).val) / 128 % 12) (((i 0).val * 1536 + (i 1).val) / 1536 % 128) = _
  rw [split0 _ _ h1, split1 _ _ h1, split2 _ _ h1, split3 _ _ h1, Nat.div_add_mod]
  rfl

theorem r61 : val_main_v61 (F := Ideal) (xd D) = emb2 (t := .f32) fun i j => D i j := by
  simp only [val_main_v61, slice_emb2]
  refine emb2_congr _ _ fun i _ j _ => ?_
  simp

/-- The gradient of u. -/
theorem du_ref : val_main_v110 (F := Ideal) (xp P) (xg g) (xw W) (xb B) (xd D)
    = emb2 (t := .bf16) (gather fun k => Sgu.du (chunk P k) (chunk (vcols P) k) (chunk D k) g W (turn B)) := by
  simp only [val_main_v110, val_main_v109, val_main_v108, val_main_v107, val_main_cst_21, val_main_v106, val_main_v105,
    val_main_v104, val_main_v103, val_main_v102, val_main_v63, val_main_v4, val_main_cst_0, r3, r15, r17, r59, r61,
    mulf_emb2, spread _ _ _ ofBits_half, spread_sqrt _ _ 2 (by norm_num) ofBits_two]
  rw [hdivf_emb2 _ _ fun _ _ => by positivity, addf_emb2, truncf_emb2]
  simp only [slope_eq]
  refine emb2_congr _ _ fun s _ j _ => ?_
  unfold gather Sgu.du
  dsimp only
  rw [show chunk P (s / 128) (s % 128) j = P s j by unfold chunk; rw [Nat.div_add_mod],
    show chunk D (s / 128) (s % 128) j = D s j by unfold chunk; rw [Nat.div_add_mod]]

/-! ## The gradient of the mixture, of the bias and of the mixing matrices -/

theorem r62 : val_main_v62 (F := Ideal) (xp P) (xd D) = emb2 (t := .f32) (Sgu.dmix P D) := by
  simp only [val_main_v62, r18, r61, mulf_emb2]
  exact emb2_congr _ _ fun i _ j _ => mul_comm _ _
theorem r64 : val_main_v64 (F := Ideal) (xp P) (xd D)
    = emb4 (t := .f32) fun c p a e => Sgu.dmix P D (128 * c + p) (128 * a + e) := by
  funext i
  have h1 : (i 1).val < 128 := (i 1).isLt
  have h2 : (i 2).val < 12 := (i 2).isLt
  have h3 : (i 3).val < 128 := (i 3).isLt
  rw [val_main_v64_apply, r62, emb2_apply, emb4_apply]
  refine congrArg (fun r : ℝ => (r : EReal)) ?_
  show Sgu.dmix P D (((((i 0).val * 128 + (i 1).val) * 12 + (i 2).val) * 128 + (i 3).val) / 1536)
    (((((i 0).val * 128 + (i 1).val) * 12 + (i 2).val) * 128 + (i 3).val) % 1536) = _
  congr 1 <;> omega

theorem r69 : val_main_v69 (F := Ideal) (xp P) (xd D)
    = emb4 (t := .f32) fun a c e p => Sgu.dmix P D (128 * c + p) (128 * a + e) := by
  funext i
  rw [val_main_v69_apply, r64]
  rfl

/-- The gradient of the bias. -/
theorem db_ref : val_main_v113 (F := Ideal) (xp P) (xd D)
    = emb2 (t := .f32) fun p a => ∑ k ∈ Finset.range 16, Sgu.db (chunk P k) (chunk D k) p a := by
  have e65 : val_main_v65 (F := Ideal) (xp P) (xd D) = emb2 (t := .f32) fun p a =>
      ∑ c ∈ Finset.range 16, ∑ e ∈ Finset.range 128, Sgu.dmix P D (128 * c + p) (128 * a + e) := by
    simp only [val_main_v65, val_main_cst_13, r64]
    rw [hsum_outer]
  have e66 : val_main_v66 (F := Ideal) (xp P) (xd D) = emb4 (t := .f32) fun _ p a _ =>
      ∑ c ∈ Finset.range 16, ∑ e ∈ Finset.range 128, Sgu.dmix P D (128 * c + p) (128 * a + e) := by
    funext i
    have h0 : (i 0).val < 1 := (i 0).isLt
    have h1 : (i 1).val < 128 := (i 1).isLt
    have h2 : (i 2).val < 12 := (i 2).isLt
    have h3 : (i 3).val < 1 := (i 3).isLt
    rw [val_main_v66_apply, e65, emb2_apply, emb4_apply]
    have q0 : (idx_main_v66 i 0).val = (i 1).val := by
      show ((((i 0).val * 128 + (i 1).val) * 12 + (i 2).val) * 1 + (i 3).val) / 12 = _; omega
    have q1 : (idx_main_v66 i 1).val = (i 2).val := by
      show ((((i 0).val * 128 + (i 1).val) * 12 + (i 2).val) * 1 + (i 3).val) % 12 = _; omega
    rw [q0, q1]
  have e67 : val_main_v67 (F := Ideal) (xp P) (xd D) = emb2 (t := .f32) fun p a =>
      ∑ c ∈ Finset.range 16, ∑ e ∈ Finset.range 128, Sgu.dmix P D (128 * c + p) (128 * a + e) := by
    simp only [val_main_v67, val_main_cst_14, e66]
    rw [hsum_outer]
    simp only [Finset.sum_range_one]
  funext i
  rw [val_main_v113_apply, val_main_v68_apply, e67]
  rfl

/-- The product of the gradient of the mixing matrices: batched over the group, summed over chunks and lanes. -/
abbrev d70 := dot_S12x16x128x128_S16x128x12x128_S12x128x128_12_03_3_1_0_2

theorem lhs0 (i : S12x128x128.Idx) (q : d70.contr.Idx) : (d70.lhsIdx i q 0).val = (i 0).val := by
  unfold DotDims.lhsIdx
  rw [dif_pos (show (0 : Fin S12x16x128x128.rank) ∈ d70.lhsBatch by decide)]
  rfl
theorem lhs1 (i : S12x128x128.Idx) (q : d70.contr.Idx) : (d70.lhsIdx i q 1).val = (q ⟨0, by decide⟩).val := by
  unfold DotDims.lhsIdx
  rw [dif_neg (show ¬(1 : Fin S12x16x128x128.rank) ∈ d70.lhsBatch by decide),
    dif_neg (show ¬(1 : Fin S12x16x128x128.rank) ∈ d70.lhsNonContracting by decide)]
  rfl
theorem lhs2 (i : S12x128x128.Idx) (q : d70.contr.Idx) : (d70.lhsIdx i q 2).val = (q ⟨1, by decide⟩).val := by
  unfold DotDims.lhsIdx
  rw [dif_neg (show ¬(2 : Fin S12x16x128x128.rank) ∈ d70.lhsBatch by decide),
    dif_neg (show ¬(2 : Fin S12x16x128x128.rank) ∈ d70.lhsNonContracting by decide)]
  rfl
theorem lhs3 (i : S12x128x128.Idx) (q : d70.contr.Idx) : (d70.lhsIdx i q 3).val = (i 1).val := by
  unfold DotDims.lhsIdx
  rw [dif_neg (show ¬(3 : Fin S12x16x128x128.rank) ∈ d70.lhsBatch by decide),
    dif_pos (show (3 : Fin S12x16x128x128.rank) ∈ d70.lhsNonContracting by decide)]
  rfl
theorem rhs0 (i : S12x128x128.Idx) (q : d70.contr.Idx) : (d70.rhsIdx i q 0).val = (q ⟨0, by decide⟩).val := by
  unfold DotDims.rhsIdx
  rw [dif_neg (show ¬(0 : Fin S16x128x12x128.rank) ∈ d70.rhsBatch by decide),
    dif_neg (show ¬(0 : Fin S16x128x12x128.rank) ∈ d70.rhsNonContracting by decide)]
  rfl
theorem rhs1 (i : S12x128x128.Idx) (q : d70.contr.Idx) : (d70.rhsIdx i q 1).val = (i 2).val := by
  unfold DotDims.rhsIdx
  rw [dif_neg (show ¬(1 : Fin S16x128x12x128.rank) ∈ d70.rhsBatch by decide),
    dif_pos (show (1 : Fin S16x128x12x128.rank) ∈ d70.rhsNonContracting by decide)]
  rfl
theorem rhs2 (i : S12x128x128.Idx) (q : d70.contr.Idx) : (d70.rhsIdx i q 2).val = (i 0).val := by
  unfold DotDims.rhsIdx
  rw [dif_pos (show (2 : Fin S16x128x12x128.rank) ∈ d70.rhsBatch by decide)]
  rfl
theorem rhs3 (i : S12x128x128.Idx) (q : d70.contr.Idx) : (d70.rhsIdx i q 3).val = (q ⟨1, by decide⟩).val := by
  unfold DotDims.rhsIdx
  rw [dif_neg (show ¬(3 : Fin S16x128x12x128.rank) ∈ d70.rhsBatch by decide),
    dif_neg (show ¬(3 : Fin S16x128x12x128.rank) ∈ d70.rhsNonContracting by decide)]
  rfl

/-- The gradient of the mixing matrices. -/
theorem dws_ref : val_main_v70 (F := Ideal) (xp P) (xg g) (xd D) = emb3 (t := .f32) fun a p q =>
    ∑ k ∈ Finset.range 16, Sgu.dws (chunk P k) (chunk (vcols P) k) (chunk D k) g a p q := by
  funext i
  unfold val_main_v70
  generalize e69 : val_main_v69 (F := Ideal) (xp P) (xd D) = x
  generalize e52 : val_main_v52 (F := Ideal) (xp P) (xg g) = y
  simp only [Host.dotGeneral]
  rw [Ideal.dotGeneral_apply, ValueIdx.sum_contr2 d70 16 128 rfl rfl rfl, emb3_apply, ← coe_sum_fin]
  refine Finset.sum_congr rfl fun c _ => ?_
  unfold Sgu.dws
  rw [← coe_sum_fin]
  refine Finset.sum_congr rfl fun e _ => ?_
  have h0 := ValueIdx.contrEquiv2_symm_val0 d70 16 128 rfl rfl rfl (c, e)
  have h1 := ValueIdx.contrEquiv2_symm_val1 d70 16 128 rfl rfl rfl (c, e)
  generalize (ValueIdx.contrEquiv2 d70 16 128 rfl rfl rfl).symm (c, e) = q at h0 h1
  have el : d70.lhsIdx i q = ValueIdx.ix4 (i 0) c e (i 1) := funext fun a => Fin.ext (by
    match a with
    | ⟨0, _⟩ => exact lhs0 i q
    | ⟨1, _⟩ => exact (lhs1 i q).trans h0
    | ⟨2, _⟩ => exact (lhs2 i q).trans h1
    | ⟨3, _⟩ => exact lhs3 i q)
  have er : d70.rhsIdx i q = ValueIdx.ix4 c (i 2) (i 0) e := funext fun a => Fin.ext (by
    match a with
    | ⟨0, _⟩ => exact (rhs0 i q).trans h0
    | ⟨1, _⟩ => exact rhs1 i q
    | ⟨2, _⟩ => exact rhs2 i q
    | ⟨3, _⟩ => exact (rhs3 i q).trans h1)
  rw [el, er, ← e69, ← e52, r69, r52]
  exact (EReal.coe_mul _ _).symm

/-! ## The gradient of the normalised rows, of the gain and of v -/

/-- The gradient of the normalised rows. -/
def dvn : ℕ → ℕ → ℝ := gather fun k => Sgu.dvn (chunk P k) (chunk D k) W

theorem r71 : val_main_v71 (F := Ideal) (xp P) (xw W) (xd D) = emb4 (t := .f32) fun a c e q =>
    ∑ p ∈ Finset.range 128, W a p q * Sgu.dmix P D (128 * c + p) (128 * a + e) := by
  funext i
  rw [val_main_v71_apply, emb4_apply, ← coe_sum_fin]
  refine Finset.sum_congr rfl fun q _ => ?_
  rw [val_main_v69_apply, r64]
  exact (mul_comm _ _).trans (EReal.coe_mul _ _).symm
theorem r73 : val_main_v73 (F := Ideal) (xp P) (xw W) (xd D) = emb2 (t := .f32) (dvn P W D) := by
  funext i
  have h0 : (i 0).val < 2048 := (i 0).isLt
  have h1 : (i 1).val < 1536 := (i 1).isLt
  rw [val_main_v73_apply, val_main_v72_apply, r71, emb4_apply, emb2_apply]
  refine congrArg (fun r : ℝ => (r : EReal)) ?_
  show (∑ p ∈ Finset.range 128, W (((i 0).val * 1536 + (i 1).val) / 128 % 12) p (((i 0).val * 1536 + (i 1).val) / 1536 % 128)
      * Sgu.dmix P D (128 * (((i 0).val * 1536 + (i 1).val) / 196608) + p)
        (128 * (((i 0).val * 1536 + (i 1).val) / 128 % 12) + ((i 0).val * 1536 + (i 1).val) % 128)) = _
  rw [split0 _ _ h1, split1 _ _ h1, split2 _ _ h1, split3 _ _ h1, Nat.div_add_mod]
  rfl

/-- The sum over all rows is the sum over the chunks of the sums over their rows. -/
theorem sum_chunks (f : ℕ → ℝ) :
    ∑ s ∈ Finset.range 2048, f s = ∑ k ∈ Finset.range 16, ∑ i ∈ Finset.range 128, f (128 * k + i) := by
  have h : ∀ n, ∑ s ∈ Finset.range (128 * n), f s = ∑ k ∈ Finset.range n, ∑ i ∈ Finset.range 128, f (128 * k + i) := by
    intro n
    induction n with
    | zero => rfl
    | succ n ih => rw [Nat.mul_succ, Finset.sum_range_add, ih, Finset.sum_range_succ _ n]
  exact h 16

/-- The gradient of the gain. -/
theorem dgain_ref : val_main_v112 (F := Ideal) (xp P) (xw W) (xd D) = emb2 (t := .f32) fun _ j =>
    ∑ k ∈ Finset.range 16, Sgu.dgain (chunk P k) (chunk (vcols P) k) (chunk D k) W j := by
  simp only [val_main_v112, val_main_v79, val_main_cst_16, val_main_v76, val_main_v75, val_main_cst_15, val_main_v74,
    r48, r73, mulf_emb2]
  rw [hsum_cols _ _ (by decide), cast_row, hsum_cols _ _ (by decide), cast_row]
  refine emb2_congr _ _ fun i _ j _ => ?_
  rw [Finset.sum_range_one, sum_chunks]
  refine Finset.sum_congr rfl fun k _ => Finset.sum_congr rfl fun r hr => ?_
  unfold dvn
  rw [gather_at _ _ _ _ (Finset.mem_range.1 hr)]
  exact mul_comm _ _

theorem r78 : val_main_v78 (F := Ideal) (xp P) (xg g) (xw W) (xd D) = emb2 (t := .f32) fun i j => dvn P W D i j * g j := by
  simp only [val_main_v78, val_main_v77, val_main_v49, r73]
  rw [brow _ (by norm_num), brow2 _ (by norm_num), mulf_emb2]
theorem r89 : val_main_v89 (F := Ideal) (xp P) (xg g) (xw W) (xd D) = emb2 (t := .f32) fun i _ =>
    (∑ j ∈ Finset.range 1536, Sgu.gelu (vcols P i j) * (dvn P W D i j * g j))
      * (-(1 / 2) * (Sgu.rinv (vcols P) i / ms P i)) / 1536 := by
  simp only [val_main_v89, val_main_v88, val_main_cst_19, val_main_v87, val_main_v86, val_main_cst_18, val_main_v85, r46,
    val_main_v82, val_main_v81, val_main_cst_17, val_main_v80, r35, r78, mulf_emb2, spread _ _ _ ofBits_1536]
  rw [hsum_rows _ _ (by decide), cast_col, mulf_emb2, hdivf_emb2 _ _ fun _ _ => by norm_num, hsum_rows _ _ (by decide),
    bcol _ (by norm_num)]
  simp only [Finset.sum_range_one]

/-- The reference's gradient through the normalisation is the kernel's. -/
theorem norm_eq (r m S d y : ℝ) (hr : r * r = 1 / m) (hm : m ≠ 0) :
    d * r + y * (S * (-(1 / 2) * (r / m)) / 1536) + S * (-(1 / 2) * (r / m)) / 1536 * y
      = r * (d - y * r * (S * r / 1536)) := by
  have e : r * (d - y * r * (S * r / 1536)) = r * d - y * r * S * (r * r) / 1536 := by ring
  rw [e, hr]
  field_simp
  ring_nf

theorem rinv_sq (i : ℕ) : Sgu.rinv (vcols P) i * Sgu.rinv (vcols P) i = 1 / ms P i := by
  show (Real.sqrt (ms P i))⁻¹ * (Real.sqrt (ms P i))⁻¹ = _
  rw [← mul_inv, Real.mul_self_sqrt (ms_pos P i).le, one_div]

/-- The gradient of v. -/
theorem dv_ref : val_main_v111 (F := Ideal) (xp P) (xg g) (xw W) (xd D)
    = emb2 (t := .bf16) (gather fun k => Sgu.dv (chunk P k) (chunk (vcols P) k) (chunk D k) g W) := by
  simp only [val_main_v111, val_main_v101, val_main_v100, val_main_v99, val_main_cst_20, val_main_v98, val_main_v97,
    val_main_v96, val_main_v95, val_main_v94, val_main_v93, val_main_v92, val_main_v91, val_main_v90, val_main_v84,
    val_main_v83, r89, r78, r43, r35, r34, r32, r20, val_main_v21, val_main_cst_5,
    mulf_emb2, spread _ _ _ ofBits_half, spread_sqrt _ _ 2 (by norm_num) ofBits_two]
  rw [bcol2 _ (by norm_num), mulf_emb2, addf_emb2, addf_emb2, mulf_emb2, mulf_emb2, mulf_emb2, mulf_emb2,
    hdivf_emb2 _ _ fun _ _ => by positivity, addf_emb2, truncf_emb2]
  simp only [slope_eq]
  refine emb2_congr _ _ fun s _ j _ => ?_
  rw [Sgu.gather_dv, norm_eq _ _ _ _ _ (rinv_sq P s) (ms_pos P s).ne', Finset.sum_mul]
  show _ = Sgu.rinv (vcols P) s * (dvn P W D s j * g j - Sgu.vh (vcols P) s j
    * ((∑ k ∈ Finset.range 1536, dvn P W D s k * g k * Sgu.vh (vcols P) s k) / 1536)) * _
  congr 5
  refine Finset.sum_congr rfl fun k _ => ?_
  unfold Sgu.vh
  ring

end Cert.Ref

end
-- ==== Proof.Sgu.lean ====
/- The claims about the gradient of the gating unit, each from the modules before. -/
module

public import proofs.«01_k».proof.Proof.Pre
public import proofs.«01_k».proof.Proof.Ref
public import proofs.«01_k».proof.Proof.Gen.Kernel.Frame
public import proofs.«01_k».proof.Proof.Gen.KernelIdeal.Frame
public import Idealize.ShloMosaic.Adequacy
public import Idealize.ShloMosaic.Init

@[expose] public section

set_option maxRecDepth 16384

noncomputable section

namespace Cert.SguClaims

open Idealize.ShloMosaic Idealize.ShloMosaic.TcCoe Idealize.SL.Sem Cert.Reals

attribute [local instance] Cert.Kernel.Gen.facts Cert.KernelIdeal.Gen.facts Cert.ReferenceIdeal.Gen.facts Cert.Pre.facts

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2,
      Idealize.ShloMosaic.sem_eq_zero_of_no_sems (by decide) r.2⟩)
    (Cert.ReferenceIdeal.Value.run (F := Ideal) m ρ)

/-- The two named constants stand for their real values. -/
theorem preserves : Cert.preserves_Kernel_KernelIdeal :=
  ⟨IdealRules.named_const.statement Cert.KernelIdeal.κ "rsqrt2" .f32 0x3F3504F3#32 (((Real.sqrt 2)⁻¹ : ℝ) : EReal) rfl,
    IdealRules.named_const.statement Cert.KernelIdeal.κ "rsqrt2pi" .f32 0x3ECC422A#32
      (((Real.sqrt (2 * Real.pi))⁻¹ : ℝ) : EReal) rfl⟩

/-- The kernel's five arrays are the reference's, element by element. -/
theorem algebraic : Cert.algebraic_KernelIdeal_ReferenceIdeal := by
  intro m ρ m' ρ' hpre hagree
  refine ⟨_, _, _, _, _, Cert.KernelIdeal.Value.run_blocks (F := Ideal) m ρ, ?_⟩
  refine (θ_run Cert.ReferenceIdeal.defs _ _).mono (fun r h c => ?_)
    (Cert.ReferenceIdeal.Value.run (F := Ideal) m' ρ')
  obtain ⟨P, g, W, B, D, ha⟩ := Cert.Pre.args m hpre c
  obtain ⟨a0, a1, a2, a3, a4⟩ := hagree c
  obtain ⟨h0, h1, h2, h3, h4, hargs⟩ := h c
  have x0 := a0.trans ha.p
  have x1 := a1.trans ha.g
  have x2 := a2.trans ha.w
  have x3 := a3.trans ha.b
  have x4 := a4.trans ha.d
  refine ⟨h0.trans ?_, h1.trans ?_, h2.trans ?_, h3.trans ?_, h4.trans ?_, hargs⟩
  · rw [Cert.ReferenceIdeal.Read.val_main_v110_eq, x0, x1, x2, x3, x4]
    exact (Cert.Ref.du_ref P g W B D).trans (Cert.KernelIdeal.Block.du_final ha).symm
  · rw [Cert.ReferenceIdeal.Read.val_main_v111_eq, x0, x1, x2, x4]
    exact (Cert.Ref.dv_ref P g W D).trans (Cert.KernelIdeal.Block.dv_final ha).symm
  · rw [x0, x2, x4]
    exact (Cert.Ref.dgain_ref P W D).trans (Cert.KernelIdeal.Block.dgain_final ha).symm
  · rw [x0, x1, x4]
    exact (Cert.Ref.dws_ref P g D).trans (Cert.KernelIdeal.Block.dws_final ha).symm
  · rw [x0, x4]
    exact (Cert.Ref.db_ref P D).trans (Cert.KernelIdeal.Block.db_final ha).symm

end Cert.SguClaims

end
-- ==== Proof.Product.lean ====
/- Matrix products over the extended reals, entry by entry. `at2 x a b` is the entry of `x` at row `a` and column `b`, for
   any two natural numbers (zero outside the array), so that an entry of a block is an entry of the array it was cut from
   at shifted numbers, and a product of two matrices is a sum over `Finset.range`. No entry has to be finite: the sums are
   only ever cut and reordered. -/
module

public import Idealize.ShloMosaic.Lib.Pipeline.Value
public import Idealize.ShloMosaic.Lib.ValueIdx
public import Idealize.ShloMosaic.PureOps.Ideal.Laws

@[expose] public section

noncomputable section

namespace Cert.Product

open Idealize.ShloMosaic Idealize.ShloMosaic.ValueIdx

/-! ## Entries at natural numbers -/

/-- The entry of a matrix at (a, b). -/
def at2 {m n : ℕ} (x : (⟨2, ![m, n]⟩ : Shape).Idx → EReal) (a b : ℕ) : EReal :=
  if h : a < m ∧ b < n then x (ix2 ⟨a, h.1⟩ ⟨b, h.2⟩) else 0
/-- The entry of a stack of matrices at (g, a, b). -/
def at3 {l m n : ℕ} (x : (⟨3, ![l, m, n]⟩ : Shape).Idx → EReal) (g a b : ℕ) : EReal :=
  if h : g < l ∧ a < m ∧ b < n then x (ix3 ⟨g, h.1⟩ ⟨a, h.2.1⟩ ⟨b, h.2.2⟩) else 0

section
variable {l m n : ℕ}

theorem at2_of (x : (⟨2, ![m, n]⟩ : Shape).Idx → EReal) (i : (⟨2, ![m, n]⟩ : Shape).Idx) {a b : ℕ}
    (h0 : (i 0).val = a) (h1 : (i 1).val = b) : x i = at2 x a b := by
  subst h0 h1
  rw [at2, dif_pos ⟨(i 0).isLt, (i 1).isLt⟩]
  exact congrArg x (eq_ix2 i)

theorem at3_of (x : (⟨3, ![l, m, n]⟩ : Shape).Idx → EReal) (i : (⟨3, ![l, m, n]⟩ : Shape).Idx) {g a b : ℕ}
    (h0 : (i 0).val = g) (h1 : (i 1).val = a) (h2 : (i 2).val = b) : x i = at3 x g a b := by
  subst h0 h1 h2
  rw [at3, dif_pos ⟨(i 0).isLt, (i 1).isLt, (i 2).isLt⟩]
  exact congrArg x (eq_ix3 i)

/-- An entry of an array read through `e`. -/
theorem at2_comp {e : (⟨2, ![m, n]⟩ : Shape).Idx → EReal} {v : EReal} {a b : ℕ} (ha : a < m) (hb : b < n)
    (h : e (ix2 ⟨a, ha⟩ ⟨b, hb⟩) = v) : at2 e a b = v := by
  rw [at2, dif_pos ⟨ha, hb⟩, h]
theorem at3_comp {e : (⟨3, ![l, m, n]⟩ : Shape).Idx → EReal} {v : EReal} {g a b : ℕ} (hg : g < l) (ha : a < m) (hb : b < n)
    (h : e (ix3 ⟨g, hg⟩ ⟨a, ha⟩ ⟨b, hb⟩) = v) : at3 e g a b = v := by
  rw [at3, dif_pos ⟨hg, ha, hb⟩, h]
end

/-- An entry of a block is an entry of the array it is cut from. -/
theorem at2_sub {m n a b : ℕ} (x : (⟨2, ![m, n]⟩ : Shape).Idx → EReal) (e : (⟨2, ![a, b]⟩ : Shape).Idx → (⟨2, ![m, n]⟩ : Shape).Idx)
    {i j p q : ℕ} (hi : i < a) (hj : j < b) (h0 : (e (ix2 ⟨i, hi⟩ ⟨j, hj⟩) 0).val = p) (h1 : (e (ix2 ⟨i, hi⟩ ⟨j, hj⟩) 1).val = q) :
    at2 (m := a) (n := b) (fun z => x (e z)) i j = at2 x p q := at2_comp hi hj (at2_of x _ h0 h1)
theorem at3_sub {l m n a b c : ℕ} (x : (⟨3, ![l, m, n]⟩ : Shape).Idx → EReal) (e : (⟨3, ![a, b, c]⟩ : Shape).Idx → (⟨3, ![l, m, n]⟩ : Shape).Idx)
    {i j k p q r : ℕ} (hi : i < a) (hj : j < b) (hk : k < c) (h0 : (e (ix3 ⟨i, hi⟩ ⟨j, hj⟩ ⟨k, hk⟩) 0).val = p)
    (h1 : (e (ix3 ⟨i, hi⟩ ⟨j, hj⟩ ⟨k, hk⟩) 1).val = q) (h2 : (e (ix3 ⟨i, hi⟩ ⟨j, hj⟩ ⟨k, hk⟩) 2).val = r) :
    at3 (l := a) (m := b) (n := c) (fun z => x (e z)) i j k = at3 x p q r := at3_comp hi hj hk (at3_of x _ h0 h1 h2)

/-! ## Casts and loads -/

section
variable {l m n : ℕ} {t : FTy}

/-- The one matrix of a stack of one. -/
theorem at2_cast (x : FVec Ideal ⟨3, ![1, m, n]⟩ t) (h : (⟨3, ![1, m, n]⟩ : Shape).ShapeCasts ⟨2, ![m, n]⟩) {a b : ℕ}
    (ha : a < m) (hb : b < n) : at2 (shapeCast (⟨2, ![m, n]⟩ : Shape) x h) a b = at3 x 0 a b := by
  refine at2_comp ha hb ((shapeCast_apply _ _ _ (ix3 0 ⟨a, ha⟩ ⟨b, hb⟩) ?_).trans (at3_of x _ rfl rfl rfl))
  rw [Shape.rowMajor_val_three, Shape.rowMajor_val_two]
  show (0 * m + a) * n + b = a * n + b
  rw [zero_mul, zero_add]

/-- A matrix as a stack of one. -/
theorem cast_stack (x : FVec Ideal ⟨2, ![m, n]⟩ t) (h : (⟨2, ![m, n]⟩ : Shape).ShapeCasts ⟨3, ![1, m, n]⟩)
    (i : (⟨3, ![1, m, n]⟩ : Shape).Idx) : shapeCast (⟨3, ![1, m, n]⟩ : Shape) x h i = x (ix2 (i 1) (i 2)) := by
  refine shapeCast_apply _ _ _ (ix2 (i 1) (i 2)) ?_
  rw [Shape.rowMajor_val_three, Shape.rowMajor_val_two]
  have : (i 0).val < 1 := (i 0).isLt
  show _ = ((i 0).val * m + (i 1).val) * n + (i 2).val
  rw [show (i 0).val = 0 by omega, zero_mul, zero_add]; rfl

theorem cast_self {s : Shape} (x : FVec Ideal s t) (h : s.ShapeCasts s) : shapeCast s x h = x :=
  funext fun i => shapeCast_apply x h i i rfl

/-- A load of a block of a stack. -/
theorem at3_ld {a b c : ℕ} (x : FVec Ideal ⟨3, ![l, m, n]⟩ .bf16) (o0 o1 o2 : ℕ)
    (inb : ∀ z, (![o0, o1, o2] : Fin 3 → ℕ) z + ![a, b, c] z ≤ (⟨3, ![l, m, n]⟩ : Shape).size z)
    {i j k : ℕ} (hi : i < a) (hj : j < b) (hk : k < c) :
    at3 (l := a) (m := b) (n := c) (View.ld (Val := Elt Ideal) (S := ⟨3, ![l, m, n]⟩) (e' := .bf16) x (Rect.unit ![o0, o1, o2] ![a, b, c] inb)) i j k
      = at3 x (o0 + i) (o1 + j) (o2 + k) :=
  at3_comp hi hj hk (at3_of x _ (congrArg (o0 + ·) (Nat.one_mul i)) (congrArg (o1 + ·) (Nat.one_mul j)) (congrArg (o2 + ·) (Nat.one_mul k)))
end

/-- A load of a block of a matrix. -/
theorem at2_ld {m n a b : ℕ} (x : FVec Ideal ⟨2, ![m, n]⟩ .bf16) (o0 o1 : ℕ)
    (inb : ∀ z, (![o0, o1] : Fin 2 → ℕ) z + ![a, b] z ≤ (⟨2, ![m, n]⟩ : Shape).size z) {i j : ℕ} (hi : i < a) (hj : j < b) :
    at2 (m := a) (n := b) (View.ld (Val := Elt Ideal) (S := ⟨2, ![m, n]⟩) (e' := .bf16) x (Rect.unit ![o0, o1] ![a, b] inb)) i j
      = at2 x (o0 + i) (o1 + j) :=
  at2_comp hi hj (at2_of x _ (congrArg (o0 + ·) (Nat.one_mul i)) (congrArg (o1 + ·) (Nat.one_mul j)))

/-! ## Products -/

section
variable {M K N : ℕ} {s t : FTy}

theorem sum_single {sl sr so : Shape} (d : DotDims sl sr so) (hr : d.contr.rank = 1)
    (hs : d.contr.size ⟨0, by omega⟩ = K) (f : d.contr.Idx → EReal) (g : ℕ → EReal)
    (hf : ∀ q, f q = g (q ⟨0, by omega⟩).val) : ∑ q, f q = ∑ k ∈ Finset.range K, g k := by
  rw [Finset.sum_range, ← Equiv.sum_comp (contrEquiv1 d K hr hs).symm]
  exact Finset.sum_congr rfl fun k _ => by rw [hf, contrEquiv1_symm_val]

theorem zero_acc {so : Shape} (i : so.Idx) : (constant so .f32 0x00000000#32 : FVec Ideal so .f32) i = 0 :=
  Ideal.ofBits_zero_f32

/-- Rows by rows: `[M,K]` by `[N,K]`, onto a zero accumulator. -/
theorem mm_rows (p : Option ContractPrecision) (wf) (x : FVec Ideal ⟨2, ![M, K]⟩ s) (y : FVec Ideal ⟨2, ![N, K]⟩ t)
    (i : (⟨2, ![M, N]⟩ : Shape).Idx) :
    matmul (⟨[1], [1], [0], [0], [], [], wf⟩ : DotDims ⟨2, ![M, K]⟩ ⟨2, ![N, K]⟩ ⟨2, ![M, N]⟩) p x y (constant _ .f32 0x00000000#32) i
      = ∑ k ∈ Finset.range K, at2 x (i 0).val k * at2 y (i 1).val k := by
  refine (Ideal.matmul_apply _ _ _ _ _ _).trans ?_
  rw [zero_acc, zero_add]
  exact sum_single _ rfl rfl _ _ fun q => congrArg₂ (· * ·) (at2_of x _ rfl rfl) (at2_of y _ rfl rfl)

/-- Rows by columns: `[M,K]` by `[K,N]`, onto a zero accumulator. -/
theorem mm_plain (p : Option ContractPrecision) (wf) (x : FVec Ideal ⟨2, ![M, K]⟩ s) (y : FVec Ideal ⟨2, ![K, N]⟩ t)
    (i : (⟨2, ![M, N]⟩ : Shape).Idx) :
    matmul (⟨[1], [0], [0], [1], [], [], wf⟩ : DotDims ⟨2, ![M, K]⟩ ⟨2, ![K, N]⟩ ⟨2, ![M, N]⟩) p x y (constant _ .f32 0x00000000#32) i
      = ∑ k ∈ Finset.range K, at2 x (i 0).val k * at2 y k (i 1).val := by
  refine (Ideal.matmul_apply _ _ _ _ _ _).trans ?_
  rw [zero_acc, zero_add]
  exact sum_single _ rfl rfl _ _ fun q => congrArg₂ (· * ·) (at2_of x _ rfl rfl) (at2_of y _ rfl rfl)

/-- Columns by columns: `[K,M]` by `[K,N]`, onto a zero accumulator. -/
theorem mm_cols (p : Option ContractPrecision) (wf) (x : FVec Ideal ⟨2, ![K, M]⟩ s) (y : FVec Ideal ⟨2, ![K, N]⟩ t)
    (i : (⟨2, ![M, N]⟩ : Shape).Idx) :
    matmul (⟨[0], [0], [1], [1], [], [], wf⟩ : DotDims ⟨2, ![K, M]⟩ ⟨2, ![K, N]⟩ ⟨2, ![M, N]⟩) p x y (constant _ .f32 0x00000000#32) i
      = ∑ k ∈ Finset.range K, at2 x k (i 0).val * at2 y k (i 1).val := by
  refine (Ideal.matmul_apply _ _ _ _ _ _).trans ?_
  rw [zero_acc, zero_add]
  exact sum_single _ rfl rfl _ _ fun q => congrArg₂ (· * ·) (at2_of x _ rfl rfl) (at2_of y _ rfl rfl)

/-- The same with the entries of the factors given. -/
theorem mm_rows_of (p : Option ContractPrecision) (wf) {x : FVec Ideal ⟨2, ![M, K]⟩ s} {y : FVec Ideal ⟨2, ![N, K]⟩ t} {X Y : ℕ → ℕ → EReal}
    (hx : ∀ a k, a < M → k < K → at2 x a k = X a k) (hy : ∀ b k, b < N → k < K → at2 y b k = Y b k) (i : (⟨2, ![M, N]⟩ : Shape).Idx) :
    matmul (⟨[1], [1], [0], [0], [], [], wf⟩ : DotDims ⟨2, ![M, K]⟩ ⟨2, ![N, K]⟩ ⟨2, ![M, N]⟩) p x y (constant _ .f32 0x00000000#32) i
      = ∑ k ∈ Finset.range K, X (i 0).val k * Y (i 1).val k :=
  (mm_rows p wf x y i).trans (Finset.sum_congr rfl fun k hr => by
    rw [hx _ k (i 0).isLt (Finset.mem_range.mp hr), hy _ k (i 1).isLt (Finset.mem_range.mp hr)])
theorem mm_plain_of (p : Option ContractPrecision) (wf) {x : FVec Ideal ⟨2, ![M, K]⟩ s} {y : FVec Ideal ⟨2, ![K, N]⟩ t} {X Y : ℕ → ℕ → EReal}
    (hx : ∀ a k, a < M → k < K → at2 x a k = X a k) (hy : ∀ k b, k < K → b < N → at2 y k b = Y k b) (i : (⟨2, ![M, N]⟩ : Shape).Idx) :
    matmul (⟨[1], [0], [0], [1], [], [], wf⟩ : DotDims ⟨2, ![M, K]⟩ ⟨2, ![K, N]⟩ ⟨2, ![M, N]⟩) p x y (constant _ .f32 0x00000000#32) i
      = ∑ k ∈ Finset.range K, X (i 0).val k * Y k (i 1).val :=
  (mm_plain p wf x y i).trans (Finset.sum_congr rfl fun k hr => by
    rw [hx _ k (i 0).isLt (Finset.mem_range.mp hr), hy k _ (Finset.mem_range.mp hr) (i 1).isLt])
theorem mm_cols_of (p : Option ContractPrecision) (wf) {x : FVec Ideal ⟨2, ![K, M]⟩ s} {y : FVec Ideal ⟨2, ![K, N]⟩ t} {X Y : ℕ → ℕ → EReal}
    (hx : ∀ k a, k < K → a < M → at2 x k a = X k a) (hy : ∀ k b, k < K → b < N → at2 y k b = Y k b) (i : (⟨2, ![M, N]⟩ : Shape).Idx) :
    matmul (⟨[0], [0], [1], [1], [], [], wf⟩ : DotDims ⟨2, ![K, M]⟩ ⟨2, ![K, N]⟩ ⟨2, ![M, N]⟩) p x y (constant _ .f32 0x00000000#32) i
      = ∑ k ∈ Finset.range K, X k (i 0).val * Y k (i 1).val :=
  (mm_cols p wf x y i).trans (Finset.sum_congr rfl fun k hr => by
    rw [hx k _ (Finset.mem_range.mp hr) (i 0).isLt, hy k _ (Finset.mem_range.mp hr) (i 1).isLt])

end

/-- Two consecutive ranges make one. -/
theorem sum_join (a b : ℕ) (f : ℕ → EReal) :
    ∑ k ∈ Finset.range a, f k + ∑ k ∈ Finset.range b, f (a + k) = ∑ k ∈ Finset.range (a + b), f k :=
  (Finset.sum_range_add f a b).symm

/-- `g` consecutive ranges of `n` make one. -/
theorem sum_slices (n g : ℕ) (f : ℕ → EReal) :
    ∑ s ∈ Finset.range g, ∑ k ∈ Finset.range n, f (n * s + k) = ∑ k ∈ Finset.range (n * g), f k := by
  induction g with
  | zero => simp
  | succ g ih => rw [Finset.sum_range_succ, ih, sum_join, Nat.mul_succ]

/-- The same with the slices written out. -/
theorem sum_four (n : ℕ) (f : ℕ → EReal) :
    ∑ k ∈ Finset.range n, f (n * 0 + k) + ∑ k ∈ Finset.range n, f (n * 1 + k) + ∑ k ∈ Finset.range n, f (n * 2 + k)
      + ∑ k ∈ Finset.range n, f (n * 3 + k) = ∑ k ∈ Finset.range (n * 4), f k := by
  rw [← sum_slices n 4]
  simp only [Finset.sum_range_succ, Finset.sum_range_zero, zero_add]
theorem sum_eight (n : ℕ) (f : ℕ → EReal) :
    ∑ k ∈ Finset.range n, f (n * 0 + k) + ∑ k ∈ Finset.range n, f (n * 1 + k) + ∑ k ∈ Finset.range n, f (n * 2 + k)
      + ∑ k ∈ Finset.range n, f (n * 3 + k) + ∑ k ∈ Finset.range n, f (n * 4 + k) + ∑ k ∈ Finset.range n, f (n * 5 + k)
      + ∑ k ∈ Finset.range n, f (n * 6 + k) + ∑ k ∈ Finset.range n, f (n * 7 + k) = ∑ k ∈ Finset.range (n * 8), f k := by
  rw [← sum_slices n 8]
  simp only [Finset.sum_range_succ, Finset.sum_range_zero, zero_add]

/-- Columns `K * s …` of a matrix by matrix `s` of a stack: the summands that belong to them. -/
theorem mm_slice {M K N L G : ℕ} (p : Option ContractPrecision) (wf) {x : FVec Ideal ⟨2, ![M, L]⟩ .bf16} {y : FVec Ideal ⟨3, ![G, N, K]⟩ .bf16}
    {X : ℕ → ℕ → EReal} {Y : ℕ → ℕ → ℕ → EReal} (hx : ∀ a k, a < M → k < L → at2 x a k = X a k)
    (hy : ∀ g b k, g < G → b < N → k < K → at3 y g b k = Y g b k) (s o : ℕ) (ho : o = K * s) (hs : s < G) (hL : K * G = L) (inb inb' h)
    (i : (⟨2, ![M, N]⟩ : Shape).Idx) :
    matmul (F := Ideal) (φ₁ := .bf16) (φ₂ := .bf16) (⟨[1], [1], [0], [0], [], [], wf⟩ : DotDims ⟨2, ![M, K]⟩ ⟨2, ![N, K]⟩ ⟨2, ![M, N]⟩) p
        (View.ld (Val := Elt Ideal) (S := ⟨2, ![M, L]⟩) (e' := .bf16) x (Rect.unit ![0, o] ![M, K] inb) : FVec Ideal ⟨2, ![M, K]⟩ .bf16)
        (shapeCast (α := EReal) (⟨2, ![N, K]⟩ : Shape) (View.ld (Val := Elt Ideal) (S := ⟨3, ![G, N, K]⟩) (e' := .bf16) y
          (Rect.unit ![s, 0, 0] ![1, N, K] inb') : FVec Ideal ⟨3, ![1, N, K]⟩ .bf16) h)
        (constant _ .f32 0x00000000#32) i
      = ∑ k ∈ Finset.range K, (fun k => X (i 0).val k * Y (k / K) (i 1).val (k % K)) (K * s + k) := by
  refine (mm_rows p wf _ _ i).trans (Finset.sum_congr rfl fun k hr => ?_)
  have hk := Finset.mem_range.mp hr
  have hl : K * s + k < L := by
    have := Nat.mul_le_mul_left K (Nat.succ_le_of_lt hs)
    rw [Nat.mul_succ] at this; omega
  have h0 : (i 0).val < M := (i 0).isLt
  have h1 : (i 1).val < N := (i 1).isLt
  subst ho
  refine congrArg₂ (· * ·) ((at2_ld x 0 (K * s) inb h0 hk).trans ?_) (((at2_cast (t := .bf16) _ _ h1 hk).trans (at3_ld y s 0 0 inb' Nat.one_pos h1 hk)).trans ?_)
  · rw [Nat.zero_add, hx _ _ h0 hl]
  · rw [Nat.zero_add, Nat.zero_add, Nat.add_zero, hy _ _ _ hs h1 hk, Nat.mul_add_div (by omega), Nat.div_eq_of_lt hk, Nat.add_zero,
      Nat.mul_add_mod, Nat.mod_eq_of_lt hk]

end Cert.Product

end
-- ==== Proof.Ddown.lean ====
/- The gradient of the down projection's input: blocks of rows of one matrix by blocks of rows of the other, the whole
   contraction in one step, so the array is the product the reference writes. -/
module

public import proofs.«01_k».proof.Proof.Product
public import proofs.«01_k».proof.Defs
public import proofs.«01_k».proof.Proof.Gen.Ddown.Frame
public import proofs.«01_k».proof.Proof.Gen.DdownIdeal.Frame
public import proofs.«01_k».proof.Proof.Gen.DdownIdeal.Value
public import proofs.«01_k».proof.Proof.Gen.DdownRefIdeal.Run
public import proofs.«01_k».proof.Proof.Gen.DdownRefIdeal.Read
public import Idealize.ShloMosaic.Adequacy
public import Idealize.ShloMosaic.Init
public import Idealize.ShloMosaic.Lib.Tactic

@[expose] public section

set_option maxRecDepth 16384

noncomputable section

namespace Cert.DdownIdeal.Block

open Idealize.ShloMosaic Idealize.ShloMosaic.TcCoe Idealize.SL.Sem
open Idealize.ShloMosaic.Pipeline (Dat)
open Cert.DdownIdeal Cert.DdownIdeal.Gen Cert.Product

variable (m : (ℓ : Loc nD τ sig) → Buf (Elt Ideal) ℓ) (c : Dev nD)

theorem hz2 : (![0, 0] : Fin 2 → Nat) = fun _ => 0 := funext fun a => by fin_cases a <;> rfl

/-- What the body leaves at a point: the product of the two blocks. -/
theorem out_eq (t : Fin cfg0.N) : outsAt0 m c t = k0_pay1 (F := Ideal) (iblk m c 0 t) (iblk m c 1 t) := by
  unfold outsAt0 out0_A_2
  rw [View.read_writes_eq_canon _ _ _ (fun y => cover0_A_2 _ _ _ _ _ _ _ _ _ _ _ _ y)]
  unfold kernelRun0_A
  dsimp only
  sl_unfold_words
  simp only [View.readAt_eq_ld, (hs0_0 t).read_unread, (hs0_1 t).read_unread, View.ld_unit_zero (S := S1024x2048) hz2, View.ld_unit_zero (S := S1408x2048) hz2]
  rw [View.canon_unit_zero hz2]

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 2) = t.val / 2 ∧ win0_1.index t (1 : Fin 2) = 0 :=
  (by decide +kernel : ∀ t : Fin grid0.N, _)
theorem idx2 : ∀ t : Fin cfg0.N, win0_2.index t (0 : Fin 2) = t.val % 2 ∧ win0_2.index t (1 : Fin 2) = t.val / 2 :=
  (by decide +kernel : ∀ t : Fin grid0.N, _)

/-- The blocks the body reads, entry by entry. -/
theorem read0 (t : Fin cfg0.N) {a k : ℕ} (ha : a < 1024) (hk : k < 2048) : at2 (m := 1024) (n := 2048) (iblk m c 0 t) a k
    = at2 (m := 2048) (n := 2048) (m ((c : Thread nD τ).loc main_arg0)) (t.val % 2 * 1024 + a) k := by
  obtain ⟨e0, e1⟩ := idx0 t
  refine at2_comp ha hk ?_
  show V m c main_arg0 (((cfg0.win 0).blk t).view.emb _) = _
  rw [V_main_arg0]
  refine at2_of _ _ ?_ ?_
  · show win0_0.index t (0 : Fin 2) * 1024 + 1 * a = _; omega
  · show win0_0.index t (1 : Fin 2) * 2048 + 1 * k = _; omega
theorem read1 (t : Fin cfg0.N) {a k : ℕ} (ha : a < 1408) (hk : k < 2048) : at2 (m := 1408) (n := 2048) (iblk m c 1 t) a k
    = at2 (m := 5632) (n := 2048) (m ((c : Thread nD τ).loc main_arg1)) (t.val / 2 * 1408 + a) k := by
  obtain ⟨e0, e1⟩ := idx1 t
  refine at2_comp ha hk ?_
  show V m c main_arg1 (((cfg0.win 1).blk t).view.emb _) = _
  rw [V_main_arg1]
  refine at2_of _ _ ?_ ?_
  · show win0_1.index t (0 : Fin 2) * 1408 + 1 * a = _; omega
  · show win0_1.index t (1 : Fin 2) * 2048 + 1 * k = _; omega

/-- The product of the two arguments, as one array. -/
def prod : FVec Ideal S2048x5632 .f32 := fun i => ∑ k ∈ Finset.range 2048,
  at2 (m := 2048) (n := 2048) (m ((c : Thread nD τ).loc main_arg0)) (i 0).val k
    * at2 (m := 5632) (n := 2048) (m ((c : Thread nD τ).loc main_arg1)) (i 1).val k

/-- The array after the run. -/
theorem final : (dats m 0 c).arrAt 2 cfg0.N = prod m c := by
  refine (dats m 0 c).arrAt_eq_of_cover 2 _ (fun t hf => ?_) fun i => ?_
  · rw [Value.flushed2, out_eq]
    obtain ⟨e0, e1⟩ := idx2 t
    funext j
    have h0 : (j 0).val < 1024 := (j 0).isLt
    have h1 : (j 1).val < 1408 := (j 1).isLt
    refine (mm_rows none _ (iblk m c 0 t) (iblk m c 1 t) j).trans ?_
    show _ = prod m c (((cfg0.win 2).blk t).view.emb j)
    refine (Finset.sum_congr rfl fun k hr => ?_)
    have hk := Finset.mem_range.mp hr
    rw [read0 m c t h0 hk, read1 m c t h1 hk]
    refine congrArg₂ (· * ·) (congrArg (at2 _ · k) ?_) (congrArg (at2 _ · k) ?_)
    · show _ = win0_2.index t (0 : Fin 2) * 1024 + 1 * (j 0).val; omega
    · show _ = win0_2.index t (1 : Fin 2) * 1408 + 1 * (j 1).val; omega
  · have h0 : (i 0).val < 2048 := (i 0).isLt
    have h1 : (i 1).val < 5632 := (i 1).isLt
    have hN : cfg0.N = 8 := N_0
    have hk : (i 1).val / 1408 * 2 + (i 0).val / 1024 < cfg0.N := by rw [hN]; omega
    have e : i = ((cfg0.win 2).blk ⟨(i 1).val / 1408 * 2 + (i 0).val / 1024, hk⟩).view.emb
        (ValueIdx.ix2 ⟨(i 0).val % 1024, Nat.mod_lt _ (by norm_num)⟩ ⟨(i 1).val % 1408, Nat.mod_lt _ (by norm_num)⟩) := by
      obtain ⟨e0, e1⟩ := idx2 ⟨(i 1).val / 1408 * 2 + (i 0).val / 1024, hk⟩
      dsimp only at e0 e1
      funext a; apply Fin.ext
      match a with
      | ⟨0, _⟩ => show (i 0).val = win0_2.index ⟨_, hk⟩ (0 : Fin 2) * 1024 + 1 * ((i 0).val % 1024); omega
      | ⟨1, _⟩ => show (i 1).val = win0_2.index ⟨_, hk⟩ (1 : Fin 2) * 1408 + 1 * ((i 1).val % 1408); omega
    exact ⟨_, flush0_2 _, by
      have h := ((cfg0.win 2).blk ⟨(i 1).val / 1408 * 2 + (i 0).val / 1024, hk⟩).view.emb_mem_set
        (ValueIdx.ix2 ⟨(i 0).val % 1024, Nat.mod_lt _ (by norm_num)⟩ ⟨(i 1).val % 1408, Nat.mod_lt _ (by norm_num)⟩)
      rwa [← e] at h⟩

end Cert.DdownIdeal.Block

namespace Cert.DdownClaims

open Idealize.ShloMosaic Idealize.ShloMosaic.TcCoe Idealize.SL.Sem Cert.Product

attribute [local instance] Cert.Ddown.Gen.facts Cert.DdownIdeal.Gen.facts Cert.DdownRefIdeal.Gen.facts

theorem frame_p : Cert.quiescent_Ddown := fun m ρ _ => Cert.Ddown.Gen.frame m ρ
theorem frame_pi : Cert.quiescent_DdownIdeal := fun m ρ _ => Cert.DdownIdeal.Gen.frame m ρ
theorem frame_ri : Cert.quiescent_DdownRefIdeal := fun m ρ _ =>
  (θ_run Cert.DdownRefIdeal.defs _ _).mono (fun r h => ⟨fun c => (h c).2,
      Idealize.ShloMosaic.sem_eq_zero_of_no_sems (by decide) r.2⟩)
    (Cert.DdownRefIdeal.Value.run (F := Ideal) m ρ)
theorem preserves : Cert.preserves_Ddown_DdownIdeal := trivial

/-- The kernel's array is the reference's, element by element. -/
theorem algebraic : Cert.algebraic_DdownIdeal_DdownRefIdeal := by
  intro m ρ m' ρ' _ hagree
  refine ⟨_, Cert.DdownIdeal.Value.run_blocks (F := Ideal) m ρ, ?_⟩
  refine (θ_run Cert.DdownRefIdeal.defs _ _).mono (fun r h c => ?_)
    (Cert.DdownRefIdeal.Value.run (F := Ideal) m' ρ')
  obtain ⟨a0, a1⟩ := hagree c
  refine ⟨(h c).1.trans ?_, (h c).2⟩
  rw [Cert.DdownIdeal.Block.final, Cert.DdownRefIdeal.Read.val_main_v4_eq, a0, a1]
  funext i
  rw [Cert.DdownRefIdeal.Read.val_main_v4_apply, Cert.DdownIdeal.Block.prod, Finset.sum_range]
  exact Finset.sum_congr rfl fun k _ => congrArg₂ (· * ·) (at2_of _ _ rfl rfl) (at2_of _ _ rfl rfl)

end Cert.DdownClaims

end
-- ==== Proof.Wdown.lean ====
/- The gradient of the down projection's weights: blocks of columns of one matrix by blocks of columns of the other, the
   contraction over all tokens in one step, so the array is the product the reference writes. -/
module

public import proofs.«01_k».proof.Proof.Product
public import proofs.«01_k».proof.Defs
public import proofs.«01_k».proof.Proof.Gen.Wdown.Frame
public import proofs.«01_k».proof.Proof.Gen.WdownIdeal.Frame
public import proofs.«01_k».proof.Proof.Gen.WdownIdeal.Value
public import proofs.«01_k».proof.Proof.Gen.WdownRefIdeal.Run
public import proofs.«01_k».proof.Proof.Gen.WdownRefIdeal.Read
public import Idealize.ShloMosaic.Adequacy
public import Idealize.ShloMosaic.Init
public import Idealize.ShloMosaic.Lib.Tactic

@[expose] public section

set_option maxRecDepth 16384

noncomputable section

namespace Cert.WdownIdeal.Block

open Idealize.ShloMosaic Idealize.ShloMosaic.TcCoe Idealize.SL.Sem
open Idealize.ShloMosaic.Pipeline (Dat)
open Cert.WdownIdeal Cert.WdownIdeal.Gen Cert.Product

variable (m : (ℓ : Loc nD τ sig) → Buf (Elt Ideal) ℓ) (c : Dev nD)

theorem hz2 : (![0, 0] : Fin 2 → Nat) = fun _ => 0 := funext fun a => by fin_cases a <;> rfl

/-- What the body leaves at a point: the product of the two blocks. -/
theorem out_eq (t : Fin cfg0.N) : outsAt0 m c t = k0_pay1 (F := Ideal) (iblk m c 0 t) (iblk m c 1 t) := by
  unfold outsAt0 out0_A_2
  rw [View.read_writes_eq_canon _ _ _ (fun y => cover0_A_2 _ _ _ _ _ _ _ _ _ _ _ _ y)]
  unfold kernelRun0_A
  dsimp only
  sl_unfold_words
  simp only [View.readAt_eq_ld, (hs0_0 t).read_unread, (hs0_1 t).read_unread, View.ld_unit_zero (S := S2048x512) hz2, View.ld_unit_zero (S := S2048x1024) hz2]
  rw [View.canon_unit_zero hz2]

/-- That product, entry by entry. -/
theorem pay_apply (x : FVec Ideal S2048x512 .bf16) (y : FVec Ideal S2048x1024 .bf16) (j : S512x1024.Idx) :
    k0_pay1 (F := Ideal) x y j = ∑ k ∈ Finset.range 2048, at2 (m := 2048) (n := 512) x k (j 0).val * at2 (m := 2048) (n := 1024) y k (j 1).val :=
  mm_cols none _ _ _ _

theorem idx0 : ∀ t : Fin cfg0.N, win0_0.index t (0 : Fin 2) = 0 ∧ win0_0.index t (1 : Fin 2) = t.val % 11 :=
  (by decide +kernel : ∀ t : Fin grid0.N, _)
theorem idx1 : ∀ t : Fin cfg0.N, win0_1.index t (0 : Fin 2) = 0 ∧ win0_1.index t (1 : Fin 2) = t.val / 11 :=
  (by decide +kernel : ∀ t : Fin grid0.N, _)
theorem idx2 : ∀ t : Fin cfg0.N, win0_2.index t (0 : Fin 2) = t.val % 11 ∧ win0_2.index t (1 : Fin 2) = t.val / 11 :=
  (by decide +kernel : ∀ t : Fin grid0.N, _)

/-- The blocks the body reads, entry by entry. -/
theorem read0 (t : Fin cfg0.N) {k a : ℕ} (hk : k < 2048) (ha : a < 512) : at2 (m := 2048) (n := 512) (iblk m c 0 t) k a
    = at2 (m := 2048) (n := 5632) (m ((c : Thread nD τ).loc main_arg0)) k (t.val % 11 * 512 + a) := by
  obtain ⟨e0, e1⟩ := idx0 t
  refine at2_comp hk ha ?_
  show V m c main_arg0 (((cfg0.win 0).blk t).view.emb _) = _
  rw [V_main_arg0]
  refine at2_of _ _ ?_ ?_
  · show win0_0.index t (0 : Fin 2) * 2048 + 1 * k = _; omega
  · show win0_0.index t (1 : Fin 2) * 512 + 1 * a = _; omega
theorem read1 (t : Fin cfg0.N) {k a : ℕ} (hk : k < 2048) (ha : a < 1024) : at2 (m := 2048) (n := 1024) (iblk m c 1 t) k a
    = at2 (m := 2048) (n := 2048) (m ((c : Thread nD τ).loc main_arg1)) k (t.val / 11 * 1024 + a) := by
  obtain ⟨e0, e1⟩ := idx1 t
  refine at2_comp hk ha ?_
  show V m c main_arg1 (((cfg0.win 1).blk t).view.emb _) = _
  rw [V_main_arg1]
  refine at2_of _ _ ?_ ?_
  · show win0_1.index t (0 : Fin 2) * 2048 + 1 * k = _; omega
  · show win0_1.index t (1 : Fin 2) * 1024 + 1 * a = _; omega

/-- The product of the two arguments, as one array. -/
def prod : FVec Ideal S5632x2048 .bf16 := fun i => ∑ k ∈ Finset.range 2048,
  at2 (m := 2048) (n := 5632) (m ((c : Thread nD τ).loc main_arg0)) k (i 0).val
    * at2 (m := 2048) (n := 2048) (m ((c : Thread nD τ).loc main_arg1)) k (i 1).val

/-- The array after the run. -/
theorem final : (dats m 0 c).arrAt 2 cfg0.N = prod m c := by
  refine (dats m 0 c).arrAt_eq_of_cover 2 _ (fun t hf => ?_) fun i => ?_
  · rw [Value.flushed2, out_eq]
    obtain ⟨e0, e1⟩ := idx2 t
    funext j
    have h0 : (j 0).val < 512 := (j 0).isLt
    have h1 : (j 1).val < 1024 := (j 1).isLt
    refine (pay_apply (iblk m c 0 t) (iblk m c 1 t) j).trans ?_
    show _ = prod m c (((cfg0.win 2).blk t).view.emb j)
    refine (Finset.sum_congr rfl fun k hr => ?_)
    have hk := Finset.mem_range.mp hr
    rw [read0 m c t hk h0, read1 m c t hk h1]
    refine congrArg₂ (· * ·) (congrArg (at2 _ k) ?_) (congrArg (at2 _ k) ?_)
    · show _ = win0_2.index t (0 : Fin 2) * 512 + 1 * (j 0).val; omega
    · show _ = win0_2.index t (1 : Fin 2) * 1024 + 1 * (j 1).val; omega
  · have h0 : (i 0).val < 5632 := (i 0).isLt
    have h1 : (i 1).val < 2048 := (i 1).isLt
    have hN : cfg0.N = 22 := N_0
    have hk : (i 1).val / 1024 * 11 + (i 0).val / 512 < cfg0.N := by rw [hN]; omega
    have e : i = ((cfg0.win 2).blk ⟨(i 1).val / 1024 * 11 + (i 0).val / 512, hk⟩).view.emb
        (ValueIdx.ix2 ⟨(i 0).val % 512, Nat.mod_lt _ (by norm_num)⟩ ⟨(i 1).val % 1024, Nat.mod_lt _ (by norm_num)⟩) := by
      obtain ⟨e0, e1⟩ := idx2 ⟨(i 1).val / 1024 * 11 + (i 0).val / 512, hk⟩
      dsimp only at e0 e1
      funext a; apply Fin.ext
      match a with
      | ⟨0, _⟩ => show (i 0).val = win0_2.index ⟨_, hk⟩ (0 : Fin 2) * 512 + 1 * ((i 0).val % 512); omega
      | ⟨1, _⟩ => show (i 1).val = win0_2.index ⟨_, hk⟩ (1 : Fin 2) * 1024 + 1 * ((i 1).val % 1024); omega
    exact ⟨_, flush0_2 _, by
      have h := ((cfg0.win 2).blk ⟨(i 1).val / 1024 * 11 + (i 0).val / 512, hk⟩).view.emb_mem_set
        (ValueIdx.ix2 ⟨(i 0).val % 512, Nat.mod_lt _ (by norm_num)⟩ ⟨(i 1).val % 1024, Nat.mod_lt _ (by norm_num)⟩)
      rwa [← e] at h⟩

end Cert.WdownIdeal.Block

namespace Cert.WdownClaims

open Idealize.ShloMosaic Idealize.ShloMosaic.TcCoe Idealize.SL.Sem Cert.Product

attribute [local instance] Cert.Wdown.Gen.facts Cert.WdownIdeal.Gen.facts Cert.WdownRefIdeal.Gen.facts

theorem frame_p : Cert.quiescent_Wdown := fun m ρ _ => Cert.Wdown.Gen.frame m ρ
theorem frame_pi : Cert.quiescent_WdownIdeal := fun m ρ _ => Cert.WdownIdeal.Gen.frame m ρ
theorem frame_ri : Cert.quiescent_WdownRefIdeal := fun m ρ _ =>
  (θ_run Cert.WdownRefIdeal.defs _ _).mono (fun r h => ⟨fun c => (h c).2,
      Idealize.ShloMosaic.sem_eq_zero_of_no_sems (by decide) r.2⟩)
    (Cert.WdownRefIdeal.Value.run (F := Ideal) m ρ)
theorem preserves : Cert.preserves_Wdown_WdownIdeal := trivial

/-- The kernel's array is the reference's, element by element. -/
theorem algebraic : Cert.algebraic_WdownIdeal_WdownRefIdeal := by
  intro m ρ m' ρ' _ hagree
  refine ⟨_, Cert.WdownIdeal.Value.run_blocks (F := Ideal) m ρ, ?_⟩
  refine (θ_run Cert.WdownRefIdeal.defs _ _).mono (fun r h c => ?_)
    (Cert.WdownRefIdeal.Value.run (F := Ideal) m' ρ')
  obtain ⟨a0, a1⟩ := hagree c
  refine ⟨(h c).1.trans ?_, (h c).2⟩
  rw [Cert.WdownIdeal.Block.final, Cert.WdownRefIdeal.Read.val_main_v6_eq, a0, a1]
  funext i
  rw [Cert.WdownRefIdeal.Read.val_main_v6_apply, Cert.WdownRefIdeal.Read.val_main_v5_apply]
  refine (Cert.WdownRefIdeal.Read.val_main_v4_apply _ _ _).trans ?_
  rw [Cert.WdownIdeal.Block.prod, Finset.sum_range]
  exact Finset.sum_congr rfl fun k _ => (mul_comm _ _).trans (congrArg₂ (· * ·) (at2_of _ _ rfl rfl) (at2_of _ _ rfl rfl))

end Cert.WdownClaims

end
-- ==== Proof.Dup.lean ====
/- The gradient of the up projection's input: the contraction over the columns of both halves goes through the grid in four
   steps of two products each, added up in the scratch and written out after the last. -/
module

public import proofs.«01_k».proof.Proof.Product
public import proofs.«01_k».proof.Defs
public import proofs.«01_k».proof.Proof.Gen.Dup.Frame
public import proofs.«01_k».proof.Proof.Gen.DupIdeal.Frame
public import proofs.«01_k».proof.Proof.Gen.DupIdeal.Value
public import proofs.«01_k».proof.Proof.Gen.DupRefIdeal.Run
public import proofs.«01_k».proof.Proof.Gen.DupRefIdeal.Read
public import Idealize.ShloMosaic.Adequacy
public import Idealize.ShloMosaic.Init
public import Idealize.ShloMosaic.Lib.Tactic

@[expose] public section

set_option maxRecDepth 16384

noncomputable section

namespace Cert.DupIdeal.Block

open Idealize.ShloMosaic Idealize.ShloMosaic.TcCoe Idealize.SL.Sem
open Idealize.ShloMosaic.Pipeline (Dat)
open Cert.DupIdeal Cert.DupIdeal.Gen Cert.Product

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- The two halves of the columns of a block of rows, and the two shards of a block of shards. -/
def lo (x : FVec Ideal S1x1024x2816 .bf16) : FVec Ideal S1x1024x1408 .bf16 :=
  View.ld (Val := Elt Ideal) (S := S1x1024x2816) (e' := .bf16) x (Rect.unit ![0, 0, 0] ![1, 1024, 1408] (by decide))
def hi (x : FVec Ideal S1x1024x2816 .bf16) : FVec Ideal S1x1024x1408 .bf16 :=
  View.ld (Val := Elt Ideal) (S := S1x1024x2816) (e' := .bf16) x (Rect.unit ![0, 0, 1408] ![1, 1024, 1408] (by decide))
def fst (x : FVec Ideal S2x1024x1408 .bf16) : FVec Ideal S1x1024x1408 .bf16 :=
  View.ld (Val := Elt Ideal) (S := S2x1024x1408) (e' := .bf16) x (Rect.unit ![0, 0, 0] ![1, 1024, 1408] (by decide))
def snd (x : FVec Ideal S2x1024x1408 .bf16) : FVec Ideal S1x1024x1408 .bf16 :=
  View.ld (Val := Elt Ideal) (S := S2x1024x1408) (e' := .bf16) x (Rect.unit ![1, 0, 0] ![1, 1024, 1408] (by decide))

/-- The two products of a step, added. -/
def both (x : FVec Ideal S1x1024x2816 .bf16) (y : FVec Ideal S2x1024x1408 .bf16) : FVec Ideal S1024x1024 .f32 :=
  k0_pay1 (F := Ideal) (lo x) (fst y) (hi x) (snd y)

theorem both_apply (x : FVec Ideal S1x1024x2816 .bf16) (y : FVec Ideal S2x1024x1408 .bf16) (j : S1024x1024.Idx) :
    both x y j = ∑ k ∈ Finset.range 2816, at3 (l := 1) (m := 1024) (n := 2816) x 0 (j 0).val k
      * at3 (l := 2) (m := 1024) (n := 1408) y (k / 1408) (j 1).val (k % 1408) := by
  have h0 : (j 0).val < 1024 := (j 0).isLt
  have h1 : (j 1).val < 1024 := (j 1).isLt
  refine Eq.trans ?_ (sum_join 1408 1408 fun k => at3 (l := 1) (m := 1024) (n := 2816) x 0 (j 0).val k
    * at3 (l := 2) (m := 1024) (n := 1408) y (k / 1408) (j 1).val (k % 1408))
  refine congrArg₂ (· + ·) ((mm_rows none _ _ _ j).trans (Finset.sum_congr rfl fun k hr => ?_)) ((mm_rows none _ _ _ j).trans (Finset.sum_congr rfl fun k hr => ?_))
  all_goals
    have hk := Finset.mem_range.mp hr
    rw [at2_cast _ _ h0 hk, at2_cast _ _ h1 hk]
  · refine congrArg₂ (· * ·) ((at3_ld x 0 0 0 _ Nat.one_pos h0 hk).trans ?_) ((at3_ld y 0 0 0 _ Nat.one_pos h1 hk).trans ?_)
    · simp only [Nat.zero_add]
    · rw [Nat.div_eq_of_lt hk, Nat.mod_eq_of_lt hk]; simp only [Nat.zero_add]
  · refine congrArg₂ (· * ·) ((at3_ld x 0 0 1408 _ Nat.one_pos h0 hk).trans ?_) ((at3_ld y 1 0 0 _ Nat.one_pos h1 hk).trans ?_)
    · simp only [Nat.zero_add]
    · rw [show (1408 + k) / 1408 = 1 by omega, show (1408 + k) % 1408 = k by omega]; simp only [Nat.zero_add, Nat.add_zero]

/-- What the scratch holds after a first step, after a later one, and what the last writes out. -/
theorem first (t : Fin cfg0.N) (h0 : t.val % 4 = 0) (h1 : ¬1 ≤ t.val % 4) (h2 : ¬t.val % 4 = 3) :
    (outsAt0 m c t.val t.isLt).2 = both (iblk m c 0 t) (iblk m c 1 t) := by
  rw [outsAt0_A m c t h0 h1 h2]
  dsimp only
  unfold sout0_A_0
  rw [View.read_writes_eq_canon _ _ _ (fun y => scover0_A_0 _ _ _ _ _ _ _ _ _ _ _ _ _ _ _  y)]
  unfold kernelRun0_A
  dsimp only
  sl_unfold_words
  simp only [View.readAt_eq_ld, (hs0_0 t).read_unread, (hs0_1 t).read_unread]
  rw [View.canon_unit_zero hz2]
  exact cast_self _ _
theorem mid (t : Fin cfg0.N) (h0 : ¬t.val % 4 = 0) (h1 : 1 ≤ t.val % 4) (h2 : ¬t.val % 4 = 3) :
    (outsAt0 m c t.val t.isLt).2 = addf (outsAt0 m c (t.val - 1) (Nat.lt_of_le_of_lt (Nat.sub_le _ _) t.isLt)).2 (both (iblk m c 0 t) (iblk m c 1 t)) := by
  rw [outsAt0_B m c t h0 h1 h2]
  dsimp only
  unfold sout0_B_0
  rw [View.read_writes_eq_canon _ _ _ (fun y => scover0_B_0 _ _ _ _ _ _ _ _ _ _ _ _ _ _ _ _  y)]
  unfold kernelRun0_B
  dsimp only
  sl_unfold_words
  simp only [View.readAt_eq_ld, (hs0_0 t).read_unread, (hs0_1 t).read_unread,
    show ∀ x, View.read (Elt Ideal) (View.whole cc0_scratch0) (((Memref.isWhole_whole cc0_scratch0)).unread x) = x from fun x => (Memref.isWhole_whole cc0_scratch0).read_unread x,
    View.ld_unit_zero (S := S1024x1024) hz2]
  rw [View.canon_unit_zero hz2]
  exact cast_self _ _
theorem last (t : Fin cfg0.N) (h0 : ¬t.val % 4 = 0) (h1 : 1 ≤ t.val % 4) (h2 : t.val % 4 = 3) :
    (outsAt0 m c t.val t.isLt).2 = addf (outsAt0 m c (t.val - 1) (Nat.lt_of_le_of_lt (Nat.sub_le _ _) t.isLt)).2 (both (iblk m c 0 t) (iblk m c 1 t)) := by
  rw [outsAt0_C m c t h0 h1 h2]
  dsimp only
  unfold sout0_C_0
  rw [View.read_writes_eq_canon _ _ _ (fun y => scover0_C_0 _ _ _ _ _ _ _ _ _ _ _ _ _ _ _ _  y)]
  unfold kernelRun0_C
  dsimp only
  sl_unfold_words
  simp only [View.readAt_eq_ld, (hs0_0 t).read_unread, (hs0_1 t).read_unread,
    show ∀ x, View.read (Elt Ideal) (View.whole cc0_scratch0) (((Memref.isWhole_whole cc0_scratch0)).unread x) = x from fun x => (Memref.isWhole_whole cc0_scratch0).read_unread x,
    View.ld_unit_zero (S := S1024x1024) hz2]
  rw [View.canon_unit_zero hz2]
  exact cast_self _ _
theorem out (t : Fin cfg0.N) (h0 : ¬t.val % 4 = 0) (h1 : 1 ≤ t.val % 4) (h2 : t.val % 4 = 3) :
    (outsAt0 m c t.val t.isLt).1 = addf (outsAt0 m c (t.val - 1) (Nat.lt_of_le_of_lt (Nat.sub_le _ _) t.isLt)).2 (both (iblk m c 0 t) (iblk m c 1 t)) := by
  rw [outsAt0_C m c t h0 h1 h2]
  dsimp only
  unfold out0_C_2
  rw [View.read_writes_eq_canon _ _ _ (fun y => cover0_C_2 _ _ _ _ _ _ _ _ _ _ _ _ _ _ _ _  y)]
  unfold kernelRun0_C
  dsimp only
  sl_unfold_words
  simp only [View.readAt_eq_ld, (hs0_0 t).read_unread, (hs0_1 t).read_unread,
    show ∀ x, View.read (Elt Ideal) (View.whole cc0_scratch0) (((Memref.isWhole_whole cc0_scratch0)).unread x) = x from fun x => (Memref.isWhole_whole cc0_scratch0).read_unread x,
    View.ld_unit_zero (S := S1024x1024) hz2]
  rw [View.canon_unit_zero hz2, View.readCov_eq_canon', View.canon_unit_zero hz2]
  funext j
  refine Eq.trans (congrArg _ ?_) (congrFun (cast_self (addf (outsAt0 m c (t.val - 1) (Nat.lt_of_le_of_lt (Nat.sub_le _ _) t.isLt)).2 (both (iblk m c 0 t) (iblk m c 1 t))) shapeCasts_S1024x1024_S1024x1024) j)
  funext a
  apply Fin.ext
  match a with
  | ⟨0, _⟩ => show 0 + 1 * (j 0).val = (j 0).val; omega
  | ⟨1, _⟩ => show 0 + 1 * (j 1).val = (j 1).val; omega

theorem idx0 : ∀ t : Fin cfg0.N, win0_0.index t (0 : Fin 3) = t.val % 4 / 2 ∧ win0_0.index t (1 : Fin 3) = t.val / 4 % 2 ∧ win0_0.index t (2 : Fin 3) = t.val % 2 :=
  (by decide +kernel : ∀ t : Fin grid0.N, _)
theorem idx1 : ∀ t : Fin cfg0.N, win0_1.index t (0 : Fin 3) = t.val % 4 ∧ win0_1.index t (1 : Fin 3) = t.val / 8 ∧ win0_1.index t (2 : Fin 3) = 0 :=
  (by decide +kernel : ∀ t : Fin grid0.N, _)
theorem idx2 : ∀ t : Fin cfg0.N, win0_2.index t (0 : Fin 2) = t.val / 4 % 2 ∧ win0_2.index t (1 : Fin 2) = t.val / 8 :=
  (by decide +kernel : ∀ t : Fin grid0.N, _)

/-- The blocks the body reads, entry by entry. -/
theorem read0 (t : Fin cfg0.N) {a k : ℕ} (ha : a < 1024) (hk : k < 2816) : at3 (l := 1) (m := 1024) (n := 2816) (iblk m c 0 t) 0 a k
    = at3 (l := 2) (m := 2048) (n := 5632) (m ((c : Thread nD τ).loc main_arg0)) (t.val % 4 / 2) (t.val / 4 % 2 * 1024 + a) (t.val % 2 * 2816 + k) := by
  obtain ⟨e0, e1, e2⟩ := idx0 t
  refine at3_comp Nat.one_pos ha hk ?_
  show V m c main_arg0 (((cfg0.win 0).blk t).view.emb _) = _
  rw [V_main_arg0]
  refine at3_of _ _ ?_ ?_ ?_
  · show win0_0.index t (0 : Fin 3) * 1 + 1 * 0 = _; omega
  · show win0_0.index t (1 : Fin 3) * 1024 + 1 * a = _; omega
  · show win0_0.index t (2 : Fin 3) * 2816 + 1 * k = _; omega
theorem read1 (t : Fin cfg0.N) {g a k : ℕ} (hg : g < 2) (ha : a < 1024) (hk : k < 1408) : at3 (l := 2) (m := 1024) (n := 1408) (iblk m c 1 t) g a k
    = at3 (l := 8) (m := 2048) (n := 1408) (m ((c : Thread nD τ).loc main_arg1)) (t.val % 4 * 2 + g) (t.val / 8 * 1024 + a) k := by
  obtain ⟨e0, e1, e2⟩ := idx1 t
  refine at3_comp hg ha hk ?_
  show V m c main_arg1 (((cfg0.win 1).blk t).view.emb _) = _
  rw [V_main_arg1]
  refine at3_of _ _ ?_ ?_ ?_
  · show win0_1.index t (0 : Fin 3) * 2 + 1 * g = _; omega
  · show win0_1.index t (1 : Fin 3) * 1024 + 1 * a = _; omega
  · show win0_1.index t (2 : Fin 3) * 1408 + 1 * k = _; omega

/-- The summand of column `k`, of 11264: 5632 in each half of the first argument, 1408 in each shard of the second. -/
def term (a b k : ℕ) : EReal :=
  at3 (l := 2) (m := 2048) (n := 5632) (m ((c : Thread nD τ).loc main_arg0)) (k / 5632) a (k % 5632)
    * at3 (l := 8) (m := 2048) (n := 1408) (m ((c : Thread nD τ).loc main_arg1)) (k / 1408) b (k % 1408)

/-- A step adds up the summands of its columns. -/
theorem both_term (t : Fin cfg0.N) (j : S1024x1024.Idx) : both (iblk m c 0 t) (iblk m c 1 t) j
    = ∑ k ∈ Finset.range 2816, term m c (t.val / 4 % 2 * 1024 + (j 0).val) (t.val / 8 * 1024 + (j 1).val) (2816 * (t.val % 4) + k) := by
  refine (both_apply (iblk m c 0 t) (iblk m c 1 t) j).trans (Finset.sum_congr rfl fun k hr => ?_)
  have hk := Finset.mem_range.mp hr
  rw [read0 m c t (j 0).isLt hk, read1 m c t (show k / 1408 < 2 by omega) (j 1).isLt (Nat.mod_lt _ (by norm_num)), term]
  refine congrArg₂ (· * ·) (congrArg₂ (at3 _ · _ ·) ?_ ?_) (congrArg₂ (at3 _ · _ ·) ?_ ?_) <;> omega

/-- The scratch after a point: the columns so far. -/
theorem scratch : ∀ (n : ℕ) (h : n < cfg0.N) (j : S1024x1024.Idx), (outsAt0 m c n h).2 j
    = ∑ k ∈ Finset.range (2816 * (n % 4 + 1)), term m c (n / 4 % 2 * 1024 + (j 0).val) (n / 8 * 1024 + (j 1).val) k := by
  intro n
  induction n with
  | zero =>
    intro h j
    rw [first m c ⟨0, h⟩ rfl (by norm_num) (by norm_num), both_term]
    exact Finset.sum_congr rfl fun k _ => congrArg _ (Nat.zero_add k)
  | succ n ih =>
    intro h j
    have hn : n < cfg0.N := Nat.lt_of_succ_lt h
    by_cases h0 : (n + 1) % 4 = 0
    · rw [first m c ⟨n + 1, h⟩ h0 (by dsimp only; omega) (by dsimp only; omega), both_term]
      dsimp only
      rw [h0]
      exact Finset.sum_congr rfl fun k _ => congrArg _ (by omega)
    · have e : (outsAt0 m c (n + 1) h).2 = addf (outsAt0 m c n hn).2 (both (iblk m c 0 ⟨n + 1, h⟩) (iblk m c 1 ⟨n + 1, h⟩)) := by
        by_cases h2 : (n + 1) % 4 = 3
        · exact last m c ⟨n + 1, h⟩ h0 (by dsimp only; omega) h2
        · exact mid m c ⟨n + 1, h⟩ h0 (by dsimp only; omega) h2
      rw [e]
      refine (congrArg₂ (· + ·) (ih hn j) (both_term m c ⟨n + 1, h⟩ j)).trans ?_
      dsimp only
      rw [show n / 4 = (n + 1) / 4 by omega, show n / 8 = (n + 1) / 8 by omega, show n % 4 + 1 = (n + 1) % 4 by omega,
        show 2816 * ((n + 1) % 4 + 1) = 2816 * ((n + 1) % 4) + 2816 by omega]
      exact sum_join _ _ _

/-- The product over all the columns, as one array. -/
def prod : FVec Ideal S2048x2048 .f32 := fun i => ∑ k ∈ Finset.range 11264, term m c (i 0).val (i 1).val k

/-- The array after the run. -/
theorem final : (dats m 0 c).arrAt 2 cfg0.N = prod m c := by
  refine (dats m 0 c).arrAt_eq_of_cover 2 _ (fun t hf => ?_) fun i => ?_
  · have h3 : t.val % 4 = 3 := (flush0_2 t).mp hf
    have hs := scratch m c t.val t.isLt
    rw [last m c t (by omega) (by omega) h3, ← out m c t (by omega) (by omega) h3, h3] at hs
    rw [Value.flushed2]
    obtain ⟨e0, e1⟩ := idx2 t
    funext j
    refine (hs j).trans ?_
    show _ = prod m c (((cfg0.win 2).blk t).view.emb j)
    have q0 : ((((cfg0.win 2).blk t).view.emb j) 0).val = t.val / 4 % 2 * 1024 + (j 0).val := by
      show win0_2.index t (0 : Fin 2) * 1024 + 1 * (j 0).val = _; omega
    have q1 : ((((cfg0.win 2).blk t).view.emb j) 1).val = t.val / 8 * 1024 + (j 1).val := by
      show win0_2.index t (1 : Fin 2) * 1024 + 1 * (j 1).val = _; omega
    rw [prod, q0, q1]
  · have h0 : (i 0).val < 2048 := (i 0).isLt
    have h1 : (i 1).val < 2048 := (i 1).isLt
    have hN : cfg0.N = 16 := N_0
    have hk : (i 1).val / 1024 * 8 + (i 0).val / 1024 * 4 + 3 < cfg0.N := by rw [hN]; omega
    have e : i = ((cfg0.win 2).blk ⟨(i 1).val / 1024 * 8 + (i 0).val / 1024 * 4 + 3, hk⟩).view.emb
        (ValueIdx.ix2 ⟨(i 0).val % 1024, Nat.mod_lt _ (by norm_num)⟩ ⟨(i 1).val % 1024, Nat.mod_lt _ (by norm_num)⟩) := by
      obtain ⟨e0, e1⟩ := idx2 ⟨(i 1).val / 1024 * 8 + (i 0).val / 1024 * 4 + 3, hk⟩
      dsimp only at e0 e1
      funext a; apply Fin.ext
      match a with
      | ⟨0, _⟩ => show (i 0).val = win0_2.index ⟨_, hk⟩ (0 : Fin 2) * 1024 + 1 * ((i 0).val % 1024); omega
      | ⟨1, _⟩ => show (i 1).val = win0_2.index ⟨_, hk⟩ (1 : Fin 2) * 1024 + 1 * ((i 1).val % 1024); omega
    exact ⟨⟨(i 1).val / 1024 * 8 + (i 0).val / 1024 * 4 + 3, hk⟩, (flush0_2 _).mpr (by dsimp only; omega), by
      have h := ((cfg0.win 2).blk ⟨(i 1).val / 1024 * 8 + (i 0).val / 1024 * 4 + 3, hk⟩).view.emb_mem_set
        (ValueIdx.ix2 ⟨(i 0).val % 1024, Nat.mod_lt _ (by norm_num)⟩ ⟨(i 1).val % 1024, Nat.mod_lt _ (by norm_num)⟩)
      rwa [← e] at h⟩

end Cert.DupIdeal.Block

namespace Cert.DupClaims

open Idealize.ShloMosaic Idealize.ShloMosaic.TcCoe Idealize.SL.Sem Cert.Product

attribute [local instance] Cert.Dup.Gen.facts Cert.DupIdeal.Gen.facts Cert.DupRefIdeal.Gen.facts

theorem frame_p : Cert.quiescent_Dup := fun m ρ _ => Cert.Dup.Gen.frame m ρ
theorem frame_pi : Cert.quiescent_DupIdeal := fun m ρ _ => Cert.DupIdeal.Gen.frame m ρ
theorem frame_ri : Cert.quiescent_DupRefIdeal := fun m ρ _ =>
  (θ_run Cert.DupRefIdeal.defs _ _).mono (fun r h => ⟨fun c => (h c).2,
      Idealize.ShloMosaic.sem_eq_zero_of_no_sems (by decide) r.2⟩)
    (Cert.DupRefIdeal.Value.run (F := Ideal) m ρ)
theorem preserves : Cert.preserves_Dup_DupIdeal := trivial

/-- The kernel's array is the reference's, element by element. -/
theorem algebraic : Cert.algebraic_DupIdeal_DupRefIdeal := by
  intro m ρ m' ρ' _ hagree
  refine ⟨_, Cert.DupIdeal.Value.run_blocks (F := Ideal) m ρ, ?_⟩
  refine (θ_run Cert.DupRefIdeal.defs _ _).mono (fun r h c => ?_)
    (Cert.DupRefIdeal.Value.run (F := Ideal) m' ρ')
  obtain ⟨a0, a1⟩ := hagree c
  refine ⟨(h c).1.trans ?_, (h c).2⟩
  rw [Cert.DupIdeal.Block.final, Cert.DupRefIdeal.Read.val_main_v8_eq, a0, a1]
  funext i
  have i0 : (i 0).val < 2048 := (i 0).isLt
  have i1 : (i 1).val < 2048 := (i 1).isLt
  refine (Cert.DupRefIdeal.Read.val_main_v8_apply _ _ _).trans ?_
  rw [Cert.DupIdeal.Block.prod, Finset.sum_range]
  refine Finset.sum_congr rfl fun k _ => congrArg₂ (· * ·) ?_ ?_
  · rw [Cert.DupRefIdeal.Read.val_main_v2_apply, Cert.DupRefIdeal.Read.val_main_v1_apply, Cert.DupRefIdeal.Read.val_main_v0_apply]
    have hk := k.isLt
    refine at3_of _ _ ?_ ?_ ?_
    · show ((i 0).val * 11264 + k.val) / 5632 % 2 = _; omega
    · show ((i 0).val * 11264 + k.val) / 11264 = _; omega
    · show ((i 0).val * 11264 + k.val) % 5632 = _; omega
  · rw [Cert.DupRefIdeal.Read.val_main_v5_apply, Cert.DupRefIdeal.Read.val_main_v4_apply, Cert.DupRefIdeal.Read.val_main_v3_apply]
    have hk := k.isLt
    refine at3_of _ _ ?_ ?_ ?_
    · show ((i 1).val * 11264 + k.val) / 1408 % 8 = _; omega
    · show ((i 1).val * 11264 + k.val) / 11264 = _; omega
    · show ((i 1).val * 11264 + k.val) % 1408 = _; omega

end Cert.DupClaims

end
-- ==== Proof.Wup.lean ====
/- The gradient of the up projection's weights, one matrix per shard: rows of the transposed input by the columns that
   belong to the shard, the contraction over all tokens in one step. -/
module

public import proofs.«01_k».proof.Proof.Product
public import proofs.«01_k».proof.Defs
public import proofs.«01_k».proof.Proof.Gen.Wup.Frame
public import proofs.«01_k».proof.Proof.Gen.WupIdeal.Frame
public import proofs.«01_k».proof.Proof.Gen.WupIdeal.Value
public import proofs.«01_k».proof.Proof.Gen.WupRefIdeal.Run
public import proofs.«01_k».proof.Proof.Gen.WupRefIdeal.Read
public import Idealize.ShloMosaic.Adequacy
public import Idealize.ShloMosaic.Init
public import Idealize.ShloMosaic.Lib.Tactic

@[expose] public section

set_option maxRecDepth 16384

noncomputable section

namespace Cert.WupIdeal.Block

open Idealize.ShloMosaic Idealize.ShloMosaic.TcCoe Idealize.SL.Sem
open Idealize.ShloMosaic.Pipeline (Dat)
open Cert.WupIdeal Cert.WupIdeal.Gen Cert.Product

variable (m : (ℓ : Loc nD τ sig) → Buf (Elt Ideal) ℓ) (c : Dev nD)

theorem hz2 : (![0, 0] : Fin 2 → Nat) = fun _ => 0 := funext fun a => by fin_cases a <;> rfl
theorem hz3 : (![0, 0, 0] : Fin 3 → Nat) = fun _ => 0 := funext fun a => by fin_cases a <;> rfl

/-- What the body leaves at a point: the product of the two blocks. -/
theorem out_eq (t : Fin cfg0.N) : outsAt0 m c t = k0_pay1 (F := Ideal) (iblk m c 0 t) (iblk m c 1 t) := by
  unfold outsAt0 out0_A_2
  rw [View.read_writes_eq_canon _ _ _ (fun y => cover0_A_2 _ _ _ _ _ _ _ _ _ _ _ _ y)]
  unfold kernelRun0_A
  dsimp only
  sl_unfold_words
  simp only [View.readAt_eq_ld, (hs0_0 t).read_unread, (hs0_1 t).read_unread, View.ld_unit_zero (S := S1024x2048) hz2, View.ld_unit_zero (S := S1x2048x1408) hz3]
  rw [View.canon_unit_zero hz3]

/-- That product, entry by entry. -/
theorem pay_apply (x : FVec Ideal S1024x2048 .bf16) (y : FVec Ideal S1x2048x1408 .bf16) (j : S1x1024x1408.Idx) :
    k0_pay1 (F := Ideal) x y j = ∑ k ∈ Finset.range 2048, at2 (m := 1024) (n := 2048) x (j 1).val k * at3 (l := 1) (m := 2048) (n := 1408) y 0 k (j 2).val := by
  refine (cast_stack _ _ j).trans ((mm_plain none _ _ _ _).trans (Finset.sum_congr rfl fun k hr => ?_))
  exact congrArg (_ * ·) (at2_cast y _ (Finset.mem_range.mp hr) (j 2).isLt)

theorem idx0 : ∀ t : Fin cfg0.N, win0_0.index t (0 : Fin 2) = t.val % 2 ∧ win0_0.index t (1 : Fin 2) = 0 :=
  (by decide +kernel : ∀ t : Fin grid0.N, _)
theorem idx1 : ∀ t : Fin cfg0.N, win0_1.index t (0 : Fin 3) = t.val / 8 ∧ win0_1.index t (1 : Fin 3) = 0 ∧ win0_1.index t (2 : Fin 3) = t.val / 2 % 4 :=
  (by decide +kernel : ∀ t : Fin grid0.N, _)
theorem idx2 : ∀ t : Fin cfg0.N, win0_2.index t (0 : Fin 3) = t.val / 2 ∧ win0_2.index t (1 : Fin 3) = t.val % 2 ∧ win0_2.index t (2 : Fin 3) = 0 :=
  (by decide +kernel : ∀ t : Fin grid0.N, _)

/-- The blocks the body reads, entry by entry. -/
theorem read0 (t : Fin cfg0.N) {a k : ℕ} (ha : a < 1024) (hk : k < 2048) : at2 (m := 1024) (n := 2048) (iblk m c 0 t) a k
    = at2 (m := 2048) (n := 2048) (m ((c : Thread nD τ).loc main_arg0)) (t.val % 2 * 1024 + a) k := by
  obtain ⟨e0, e1⟩ := idx0 t
  refine at2_comp ha hk ?_
  show V m c main_arg0 (((cfg0.win 0).blk t).view.emb _) = _
  rw [V_main_arg0]
  refine at2_of _ _ ?_ ?_
  · show win0_0.index t (0 : Fin 2) * 1024 + 1 * a = _; omega
  · show win0_0.index t (1 : Fin 2) * 2048 + 1 * k = _; omega
theorem read1 (t : Fin cfg0.N) {k a : ℕ} (hk : k < 2048) (ha : a < 1408) : at3 (l := 1) (m := 2048) (n := 1408) (iblk m c 1 t) 0 k a
    = at3 (l := 2) (m := 2048) (n := 5632) (m ((c : Thread nD τ).loc main_arg1)) (t.val / 8) k (t.val / 2 % 4 * 1408 + a) := by
  obtain ⟨e0, e1, e2⟩ := idx1 t
  refine at3_comp (by norm_num) hk ha ?_
  show V m c main_arg1 (((cfg0.win 1).blk t).view.emb _) = _
  rw [V_main_arg1]
  refine at3_of _ _ ?_ ?_ ?_
  · show win0_1.index t (0 : Fin 3) * 1 + 1 * 0 = _; omega
  · show win0_1.index t (1 : Fin 3) * 2048 + 1 * k = _; omega
  · show win0_1.index t (2 : Fin 3) * 1408 + 1 * a = _; omega

/-- The products of the first argument with the shards' columns of the second, as one array. -/
def prod : FVec Ideal S8x2048x1408 .bf16 := fun i => ∑ k ∈ Finset.range 2048,
  at2 (m := 2048) (n := 2048) (m ((c : Thread nD τ).loc main_arg0)) (i 1).val k
    * at3 (l := 2) (m := 2048) (n := 5632) (m ((c : Thread nD τ).loc main_arg1)) ((i 0).val / 4) k ((i 0).val % 4 * 1408 + (i 2).val)

/-- The array after the run. -/
theorem final : (dats m 0 c).arrAt 2 cfg0.N = prod m c := by
  refine (dats m 0 c).arrAt_eq_of_cover 2 _ (fun t hf => ?_) fun i => ?_
  · rw [Value.flushed2, out_eq]
    obtain ⟨e0, e1, e2⟩ := idx2 t
    funext j
    have h0 : (j 0).val < 1 := (j 0).isLt
    have h1 : (j 1).val < 1024 := (j 1).isLt
    have h2 : (j 2).val < 1408 := (j 2).isLt
    refine (pay_apply (iblk m c 0 t) (iblk m c 1 t) j).trans ?_
    show _ = prod m c (((cfg0.win 2).blk t).view.emb j)
    have q0 : ((((cfg0.win 2).blk t).view.emb j) 0).val = t.val / 2 := by
      show win0_2.index t (0 : Fin 3) * 1 + 1 * (j 0).val = _; omega
    have q1 : ((((cfg0.win 2).blk t).view.emb j) 1).val = t.val % 2 * 1024 + (j 1).val := by
      show win0_2.index t (1 : Fin 3) * 1024 + 1 * (j 1).val = _; omega
    have q2 : ((((cfg0.win 2).blk t).view.emb j) 2).val = (j 2).val := by
      show win0_2.index t (2 : Fin 3) * 1408 + 1 * (j 2).val = _; omega
    rw [prod, q0, q1, q2, Nat.div_div_eq_div_mul]
    refine (Finset.sum_congr rfl fun k hr => ?_)
    have hk := Finset.mem_range.mp hr
    rw [read0 m c t h1 hk, read1 m c t hk h2]
  · have h0 : (i 0).val < 8 := (i 0).isLt
    have h1 : (i 1).val < 2048 := (i 1).isLt
    have h2 : (i 2).val < 1408 := (i 2).isLt
    have hN : cfg0.N = 16 := N_0
    have hk : (i 0).val * 2 + (i 1).val / 1024 < cfg0.N := by rw [hN]; omega
    have e : i = ((cfg0.win 2).blk ⟨(i 0).val * 2 + (i 1).val / 1024, hk⟩).view.emb
        (ValueIdx.ix3 ⟨0, Nat.one_pos⟩ ⟨(i 1).val % 1024, Nat.mod_lt _ (by norm_num)⟩ ⟨(i 2).val, h2⟩) := by
      obtain ⟨e0, e1, e2⟩ := idx2 ⟨(i 0).val * 2 + (i 1).val / 1024, hk⟩
      dsimp only at e0 e1 e2
      funext a; apply Fin.ext
      match a with
      | ⟨0, _⟩ => show (i 0).val = win0_2.index ⟨_, hk⟩ (0 : Fin 3) * 1 + 1 * 0; omega
      | ⟨1, _⟩ => show (i 1).val = win0_2.index ⟨_, hk⟩ (1 : Fin 3) * 1024 + 1 * ((i 1).val % 1024); omega
      | ⟨2, _⟩ => show (i 2).val = win0_2.index ⟨_, hk⟩ (2 : Fin 3) * 1408 + 1 * (i 2).val; omega
    exact ⟨_, flush0_2 _, by
      have h := ((cfg0.win 2).blk ⟨(i 0).val * 2 + (i 1).val / 1024, hk⟩).view.emb_mem_set
        (ValueIdx.ix3 ⟨0, Nat.one_pos⟩ ⟨(i 1).val % 1024, Nat.mod_lt _ (by norm_num)⟩ ⟨(i 2).val, h2⟩)
      rwa [← e] at h⟩

end Cert.WupIdeal.Block

namespace Cert.WupClaims

open Idealize.ShloMosaic Idealize.ShloMosaic.TcCoe Idealize.SL.Sem Cert.Product

attribute [local instance] Cert.Wup.Gen.facts Cert.WupIdeal.Gen.facts Cert.WupRefIdeal.Gen.facts

theorem frame_p : Cert.quiescent_Wup := fun m ρ _ => Cert.Wup.Gen.frame m ρ
theorem frame_pi : Cert.quiescent_WupIdeal := fun m ρ _ => Cert.WupIdeal.Gen.frame m ρ
theorem frame_ri : Cert.quiescent_WupRefIdeal := fun m ρ _ =>
  (θ_run Cert.WupRefIdeal.defs _ _).mono (fun r h => ⟨fun c => (h c).2,
      Idealize.ShloMosaic.sem_eq_zero_of_no_sems (by decide) r.2⟩)
    (Cert.WupRefIdeal.Value.run (F := Ideal) m ρ)
theorem preserves : Cert.preserves_Wup_WupIdeal := trivial

/-- The kernel's array is the reference's, element by element. -/
theorem algebraic : Cert.algebraic_WupIdeal_WupRefIdeal := by
  intro m ρ m' ρ' _ hagree
  refine ⟨_, Cert.WupIdeal.Value.run_blocks (F := Ideal) m ρ, ?_⟩
  refine (θ_run Cert.WupRefIdeal.defs _ _).mono (fun r h c => ?_)
    (Cert.WupRefIdeal.Value.run (F := Ideal) m' ρ')
  obtain ⟨a0, a1⟩ := hagree c
  refine ⟨(h c).1.trans ?_, (h c).2⟩
  rw [Cert.WupIdeal.Block.final, Cert.WupRefIdeal.Read.val_main_v11_eq, a0, a1]
  funext i
  have i0 : (i 0).val < 8 := (i 0).isLt
  have i1 : (i 1).val < 2048 := (i 1).isLt
  have i2 : (i 2).val < 1408 := (i 2).isLt
  rw [Cert.WupRefIdeal.Read.val_main_v11_apply, Cert.WupRefIdeal.Read.val_main_v10_apply, Cert.WupRefIdeal.Read.val_main_v9_apply,
    Cert.WupRefIdeal.Read.val_main_v8_apply]
  refine (Cert.WupRefIdeal.Read.val_main_v7_apply _ _ _).trans ?_
  rw [Cert.WupIdeal.Block.prod, Finset.sum_range]
  refine Finset.sum_congr rfl fun k _ => (mul_comm _ _).trans (congrArg₂ (· * ·) ?_ ?_)
  · rw [Cert.WupRefIdeal.Read.val_main_v1_apply, Cert.WupRefIdeal.Read.val_main_v0_apply]
    refine at2_of _ _ ?_ rfl
    show (((i 1).val * 8 + (i 0).val) * 1408 + (i 2).val) / 11264 = _
    omega
  · rw [Cert.WupRefIdeal.Read.val_main_v4_apply, Cert.WupRefIdeal.Read.val_main_v3_apply, Cert.WupRefIdeal.Read.val_main_v2_apply]
    have hk := k.isLt
    refine at3_of _ _ ?_ ?_ ?_
    · show (k.val * 11264 + (((i 1).val * 8 + (i 0).val) * 1408 + (i 2).val) % 11264) / 5632 % 2 = _
      omega
    · show (k.val * 11264 + (((i 1).val * 8 + (i 0).val) * 1408 + (i 2).val) % 11264) / 11264 = _
      omega
    · show (k.val * 11264 + (((i 1).val * 8 + (i 0).val) * 1408 + (i 2).val) % 11264) % 5632 = _
      omega

end Cert.WupClaims

end
-- ==== Proof.Dbin.lean ====
/- The gradient of layer B's input projection's input: blocks of rows by blocks of rows, the whole contraction in one step. -/
module

public import proofs.«01_k».proof.Proof.Product
public import proofs.«01_k».proof.Defs
public import proofs.«01_k».proof.Proof.Gen.Dbin.Frame
public import proofs.«01_k».proof.Proof.Gen.DbinIdeal.Frame
public import proofs.«01_k».proof.Proof.Gen.DbinIdeal.Value
public import proofs.«01_k».proof.Proof.Gen.DbinRefIdeal.Run
public import proofs.«01_k».proof.Proof.Gen.DbinRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.DbinIdeal.Block

open Idealize.ShloMosaic Idealize.ShloMosaic.TcCoe Idealize.SL.Sem
open Idealize.ShloMosaic.Pipeline (Dat)
open Cert.DbinIdeal Cert.DbinIdeal.Gen Cert.Product

variable (m : (ℓ : Loc nD τ sig) → Buf (Elt Ideal) ℓ) (c : Dev nD)

theorem idx0 : ∀ t : Fin cfg0.N, win0_0.index t = ![t.val % 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![t.val % 2, t.val / 2] := (by decide +kernel : ∀ t : Fin grid0.N, _)

/-- The blocks the body reads, entry by entry. -/
theorem read0 (t : Fin cfg0.N) (a k : ℕ) (ha : a < 1024) (hk : k < 3584) : at2 (m := 1024) (n := 3584) (iblk m c 0 t) a k
    = at2 (m := 2048) (n := 3584) (m ((c : Thread nD τ).loc main_arg0)) (t.val % 2 * 1024 + a) k :=
  at2_sub (m ((c : Thread nD τ).loc main_arg0)) ((cfg0.win 0).blk t).view.emb ha hk (by blk_simp [idx0]) (by blk_simp [idx0])
theorem read1 (t : Fin cfg0.N) (b k : ℕ) (hb : b < 1024) (hk : k < 3584) : at2 (m := 1024) (n := 3584) (iblk m c 1 t) b k
    = at2 (m := 2048) (n := 3584) (m ((c : Thread nD τ).loc main_arg1)) (t.val / 2 * 1024 + b) k :=
  at2_sub (m ((c : Thread nD τ).loc main_arg1)) ((cfg0.win 1).blk t).view.emb hb hk (by blk_simp [idx1]) (by blk_simp [idx1])

/-- The array after the run: the product of the two arguments. -/
theorem final : (dats m 0 c).arrAt 2 cfg0.N = fun i : S2048x2048.Idx => ∑ k ∈ Finset.range 3584,
    at2 (m := 2048) (n := 3584) (m ((c : Thread nD τ).loc main_arg0)) (i 0).val k
      * at2 (m := 2048) (n := 3584) (m ((c : Thread nD τ).loc main_arg1)) (i 1).val k := by
  refine (dats m 0 c).arrAt_eq_of_covers 2 _ (by decide +kernel) fun t hf y => ?_
  blk_simp
  rw [after0_2]
  unfold outsAt0
  frame_out
  refine (mm_rows_of none _ (read0 m c t) (read1 m c t) y).trans ?_
  blk_simp [idx2]

end Cert.DbinIdeal.Block

namespace Cert.DbinClaims

open Idealize.ShloMosaic Idealize.ShloMosaic.TcCoe Idealize.SL.Sem Cert.Product

attribute [local instance] Cert.Dbin.Gen.facts Cert.DbinIdeal.Gen.facts Cert.DbinRefIdeal.Gen.facts

theorem frame_p : Cert.quiescent_Dbin := fun m ρ _ => Cert.Dbin.Gen.frame m ρ
theorem frame_pi : Cert.quiescent_DbinIdeal := fun m ρ _ => Cert.DbinIdeal.Gen.frame m ρ
theorem frame_ri : Cert.quiescent_DbinRefIdeal := fun m ρ _ =>
  (θ_run Cert.DbinRefIdeal.defs _ _).mono (fun r h => ⟨fun c => (h c).2,
      Idealize.ShloMosaic.sem_eq_zero_of_no_sems (by decide) r.2⟩)
    (Cert.DbinRefIdeal.Value.run (F := Ideal) m ρ)
theorem preserves : Cert.preserves_Dbin_DbinIdeal := trivial

open Cert.DbinRefIdeal.Read in
/-- The kernel's array is the reference's, element by element. -/
theorem algebraic : Cert.algebraic_DbinIdeal_DbinRefIdeal := by
  intro m ρ m' ρ' _ hagree
  refine ⟨_, Cert.DbinIdeal.Value.run_blocks (F := Ideal) m ρ, ?_⟩
  refine (θ_run Cert.DbinRefIdeal.defs _ _).mono (fun r h c => ?_)
    (Cert.DbinRefIdeal.Value.run (F := Ideal) m' ρ')
  obtain ⟨a0, a1⟩ := hagree c
  refine ⟨(h c).1.trans ?_, (h c).2⟩
  rw [Cert.DbinIdeal.Block.final, val_main_v4_eq, a0, a1]
  funext i
  rw [val_main_v4_apply, Finset.sum_range]
  exact Finset.sum_congr rfl fun k _ => congrArg₂ (· * ·) (at2_of _ _ rfl rfl) (at2_of _ _ rfl rfl)

end Cert.DbinClaims

end
-- ==== Proof.Wbin.lean ====
/- The gradient of layer B's input projection's weights: rows of the transposed input by blocks of columns, the contraction over all tokens in one step. -/
module

public import proofs.«01_k».proof.Proof.Product
public import proofs.«01_k».proof.Defs
public import proofs.«01_k».proof.Proof.Gen.Wbin.Frame
public import proofs.«01_k».proof.Proof.Gen.WbinIdeal.Frame
public import proofs.«01_k».proof.Proof.Gen.WbinIdeal.Value
public import proofs.«01_k».proof.Proof.Gen.WbinRefIdeal.Run
public import proofs.«01_k».proof.Proof.Gen.WbinRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.WbinIdeal.Block

open Idealize.ShloMosaic Idealize.ShloMosaic.TcCoe Idealize.SL.Sem
open Idealize.ShloMosaic.Pipeline (Dat)
open Cert.WbinIdeal Cert.WbinIdeal.Gen Cert.Product

variable (m : (ℓ : Loc nD τ sig) → Buf (Elt Ideal) ℓ) (c : Dev nD)

theorem idx0 : ∀ t : Fin cfg0.N, win0_0.index t = ![t.val % 2, 0] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)

/-- The blocks the body reads, entry by entry. -/
theorem read0 (t : Fin cfg0.N) (a k : ℕ) (ha : a < 1024) (hk : k < 2048) : at2 (m := 1024) (n := 2048) (iblk m c 0 t) a k
    = at2 (m := 2048) (n := 2048) (m ((c : Thread nD τ).loc main_arg0)) (t.val % 2 * 1024 + a) k :=
  at2_sub (m ((c : Thread nD τ).loc main_arg0)) ((cfg0.win 0).blk t).view.emb ha hk (by blk_simp [idx0]) (by blk_simp [idx0])
theorem read1 (t : Fin cfg0.N) (k b : ℕ) (hk : k < 2048) (hb : b < 512) : at2 (m := 2048) (n := 512) (iblk m c 1 t) k b
    = at2 (m := 2048) (n := 3584) (m ((c : Thread nD τ).loc main_arg1)) k (t.val / 2 * 512 + b) :=
  at2_sub (m ((c : Thread nD τ).loc main_arg1)) ((cfg0.win 1).blk t).view.emb hk hb (by blk_simp [idx1]) (by blk_simp [idx1])

/-- What the body writes, entry by entry. -/
theorem pay_apply {x : FVec Ideal S1024x2048 .bf16} {y : FVec Ideal S2048x512 .bf16} {X Y : ℕ → ℕ → EReal}
    (hx : ∀ a k, a < 1024 → k < 2048 → at2 (m := 1024) (n := 2048) x a k = X a k)
    (hy : ∀ k b, k < 2048 → b < 512 → at2 (m := 2048) (n := 512) y k b = Y k b) (j : S1024x512.Idx) :
    k0_pay1 (F := Ideal) x y j = ∑ k ∈ Finset.range 2048, X (j 0).val k * Y k (j 1).val := mm_plain_of none _ hx hy j

/-- The array after the run: the product of the two arguments. -/
theorem final : (dats m 0 c).arrAt 2 cfg0.N = fun i : S2048x3584.Idx => ∑ k ∈ Finset.range 2048,
    at2 (m := 2048) (n := 2048) (m ((c : Thread nD τ).loc main_arg0)) (i 0).val k
      * at2 (m := 2048) (n := 3584) (m ((c : Thread nD τ).loc main_arg1)) k (i 1).val := by
  refine (dats m 0 c).arrAt_eq_of_covers 2 _ (by decide +kernel) fun t hf y => ?_
  blk_simp
  rw [after0_2]
  unfold outsAt0
  frame_out
  refine (pay_apply (read0 m c t) (read1 m c t) y).trans ?_
  blk_simp [idx2]

end Cert.WbinIdeal.Block

namespace Cert.WbinClaims

open Idealize.ShloMosaic Idealize.ShloMosaic.TcCoe Idealize.SL.Sem Cert.Product

attribute [local instance] Cert.Wbin.Gen.facts Cert.WbinIdeal.Gen.facts Cert.WbinRefIdeal.Gen.facts

theorem frame_p : Cert.quiescent_Wbin := fun m ρ _ => Cert.Wbin.Gen.frame m ρ
theorem frame_pi : Cert.quiescent_WbinIdeal := fun m ρ _ => Cert.WbinIdeal.Gen.frame m ρ
theorem frame_ri : Cert.quiescent_WbinRefIdeal := fun m ρ _ =>
  (θ_run Cert.WbinRefIdeal.defs _ _).mono (fun r h => ⟨fun c => (h c).2,
      Idealize.ShloMosaic.sem_eq_zero_of_no_sems (by decide) r.2⟩)
    (Cert.WbinRefIdeal.Value.run (F := Ideal) m ρ)
theorem preserves : Cert.preserves_Wbin_WbinIdeal := trivial

open Cert.WbinRefIdeal.Read in
/-- The kernel's array is the reference's, element by element. -/
theorem algebraic : Cert.algebraic_WbinIdeal_WbinRefIdeal := by
  intro m ρ m' ρ' _ hagree
  refine ⟨_, Cert.WbinIdeal.Value.run_blocks (F := Ideal) m ρ, ?_⟩
  refine (θ_run Cert.WbinRefIdeal.defs _ _).mono (fun r h c => ?_)
    (Cert.WbinRefIdeal.Value.run (F := Ideal) m' ρ')
  obtain ⟨a0, a1⟩ := hagree c
  refine ⟨(h c).1.trans ?_, (h c).2⟩
  rw [Cert.WbinIdeal.Block.final, val_main_v7_eq, a0, a1]
  funext i
  rw [val_main_v7_apply, val_main_v6_apply]
  refine (val_main_v5_apply _ _ _).trans ?_
  rw [Finset.sum_range]
  refine Finset.sum_congr rfl fun k _ => (mul_comm _ _).trans (congrArg₂ (· * ·) ?_ ?_)
  · rw [val_main_v1_apply]
    exact at2_of _ _ rfl rfl
  · exact at2_of _ _ rfl rfl

end Cert.WbinClaims

end
-- ==== Proof.Dbout.lean ====
/- The gradient of layer B's output projection's input: blocks of rows by blocks of rows, the whole contraction in one step. -/
module

public import proofs.«01_k».proof.Proof.Product
public import proofs.«01_k».proof.Defs
public import proofs.«01_k».proof.Proof.Gen.Dbout.Frame
public import proofs.«01_k».proof.Proof.Gen.DboutIdeal.Frame
public import proofs.«01_k».proof.Proof.Gen.DboutIdeal.Value
public import proofs.«01_k».proof.Proof.Gen.DboutRefIdeal.Run
public import proofs.«01_k».proof.Proof.Gen.DboutRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.DboutIdeal.Block

open Idealize.ShloMosaic Idealize.ShloMosaic.TcCoe Idealize.SL.Sem
open Idealize.ShloMosaic.Pipeline (Dat)
open Cert.DboutIdeal Cert.DboutIdeal.Gen Cert.Product

variable (m : (ℓ : Loc nD τ sig) → Buf (Elt Ideal) ℓ) (c : Dev nD)

theorem idx0 : ∀ t : Fin cfg0.N, win0_0.index t = ![t.val % 2, 0] := (by decide +kernel : ∀ t : Fin grid0.N, _)
theorem idx1 : ∀ t : Fin cfg0.N, win0_1.index t = ![t.val / 2, 0] := (by decide +kernel : ∀ t : Fin grid0.N, _)
theorem idx2 : ∀ t : Fin cfg0.N, win0_2.index t = ![t.val % 2, t.val / 2] := (by decide +kernel : ∀ t : Fin grid0.N, _)

/-- The blocks the body reads, entry by entry. -/
theorem read0 (t : Fin cfg0.N) (a k : ℕ) (ha : a < 1024) (hk : k < 2048) : at2 (m := 1024) (n := 2048) (iblk m c 0 t) a k
    = at2 (m := 2048) (n := 2048) (m ((c : Thread nD τ).loc main_arg0)) (t.val % 2 * 1024 + a) k :=
  at2_sub (m ((c : Thread nD τ).loc main_arg0)) ((cfg0.win 0).blk t).view.emb ha hk (by blk_simp [idx0]) (by blk_simp [idx0])
theorem read1 (t : Fin cfg0.N) (b k : ℕ) (hb : b < 1024) (hk : k < 2048) : at2 (m := 1024) (n := 2048) (iblk m c 1 t) b k
    = at2 (m := 2048) (n := 2048) (m ((c : Thread nD τ).loc main_arg1)) (t.val / 2 * 1024 + b) k :=
  at2_sub (m ((c : Thread nD τ).loc main_arg1)) ((cfg0.win 1).blk t).view.emb hb hk (by blk_simp [idx1]) (by blk_simp [idx1])

/-- The array after the run: the product of the two arguments. -/
theorem final : (dats m 0 c).arrAt 2 cfg0.N = fun i : S2048x2048.Idx => ∑ k ∈ Finset.range 2048,
    at2 (m := 2048) (n := 2048) (m ((c : Thread nD τ).loc main_arg0)) (i 0).val k
      * at2 (m := 2048) (n := 2048) (m ((c : Thread nD τ).loc main_arg1)) (i 1).val k := by
  refine (dats m 0 c).arrAt_eq_of_covers 2 _ (by decide +kernel) fun t hf y => ?_
  blk_simp
  rw [after0_2]
  unfold outsAt0
  frame_out
  refine (mm_rows_of none _ (read0 m c t) (read1 m c t) y).trans ?_
  blk_simp [idx2]

end Cert.DboutIdeal.Block

namespace Cert.DboutClaims

open Idealize.ShloMosaic Idealize.ShloMosaic.TcCoe Idealize.SL.Sem Cert.Product

attribute [local instance] Cert.Dbout.Gen.facts Cert.DboutIdeal.Gen.facts Cert.DboutRefIdeal.Gen.facts

theorem frame_p : Cert.quiescent_Dbout := fun m ρ _ => Cert.Dbout.Gen.frame m ρ
theorem frame_pi : Cert.quiescent_DboutIdeal := fun m ρ _ => Cert.DboutIdeal.Gen.frame m ρ
theorem frame_ri : Cert.quiescent_DboutRefIdeal := fun m ρ _ =>
  (θ_run Cert.DboutRefIdeal.defs _ _).mono (fun r h => ⟨fun c => (h c).2,
      Idealize.ShloMosaic.sem_eq_zero_of_no_sems (by decide) r.2⟩)
    (Cert.DboutRefIdeal.Value.run (F := Ideal) m ρ)
theorem preserves : Cert.preserves_Dbout_DboutIdeal := trivial

open Cert.DboutRefIdeal.Read in
/-- The kernel's array is the reference's, element by element. -/
theorem algebraic : Cert.algebraic_DboutIdeal_DboutRefIdeal := by
  intro m ρ m' ρ' _ hagree
  refine ⟨_, Cert.DboutIdeal.Value.run_blocks (F := Ideal) m ρ, ?_⟩
  refine (θ_run Cert.DboutRefIdeal.defs _ _).mono (fun r h c => ?_)
    (Cert.DboutRefIdeal.Value.run (F := Ideal) m' ρ')
  obtain ⟨a0, a1⟩ := hagree c
  refine ⟨(h c).1.trans ?_, (h c).2⟩
  rw [Cert.DboutIdeal.Block.final, val_main_v4_eq, a0, a1]
  funext i
  rw [val_main_v4_apply, Finset.sum_range]
  exact Finset.sum_congr rfl fun k _ => congrArg₂ (· * ·) (at2_of _ _ rfl rfl) (at2_of _ _ rfl rfl)

end Cert.DboutClaims

end
-- ==== Proof.Wbout.lean ====
/- The gradient of layer B's output projection's weights: blocks of columns by blocks of columns, the contraction over all tokens in one step. -/
module

public import proofs.«01_k».proof.Proof.Product
public import proofs.«01_k».proof.Defs
public import proofs.«01_k».proof.Proof.Gen.Wbout.Frame
public import proofs.«01_k».proof.Proof.Gen.WboutIdeal.Frame
public import proofs.«01_k».proof.Proof.Gen.WboutIdeal.Value
public import proofs.«01_k».proof.Proof.Gen.WboutRefIdeal.Run
public import proofs.«01_k».proof.Proof.Gen.WboutRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.WboutIdeal.Block

open Idealize.ShloMosaic Idealize.ShloMosaic.TcCoe Idealize.SL.Sem
open Idealize.ShloMosaic.Pipeline (Dat)
open Cert.WboutIdeal Cert.WboutIdeal.Gen Cert.Product

variable (m : (ℓ : Loc nD τ sig) → Buf (Elt Ideal) ℓ) (c : Dev nD)

theorem idx0 : ∀ t : Fin cfg0.N, win0_0.index t = ![0, t.val % 4] := (by decide +kernel : ∀ t : Fin grid0.N, _)
theorem idx1 : ∀ t : Fin cfg0.N, win0_1.index t = ![0, t.val / 4] := (by decide +kernel : ∀ t : Fin grid0.N, _)
theorem idx2 : ∀ t : Fin cfg0.N, win0_2.index t = ![t.val % 4, t.val / 4] := (by decide +kernel : ∀ t : Fin grid0.N, _)

/-- The blocks the body reads, entry by entry. -/
theorem read0 (t : Fin cfg0.N) (k a : ℕ) (hk : k < 2048) (ha : a < 512) : at2 (m := 2048) (n := 512) (iblk m c 0 t) k a
    = at2 (m := 2048) (n := 2048) (m ((c : Thread nD τ).loc main_arg0)) k (t.val % 4 * 512 + a) :=
  at2_sub (m ((c : Thread nD τ).loc main_arg0)) ((cfg0.win 0).blk t).view.emb hk ha (by blk_simp [idx0]) (by blk_simp [idx0])
theorem read1 (t : Fin cfg0.N) (k b : ℕ) (hk : k < 2048) (hb : b < 1024) : at2 (m := 2048) (n := 1024) (iblk m c 1 t) k b
    = at2 (m := 2048) (n := 2048) (m ((c : Thread nD τ).loc main_arg1)) k (t.val / 4 * 1024 + b) :=
  at2_sub (m ((c : Thread nD τ).loc main_arg1)) ((cfg0.win 1).blk t).view.emb hk hb (by blk_simp [idx1]) (by blk_simp [idx1])

/-- What the body writes, entry by entry. -/
theorem pay_apply {x : FVec Ideal S2048x512 .bf16} {y : FVec Ideal S2048x1024 .bf16} {X Y : ℕ → ℕ → EReal}
    (hx : ∀ k a, k < 2048 → a < 512 → at2 (m := 2048) (n := 512) x k a = X k a)
    (hy : ∀ k b, k < 2048 → b < 1024 → at2 (m := 2048) (n := 1024) y k b = Y k b) (j : S512x1024.Idx) :
    k0_pay1 (F := Ideal) x y j = ∑ k ∈ Finset.range 2048, X k (j 0).val * Y k (j 1).val := mm_cols_of none _ hx hy j

/-- The array after the run: the transpose of the first argument by the second. -/
theorem final : (dats m 0 c).arrAt 2 cfg0.N = fun i : S2048x2048.Idx => ∑ k ∈ Finset.range 2048,
    at2 (m := 2048) (n := 2048) (m ((c : Thread nD τ).loc main_arg0)) k (i 0).val
      * at2 (m := 2048) (n := 2048) (m ((c : Thread nD τ).loc main_arg1)) k (i 1).val := by
  refine (dats m 0 c).arrAt_eq_of_covers 2 _ (by decide +kernel) fun t hf y => ?_
  blk_simp
  rw [after0_2]
  unfold outsAt0
  frame_out
  refine (pay_apply (read0 m c t) (read1 m c t) y).trans ?_
  blk_simp [idx2]

end Cert.WboutIdeal.Block

namespace Cert.WboutClaims

open Idealize.ShloMosaic Idealize.ShloMosaic.TcCoe Idealize.SL.Sem Cert.Product

attribute [local instance] Cert.Wbout.Gen.facts Cert.WboutIdeal.Gen.facts Cert.WboutRefIdeal.Gen.facts

theorem frame_p : Cert.quiescent_Wbout := fun m ρ _ => Cert.Wbout.Gen.frame m ρ
theorem frame_pi : Cert.quiescent_WboutIdeal := fun m ρ _ => Cert.WboutIdeal.Gen.frame m ρ
theorem frame_ri : Cert.quiescent_WboutRefIdeal := fun m ρ _ =>
  (θ_run Cert.WboutRefIdeal.defs _ _).mono (fun r h => ⟨fun c => (h c).2,
      Idealize.ShloMosaic.sem_eq_zero_of_no_sems (by decide) r.2⟩)
    (Cert.WboutRefIdeal.Value.run (F := Ideal) m ρ)
theorem preserves : Cert.preserves_Wbout_WboutIdeal := trivial

open Cert.WboutRefIdeal.Read in
/-- The kernel's array is the reference's, element by element. -/
theorem algebraic : Cert.algebraic_WboutIdeal_WboutRefIdeal := by
  intro m ρ m' ρ' _ hagree
  refine ⟨_, Cert.WboutIdeal.Value.run_blocks (F := Ideal) m ρ, ?_⟩
  refine (θ_run Cert.WboutRefIdeal.defs _ _).mono (fun r h c => ?_)
    (Cert.WboutRefIdeal.Value.run (F := Ideal) m' ρ')
  obtain ⟨a0, a1⟩ := hagree c
  refine ⟨(h c).1.trans ?_, (h c).2⟩
  rw [Cert.WboutIdeal.Block.final, val_main_v6_eq, a0, a1]
  funext i
  rw [val_main_v6_apply, val_main_v5_apply]
  refine (val_main_v4_apply _ _ _).trans ?_
  rw [Finset.sum_range]
  exact Finset.sum_congr rfl fun k _ => (mul_comm _ _).trans (congrArg₂ (· * ·) (at2_of _ _ rfl rfl) (at2_of _ _ rfl rfl))

end Cert.WboutClaims

end
-- ==== Proof.Dain.lean ====
/- The gradient of layer A's input projection's input: the contraction over all the shards' columns in two grid steps of four products
   each, one per shard, added up in the scratch. -/
module

public import proofs.«01_k».proof.Proof.Product
public import proofs.«01_k».proof.Defs
public import proofs.«01_k».proof.Proof.Gen.Dain.Frame
public import proofs.«01_k».proof.Proof.Gen.DainIdeal.Frame
public import proofs.«01_k».proof.Proof.Gen.DainIdeal.Value
public import proofs.«01_k».proof.Proof.Gen.DainRefIdeal.Run
public import proofs.«01_k».proof.Proof.Gen.DainRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.DainIdeal.Block

open Idealize.ShloMosaic Idealize.ShloMosaic.TcCoe Idealize.SL.Sem
open Idealize.ShloMosaic.Pipeline (Dat)
open Cert.DainIdeal Cert.DainIdeal.Gen Cert.Product

variable (m : (ℓ : Loc nD τ sig) → Buf (Elt Ideal) ℓ) (c : Dev nD)

theorem idx0 : ∀ t : Fin cfg0.N, win0_0.index t = ![t.val / 2 % 2, t.val % 2] := (by decide +kernel : ∀ t : Fin grid0.N, _)
theorem idx1 : ∀ t : Fin cfg0.N, win0_1.index t = ![t.val % 2, t.val / 4, 0] := (by decide +kernel : ∀ t : Fin grid0.N, _)
theorem idx2 : ∀ t : Fin cfg0.N, win0_2.index t = ![t.val / 2 % 2, t.val / 4] := (by decide +kernel : ∀ t : Fin grid0.N, _)

/-- The blocks the body reads, entry by entry. -/
theorem read0 (t : Fin cfg0.N) (a k : ℕ) (ha : a < 1024) (hk : k < 2560) : at2 (m := 1024) (n := 2560) (iblk m c 0 t) a k
    = at2 (m := 2048) (n := 5120) (m ((c : Thread nD τ).loc main_arg0)) (t.val / 2 % 2 * 1024 + a) (t.val % 2 * 2560 + k) :=
  at2_sub (m ((c : Thread nD τ).loc main_arg0)) ((cfg0.win 0).blk t).view.emb ha hk (by blk_simp [idx0]) (by blk_simp [idx0])
theorem read1 (t : Fin cfg0.N) (g b k : ℕ) (hg : g < 4) (hb : b < 1024) (hk : k < 640) : at3 (l := 4) (m := 1024) (n := 640) (iblk m c 1 t) g b k
    = at3 (l := 8) (m := 2048) (n := 640) (m ((c : Thread nD τ).loc main_arg1)) (t.val % 2 * 4 + g) (t.val / 4 * 1024 + b) k :=
  at3_sub (m ((c : Thread nD τ).loc main_arg1)) ((cfg0.win 1).blk t).view.emb hg hb hk (by blk_simp [idx1]) (by blk_simp [idx1]) (by blk_simp [idx1])

/-- The summand of column `k`, of 5120 in the first argument: 640 in each shard of the second. -/
def term (a b k : ℕ) : EReal := at2 (m := 2048) (n := 5120) (m ((c : Thread nD τ).loc main_arg0)) a k
  * at3 (l := 8) (m := 2048) (n := 640) (m ((c : Thread nD τ).loc main_arg1)) (k / 640) b (k % 640)

/-- The four products of a step, added. -/
def four (t : Fin cfg0.N) : FVec Ideal S1024x1024 .f32 :=
  let x : FVec Ideal S1024x2560 .bf16 := iblk m c 0 t
  let y : FVec Ideal S4x1024x640 .bf16 := iblk m c 1 t
  let xs := fun o inb => (View.ld (Val := Elt Ideal) (S := S1024x2560) (e' := .bf16) x (Rect.unit ![0, o] ![1024, 640] inb) : FVec Ideal S1024x640 .bf16)
  let ys := fun s inb => (View.ld (Val := Elt Ideal) (S := S4x1024x640) (e' := .bf16) y (Rect.unit ![s, 0, 0] ![1, 1024, 640] inb) : FVec Ideal S1x1024x640 .bf16)
  k0_pay1 (F := Ideal) (xs 0 (by decide)) (ys 0 (by decide)) (xs 640 (by decide)) (ys 1 (by decide)) (xs 1280 (by decide)) (ys 2 (by decide)) (xs 1920 (by decide)) (ys 3 (by decide))

theorem four_apply (t : Fin cfg0.N) (y : S1024x1024.Idx) : four m c t y
    = ∑ k ∈ Finset.range 2560, term m c (t.val / 2 % 2 * 1024 + (y 0).val) (t.val / 4 * 1024 + (y 1).val) (2560 * (t.val % 2) + k) := by
  have one := fun (s o ho hs inb inb' h) => mm_slice none (Facts₀.dot_S1024x640_S1024x640_S1024x1024_1_1_0_0_n_n_wf) (read0 m c t) (read1 m c t) s o ho hs rfl inb inb' h y
  have all := sum_four 640 fun k => at2 (m := 2048) (n := 5120) (m ((c : Thread nD τ).loc main_arg0)) (t.val / 2 % 2 * 1024 + (y 0).val) (t.val % 2 * 2560 + k)
      * at3 (l := 8) (m := 2048) (n := 640) (m ((c : Thread nD τ).loc main_arg1)) (t.val % 2 * 4 + k / 640) (t.val / 4 * 1024 + (y 1).val) (k % 640)
  refine Eq.trans (Eq.trans (congrArg₂ (· + ·) (congrArg₂ (· + ·) (congrArg₂ (· + ·) (one 0 0 rfl ?_ _ _ _) (one 1 640 rfl ?_ _ _ _))
    (one 2 1280 rfl ?_ _ _ _)) (one 3 1920 rfl ?_ _ _ _)) all) (Finset.sum_congr rfl fun k hr => ?_)
  iterate 4 norm_num
  rw [term]
  refine congrArg₂ (· * ·) (congrArg (at2 _ _) ?_) (congrArg₂ (at3 _ · _ ·) ?_ ?_) <;> omega

/-- What a pair of steps writes out. -/
theorem out (t : Fin cfg0.N) (h : t.val % 2 = 1) : (outsAt0 m c t.val t.isLt).1
    = addf (four m c ⟨t.val - 1, Nat.lt_of_le_of_lt (Nat.sub_le _ _) t.isLt⟩) (four m c t) := by
  have hp := outsAt0_A m c ⟨t.val - 1, Nat.lt_of_le_of_lt (Nat.sub_le _ _) t.isLt⟩ (by dsimp only; omega) (by dsimp only; omega) (by dsimp only; omega)
  dsimp only at hp
  rw [outsAt0_B m c t (by omega) h h]
  frame_out
  rw [hp]
  frame_out
  rw [show ∀ x, View.read (Elt Ideal) (View.whole cc0_scratch0) ((Memref.isWhole_whole cc0_scratch0).unread x) = x from
    fun x => (Memref.isWhole_whole cc0_scratch0).read_unread x]
  exact (cast_self _ _).trans (congrArg (addf · (four m c t)) (cast_self _ _))

/-- The array after the run: the product over all the columns. -/
theorem final : (dats m 0 c).arrAt 2 cfg0.N = fun i : S2048x2048.Idx => ∑ k ∈ Finset.range 5120, term m c (i 0).val (i 1).val k := by
  refine (dats m 0 c).arrAt_eq_of_covers 2 _ (by decide +kernel) fun t hf y => ?_
  have h : t.val % 2 = 1 := (flush0_2 t).mp hf
  blk_simp
  rw [after0_2, out m c t h]
  refine (congrArg₂ (· + ·) (four_apply m c _ y) (four_apply m c t y)).trans ?_
  dsimp only
  rw [show (t.val - 1) / 2 = t.val / 2 by omega, show (t.val - 1) / 4 = t.val / 4 by omega, show (t.val - 1) % 2 = 0 by omega, h]
  blk_simp [idx2]
  refine Eq.trans ?_ (sum_join 2560 2560 _)
  simp only [Nat.mul_zero, Nat.zero_add]

end Cert.DainIdeal.Block

namespace Cert.DainClaims

open Idealize.ShloMosaic Idealize.ShloMosaic.TcCoe Idealize.SL.Sem Cert.Product

attribute [local instance] Cert.Dain.Gen.facts Cert.DainIdeal.Gen.facts Cert.DainRefIdeal.Gen.facts

theorem frame_p : Cert.quiescent_Dain := fun m ρ _ => Cert.Dain.Gen.frame m ρ
theorem frame_pi : Cert.quiescent_DainIdeal := fun m ρ _ => Cert.DainIdeal.Gen.frame m ρ
theorem frame_ri : Cert.quiescent_DainRefIdeal := fun m ρ _ =>
  (θ_run Cert.DainRefIdeal.defs _ _).mono (fun r h => ⟨fun c => (h c).2,
      Idealize.ShloMosaic.sem_eq_zero_of_no_sems (by decide) r.2⟩)
    (Cert.DainRefIdeal.Value.run (F := Ideal) m ρ)
theorem preserves : Cert.preserves_Dain_DainIdeal := trivial

open Cert.DainRefIdeal.Read in
/-- The kernel's array is the reference's, element by element. -/
theorem algebraic : Cert.algebraic_DainIdeal_DainRefIdeal := by
  intro m ρ m' ρ' _ hagree
  refine ⟨_, Cert.DainIdeal.Value.run_blocks (F := Ideal) m ρ, ?_⟩
  refine (θ_run Cert.DainRefIdeal.defs _ _).mono (fun r h c => ?_)
    (Cert.DainRefIdeal.Value.run (F := Ideal) m' ρ')
  obtain ⟨a0, a1⟩ := hagree c
  refine ⟨(h c).1.trans ?_, (h c).2⟩
  rw [Cert.DainIdeal.Block.final, val_main_v6_eq, a0, a1]
  funext i
  have i1 : (i 1).val < 2048 := (i 1).isLt
  refine (val_main_v6_apply _ _ _).trans ?_
  rw [Finset.sum_range]
  refine Finset.sum_congr rfl fun k _ => congrArg₂ (· * ·) (at2_of _ _ rfl rfl) ?_
  rw [val_main_v3_apply, val_main_v2_apply]
  have hk := k.isLt
  refine at3_of _ _ ?_ ?_ ?_
  · show ((i 1).val * 5120 + k.val) / 640 % 8 = _; omega
  · show ((i 1).val * 5120 + k.val) / 5120 = _; omega
  · show ((i 1).val * 5120 + k.val) % 640 = _; omega

end Cert.DainClaims

end
-- ==== Proof.Wain.lean ====
/- The gradient of layer A's input projection's weights, one matrix per shard: rows of the transposed input by the columns that belong
   to the shard, the contraction over all tokens in one step. -/
module

public import proofs.«01_k».proof.Proof.Product
public import proofs.«01_k».proof.Defs
public import proofs.«01_k».proof.Proof.Gen.Wain.Frame
public import proofs.«01_k».proof.Proof.Gen.WainIdeal.Frame
public import proofs.«01_k».proof.Proof.Gen.WainIdeal.Value
public import proofs.«01_k».proof.Proof.Gen.WainRefIdeal.Run
public import proofs.«01_k».proof.Proof.Gen.WainRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.WainIdeal.Block

open Idealize.ShloMosaic Idealize.ShloMosaic.TcCoe Idealize.SL.Sem
open Idealize.ShloMosaic.Pipeline (Dat)
open Cert.WainIdeal Cert.WainIdeal.Gen Cert.Product

variable (m : (ℓ : Loc nD τ sig) → Buf (Elt Ideal) ℓ) (c : Dev nD)

theorem idx0 : ∀ t : Fin cfg0.N, win0_0.index t = ![t.val % 2, 0] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val / 2, t.val % 2, 0] := (by decide +kernel : ∀ t : Fin grid0.N, _)

/-- The blocks the body reads, entry by entry. -/
theorem read0 (t : Fin cfg0.N) (a k : ℕ) (ha : a < 1024) (hk : k < 2048) : at2 (m := 1024) (n := 2048) (iblk m c 0 t) a k
    = at2 (m := 2048) (n := 2048) (m ((c : Thread nD τ).loc main_arg0)) (t.val % 2 * 1024 + a) k :=
  at2_sub (m ((c : Thread nD τ).loc main_arg0)) ((cfg0.win 0).blk t).view.emb ha hk (by blk_simp [idx0]) (by blk_simp [idx0])
theorem read1 (t : Fin cfg0.N) (k b : ℕ) (hk : k < 2048) (hb : b < 640) : at2 (m := 2048) (n := 640) (iblk m c 1 t) k b
    = at2 (m := 2048) (n := 5120) (m ((c : Thread nD τ).loc main_arg1)) k (t.val / 2 * 640 + b) :=
  at2_sub (m ((c : Thread nD τ).loc main_arg1)) ((cfg0.win 1).blk t).view.emb hk hb (by blk_simp [idx1]) (by blk_simp [idx1])

/-- What the body writes, entry by entry. -/
theorem pay_apply {x : FVec Ideal S1024x2048 .bf16} {y : FVec Ideal S2048x640 .bf16} {X Y : ℕ → ℕ → EReal}
    (hx : ∀ a k, a < 1024 → k < 2048 → at2 (m := 1024) (n := 2048) x a k = X a k)
    (hy : ∀ k b, k < 2048 → b < 640 → at2 (m := 2048) (n := 640) y k b = Y k b) (j : S1x1024x640.Idx) :
    k0_pay1 (F := Ideal) x y j = ∑ k ∈ Finset.range 2048, X (j 1).val k * Y k (j 2).val :=
  (cast_stack _ _ j).trans (mm_plain_of none _ hx hy _)

/-- The array after the run: the products of the first argument with the shards' columns of the second. -/
theorem final : (dats m 0 c).arrAt 2 cfg0.N = fun i : S8x2048x640.Idx => ∑ k ∈ Finset.range 2048,
    at2 (m := 2048) (n := 2048) (m ((c : Thread nD τ).loc main_arg0)) (i 1).val k
      * at2 (m := 2048) (n := 5120) (m ((c : Thread nD τ).loc main_arg1)) k ((i 0).val * 640 + (i 2).val) := by
  refine (dats m 0 c).arrAt_eq_of_covers 2 _ (by decide +kernel) fun t hf y => ?_
  blk_simp
  rw [after0_2]
  unfold outsAt0
  frame_out
  refine (pay_apply (read0 m c t) (read1 m c t) y).trans ?_
  blk_simp [idx2]

end Cert.WainIdeal.Block

namespace Cert.WainClaims

open Idealize.ShloMosaic Idealize.ShloMosaic.TcCoe Idealize.SL.Sem Cert.Product

attribute [local instance] Cert.Wain.Gen.facts Cert.WainIdeal.Gen.facts Cert.WainRefIdeal.Gen.facts

theorem frame_p : Cert.quiescent_Wain := fun m ρ _ => Cert.Wain.Gen.frame m ρ
theorem frame_pi : Cert.quiescent_WainIdeal := fun m ρ _ => Cert.WainIdeal.Gen.frame m ρ
theorem frame_ri : Cert.quiescent_WainRefIdeal := fun m ρ _ =>
  (θ_run Cert.WainRefIdeal.defs _ _).mono (fun r h => ⟨fun c => (h c).2,
      Idealize.ShloMosaic.sem_eq_zero_of_no_sems (by decide) r.2⟩)
    (Cert.WainRefIdeal.Value.run (F := Ideal) m ρ)
theorem preserves : Cert.preserves_Wain_WainIdeal := trivial

open Cert.WainRefIdeal.Read in
/-- The kernel's array is the reference's, element by element. -/
theorem algebraic : Cert.algebraic_WainIdeal_WainRefIdeal := by
  intro m ρ m' ρ' _ hagree
  refine ⟨_, Cert.WainIdeal.Value.run_blocks (F := Ideal) m ρ, ?_⟩
  refine (θ_run Cert.WainRefIdeal.defs _ _).mono (fun r h c => ?_)
    (Cert.WainRefIdeal.Value.run (F := Ideal) m' ρ')
  obtain ⟨a0, a1⟩ := hagree c
  refine ⟨(h c).1.trans ?_, (h c).2⟩
  rw [Cert.WainIdeal.Block.final, val_main_v9_eq, a0, a1]
  funext i
  have i1 : (i 1).val < 2048 := (i 1).isLt
  have i0 : (i 0).val < 8 := (i 0).isLt
  have i2 : (i 2).val < 640 := (i 2).isLt
  rw [val_main_v9_apply, val_main_v8_apply, val_main_v7_apply, val_main_v6_apply]
  refine (val_main_v5_apply _ _ _).trans ?_
  rw [Finset.sum_range]
  refine Finset.sum_congr rfl fun k _ => (mul_comm _ _).trans (congrArg₂ (· * ·) ?_ ?_)
  · rw [val_main_v1_apply]
    refine at2_of _ _ ?_ rfl
    show (((i 1).val * 8 + (i 0).val) * 640 + (i 2).val) / 5120 = _
    omega
  · refine at2_of _ _ rfl ?_
    show (((i 1).val * 8 + (i 0).val) * 640 + (i 2).val) % 5120 = _
    omega

end Cert.WainClaims

end
-- ==== Proof.Daout.lean ====
/- The gradient of layer A's output projection's input: the contraction over all the shards' columns in one step, as the sum of eight
   products, one per shard. -/
module

public import proofs.«01_k».proof.Proof.Product
public import proofs.«01_k».proof.Defs
public import proofs.«01_k».proof.Proof.Gen.Daout.Frame
public import proofs.«01_k».proof.Proof.Gen.DaoutIdeal.Frame
public import proofs.«01_k».proof.Proof.Gen.DaoutIdeal.Value
public import proofs.«01_k».proof.Proof.Gen.DaoutRefIdeal.Run
public import proofs.«01_k».proof.Proof.Gen.DaoutRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.DaoutIdeal.Block

open Idealize.ShloMosaic Idealize.ShloMosaic.TcCoe Idealize.SL.Sem
open Idealize.ShloMosaic.Pipeline (Dat)
open Cert.DaoutIdeal Cert.DaoutIdeal.Gen Cert.Product

variable (m : (ℓ : Loc nD τ sig) → Buf (Elt Ideal) ℓ) (c : Dev nD)

theorem idx0 : ∀ t : Fin cfg0.N, win0_0.index t = ![t.val, 0] := (by decide +kernel : ∀ t : Fin grid0.N, _)
theorem idx1 : ∀ t : Fin cfg0.N, win0_1.index t = ![0, 0, 0] := (by decide +kernel : ∀ t : Fin grid0.N, _)
theorem idx2 : ∀ t : Fin cfg0.N, win0_2.index t = ![t.val, 0] := (by decide +kernel : ∀ t : Fin grid0.N, _)

/-- The blocks the body reads, entry by entry. -/
theorem read0 (t : Fin cfg0.N) (a k : ℕ) (ha : a < 1024) (hk : k < 2048) : at2 (m := 1024) (n := 2048) (iblk m c 0 t) a k
    = at2 (m := 2048) (n := 2048) (m ((c : Thread nD τ).loc main_arg0)) (t.val * 1024 + a) k :=
  at2_sub (m ((c : Thread nD τ).loc main_arg0)) ((cfg0.win 0).blk t).view.emb ha hk (by blk_simp [idx0]) (by blk_simp [idx0])
theorem read1 (t : Fin cfg0.N) (g b k : ℕ) (hg : g < 8) (hb : b < 1024) (hk : k < 256) : at3 (l := 8) (m := 1024) (n := 256) (iblk m c 1 t) g b k
    = at3 (l := 8) (m := 1024) (n := 256) (m ((c : Thread nD τ).loc main_arg1)) g b k :=
  at3_sub (m ((c : Thread nD τ).loc main_arg1)) ((cfg0.win 1).blk t).view.emb hg hb hk (by blk_simp [idx1]) (by blk_simp [idx1]) (by blk_simp [idx1])

/-- The array after the run: the product over all the columns. -/
theorem final : (dats m 0 c).arrAt 2 cfg0.N = fun i : S2048x1024.Idx => ∑ k ∈ Finset.range 2048,
    at2 (m := 2048) (n := 2048) (m ((c : Thread nD τ).loc main_arg0)) (i 0).val k
      * at3 (l := 8) (m := 1024) (n := 256) (m ((c : Thread nD τ).loc main_arg1)) (k / 256) (i 1).val (k % 256) := by
  refine (dats m 0 c).arrAt_eq_of_covers 2 _ (by decide +kernel) fun t hf y => ?_
  blk_simp
  rw [after0_2]
  unfold outsAt0
  frame_out
  have one := fun (s o ho hs inb inb' h) => mm_slice none (Facts₀.dot_S1024x256_S1024x256_S1024x1024_1_1_0_0_n_n_wf) (read0 m c t) (read1 m c t) s o ho hs rfl inb inb' h y
  have all := sum_eight 256 fun k => at2 (m := 2048) (n := 2048) (m ((c : Thread nD τ).loc main_arg0)) (t.val * 1024 + (y 0).val) k
      * at3 (l := 8) (m := 1024) (n := 256) (m ((c : Thread nD τ).loc main_arg1)) (k / 256) (y 1).val (k % 256)
  blk_simp [idx2]
  refine Eq.trans ?_ all
  refine congrArg₂ (· + ·) (congrArg₂ (· + ·) (congrArg₂ (· + ·) (congrArg₂ (· + ·) (congrArg₂ (· + ·) (congrArg₂ (· + ·)
    (congrArg₂ (· + ·) (one 0 0 rfl ?_ _ _ _) (one 1 256 rfl ?_ _ _ _)) (one 2 512 rfl ?_ _ _ _)) (one 3 768 rfl ?_ _ _ _))
    (one 4 1024 rfl ?_ _ _ _)) (one 5 1280 rfl ?_ _ _ _)) (one 6 1536 rfl ?_ _ _ _)) (one 7 1792 rfl ?_ _ _ _)
  all_goals norm_num

end Cert.DaoutIdeal.Block

namespace Cert.DaoutClaims

open Idealize.ShloMosaic Idealize.ShloMosaic.TcCoe Idealize.SL.Sem Cert.Product

attribute [local instance] Cert.Daout.Gen.facts Cert.DaoutIdeal.Gen.facts Cert.DaoutRefIdeal.Gen.facts

theorem frame_p : Cert.quiescent_Daout := fun m ρ _ => Cert.Daout.Gen.frame m ρ
theorem frame_pi : Cert.quiescent_DaoutIdeal := fun m ρ _ => Cert.DaoutIdeal.Gen.frame m ρ
theorem frame_ri : Cert.quiescent_DaoutRefIdeal := fun m ρ _ =>
  (θ_run Cert.DaoutRefIdeal.defs _ _).mono (fun r h => ⟨fun c => (h c).2,
      Idealize.ShloMosaic.sem_eq_zero_of_no_sems (by decide) r.2⟩)
    (Cert.DaoutRefIdeal.Value.run (F := Ideal) m ρ)
theorem preserves : Cert.preserves_Daout_DaoutIdeal := trivial

open Cert.DaoutRefIdeal.Read in
/-- The kernel's array is the reference's, element by element. -/
theorem algebraic : Cert.algebraic_DaoutIdeal_DaoutRefIdeal := by
  intro m ρ m' ρ' _ hagree
  refine ⟨_, Cert.DaoutIdeal.Value.run_blocks (F := Ideal) m ρ, ?_⟩
  refine (θ_run Cert.DaoutRefIdeal.defs _ _).mono (fun r h c => ?_)
    (Cert.DaoutRefIdeal.Value.run (F := Ideal) m' ρ')
  obtain ⟨a0, a1⟩ := hagree c
  refine ⟨(h c).1.trans ?_, (h c).2⟩
  rw [Cert.DaoutIdeal.Block.final, val_main_v6_eq, a0, a1]
  funext i
  have i1 : (i 1).val < 1024 := (i 1).isLt
  refine (val_main_v6_apply _ _ _).trans ?_
  rw [Finset.sum_range]
  refine Finset.sum_congr rfl fun k _ => congrArg₂ (· * ·) (at2_of _ _ rfl rfl) ?_
  rw [val_main_v3_apply, val_main_v2_apply]
  have hk := k.isLt
  refine at3_of _ _ ?_ ?_ ?_
  · show ((i 1).val * 2048 + k.val) / 256 % 8 = _; omega
  · show ((i 1).val * 2048 + k.val) / 2048 = _; omega
  · show ((i 1).val * 2048 + k.val) % 256 = _; omega

end Cert.DaoutClaims

end
-- ==== Proof.Waout.lean ====
/- The gradient of layer A's output projection's weights, one matrix per shard: columns by the columns that belong to the shard, the
   contraction over all tokens in one step. -/
module

public import proofs.«01_k».proof.Proof.Product
public import proofs.«01_k».proof.Defs
public import proofs.«01_k».proof.Proof.Gen.Waout.Frame
public import proofs.«01_k».proof.Proof.Gen.WaoutIdeal.Frame
public import proofs.«01_k».proof.Proof.Gen.WaoutIdeal.Value
public import proofs.«01_k».proof.Proof.Gen.WaoutRefIdeal.Run
public import proofs.«01_k».proof.Proof.Gen.WaoutRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.WaoutIdeal.Block

open Idealize.ShloMosaic Idealize.ShloMosaic.TcCoe Idealize.SL.Sem
open Idealize.ShloMosaic.Pipeline (Dat)
open Cert.WaoutIdeal Cert.WaoutIdeal.Gen Cert.Product

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![t.val, 0, 0] := (by decide +kernel : ∀ t : Fin grid0.N, _)

/-- The blocks the body reads, entry by entry. -/
theorem read0 (t : Fin cfg0.N) (k a : ℕ) (hk : k < 2048) (ha : a < 1024) : at2 (m := 2048) (n := 1024) (iblk m c 0 t) k a
    = at2 (m := 2048) (n := 1024) (m ((c : Thread nD τ).loc main_arg0)) k a :=
  at2_sub (m ((c : Thread nD τ).loc main_arg0)) ((cfg0.win 0).blk t).view.emb hk ha (by blk_simp [idx0]) (by blk_simp [idx0])
theorem read1 (t : Fin cfg0.N) (k b : ℕ) (hk : k < 2048) (hb : b < 256) : at2 (m := 2048) (n := 256) (iblk m c 1 t) k b
    = at2 (m := 2048) (n := 2048) (m ((c : Thread nD τ).loc main_arg1)) k (t.val * 256 + b) :=
  at2_sub (m ((c : Thread nD τ).loc main_arg1)) ((cfg0.win 1).blk t).view.emb hk hb (by blk_simp [idx1]) (by blk_simp [idx1])

/-- What the body writes, entry by entry. -/
theorem pay_apply {x : FVec Ideal S2048x1024 .bf16} {y : FVec Ideal S2048x256 .bf16} {X Y : ℕ → ℕ → EReal}
    (hx : ∀ k a, k < 2048 → a < 1024 → at2 (m := 2048) (n := 1024) x k a = X k a)
    (hy : ∀ k b, k < 2048 → b < 256 → at2 (m := 2048) (n := 256) y k b = Y k b) (j : S1x1024x256.Idx) :
    k0_pay1 (F := Ideal) x y j = ∑ k ∈ Finset.range 2048, X k (j 1).val * Y k (j 2).val :=
  (cast_stack _ _ j).trans (mm_cols_of none _ hx hy _)

/-- The array after the run: the transpose of the first argument by the shards' columns of the second. -/
theorem final : (dats m 0 c).arrAt 2 cfg0.N = fun i : S8x1024x256.Idx => ∑ k ∈ Finset.range 2048,
    at2 (m := 2048) (n := 1024) (m ((c : Thread nD τ).loc main_arg0)) k (i 1).val
      * at2 (m := 2048) (n := 2048) (m ((c : Thread nD τ).loc main_arg1)) k ((i 0).val * 256 + (i 2).val) := by
  refine (dats m 0 c).arrAt_eq_of_covers 2 _ (by decide +kernel) fun t hf y => ?_
  blk_simp
  rw [after0_2]
  unfold outsAt0
  frame_out
  refine (pay_apply (read0 m c t) (read1 m c t) y).trans ?_
  blk_simp [idx2]

end Cert.WaoutIdeal.Block

namespace Cert.WaoutClaims

open Idealize.ShloMosaic Idealize.ShloMosaic.TcCoe Idealize.SL.Sem Cert.Product

attribute [local instance] Cert.Waout.Gen.facts Cert.WaoutIdeal.Gen.facts Cert.WaoutRefIdeal.Gen.facts

theorem frame_p : Cert.quiescent_Waout := fun m ρ _ => Cert.Waout.Gen.frame m ρ
theorem frame_pi : Cert.quiescent_WaoutIdeal := fun m ρ _ => Cert.WaoutIdeal.Gen.frame m ρ
theorem frame_ri : Cert.quiescent_WaoutRefIdeal := fun m ρ _ =>
  (θ_run Cert.WaoutRefIdeal.defs _ _).mono (fun r h => ⟨fun c => (h c).2,
      Idealize.ShloMosaic.sem_eq_zero_of_no_sems (by decide) r.2⟩)
    (Cert.WaoutRefIdeal.Value.run (F := Ideal) m ρ)
theorem preserves : Cert.preserves_Waout_WaoutIdeal := trivial

open Cert.WaoutRefIdeal.Read in
/-- The kernel's array is the reference's, element by element. -/
theorem algebraic : Cert.algebraic_WaoutIdeal_WaoutRefIdeal := by
  intro m ρ m' ρ' _ hagree
  refine ⟨_, Cert.WaoutIdeal.Value.run_blocks (F := Ideal) m ρ, ?_⟩
  refine (θ_run Cert.WaoutRefIdeal.defs _ _).mono (fun r h c => ?_)
    (Cert.WaoutRefIdeal.Value.run (F := Ideal) m' ρ')
  obtain ⟨a0, a1⟩ := hagree c
  refine ⟨(h c).1.trans ?_, (h c).2⟩
  rw [Cert.WaoutIdeal.Block.final, val_main_v8_eq, a0, a1]
  funext i
  have i1 : (i 1).val < 1024 := (i 1).isLt
  have i0 : (i 0).val < 8 := (i 0).isLt
  have i2 : (i 2).val < 256 := (i 2).isLt
  rw [val_main_v8_apply, val_main_v7_apply, val_main_v6_apply, val_main_v5_apply]
  refine (val_main_v4_apply _ _ _).trans ?_
  rw [Finset.sum_range]
  refine Finset.sum_congr rfl fun k _ => (mul_comm _ _).trans (congrArg₂ (· * ·) ?_ ?_)
  · refine at2_of _ _ rfl ?_
    show (((i 1).val * 8 + (i 0).val) * 256 + (i 2).val) / 2048 = _
    omega
  · refine at2_of _ _ rfl ?_
    show (((i 1).val * 8 + (i 0).val) * 256 + (i 2).val) % 2048 = _
    omega

end Cert.WaoutClaims

end
-- ==== Proof.Up.lean ====
/- The up projection: blocks of rows by one shard's matrix, the whole contraction in one step; the columns of a shard go to their place
   in one of the two halves. -/
module

public import proofs.«01_k».proof.Proof.Product
public import proofs.«01_k».proof.Defs
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.UpIdeal.Block

open Idealize.ShloMosaic Idealize.ShloMosaic.TcCoe Idealize.SL.Sem
open Idealize.ShloMosaic.Pipeline (Dat)
open Cert.UpIdeal Cert.UpIdeal.Gen Cert.Product

variable (m : (ℓ : Loc nD τ sig) → Buf (Elt Ideal) ℓ) (c : Dev nD)

theorem idx0 : ∀ t : Fin cfg0.N, win0_0.index t = ![t.val % 2, 0] := (by decide +kernel : ∀ t : Fin grid0.N, _)
theorem idx1 : ∀ t : Fin cfg0.N, win0_1.index t = ![t.val / 2, 0, 0] := (by decide +kernel : ∀ t : Fin grid0.N, _)
theorem idx2 : ∀ t : Fin cfg0.N, win0_2.index t = ![t.val / 8, t.val % 2, t.val / 2 % 4] := (by decide +kernel : ∀ t : Fin grid0.N, _)

/-- The blocks the body reads, entry by entry. -/
theorem read0 (t : Fin cfg0.N) (a k : ℕ) (ha : a < 1024) (hk : k < 2048) : at2 (m := 1024) (n := 2048) (iblk m c 0 t) a k
    = at2 (m := 2048) (n := 2048) (m ((c : Thread nD τ).loc main_arg0)) (t.val % 2 * 1024 + a) k :=
  at2_sub (m ((c : Thread nD τ).loc main_arg0)) ((cfg0.win 0).blk t).view.emb ha hk (by blk_simp [idx0]) (by blk_simp [idx0])
theorem read1 (t : Fin cfg0.N) (k b : ℕ) (hk : k < 2048) (hb : b < 1408) : at3 (l := 1) (m := 2048) (n := 1408) (iblk m c 1 t) 0 k b
    = at3 (l := 8) (m := 2048) (n := 1408) (m ((c : Thread nD τ).loc main_arg1)) (t.val / 2) k b :=
  at3_sub (m ((c : Thread nD τ).loc main_arg1)) ((cfg0.win 1).blk t).view.emb Nat.one_pos hk hb (by blk_simp [idx1]) (by blk_simp [idx1]) (by blk_simp [idx1])

/-- What the body writes, entry by entry. -/
theorem pay_apply {x : FVec Ideal S1024x2048 .bf16} {y : FVec Ideal S1x2048x1408 .bf16} {X Y : ℕ → ℕ → EReal}
    (hx : ∀ a k, a < 1024 → k < 2048 → at2 (m := 1024) (n := 2048) x a k = X a k)
    (hy : ∀ k b, k < 2048 → b < 1408 → at3 (l := 1) (m := 2048) (n := 1408) y 0 k b = Y k b) (j : S1x1024x1408.Idx) :
    k0_pay1 (F := Ideal) x y j = ∑ k ∈ Finset.range 2048, X (j 1).val k * Y k (j 2).val :=
  (cast_stack _ _ j).trans (mm_plain_of none _ hx (fun k b hk hb => (at2_cast _ _ hk hb).trans (hy k b hk hb)) _)

/-- The array after the run: the products of the first argument with the shards' matrices. -/
theorem final : (dats m 0 c).arrAt 2 cfg0.N = fun i : S2x2048x5632.Idx => ∑ k ∈ Finset.range 2048,
    at2 (m := 2048) (n := 2048) (m ((c : Thread nD τ).loc main_arg0)) (i 1).val k
      * at3 (l := 8) (m := 2048) (n := 1408) (m ((c : Thread nD τ).loc main_arg1)) ((i 0).val * 4 + (i 2).val / 1408) k ((i 2).val % 1408) := by
  refine (dats m 0 c).arrAt_eq_of_covers 2 _ (by decide +kernel) fun t hf y => ?_
  blk_simp
  rw [after0_2]
  unfold outsAt0
  frame_out
  refine (pay_apply (read0 m c t) (read1 m c t) y).trans ?_
  have h2 : (y 2).val < 1408 := (y 2).isLt
  blk_simp [idx2]
  rw [show t.val / 8 * 4 + (t.val / 2 % 4 * 1408 + (y 2).val) / 1408 = t.val / 2 by omega,
    show (t.val / 2 % 4 * 1408 + (y 2).val) % 1408 = (y 2).val by omega]

end Cert.UpIdeal.Block

namespace Cert.UpClaims

open Idealize.ShloMosaic Idealize.ShloMosaic.TcCoe Idealize.SL.Sem Cert.Product

attribute [local instance] Cert.Up.Gen.facts Cert.UpIdeal.Gen.facts Cert.UpRefIdeal.Gen.facts

theorem frame_p : Cert.quiescent_Up := fun m ρ _ => Cert.Up.Gen.frame m ρ
theorem frame_pi : Cert.quiescent_UpIdeal := fun m ρ _ => Cert.UpIdeal.Gen.frame m ρ
theorem frame_ri : Cert.quiescent_UpRefIdeal := fun m ρ _ =>
  (θ_run Cert.UpRefIdeal.defs _ _).mono (fun r h => ⟨fun c => (h c).2,
      Idealize.ShloMosaic.sem_eq_zero_of_no_sems (by decide) r.2⟩)
    (Cert.UpRefIdeal.Value.run (F := Ideal) m ρ)
theorem preserves : Cert.preserves_Up_UpIdeal := trivial

open Cert.UpRefIdeal.Read in
/-- The kernel's array is the reference's, element by element. -/
theorem algebraic : Cert.algebraic_UpIdeal_UpRefIdeal := by
  intro m ρ m' ρ' _ hagree
  refine ⟨_, Cert.UpIdeal.Value.run_blocks (F := Ideal) m ρ, ?_⟩
  refine (θ_run Cert.UpRefIdeal.defs _ _).mono (fun r h c => ?_)
    (Cert.UpRefIdeal.Value.run (F := Ideal) m' ρ')
  obtain ⟨a0, a1⟩ := hagree c
  refine ⟨(h c).1.trans ?_, (h c).2⟩
  rw [Cert.UpIdeal.Block.final, val_main_v6_eq, a0, a1]
  funext i
  have i0 : (i 0).val < 2 := (i 0).isLt
  have i1 : (i 1).val < 2048 := (i 1).isLt
  have i2 : (i 2).val < 5632 := (i 2).isLt
  rw [val_main_v6_apply, val_main_v5_apply]
  refine (val_main_v4_apply _ _ _).trans ?_
  rw [Finset.sum_range]
  refine Finset.sum_congr rfl fun k _ => congrArg₂ (· * ·) ?_ ?_
  · refine at2_of _ _ ?_ rfl
    show (((i 1).val * 2 + (i 0).val) * 5632 + (i 2).val) / 11264 = _
    omega
  · rw [val_main_v3_apply, val_main_v2_apply]
    have hk := k.isLt
    refine at3_of _ _ ?_ ?_ ?_
    · show (k.val * 11264 + (((i 1).val * 2 + (i 0).val) * 5632 + (i 2).val) % 11264) / 1408 % 8 = _
      omega
    · show (k.val * 11264 + (((i 1).val * 2 + (i 0).val) * 5632 + (i 2).val) % 11264) / 11264 = _
      omega
    · show (k.val * 11264 + (((i 1).val * 2 + (i 0).val) * 5632 + (i 2).val) % 11264) % 1408 = _
      omega

end Cert.UpClaims

end
-- ==== Proof.Down.lean ====
/- The down projection and the residual: blocks of rows by blocks of columns, the contraction in two grid steps added up in the scratch. -/
module

public import proofs.«01_k».proof.Proof.Product
public import proofs.«01_k».proof.Defs
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.DownIdeal.Block

open Idealize.ShloMosaic Idealize.ShloMosaic.TcCoe Idealize.SL.Sem
open Idealize.ShloMosaic.Pipeline (Dat)
open Cert.DownIdeal Cert.DownIdeal.Gen Cert.Product

variable (m : (ℓ : Loc nD τ sig) → Buf (Elt Ideal) ℓ) (c : Dev nD)

theorem idx0 : ∀ t : Fin cfg0.N, win0_0.index t = ![t.val / 2 % 2, t.val % 2] := (by decide +kernel : ∀ t : Fin grid0.N, _)
theorem idx1 : ∀ t : Fin cfg0.N, win0_1.index t = ![t.val % 2, t.val / 4] := (by decide +kernel : ∀ t : Fin grid0.N, _)
theorem idx2 : ∀ t : Fin cfg0.N, win0_2.index t = ![t.val / 2 % 2, t.val / 4] := (by decide +kernel : ∀ t : Fin grid0.N, _)
theorem idx3 : ∀ t : Fin cfg0.N, win0_3.index t = ![t.val / 2 % 2, t.val / 4] := (by decide +kernel : ∀ t : Fin grid0.N, _)

/-- The blocks the body reads, entry by entry. -/
theorem read0 (t : Fin cfg0.N) (a k : ℕ) (ha : a < 1024) (hk : k < 2816) : at2 (m := 1024) (n := 2816) (iblk m c 0 t) a k
    = at2 (m := 2048) (n := 5632) (m ((c : Thread nD τ).loc main_arg0)) (t.val / 2 % 2 * 1024 + a) (t.val % 2 * 2816 + k) :=
  at2_sub (m ((c : Thread nD τ).loc main_arg0)) ((cfg0.win 0).blk t).view.emb ha hk (by blk_simp [idx0]) (by blk_simp [idx0])
theorem read1 (t : Fin cfg0.N) (k b : ℕ) (hk : k < 2816) (hb : b < 512) : at2 (m := 2816) (n := 512) (iblk m c 1 t) k b
    = at2 (m := 5632) (n := 2048) (m ((c : Thread nD τ).loc main_arg1)) (t.val % 2 * 2816 + k) (t.val / 4 * 512 + b) :=
  at2_sub (m ((c : Thread nD τ).loc main_arg1)) ((cfg0.win 1).blk t).view.emb hk hb (by blk_simp [idx1]) (by blk_simp [idx1])
theorem read2 (t : Fin cfg0.N) (y : S1024x512.Idx) : (iblk m c 2 t : FVec Ideal S1024x512 .f32) y
    = at2 (m := 2048) (n := 2048) (m ((c : Thread nD τ).loc main_arg2)) (t.val / 2 % 2 * 1024 + (y 0).val) (t.val / 4 * 512 + (y 1).val) :=
  at2_of (m ((c : Thread nD τ).loc main_arg2)) (((cfg0.win 2).blk t).view.emb y) (by blk_simp [idx2]) (by blk_simp [idx2])

/-- The summand of column `k` of the first argument. -/
def term (a b k : ℕ) : EReal := at2 (m := 2048) (n := 5632) (m ((c : Thread nD τ).loc main_arg0)) a k
  * at2 (m := 5632) (n := 2048) (m ((c : Thread nD τ).loc main_arg1)) k b

theorem step (t : Fin cfg0.N) (y : S1024x512.Idx) : k0_pay1 (F := Ideal) (iblk m c 0 t) (iblk m c 1 t) y
    = ∑ k ∈ Finset.range 2816, term m c (t.val / 2 % 2 * 1024 + (y 0).val) (t.val / 4 * 512 + (y 1).val) (t.val % 2 * 2816 + k) :=
  mm_plain_of none _ (read0 m c t) (read1 m c t) y

/-- What a pair of steps writes out. -/
theorem out (t : Fin cfg0.N) (h : t.val % 2 = 1) : (outsAt0 m c t.val t.isLt).1
    = addf (addf (k0_pay1 (F := Ideal) (iblk m c 0 ⟨t.val - 1, Nat.lt_of_le_of_lt (Nat.sub_le _ _) t.isLt⟩)
        (iblk m c 1 ⟨t.val - 1, Nat.lt_of_le_of_lt (Nat.sub_le _ _) t.isLt⟩))
      (k0_pay1 (F := Ideal) (iblk m c 0 t) (iblk m c 1 t))) (iblk m c 2 t : FVec Ideal S1024x512 .f32) := by
  have hp := outsAt0_A m c ⟨t.val - 1, Nat.lt_of_le_of_lt (Nat.sub_le _ _) t.isLt⟩ (by dsimp only; omega) (by dsimp only; omega) (by dsimp only; omega)
  dsimp only at hp
  rw [outsAt0_B m c t (by omega) h h]
  frame_out
  rw [hp]
  frame_out
  rw [show ∀ x, View.read (Elt Ideal) (View.whole cc0_scratch0) ((Memref.isWhole_whole cc0_scratch0).unread x) = x from
    fun x => (Memref.isWhole_whole cc0_scratch0).read_unread x]
  refine congrArg (fun v : FVec Ideal S1024x512 .f32 => addf v (show FVec Ideal S1024x512 .f32 from iblk m c 2 t)) ?_
  exact (cast_self _ _).trans (congrArg (addf · (k0_pay1 (F := Ideal) (iblk m c 0 t) (iblk m c 1 t))) (cast_self _ _))

/-- The array after the run: the product of the first two arguments, and the residual. -/
theorem final : (dats m 0 c).arrAt 3 cfg0.N = fun i : S2048x2048.Idx => ∑ k ∈ Finset.range 5632, term m c (i 0).val (i 1).val k
    + at2 (m := 2048) (n := 2048) (m ((c : Thread nD τ).loc main_arg2)) (i 0).val (i 1).val := by
  refine (dats m 0 c).arrAt_eq_of_covers 3 _ (by decide +kernel) fun t hf y => ?_
  have h : t.val % 2 = 1 := (flush0_3 t).mp hf
  blk_simp
  rw [after0_3, out m c t h]
  refine (congrArg₂ (· + ·) (congrArg₂ (· + ·) (step m c _ y) (step m c t y)) (read2 m c t y)).trans ?_
  dsimp only
  rw [show (t.val - 1) / 2 = t.val / 2 by omega, show (t.val - 1) / 4 = t.val / 4 by omega, show (t.val - 1) % 2 = 0 by omega, h]
  blk_simp [idx3]
  refine congrArg (· + _) (Eq.trans ?_ (sum_join 2816 2816 _))
  simp only [Nat.zero_mul, Nat.zero_add, Nat.one_mul]

end Cert.DownIdeal.Block

namespace Cert.DownClaims

open Idealize.ShloMosaic Idealize.ShloMosaic.TcCoe Idealize.SL.Sem Cert.Product

attribute [local instance] Cert.Down.Gen.facts Cert.DownIdeal.Gen.facts Cert.DownRefIdeal.Gen.facts

theorem frame_p : Cert.quiescent_Down := fun m ρ _ => Cert.Down.Gen.frame m ρ
theorem frame_pi : Cert.quiescent_DownIdeal := fun m ρ _ => Cert.DownIdeal.Gen.frame m ρ
theorem frame_ri : Cert.quiescent_DownRefIdeal := fun m ρ _ =>
  (θ_run Cert.DownRefIdeal.defs _ _).mono (fun r h => ⟨fun c => (h c).2,
      Idealize.ShloMosaic.sem_eq_zero_of_no_sems (by decide) r.2⟩)
    (Cert.DownRefIdeal.Value.run (F := Ideal) m ρ)
theorem preserves : Cert.preserves_Down_DownIdeal := trivial

open Cert.DownRefIdeal.Read in
/-- The kernel's array is the reference's, element by element. -/
theorem algebraic : Cert.algebraic_DownIdeal_DownRefIdeal := by
  intro m ρ m' ρ' _ hagree
  refine ⟨_, Cert.DownIdeal.Value.run_blocks (F := Ideal) m ρ, ?_⟩
  refine (θ_run Cert.DownRefIdeal.defs _ _).mono (fun r h c => ?_)
    (Cert.DownRefIdeal.Value.run (F := Ideal) m' ρ')
  obtain ⟨a0, a1, a2⟩ := hagree c
  refine ⟨(h c).1.trans ?_, (h c).2⟩
  rw [Cert.DownIdeal.Block.final, val_main_v3_eq, a0, a1, a2]
  funext i
  rw [val_main_v3_apply]
  refine (add_comm _ _).trans (congrArg₂ (· + ·) ?_ (at2_of _ _ rfl rfl))
  refine (val_main_v2_apply _ _ _).trans ?_
  rw [Finset.sum_range]
  exact Finset.sum_congr rfl fun k _ => congrArg₂ (· * ·) (at2_of _ _ rfl rfl) (at2_of _ _ rfl rfl)

end Cert.DownClaims

end
-- ==== Proof.Ain.lean ====
/- Layer A's input projection: blocks of rows by one shard's matrix, the whole contraction in one step. -/
module

public import proofs.«01_k».proof.Proof.Product
public import proofs.«01_k».proof.Defs
public import proofs.«01_k».proof.Proof.Gen.Ain.Frame
public import proofs.«01_k».proof.Proof.Gen.AinIdeal.Frame
public import proofs.«01_k».proof.Proof.Gen.AinIdeal.Value
public import proofs.«01_k».proof.Proof.Gen.AinRefIdeal.Run
public import proofs.«01_k».proof.Proof.Gen.AinRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.AinIdeal.Block

open Idealize.ShloMosaic Idealize.ShloMosaic.TcCoe Idealize.SL.Sem
open Idealize.ShloMosaic.Pipeline (Dat)
open Cert.AinIdeal Cert.AinIdeal.Gen Cert.Product

variable (m : (ℓ : Loc nD τ sig) → Buf (Elt Ideal) ℓ) (c : Dev nD)

theorem idx0 : ∀ t : Fin cfg0.N, win0_0.index t = ![t.val % 2, 0] := (by decide +kernel : ∀ t : Fin grid0.N, _)
theorem idx1 : ∀ t : Fin cfg0.N, win0_1.index t = ![t.val / 2, 0, 0] := (by decide +kernel : ∀ t : Fin grid0.N, _)
theorem idx2 : ∀ t : Fin cfg0.N, win0_2.index t = ![t.val % 2, t.val / 2] := (by decide +kernel : ∀ t : Fin grid0.N, _)

/-- The blocks the body reads, entry by entry. -/
theorem read0 (t : Fin cfg0.N) (a k : ℕ) (ha : a < 1024) (hk : k < 2048) : at2 (m := 1024) (n := 2048) (iblk m c 0 t) a k
    = at2 (m := 2048) (n := 2048) (m ((c : Thread nD τ).loc main_arg0)) (t.val % 2 * 1024 + a) k :=
  at2_sub (m ((c : Thread nD τ).loc main_arg0)) ((cfg0.win 0).blk t).view.emb ha hk (by blk_simp [idx0]) (by blk_simp [idx0])
theorem read1 (t : Fin cfg0.N) (k b : ℕ) (hk : k < 2048) (hb : b < 640) : at3 (l := 1) (m := 2048) (n := 640) (iblk m c 1 t) 0 k b
    = at3 (l := 8) (m := 2048) (n := 640) (m ((c : Thread nD τ).loc main_arg1)) (t.val / 2) k b :=
  at3_sub (m ((c : Thread nD τ).loc main_arg1)) ((cfg0.win 1).blk t).view.emb Nat.one_pos hk hb (by blk_simp [idx1]) (by blk_simp [idx1]) (by blk_simp [idx1])

/-- What the body writes, entry by entry. -/
theorem pay_apply {x : FVec Ideal S1024x2048 .bf16} {y : FVec Ideal S1x2048x640 .bf16} {X Y : ℕ → ℕ → EReal}
    (hx : ∀ a k, a < 1024 → k < 2048 → at2 (m := 1024) (n := 2048) x a k = X a k)
    (hy : ∀ k b, k < 2048 → b < 640 → at3 (l := 1) (m := 2048) (n := 640) y 0 k b = Y k b) (j : S1024x640.Idx) :
    k0_pay1 (F := Ideal) x y j = ∑ k ∈ Finset.range 2048, X (j 0).val k * Y k (j 1).val :=
  mm_plain_of (t := .bf16) none _ hx (fun k b hk hb => (at2_cast _ _ hk hb).trans (hy k b hk hb)) j

/-- The array after the run: the products of the first argument with the shards' matrices, side by side. -/
theorem final : (dats m 0 c).arrAt 2 cfg0.N = fun i : S2048x5120.Idx => ∑ k ∈ Finset.range 2048,
    at2 (m := 2048) (n := 2048) (m ((c : Thread nD τ).loc main_arg0)) (i 0).val k
      * at3 (l := 8) (m := 2048) (n := 640) (m ((c : Thread nD τ).loc main_arg1)) ((i 1).val / 640) k ((i 1).val % 640) := by
  refine (dats m 0 c).arrAt_eq_of_covers 2 _ (by decide +kernel) fun t hf y => ?_
  blk_simp
  rw [after0_2]
  unfold outsAt0
  frame_out
  refine (pay_apply (read0 m c t) (read1 m c t) y).trans ?_
  have h1 : (y 1).val < 640 := (y 1).isLt
  blk_simp [idx2]
  rw [show (t.val / 2 * 640 + (y 1).val) / 640 = t.val / 2 by omega, show (t.val / 2 * 640 + (y 1).val) % 640 = (y 1).val by omega]

end Cert.AinIdeal.Block

namespace Cert.AinClaims

open Idealize.ShloMosaic Idealize.ShloMosaic.TcCoe Idealize.SL.Sem Cert.Product

attribute [local instance] Cert.Ain.Gen.facts Cert.AinIdeal.Gen.facts Cert.AinRefIdeal.Gen.facts

theorem frame_p : Cert.quiescent_Ain := fun m ρ _ => Cert.Ain.Gen.frame m ρ
theorem frame_pi : Cert.quiescent_AinIdeal := fun m ρ _ => Cert.AinIdeal.Gen.frame m ρ
theorem frame_ri : Cert.quiescent_AinRefIdeal := fun m ρ _ =>
  (θ_run Cert.AinRefIdeal.defs _ _).mono (fun r h => ⟨fun c => (h c).2,
      Idealize.ShloMosaic.sem_eq_zero_of_no_sems (by decide) r.2⟩)
    (Cert.AinRefIdeal.Value.run (F := Ideal) m ρ)
theorem preserves : Cert.preserves_Ain_AinIdeal := trivial

open Cert.AinRefIdeal.Read in
/-- The kernel's array is the reference's, element by element. -/
theorem algebraic : Cert.algebraic_AinIdeal_AinRefIdeal := by
  intro m ρ m' ρ' _ hagree
  refine ⟨_, Cert.AinIdeal.Value.run_blocks (F := Ideal) m ρ, ?_⟩
  refine (θ_run Cert.AinRefIdeal.defs _ _).mono (fun r h c => ?_)
    (Cert.AinRefIdeal.Value.run (F := Ideal) m' ρ')
  obtain ⟨a0, a1⟩ := hagree c
  refine ⟨(h c).1.trans ?_, (h c).2⟩
  rw [Cert.AinIdeal.Block.final, val_main_v5_eq, a0, a1]
  funext i
  have i1 : (i 1).val < 5120 := (i 1).isLt
  rw [val_main_v5_apply]
  refine (val_main_v4_apply _ _ _).trans ?_
  rw [Finset.sum_range]
  refine Finset.sum_congr rfl fun k _ => congrArg₂ (· * ·) (at2_of _ _ rfl rfl) ?_
  rw [val_main_v3_apply, val_main_v2_apply]
  have hk := k.isLt
  refine at3_of _ _ ?_ ?_ ?_
  · show (k.val * 5120 + (i 1).val) / 640 % 8 = _; omega
  · show (k.val * 5120 + (i 1).val) / 5120 = _; omega
  · show (k.val * 5120 + (i 1).val) % 640 = _; omega

end Cert.AinClaims

end
-- ==== Proof.Aout.lean ====
/- Layer A's output projection and the residual: blocks of rows by one shard's matrix, the whole contraction in one step. -/
module

public import proofs.«01_k».proof.Proof.Product
public import proofs.«01_k».proof.Defs
public import proofs.«01_k».proof.Proof.Gen.Aout.Frame
public import proofs.«01_k».proof.Proof.Gen.AoutIdeal.Frame
public import proofs.«01_k».proof.Proof.Gen.AoutIdeal.Value
public import proofs.«01_k».proof.Proof.Gen.AoutRefIdeal.Run
public import proofs.«01_k».proof.Proof.Gen.AoutRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.AoutIdeal.Block

open Idealize.ShloMosaic Idealize.ShloMosaic.TcCoe Idealize.SL.Sem
open Idealize.ShloMosaic.Pipeline (Dat)
open Cert.AoutIdeal Cert.AoutIdeal.Gen Cert.Product

variable (m : (ℓ : Loc nD τ sig) → Buf (Elt Ideal) ℓ) (c : Dev nD)

theorem idx0 : ∀ t : Fin cfg0.N, win0_0.index t = ![t.val % 2, 0] := (by decide +kernel : ∀ t : Fin grid0.N, _)
theorem idx1 : ∀ t : Fin cfg0.N, win0_1.index t = ![t.val / 2, 0, 0] := (by decide +kernel : ∀ t : Fin grid0.N, _)
theorem idx2 : ∀ t : Fin cfg0.N, win0_2.index t = ![t.val % 2, t.val / 2] := (by decide +kernel : ∀ t : Fin grid0.N, _)
theorem idx3 : ∀ t : Fin cfg0.N, win0_3.index t = ![t.val % 2, t.val / 2] := (by decide +kernel : ∀ t : Fin grid0.N, _)

/-- The blocks the body reads, entry by entry. -/
theorem read0 (t : Fin cfg0.N) (a k : ℕ) (ha : a < 1024) (hk : k < 1024) : at2 (m := 1024) (n := 1024) (iblk m c 0 t) a k
    = at2 (m := 2048) (n := 1024) (m ((c : Thread nD τ).loc main_arg0)) (t.val % 2 * 1024 + a) k :=
  at2_sub (m ((c : Thread nD τ).loc main_arg0)) ((cfg0.win 0).blk t).view.emb ha hk (by blk_simp [idx0]) (by blk_simp [idx0])
theorem read1 (t : Fin cfg0.N) (k b : ℕ) (hk : k < 1024) (hb : b < 256) : at3 (l := 1) (m := 1024) (n := 256) (iblk m c 1 t) 0 k b
    = at3 (l := 8) (m := 1024) (n := 256) (m ((c : Thread nD τ).loc main_arg1)) (t.val / 2) k b :=
  at3_sub (m ((c : Thread nD τ).loc main_arg1)) ((cfg0.win 1).blk t).view.emb Nat.one_pos hk hb (by blk_simp [idx1]) (by blk_simp [idx1]) (by blk_simp [idx1])
theorem read2 (t : Fin cfg0.N) (y : S1024x256.Idx) : (iblk m c 2 t : FVec Ideal S1024x256 .f32) y
    = at2 (m := 2048) (n := 2048) (m ((c : Thread nD τ).loc main_arg2)) (t.val % 2 * 1024 + (y 0).val) (t.val / 2 * 256 + (y 1).val) :=
  at2_of (m ((c : Thread nD τ).loc main_arg2)) (((cfg0.win 2).blk t).view.emb y) (by blk_simp [idx2]) (by blk_simp [idx2])

/-- What the body writes, entry by entry. -/
theorem pay_apply {x : FVec Ideal S1024x1024 .bf16} {y : FVec Ideal S1x1024x256 .bf16} {X Y : ℕ → ℕ → EReal}
    (hx : ∀ a k, a < 1024 → k < 1024 → at2 (m := 1024) (n := 1024) x a k = X a k)
    (hy : ∀ k b, k < 1024 → b < 256 → at3 (l := 1) (m := 1024) (n := 256) y 0 k b = Y k b) (r : FVec Ideal S1024x256 .f32) (j : S1024x256.Idx) :
    k0_pay1 (F := Ideal) x y r j = ∑ k ∈ Finset.range 1024, X (j 0).val k * Y k (j 1).val + r j :=
  congrArg (· + r j) (mm_plain_of none _ hx (fun k b hk hb => (at2_cast _ _ hk hb).trans (hy k b hk hb)) j)

/-- The array after the run: the products of the first argument with the shards' matrices, side by side, and the residual. -/
theorem final : (dats m 0 c).arrAt 3 cfg0.N = fun i : S2048x2048.Idx => ∑ k ∈ Finset.range 1024,
    at2 (m := 2048) (n := 1024) (m ((c : Thread nD τ).loc main_arg0)) (i 0).val k
      * at3 (l := 8) (m := 1024) (n := 256) (m ((c : Thread nD τ).loc main_arg1)) ((i 1).val / 256) k ((i 1).val % 256)
      + at2 (m := 2048) (n := 2048) (m ((c : Thread nD τ).loc main_arg2)) (i 0).val (i 1).val := by
  refine (dats m 0 c).arrAt_eq_of_covers 3 _ (by decide +kernel) fun t hf y => ?_
  blk_simp
  rw [after0_3]
  unfold outsAt0
  frame_out
  refine (pay_apply (read0 m c t) (read1 m c t) (iblk m c 2 t) y).trans ?_
  have h1 : (y 1).val < 256 := (y 1).isLt
  rw [read2]
  blk_simp [idx3]
  rw [show (t.val / 2 * 256 + (y 1).val) / 256 = t.val / 2 by omega, show (t.val / 2 * 256 + (y 1).val) % 256 = (y 1).val by omega]

end Cert.AoutIdeal.Block

namespace Cert.AoutClaims

open Idealize.ShloMosaic Idealize.ShloMosaic.TcCoe Idealize.SL.Sem Cert.Product

attribute [local instance] Cert.Aout.Gen.facts Cert.AoutIdeal.Gen.facts Cert.AoutRefIdeal.Gen.facts

theorem frame_p : Cert.quiescent_Aout := fun m ρ _ => Cert.Aout.Gen.frame m ρ
theorem frame_pi : Cert.quiescent_AoutIdeal := fun m ρ _ => Cert.AoutIdeal.Gen.frame m ρ
theorem frame_ri : Cert.quiescent_AoutRefIdeal := fun m ρ _ =>
  (θ_run Cert.AoutRefIdeal.defs _ _).mono (fun r h => ⟨fun c => (h c).2,
      Idealize.ShloMosaic.sem_eq_zero_of_no_sems (by decide) r.2⟩)
    (Cert.AoutRefIdeal.Value.run (F := Ideal) m ρ)
theorem preserves : Cert.preserves_Aout_AoutIdeal := trivial

open Cert.AoutRefIdeal.Read in
/-- The kernel's array is the reference's, element by element. -/
theorem algebraic : Cert.algebraic_AoutIdeal_AoutRefIdeal := by
  intro m ρ m' ρ' _ hagree
  refine ⟨_, Cert.AoutIdeal.Value.run_blocks (F := Ideal) m ρ, ?_⟩
  refine (θ_run Cert.AoutRefIdeal.defs _ _).mono (fun r h c => ?_)
    (Cert.AoutRefIdeal.Value.run (F := Ideal) m' ρ')
  obtain ⟨a0, a1, a2⟩ := hagree c
  refine ⟨(h c).1.trans ?_, (h c).2⟩
  rw [Cert.AoutIdeal.Block.final, val_main_v5_eq, a0, a1, a2]
  funext i
  have i1 : (i 1).val < 2048 := (i 1).isLt
  rw [val_main_v5_apply]
  refine (add_comm _ _).trans (congrArg₂ (· + ·) ?_ (at2_of _ _ rfl rfl))
  refine (val_main_v4_apply _ _ _).trans ?_
  rw [Finset.sum_range]
  refine Finset.sum_congr rfl fun k _ => congrArg₂ (· * ·) (at2_of _ _ rfl rfl) ?_
  rw [val_main_v3_apply, val_main_v2_apply]
  have hk := k.isLt
  refine at3_of _ _ ?_ ?_ ?_
  · show (k.val * 2048 + (i 1).val) / 256 % 8 = _; omega
  · show (k.val * 2048 + (i 1).val) / 2048 = _; omega
  · show (k.val * 2048 + (i 1).val) % 256 = _; omega

end Cert.AoutClaims

end
-- ==== Proof.Bin.lean ====
/- Layer B's input projection: blocks of rows by blocks of columns, the whole contraction in one step. -/
module

public import proofs.«01_k».proof.Proof.Product
public import proofs.«01_k».proof.Defs
public import proofs.«01_k».proof.Proof.Gen.Bin.Frame
public import proofs.«01_k».proof.Proof.Gen.BinIdeal.Frame
public import proofs.«01_k».proof.Proof.Gen.BinIdeal.Value
public import proofs.«01_k».proof.Proof.Gen.BinRefIdeal.Run
public import proofs.«01_k».proof.Proof.Gen.BinRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.BinIdeal.Block

open Idealize.ShloMosaic Idealize.ShloMosaic.TcCoe Idealize.SL.Sem
open Idealize.ShloMosaic.Pipeline (Dat)
open Cert.BinIdeal Cert.BinIdeal.Gen Cert.Product

variable (m : (ℓ : Loc nD τ sig) → Buf (Elt Ideal) ℓ) (c : Dev nD)

theorem idx0 : ∀ t : Fin cfg0.N, win0_0.index t = ![t.val % 2, 0] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)

/-- The blocks the body reads, entry by entry. -/
theorem read0 (t : Fin cfg0.N) (a k : ℕ) (ha : a < 1024) (hk : k < 2048) : at2 (m := 1024) (n := 2048) (iblk m c 0 t) a k
    = at2 (m := 2048) (n := 2048) (m ((c : Thread nD τ).loc main_arg0)) (t.val % 2 * 1024 + a) k :=
  at2_sub (m ((c : Thread nD τ).loc main_arg0)) ((cfg0.win 0).blk t).view.emb ha hk (by blk_simp [idx0]) (by blk_simp [idx0])
theorem read1 (t : Fin cfg0.N) (k b : ℕ) (hk : k < 2048) (hb : b < 512) : at2 (m := 2048) (n := 512) (iblk m c 1 t) k b
    = at2 (m := 2048) (n := 3584) (m ((c : Thread nD τ).loc main_arg1)) k (t.val / 2 * 512 + b) :=
  at2_sub (m ((c : Thread nD τ).loc main_arg1)) ((cfg0.win 1).blk t).view.emb hk hb (by blk_simp [idx1]) (by blk_simp [idx1])

/-- The array after the run: the product of the two arguments. -/
theorem final : (dats m 0 c).arrAt 2 cfg0.N = fun i : S2048x3584.Idx => ∑ k ∈ Finset.range 2048,
    at2 (m := 2048) (n := 2048) (m ((c : Thread nD τ).loc main_arg0)) (i 0).val k
      * at2 (m := 2048) (n := 3584) (m ((c : Thread nD τ).loc main_arg1)) k (i 1).val := by
  refine (dats m 0 c).arrAt_eq_of_covers 2 _ (by decide +kernel) fun t hf y => ?_
  blk_simp
  rw [after0_2]
  unfold outsAt0
  frame_out
  refine (mm_plain_of none _ (read0 m c t) (read1 m c t) y).trans ?_
  blk_simp [idx2]

end Cert.BinIdeal.Block

namespace Cert.BinClaims

open Idealize.ShloMosaic Idealize.ShloMosaic.TcCoe Idealize.SL.Sem Cert.Product

attribute [local instance] Cert.Bin.Gen.facts Cert.BinIdeal.Gen.facts Cert.BinRefIdeal.Gen.facts

theorem frame_p : Cert.quiescent_Bin := fun m ρ _ => Cert.Bin.Gen.frame m ρ
theorem frame_pi : Cert.quiescent_BinIdeal := fun m ρ _ => Cert.BinIdeal.Gen.frame m ρ
theorem frame_ri : Cert.quiescent_BinRefIdeal := fun m ρ _ =>
  (θ_run Cert.BinRefIdeal.defs _ _).mono (fun r h => ⟨fun c => (h c).2,
      Idealize.ShloMosaic.sem_eq_zero_of_no_sems (by decide) r.2⟩)
    (Cert.BinRefIdeal.Value.run (F := Ideal) m ρ)
theorem preserves : Cert.preserves_Bin_BinIdeal := trivial

open Cert.BinRefIdeal.Read in
/-- The kernel's array is the reference's, element by element. -/
theorem algebraic : Cert.algebraic_BinIdeal_BinRefIdeal := by
  intro m ρ m' ρ' _ hagree
  refine ⟨_, Cert.BinIdeal.Value.run_blocks (F := Ideal) m ρ, ?_⟩
  refine (θ_run Cert.BinRefIdeal.defs _ _).mono (fun r h c => ?_)
    (Cert.BinRefIdeal.Value.run (F := Ideal) m' ρ')
  obtain ⟨a0, a1⟩ := hagree c
  refine ⟨(h c).1.trans ?_, (h c).2⟩
  rw [Cert.BinIdeal.Block.final, val_main_v2_eq, a0, a1]
  funext i
  rw [val_main_v2_apply, Finset.sum_range]
  exact Finset.sum_congr rfl fun k _ => congrArg₂ (· * ·) (at2_of _ _ rfl rfl) (at2_of _ _ rfl rfl)

end Cert.BinClaims

end
-- ==== Proof.Bout.lean ====
/- Layer B's output projection and the residual: blocks of rows by blocks of columns, the whole contraction in one step. -/
module

public import proofs.«01_k».proof.Proof.Product
public import proofs.«01_k».proof.Defs
public import proofs.«01_k».proof.Proof.Gen.Bout.Frame
public import proofs.«01_k».proof.Proof.Gen.BoutIdeal.Frame
public import proofs.«01_k».proof.Proof.Gen.BoutIdeal.Value
public import proofs.«01_k».proof.Proof.Gen.BoutRefIdeal.Run
public import proofs.«01_k».proof.Proof.Gen.BoutRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.BoutIdeal.Block

open Idealize.ShloMosaic Idealize.ShloMosaic.TcCoe Idealize.SL.Sem
open Idealize.ShloMosaic.Pipeline (Dat)
open Cert.BoutIdeal Cert.BoutIdeal.Gen Cert.Product

variable (m : (ℓ : Loc nD τ sig) → Buf (Elt Ideal) ℓ) (c : Dev nD)

theorem idx0 : ∀ t : Fin cfg0.N, win0_0.index t = ![t.val % 2, 0] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)
theorem idx3 : ∀ t : Fin cfg0.N, win0_3.index t = ![t.val % 2, t.val / 2] := (by decide +kernel : ∀ t : Fin grid0.N, _)

/-- The blocks the body reads, entry by entry. -/
theorem read0 (t : Fin cfg0.N) (a k : ℕ) (ha : a < 1024) (hk : k < 2048) : at2 (m := 1024) (n := 2048) (iblk m c 0 t) a k
    = at2 (m := 2048) (n := 2048) (m ((c : Thread nD τ).loc main_arg0)) (t.val % 2 * 1024 + a) k :=
  at2_sub (m ((c : Thread nD τ).loc main_arg0)) ((cfg0.win 0).blk t).view.emb ha hk (by blk_simp [idx0]) (by blk_simp [idx0])
theorem read1 (t : Fin cfg0.N) (k b : ℕ) (hk : k < 2048) (hb : b < 512) : at2 (m := 2048) (n := 512) (iblk m c 1 t) k b
    = at2 (m := 2048) (n := 2048) (m ((c : Thread nD τ).loc main_arg1)) k (t.val / 2 * 512 + b) :=
  at2_sub (m ((c : Thread nD τ).loc main_arg1)) ((cfg0.win 1).blk t).view.emb hk hb (by blk_simp [idx1]) (by blk_simp [idx1])
theorem read2 (t : Fin cfg0.N) (y : S1024x512.Idx) : (iblk m c 2 t : FVec Ideal S1024x512 .f32) y
    = at2 (m := 2048) (n := 2048) (m ((c : Thread nD τ).loc main_arg2)) (t.val % 2 * 1024 + (y 0).val) (t.val / 2 * 512 + (y 1).val) :=
  at2_of (m ((c : Thread nD τ).loc main_arg2)) (((cfg0.win 2).blk t).view.emb y) (by blk_simp [idx2]) (by blk_simp [idx2])

/-- The array after the run: the product of the first two arguments, and the residual. -/
theorem final : (dats m 0 c).arrAt 3 cfg0.N = fun i : S2048x2048.Idx => ∑ k ∈ Finset.range 2048,
    at2 (m := 2048) (n := 2048) (m ((c : Thread nD τ).loc main_arg0)) (i 0).val k
      * at2 (m := 2048) (n := 2048) (m ((c : Thread nD τ).loc main_arg1)) k (i 1).val
      + at2 (m := 2048) (n := 2048) (m ((c : Thread nD τ).loc main_arg2)) (i 0).val (i 1).val := by
  refine (dats m 0 c).arrAt_eq_of_covers 3 _ (by decide +kernel) fun t hf y => ?_
  blk_simp
  rw [after0_3]
  unfold outsAt0
  frame_out
  refine (congrArg₂ (· + ·) (mm_plain_of none _ (read0 m c t) (read1 m c t) y) (read2 m c t y)).trans ?_
  blk_simp [idx3]

end Cert.BoutIdeal.Block

namespace Cert.BoutClaims

open Idealize.ShloMosaic Idealize.ShloMosaic.TcCoe Idealize.SL.Sem Cert.Product

attribute [local instance] Cert.Bout.Gen.facts Cert.BoutIdeal.Gen.facts Cert.BoutRefIdeal.Gen.facts

theorem frame_p : Cert.quiescent_Bout := fun m ρ _ => Cert.Bout.Gen.frame m ρ
theorem frame_pi : Cert.quiescent_BoutIdeal := fun m ρ _ => Cert.BoutIdeal.Gen.frame m ρ
theorem frame_ri : Cert.quiescent_BoutRefIdeal := fun m ρ _ =>
  (θ_run Cert.BoutRefIdeal.defs _ _).mono (fun r h => ⟨fun c => (h c).2,
      Idealize.ShloMosaic.sem_eq_zero_of_no_sems (by decide) r.2⟩)
    (Cert.BoutRefIdeal.Value.run (F := Ideal) m ρ)
theorem preserves : Cert.preserves_Bout_BoutIdeal := trivial

open Cert.BoutRefIdeal.Read in
/-- The kernel's array is the reference's, element by element. -/
theorem algebraic : Cert.algebraic_BoutIdeal_BoutRefIdeal := by
  intro m ρ m' ρ' _ hagree
  refine ⟨_, Cert.BoutIdeal.Value.run_blocks (F := Ideal) m ρ, ?_⟩
  refine (θ_run Cert.BoutRefIdeal.defs _ _).mono (fun r h c => ?_)
    (Cert.BoutRefIdeal.Value.run (F := Ideal) m' ρ')
  obtain ⟨a0, a1, a2⟩ := hagree c
  refine ⟨(h c).1.trans ?_, (h c).2⟩
  rw [Cert.BoutIdeal.Block.final, val_main_v3_eq, a0, a1, a2]
  funext i
  rw [val_main_v3_apply]
  refine (add_comm _ _).trans (congrArg₂ (· + ·) ?_ (at2_of _ _ rfl rfl))
  refine (val_main_v2_apply _ _ _).trans ?_
  rw [Finset.sum_range]
  exact Finset.sum_congr rfl fun k _ => congrArg₂ (· * ·) (at2_of _ _ rfl rfl) (at2_of _ _ rfl rfl)

end Cert.BoutClaims

end
-- ==== Proof.Kvproj.lean ====
/- The keys and values of the memory: all rows by blocks of columns, the whole contraction in one step. -/
module

public import proofs.«01_k».proof.Proof.Product
public import proofs.«01_k».proof.Defs
public import proofs.«01_k».proof.Proof.Gen.Kvproj.Frame
public import proofs.«01_k».proof.Proof.Gen.KvprojIdeal.Frame
public import proofs.«01_k».proof.Proof.Gen.KvprojIdeal.Value
public import proofs.«01_k».proof.Proof.Gen.KvprojRefIdeal.Run
public import proofs.«01_k».proof.Proof.Gen.KvprojRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.KvprojIdeal.Block

open Idealize.ShloMosaic Idealize.ShloMosaic.TcCoe Idealize.SL.Sem
open Idealize.ShloMosaic.Pipeline (Dat)
open Cert.KvprojIdeal Cert.KvprojIdeal.Gen Cert.Product

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)

/-- The blocks the body reads, entry by entry. -/
theorem read0 (t : Fin cfg0.N) (a k : ℕ) (ha : a < 256) (hk : k < 2048) : at2 (m := 256) (n := 2048) (iblk m c 0 t) a k
    = at2 (m := 256) (n := 2048) (m ((c : Thread nD τ).loc main_arg0)) (0 * 256 + a) k :=
  at2_sub (m ((c : Thread nD τ).loc main_arg0)) ((cfg0.win 0).blk t).view.emb ha hk (by blk_simp [idx0]) (by blk_simp [idx0])
theorem read1 (t : Fin cfg0.N) (k b : ℕ) (hk : k < 2048) (hb : b < 512) : at2 (m := 2048) (n := 512) (iblk m c 1 t) k b
    = at2 (m := 2048) (n := 1024) (m ((c : Thread nD τ).loc main_arg1)) k (t.val * 512 + b) :=
  at2_sub (m ((c : Thread nD τ).loc main_arg1)) ((cfg0.win 1).blk t).view.emb hk hb (by blk_simp [idx1]) (by blk_simp [idx1])

/-- The array after the run: the product of the two arguments. -/
theorem final : (dats m 0 c).arrAt 2 cfg0.N = fun i : S256x1024.Idx => ∑ k ∈ Finset.range 2048,
    at2 (m := 256) (n := 2048) (m ((c : Thread nD τ).loc main_arg0)) (i 0).val k
      * at2 (m := 2048) (n := 1024) (m ((c : Thread nD τ).loc main_arg1)) k (i 1).val := by
  refine (dats m 0 c).arrAt_eq_of_covers 2 _ (by decide +kernel) fun t hf y => ?_
  blk_simp
  rw [after0_2]
  unfold outsAt0
  frame_out
  refine (mm_plain_of none _ (read0 m c t) (read1 m c t) y).trans ?_
  blk_simp [idx2]

end Cert.KvprojIdeal.Block

namespace Cert.KvprojClaims

open Idealize.ShloMosaic Idealize.ShloMosaic.TcCoe Idealize.SL.Sem Cert.Product

attribute [local instance] Cert.Kvproj.Gen.facts Cert.KvprojIdeal.Gen.facts Cert.KvprojRefIdeal.Gen.facts

theorem frame_p : Cert.quiescent_Kvproj := fun m ρ _ => Cert.Kvproj.Gen.frame m ρ
theorem frame_pi : Cert.quiescent_KvprojIdeal := fun m ρ _ => Cert.KvprojIdeal.Gen.frame m ρ
theorem frame_ri : Cert.quiescent_KvprojRefIdeal := fun m ρ _ =>
  (θ_run Cert.KvprojRefIdeal.defs _ _).mono (fun r h => ⟨fun c => (h c).2,
      Idealize.ShloMosaic.sem_eq_zero_of_no_sems (by decide) r.2⟩)
    (Cert.KvprojRefIdeal.Value.run (F := Ideal) m ρ)
theorem preserves : Cert.preserves_Kvproj_KvprojIdeal := trivial

open Cert.KvprojRefIdeal.Read in
/-- The kernel's array is the reference's, element by element. -/
theorem algebraic : Cert.algebraic_KvprojIdeal_KvprojRefIdeal := by
  intro m ρ m' ρ' _ hagree
  refine ⟨_, Cert.KvprojIdeal.Value.run_blocks (F := Ideal) m ρ, ?_⟩
  refine (θ_run Cert.KvprojRefIdeal.defs _ _).mono (fun r h c => ?_)
    (Cert.KvprojRefIdeal.Value.run (F := Ideal) m' ρ')
  obtain ⟨a0, a1⟩ := hagree c
  refine ⟨(h c).1.trans ?_, (h c).2⟩
  rw [Cert.KvprojIdeal.Block.final, val_main_v2_eq, a0, a1]
  funext i
  rw [val_main_v2_apply, Finset.sum_range]
  exact Finset.sum_congr rfl fun k _ => congrArg₂ (· * ·) (at2_of _ _ rfl rfl) (at2_of _ _ rfl rfl)

end Cert.KvprojClaims

end
-- ==== Proof.Dkvproj.lean ====
/- The gradient of the normed memory: all rows by blocks of rows of the weights, the whole contraction in one step. -/
module

public import proofs.«01_k».proof.Proof.Product
public import proofs.«01_k».proof.Defs
public import proofs.«01_k».proof.Proof.Gen.Dkvproj.Frame
public import proofs.«01_k».proof.Proof.Gen.DkvprojIdeal.Frame
public import proofs.«01_k».proof.Proof.Gen.DkvprojIdeal.Value
public import proofs.«01_k».proof.Proof.Gen.DkvprojRefIdeal.Run
public import proofs.«01_k».proof.Proof.Gen.DkvprojRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.DkvprojIdeal.Block

open Idealize.ShloMosaic Idealize.ShloMosaic.TcCoe Idealize.SL.Sem
open Idealize.ShloMosaic.Pipeline (Dat)
open Cert.DkvprojIdeal Cert.DkvprojIdeal.Gen Cert.Product

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, t.val] := (by decide +kernel : ∀ t : Fin grid0.N, _)

/-- The blocks the body reads, entry by entry. -/
theorem read0 (t : Fin cfg0.N) (a k : ℕ) (ha : a < 256) (hk : k < 1024) : at2 (m := 256) (n := 1024) (iblk m c 0 t) a k
    = at2 (m := 256) (n := 1024) (m ((c : Thread nD τ).loc main_arg0)) (0 * 256 + a) k :=
  at2_sub (m ((c : Thread nD τ).loc main_arg0)) ((cfg0.win 0).blk t).view.emb ha hk (by blk_simp [idx0]) (by blk_simp [idx0])
theorem read1 (t : Fin cfg0.N) (b k : ℕ) (hb : b < 1024) (hk : k < 1024) : at2 (m := 1024) (n := 1024) (iblk m c 1 t) b k
    = at2 (m := 2048) (n := 1024) (m ((c : Thread nD τ).loc main_arg1)) (t.val * 1024 + b) k :=
  at2_sub (m ((c : Thread nD τ).loc main_arg1)) ((cfg0.win 1).blk t).view.emb hb hk (by blk_simp [idx1]) (by blk_simp [idx1])

/-- The array after the run: the product of the two arguments. -/
theorem final : (dats m 0 c).arrAt 2 cfg0.N = fun i : S256x2048.Idx => ∑ k ∈ Finset.range 1024,
    at2 (m := 256) (n := 1024) (m ((c : Thread nD τ).loc main_arg0)) (i 0).val k
      * at2 (m := 2048) (n := 1024) (m ((c : Thread nD τ).loc main_arg1)) (i 1).val k := by
  refine (dats m 0 c).arrAt_eq_of_covers 2 _ (by decide +kernel) fun t hf y => ?_
  blk_simp
  rw [after0_2]
  unfold outsAt0
  frame_out
  refine (mm_rows_of none _ (read0 m c t) (read1 m c t) y).trans ?_
  blk_simp [idx2]

end Cert.DkvprojIdeal.Block

namespace Cert.DkvprojClaims

open Idealize.ShloMosaic Idealize.ShloMosaic.TcCoe Idealize.SL.Sem Cert.Product

attribute [local instance] Cert.Dkvproj.Gen.facts Cert.DkvprojIdeal.Gen.facts Cert.DkvprojRefIdeal.Gen.facts

theorem frame_p : Cert.quiescent_Dkvproj := fun m ρ _ => Cert.Dkvproj.Gen.frame m ρ
theorem frame_pi : Cert.quiescent_DkvprojIdeal := fun m ρ _ => Cert.DkvprojIdeal.Gen.frame m ρ
theorem frame_ri : Cert.quiescent_DkvprojRefIdeal := fun m ρ _ =>
  (θ_run Cert.DkvprojRefIdeal.defs _ _).mono (fun r h => ⟨fun c => (h c).2,
      Idealize.ShloMosaic.sem_eq_zero_of_no_sems (by decide) r.2⟩)
    (Cert.DkvprojRefIdeal.Value.run (F := Ideal) m ρ)
theorem preserves : Cert.preserves_Dkvproj_DkvprojIdeal := trivial

open Cert.DkvprojRefIdeal.Read in
/-- The kernel's array is the reference's, element by element. -/
theorem algebraic : Cert.algebraic_DkvprojIdeal_DkvprojRefIdeal := by
  intro m ρ m' ρ' _ hagree
  refine ⟨_, Cert.DkvprojIdeal.Value.run_blocks (F := Ideal) m ρ, ?_⟩
  refine (θ_run Cert.DkvprojRefIdeal.defs _ _).mono (fun r h c => ?_)
    (Cert.DkvprojRefIdeal.Value.run (F := Ideal) m' ρ')
  obtain ⟨a0, a1⟩ := hagree c
  refine ⟨(h c).1.trans ?_, (h c).2⟩
  rw [Cert.DkvprojIdeal.Block.final, val_main_v3_eq, a0, a1]
  funext i
  rw [val_main_v3_apply, Finset.sum_range]
  exact Finset.sum_congr rfl fun k _ => congrArg₂ (· * ·) (at2_of _ _ rfl rfl) (at2_of _ _ rfl rfl)

end Cert.DkvprojClaims

end
-- ==== Proof.Wkv.lean ====
/- The gradient of the memory's key and value projection: blocks of rows by all columns, the whole contraction in one step. -/
module

public import proofs.«01_k».proof.Proof.Product
public import proofs.«01_k».proof.Defs
public import proofs.«01_k».proof.Proof.Gen.Wkv.Frame
public import proofs.«01_k».proof.Proof.Gen.WkvIdeal.Frame
public import proofs.«01_k».proof.Proof.Gen.WkvIdeal.Value
public import proofs.«01_k».proof.Proof.Gen.WkvRefIdeal.Run
public import proofs.«01_k».proof.Proof.Gen.WkvRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.WkvIdeal.Block

open Idealize.ShloMosaic Idealize.ShloMosaic.TcCoe Idealize.SL.Sem
open Idealize.ShloMosaic.Pipeline (Dat)
open Cert.WkvIdeal Cert.WkvIdeal.Gen Cert.Product

variable (m : (ℓ : Loc nD τ sig) → Buf (Elt Ideal) ℓ) (c : Dev nD)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- The blocks the body reads, entry by entry. -/
theorem read0 (t : Fin cfg0.N) (k a : ℕ) (hk : k < 256) (ha : a < 1024) : at2 (m := 256) (n := 1024) (iblk m c 0 t) k a
    = at2 (m := 256) (n := 2048) (m ((c : Thread nD τ).loc main_arg0)) k (t.val * 1024 + a) :=
  at2_sub (m ((c : Thread nD τ).loc main_arg0)) ((cfg0.win 0).blk t).view.emb hk ha (by blk_simp [idx0]) (by blk_simp [idx0])
theorem read1 (t : Fin cfg0.N) (k b : ℕ) (hk : k < 256) (hb : b < 1024) : at2 (m := 256) (n := 1024) (iblk m c 1 t) k b
    = at2 (m := 256) (n := 1024) (m ((c : Thread nD τ).loc main_arg1)) k (0 * 1024 + b) :=
  at2_sub (m ((c : Thread nD τ).loc main_arg1)) ((cfg0.win 1).blk t).view.emb hk hb (by blk_simp [idx1]) (by blk_simp [idx1])

/-- The array after the run: the product of the two arguments. -/
theorem final : (dats m 0 c).arrAt 2 cfg0.N = fun i : S2048x1024.Idx => ∑ k ∈ Finset.range 256,
    at2 (m := 256) (n := 2048) (m ((c : Thread nD τ).loc main_arg0)) k (i 0).val
      * at2 (m := 256) (n := 1024) (m ((c : Thread nD τ).loc main_arg1)) k (i 1).val := by
  refine (dats m 0 c).arrAt_eq_of_covers 2 _ (by decide +kernel) fun t hf y => ?_
  blk_simp
  rw [after0_2]
  unfold outsAt0
  frame_out
  refine (mm_cols_of (s := .bf16) (t := .bf16) none _ (read0 m c t) (read1 m c t) y).trans ?_
  blk_simp [idx2]

end Cert.WkvIdeal.Block

namespace Cert.WkvClaims

open Idealize.ShloMosaic Idealize.ShloMosaic.TcCoe Idealize.SL.Sem Cert.Product

attribute [local instance] Cert.Wkv.Gen.facts Cert.WkvIdeal.Gen.facts Cert.WkvRefIdeal.Gen.facts

theorem frame_p : Cert.quiescent_Wkv := fun m ρ _ => Cert.Wkv.Gen.frame m ρ
theorem frame_pi : Cert.quiescent_WkvIdeal := fun m ρ _ => Cert.WkvIdeal.Gen.frame m ρ
theorem frame_ri : Cert.quiescent_WkvRefIdeal := fun m ρ _ =>
  (θ_run Cert.WkvRefIdeal.defs _ _).mono (fun r h => ⟨fun c => (h c).2,
      Idealize.ShloMosaic.sem_eq_zero_of_no_sems (by decide) r.2⟩)
    (Cert.WkvRefIdeal.Value.run (F := Ideal) m ρ)
theorem preserves : Cert.preserves_Wkv_WkvIdeal := trivial

/-- The kernel's array is the reference's, element by element. -/
theorem algebraic : Cert.algebraic_WkvIdeal_WkvRefIdeal := by
  intro m ρ m' ρ' _ hagree
  refine ⟨_, Cert.WkvIdeal.Value.run_blocks (F := Ideal) m ρ, ?_⟩
  refine (θ_run Cert.WkvRefIdeal.defs _ _).mono (fun r h c => ?_)
    (Cert.WkvRefIdeal.Value.run (F := Ideal) m' ρ')
  obtain ⟨a0, a1⟩ := hagree c
  refine ⟨(h c).1.trans ?_, (h c).2⟩
  rw [Cert.WkvIdeal.Block.final, Cert.WkvRefIdeal.Read.val_main_v5_eq, a0, a1]
  funext i
  rw [Cert.WkvRefIdeal.Read.val_main_v5_apply, Cert.WkvRefIdeal.Read.val_main_v4_apply]
  refine (Cert.WkvRefIdeal.Read.val_main_v3_apply _ _ _).trans ?_
  rw [Finset.sum_range]
  exact Finset.sum_congr rfl fun k _ => (mul_comm _ _).trans (congrArg₂ (· * ·) (at2_of _ _ rfl rfl) (at2_of _ _ rfl rfl))

end Cert.WkvClaims

end
-- ==== Proof.Memory.lean ====
/- The backward pass of one head's memory attention, over the extended reals: `Q i e`, `K j e`, `V j e` and `D i e` are the
   queries, the keys, the values and the cotangent of the result at natural numbers. First the mathematics, with what is
   needed to move the scale and the softmax's denominator through the sums; then the operations of a block of rows. -/
module

public import proofs.«01_k».proof.Proof.Product
public import Idealize.ShloMosaic.Lib.KernelVsHost

@[expose] public section

noncomputable section

namespace Cert.Memory

open Idealize.ShloMosaic Idealize.ShloMosaic.ValueIdx Cert.Product

/-! ## The mathematics of a head of width 128 over 256 memory positions -/

section
variable (c : EReal) (Q K V D : ℕ → ℕ → EReal)

/-- The largest of the first `n` values. -/
def top (n : ℕ) (f : ℕ → EReal) : EReal := (Finset.univ : Finset (Fin n)).fold max ⊥ fun k => f k.val
def score (i j : ℕ) : EReal := (∑ e ∈ Finset.range 128, Q i e * K j e) * c
def wt (i j : ℕ) : EReal := Ideal.exp (score c Q K i j - top 256 (score c Q K i))
def den (i : ℕ) : EReal := ∑ j ∈ Finset.range 256, wt c Q K i j
/-- The attention of row `i` to position `j`. -/
def prob (i j : ℕ) : EReal := Ideal.div (wt c Q K i j) (den c Q K i)
/-- The cotangent of the attention. -/
def dprob (i j : ℕ) : EReal := ∑ e ∈ Finset.range 128, D i e * V j e
/-- The cotangent of the scores before the scale. -/
def dscore (i j : ℕ) : EReal :=
  prob c Q K i j * (dprob V D i j - ∑ k ∈ Finset.range 256, dprob V D i k * prob c Q K i k)
def dquery (i e : ℕ) : EReal := (∑ j ∈ Finset.range 256, dscore c Q K V D i j * K j e) * c
/-- The cotangents of the keys and of the values from `n` rows. -/
def dkey (n j e : ℕ) : EReal := (∑ i ∈ Finset.range n, dscore c Q K V D i j * Q i e) * c
def dvalue (n j e : ℕ) : EReal := ∑ i ∈ Finset.range n, prob c Q K i j * D i e
end

/-! ## Positive factors -/

theorem mul_add_pos {r : ℝ} (h : 0 ≤ r) (x y : EReal) : (r : EReal) * (x + y) = r * x + r * y :=
  EReal.left_distrib_of_nonneg_of_ne_top (EReal.coe_nonneg.mpr h) (EReal.coe_ne_top r) x y

theorem mul_sum_pos {r : ℝ} (h : 0 ≤ r) (n : ℕ) (f : ℕ → EReal) :
    (r : EReal) * ∑ k ∈ Finset.range n, f k = ∑ k ∈ Finset.range n, (r : EReal) * f k := by
  induction n with
  | zero => simp
  | succ n ih => rw [Finset.sum_range_succ, Finset.sum_range_succ, mul_add_pos h, ih]

theorem sum_mul_pos {r : ℝ} (h : 0 ≤ r) (n : ℕ) (f : ℕ → EReal) :
    (∑ k ∈ Finset.range n, f k) * (r : EReal) = ∑ k ∈ Finset.range n, f k * (r : EReal) := by
  rw [mul_comm, mul_sum_pos h]
  exact Finset.sum_congr rfl fun k _ => mul_comm _ _

/-! ## Where the queries and the keys are real, the weights and the denominator are positive numbers -/

section
variable {r : ℝ} {Q K : ℕ → ℕ → EReal} (hQ : ∀ i e, ∃ x : ℝ, Q i e = x) (hK : ∀ j e, ∃ x : ℝ, K j e = x)
include hQ hK

theorem score_real (i j : ℕ) : ∃ x : ℝ, score (r : EReal) Q K i j = x := by
  choose q hq using hQ
  choose k hk using hK
  refine ⟨(∑ e ∈ Finset.range 128, q i e * k j e) * r, ?_⟩
  rw [score, EReal.coe_mul]
  refine congrArg (· * (r : EReal)) ?_
  generalize 128 = n
  induction n with
  | zero => rfl
  | succ n ih => rw [Finset.sum_range_succ, Finset.sum_range_succ, ih, EReal.coe_add, EReal.coe_mul, hq, hk]

theorem wt_real (i j : ℕ) : ∃ x : ℝ, 0 < x ∧ wt (r : EReal) Q K i j = x := by
  have hs := fun j => score_real (r := r) hQ hK i j
  obtain ⟨t, ht⟩ : ∃ t : ℝ, top 256 (score (r : EReal) Q K i) = t := by
    have h1 : top 256 (score (r : EReal) Q K i) < ⊤ := Finset.fold_max_lt _ |>.mpr
      ⟨bot_lt_top, fun k _ => by obtain ⟨x, hx⟩ := hs k.val; rw [hx]; exact EReal.coe_lt_top x⟩
    have h2 : ⊥ < top 256 (score (r : EReal) Q K i) := by
      refine Finset.lt_fold_max _ |>.mpr (.inr ⟨⟨0, by decide⟩, Finset.mem_univ _, ?_⟩)
      obtain ⟨x, hx⟩ := hs 0
      rw [hx]; exact EReal.bot_lt_coe x
    exact ⟨_, (EReal.coe_toReal h1.ne h2.ne').symm⟩
  obtain ⟨s, hs⟩ := hs j
  refine ⟨Real.exp (s - t), Real.exp_pos _, ?_⟩
  rw [wt, hs, ht, ← EReal.coe_sub, Ideal.exp_coe]

theorem den_real (i : ℕ) : ∃ x : ℝ, 0 < x ∧ den (r : EReal) Q K i = x := by
  choose w hw using wt_real (r := r) hQ hK
  refine ⟨∑ j ∈ Finset.range 256, w i j, Finset.sum_pos (fun j _ => (hw i j).1) ⟨0, by decide⟩, ?_⟩
  rw [den]
  generalize 256 = n
  induction n with
  | zero => rfl
  | succ n ih => rw [Finset.sum_range_succ, Finset.sum_range_succ, ih, EReal.coe_add, (hw i n).2]

/-- The derivative of the softmax as a quotient, of the weights by their sum, is the kernel's. -/
theorem dscore_quot (hr : 0 ≤ r) (V D : ℕ → ℕ → EReal) (i j : ℕ) :
    (Ideal.div (dprob V D i j) (den (r : EReal) Q K i)
      + -∑ k ∈ Finset.range 256, dprob V D i k * Ideal.div 1 (den (r : EReal) Q K i * den (r : EReal) Q K i) * wt (r : EReal) Q K i k)
        * wt (r : EReal) Q K i j = dscore (r : EReal) Q K V D i j := by
  obtain ⟨s, hs, es⟩ := den_real (r := r) hQ hK i
  choose w hw using wt_real (r := r) hQ hK
  have hs0 : (s : EReal) ≠ 0 := by exact_mod_cast hs.ne'
  have hss : (s : EReal) * s ≠ 0 := by rw [← EReal.coe_mul]; exact_mod_cast (mul_pos hs hs).ne'
  have hi : 0 ≤ s⁻¹ := (inv_pos.mpr hs).le
  have dv : ∀ x, Ideal.div x (s : EReal) = ((s⁻¹ : ℝ) : EReal) * x := fun x => by
    rw [Ideal.div, if_neg hs0, mul_comm, EReal.coe_inv]
  have d2 : Ideal.div 1 ((s : EReal) * s) = ((s⁻¹ : ℝ) : EReal) * ((s⁻¹ : ℝ) : EReal) := by
    rw [Ideal.div, if_neg hss, one_mul, ← EReal.coe_mul, ← EReal.coe_inv, ← EReal.coe_mul, mul_inv]
  simp only [dscore, prob, es, dv, d2]
  have e : ∑ k ∈ Finset.range 256, dprob V D i k * (((s⁻¹ : ℝ) : EReal) * ((s⁻¹ : ℝ) : EReal)) * wt (r : EReal) Q K i k
      = ((s⁻¹ : ℝ) : EReal) * ∑ k ∈ Finset.range 256, dprob V D i k * (((s⁻¹ : ℝ) : EReal) * wt (r : EReal) Q K i k) := by
    rw [mul_sum_pos hi]
    exact Finset.sum_congr rfl fun k _ => by rw [mul_left_comm, mul_assoc, mul_assoc, mul_left_comm (dprob V D i k)]
  rw [e, ← mul_neg, ← mul_add_pos hi, ← sub_eq_add_neg, mul_right_comm]

end

/-- The rows of all the blocks together. -/
theorem dkey_blocks {r : ℝ} (hr : 0 ≤ r) (Q K V D : ℕ → ℕ → EReal) (n g j e : ℕ) :
    ∑ s ∈ Finset.range g, dkey (r : EReal) (fun i => Q (n * s + i)) K V (fun i => D (n * s + i)) n j e
      = dkey (r : EReal) Q K V D (n * g) j e := by
  rw [dkey, ← sum_slices, sum_mul_pos hr]; rfl

theorem dvalue_blocks (c : EReal) (Q K D : ℕ → ℕ → EReal) (n g j e : ℕ) :
    ∑ s ∈ Finset.range g, dvalue c (fun i => Q (n * s + i)) K (fun i => D (n * s + i)) n j e
      = dvalue c Q K D (n * g) j e := by
  rw [dvalue, ← sum_slices]; rfl

/-! ## Arrays by their entries -/

/-- The matrix of the entries `f`. -/
def arr {m n : ℕ} {t : FTy} (f : ℕ → ℕ → EReal) : FVec Ideal ⟨2, ![m, n]⟩ t := fun i => f (i 0).val (i 1).val

section
variable {m n : ℕ} {t : FTy}

theorem at2_arr (f : ℕ → ℕ → EReal) {a b : ℕ} (ha : a < m) (hb : b < n) : at2 (arr f : FVec Ideal ⟨2, ![m, n]⟩ t) a b = f a b :=
  at2_comp ha hb rfl

theorem arr_congr {f g : ℕ → ℕ → EReal} (h : ∀ a < m, ∀ b < n, f a b = g a b) :
    (arr f : FVec Ideal ⟨2, ![m, n]⟩ t) = arr g := funext fun i => h _ (i 0).isLt _ (i 1).isLt

/-- Along the rows: a column of one value each, stretched back over the row. -/
theorem stretch (x : FVec Ideal ⟨1, ![m]⟩ .f32) (hm : m ≠ 1) (h2 : (⟨1, ![m]⟩ : Shape).ShapeCasts ⟨2, ![m, 1]⟩)
    (h3 : (⟨2, ![m, 1]⟩ : Shape).Broadcasts ⟨2, ![m, n]⟩) (i : (⟨2, ![m, n]⟩ : Shape).Idx) :
    broadcastTo (⟨2, ![m, n]⟩ : Shape) (shapeCast (⟨2, ![m, 1]⟩ : Shape) x h2) h3 i = x (ix1 (i 0)) := by
  rw [broadcastTo_apply _ h3 i (ix2 (i 0) 0) (fun a => match a with
    | ⟨0, _⟩ => by show (i 0).val = if m = 1 then 0 else (i 0).val; rw [if_neg hm]
    | ⟨1, _⟩ => by show 0 = if (1 : ℕ) = 1 then 0 else (i 1).val; rw [if_pos rfl])]
  refine shapeCast_apply _ _ _ (ix1 (i 0)) ?_
  rw [Shape.rowMajor_val_one, Shape.rowMajor_val_two]
  show (i 0).val = (i 0).val * 1 + 0
  omega

theorem row_top (f : ℕ → ℕ → EReal) (hm : m ≠ 1) (h1 : (⟨2, ![m, n]⟩ : Shape).Reduces [1] ⟨1, ![m]⟩) (hφ hacc) (h2 h3) :
    broadcastTo (⟨2, ![m, n]⟩ : Shape) (shapeCast (⟨2, ![m, 1]⟩ : Shape)
        (multiReduction .maximumf [1] (⟨1, ![m]⟩ : Shape) (arr f : FVec Ideal ⟨2, ![m, n]⟩ .f32) 0xFF800000#32 h1 hφ hacc) h2) h3
      = arr fun i _ => top n (f i) := by
  funext i
  rw [stretch _ hm, Ideal.multiReduction_maximumf_single]
  have e : Ideal.ofBits .f32 0xFF800000#32 = ⊥ := by simp [Ideal.ofBits, Ideal.ieee]
  exact congrArg (fun b => Finset.fold max b _ _) e

theorem row_sum (f : ℕ → ℕ → EReal) (hm : m ≠ 1) (h1 : (⟨2, ![m, n]⟩ : Shape).Reduces [1] ⟨1, ![m]⟩) (acc) (hφ hacc) (h2 h3) :
    broadcastTo (⟨2, ![m, n]⟩ : Shape) (shapeCast (⟨2, ![m, 1]⟩ : Shape)
        (multiReduction .add [1] (⟨1, ![m]⟩ : Shape) (arr f : FVec Ideal ⟨2, ![m, n]⟩ .f32) acc h1 hφ hacc) h2) h3
      = arr fun i _ => ∑ k ∈ Finset.range n, f i k := by
  funext i
  rw [stretch _ hm, Ideal.multiReduction_add_single]
  exact (Finset.sum_range fun k => f (i 0).val k).symm

end

section
variable {M K N : ℕ} {s t : FTy}
theorem arr_rows (p : Option ContractPrecision) (wf) (X Y : ℕ → ℕ → EReal) :
    matmul (⟨[1], [1], [0], [0], [], [], wf⟩ : DotDims ⟨2, ![M, K]⟩ ⟨2, ![N, K]⟩ ⟨2, ![M, N]⟩) p (arr X : FVec Ideal _ s) (arr Y : FVec Ideal _ t)
      (constant _ .f32 0x00000000#32) = arr fun a b => ∑ k ∈ Finset.range K, X a k * Y b k :=
  funext fun i => mm_rows_of p wf (fun _ _ ha hk => at2_arr X ha hk) (fun _ _ hb hk => at2_arr Y hb hk) i
theorem arr_plain (p : Option ContractPrecision) (wf) (X Y : ℕ → ℕ → EReal) :
    matmul (⟨[1], [0], [0], [1], [], [], wf⟩ : DotDims ⟨2, ![M, K]⟩ ⟨2, ![K, N]⟩ ⟨2, ![M, N]⟩) p (arr X : FVec Ideal _ s) (arr Y : FVec Ideal _ t)
      (constant _ .f32 0x00000000#32) = arr fun a b => ∑ k ∈ Finset.range K, X a k * Y k b :=
  funext fun i => mm_plain_of p wf (fun _ _ ha hk => at2_arr X ha hk) (fun _ _ hb hk => at2_arr Y hb hk) i
theorem arr_cols (p : Option ContractPrecision) (wf) (X Y : ℕ → ℕ → EReal) :
    matmul (⟨[0], [0], [1], [1], [], [], wf⟩ : DotDims ⟨2, ![K, M]⟩ ⟨2, ![K, N]⟩ ⟨2, ![M, N]⟩) p (arr X : FVec Ideal _ s) (arr Y : FVec Ideal _ t)
      (constant _ .f32 0x00000000#32) = arr fun a b => ∑ k ∈ Finset.range K, X k a * Y k b :=
  funext fun i => mm_cols_of p wf (fun _ _ ha hk => at2_arr X ha hk) (fun _ _ hb hk => at2_arr Y hb hk) i
end

/-! ## A block of 256 rows of one head, operation by operation -/

abbrev S128 : Shape := ⟨2, ![256, 128]⟩
abbrev S256 : Shape := ⟨2, ![256, 256]⟩
abbrev SRow : Shape := ⟨1, ![256]⟩
abbrev SCol : Shape := ⟨2, ![256, 1]⟩

/-- The shape facts of the operations. -/
structure Shapes : Prop where
  nt : DotDims.WF S128 S128 S256 [1] [1] [0] [0] [] []
  nn : DotDims.WF S256 S128 S128 [1] [0] [0] [1] [] []
  tn : DotDims.WF S256 S128 S128 [0] [0] [1] [1] [] []
  red : S256.Reduces [1] SRow
  col : SRow.ShapeCasts SCol
  wide : SCol.Broadcasts S256

theorem down : FTy.bits .bf16 < FTy.bits .f32 := by decide

section
variable (H : Shapes) (c : EReal)

/-- Row sums, stretched over the rows. -/
def rowSums (x : FVec Ideal S256 .f32) : FVec Ideal S256 .f32 :=
  broadcastTo S256 (shapeCast SCol (multiReduction .add [1] SRow x 0x00000000#32 H.red (.inl rfl) rfl) H.col) H.wide
def rowTops (x : FVec Ideal S256 .f32) : FVec Ideal S256 .f32 :=
  broadcastTo S256 (shapeCast SCol (multiReduction .maximumf [1] SRow x 0xFF800000#32 H.red (.inl rfl) rfl) H.col) H.wide
def scoresOf (q : FVec Ideal S128 .bf16) (k : FVec Ideal S128 .f32) : FVec Ideal S256 .f32 :=
  mulf (matmul ⟨[1], [1], [0], [0], [], [], H.nt⟩ none q (truncf .bf16 k down) (constant S256 .f32 0x00000000#32)) (broadcast S256 c)
def weightsOf (s : FVec Ideal S256 .f32) : FVec Ideal S256 .f32 := exp (subf s (rowTops H s))
def probsOf (q : FVec Ideal S128 .bf16) (k : FVec Ideal S128 .f32) : FVec Ideal S256 .f32 :=
  divf (weightsOf H (scoresOf H c q k)) (rowSums H (weightsOf H (scoresOf H c q k)))
def dprobsOf (v d : FVec Ideal S128 .f32) : FVec Ideal S256 .f32 :=
  matmul ⟨[1], [1], [0], [0], [], [], H.nt⟩ none (truncf .bf16 d down) (truncf .bf16 v down) (constant S256 .f32 0x00000000#32)
def dscoresOf (q : FVec Ideal S128 .bf16) (k v d : FVec Ideal S128 .f32) : FVec Ideal S256 .f32 :=
  mulf (probsOf H c q k) (subf (dprobsOf H v d) (rowSums H (mulf (dprobsOf H v d) (probsOf H c q k))))
/-- The blocks the kernel writes and adds up. -/
def dqOf (q : FVec Ideal S128 .bf16) (k v d : FVec Ideal S128 .f32) : FVec Ideal S128 .bf16 :=
  truncf .bf16 (mulf (matmul ⟨[1], [0], [0], [1], [], [], H.nn⟩ none (truncf .bf16 (dscoresOf H c q k v d) down) (truncf .bf16 k down)
    (constant S128 .f32 0x00000000#32)) (broadcast S128 c)) down
def dkOf (q : FVec Ideal S128 .bf16) (k v d : FVec Ideal S128 .f32) : FVec Ideal S128 .f32 :=
  mulf (matmul ⟨[0], [0], [1], [1], [], [], H.tn⟩ none (truncf .bf16 (dscoresOf H c q k v d) down) q
    (constant S128 .f32 0x00000000#32)) (broadcast S128 c)
def dvOf (q : FVec Ideal S128 .bf16) (k d : FVec Ideal S128 .f32) : FVec Ideal S128 .f32 :=
  matmul ⟨[0], [0], [1], [1], [], [], H.tn⟩ none (truncf .bf16 (probsOf H c q k) down) (truncf .bf16 d down)
    (constant S128 .f32 0x00000000#32)

variable (Q K V D : ℕ → ℕ → EReal)

theorem scores_arr : scoresOf H c (arr Q) (arr K) = arr (score c Q K) :=
  congrArg (fun x : FVec Ideal S256 .f32 => mulf x (broadcast S256 c)) (arr_rows (s := .bf16) (t := .bf16) none H.nt Q K)
theorem tops_arr (f : ℕ → ℕ → EReal) : rowTops H (arr f) = arr fun i _ => top 256 (f i) := row_top f (by decide) _ _ _ _ _
theorem sums_arr (f : ℕ → ℕ → EReal) : rowSums H (arr f) = arr fun i _ => ∑ k ∈ Finset.range 256, f i k :=
  row_sum f (by decide) _ _ _ _ _ _
theorem weights_arr : weightsOf H (scoresOf H c (arr Q) (arr K)) = arr (wt c Q K) := by
  rw [weightsOf, scores_arr, tops_arr]; rfl
theorem probs_arr : probsOf H c (arr Q) (arr K) = arr (prob c Q K) := by
  rw [probsOf, weights_arr, sums_arr]; rfl
theorem dprobs_arr : dprobsOf H (arr V) (arr D) = arr (dprob V D) := arr_rows (s := .bf16) (t := .bf16) none H.nt D V
theorem dscores_arr : dscoresOf H c (arr Q) (arr K) (arr V) (arr D) = arr (dscore c Q K V D) := by
  rw [dscoresOf, probs_arr, dprobs_arr]
  rw [show mulf (arr (dprob V D) : FVec Ideal S256 .f32) (arr (prob c Q K)) = arr fun i j => dprob V D i j * prob c Q K i j from rfl, sums_arr]
  rfl
theorem dq_arr : dqOf H c (arr Q) (arr K) (arr V) (arr D) = arr (dquery c Q K V D) := by
  rw [dqOf, dscores_arr]
  exact congrArg (fun x : FVec Ideal S128 .f32 => mulf x (broadcast S128 c)) (arr_plain (s := .bf16) (t := .bf16) none H.nn (dscore c Q K V D) K)
theorem dk_arr : dkOf H c (arr Q) (arr K) (arr V) (arr D) = arr (dkey c Q K V D 256) := by
  rw [dkOf, dscores_arr]
  exact congrArg (fun x : FVec Ideal S128 .f32 => mulf x (broadcast S128 c)) (arr_cols (s := .bf16) (t := .bf16) none H.tn (dscore c Q K V D) Q)
theorem dv_arr : dvOf H c (arr Q) (arr K) (arr D) = arr (dvalue c Q K D 256) := by
  rw [dvOf, probs_arr]
  exact arr_cols (s := .bf16) (t := .bf16) none H.tn (prob c Q K) D
end

/-! ## The blocks of a head at their entries -/

theorem eq_arr {m n : ℕ} {t : FTy} (x : FVec Ideal ⟨2, ![m, n]⟩ t) {f : ℕ → ℕ → EReal} (h : ∀ a b, a < m → b < n → at2 (m := m) (n := n) x a b = f a b) :
    x = arr f := funext fun i => (at2_of x i rfl rfl).trans (h _ _ (i 0).isLt (i 1).isLt)

/-- A block of a matrix, read through a rectangle. -/
theorem at2_unit {m n a b : ℕ} (x : (⟨2, ![m, n]⟩ : Shape).Idx → EReal) (o0 o1 : ℕ)
    (inb : ∀ z, (![o0, o1] : Fin 2 → ℕ) z + ![a, b] z ≤ (⟨2, ![m, n]⟩ : Shape).size z) {i j : ℕ} (hi : i < a) (hj : j < b) :
    at2 (m := a) (n := b) (fun z => x ((Rect.unit (s := ⟨2, ![m, n]⟩) ![o0, o1] ![a, b] inb).idx z)) i j = at2 x (o0 + i) (o1 + j) :=
  at2_sub x _ hi hj (congrArg (o0 + ·) (Nat.one_mul i)) (congrArg (o1 + ·) (Nat.one_mul j))

section
variable (H : Shapes) (c : EReal) {q : FVec Ideal S128 .bf16} {k v d : FVec Ideal S128 .f32} {Q K V D : ℕ → ℕ → EReal}
  (hq : ∀ a b, a < 256 → b < 128 → at2 (m := 256) (n := 128) q a b = Q a b)
  (hk : ∀ a b, a < 256 → b < 128 → at2 (m := 256) (n := 128) k a b = K a b)
  (hv : ∀ a b, a < 256 → b < 128 → at2 (m := 256) (n := 128) v a b = V a b)
  (hd : ∀ a b, a < 256 → b < 128 → at2 (m := 256) (n := 128) d a b = D a b)
include hq hk hd

theorem dvOf_apply (x : S128.Idx) : dvOf H c q k d x = dvalue c Q K D 256 (x 0).val (x 1).val := by
  rw [eq_arr q hq, eq_arr k hk, eq_arr d hd, dv_arr]; rfl
include hv
theorem dqOf_apply (x : S128.Idx) : dqOf H c q k v d x = dquery c Q K V D (x 0).val (x 1).val := by
  rw [eq_arr q hq, eq_arr k hk, eq_arr v hv, eq_arr d hd, dq_arr]; rfl
theorem dkOf_apply (x : S128.Idx) : dkOf H c q k v d x = dkey c Q K V D 256 (x 0).val (x 1).val := by
  rw [eq_arr q hq, eq_arr k hk, eq_arr v hv, eq_arr d hd, dk_arr]; rfl
end

/-! ## The four heads side by side -/

/-- Head `h` of a matrix of heads of width 128; the matrix from column `o` on, and from row `n` on. -/
def head (X : ℕ → ℕ → EReal) (h : ℕ) : ℕ → ℕ → EReal := fun r e => X r (128 * h + e)
def col (X : ℕ → ℕ → EReal) (o : ℕ) : ℕ → ℕ → EReal := fun r e => X r (o + e)
def row (X : ℕ → ℕ → EReal) (n : ℕ) : ℕ → ℕ → EReal := fun r e => X (n + r) e

section
-- `K` is the keys' four heads and then the values' four.
variable (c : EReal) (Q K D : ℕ → ℕ → EReal)

def dqs (r e : ℕ) : EReal :=
  dquery c (head Q (e / 128)) (head K (e / 128)) (head K (4 + e / 128)) (head D (e / 128)) r (e % 128)
def dks (n j e : ℕ) : EReal :=
  dkey c (head Q (e / 128)) (head K (e / 128)) (head K (4 + e / 128)) (head D (e / 128)) n j (e % 128)
def dvs (n j e : ℕ) : EReal := dvalue c (head Q (e / 128)) (head K (e / 128)) (head D (e / 128)) n j (e % 128)
/-- The keys' gradients, then the values'. -/
def dkvs (n j e : ℕ) : EReal := if e < 512 then dks c Q K D n j e else dvs c Q K D n j (e - 512)

theorem dks_blocks {r : ℝ} (hr : 0 ≤ r) (n g j e : ℕ) :
    ∑ s ∈ Finset.range g, dks (r : EReal) (row Q (n * s)) K (row D (n * s)) n j e = dks (r : EReal) Q K D (n * g) j e := by
  unfold dks
  generalize e / 128 = h
  generalize e % 128 = b
  exact dkey_blocks hr (head Q h) (head K h) (head K (4 + h)) (head D h) n g j b
theorem dvs_blocks (n g j e : ℕ) :
    ∑ s ∈ Finset.range g, dvs c (row Q (n * s)) K (row D (n * s)) n j e = dvs c Q K D (n * g) j e := by
  unfold dvs
  generalize e / 128 = h
  generalize e % 128 = b
  exact dvalue_blocks c (head Q h) (head K h) (head D h) n g j b
theorem dkvs_blocks {r : ℝ} (hr : 0 ≤ r) (n g j e : ℕ) :
    ∑ s ∈ Finset.range g, dkvs (r : EReal) (row Q (n * s)) K (row D (n * s)) n j e = dkvs (r : EReal) Q K D (n * g) j e := by
  by_cases he : e < 512
  · simp only [dkvs, if_pos he]; exact dks_blocks Q K D hr n g j e
  · simp only [dkvs, if_neg he]; exact dvs_blocks _ Q K D n g j (e - 512)
end

/-- The part of a block of rows at a head. -/
theorem part_apply {n : ℕ} {x : (⟨2, ![256, n]⟩ : Shape).Idx → EReal} {X : ℕ → ℕ → EReal}
    (hx : ∀ a b, a < 256 → b < n → at2 (m := 256) (n := n) x a b = X a b) (h : ℕ) {o : ℕ} (ho : o = 128 * h)
    (inb : ∀ z, (![0, o] : Fin 2 → ℕ) z + ![256, 128] z ≤ (⟨2, ![256, n]⟩ : Shape).size z) (a b : ℕ) (ha : a < 256) (hb : b < 128) :
    at2 (m := 256) (n := 128) (fun z => x ((Rect.unit (s := ⟨2, ![256, n]⟩) ![0, o] ![256, 128] inb).idx z)) a b = head X h a b := by
  have hn : o + 128 ≤ n := inb 1
  rw [at2_unit x 0 o inb ha hb, Nat.zero_add, hx a (o + b) ha (by omega), ho]; rfl

section
variable (H : Shapes) (c : EReal) (n : ℕ) {x0 x2 : (⟨2, ![256, 512]⟩ : Shape).Idx → EReal} {x1 : (⟨2, ![256, 1024]⟩ : Shape).Idx → EReal}
  {Q K D : ℕ → ℕ → EReal} (h0 : ∀ a b, a < 256 → b < 512 → at2 (m := 256) (n := 512) x0 a b = row Q n a b)
  (h1 : ∀ a b, a < 256 → b < 1024 → at2 (m := 256) (n := 1024) x1 a b = K a b)
  (h2 : ∀ a b, a < 256 → b < 512 → at2 (m := 256) (n := 512) x2 a b = row D n a b)
  {o o' : ℕ} (ho : o = 128 * (o / 128)) (ho' : o' = 128 * (4 + o / 128))
  (i0 : ∀ z, (![0, o] : Fin 2 → ℕ) z + ![256, 128] z ≤ (⟨2, ![256, 512]⟩ : Shape).size z)
  (i1 : ∀ z, (![0, o] : Fin 2 → ℕ) z + ![256, 128] z ≤ (⟨2, ![256, 1024]⟩ : Shape).size z)
  (i2 : ∀ z, (![0, o'] : Fin 2 → ℕ) z + ![256, 128] z ≤ (⟨2, ![256, 1024]⟩ : Shape).size z) (x : S128.Idx)
include h0 h1 h2 ho

/-- What the kernel writes and adds up for a head, from its blocks. -/
theorem dv_piece {j e : ℕ} (hj : j = (x 0).val) (he : e = 512 + o + (x 1).val) (hl : o < 512) :
    dvOf H c (fun z => x0 ((Rect.unit (s := ⟨2, ![256, 512]⟩) ![0, o] ![256, 128] i0).idx z))
      (fun z => x1 ((Rect.unit (s := ⟨2, ![256, 1024]⟩) ![0, o] ![256, 128] i1).idx z))
      (fun z => x2 ((Rect.unit (s := ⟨2, ![256, 512]⟩) ![0, o] ![256, 128] i0).idx z)) x
      = dkvs c (row Q n) K (row D n) 256 j e := by
  rw [dvOf_apply H c (part_apply h0 _ ho i0) (part_apply h1 _ ho i1) (part_apply h2 _ ho i0)]
  have hx : (x 1).val < 128 := (x 1).isLt
  have e1 : (e - 512) / 128 = o / 128 := by omega
  have e2 : (e - 512) % 128 = (x 1).val := by omega
  rw [dkvs, if_neg (by omega), dvs, e1, e2, hj]
include ho'
theorem dq_piece {r e : ℕ} (hr : r = n + (x 0).val) (he : e = o + (x 1).val) :
    dqOf H c (fun z => x0 ((Rect.unit (s := ⟨2, ![256, 512]⟩) ![0, o] ![256, 128] i0).idx z))
      (fun z => x1 ((Rect.unit (s := ⟨2, ![256, 1024]⟩) ![0, o] ![256, 128] i1).idx z))
      (fun z => x1 ((Rect.unit (s := ⟨2, ![256, 1024]⟩) ![0, o'] ![256, 128] i2).idx z))
      (fun z => x2 ((Rect.unit (s := ⟨2, ![256, 512]⟩) ![0, o] ![256, 128] i0).idx z)) x = dqs c Q K D r e := by
  rw [dqOf_apply H c (part_apply h0 _ ho i0) (part_apply h1 _ ho i1) (part_apply h1 _ ho' i2) (part_apply h2 _ ho i0)]
  have hx : (x 1).val < 128 := (x 1).isLt
  have e1 : e / 128 = o / 128 := by omega
  have e2 : e % 128 = (x 1).val := by omega
  rw [dqs, e1, e2, hr]; rfl
theorem dk_piece {j e : ℕ} (hj : j = (x 0).val) (he : e = o + (x 1).val) (hl : o < 512) :
    dkOf H c (fun z => x0 ((Rect.unit (s := ⟨2, ![256, 512]⟩) ![0, o] ![256, 128] i0).idx z))
      (fun z => x1 ((Rect.unit (s := ⟨2, ![256, 1024]⟩) ![0, o] ![256, 128] i1).idx z))
      (fun z => x1 ((Rect.unit (s := ⟨2, ![256, 1024]⟩) ![0, o'] ![256, 128] i2).idx z))
      (fun z => x2 ((Rect.unit (s := ⟨2, ![256, 512]⟩) ![0, o] ![256, 128] i0).idx z)) x
      = dkvs c (row Q n) K (row D n) 256 j e := by
  rw [dkOf_apply H c (part_apply h0 _ ho i0) (part_apply h1 _ ho i1) (part_apply h1 _ ho' i2) (part_apply h2 _ ho i0)]
  have hx : (x 1).val < 128 := (x 1).isLt
  have e1 : e / 128 = o / 128 := by omega
  have e2 : e % 128 = (x 1).val := by omega
  rw [dkvs, if_pos (by omega), dks, e1, e2, hj]
end

/-- What was there before, read at a head. -/
theorem before_piece (p : (⟨2, ![256, 1024]⟩ : Shape).Idx → EReal) {o : ℕ}
    (inb : ∀ z, (![0, o] : Fin 2 → ℕ) z + ![256, 128] z ≤ (⟨2, ![256, 1024]⟩ : Shape).size z) (h : S128.ShapeCasts S128)
    (x : S128.Idx) (j : (⟨2, ![256, 1024]⟩ : Shape).Idx) (h0 : (j 0).val = (x 0).val) (h1 : (j 1).val = o + (x 1).val) :
    shapeCast S128 ((fun z => p ((Rect.unit (s := ⟨2, ![256, 1024]⟩) ![0, o] ![256, 128] inb).idx z)) : FVec Ideal S128 .f32) h x
      = p j := by
  rw [cast_self (t := .f32)]
  refine congrArg p (funext fun a => Fin.ext ?_)
  match a with
  | ⟨0, _⟩ => show 0 + 1 * (x 0).val = (j 0).val; omega
  | ⟨1, _⟩ => show o + 1 * (x 1).val = (j 1).val; omega

end Cert.Memory

end
-- ==== Proof.MemoryRef.lean ====
/- The reference's backward pass of the memory attention, operation by operation: each array's entries are the mathematics of
   the heads. -/
module

public import proofs.«01_k».proof.Proof.Memory
public import proofs.«01_k».proof.Proof.Reals
public import proofs.«01_k».proof.Proof.Gen.DmemARefIdeal.Read

@[expose] public section

set_option maxRecDepth 16384

noncomputable section

namespace Cert.MemoryRef

open Idealize.ShloMosaic Idealize.ShloMosaic.ValueIdx Cert.Product Cert.Memory Cert.Reals
open Cert.DmemARefIdeal Cert.DmemARefIdeal.Facts₀ Cert.DmemARefIdeal.Read

attribute [local instance] Cert.DmemARefIdeal.Gen.facts

/-- The scale, as the constant the kernel uses. -/
abbrev scale : EReal := (((Real.sqrt 128)⁻¹ : ℝ) : EReal)

theorem scale_pos : (0 : ℝ) ≤ (Real.sqrt 128)⁻¹ := inv_nonneg.mpr (Real.sqrt_nonneg _)

theorem ofBits_128 : Ideal.ofBits .f32 0x43000000#32 = ((128 : ℝ) : EReal) := by
  simp [Ideal.ofBits, Ideal.ieee, -EReal.coe_mul]; norm_num

theorem div_root (x : EReal) (i : S_.Idx) : Ideal.div x (val_main_v10 (F := Ideal) i) = x * scale := by
  have e : val_main_v10 (F := Ideal) i = ((Real.sqrt 128 : ℝ) : EReal) := by
    show Ideal.sqrt (Ideal.ofBits .f32 0x43000000#32) = _
    rw [ofBits_128, Ideal.sqrt_coe, if_neg (by norm_num)]
  have h0 : ((Real.sqrt 128 : ℝ) : EReal) ≠ 0 := by exact_mod_cast (Real.sqrt_pos.2 (by norm_num)).ne'
  rw [e, Ideal.div, if_neg h0, ← EReal.coe_inv]

theorem zero_init (i : S_.Idx) (x : EReal) : (constant S_ .f32 0x00000000#32 : FVec Ideal S_ .f32) i + x = x := by
  show Ideal.ofBits .f32 0x00000000#32 + x = x
  rw [ofBits_zero, EReal.coe_zero, zero_add]

variable (x0 : FVec Ideal S2048x5120 .bf16) (x1 : FVec Ideal S256x1024 .f32) (x2 : FVec Ideal S2048x1024 .f32)

/-- A head's queries, keys, values and cotangent. -/
abbrev Qh (h : ℕ) : ℕ → ℕ → EReal := head (col (at2 (m := 2048) (n := 5120) x0) 4608) h
abbrev Kh (h : ℕ) : ℕ → ℕ → EReal := head (at2 (m := 256) (n := 1024) x1) h
abbrev Vh (h : ℕ) : ℕ → ℕ → EReal := head (at2 (m := 256) (n := 1024) x1) (4 + h)
abbrev Dh (h : ℕ) : ℕ → ℕ → EReal := head (col (at2 (m := 2048) (n := 1024) x2) 512) h

theorem v4_at (i : S2048x4x128.Idx) : val_main_v4 (F := Ideal) x0 i = Qh x0 (i 1).val (i 0).val (i 2).val := by
  have h1 : (i 1).val < 4 := (i 1).isLt
  have h2 : (i 2).val < 128 := (i 2).isLt
  rw [val_main_v4_apply, val_main_v2_apply, val_main_v0_apply]
  refine at2_of x0 _ ?_ ?_
  · show (((i 0).val * 4 + (i 1).val) * 128 + (i 2).val) / 512 = (i 0).val; omega
  · show 4608 + (((i 0).val * 4 + (i 1).val) * 128 + (i 2).val) % 512 = 4608 + (128 * (i 1).val + (i 2).val); omega

theorem v6_at (i : S256x4x128.Idx) : val_main_v6 (F := Ideal) x1 i = Kh x1 (i 1).val (i 0).val (i 2).val := by
  have h1 : (i 1).val < 4 := (i 1).isLt
  have h2 : (i 2).val < 128 := (i 2).isLt
  rw [val_main_v6_apply, val_main_v5_apply, val_main_v3_apply]
  refine at2_of x1 _ ?_ ?_
  · dsimp only [idx_main_v3, idx_main_v5, idx_main_v6]; omega
  · dsimp only [idx_main_v3, idx_main_v5, idx_main_v6]; omega

theorem v8_at (i : S256x4x128.Idx) : val_main_v8 (F := Ideal) x1 i = Vh x1 (i 1).val (i 0).val (i 2).val := by
  have h1 : (i 1).val < 4 := (i 1).isLt
  have h2 : (i 2).val < 128 := (i 2).isLt
  rw [val_main_v8_apply, val_main_v7_apply, val_main_v3_apply]
  refine at2_of x1 _ ?_ ?_
  · dsimp only [idx_main_v3, idx_main_v7, idx_main_v8]; omega
  · dsimp only [idx_main_v3, idx_main_v7, idx_main_v8]; omega

theorem v45_at (i : S4x128x2048.Idx) : val_main_v45 (F := Ideal) x2 i = Dh x2 (i 0).val (i 2).val (i 1).val := by
  have h0 : (i 0).val < 4 := (i 0).isLt
  have h1 : (i 1).val < 128 := (i 1).isLt
  rw [val_main_v45_apply, val_main_v44_apply, val_main_v1_apply]
  refine at2_of x2 _ ?_ ?_
  · show (((i 2).val * 4 + (i 0).val) * 128 + (i 1).val) / 512 = (i 2).val; omega
  · show 512 + (((i 2).val * 4 + (i 0).val) * 128 + (i 1).val) % 512 = 512 + (128 * (i 0).val + (i 1).val); omega

theorem v12_at (i : S4x2048x256.Idx) :
    val_main_v12 (F := Ideal) x0 x1 i = score scale (Qh x0 (i 0).val) (Kh x1 (i 0).val) (i 1).val (i 2).val := by
  rw [val_main_v12_apply, val_main_v9_apply, val_main_v11_apply]
  refine (div_root _ _).trans (congrArg (· * scale) ?_)
  rw [Finset.sum_range]
  exact Finset.sum_congr rfl fun k _ => congrArg₂ (· * ·) (v4_at x0 _) (v6_at x1 _)

theorem tops {l m n : ℕ} (f : ℕ → ℕ → ℕ → EReal) (hr : (⟨3, ![l, m, n]⟩ : Shape).Reduces [2] ⟨2, ![l, m]⟩) (h hu)
    (i : (⟨2, ![l, m]⟩ : Shape).Idx) :
    Host.reduce (FloatOps.maximumf (F := Ideal) (φ := .f32))
      (fun i => f (i 0).val (i 1).val (i 2).val : FVec Ideal ⟨3, ![l, m, n]⟩ .f32) (constant S_ .f32 0xFF800000#32) (axes := [2]) h hu i
      = top n (f (i 0).val (i 1).val) := by
  have hacc : 0xFF800000#32 = FKind.maximumf.neutral .f32 (.inl rfl) := rfl
  rw [hostReduce_maximumf_eq_multiReduction _ 0xFF800000#32 h hu hr (.inl rfl) hacc, Ideal.multiReduction_maximumf_single]
  have e : Ideal.ofBits .f32 0xFF800000#32 = ⊥ := by simp [Ideal.ofBits, Ideal.ieee]
  exact congrArg (fun b => Finset.fold max b _ _) e

theorem v13_at (i : S4x2048.Idx) :
    val_main_v13 (F := Ideal) x0 x1 i = top 256 (score scale (Qh x0 (i 0).val) (Kh x1 (i 0).val) (i 1).val) := by
  rw [val_main_v13, funext (v12_at x0 x1)]
  exact tops (fun h => score scale (Qh x0 h) (Kh x1 h)) (by decide) _ _ i

theorem v33_at (i : S4x2048x256.Idx) :
    val_main_v33 (F := Ideal) x0 x1 i = wt scale (Qh x0 (i 0).val) (Kh x1 (i 0).val) (i 1).val (i 2).val := by
  rw [val_main_v33_apply, val_main_v32_apply, v12_at, val_main_v31_apply, val_main_v30_apply, val_main_v20_apply, v13_at]
  have e : (val_main_v19 (F := Ideal) (idx_main_v30 (idx_main_v31 i))) = (⊥ : EReal) := by
    rw [val_main_v19_apply]
    show Ideal.ofBits .f32 0xFF800000#32 = ⊥
    simp [Ideal.ofBits, Ideal.ieee]
  rw [e]
  show Ideal.exp (_ - max ⊥ _) = _
  rw [max_bot_left]; rfl

theorem v34_at (i : S4x2048.Idx) :
    val_main_v34 (F := Ideal) x0 x1 i = den scale (Qh x0 (i 0).val) (Kh x1 (i 0).val) (i 1).val := by
  rw [val_main_v34_apply, den, Finset.sum_range]
  exact (zero_init _ _).trans (Finset.sum_congr rfl fun k _ => v33_at x0 x1 _)

theorem v35_at (i : S4x2048x1.Idx) :
    val_main_v35 (F := Ideal) x0 x1 i = den scale (Qh x0 (i 0).val) (Kh x1 (i 0).val) (i 1).val := by
  rw [val_main_v35_apply, v34_at]

theorem v37_at (i : S4x2048x256.Idx) :
    val_main_v37 (F := Ideal) x0 x1 i = prob scale (Qh x0 (i 0).val) (Kh x1 (i 0).val) (i 1).val (i 2).val := by
  rw [val_main_v37_apply, v33_at, val_main_v36_apply, v35_at]; rfl

theorem v46_at (i : S4x2048x256.Idx) :
    val_main_v46 (F := Ideal) x1 x2 i = dprob (Vh x1 (i 0).val) (Dh x2 (i 0).val) (i 1).val (i 2).val := by
  rw [val_main_v46_apply, dprob, Finset.sum_range]
  exact Finset.sum_congr rfl fun k _ => congrArg₂ (· * ·) (v45_at x2 _) (v8_at x1 _)

/-- The values' gradient. -/
theorem v48_at (i : S256x4x128.Idx) : val_main_v48 (F := Ideal) x0 x1 x2 i
    = dvalue scale (Qh x0 (i 1).val) (Kh x1 (i 1).val) (Dh x2 (i 1).val) 2048 (i 0).val (i 2).val := by
  rw [val_main_v48_apply, val_main_v47_apply, dvalue, Finset.sum_range]
  exact Finset.sum_congr rfl fun k _ => (mul_comm _ _).trans (congrArg₂ (· * ·) (v37_at x0 x1 _) (v45_at x2 _))

theorem v52_at (i : S4x2048.Idx) : val_main_v52 (F := Ideal) x0 x1 x2 i
    = ∑ k ∈ Finset.range 256, dprob (Vh x1 (i 0).val) (Dh x2 (i 0).val) (i 1).val k
        * Ideal.div 1 (den scale (Qh x0 (i 0).val) (Kh x1 (i 0).val) (i 1).val * den scale (Qh x0 (i 0).val) (Kh x1 (i 0).val) (i 1).val)
        * wt scale (Qh x0 (i 0).val) (Kh x1 (i 0).val) (i 1).val k := by
  rw [val_main_v52_apply, Finset.sum_range]
  refine (zero_init _ _).trans (Finset.sum_congr rfl fun k _ => ?_)
  rw [val_main_v51_apply, val_main_v50_apply, v46_at, v33_at, val_main_v49_apply, val_main_v40_apply, val_main_v38_apply, v35_at]
  have e : val_main_v39 (F := Ideal) (idx_main_v49 (idx_main_v52 i k)) = (1 : EReal) := by
    rw [val_main_v39_apply]
    exact ofBits_one
  rw [e]; rfl

theorem v58_at (i : S4x2048x256.Idx) : val_main_v58 (F := Ideal) x0 x1 x2 i
    = -∑ k ∈ Finset.range 256, dprob (Vh x1 (i 0).val) (Dh x2 (i 0).val) (i 1).val k
        * Ideal.div 1 (den scale (Qh x0 (i 0).val) (Kh x1 (i 0).val) (i 1).val * den scale (Qh x0 (i 0).val) (Kh x1 (i 0).val) (i 1).val)
        * wt scale (Qh x0 (i 0).val) (Kh x1 (i 0).val) (i 1).val k := by
  have h1 : (i 1).val < 2048 := (i 1).isLt
  rw [val_main_v58_apply, val_main_v57_apply]
  refine (zero_init _ _).trans ?_
  rw [Fin.sum_univ_one, val_main_v54_apply, val_main_v53_apply, v52_at]
  have e0 : (idx_main_v53 (idx_main_v57 (idx_main_v58 i) 0) 0).val = (i 0).val := by
    show (((i 0).val * 2048 + (i 1).val) * 1 + 0) / 2048 = (i 0).val; omega
  have e1 : (idx_main_v53 (idx_main_v57 (idx_main_v58 i) 0) 1).val = (i 1).val := by
    show (((i 0).val * 2048 + (i 1).val) * 1 + 0) % 2048 = (i 1).val; omega
  rw [e0, e1]; rfl

variable (h0 : ∀ i, ∃ r : ℝ, x0 i = (r : EReal)) (h1 : ∀ i, ∃ r : ℝ, x1 i = (r : EReal))

theorem at2_real {m n : ℕ} {x : (⟨2, ![m, n]⟩ : Shape).Idx → EReal} (h : ∀ i, ∃ r : ℝ, x i = (r : EReal)) (a b : ℕ) :
    ∃ r : ℝ, at2 x a b = (r : EReal) := by
  unfold at2
  split
  · exact h _
  · exact ⟨0, EReal.coe_zero.symm⟩

include h0 h1

theorem v62_at (i : S4x2048x256.Idx) : val_main_v62 (F := Ideal) x0 x1 x2 i
    = dscore scale (Qh x0 (i 0).val) (Kh x1 (i 0).val) (Vh x1 (i 0).val) (Dh x2 (i 0).val) (i 1).val (i 2).val * scale := by
  rw [val_main_v62_apply, val_main_v61_apply]
  refine (div_root _ _).trans (congrArg (· * scale) ?_)
  rw [val_main_v60_apply, val_main_v59_apply, val_main_v56_apply, v46_at, v33_at, val_main_v55_apply, v35_at, v58_at]
  exact dscore_quot (fun a b => at2_real h0 _ _) (fun a b => at2_real h1 _ _) scale_pos _ _ _ _

/-- The keys' gradient. -/
theorem v64_at (i : S256x4x128.Idx) : val_main_v64 (F := Ideal) x0 x1 x2 i
    = dkey scale (Qh x0 (i 1).val) (Kh x1 (i 1).val) (Vh x1 (i 1).val) (Dh x2 (i 1).val) 2048 (i 0).val (i 2).val := by
  rw [val_main_v64_apply, val_main_v63_apply, dkey, sum_mul_pos scale_pos, Finset.sum_range]
  exact Finset.sum_congr rfl fun k _ =>
    (congrArg₂ (· * ·) (v62_at x0 x1 x2 h0 h1 _) (v4_at x0 _)).trans (mul_right_comm _ _ _)

/-- The queries' gradient. -/
theorem v66_at (i : S2048x4x128.Idx) : val_main_v66 (F := Ideal) x0 x1 x2 i
    = dquery scale (Qh x0 (i 1).val) (Kh x1 (i 1).val) (Vh x1 (i 1).val) (Dh x2 (i 1).val) (i 0).val (i 2).val := by
  rw [val_main_v66_apply, val_main_v65_apply, dquery, sum_mul_pos scale_pos, Finset.sum_range]
  exact Finset.sum_congr rfl fun k _ =>
    (congrArg₂ (· * ·) (v62_at x0 x1 x2 h0 h1 _) (v6_at x1 _)).trans (mul_right_comm _ _ _)

theorem v74_at (i : S2048x512.Idx) : val_main_v74 (F := Ideal) x0 x1 x2 i
    = dqs scale (col (at2 (m := 2048) (n := 5120) x0) 4608) (at2 (m := 256) (n := 1024) x1)
        (col (at2 (m := 2048) (n := 1024) x2) 512) (i 0).val (i 1).val := by
  have hi : (i 1).val < 512 := (i 1).isLt
  rw [val_main_v74_apply, val_main_v72_apply, v66_at x0 x1 x2 h0 h1]
  have e0 : (idx_main_v72 i 0).val = (i 0).val := by show ((i 0).val * 512 + (i 1).val) / 512 = (i 0).val; omega
  have e1 : (idx_main_v72 i 1).val = (i 1).val / 128 := by show ((i 0).val * 512 + (i 1).val) / 128 % 4 = _; omega
  have e2 : (idx_main_v72 i 2).val = (i 1).val % 128 := by show ((i 0).val * 512 + (i 1).val) % 128 = _; omega
  rw [e0, e1, e2]; rfl

theorem v73_at (i : S256x1024.Idx) : val_main_v73 (F := Ideal) x0 x1 x2 i
    = dkvs scale (col (at2 (m := 2048) (n := 5120) x0) 4608) (at2 (m := 256) (n := 1024) x1)
        (col (at2 (m := 2048) (n := 1024) x2) 512) 2048 (i 0).val (i 1).val := by
  have hi : (i 1).val < 1024 := (i 1).isLt
  have e0 : (idx_main_v73 i 0).val = (i 0).val := by show ((i 0).val * 1024 + (i 1).val) / 1024 = (i 0).val; omega
  have e1 : (idx_main_v73 i 1).val = (i 1).val / 512 := by show ((i 0).val * 1024 + (i 1).val) / 512 % 2 = _; omega
  have e2 : (idx_main_v73 i 2).val = (i 1).val / 128 % 4 := by show ((i 0).val * 1024 + (i 1).val) / 128 % 4 = _; omega
  have e3 : (idx_main_v73 i 3).val = (i 1).val % 128 := by show ((i 0).val * 1024 + (i 1).val) % 128 = _; omega
  rw [val_main_v73_apply, val_main_v71_apply, val_main_v68, val_main_v70]
  show pad _ _ _ _ _ _ _ _ _ + pad _ _ _ _ _ _ _ _ _ = _
  let k : S256x1x4x128.Idx := ix4 (idx_main_v73 i 0) 0 (idx_main_v73 i 2) (idx_main_v73 i 3)
  by_cases h : (i 1).val < 512
  · rw [pad_apply_of_not_inside _ _ _ _ _ _ _ _ 1 (by
        rintro ⟨hl, -⟩
        have : 1 ≤ (idx_main_v73 i 1).val := hl
        omega),
      pad_apply_of_inside _ _ _ _ _ _ _ _ k (fun a => match a with
        | ⟨0, _⟩ => by show (idx_main_v73 i 0).val = 0 + (idx_main_v73 i 0).val * 1; omega
        | ⟨1, _⟩ => by show (idx_main_v73 i 1).val = 0 + 0 * 1; omega
        | ⟨2, _⟩ => by show (idx_main_v73 i 2).val = 0 + (idx_main_v73 i 2).val * 1; omega
        | ⟨3, _⟩ => by show (idx_main_v73 i 3).val = 0 + (idx_main_v73 i 3).val * 1; omega)]
    refine (zero_init _ _).trans ?_
    rw [val_main_v69_apply, v64_at x0 x1 x2 h0 h1, dkvs, if_pos h]
    show dkey scale (Qh x0 (idx_main_v73 i 2).val) (Kh x1 (idx_main_v73 i 2).val) (Vh x1 (idx_main_v73 i 2).val)
      (Dh x2 (idx_main_v73 i 2).val) 2048 (idx_main_v73 i 0).val (idx_main_v73 i 3).val = _
    rw [e0, e2, e3, show (i 1).val / 128 % 4 = (i 1).val / 128 by omega]; rfl
  · rw [add_comm, pad_apply_of_not_inside _ _ _ _ _ _ _ _ 1 (by
        rintro ⟨-, -, hl⟩
        have : ((idx_main_v73 i 1).val - 0) / 1 < 1 := hl
        omega),
      pad_apply_of_inside _ _ _ _ _ _ _ _ k (fun a => match a with
        | ⟨0, _⟩ => by show (idx_main_v73 i 0).val = 0 + (idx_main_v73 i 0).val * 1; omega
        | ⟨1, _⟩ => by show (idx_main_v73 i 1).val = 1 + 0 * 1; omega
        | ⟨2, _⟩ => by show (idx_main_v73 i 2).val = 0 + (idx_main_v73 i 2).val * 1; omega
        | ⟨3, _⟩ => by show (idx_main_v73 i 3).val = 0 + (idx_main_v73 i 3).val * 1; omega)]
    refine (zero_init _ _).trans ?_
    rw [val_main_v67_apply, v48_at, dkvs, if_neg h]
    show dvalue scale (Qh x0 (idx_main_v73 i 2).val) (Kh x1 (idx_main_v73 i 2).val)
      (Dh x2 (idx_main_v73 i 2).val) 2048 (idx_main_v73 i 0).val (idx_main_v73 i 3).val = _
    rw [e0, e2, e3, show (i 1).val / 128 % 4 = ((i 1).val - 512) / 128 by omega,
      show (i 1).val % 128 = ((i 1).val - 512) % 128 by omega]; rfl

end Cert.MemoryRef

end
-- ==== Proof.DmemA.lean ====
/- The backward pass of the memory attention of the even layers: a block of 256 rows at a time, the keys' and the values'
   gradients summed over the blocks. -/
module

public import proofs.«01_k».proof.Proof.Pre
public import proofs.«01_k».proof.Proof.MemoryRef
public import proofs.«01_k».proof.Proof.Gen.DmemA.Frame
public import proofs.«01_k».proof.Proof.Gen.DmemAIdeal.Frame
public import proofs.«01_k».proof.Proof.Gen.DmemAIdeal.Value
public import proofs.«01_k».proof.Proof.Gen.DmemARefIdeal.Run
public import proofs.«01_k».proof.Proof.Gen.DmemARefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.DmemAIdeal.Block

open Idealize.ShloMosaic Idealize.ShloMosaic.TcCoe Idealize.SL.Sem
open Idealize.ShloMosaic.Pipeline (Dat)
open Cert.DmemAIdeal Cert.DmemAIdeal.Gen Cert.Product Cert.Memory

variable (m : (ℓ : Loc nD τ sig) → Buf (Elt Ideal) ℓ) (c : Dev nD)

theorem idx0 : ∀ t : Fin cfg0.N, win0_0.index t = ![t.val, 9] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 1] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

/-- The scale, the queries, the keys, the values and the cotangent. -/
abbrev κs : EReal := Named.named (F := Ideal) κ "scale" (φ := .f32) 0x3DB504F3#32
abbrev Qs : ℕ → ℕ → EReal := col (at2 (m := 2048) (n := 5120) (m ((c : Thread nD τ).loc main_arg0))) 4608
abbrev Ks : ℕ → ℕ → EReal := at2 (m := 256) (n := 1024) (m ((c : Thread nD τ).loc main_arg1))
abbrev Ds : ℕ → ℕ → EReal := col (at2 (m := 2048) (n := 1024) (m ((c : Thread nD τ).loc main_arg2))) 512

/-- The blocks the body reads, entry by entry. -/
theorem read0 (t : Fin cfg0.N) (a k : ℕ) (ha : a < 256) (hk : k < 512) : at2 (m := 256) (n := 512) (iblk m c 0 t) a k
    = row (Qs m c) (t.val * 256) a k :=
  at2_sub (p := t.val * 256 + a) (q := 4608 + k) (m ((c : Thread nD τ).loc main_arg0)) ((cfg0.win 0).blk t).view.emb ha hk (by blk_simp [idx0]) (by blk_simp [idx0])
theorem read1 (t : Fin cfg0.N) (a k : ℕ) (ha : a < 256) (hk : k < 1024) : at2 (m := 256) (n := 1024) (iblk m c 1 t) a k
    = Ks m c a k :=
  at2_sub (m ((c : Thread nD τ).loc main_arg1)) ((cfg0.win 1).blk t).view.emb ha hk (by blk_simp [idx1]) (by blk_simp [idx1])
theorem read2 (t : Fin cfg0.N) (a k : ℕ) (ha : a < 256) (hk : k < 512) : at2 (m := 256) (n := 512) (iblk m c 2 t) a k
    = row (Ds m c) (t.val * 256) a k :=
  at2_sub (p := t.val * 256 + a) (q := 512 + k) (m ((c : Thread nD τ).loc main_arg2)) ((cfg0.win 2).blk t).view.emb ha hk (by blk_simp [idx2]) (by blk_simp [idx2])

theorem shapes : Shapes where
  nt := dot_S256x128_S256x128_S256x256_1_1_0_0_n_n.wf
  nn := dot_S256x256_S256x128_S256x128_1_0_0_1_n_n.wf
  tn := dot_S256x256_S256x128_S256x128_0_0_1_1_n_n.wf
  red := Facts₀.reduces_S256x256_S256
  col := Facts₀.shapeCasts_S256_S256x1
  wide := Facts₀.broadcasts_S256x1_S256x256

theorem mod_pos {n : ℕ} (h : ¬n % 8 = 0) : 1 ≤ n := by omega

/-- The array of the queries' gradient after the run. -/
theorem final3 : (dats m 0 c).arrAt 3 cfg0.N = fun i : S2048x512.Idx =>
    dqs κs (Qs m c) (Ks m c) (Ds m c) (i 0).val (i 1).val := by
  refine (dats m 0 c).arrAt_eq_of_covers 3 _ (by decide +kernel) fun t hf y => ?_
  blk_simp
  rw [after0_3]
  have ht : t.val < 8 := t.isLt
  by_cases h : t.val % 8 = 0
  · rw [outsAt0_A m c t h (by omega) h (by omega) h (by omega) h (by omega)]
    frame_out
    canon_tiles x hx
    all_goals refine dq_piece shapes κs (t.val * 256) (read0 m c t) (read1 m c t) (read2 m c t) ?_ ?_ _ _ _ x ?_ ?_
    all_goals first | decide | (blk_simp [idx3]; omega)
  · rw [outsAt0_B m c t h (mod_pos h) h (mod_pos h) h (mod_pos h) h (mod_pos h)]
    frame_out
    canon_tiles x hx
    all_goals refine dq_piece shapes κs (t.val * 256) (read0 m c t) (read1 m c t) (read2 m c t) ?_ ?_ _ _ _ x ?_ ?_
    all_goals first | decide | (blk_simp [idx3]; omega)

/-- What a block of rows adds to the keys' and the values' gradients. -/
def term (t : ℕ) (j : S256x1024.Idx) : EReal :=
  dkvs κs (row (Qs m c) (t * 256)) (Ks m c) (row (Ds m c) (t * 256)) 256 (j 0).val (j 1).val

theorem step0 (t : Fin cfg0.N) (h : t.val % 8 = 0) (j : S256x1024.Idx) :
    (outsAt0 m c t.val t.isLt).2 j = 0 + term m c t.val j := by
  have ht : t.val < 8 := t.isLt
  rw [outsAt0_A m c t h (by omega) h (by omega) h (by omega) h (by omega), zero_add]
  frame_out
  unfold term
  canon_tiles x hx
  all_goals first
    | refine dk_piece shapes κs (t.val * 256) (read0 m c t) (read1 m c t) (read2 m c t) ?_ ?_ _ _ _ x ?_ ?_ ?_
    | refine dv_piece shapes κs (t.val * 256) (read0 m c t) (read1 m c t) (read2 m c t) ?_ _ _ x ?_ ?_ ?_
  all_goals first | decide | omega

theorem step1 (t : Fin cfg0.N) (h : ¬t.val % 8 = 0) (j : S256x1024.Idx) :
    (outsAt0 m c t.val t.isLt).2 j
      = (outsAt0 m c (t.val - 1) (Nat.lt_of_le_of_lt (Nat.sub_le _ _) t.isLt)).2 j + term m c t.val j := by
  rw [outsAt0_B m c t h (mod_pos h) h (mod_pos h) h (mod_pos h) h (mod_pos h)]
  frame_out
  unfold term
  canon_tiles x hx
  all_goals refine congrArg₂ (· + ·) (before_piece _ _ _ x j hx0 ?_) ?_
  all_goals first
    | omega
    | refine dk_piece shapes κs (t.val * 256) (read0 m c t) (read1 m c t) (read2 m c t) ?_ ?_ _ _ _ x ?_ ?_ ?_
    | refine dv_piece shapes κs (t.val * 256) (read0 m c t) (read1 m c t) (read2 m c t) ?_ _ _ x ?_ ?_ ?_
  all_goals first | decide | omega

/-- The named scale. -/
theorem scale_eq : κs = (((Real.sqrt 128)⁻¹ : ℝ) : EReal) := IdealRules.named_const.ideal_named_scalar _ _ _ _ rfl

/-- The array of the keys' and the values' gradients after the run. -/
theorem final4 : (dats m 0 c).arrAt 4 cfg0.N = fun i : S256x1024.Idx =>
    dkvs κs (Qs m c) (Ks m c) (Ds m c) 2048 (i 0).val (i 1).val := by
  refine (dats m 0 c).arrAt_eq_of_covers 4 _ (by decide +kernel) fun t hf y => ?_
  blk_simp
  rw [after0_4]
  rw [Pipeline.eq_sum_of_reset_step_apply_single_of_mod (fun n h => (outsAt0 m c n h).2) 8 (fun _ => 0) (term m c)
    (step0 m c) (step1 m c) (le_of_eq rfl) t ((flush0_4 t).mp hf) y, zero_add]
  unfold term
  simp only [Nat.mul_comm _ 256]
  rw [scale_eq, dkvs_blocks (Qs m c) (Ks m c) (Ds m c) (inv_nonneg.mpr (Real.sqrt_nonneg _)) 256 8]
  blk_simp [idx4]
  rw [Nat.mul_zero, Nat.zero_add]

end Cert.DmemAIdeal.Block

namespace Cert.DmemAClaims

open Idealize.ShloMosaic Idealize.ShloMosaic.TcCoe Idealize.SL.Sem Cert.Product Cert.Memory

/-- The shape relations the precondition's operations take. -/
theorem pre_facts : Cert.Pre_finite_memory_a.Facts where
  bitsLt_bf16_f32 := by decide
  bcast_S_S2048x5120 := by decide
  reducesTo_S2048x5120_S_d0_1 := by decide
  h_S_ := by decide
  bcast_S_S256x1024 := by decide
  reducesTo_S256x1024_S_d0_1 := by decide

attribute [local instance] Cert.DmemA.Gen.facts Cert.DmemAIdeal.Gen.facts Cert.DmemARefIdeal.Gen.facts pre_facts

theorem frame_p : Cert.quiescent_DmemA := fun m ρ _ => Cert.DmemA.Gen.frame m ρ
theorem frame_pi : Cert.quiescent_DmemAIdeal := fun m ρ _ => Cert.DmemAIdeal.Gen.frame m ρ
theorem frame_ri : Cert.quiescent_DmemARefIdeal := fun m ρ _ =>
  (θ_run Cert.DmemARefIdeal.defs _ _).mono (fun r h => ⟨fun c => (h c).2.2,
      Idealize.ShloMosaic.sem_eq_zero_of_no_sems (by decide) r.2⟩)
    (Cert.DmemARefIdeal.Value.run (F := Ideal) m ρ)

/-- The named constant stands for its real value. -/
theorem preserves : Cert.preserves_DmemA_DmemAIdeal :=
  IdealRules.named_const.statement Cert.DmemAIdeal.κ "scale" .f32 0x3DB504F3#32 (((Real.sqrt 128)⁻¹ : ℝ) : EReal) rfl

/-- Under the precondition the projection and the keys and values are real. -/
theorem reals (m : (ℓ : Loc Cert.DmemAIdeal.nD Cert.DmemAIdeal.τ Cert.DmemAIdeal.sig) → Buf (Elt Ideal) ℓ)
    (h : Cert.Pre_DmemAIdeal m) (c : Dev Cert.DmemAIdeal.nD) :
    (∀ i, ∃ r : ℝ, m ((c.tc : Thread Cert.DmemAIdeal.nD Cert.DmemAIdeal.τ).loc Cert.DmemAIdeal.main_arg0) i = (r : EReal))
      ∧ ∀ i, ∃ r : ℝ, m ((c.tc : Thread Cert.DmemAIdeal.nD Cert.DmemAIdeal.τ).loc Cert.DmemAIdeal.main_arg1) i = (r : EReal) := by
  have e := congrFun (h c) (Shape.Idx.first (s := Cert.Pre_finite_memory_a.S_) (by decide))
  obtain ⟨e0, e1⟩ := Cert.Pre.and_one (show _ &&& _ = 1#1 from e)
  exact ⟨Cert.Pre.real_of_all _ _ _ _ _ e0, Cert.Pre.real_of_all _ _ _ _ _ e1⟩

/-- The kernel's two arrays are the reference's, element by element. -/
theorem algebraic : Cert.algebraic_DmemAIdeal_DmemARefIdeal := by
  intro m ρ m' ρ' hpre hagree
  refine ⟨_, _, Cert.DmemAIdeal.Value.run_blocks (F := Ideal) m ρ, ?_⟩
  refine (θ_run Cert.DmemARefIdeal.defs _ _).mono (fun r h c => ?_)
    (Cert.DmemARefIdeal.Value.run (F := Ideal) m' ρ')
  obtain ⟨a0, a1, a2⟩ := hagree c
  obtain ⟨r0, r1⟩ := reals m hpre c
  obtain ⟨h0, h1, hargs⟩ := h c
  refine ⟨h0.trans ?_, h1.trans ?_, hargs⟩
  · rw [Cert.DmemAIdeal.Block.final3, Cert.DmemARefIdeal.Read.val_main_v74_eq, a0, a1, a2, Cert.DmemAIdeal.Block.scale_eq]
    exact funext fun i => Cert.MemoryRef.v74_at _ _ _ r0 r1 i
  · rw [Cert.DmemAIdeal.Block.final4, Cert.DmemARefIdeal.Read.val_main_v73_eq, a0, a1, a2, Cert.DmemAIdeal.Block.scale_eq]
    exact funext fun i => Cert.MemoryRef.v73_at _ _ _ r0 r1 i

end Cert.DmemAClaims

end
-- ==== Proof.DmemB.lean ====
/- The backward pass of the memory attention of the odd layers: a block of 256 rows at a time, the keys' and the values'
   gradients summed over the blocks. -/
module

public import proofs.«01_k».proof.Proof.Pre
public import proofs.«01_k».proof.Proof.MemoryRef
public import proofs.«01_k».proof.Proof.Gen.DmemB.Frame
public import proofs.«01_k».proof.Proof.Gen.DmemBIdeal.Frame
public import proofs.«01_k».proof.Proof.Gen.DmemBIdeal.Value
public import proofs.«01_k».proof.Proof.Gen.DmemBRefIdeal.Run
public import proofs.«01_k».proof.Proof.Gen.DmemBRefIdeal.Read
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.DmemBIdeal.Block

open Idealize.ShloMosaic Idealize.ShloMosaic.TcCoe Idealize.SL.Sem
open Idealize.ShloMosaic.Pipeline (Dat)
open Cert.DmemBIdeal Cert.DmemBIdeal.Gen Cert.Product Cert.Memory

variable (m : (ℓ : Loc nD τ sig) → Buf (Elt Ideal) ℓ) (c : Dev nD)

theorem idx0 : ∀ t : Fin cfg0.N, win0_0.index t = ![t.val, 6] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 3] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)

/-- The scale, the queries, the keys, the values and the cotangent. -/
abbrev κs : EReal := Named.named (F := Ideal) κ "scale" (φ := .f32) 0x3DB504F3#32
abbrev Qs : ℕ → ℕ → EReal := col (at2 (m := 2048) (n := 3584) (m ((c : Thread nD τ).loc main_arg0))) 3072
abbrev Ks : ℕ → ℕ → EReal := at2 (m := 256) (n := 1024) (m ((c : Thread nD τ).loc main_arg1))
abbrev Ds : ℕ → ℕ → EReal := col (at2 (m := 2048) (n := 2048) (m ((c : Thread nD τ).loc main_arg2))) 1536

/-- The blocks the body reads, entry by entry. -/
theorem read0 (t : Fin cfg0.N) (a k : ℕ) (ha : a < 256) (hk : k < 512) : at2 (m := 256) (n := 512) (iblk m c 0 t) a k
    = row (Qs m c) (t.val * 256) a k :=
  at2_sub (p := t.val * 256 + a) (q := 3072 + k) (m ((c : Thread nD τ).loc main_arg0)) ((cfg0.win 0).blk t).view.emb ha hk (by blk_simp [idx0]) (by blk_simp [idx0])
theorem read1 (t : Fin cfg0.N) (a k : ℕ) (ha : a < 256) (hk : k < 1024) : at2 (m := 256) (n := 1024) (iblk m c 1 t) a k
    = Ks m c a k :=
  at2_sub (m ((c : Thread nD τ).loc main_arg1)) ((cfg0.win 1).blk t).view.emb ha hk (by blk_simp [idx1]) (by blk_simp [idx1])
theorem read2 (t : Fin cfg0.N) (a k : ℕ) (ha : a < 256) (hk : k < 512) : at2 (m := 256) (n := 512) (iblk m c 2 t) a k
    = row (Ds m c) (t.val * 256) a k :=
  at2_sub (p := t.val * 256 + a) (q := 1536 + k) (m ((c : Thread nD τ).loc main_arg2)) ((cfg0.win 2).blk t).view.emb ha hk (by blk_simp [idx2]) (by blk_simp [idx2])

theorem shapes : Shapes where
  nt := dot_S256x128_S256x128_S256x256_1_1_0_0_n_n.wf
  nn := dot_S256x256_S256x128_S256x128_1_0_0_1_n_n.wf
  tn := dot_S256x256_S256x128_S256x128_0_0_1_1_n_n.wf
  red := Facts₀.reduces_S256x256_S256
  col := Facts₀.shapeCasts_S256_S256x1
  wide := Facts₀.broadcasts_S256x1_S256x256

theorem mod_pos {n : ℕ} (h : ¬n % 8 = 0) : 1 ≤ n := by omega

/-- The array of the queries' gradient after the run. -/
theorem final3 : (dats m 0 c).arrAt 3 cfg0.N = fun i : S2048x512.Idx =>
    dqs κs (Qs m c) (Ks m c) (Ds m c) (i 0).val (i 1).val := by
  refine (dats m 0 c).arrAt_eq_of_covers 3 _ (by decide +kernel) fun t hf y => ?_
  blk_simp
  rw [after0_3]
  have ht : t.val < 8 := t.isLt
  by_cases h : t.val % 8 = 0
  · rw [outsAt0_A m c t h (by omega) h (by omega) h (by omega) h (by omega)]
    frame_out
    canon_tiles x hx
    all_goals refine dq_piece shapes κs (t.val * 256) (read0 m c t) (read1 m c t) (read2 m c t) ?_ ?_ _ _ _ x ?_ ?_
    all_goals first | decide | (blk_simp [idx3]; omega)
  · rw [outsAt0_B m c t h (mod_pos h) h (mod_pos h) h (mod_pos h) h (mod_pos h)]
    frame_out
    canon_tiles x hx
    all_goals refine dq_piece shapes κs (t.val * 256) (read0 m c t) (read1 m c t) (read2 m c t) ?_ ?_ _ _ _ x ?_ ?_
    all_goals first | decide | (blk_simp [idx3]; omega)

/-- What a block of rows adds to the keys' and the values' gradients. -/
def term (t : ℕ) (j : S256x1024.Idx) : EReal :=
  dkvs κs (row (Qs m c) (t * 256)) (Ks m c) (row (Ds m c) (t * 256)) 256 (j 0).val (j 1).val

theorem step0 (t : Fin cfg0.N) (h : t.val % 8 = 0) (j : S256x1024.Idx) :
    (outsAt0 m c t.val t.isLt).2 j = 0 + term m c t.val j := by
  have ht : t.val < 8 := t.isLt
  rw [outsAt0_A m c t h (by omega) h (by omega) h (by omega) h (by omega), zero_add]
  frame_out
  unfold term
  canon_tiles x hx
  all_goals first
    | refine dk_piece shapes κs (t.val * 256) (read0 m c t) (read1 m c t) (read2 m c t) ?_ ?_ _ _ _ x ?_ ?_ ?_
    | refine dv_piece shapes κs (t.val * 256) (read0 m c t) (read1 m c t) (read2 m c t) ?_ _ _ x ?_ ?_ ?_
  all_goals first | decide | omega

theorem step1 (t : Fin cfg0.N) (h : ¬t.val % 8 = 0) (j : S256x1024.Idx) :
    (outsAt0 m c t.val t.isLt).2 j
      = (outsAt0 m c (t.val - 1) (Nat.lt_of_le_of_lt (Nat.sub_le _ _) t.isLt)).2 j + term m c t.val j := by
  rw [outsAt0_B m c t h (mod_pos h) h (mod_pos h) h (mod_pos h) h (mod_pos h)]
  frame_out
  unfold term
  canon_tiles x hx
  all_goals refine congrArg₂ (· + ·) (before_piece _ _ _ x j hx0 ?_) ?_
  all_goals first
    | omega
    | refine dk_piece shapes κs (t.val * 256) (read0 m c t) (read1 m c t) (read2 m c t) ?_ ?_ _ _ _ x ?_ ?_ ?_
    | refine dv_piece shapes κs (t.val * 256) (read0 m c t) (read1 m c t) (read2 m c t) ?_ _ _ x ?_ ?_ ?_
  all_goals first | decide | omega

/-- The named scale. -/
theorem scale_eq : κs = (((Real.sqrt 128)⁻¹ : ℝ) : EReal) := IdealRules.named_const.ideal_named_scalar _ _ _ _ rfl

/-- The array of the keys' and the values' gradients after the run. -/
theorem final4 : (dats m 0 c).arrAt 4 cfg0.N = fun i : S256x1024.Idx =>
    dkvs κs (Qs m c) (Ks m c) (Ds m c) 2048 (i 0).val (i 1).val := by
  refine (dats m 0 c).arrAt_eq_of_covers 4 _ (by decide +kernel) fun t hf y => ?_
  blk_simp
  rw [after0_4]
  rw [Pipeline.eq_sum_of_reset_step_apply_single_of_mod (fun n h => (outsAt0 m c n h).2) 8 (fun _ => 0) (term m c)
    (step0 m c) (step1 m c) (le_of_eq rfl) t ((flush0_4 t).mp hf) y, zero_add]
  unfold term
  simp only [Nat.mul_comm _ 256]
  rw [scale_eq, dkvs_blocks (Qs m c) (Ks m c) (Ds m c) (inv_nonneg.mpr (Real.sqrt_nonneg _)) 256 8]
  blk_simp [idx4]
  rw [Nat.mul_zero, Nat.zero_add]

end Cert.DmemBIdeal.Block

namespace Cert.DmemBRef

open Idealize.ShloMosaic Idealize.ShloMosaic.ValueIdx Cert.Product Cert.Memory Cert.MemoryRef

attribute [local instance] Cert.DmemARefIdeal.Gen.facts Cert.DmemBRefIdeal.Gen.facts

/- The reference of these layers is the one of the even layers, from the columns where those have their operands. -/

variable (y0 : FVec Ideal Cert.DmemBRefIdeal.S2048x3584 .f32) (x1 : FVec Ideal Cert.DmemBRefIdeal.S256x1024 .f32)
  (y2 : FVec Ideal Cert.DmemBRefIdeal.S2048x2048 .f32)

def wide0 : FVec Ideal Cert.DmemARefIdeal.S2048x5120 .bf16 := fun i =>
  at2 (m := 2048) (n := 3584) y0 (i 0).val ((i 1).val - 1536)
theorem real0 (h : ∀ i, ∃ r : ℝ, y0 i = (r : EReal)) (i) : ∃ r : ℝ, wide0 y0 i = (r : EReal) := at2_real h _ _
def wide2 : FVec Ideal Cert.DmemARefIdeal.S2048x1024 .f32 := fun i =>
  at2 (m := 2048) (n := 2048) y2 (i 0).val ((i 1).val + 1024)

theorem queries : Cert.DmemBRefIdeal.Read.val_main_v3 (F := Ideal) y0
    = Cert.DmemARefIdeal.Read.val_main_v4 (F := Ideal) (wide0 y0) := by
  funext i
  rw [Cert.DmemBRefIdeal.Read.val_main_v3_apply, Cert.DmemBRefIdeal.Read.val_main_v0_apply,
    Cert.DmemARefIdeal.Read.val_main_v4_apply, Cert.DmemARefIdeal.Read.val_main_v2_apply, Cert.DmemARefIdeal.Read.val_main_v0_apply]
  refine at2_of y0 _ rfl ?_
  show 3072 + (((i 0).val * 4 + (i 1).val) * 128 + (i 2).val) % 512
    = 4608 + (((i 0).val * 4 + (i 1).val) * 128 + (i 2).val) % 512 - 1536
  omega

theorem cotangent : Cert.DmemBRefIdeal.Read.val_main_v43 (F := Ideal) y2
    = Cert.DmemARefIdeal.Read.val_main_v44 (F := Ideal) (wide2 y2) := by
  funext i
  rw [Cert.DmemBRefIdeal.Read.val_main_v43_apply, Cert.DmemBRefIdeal.Read.val_main_v1_apply,
    Cert.DmemARefIdeal.Read.val_main_v44_apply, Cert.DmemARefIdeal.Read.val_main_v1_apply]
  refine at2_of y2 _ rfl ?_
  show 1536 + (((i 0).val * 4 + (i 1).val) * 128 + (i 2).val) % 512
    = 512 + (((i 0).val * 4 + (i 1).val) * 128 + (i 2).val) % 512 + 1024
  omega

theorem col0 : col (at2 (m := 2048) (n := 5120) (wide0 y0)) 4608 = col (at2 (m := 2048) (n := 3584) y0) 3072 := by
  funext r e
  unfold col
  by_cases h : r < 2048 ∧ e < 512
  · refine (at2_of (wide0 y0) (ValueIdx.ix2 ⟨r, h.1⟩ ⟨4608 + e, by omega⟩) rfl rfl).symm.trans ?_
    show at2 (m := 2048) (n := 3584) y0 r (4608 + e - 1536) = _
    rw [show 4608 + e - 1536 = 3072 + e by omega]
  · unfold at2
    rw [dif_neg (by omega), dif_neg (by omega)]

theorem col2 : col (at2 (m := 2048) (n := 1024) (wide2 y2)) 512 = col (at2 (m := 2048) (n := 2048) y2) 1536 := by
  funext r e
  unfold col
  by_cases h : r < 2048 ∧ e < 512
  · refine (at2_of (wide2 y2) (ValueIdx.ix2 ⟨r, h.1⟩ ⟨512 + e, by omega⟩) rfl rfl).symm.trans ?_
    show at2 (m := 2048) (n := 2048) y2 r (512 + e + 1024) = _
    rw [show 512 + e + 1024 = 1536 + e by omega]
  · unfold at2
    rw [dif_neg (by omega), dif_neg (by omega)]

section
open Cert.DmemBRefIdeal.Read

theorem same : val_main_v73 (F := Ideal) y0 x1 y2 = Cert.DmemARefIdeal.Read.val_main_v74 (F := Ideal) (wide0 y0) x1 (wide2 y2)
    ∧ val_main_v72 (F := Ideal) y0 x1 y2 = Cert.DmemARefIdeal.Read.val_main_v73 (F := Ideal) (wide0 y0) x1 (wide2 y2) := by
  delta
    val_main_v2 val_main_v4 val_main_v5 val_main_v6 val_main_v7 val_main_v8 val_main_cst val_main_v9 val_main_v10 val_main_v11
    val_main_cst_0 val_main_v12 val_main_v13 val_main_v14 val_main_v15 val_main_v16 val_main_cst_1 val_main_v17 val_main_cst_2
    val_main_v18 val_main_v19 val_main_cst_3 val_main_v20 val_main_v21 val_main_cst_4 val_main_v22 val_main_v23 val_main_cst_5
    val_main_v24 val_main_cst_6 val_main_v25 val_main_cst_7 val_main_v26 val_main_v27 val_main_v28 val_main_v29 val_main_v30
    val_main_v31 val_main_v32 val_main_cst_8 val_main_v33 val_main_v34 val_main_v35 val_main_v36 val_main_v37 val_main_cst_9
    val_main_v38 val_main_v39 val_main_v40 val_main_v41 val_main_v42 val_main_v44 val_main_v45 val_main_v46 val_main_v47
    val_main_v48 val_main_v49 val_main_v50 val_main_cst_10 val_main_v51 val_main_v52 val_main_v53 val_main_v54 val_main_v55
    val_main_cst_11 val_main_v56 val_main_v57 val_main_v58 val_main_v59 val_main_v60 val_main_v61 val_main_v62 val_main_v63
    val_main_v64 val_main_v65 val_main_v66 val_main_cst_12 val_main_v67 val_main_v68 val_main_cst_13 val_main_v69 val_main_v70
    val_main_v71 val_main_v72 val_main_v73
  rw [queries, cotangent]
  exact ⟨rfl, rfl⟩

end

end Cert.DmemBRef

namespace Cert.DmemBClaims

open Idealize.ShloMosaic Idealize.ShloMosaic.TcCoe Idealize.SL.Sem Cert.Product Cert.Memory

/-- The shape relations the precondition's operations take. -/
theorem pre_facts : Cert.Pre_finite_memory_b.Facts where
  bcast_S_S2048x3584 := by decide
  reducesTo_S2048x3584_S_d0_1 := by decide
  h_S_ := by decide
  bcast_S_S256x1024 := by decide
  reducesTo_S256x1024_S_d0_1 := by decide

attribute [local instance] Cert.DmemB.Gen.facts Cert.DmemBIdeal.Gen.facts Cert.DmemBRefIdeal.Gen.facts pre_facts

theorem frame_p : Cert.quiescent_DmemB := fun m ρ _ => Cert.DmemB.Gen.frame m ρ
theorem frame_pi : Cert.quiescent_DmemBIdeal := fun m ρ _ => Cert.DmemBIdeal.Gen.frame m ρ
theorem frame_ri : Cert.quiescent_DmemBRefIdeal := fun m ρ _ =>
  (θ_run Cert.DmemBRefIdeal.defs _ _).mono (fun r h => ⟨fun c => (h c).2.2,
      Idealize.ShloMosaic.sem_eq_zero_of_no_sems (by decide) r.2⟩)
    (Cert.DmemBRefIdeal.Value.run (F := Ideal) m ρ)

/-- The named constant stands for its real value. -/
theorem preserves : Cert.preserves_DmemB_DmemBIdeal :=
  IdealRules.named_const.statement Cert.DmemBIdeal.κ "scale" .f32 0x3DB504F3#32 (((Real.sqrt 128)⁻¹ : ℝ) : EReal) rfl

/-- Under the precondition the projection and the keys and values are real. -/
theorem reals (m : (ℓ : Loc Cert.DmemBIdeal.nD Cert.DmemBIdeal.τ Cert.DmemBIdeal.sig) → Buf (Elt Ideal) ℓ)
    (h : Cert.Pre_DmemBIdeal m) (c : Dev Cert.DmemBIdeal.nD) :
    (∀ i, ∃ r : ℝ, m ((c.tc : Thread Cert.DmemBIdeal.nD Cert.DmemBIdeal.τ).loc Cert.DmemBIdeal.main_arg0) i = (r : EReal))
      ∧ ∀ i, ∃ r : ℝ, m ((c.tc : Thread Cert.DmemBIdeal.nD Cert.DmemBIdeal.τ).loc Cert.DmemBIdeal.main_arg1) i = (r : EReal) := by
  have e := congrFun (h c) (Shape.Idx.first (s := Cert.Pre_finite_memory_b.S_) (by decide))
  obtain ⟨e0, e1⟩ := Cert.Pre.and_one (show _ &&& _ = 1#1 from e)
  exact ⟨Cert.Pre.real_of_all _ _ _ _ _ e0, Cert.Pre.real_of_all _ _ _ _ _ e1⟩

/-- The kernel's two arrays are the reference's, element by element. -/
theorem algebraic : Cert.algebraic_DmemBIdeal_DmemBRefIdeal := by
  intro m ρ m' ρ' hpre hagree
  refine ⟨_, _, Cert.DmemBIdeal.Value.run_blocks (F := Ideal) m ρ, ?_⟩
  refine (θ_run Cert.DmemBRefIdeal.defs _ _).mono (fun r h c => ?_)
    (Cert.DmemBRefIdeal.Value.run (F := Ideal) m' ρ')
  obtain ⟨a0, a1, a2⟩ := hagree c
  obtain ⟨r0, r1⟩ := reals m hpre c
  obtain ⟨h0, h1, hargs⟩ := h c
  refine ⟨h0.trans ?_, h1.trans ?_, hargs⟩
  · rw [Cert.DmemBIdeal.Block.final3, Cert.DmemBRefIdeal.Read.val_main_v73_eq, a0, a1, a2, Cert.DmemBIdeal.Block.scale_eq,
      (Cert.DmemBRef.same _ _ _).1]
    funext i
    rw [Cert.MemoryRef.v74_at _ _ _ (Cert.DmemBRef.real0 _ r0) r1, Cert.DmemBRef.col0, Cert.DmemBRef.col2]
  · rw [Cert.DmemBIdeal.Block.final4, Cert.DmemBRefIdeal.Read.val_main_v72_eq, a0, a1, a2, Cert.DmemBIdeal.Block.scale_eq,
      (Cert.DmemBRef.same _ _ _).2]
    funext i
    rw [Cert.MemoryRef.v73_at _ _ _ (Cert.DmemBRef.real0 _ r0) r1, Cert.DmemBRef.col0, Cert.DmemBRef.col2]

end Cert.DmemBClaims

end
-- ==== Proof.Conv.lean ====
/- The gradient of a gated pair of depthwise convolutions over the real numbers, and what the operations that carry it
   out make of arrays of real numbers. Rows are positions, columns are channels; every formula stays in its column. -/
module

public import proofs.«01_k».proof.Proof.Ref
public import Idealize.ShloMosaic.Lib.WordCmp
public import Idealize.ShloMosaic.Lib.KernelVsHost

@[expose] public section

set_option maxRecDepth 16384

noncomputable section

namespace Cert.Conv

open Idealize.ShloMosaic Idealize.ShloMosaic.ValueIdx Cert.Reals
open Idealize.ShloMosaic.WordCmp

/-- The row before, and the row after; nothing lies outside the sequence. -/
def dn (a : ℕ → ℕ → ℝ) (i j : ℕ) : ℝ := if i = 0 then 0 else a (i - 1) j
def up (a : ℕ → ℕ → ℝ) (i j : ℕ) : ℝ := if i = 2047 then 0 else a (i + 1) j
/-- The convolution: the row before, the row and the row after, each with its tap, and the bias. -/
def cnv (a w : ℕ → ℕ → ℝ) (b : ℕ → ℝ) (i j : ℕ) : ℝ := dn a i j * w 0 j + a i j * w 1 j + up a i j * w 2 j + b j
/-- The gradient of the convolved rows. -/
def back (w c : ℕ → ℕ → ℝ) (i j : ℕ) : ℝ := up c i j * w 0 j + c i j * w 1 j + dn c i j * w 2 j
/-- The rows tap `k` meets. -/
def met (a : ℕ → ℕ → ℝ) (k i j : ℕ) : ℝ := if k = 0 then dn a i j else if k = 1 then a i j else up a i j
/-- The gradient of the taps and of the bias. -/
def taps (a c : ℕ → ℕ → ℝ) (k j : ℕ) : ℝ := ∑ i ∈ Finset.range 2048, c i j * met a k i j
def bias (c : ℕ → ℕ → ℝ) (j : ℕ) : ℝ := ∑ i ∈ Finset.range 2048, c i j

section
variable (A W B : ℕ → ℕ → ℕ → ℝ) (D : ℕ → ℕ → ℝ)

/-- Convolution `h`: the gate is the first, the value the second. -/
def half (h : ℕ) : ℕ → ℕ → ℝ := cnv (A h) (W h) (B h 0)
/-- The gradient of the gate before gelu, and of the value. -/
def dgate (i j : ℕ) : ℝ := D i j * half A W B 1 i j * Sgu.slope (half A W B 0 i j)
def dval (i j : ℕ) : ℝ := D i j * Sgu.gelu (half A W B 0 i j)
def dhalf (h : ℕ) : ℕ → ℕ → ℝ := if h = 0 then dgate A W B D else dval A W B D
/-- The three gradients. -/
def da (h : ℕ) : ℕ → ℕ → ℝ := back (W h) (dhalf A W B D h)
def dw (h : ℕ) : ℕ → ℕ → ℝ := taps (A h) (dhalf A W B D h)
def db (h _k : ℕ) : ℕ → ℝ := bias (dhalf A W B D h)
end

/-- The columns from `o` on. -/
def from2 (o : ℕ) (p : ℕ → ℕ → ℝ) (i j : ℕ) : ℝ := p i (o + j)
def from3 (o : ℕ) (p : ℕ → ℕ → ℕ → ℝ) (h i j : ℕ) : ℝ := p h i (o + j)

section
variable (o : ℕ) (A W B : ℕ → ℕ → ℕ → ℝ) (D : ℕ → ℕ → ℝ)

theorem dhalf_from (h : ℕ) : dhalf (from3 o A) (from3 o W) (from3 o B) (from2 o D) h = from2 o (dhalf A W B D h) := by
  unfold dhalf; split_ifs <;> rfl
theorem da_from : da (from3 o A) (from3 o W) (from3 o B) (from2 o D) = from3 o (da A W B D) := by
  funext h i j; unfold da; rw [dhalf_from]; rfl
theorem dw_from : dw (from3 o A) (from3 o W) (from3 o B) (from2 o D) = from3 o (dw A W B D) := by
  funext h i j; unfold dw; rw [dhalf_from]; rfl
theorem db_from : db (from3 o A) (from3 o W) (from3 o B) (from2 o D) = from3 o (db A W B D) := by
  funext h i j; unfold db; rw [dhalf_from]; rfl
end

/-! ## Shifts by rotation -/

section
variable {n : ℕ} (p : ℕ → ℕ → ℝ)

/-- Does the row's number equal `b`? -/
theorem at_row (hi : (⟨2, ![2048, n]⟩ : Shape).Iotas .tc 32 [0]) (b : ℕ) (hb : b < 2 ^ 32) (i : (⟨2, ![2048, n]⟩ : Shape).Idx) :
    cmpi .eq (iota .tc (⟨2, ![2048, n]⟩ : Shape) 32 [0] hi) (broadcast (⟨2, ![2048, n]⟩ : Shape) (BitVec.ofNat 32 b)) i
      = BitVec.ofBool (decide ((i 0).val = b)) := by
  have hl : (i 0).val < 2048 := (i 0).isLt
  rw [cmpi_at, iota_at, broadcast_at]
  show IntOp.cmpi .eq (BitVec.ofNat 32 (0 * 2048 + (i 0).val)) _ = _
  rw [zero_mul, zero_add, cmpi_eq_eq_toNat, BitVec.toNat_ofNat, BitVec.toNat_ofNat, Nat.mod_eq_of_lt hb,
    Nat.mod_eq_of_lt (by omega)]

theorem shift_down (hi : (⟨2, ![2048, n]⟩ : Shape).Iotas .tc 32 [0]) (hr : (⟨2, ![2048, n]⟩ : Shape).Rotates 0 none) :
    select (cmpi .eq (iota .tc (⟨2, ![2048, n]⟩ : Shape) 32 [0] hi) (broadcast (⟨2, ![2048, n]⟩ : Shape) 0#32))
      (broadcast (⟨2, ![2048, n]⟩ : Shape) (Scalar.ofBits .f32 0x00000000#32 : Ideal .f32))
      (dynamicRotate 0 1#32 none (emb2 p : FVec Ideal ⟨2, ![2048, n]⟩ .f32) hr) = emb2 (dn p) := by
  funext i
  have hl : (i 0).val < 2048 := (i 0).isLt
  rw [select_at, at_row hi 0 (by norm_num) i]
  by_cases h : (i 0).val = 0
  · rw [decide_eq_true h]
    show Ideal.ofBits .f32 0x00000000#32 = ((dn p (i 0).val (i 1).val : ℝ) : EReal)
    rw [ofBits_zero, dn, if_pos h]
  · rw [decide_eq_false h]
    show dynamicRotate 0 1#32 none (emb2 p : FVec Ideal ⟨2, ![2048, n]⟩ .f32) hr i = ((dn p (i 0).val (i 1).val : ℝ) : EReal)
    rw [dynamicRotate_apply _ _ _ hr i (ix2 ⟨(i 0).val - 1, by omega⟩ (i 1)) (fun b => match b with
      | ⟨0, _⟩ => by
        show (i 0).val - 1 = ((i 0).val + 2048 - 1 % 2048) % 2048
        omega
      | ⟨1, _⟩ => rfl), dn, if_neg h]
    rfl

theorem shift_up (hi : (⟨2, ![2048, n]⟩ : Shape).Iotas .tc 32 [0]) (hr : (⟨2, ![2048, n]⟩ : Shape).Rotates 0 none) :
    select (cmpi .eq (iota .tc (⟨2, ![2048, n]⟩ : Shape) 32 [0] hi) (broadcast (⟨2, ![2048, n]⟩ : Shape) 2047#32))
      (broadcast (⟨2, ![2048, n]⟩ : Shape) (Scalar.ofBits .f32 0x00000000#32 : Ideal .f32))
      (dynamicRotate 0 2047#32 none (emb2 p : FVec Ideal ⟨2, ![2048, n]⟩ .f32) hr) = emb2 (up p) := by
  funext i
  have hl : (i 0).val < 2048 := (i 0).isLt
  rw [select_at, at_row hi 2047 (by norm_num) i]
  by_cases h : (i 0).val = 2047
  · rw [decide_eq_true h]
    show Ideal.ofBits .f32 0x00000000#32 = ((up p (i 0).val (i 1).val : ℝ) : EReal)
    rw [ofBits_zero, up, if_pos h]
  · rw [decide_eq_false h]
    show dynamicRotate 0 2047#32 none (emb2 p : FVec Ideal ⟨2, ![2048, n]⟩ .f32) hr i = ((up p (i 0).val (i 1).val : ℝ) : EReal)
    rw [dynamicRotate_apply _ _ _ hr i (ix2 ⟨(i 0).val + 1, by omega⟩ (i 1)) (fun b => match b with
      | ⟨0, _⟩ => by
        show (i 0).val + 1 = ((i 0).val + 2048 - 2047 % 2048) % 2048
        omega
      | ⟨1, _⟩ => rfl), up, if_neg h]
    rfl
end

/-! ## Shifts by concatenation and padding -/

section
variable {k l m n : ℕ}

/-- Two matrices, one above the other. -/
theorem stack_rows (f g : ℕ → ℕ → ℝ) (hm : k + l = m)
    (h : Shape.Concatenates [(⟨2, ![k, n]⟩ : Shape), ⟨2, ![l, n]⟩] ⟨2, ![m, n]⟩ 0) :
    concatenate (⟨2, ![m, n]⟩ : Shape) 0 [⟨⟨2, ![k, n]⟩, (emb2 f : FVec Ideal ⟨2, ![k, n]⟩ .f32)⟩,
      ⟨⟨2, ![l, n]⟩, (emb2 g : FVec Ideal ⟨2, ![l, n]⟩ .f32)⟩] h
      = (emb2 fun i j => if i < k then f i j else g (i - k) j : FVec Ideal ⟨2, ![m, n]⟩ .f32) := by
  funext i
  have hl : (i 0).val < m := (i 0).isLt
  by_cases hk : (i 0).val < k
  · rw [concatenate_pair_apply_left 0 _ _ h i rfl (ix2 ⟨(i 0).val, hk⟩ (i 1)) (fun b => match b with
      | ⟨0, _⟩ => rfl
      | ⟨1, _⟩ => rfl)]
    show ((f (i 0).val (i 1).val : ℝ) : EReal) = ((if (i 0).val < k then _ else _ : ℝ) : EReal)
    rw [if_pos hk]
  · rw [concatenate_pair_apply_right 0 _ _ h i rfl rfl (ix2 ⟨(i 0).val - k, by omega⟩ (i 1)) (fun b hb => match b with
      | ⟨0, _⟩ => absurd rfl hb
      | ⟨1, _⟩ => rfl) (by show (i 0).val - k + k = (i 0).val; omega)]
    show ((g ((i 0).val - k) (i 1).val : ℝ) : EReal) = ((if (i 0).val < k then _ else _ : ℝ) : EReal)
    rw [if_neg hk]

/-- A matrix between rows of zeros. -/
theorem pad_rows (p : ℕ → ℕ → ℝ) (a b : ℕ) (h : (⟨2, ![k, n]⟩ : Shape).Pads ![a, 0] ![b, 0] ![0, 0] ⟨2, ![m, n]⟩) (hu) :
    pad (⟨2, ![m, n]⟩ : Shape) ![a, 0] ![b, 0] ![0, 0] (emb2 p : FVec Ideal ⟨2, ![k, n]⟩ .f32)
      (constant (⟨0, ![]⟩ : Shape) .f32 0x00000000#32 : FVec Ideal _ _) h hu
      = emb2 fun i j => if a ≤ i ∧ i < a + k then p (i - a) j else 0 := by
  funext i
  by_cases hk : a ≤ (i 0).val ∧ (i 0).val < a + k
  · rw [pad_apply_of_inside _ _ _ _ _ h hu i (ix2 ⟨(i 0).val - a, by omega⟩ (i 1)) (fun b => match b with
      | ⟨0, _⟩ => by show (i 0).val = a + ((i 0).val - a) * (0 + 1); omega
      | ⟨1, _⟩ => by show (i 1).val = 0 + (i 1).val * (0 + 1); omega)]
    show ((p ((i 0).val - a) (i 1).val : ℝ) : EReal) = ((if _ then _ else _ : ℝ) : EReal)
    rw [if_pos hk]
  · rw [pad_apply_of_not_inside _ _ _ _ _ h hu i 0 (by
      show ¬(a ≤ (i 0).val ∧ ((i 0).val - a) % (0 + 1) = 0 ∧ ((i 0).val - a) / (0 + 1) < k)
      rw [Nat.zero_add, Nat.div_one]; omega)]
    show Ideal.ofBits .f32 0x00000000#32 = ((if _ then _ else _ : ℝ) : EReal)
    rw [if_neg hk, ofBits_zero]

/-- A pair of matrices as a stack of two. -/
theorem pair_up (f g : ℕ → ℕ → ℝ) (hf : (⟨2, ![m, n]⟩ : Shape).BroadcastsInDim ⟨3, ![1, m, n]⟩ ![1, 2]) (hm : m ≠ 1) (hn : n ≠ 1)
    (h : Shape.Concatenates [(⟨3, ![1, m, n]⟩ : Shape), ⟨3, ![1, m, n]⟩] ⟨3, ![2, m, n]⟩ 0) :
    concatenate (⟨3, ![2, m, n]⟩ : Shape) 0
      [⟨⟨3, ![1, m, n]⟩, broadcastInDim (⟨3, ![1, m, n]⟩ : Shape) ![1, 2] hf (emb2 f : FVec Ideal ⟨2, ![m, n]⟩ .f32)⟩,
        ⟨⟨3, ![1, m, n]⟩, broadcastInDim (⟨3, ![1, m, n]⟩ : Shape) ![1, 2] hf (emb2 g : FVec Ideal ⟨2, ![m, n]⟩ .f32)⟩] h
      = (emb3 fun a i j => if a = 0 then f i j else g i j : FVec Ideal ⟨3, ![2, m, n]⟩ .f32) := by
  have hb : ∀ (p : ℕ → ℕ → ℝ) (y : (⟨3, ![1, m, n]⟩ : Shape).Idx),
      broadcastInDim (⟨3, ![1, m, n]⟩ : Shape) ![1, 2] hf (emb2 p : FVec Ideal ⟨2, ![m, n]⟩ .f32) y
        = ((p (y 1).val (y 2).val : ℝ) : EReal) := fun p y =>
    (broadcastInDim_apply _ hf _ y (ix2 (y 1) (y 2)) (fun a => match a with
      | ⟨0, _⟩ => by show (y 1).val = if m = 1 then 0 else (y 1).val; rw [if_neg hm]
      | ⟨1, _⟩ => by show (y 2).val = if n = 1 then 0 else (y 2).val; rw [if_neg hn])).trans rfl
  funext i
  have hl : (i 0).val < 2 := (i 0).isLt
  by_cases hk : (i 0).val = 0
  · rw [concatenate_pair_apply_left 0 _ _ h i rfl (ix3 ⟨(i 0).val, by omega⟩ (i 1) (i 2)) (fun b => match b with
      | ⟨0, _⟩ => rfl
      | ⟨1, _⟩ => rfl
      | ⟨2, _⟩ => rfl), hb]
    show ((f (i 1).val (i 2).val : ℝ) : EReal) = ((if (i 0).val = 0 then _ else _ : ℝ) : EReal)
    rw [if_pos hk]
  · rw [concatenate_pair_apply_right 0 _ _ h i rfl rfl (ix3 ⟨(i 0).val - 1, by omega⟩ (i 1) (i 2)) (fun b hb => match b with
      | ⟨0, _⟩ => absurd rfl hb
      | ⟨1, _⟩ => rfl
      | ⟨2, _⟩ => rfl) (by show (i 0).val - 1 + 1 = (i 0).val; omega), hb]
    show ((g (i 1).val (i 2).val : ℝ) : EReal) = ((if (i 0).val = 0 then _ else _ : ℝ) : EReal)
    rw [if_neg hk]

/-- A matrix of a stack, a row of a matrix as a sequence, and the one row of a stack of one. -/
theorem slice_emb3 {a b c : ℕ} (p : ℕ → ℕ → ℕ → ℝ) (off : Fin 3 → ℕ) (h : (⟨3, ![l, m, n]⟩ : Shape).Slices off ⟨3, ![a, b, c]⟩) :
    extractStridedSlice (⟨3, ![a, b, c]⟩ : Shape) off (emb3 p : FVec Ideal ⟨3, ![l, m, n]⟩ .f32) h
      = emb3 fun i j k => p (off 0 + i) (off 1 + j) (off 2 + k) := rfl
theorem cast_flat (p : ℕ → ℕ → ℝ) (h : (⟨2, ![1, n]⟩ : Shape).ShapeCasts ⟨1, ![n]⟩) :
    shapeCast (⟨1, ![n]⟩ : Shape) (emb2 p : FVec Ideal ⟨2, ![1, n]⟩ .f32) h = emb1 (p 0) := by
  funext i
  refine (shapeCast_apply _ _ _ (ix2 0 (i 0)) ?_).trans rfl
  rw [Shape.rowMajor_val_two, Shape.rowMajor_val_one]
  show 0 * n + (i 0).val = _
  rw [zero_mul, zero_add]
theorem cast_flat3 (p : ℕ → ℕ → ℕ → ℝ) (h : (⟨3, ![1, 1, n]⟩ : Shape).ShapeCasts ⟨1, ![n]⟩) :
    shapeCast (⟨1, ![n]⟩ : Shape) (emb3 p : FVec Ideal ⟨3, ![1, 1, n]⟩ .f32) h = emb1 (p 0 0) := by
  funext i
  refine (shapeCast_apply _ _ _ (ix3 0 0 (i 0)) ?_).trans rfl
  rw [Shape.rowMajor_val_three, Shape.rowMajor_val_one]
  show (0 * 1 + 0) * n + (i 0).val = _
  rw [zero_mul, zero_add, zero_mul, zero_add]
/-- A matrix with an axis of one between its two. -/
theorem spread_mid (p : ℕ → ℕ → ℝ) (hm : m ≠ 1) (hn : n ≠ 1) (h : (⟨2, ![m, n]⟩ : Shape).BroadcastsInDim ⟨3, ![m, 1, n]⟩ ![0, 2]) :
    broadcastInDim (⟨3, ![m, 1, n]⟩ : Shape) ![0, 2] h (emb2 p : FVec Ideal ⟨2, ![m, n]⟩ .f32) = emb3 fun i _ j => p i j := by
  funext y
  exact (broadcastInDim_apply _ h _ y (ix2 (y 0) (y 2)) (fun a => match a with
    | ⟨0, _⟩ => by show (y 0).val = if m = 1 then 0 else (y 0).val; rw [if_neg hm]
    | ⟨1, _⟩ => by show (y 2).val = if n = 1 then 0 else (y 2).val; rw [if_neg hn])).trans rfl
end

end Cert.Conv

end
-- ==== Proof.ConvRef.lean ====
/- What the reference of the ConvFFN's gradient computes of arguments that hold real numbers. -/
module

public import proofs.«01_k».proof.Proof.Conv
public import proofs.«01_k».proof.Proof.Gen.DconvRefIdeal.Run
public import proofs.«01_k».proof.Proof.Gen.DconvRefIdeal.Read

@[expose] public section

set_option maxRecDepth 16384

noncomputable section

namespace Cert.ConvRef

open Cert.DconvRefIdeal Cert.DconvRefIdeal.Gen Cert.DconvRefIdeal.Read Idealize.ShloMosaic Cert.Reals Cert.Conv

variable (A W B : ℕ → ℕ → ℕ → ℝ) (D : ℕ → ℕ → ℝ)

/-- The rows of the gate and of the value, their taps, their biases and the gradient that arrives. -/
abbrev xa : FVec Ideal S2x2048x5632 .f32 := emb3 A
abbrev xw : FVec Ideal S2x3x5632 .f32 := emb3 W
abbrev xb : FVec Ideal S2x1x5632 .f32 := emb3 B
abbrev xd : FVec Ideal S2048x5632 .f32 := emb2 D

/-! ## The shapes of a half -/

/-- Matrix `h` of a stack, and a row of a stack of rows. -/
theorem matrix {l m n : ℕ} (p : ℕ → ℕ → ℕ → ℝ) (h : ℕ) (hs : (⟨3, ![l, m, n]⟩ : Shape).Slices ![h, 0, 0] ⟨3, ![1, m, n]⟩)
    (hc : (⟨3, ![1, m, n]⟩ : Shape).ShapeCasts ⟨2, ![m, n]⟩) :
    shapeCast (⟨2, ![m, n]⟩ : Shape) (extractStridedSlice (⟨3, ![1, m, n]⟩ : Shape) ![h, 0, 0]
      (emb3 p : FVec Ideal ⟨3, ![l, m, n]⟩ .f32) hs) hc = emb2 (p h) := by
  rw [slice_emb3, cast_stack]
  refine emb2_congr _ _ fun i _ j _ => ?_
  show p (h + 0) (0 + i) (0 + j) = _
  rw [Nat.add_zero, Nat.zero_add, Nat.zero_add]
theorem only {l n : ℕ} (p : ℕ → ℕ → ℕ → ℝ) (h : ℕ) (hs : (⟨3, ![l, 1, n]⟩ : Shape).Slices ![h, 0, 0] ⟨3, ![1, 1, n]⟩)
    (hc : (⟨3, ![1, 1, n]⟩ : Shape).ShapeCasts ⟨1, ![n]⟩) :
    shapeCast (⟨1, ![n]⟩ : Shape) (extractStridedSlice (⟨3, ![1, 1, n]⟩ : Shape) ![h, 0, 0]
      (emb3 p : FVec Ideal ⟨3, ![l, 1, n]⟩ .f32) hs) hc = emb1 (p h 0) := by
  rw [slice_emb3, cast_flat3]
  funext i
  refine congrArg (fun r : ℝ => (r : EReal)) ?_
  show p (h + 0) (0 + 0) (0 + (i 0).val) = _
  rw [Nat.add_zero, Nat.zero_add, Nat.zero_add]
/-- Tap `k` as a row. -/
theorem tap {l n : ℕ} (w : ℕ → ℕ → ℝ) (k : ℕ) (hn : n ≠ 1) (hs : (⟨2, ![l, n]⟩ : Shape).Slices ![k, 0] ⟨2, ![1, n]⟩)
    (hc : (⟨2, ![1, n]⟩ : Shape).ShapeCasts ⟨1, ![n]⟩) (hb : (⟨1, ![n]⟩ : Shape).BroadcastsInDim ⟨2, ![1, n]⟩ ![1]) :
    broadcastInDim (⟨2, ![1, n]⟩ : Shape) ![1] hb (shapeCast (⟨1, ![n]⟩ : Shape) (extractStridedSlice (⟨2, ![1, n]⟩ : Shape) ![k, 0]
      (emb2 w : FVec Ideal ⟨2, ![l, n]⟩ .f32) hs) hc) = emb2 fun _ j => w k j := by
  rw [slice_emb2, cast_flat, brow _ hn]
  refine emb2_congr _ _ fun i _ j _ => ?_
  show w (k + 0) (0 + j) = _
  rw [Nat.add_zero, Nat.zero_add]
/-- The row before, and the row after, by concatenation. -/
theorem before {n : ℕ} (a : ℕ → ℕ → ℝ) (hz hs) (h : Shape.Concatenates [(⟨2, ![1, n]⟩ : Shape), ⟨2, ![2047, n]⟩] ⟨2, ![2048, n]⟩ 0) :
    concatenate (⟨2, ![2048, n]⟩ : Shape) 0
      [⟨⟨2, ![1, n]⟩, (broadcastInDim (⟨2, ![1, n]⟩ : Shape) ![] hz (constant (⟨0, ![]⟩ : Shape) .f32 0x00000000#32 : FVec Ideal _ _))⟩,
        ⟨⟨2, ![2047, n]⟩, extractStridedSlice (⟨2, ![2047, n]⟩ : Shape) ![0, 0] (emb2 a : FVec Ideal ⟨2, ![2048, n]⟩ .f32) hs⟩] h
      = (emb2 (dn a) : FVec Ideal ⟨2, ![2048, n]⟩ .f32) := by
  rw [spread _ _ _ ofBits_zero, slice_emb2, stack_rows _ _ (show 1 + 2047 = 2048 by norm_num)]
  refine emb2_congr _ _ fun i _ j _ => ?_
  unfold dn
  by_cases hi : i = 0
  · rw [if_pos (by omega), if_pos hi]
  · rw [if_neg (by omega), if_neg hi]
    show a (0 + (i - 1)) (0 + j) = _
    rw [Nat.zero_add, Nat.zero_add]
theorem after {n : ℕ} (a : ℕ → ℕ → ℝ) (hz hs) (h : Shape.Concatenates [(⟨2, ![2047, n]⟩ : Shape), ⟨2, ![1, n]⟩] ⟨2, ![2048, n]⟩ 0) :
    concatenate (⟨2, ![2048, n]⟩ : Shape) 0
      [⟨⟨2, ![2047, n]⟩, extractStridedSlice (⟨2, ![2047, n]⟩ : Shape) ![1, 0] (emb2 a : FVec Ideal ⟨2, ![2048, n]⟩ .f32) hs⟩,
        ⟨⟨2, ![1, n]⟩, (broadcastInDim (⟨2, ![1, n]⟩ : Shape) ![] hz (constant (⟨0, ![]⟩ : Shape) .f32 0x00000000#32 : FVec Ideal _ _))⟩] h
      = (emb2 (up a) : FVec Ideal ⟨2, ![2048, n]⟩ .f32) := by
  rw [spread _ _ _ ofBits_zero, slice_emb2, stack_rows _ _ (show 2047 + 1 = 2048 by norm_num)]
  refine emb2_congr _ _ fun i hi j _ => ?_
  unfold up
  by_cases he : i = 2047
  · rw [if_neg (by omega), if_pos he]
  · rw [if_pos (by omega), if_neg he]
    show a (1 + i) (0 + j) = _
    rw [Nat.zero_add, Nat.add_comm]
/-- The gradient of the rows from the gradients of the three products. -/
theorem gather_rows {n : ℕ} (w c : ℕ → ℕ → ℝ) (hn : n ≠ 1) (hb hs hs' hp hp' hu hu') :
    addf (addf (mulf (emb2 c : FVec Ideal ⟨2, ![2048, n]⟩ .f32)
        (broadcastInDim (⟨2, ![2048, n]⟩ : Shape) ![0, 1] hb (emb2 fun _ j => w 1 j : FVec Ideal ⟨2, ![1, n]⟩ .f32)))
      (pad (⟨2, ![2048, n]⟩ : Shape) ![1, 0] ![0, 0] ![0, 0] (extractStridedSlice (⟨2, ![2047, n]⟩ : Shape) ![0, 0]
        (mulf (emb2 c : FVec Ideal ⟨2, ![2048, n]⟩ .f32)
          (broadcastInDim (⟨2, ![2048, n]⟩ : Shape) ![0, 1] hb (emb2 fun _ j => w 2 j : FVec Ideal ⟨2, ![1, n]⟩ .f32))) hs)
        (constant (⟨0, ![]⟩ : Shape) .f32 0x00000000#32 : FVec Ideal _ _) hp hu))
      (pad (⟨2, ![2048, n]⟩ : Shape) ![0, 0] ![1, 0] ![0, 0] (extractStridedSlice (⟨2, ![2047, n]⟩ : Shape) ![1, 0]
        (mulf (emb2 c : FVec Ideal ⟨2, ![2048, n]⟩ .f32)
          (broadcastInDim (⟨2, ![2048, n]⟩ : Shape) ![0, 1] hb (emb2 fun _ j => w 0 j : FVec Ideal ⟨2, ![1, n]⟩ .f32))) hs')
        (constant (⟨0, ![]⟩ : Shape) .f32 0x00000000#32 : FVec Ideal _ _) hp' hu') = emb2 (back w c) := by
  simp only [brow2 _ hn, mulf_emb2, slice_emb2, pad_rows, addf_emb2]
  refine emb2_congr _ _ fun i hi j _ => ?_
  simp only [Matrix.cons_val_zero, Matrix.cons_val_one, Nat.zero_add, Nat.sub_zero, Nat.zero_le, true_and]
  unfold back up dn
  by_cases h0 : i = 0
  · subst h0
    simp [Nat.add_comm, add_comm]
  · by_cases h1 : i = 2047
    · subst h1; norm_num [add_comm]
    · rw [if_pos (by omega), if_pos (by omega), if_neg h0, if_neg h1, Nat.add_comm 1 i]; ring
/-- A sum of products down the columns, as a row. -/
theorem column {n : ℕ} (f c : ℕ → ℕ → ℝ) (h : (⟨2, ![2048, n]⟩ : Shape).ReducesTo [0] ⟨1, ![n]⟩)
    (h1 : (⟨2, ![2048, n]⟩ : Shape).Reduces [0] ⟨1, ![n]⟩) (h' : (⟨2, ![1, n]⟩ : Shape).ReducesTo [0] ⟨1, ![n]⟩)
    (h1' : (⟨2, ![1, n]⟩ : Shape).Reduces [0] ⟨1, ![n]⟩) (hu hu') (hc : (⟨1, ![n]⟩ : Shape).ShapeCasts ⟨2, ![1, n]⟩) :
    Host.reduceAdd (shapeCast (⟨2, ![1, n]⟩ : Shape) (Host.reduceAdd (mulf (emb2 f : FVec Ideal ⟨2, ![2048, n]⟩ .f32) (emb2 c))
      (constant (⟨0, ![]⟩ : Shape) .f32 0x00000000#32) h hu) hc) (constant (⟨0, ![]⟩ : Shape) .f32 0x00000000#32) h' hu'
      = (emb1 fun j => ∑ i ∈ Finset.range 2048, f i j * c i j : FVec Ideal ⟨1, ![n]⟩ .f32) := by
  rw [mulf_emb2, hsum_cols _ h h1, cast_row, hsum_cols _ h' h1']
  funext i
  refine congrArg (fun r : ℝ => (r : EReal)) ?_
  exact Finset.sum_range_one _
/-- The three tap gradients, each in its row. -/
theorem gather_taps {n : ℕ} (a c : ℕ → ℕ → ℝ) (hn : n ≠ 1) (hb p2 p1 p0 hu) :
    addf (addf
      (pad (⟨2, ![3, n]⟩ : Shape) ![2, 0] ![0, 0] ![0, 0] (broadcastInDim (⟨2, ![1, n]⟩ : Shape) ![1] hb
        (emb1 fun j => ∑ i ∈ Finset.range 2048, up a i j * c i j : FVec Ideal ⟨1, ![n]⟩ .f32))
        (constant (⟨0, ![]⟩ : Shape) .f32 0x00000000#32 : FVec Ideal _ _) p2 hu)
      (pad (⟨2, ![3, n]⟩ : Shape) ![1, 0] ![1, 0] ![0, 0] (broadcastInDim (⟨2, ![1, n]⟩ : Shape) ![1] hb
        (emb1 fun j => ∑ i ∈ Finset.range 2048, a i j * c i j : FVec Ideal ⟨1, ![n]⟩ .f32))
        (constant (⟨0, ![]⟩ : Shape) .f32 0x00000000#32 : FVec Ideal _ _) p1 hu))
      (pad (⟨2, ![3, n]⟩ : Shape) ![0, 0] ![2, 0] ![0, 0] (broadcastInDim (⟨2, ![1, n]⟩ : Shape) ![1] hb
        (emb1 fun j => ∑ i ∈ Finset.range 2048, dn a i j * c i j : FVec Ideal ⟨1, ![n]⟩ .f32))
        (constant (⟨0, ![]⟩ : Shape) .f32 0x00000000#32 : FVec Ideal _ _) p0 hu)
      = (emb2 (taps a c) : FVec Ideal ⟨2, ![3, n]⟩ .f32) := by
  simp only [brow _ hn, pad_rows, addf_emb2]
  refine emb2_congr _ _ fun k hk j _ => ?_
  unfold taps met
  match k, hk with
  | 0, _ => simp [mul_comm]
  | 1, _ => simp [mul_comm]
  | 2, _ => simp [mul_comm]

/-! ## The convolutions -/

theorem r1 : val_main_v1 (F := Ideal) (xa A) = emb2 (t := .f32) (A 0) := matrix A 0 _ _
theorem r3 : val_main_v3 (F := Ideal) (xa A) = emb2 (t := .f32) (A 1) := matrix A 1 _ _
theorem r5 : val_main_v5 (F := Ideal) (xw W) = emb2 (t := .f32) (W 0) := matrix W 0 _ _
theorem r7 : val_main_v7 (F := Ideal) (xw W) = emb2 (t := .f32) (W 1) := matrix W 1 _ _
theorem r9 : val_main_v9 (F := Ideal) (xb B) = emb1 (t := .f32) (B 0 0) := only B 0 _ _
theorem r11 : val_main_v11 (F := Ideal) (xb B) = emb1 (t := .f32) (B 1 0) := only B 1 _ _
theorem r14 : val_main_v14 (F := Ideal) (xa A) = emb2 (t := .f32) (dn (A 0)) := by
  unfold val_main_v14 val_main_v13; rw [r1]; exact before _ _ _ _
theorem r17 : val_main_v17 (F := Ideal) (xa A) = emb2 (t := .f32) (up (A 0)) := by
  unfold val_main_v17 val_main_v16; rw [r1]; exact after _ _ _ _
theorem r58 : val_main_v58 (F := Ideal) (xa A) = emb2 (t := .f32) (dn (A 1)) := by
  unfold val_main_v58 val_main_v57; rw [r3]; exact before _ _ _ _
theorem r61 : val_main_v61 (F := Ideal) (xa A) = emb2 (t := .f32) (up (A 1)) := by
  unfold val_main_v61 val_main_v60; rw [r3]; exact after _ _ _ _
theorem r21 : val_main_v21 (F := Ideal) (xw W) = emb2 (t := .f32) fun _ j => W 0 0 j := by
  unfold val_main_v21 val_main_v20 val_main_v19; rw [r5]; exact tap _ 0 (by norm_num) _ _ _
theorem r26 : val_main_v26 (F := Ideal) (xw W) = emb2 (t := .f32) fun _ j => W 0 1 j := by
  unfold val_main_v26 val_main_v25 val_main_v24; rw [r5]; exact tap _ 1 (by norm_num) _ _ _
theorem r32 : val_main_v32 (F := Ideal) (xw W) = emb2 (t := .f32) fun _ j => W 0 2 j := by
  unfold val_main_v32 val_main_v31 val_main_v30; rw [r5]; exact tap _ 2 (by norm_num) _ _ _
theorem r65 : val_main_v65 (F := Ideal) (xw W) = emb2 (t := .f32) fun _ j => W 1 0 j := by
  unfold val_main_v65 val_main_v64 val_main_v63; rw [r7]; exact tap _ 0 (by norm_num) _ _ _
theorem r70 : val_main_v70 (F := Ideal) (xw W) = emb2 (t := .f32) fun _ j => W 1 1 j := by
  unfold val_main_v70 val_main_v69 val_main_v68; rw [r7]; exact tap _ 1 (by norm_num) _ _ _
theorem r76 : val_main_v76 (F := Ideal) (xw W) = emb2 (t := .f32) fun _ j => W 1 2 j := by
  unfold val_main_v76 val_main_v75 val_main_v74; rw [r7]; exact tap _ 2 (by norm_num) _ _ _

theorem r38 : val_main_v38 (F := Ideal) (xa A) (xw W) (xb B) = emb2 (t := .f32) (half A W B 0) := by
  simp only [val_main_v38, val_main_v37, val_main_v36, val_main_v35, val_main_v34, val_main_v33, val_main_v29, val_main_v28,
    val_main_v27, val_main_v23, val_main_v22, r1, r9, r14, r17, r21, r26, r32]
  simp only [brow _ (show 5632 ≠ 1 by norm_num), brow2 _ (show 5632 ≠ 1 by norm_num), mulf_emb2, addf_emb2]
  rfl
theorem r82 : val_main_v82 (F := Ideal) (xa A) (xw W) (xb B) = emb2 (t := .f32) (half A W B 1) := by
  simp only [val_main_v82, val_main_v81, val_main_v80, val_main_v79, val_main_v78, val_main_v77, val_main_v73, val_main_v72,
    val_main_v71, val_main_v67, val_main_v66, r3, r11, r58, r61, r65, r70, r76]
  simp only [brow _ (show 5632 ≠ 1 by norm_num), brow2 _ (show 5632 ≠ 1 by norm_num), mulf_emb2, addf_emb2]
  rfl

/-! ## The gate and its gradient -/

theorem r40 : val_main_v40 (F := Ideal) (xa A) (xw W) (xb B) = emb2 (t := .f32) fun i j => 1 / 2 * half A W B 0 i j := by
  simp only [val_main_v40, val_main_v39, val_main_cst_2, r38, spread _ _ _ ofBits_half, mulf_emb2]
theorem r43 : val_main_v43 (F := Ideal) (xa A) (xw W) (xb B) = emb2 (t := .f32) fun i j => half A W B 0 i j / Real.sqrt 2 := by
  simp only [val_main_v43, val_main_v42, val_main_v41, val_main_cst_3, r38, spread_sqrt _ _ 2 (by norm_num) ofBits_two]
  rw [hdivf_emb2 _ _ fun _ _ => by positivity]
theorem r54 : val_main_v54 (F := Ideal) (xa A) (xw W) (xb B)
    = emb2 (t := .f32) fun i j => 1 + erfR (half A W B 0 i j / Real.sqrt 2) := by
  simp only [val_main_v54, val_main_v53, val_main_cst_6, val_main_v44, r43, spread _ _ _ ofBits_one, herf_emb2, addf_emb2]
theorem r55 : val_main_v55 (F := Ideal) (xa A) (xw W) (xb B) = emb2 (t := .f32) fun i j => Sgu.gelu (half A W B 0 i j) := by
  simp only [val_main_v55, r40, r54, mulf_emb2, Cert.Ref.gelu_eq]
theorem r52 : val_main_v52 (F := Ideal) (xa A) (xw W) (xb B) = emb2 (t := .f32) fun i j =>
    2 / Real.sqrt Real.pi * Real.exp (-(half A W B 0 i j / Real.sqrt 2) * (half A W B 0 i j / Real.sqrt 2)) := by
  simp only [val_main_v52, val_main_v51, val_main_v47, val_main_cst_5, val_main_v46, val_main_v45, val_main_cst_4,
    val_main_v50, val_main_v49, val_main_v48, r43, negf_emb2, mulf_emb2, hexp_emb2]
  rw [spread_pi, mulf_emb2]
/-- The gradient of the value. -/
theorem r84 : val_main_v84 (F := Ideal) (xa A) (xw W) (xb B) (xd D) = emb2 (t := .f32) (dhalf A W B D 1) := by
  simp only [val_main_v84, r55, mulf_emb2]
  exact emb2_congr _ _ fun i _ j _ => mul_comm _ _
/-- The gradient of the gate before gelu. -/
theorem r130 : val_main_v130 (F := Ideal) (xa A) (xw W) (xb B) (xd D) = emb2 (t := .f32) (dhalf A W B D 0) := by
  simp only [val_main_v130, val_main_v129, val_main_v128, val_main_cst_23, val_main_v127, val_main_v126, val_main_v41,
    val_main_cst_3, val_main_v125, val_main_v124, val_main_v123, val_main_v85, r82, r52, r40, r54,
    spread _ _ _ ofBits_half, spread_sqrt _ _ 2 (by norm_num) ofBits_two, mulf_emb2]
  rw [hdivf_emb2 _ _ fun _ _ => by positivity, addf_emb2]
  refine emb2_congr _ _ fun i _ j _ => ?_
  exact Cert.Ref.slope_eq _ _

/-! ## The results -/

theorem r122 : val_main_v122 (F := Ideal) (xa A) (xw W) (xb B) (xd D) = emb2 (t := .f32) (da A W B D 1) := by
  simp only [val_main_v122, val_main_v121, val_main_v120, val_main_v118, val_main_v117, val_main_v115, val_main_v110,
    val_main_v109, val_main_v101, val_main_v100, val_main_v93, val_main_v92, val_main_cst_21, val_main_cst_22,
    r84, r65, r70, r76]
  exact gather_rows (W 1) _ (by norm_num) _ _ _ _ _ _ _
theorem r167 : val_main_v167 (F := Ideal) (xa A) (xw W) (xb B) (xd D) = emb2 (t := .f32) (da A W B D 0) := by
  simp only [val_main_v167, val_main_v166, val_main_v165, val_main_v163, val_main_v162, val_main_v160, val_main_v155,
    val_main_v154, val_main_v146, val_main_v145, val_main_v138, val_main_v137, val_main_cst_35, val_main_cst_36,
    r130, r21, r26, r32]
  exact gather_rows (W 0) _ (by norm_num) _ _ _ _ _ _ _

theorem r94 : val_main_v94 (F := Ideal) (xa A) (xw W) (xb B) (xd D)
    = emb1 (t := .f32) fun j => ∑ i ∈ Finset.range 2048, up (A 1) i j * dhalf A W B D 1 i j := by
  simp only [val_main_v94, val_main_v91, val_main_v90, val_main_v89, val_main_cst_12, val_main_cst_13, r61, r84]
  exact column _ _ _ (by decide) _ (by decide) _ _ _
theorem r102 : val_main_v102 (F := Ideal) (xa A) (xw W) (xb B) (xd D)
    = emb1 (t := .f32) fun j => ∑ i ∈ Finset.range 2048, A 1 i j * dhalf A W B D 1 i j := by
  simp only [val_main_v102, val_main_v99, val_main_v98, val_main_v97, val_main_cst_15, val_main_cst_16, r3, r84]
  exact column _ _ _ (by decide) _ (by decide) _ _ _
theorem r111 : val_main_v111 (F := Ideal) (xa A) (xw W) (xb B) (xd D)
    = emb1 (t := .f32) fun j => ∑ i ∈ Finset.range 2048, dn (A 1) i j * dhalf A W B D 1 i j := by
  simp only [val_main_v111, val_main_v108, val_main_v107, val_main_v106, val_main_cst_18, val_main_cst_19, r58, r84]
  exact column _ _ _ (by decide) _ (by decide) _ _ _
theorem r139 : val_main_v139 (F := Ideal) (xa A) (xw W) (xb B) (xd D)
    = emb1 (t := .f32) fun j => ∑ i ∈ Finset.range 2048, up (A 0) i j * dhalf A W B D 0 i j := by
  simp only [val_main_v139, val_main_v136, val_main_v135, val_main_v134, val_main_cst_26, val_main_cst_27, r17, r130]
  exact column _ _ _ (by decide) _ (by decide) _ _ _
theorem r147 : val_main_v147 (F := Ideal) (xa A) (xw W) (xb B) (xd D)
    = emb1 (t := .f32) fun j => ∑ i ∈ Finset.range 2048, A 0 i j * dhalf A W B D 0 i j := by
  simp only [val_main_v147, val_main_v144, val_main_v143, val_main_v142, val_main_cst_29, val_main_cst_30, r1, r130]
  exact column _ _ _ (by decide) _ (by decide) _ _ _
theorem r156 : val_main_v156 (F := Ideal) (xa A) (xw W) (xb B) (xd D)
    = emb1 (t := .f32) fun j => ∑ i ∈ Finset.range 2048, dn (A 0) i j * dhalf A W B D 0 i j := by
  simp only [val_main_v156, val_main_v153, val_main_v152, val_main_v151, val_main_cst_32, val_main_cst_33, r14, r130]
  exact column _ _ _ (by decide) _ (by decide) _ _ _

theorem r114 : val_main_v114 (F := Ideal) (xa A) (xw W) (xb B) (xd D) = emb2 (t := .f32) (dw A W B D 1) := by
  simp only [val_main_v114, val_main_v113, val_main_v112, val_main_v105, val_main_v104, val_main_v103, val_main_v96,
    val_main_v95, val_main_cst_14, val_main_cst_17, val_main_cst_20, r94, r102, r111]
  exact gather_taps (A 1) _ (by norm_num) _ _ _ _ _
theorem r159 : val_main_v159 (F := Ideal) (xa A) (xw W) (xb B) (xd D) = emb2 (t := .f32) (dw A W B D 0) := by
  simp only [val_main_v159, val_main_v158, val_main_v157, val_main_v150, val_main_v149, val_main_v148, val_main_v141,
    val_main_v140, val_main_cst_28, val_main_cst_31, val_main_cst_34, r139, r147, r156]
  exact gather_taps (A 0) _ (by norm_num) _ _ _ _ _

/-- A sum down the columns, as a row. -/
theorem total {n : ℕ} (c : ℕ → ℕ → ℝ) (h : (⟨2, ![2048, n]⟩ : Shape).ReducesTo [0] ⟨1, ![n]⟩)
    (h1 : (⟨2, ![2048, n]⟩ : Shape).Reduces [0] ⟨1, ![n]⟩) (h' : (⟨2, ![1, n]⟩ : Shape).ReducesTo [0] ⟨1, ![n]⟩)
    (h1' : (⟨2, ![1, n]⟩ : Shape).Reduces [0] ⟨1, ![n]⟩) (hu hu') (hc : (⟨1, ![n]⟩ : Shape).ShapeCasts ⟨2, ![1, n]⟩) :
    Host.reduceAdd (shapeCast (⟨2, ![1, n]⟩ : Shape) (Host.reduceAdd (emb2 c : FVec Ideal ⟨2, ![2048, n]⟩ .f32)
      (constant (⟨0, ![]⟩ : Shape) .f32 0x00000000#32) h hu) hc) (constant (⟨0, ![]⟩ : Shape) .f32 0x00000000#32) h' hu'
      = (emb1 (bias c) : FVec Ideal ⟨1, ![n]⟩ .f32) := by
  rw [hsum_cols _ h h1, cast_row, hsum_cols _ h' h1']
  funext i
  refine congrArg (fun r : ℝ => (r : EReal)) ?_
  exact Finset.sum_range_one _
theorem r88 : val_main_v88 (F := Ideal) (xa A) (xw W) (xb B) (xd D) = emb1 (t := .f32) (db A W B D 1 0) := by
  simp only [val_main_v88, val_main_v87, val_main_v86, val_main_cst_10, val_main_cst_11, r84]
  exact total _ _ (by decide) _ (by decide) _ _ _
theorem r133 : val_main_v133 (F := Ideal) (xa A) (xw W) (xb B) (xd D) = emb1 (t := .f32) (db A W B D 0 0) := by
  simp only [val_main_v133, val_main_v132, val_main_v131, val_main_cst_24, val_main_cst_25, r130]
  exact total _ _ (by decide) _ (by decide) _ _ _

/-- Two halves by their number. -/
theorem halves {m n : ℕ} {t : FTy} (f : ℕ → ℕ → ℕ → ℝ) :
    (emb3 fun a i j => if a = 0 then f 0 i j else f 1 i j : FVec Ideal ⟨3, ![2, m, n]⟩ t) = emb3 f :=
  emb3_congr _ _ fun a ha i _ j _ => by
    by_cases h : a = 0
    · rw [if_pos h, h]
    · rw [if_neg h, show a = 1 by omega]

theorem r171 : val_main_v171 (F := Ideal) (xa A) (xw W) (xb B) (xd D) = emb3 (t := .bf16) (da A W B D) := by
  unfold val_main_v171 val_main_v170 val_main_v169 val_main_v168
  rw [r122, r167]
  refine (congrArg (fun x : FVec Ideal S2x2048x5632 .f32 => truncf .bf16 x bitsLt_bf16_f32)
    ((pair_up (da A W B D 0) (da A W B D 1) _ (show 2048 ≠ 1 by norm_num) (show 5632 ≠ 1 by norm_num) _).trans (halves _))).trans ?_
  rfl
theorem r174 : val_main_v174 (F := Ideal) (xa A) (xw W) (xb B) (xd D) = emb3 (t := .f32) (dw A W B D) := by
  unfold val_main_v174 val_main_v173 val_main_v172
  rw [r114, r159]
  exact (pair_up (dw A W B D 0) (dw A W B D 1) _ (show 3 ≠ 1 by norm_num) (show 5632 ≠ 1 by norm_num) _).trans (halves _)
theorem r178 : val_main_v178 (F := Ideal) (xa A) (xw W) (xb B) (xd D) = emb3 (t := .f32) (db A W B D) := by
  unfold val_main_v178 val_main_v177 val_main_v176 val_main_v175
  rw [r88, r133, brow _ (show 5632 ≠ 1 by norm_num), brow _ (show 5632 ≠ 1 by norm_num), stack_rows _ _ (show 1 + 1 = 2 by norm_num)]
  rw [spread_mid _ (by norm_num) (by norm_num)]
  refine emb3_congr _ _ fun a ha i _ j _ => ?_
  by_cases h : a = 0
  · rw [if_pos (by omega), h]; rfl
  · rw [if_neg (by omega), show a = 1 by omega]; rfl

end Cert.ConvRef

end
-- ==== Proof.Dconv.lean ====
/- The gradient of the ConvFFN's convolutions and gate: 128 columns at a time, the rows before and after reached by
   rotating the block. -/
module

public import proofs.«01_k».proof.Proof.Pre
public import proofs.«01_k».proof.Proof.ConvRef
public import proofs.«01_k».proof.Proof.Gen.Dconv.Frame
public import proofs.«01_k».proof.Proof.Gen.DconvIdeal.Frame
public import proofs.«01_k».proof.Proof.Gen.DconvIdeal.Value
public import proofs.«01_k».proof.Defs
public import Idealize.ShloMosaic.Adequacy
public import Idealize.ShloMosaic.Init
public import Idealize.ShloMosaic.Lib.Tactic
public import Idealize.ShloMosaic.Lib.Pipeline.ValueKit

@[expose] public section

set_option maxRecDepth 16384

noncomputable section

namespace Cert.DconvIdeal.Block

open Idealize.ShloMosaic Idealize.ShloMosaic.TcCoe Idealize.SL.Sem
open Idealize.ShloMosaic.Pipeline (Dat)
open Cert.DconvIdeal Cert.DconvIdeal.Gen Cert.Reals Cert.Conv

/-! ## The pieces of the body -/

theorem named_rsqrt2 : (Named.named (F := Ideal) Cert.DconvIdeal.κ "rsqrt2" (φ := .f32) 0x3F3504F3#32 : Ideal .f32)
    = (((Real.sqrt 2)⁻¹ : ℝ) : EReal) := IdealRules.named_const.ideal_named_scalar _ _ _ _ rfl
theorem named_rsqrt2pi : (Named.named (F := Ideal) Cert.DconvIdeal.κ "rsqrt2pi" (φ := .f32) 0x3ECC422A#32 : Ideal .f32)
    = (((Real.sqrt (2 * Real.pi))⁻¹ : ℝ) : EReal) := IdealRules.named_const.ideal_named_scalar _ _ _ _ rfl

/-- The row's number at each entry. -/
abbrev rows : IVec S2048x128 32 := iota .tc S2048x128 32 [0] iota_S2048x128_d0_w32

section
variable (p w : ℕ → ℕ → ℝ)

theorem down : select (cmpi .eq rows (broadcast S2048x128 0#32)) (broadcast S2048x128 (Scalar.ofBits .f32 0x00000000#32 : Ideal .f32))
    (dynamicRotate 0 1#32 none (emb2 p : FVec Ideal S2048x128 .f32) rotates_S2048x128_d0) = emb2 (dn p) := shift_down p _ _
theorem above : select (cmpi .eq rows (broadcast S2048x128 2047#32)) (broadcast S2048x128 (Scalar.ofBits .f32 0x00000000#32 : Ideal .f32))
    (dynamicRotate 0 2047#32 none (emb2 p : FVec Ideal S2048x128 .f32) rotates_S2048x128_d0) = emb2 (up p) := shift_up p _ _
/-- A row over all rows, and tap `k`'s row. -/
theorem over : broadcastTo S2048x128 (emb2 p : FVec Ideal S1x128 .f32) broadcasts_S1x128_S2048x128 = emb2 fun _ j => p 0 j :=
  broadcastTo_row p (by norm_num) _
theorem tap (k : ℕ) (h : S3x128.Slices ![k, 0] S1x128) :
    broadcastTo S2048x128 (extractStridedSlice S1x128 ![k, 0] (emb2 w : FVec Ideal S3x128 .f32) h) broadcasts_S1x128_S2048x128
      = emb2 fun _ j => w k j := by
  rw [show extractStridedSlice S1x128 ![k, 0] (emb2 w : FVec Ideal S3x128 .f32) h = emb2 fun i j => w (k + i) (0 + j) from
    slice_emb2 w ![k, 0] h, over]
  exact emb2_congr _ _ fun i _ j _ => by rw [Nat.add_zero, Nat.zero_add]
/-- A sum down the columns, as a row. -/
theorem total : shapeCast S1x128 (multiReduction .add [0] S128 (emb2 p : FVec Ideal S2048x128 .f32) 0x00000000#32
    reduces_S2048x128_S128 (.inl rfl) rfl) shapeCasts_S128_S1x128 = emb2 fun _ => bias p := by
  rw [show multiReduction .add [0] S128 (emb2 p : FVec Ideal S2048x128 .f32) 0x00000000#32 reduces_S2048x128_S128 (.inl rfl) rfl
    = emb1 (bias p) from sum_cols p _ _ _ _]
  exact cast_row _ _
theorem stack : shapeCast S1x1x128 (emb2 p : FVec Ideal S1x128 .f32) shapeCasts_S1x128_S1x1x128 = emb3 fun _ i j => p i j :=
  cast_unstack _ _
theorem sums : shapeCast S1x1x128 (shapeCast S1x128 (multiReduction .add [0] S128 (emb2 p : FVec Ideal S2048x128 .f32) 0x00000000#32
    reduces_S2048x128_S128 (.inl rfl) rfl) shapeCasts_S128_S1x128) shapeCasts_S1x128_S1x1x128 = emb3 fun _ _ => bias p := by
  rw [total, stack]
end

section
variable (a w b : ℕ → ℕ → ℕ → ℝ) (p v c d : ℕ → ℕ → ℝ)

theorem pay2_emb : k0_pay2 (F := Ideal) (emb3 (t := .f32) a) = emb2 (t := .f32) (a 0) := cast_stack _ _
theorem pay3_emb : k0_pay3 (F := Ideal) (emb3 (t := .f32) a) = emb2 (t := .f32) (a 0) := cast_stack _ _
theorem pay4_emb : k0_pay4 (F := Ideal) (emb3 (t := .f32) w) = emb2 (t := .f32) (w 0) := cast_stack _ _
theorem pay5_emb : k0_pay5 (F := Ideal) (emb3 (t := .f32) w) = emb2 (t := .f32) (w 0) := cast_stack _ _
theorem bias_emb : shapeCast S1x128 (emb3 b : FVec Ideal S1x1x128 .f32) shapeCasts_S1x1x128_S1x128 = emb2 (b 0) := cast_stack _ _

theorem pay6_emb : k0_pay6 (F := Ideal) (emb3 (t := .f32) a) (emb3 (t := .f32) w) (emb3 (t := .f32) b)
    = emb2 (t := .f32) (cnv (a 0) (w 0) (b 0 0)) := by
  unfold k0_pay6
  simp only [pay2_emb, pay4_emb, bias_emb, tap, over, mulf_emb2]
  rw [down, above]
  simp only [mulf_emb2, addf_emb2]
  rfl
theorem pay7_emb : k0_pay7 (F := Ideal) (emb2 (t := .f32) c) = emb2 (t := .f32) fun i j => Sgu.cdf (c i j) := by
  unfold k0_pay7
  simp only [broadcast_emb2 _ _ scalar_half, broadcast_emb2 _ _ scalar_one, broadcast_emb2 _ _ named_rsqrt2,
    mulf_emb2, addf_emb2, erf_emb2]
  rfl
theorem pay8_emb : k0_pay8 (F := Ideal) rows (emb2 (t := .f32) p) (emb2 (t := .f32) v) (emb2 (t := .f32) c) (emb3 (t := .f32) b)
      (emb2 (t := .f32) d)
    = emb2 (t := .f32) fun i j => d i j * cnv p v (b 0 0) i j * Sgu.slope (c i j) := by
  unfold k0_pay8
  dsimp only
  rw [down, above]
  simp only [bias_emb, tap, over, pay7_emb, broadcast_emb2 _ _ scalar_neg_half, broadcast_emb2 _ _ named_rsqrt2pi,
    mulf_emb2, addf_emb2, exp_emb2]
  rfl
theorem pay9_emb : k0_pay9 (F := Ideal) (emb2 (t := .f32) c) (emb2 (t := .f32) d)
    = emb2 (t := .f32) fun i j => d i j * Sgu.gelu (c i j) := by
  unfold k0_pay9
  simp only [pay7_emb, mulf_emb2]
  rfl
/-- The gradients of the rows. -/
theorem pay11_emb : k0_pay11 (F := Ideal) rows (emb2 (t := .f32) v) (emb2 (t := .f32) c) (k0_pay10 rows)
    = emb3 (t := .bf16) fun _ => back v c := by
  unfold k0_pay11 k0_pay10
  dsimp only
  rw [down, above]
  simp only [tap, mulf_emb2, addf_emb2, truncf_emb2]
  exact cast_unstack _ _
theorem pay18_emb : k0_pay18 (F := Ideal) (k0_pay17 rows (emb2 (t := .f32) v) (emb2 (t := .f32) c))
    = emb3 (t := .bf16) fun _ => back v c := by
  unfold k0_pay18 k0_pay17
  dsimp only
  rw [down, above]
  simp only [tap, mulf_emb2, addf_emb2, truncf_emb2]
  exact cast_unstack _ _
/-- The gradients of the taps. -/
theorem pay12_emb : k0_pay12 (F := Ideal) rows (emb2 (t := .f32) p) (emb2 (t := .f32) c) = emb3 (t := .f32) fun _ _ => taps p c 0 := by
  unfold k0_pay12
  dsimp only
  rw [down]
  simp only [mulf_emb2]
  exact sums _
theorem pay14_emb : k0_pay14 (F := Ideal) (k0_pay13 (emb2 (t := .f32) p) (emb2 (t := .f32) c)) = emb3 (t := .f32) fun _ _ => taps p c 1 := by
  unfold k0_pay14 k0_pay13
  simp only [mulf_emb2]
  exact sums _
theorem pay15_emb : k0_pay15 (F := Ideal) rows (emb2 (t := .f32) p) (emb2 (t := .f32) c) = emb3 (t := .f32) fun _ _ => taps p c 2 := by
  unfold k0_pay15
  dsimp only
  rw [above]
  simp only [mulf_emb2]
  exact sums _
theorem pay19_emb : k0_pay19 (F := Ideal) rows (emb2 (t := .f32) p) (emb2 (t := .f32) c) = emb3 (t := .f32) fun _ _ => taps p c 0 := by
  unfold k0_pay19
  dsimp only
  rw [down]
  simp only [mulf_emb2]
  exact sums _
theorem pay20_emb : k0_pay20 (F := Ideal) (emb2 (t := .f32) p) (emb2 (t := .f32) c) = emb3 (t := .f32) fun _ _ => taps p c 1 := by
  unfold k0_pay20
  simp only [mulf_emb2]
  exact sums _
theorem pay21_emb : k0_pay21 (F := Ideal) rows (emb2 (t := .f32) p) (emb2 (t := .f32) c) = emb3 (t := .f32) fun _ _ => taps p c 2 := by
  unfold k0_pay21
  dsimp only
  rw [above]
  simp only [mulf_emb2]
  exact sums _
/-- The gradients of the biases. -/
theorem pay16_emb : k0_pay16 (F := Ideal) (emb2 (t := .f32) c) = emb3 (t := .f32) fun _ _ => bias c := by
  unfold k0_pay16
  exact sums _
theorem pay1_emb : k0_pay1 (F := Ideal) (k0_pay22 (emb2 (t := .f32) c)) = emb3 (t := .f32) fun _ _ => bias c := by
  unfold k0_pay1 k0_pay22
  exact sums _
end

/-! ## What the body stores -/

section
variable (A W B : ℕ → ℕ → ℕ → ℝ) (D : ℕ → ℕ → ℝ)

abbrev xa : FVec Ideal S2x2048x128 .f32 := emb3 A
abbrev xw : FVec Ideal S2x3x128 .f32 := emb3 W
abbrev xb : FVec Ideal S2x1x128 .f32 := emb3 B
abbrev xd : FVec Ideal S2048x128 .f32 := emb2 D

/-- Half `h` of a stack. -/
theorem load {m : ℕ} (p : ℕ → ℕ → ℕ → ℝ) (h : ℕ) (inb : ∀ x, (![h, 0, 0] : Fin 3 → ℕ) x + ![1, m, 128] x ≤ (⟨3, ![2, m, 128]⟩ : Shape).size x) :
    View.ld (Val := Elt Ideal) (S := ⟨3, ![2, m, 128]⟩) (e' := .f32) (emb3 (t := .f32) p) (Rect.unit ![h, 0, 0] ![1, m, 128] inb)
      = (emb3 fun _ => p h : FVec Ideal ⟨3, ![1, m, 128]⟩ .f32) := by
  rw [ld_emb3]
  refine emb3_congr _ _ fun i hi j _ k _ => ?_
  show p (h + i) (0 + j) (0 + k) = _
  rw [show h + i = h by omega, Nat.zero_add, Nat.zero_add]

theorem a0 : View.ld (Val := Elt Ideal) (e' := .f32) (xa A) r0_0 = (emb3 fun _ => A 0 : FVec Ideal S1x2048x128 .f32) := load A 0 _
theorem a1 : View.ld (Val := Elt Ideal) (e' := .f32) (xa A) r0_1 = (emb3 fun _ => A 1 : FVec Ideal S1x2048x128 .f32) := load A 1 _
theorem w0 : View.ld (Val := Elt Ideal) (e' := .f32) (xw W) r0_2 = (emb3 fun _ => W 0 : FVec Ideal S1x3x128 .f32) := load W 0 _
theorem w1 : View.ld (Val := Elt Ideal) (e' := .f32) (xw W) r0_3 = (emb3 fun _ => W 1 : FVec Ideal S1x3x128 .f32) := load W 1 _
theorem b0 : View.ld (Val := Elt Ideal) (e' := .f32) (xb B) r0_4 = (emb3 fun _ => B 0 : FVec Ideal S1x1x128 .f32) := load B 0 _
theorem b1 : View.ld (Val := Elt Ideal) (e' := .f32) (xb B) r0_5 = (emb3 fun _ => B 1 : FVec Ideal S1x1x128 .f32) := load B 1 _
theorem d0 : View.ld (Val := Elt Ideal) (e' := .f32) (xd D) r0_6 = (emb2 D : FVec Ideal S2048x128 .f32) := by
  refine (ld_emb2 (m := 2048) (n := 128) D ![0, 0] _).trans (emb2_congr _ _ fun i _ j _ => ?_)
  show D (0 + i) (0 + j) = _
  rw [Nat.zero_add, Nat.zero_add]

theorem pay23_eq : k0_pay23 (F := Ideal) (xa A) (xw W) (xb B) (xd D) = rows := rfl
theorem pay24_eq : k0_pay24 (F := Ideal) (xa A) (xw W) (xb B) (xd D) = emb2 (t := .f32) (A 0) := by
  unfold k0_pay24; rw [a0, pay2_emb]
theorem pay25_eq : k0_pay25 (F := Ideal) (xa A) (xw W) (xb B) (xd D) = emb2 (t := .f32) (A 1) := by
  unfold k0_pay25; rw [a1, pay3_emb]
theorem pay26_eq : k0_pay26 (F := Ideal) (xa A) (xw W) (xb B) (xd D) = emb2 (t := .f32) (W 1) := by
  unfold k0_pay26; rw [w1, pay5_emb]
theorem pay27_eq : k0_pay27 (F := Ideal) (xa A) (xw W) (xb B) (xd D) = emb2 (t := .f32) (half A W B 0) := by
  unfold k0_pay27; rw [a0, w0, b0, pay6_emb]; rfl
theorem pay28_eq : k0_pay28 (F := Ideal) (xa A) (xw W) (xb B) (xd D) = emb2 (t := .f32) (dhalf A W B D 0) := by
  unfold k0_pay28; rw [pay23_eq, pay25_eq, pay26_eq, pay27_eq, b1, d0, pay8_emb]; rfl
theorem pay29_eq : k0_pay29 (F := Ideal) (xa A) (xw W) (xb B) (xd D) = emb2 (t := .f32) (dhalf A W B D 1) := by
  unfold k0_pay29; rw [pay27_eq, d0, pay9_emb]; rfl

/-- A store of a block of `G`: what it writes is `G` at the places it writes to. -/
theorem place {l m n a b c : ℕ} {t : FTy} (G g : ℕ → ℕ → ℕ → ℝ) (off : Fin 3 → ℕ)
    (inb : ∀ x, off x + ![a, b, c] x ≤ (⟨3, ![l, m, n]⟩ : Shape).size x) (w : FVec Ideal ⟨3, ![a, b, c]⟩ t) (hw : w = emb3 g)
    (h : ∀ i < a, ∀ j < b, ∀ k < c, g i j k = G (off 0 + i) (off 1 + j) (off 2 + k)) (x : (⟨3, ![a, b, c]⟩ : Shape).Idx) :
    w x = (emb3 G : FVec Ideal ⟨3, ![l, m, n]⟩ t) ((Rect.unit (s := ⟨3, ![l, m, n]⟩) off ![a, b, c] inb).emb x) := by
  rw [hw]
  show ((g (x 0).val (x 1).val (x 2).val : ℝ) : EReal)
    = ((G (off 0 + 1 * (x 0).val) (off 1 + 1 * (x 1).val) (off 2 + 1 * (x 2).val) : ℝ) : EReal)
  rw [Nat.one_mul, Nat.one_mul, Nat.one_mul, h _ (x 0).isLt _ (x 1).isLt _ (x 2).isLt]

theorem out4 : out0_4 (F := Ideal) (xa A) (xw W) (xb B) (xd D) = emb3 (t := .bf16) (da A W B D) := by
  funext y
  unfold out0_4
  rw [pay23_eq, pay26_eq, pay28_eq, pay29_eq, w0, pay4_emb]
  refine View.canon_apply_of_pieces _ _ (fun q hq => ?_) y (cover0_4 _ _ y)
  simp only [List.mem_cons, List.not_mem_nil, or_false] at hq
  rcases hq with rfl | rfl
  · exact place (da A W B D) _ _ (by decide) _ (pay18_emb _ _) fun i hi j _ k _ => by
      show _ = da A W B D (1 + i) (0 + j) (0 + k)
      rw [show 1 + i = 1 by omega, Nat.zero_add, Nat.zero_add]; rfl
  · exact place (da A W B D) _ _ (by decide) _ (pay11_emb _ _) fun i hi j _ k _ => by
      show _ = da A W B D (0 + i) (0 + j) (0 + k)
      rw [show 0 + i = 0 by omega, Nat.zero_add, Nat.zero_add]; rfl

/-- A row of the tap gradients. -/
theorem row_at (G : ℕ → ℕ → ℕ → ℝ) (h r i j k : ℕ) (hi : i < 1) (hj : j < 1) :
    G h r k = G ((![h, r, 0] : Fin 3 → ℕ) 0 + i) ((![h, r, 0] : Fin 3 → ℕ) 1 + j) ((![h, r, 0] : Fin 3 → ℕ) 2 + k) := by
  show G h r k = G (h + i) (r + j) (0 + k)
  rw [show h + i = h by omega, show r + j = r by omega, Nat.zero_add]

theorem out5 : out0_5 (F := Ideal) (xa A) (xw W) (xb B) (xd D) = emb3 (t := .f32) (dw A W B D) := by
  funext y
  unfold out0_5
  rw [pay23_eq, pay24_eq, pay25_eq, pay28_eq, pay29_eq]
  refine View.canon_apply_of_pieces _ _ (fun q hq => ?_) y (cover0_5 _ _ _ _ _ _ y)
  simp only [List.mem_cons, List.not_mem_nil, or_false] at hq
  rcases hq with rfl | rfl | rfl | rfl | rfl | rfl
  · exact place (dw A W B D) _ _ (by decide) _ (pay21_emb _ _) fun i hi j hj k _ => row_at (dw A W B D) 1 2 i j k hi hj
  · exact place (dw A W B D) _ _ (by decide) _ (pay20_emb _ _) fun i hi j hj k _ => row_at (dw A W B D) 1 1 i j k hi hj
  · exact place (dw A W B D) _ _ (by decide) _ (pay19_emb _ _) fun i hi j hj k _ => row_at (dw A W B D) 1 0 i j k hi hj
  · exact place (dw A W B D) _ _ (by decide) _ (pay15_emb _ _) fun i hi j hj k _ => row_at (dw A W B D) 0 2 i j k hi hj
  · exact place (dw A W B D) _ _ (by decide) _ (pay14_emb _ _) fun i hi j hj k _ => row_at (dw A W B D) 0 1 i j k hi hj
  · exact place (dw A W B D) _ _ (by decide) _ (pay12_emb _ _) fun i hi j hj k _ => row_at (dw A W B D) 0 0 i j k hi hj

theorem out6 : out0_6 (F := Ideal) (xa A) (xw W) (xb B) (xd D) = emb3 (t := .f32) (db A W B D) := by
  funext y
  unfold out0_6
  rw [pay28_eq, pay29_eq]
  refine View.canon_apply_of_pieces _ _ (fun q hq => ?_) y (cover0_6 _ _ y)
  simp only [List.mem_cons, List.not_mem_nil, or_false] at hq
  rcases hq with rfl | rfl
  · exact place (db A W B D) _ _ (by decide) _ (pay1_emb _) fun i hi j hj k _ => row_at (db A W B D) 1 0 i j k hi hj
  · exact place (db A W B D) _ _ (by decide) _ (pay16_emb _) fun i hi j hj k _ => row_at (db A W B D) 0 0 i j k hi hj
end

/-! ## The arrays after the run -/

variable (m : (ℓ : Loc nD τ sig) → Buf (Elt Ideal) ℓ) (c : Dev nD)

theorem idx0 : ∀ t : Fin cfg0.N, win0_0.index t = ![0, 0, t.val] := (by decide +kernel : ∀ t : Fin grid0.N, _)
theorem idx1 : ∀ t : Fin cfg0.N, win0_1.index t = ![0, 0, t.val] := (by decide +kernel : ∀ t : Fin grid0.N, _)
theorem idx2 : ∀ t : Fin cfg0.N, win0_2.index t = ![0, 0, t.val] := (by decide +kernel : ∀ t : Fin grid0.N, _)
theorem idx3 : ∀ t : Fin cfg0.N, win0_3.index t = ![0, t.val] := (by decide +kernel : ∀ t : Fin grid0.N, _)
theorem idx4 : ∀ t : Fin cfg0.N, win0_4.index t = ![0, 0, t.val] := (by decide +kernel : ∀ t : Fin grid0.N, _)
theorem idx5 : ∀ t : Fin cfg0.N, win0_5.index t = ![0, 0, t.val] := (by decide +kernel : ∀ t : Fin grid0.N, _)
theorem idx6 : ∀ t : Fin cfg0.N, win0_6.index t = ![0, 0, t.val] := (by decide +kernel : ∀ t : Fin grid0.N, _)

/-- The arguments at device `c`, as real arrays. -/
structure Args (A W B : ℕ → ℕ → ℕ → ℝ) (D : ℕ → ℕ → ℝ) : Prop where
  a : m ((c : Thread nD τ).loc main_arg0) = (emb3 A : FVec Ideal S2x2048x5632 .f32)
  w : m ((c : Thread nD τ).loc main_arg1) = (emb3 W : FVec Ideal S2x3x5632 .f32)
  b : m ((c : Thread nD τ).loc main_arg2) = (emb3 B : FVec Ideal S2x1x5632 .f32)
  d : m ((c : Thread nD τ).loc main_arg3) = (emb2 D : FVec Ideal S2048x5632 .f32)

/-- A block of 128 columns of a stack. -/
theorem block3 {k : ℕ} (p : ℕ → ℕ → ℕ → ℝ) (o : ℕ) (x : FVec Ideal ⟨3, ![2, k, 5632]⟩ .f32) (hx : x = emb3 p)
    (e : (⟨3, ![2, k, 128]⟩ : Shape).Idx → (⟨3, ![2, k, 5632]⟩ : Shape).Idx)
    (he : ∀ y, (e y 0).val = (y 0).val ∧ (e y 1).val = (y 1).val ∧ (e y 2).val = o + (y 2).val) :
    (fun y => x (e y)) = (emb3 (from3 o p) : FVec Ideal ⟨3, ![2, k, 128]⟩ .f32) := by
  funext y
  obtain ⟨h0, h1, h2⟩ := he y
  rw [hx]
  show ((p (e y 0).val (e y 1).val (e y 2).val : ℝ) : EReal) = _
  rw [h0, h1, h2]
  rfl

variable {m c} {A W B : ℕ → ℕ → ℕ → ℝ} {D : ℕ → ℕ → ℝ}

theorem read0 (ha : Args m c A W B D) (t : Fin cfg0.N) : iblk m c 0 t = xa (from3 (t.val * 128) A) :=
  block3 A _ _ ha.a ((cfg0.win 0).blk t).view.emb fun y => ⟨by blk_simp [idx0], by blk_simp [idx0], by blk_simp [idx0]⟩
theorem read1 (ha : Args m c A W B D) (t : Fin cfg0.N) : iblk m c 1 t = xw (from3 (t.val * 128) W) :=
  block3 W _ _ ha.w ((cfg0.win 1).blk t).view.emb fun y => ⟨by blk_simp [idx1], by blk_simp [idx1], by blk_simp [idx1]⟩
theorem read2 (ha : Args m c A W B D) (t : Fin cfg0.N) : iblk m c 2 t = xb (from3 (t.val * 128) B) :=
  block3 B _ _ ha.b ((cfg0.win 2).blk t).view.emb fun y => ⟨by blk_simp [idx2], by blk_simp [idx2], by blk_simp [idx2]⟩
theorem read3 (ha : Args m c A W B D) (t : Fin cfg0.N) : iblk m c 3 t = xd (from2 (t.val * 128) D) := by
  funext y
  show m ((c : Thread nD τ).loc main_arg3) (((cfg0.win 3).blk t).view.emb y) = _
  rw [ha.d]
  refine congrArg (fun r : ℝ => (r : EReal)) (congrArg₂ D ?_ ?_)
  · blk_simp [idx3]
  · blk_simp [idx3]

theorem final4 (ha : Args m c A W B D) : (dats m 0 c).arrAt 4 cfg0.N = (emb3 (da A W B D) : FVec Ideal S2x2048x5632 .bf16) := by
  refine (dats m 0 c).arrAt_eq_of_covers 4 _ (by decide +kernel) fun t hf y => ?_
  blk_simp
  rw [after0_4, read0 ha, read1 ha, read2 ha, read3 ha, out4, da_from]
  refine congrArg (fun r : ℝ => (r : EReal)) ?_
  blk_simp [idx4]
  rfl
theorem final5 (ha : Args m c A W B D) : (dats m 0 c).arrAt 5 cfg0.N = (emb3 (dw A W B D) : FVec Ideal S2x3x5632 .f32) := by
  refine (dats m 0 c).arrAt_eq_of_covers 5 _ (by decide +kernel) fun t hf y => ?_
  blk_simp
  rw [after0_5, read0 ha, read1 ha, read2 ha, read3 ha, out5, dw_from]
  refine congrArg (fun r : ℝ => (r : EReal)) ?_
  blk_simp [idx5]
  rfl
theorem final6 (ha : Args m c A W B D) : (dats m 0 c).arrAt 6 cfg0.N = (emb3 (db A W B D) : FVec Ideal S2x1x5632 .f32) := by
  refine (dats m 0 c).arrAt_eq_of_covers 6 _ (by decide +kernel) fun t hf y => ?_
  blk_simp
  rw [after0_6, read0 ha, read1 ha, read2 ha, read3 ha, out6, db_from]
  refine congrArg (fun r : ℝ => (r : EReal)) ?_
  blk_simp [idx6]
  rfl

end Cert.DconvIdeal.Block

namespace Cert.DconvClaims

open Idealize.ShloMosaic Idealize.ShloMosaic.TcCoe Idealize.SL.Sem Cert.Reals Cert.Conv

/-- The shape relations the precondition's operations take. -/
theorem pre_facts : Cert.Pre_finite_conv.Facts where
  bcast_S_S2x2048x5632 := by decide
  reducesTo_S2x2048x5632_S_d0_1_2 := by decide
  h_S_ := by decide
  bcast_S_S2x3x5632 := by decide
  reducesTo_S2x3x5632_S_d0_1_2 := by decide
  bcast_S_S2x1x5632 := by decide
  reducesTo_S2x1x5632_S_d0_1_2 := by decide
  bcast_S_S2048x5632 := by decide
  reducesTo_S2048x5632_S_d0_1 := by decide

attribute [local instance] Cert.Dconv.Gen.facts Cert.DconvIdeal.Gen.facts Cert.DconvRefIdeal.Gen.facts pre_facts

theorem frame_p : Cert.quiescent_Dconv := fun m ρ _ => Cert.Dconv.Gen.frame m ρ
theorem frame_pi : Cert.quiescent_DconvIdeal := fun m ρ _ => Cert.DconvIdeal.Gen.frame m ρ
theorem frame_ri : Cert.quiescent_DconvRefIdeal := fun m ρ _ =>
  (θ_run Cert.DconvRefIdeal.defs _ _).mono (fun r h => ⟨fun c => (h c).2.2.2,
      Idealize.ShloMosaic.sem_eq_zero_of_no_sems (by decide) r.2⟩)
    (Cert.DconvRefIdeal.Value.run (F := Ideal) m ρ)

/-- The named constants stand for their real values. -/
theorem preserves : Cert.preserves_Dconv_DconvIdeal :=
  ⟨IdealRules.named_const.statement Cert.DconvIdeal.κ "rsqrt2" .f32 0x3F3504F3#32 (((Real.sqrt 2)⁻¹ : ℝ) : EReal) rfl,
    IdealRules.named_const.statement Cert.DconvIdeal.κ "rsqrt2pi" .f32 0x3ECC422A#32 (((Real.sqrt (2 * Real.pi))⁻¹ : ℝ) : EReal) rfl⟩

/-- Under the precondition the arguments at each device are real arrays. -/
theorem args (m : (ℓ : Loc Cert.DconvIdeal.nD Cert.DconvIdeal.τ Cert.DconvIdeal.sig) → Buf (Elt Ideal) ℓ)
    (h : Cert.Pre_DconvIdeal m) (c : Dev Cert.DconvIdeal.nD) : ∃ A W B D, Cert.DconvIdeal.Block.Args m c A W B D := by
  have e := congrFun (h c) (Shape.Idx.first (s := Cert.Pre_finite_conv.S_) (by decide))
  obtain ⟨e, e3⟩ := Cert.Pre.and_one (show _ &&& _ = 1#1 from e)
  obtain ⟨e, e2⟩ := Cert.Pre.and_one (show _ &&& _ = 1#1 from e)
  obtain ⟨e0, e1⟩ := Cert.Pre.and_one (show _ &&& _ = 1#1 from e)
  obtain ⟨A, hA⟩ := exists_emb3 _ (Cert.Pre.real_of_all _ _ _ _ _ e0)
  obtain ⟨W, hW⟩ := exists_emb3 _ (Cert.Pre.real_of_all _ _ _ _ _ e1)
  obtain ⟨B, hB⟩ := exists_emb3 _ (Cert.Pre.real_of_all _ _ _ _ _ e2)
  obtain ⟨D, hD⟩ := exists_emb2 _ (Cert.Pre.real_of_all _ _ _ _ _ e3)
  exact ⟨A, W, B, D, hA, hW, hB, hD⟩

/-- The kernel's three arrays are the reference's, element by element. -/
theorem algebraic : Cert.algebraic_DconvIdeal_DconvRefIdeal := by
  intro m ρ m' ρ' hpre hagree
  refine ⟨_, _, _, Cert.DconvIdeal.Value.run_blocks (F := Ideal) m ρ, ?_⟩
  refine (θ_run Cert.DconvRefIdeal.defs _ _).mono (fun r h c => ?_)
    (Cert.DconvRefIdeal.Value.run (F := Ideal) m' ρ')
  obtain ⟨a0, a1, a2, a3⟩ := hagree c
  obtain ⟨A, W, B, D, ha⟩ := args m hpre c
  have e0 : StableHlo.launchContents m' c (Proc.tc.devRef Cert.DconvRefIdeal.main_arg0) = Cert.ConvRef.xa A := a0.trans ha.a
  have e1 : StableHlo.launchContents m' c (Proc.tc.devRef Cert.DconvRefIdeal.main_arg1) = Cert.ConvRef.xw W := a1.trans ha.w
  have e2 : StableHlo.launchContents m' c (Proc.tc.devRef Cert.DconvRefIdeal.main_arg2) = Cert.ConvRef.xb B := a2.trans ha.b
  have e3 : StableHlo.launchContents m' c (Proc.tc.devRef Cert.DconvRefIdeal.main_arg3) = Cert.ConvRef.xd D := a3.trans ha.d
  obtain ⟨h0, h1, h2, hargs⟩ := h c
  refine ⟨h0.trans ?_, h1.trans ?_, h2.trans ?_, hargs⟩
  · rw [Cert.DconvIdeal.Block.final4 ha, Cert.DconvRefIdeal.Read.val_main_v171_eq, e0, e1, e2, e3]
    exact Cert.ConvRef.r171 A W B D
  · rw [Cert.DconvIdeal.Block.final5 ha, Cert.DconvRefIdeal.Read.val_main_v174_eq, e0, e1, e2, e3]
    exact Cert.ConvRef.r174 A W B D
  · rw [Cert.DconvIdeal.Block.final6 ha, Cert.DconvRefIdeal.Read.val_main_v178_eq, e0, e1, e2, e3]
    exact Cert.ConvRef.r178 A W B D

end Cert.DconvClaims

end
-- ==== Proof.lean ====
module

public import proofs.«01_k».proof.Defs
public import proofs.«01_k».proof.Proof.Sgu
public import proofs.«01_k».proof.Proof.Ddown
public import proofs.«01_k».proof.Proof.Wdown
public import proofs.«01_k».proof.Proof.Dup
public import proofs.«01_k».proof.Proof.Wup
public import proofs.«01_k».proof.Proof.Dbin
public import proofs.«01_k».proof.Proof.Wbin
public import proofs.«01_k».proof.Proof.Dbout
public import proofs.«01_k».proof.Proof.Wbout
public import proofs.«01_k».proof.Proof.Dain
public import proofs.«01_k».proof.Proof.Wain
public import proofs.«01_k».proof.Proof.Daout
public import proofs.«01_k».proof.Proof.Waout
public import proofs.«01_k».proof.Proof.Up
public import proofs.«01_k».proof.Proof.Down
public import proofs.«01_k».proof.Proof.Ain
public import proofs.«01_k».proof.Proof.Aout
public import proofs.«01_k».proof.Proof.Bin
public import proofs.«01_k».proof.Proof.Bout
public import proofs.«01_k».proof.Proof.Kvproj
public import proofs.«01_k».proof.Proof.Dkvproj
public import proofs.«01_k».proof.Proof.Wkv
public import proofs.«01_k».proof.Proof.DmemA
public import proofs.«01_k».proof.Proof.DmemB
public import proofs.«01_k».proof.Proof.Dconv

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Cert.Ddown.Gen.facts, Cert.DdownIdeal.Gen.facts, Cert.DdownRefIdeal.Gen.facts,
    Cert.Wdown.Gen.facts, Cert.WdownIdeal.Gen.facts, Cert.WdownRefIdeal.Gen.facts,
    Cert.Dup.Gen.facts, Cert.DupIdeal.Gen.facts, Cert.DupRefIdeal.Gen.facts,
    Cert.Wup.Gen.facts, Cert.WupIdeal.Gen.facts, Cert.WupRefIdeal.Gen.facts,
    Cert.Dbin.Gen.facts, Cert.DbinIdeal.Gen.facts, Cert.DbinRefIdeal.Gen.facts,
    Cert.Wbin.Gen.facts, Cert.WbinIdeal.Gen.facts, Cert.WbinRefIdeal.Gen.facts,
    Cert.Dbout.Gen.facts, Cert.DboutIdeal.Gen.facts, Cert.DboutRefIdeal.Gen.facts,
    Cert.Wbout.Gen.facts, Cert.WboutIdeal.Gen.facts, Cert.WboutRefIdeal.Gen.facts,
    Cert.Dain.Gen.facts, Cert.DainIdeal.Gen.facts, Cert.DainRefIdeal.Gen.facts,
    Cert.Wain.Gen.facts, Cert.WainIdeal.Gen.facts, Cert.WainRefIdeal.Gen.facts,
    Cert.Daout.Gen.facts, Cert.DaoutIdeal.Gen.facts, Cert.DaoutRefIdeal.Gen.facts,
    Cert.Waout.Gen.facts, Cert.WaoutIdeal.Gen.facts, Cert.WaoutRefIdeal.Gen.facts,
    Cert.Up.Gen.facts, Cert.UpIdeal.Gen.facts, Cert.UpRefIdeal.Gen.facts,
    Cert.Down.Gen.facts, Cert.DownIdeal.Gen.facts, Cert.DownRefIdeal.Gen.facts,
    Cert.Ain.Gen.facts, Cert.AinIdeal.Gen.facts, Cert.AinRefIdeal.Gen.facts,
    Cert.Aout.Gen.facts, Cert.AoutIdeal.Gen.facts, Cert.AoutRefIdeal.Gen.facts,
    Cert.Bin.Gen.facts, Cert.BinIdeal.Gen.facts, Cert.BinRefIdeal.Gen.facts,
    Cert.Bout.Gen.facts, Cert.BoutIdeal.Gen.facts, Cert.BoutRefIdeal.Gen.facts,
    Cert.Kvproj.Gen.facts, Cert.KvprojIdeal.Gen.facts, Cert.KvprojRefIdeal.Gen.facts,
    Cert.Dkvproj.Gen.facts, Cert.DkvprojIdeal.Gen.facts, Cert.DkvprojRefIdeal.Gen.facts,
    Cert.Wkv.Gen.facts, Cert.WkvIdeal.Gen.facts, Cert.WkvRefIdeal.Gen.facts,
    Cert.DmemA.Gen.facts, Cert.DmemAIdeal.Gen.facts, Cert.DmemARefIdeal.Gen.facts,
    Cert.DmemB.Gen.facts, Cert.DmemBIdeal.Gen.facts, Cert.DmemBRefIdeal.Gen.facts,
    Cert.Dconv.Gen.facts, Cert.DconvIdeal.Gen.facts, Cert.DconvRefIdeal.Gen.facts,
    Cert.Pre.facts, DmemAClaims.pre_facts, DmemBClaims.pre_facts, DconvClaims.pre_facts,
    SguClaims.frame_p, SguClaims.frame_pi, SguClaims.frame_ri,
    DdownClaims.frame_p, DdownClaims.frame_pi, DdownClaims.frame_ri,
    WdownClaims.frame_p, WdownClaims.frame_pi, WdownClaims.frame_ri,
    DupClaims.frame_p, DupClaims.frame_pi, DupClaims.frame_ri,
    WupClaims.frame_p, WupClaims.frame_pi, WupClaims.frame_ri,
    DbinClaims.frame_p, DbinClaims.frame_pi, DbinClaims.frame_ri,
    WbinClaims.frame_p, WbinClaims.frame_pi, WbinClaims.frame_ri,
    DboutClaims.frame_p, DboutClaims.frame_pi, DboutClaims.frame_ri,
    WboutClaims.frame_p, WboutClaims.frame_pi, WboutClaims.frame_ri,
    DainClaims.frame_p, DainClaims.frame_pi, DainClaims.frame_ri,
    WainClaims.frame_p, WainClaims.frame_pi, WainClaims.frame_ri,
    DaoutClaims.frame_p, DaoutClaims.frame_pi, DaoutClaims.frame_ri,
    WaoutClaims.frame_p, WaoutClaims.frame_pi, WaoutClaims.frame_ri,
    UpClaims.frame_p, UpClaims.frame_pi, UpClaims.frame_ri,
    DownClaims.frame_p, DownClaims.frame_pi, DownClaims.frame_ri,
    AinClaims.frame_p, AinClaims.frame_pi, AinClaims.frame_ri,
    AoutClaims.frame_p, AoutClaims.frame_pi, AoutClaims.frame_ri,
    BinClaims.frame_p, BinClaims.frame_pi, BinClaims.frame_ri,
    BoutClaims.frame_p, BoutClaims.frame_pi, BoutClaims.frame_ri,
    KvprojClaims.frame_p, KvprojClaims.frame_pi, KvprojClaims.frame_ri,
    DkvprojClaims.frame_p, DkvprojClaims.frame_pi, DkvprojClaims.frame_ri,
    WkvClaims.frame_p, WkvClaims.frame_pi, WkvClaims.frame_ri,
    DmemAClaims.frame_p, DmemAClaims.frame_pi, DmemAClaims.frame_ri,
    DmemBClaims.frame_p, DmemBClaims.frame_pi, DmemBClaims.frame_ri,
    DconvClaims.frame_p, DconvClaims.frame_pi, DconvClaims.frame_ri,
    SguClaims.preserves, SguClaims.algebraic,
    DdownClaims.preserves, DdownClaims.algebraic,
    WdownClaims.preserves, WdownClaims.algebraic,
    DupClaims.preserves, DupClaims.algebraic,
    WupClaims.preserves, WupClaims.algebraic,
    DbinClaims.preserves, DbinClaims.algebraic,
    WbinClaims.preserves, WbinClaims.algebraic,
    DboutClaims.preserves, DboutClaims.algebraic,
    WboutClaims.preserves, WboutClaims.algebraic,
    DainClaims.preserves, DainClaims.algebraic,
    WainClaims.preserves, WainClaims.algebraic,
    DaoutClaims.preserves, DaoutClaims.algebraic,
    WaoutClaims.preserves, WaoutClaims.algebraic,
    UpClaims.preserves, UpClaims.algebraic,
    DownClaims.preserves, DownClaims.algebraic,
    AinClaims.preserves, AinClaims.algebraic,
    AoutClaims.preserves, AoutClaims.algebraic,
    BinClaims.preserves, BinClaims.algebraic,
    BoutClaims.preserves, BoutClaims.algebraic,
    KvprojClaims.preserves, KvprojClaims.algebraic,
    DkvprojClaims.preserves, DkvprojClaims.algebraic,
    WkvClaims.preserves, WkvClaims.algebraic,
    DmemAClaims.preserves, DmemAClaims.algebraic,
    DmemBClaims.preserves, DmemBClaims.algebraic,
    DconvClaims.preserves, DconvClaims.algebraic⟩

end Cert.Proof

end
